-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Wgrad1 (m : (ℓ : Loc Cert.Wgrad1.nD Cert.Wgrad1.τ Cert.Wgrad1.sig) → Buf (Elt Bits) ℓ) : Prop :=
  True

def Pre_Wgrad1Ideal (m : (ℓ : Loc Cert.Wgrad1Ideal.nD Cert.Wgrad1Ideal.τ Cert.Wgrad1Ideal.sig) → Buf (Elt Ideal) ℓ) : Prop :=
  True

def Pre_Wgrad1ReferenceIdeal (m : (ℓ : Loc Cert.Wgrad1ReferenceIdeal.nD Cert.Wgrad1ReferenceIdeal.τ Cert.Wgrad1ReferenceIdeal.sig) → Buf (Elt Ideal) ℓ) : Prop :=
  True

def Pre_Wgrad3 (m : (ℓ : Loc Cert.Wgrad3.nD Cert.Wgrad3.τ Cert.Wgrad3.sig) → Buf (Elt Bits) ℓ) : Prop :=
  True

def Pre_Wgrad3Ideal (m : (ℓ : Loc Cert.Wgrad3Ideal.nD Cert.Wgrad3Ideal.τ Cert.Wgrad3Ideal.sig) → Buf (Elt Ideal) ℓ) : Prop :=
  True

def Pre_Wgrad3ReferenceIdeal (m : (ℓ : Loc Cert.Wgrad3ReferenceIdeal.nD Cert.Wgrad3ReferenceIdeal.τ Cert.Wgrad3ReferenceIdeal.sig) → Buf (Elt Ideal) ℓ) : Prop :=
  True

def Pre_Wgrad2 (m : (ℓ : Loc Cert.Wgrad2.nD Cert.Wgrad2.τ Cert.Wgrad2.sig) → Buf (Elt Bits) ℓ) : Prop :=
  True

def Pre_Wgrad2Ideal (m : (ℓ : Loc Cert.Wgrad2Ideal.nD Cert.Wgrad2Ideal.τ Cert.Wgrad2Ideal.sig) → Buf (Elt Ideal) ℓ) : Prop :=
  True

def Pre_Wgrad2ReferenceIdeal (m : (ℓ : Loc Cert.Wgrad2ReferenceIdeal.nD Cert.Wgrad2ReferenceIdeal.τ Cert.Wgrad2ReferenceIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardReferenceIdeal (m : (ℓ : Loc Cert.ForwardReferenceIdeal.nD Cert.ForwardReferenceIdeal.τ Cert.ForwardReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamChan (m : (ℓ : Loc Cert.AdamChan.nD Cert.AdamChan.τ Cert.AdamChan.sig) → Buf (Elt Bits) ℓ) : Prop :=
  True

def Pre_AdamChanIdeal (m : (ℓ : Loc Cert.AdamChanIdeal.nD Cert.AdamChanIdeal.τ Cert.AdamChanIdeal.sig) → Buf (Elt Ideal) ℓ) : Prop :=
  True

def Pre_AdamChanReferenceIdeal (m : (ℓ : Loc Cert.AdamChanReferenceIdeal.nD Cert.AdamChanReferenceIdeal.τ Cert.AdamChanReferenceIdeal.sig) → Buf (Elt Ideal) ℓ) : Prop :=
  True

def Pre_AdamLast (m : (ℓ : Loc Cert.AdamLast.nD Cert.AdamLast.τ Cert.AdamLast.sig) → Buf (Elt Bits) ℓ) : Prop :=
  True

def Pre_AdamLastIdeal (m : (ℓ : Loc Cert.AdamLastIdeal.nD Cert.AdamLastIdeal.τ Cert.AdamLastIdeal.sig) → Buf (Elt Ideal) ℓ) : Prop :=
  True

def Pre_AdamLastReferenceIdeal (m : (ℓ : Loc Cert.AdamLastReferenceIdeal.nD Cert.AdamLastReferenceIdeal.τ Cert.AdamLastReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamShort (m : (ℓ : Loc Cert.AdamShort.nD Cert.AdamShort.τ Cert.AdamShort.sig) → Buf (Elt Bits) ℓ) : Prop :=
  True

def Pre_AdamShortIdeal (m : (ℓ : Loc Cert.AdamShortIdeal.nD Cert.AdamShortIdeal.τ Cert.AdamShortIdeal.sig) → Buf (Elt Ideal) ℓ) : Prop :=
  True

def Pre_AdamShortReferenceIdeal (m : (ℓ : Loc Cert.AdamShortReferenceIdeal.nD Cert.AdamShortReferenceIdeal.τ Cert.AdamShortReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamMix (m : (ℓ : Loc Cert.AdamMix.nD Cert.AdamMix.τ Cert.AdamMix.sig) → Buf (Elt Bits) ℓ) : Prop :=
  True

def Pre_AdamMixIdeal (m : (ℓ : Loc Cert.AdamMixIdeal.nD Cert.AdamMixIdeal.τ Cert.AdamMixIdeal.sig) → Buf (Elt Ideal) ℓ) : Prop :=
  True

def Pre_AdamMixReferenceIdeal (m : (ℓ : Loc Cert.AdamMixReferenceIdeal.nD Cert.AdamMixReferenceIdeal.τ Cert.AdamMixReferenceIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasReferenceIdeal (m : (ℓ : Loc Cert.AdamBiasReferenceIdeal.nD Cert.AdamBiasReferenceIdeal.τ Cert.AdamBiasReferenceIdeal.sig) → Buf (Elt Ideal) ℓ) : Prop :=
  True

def Pre_SumLate (m : (ℓ : Loc Cert.SumLate.nD Cert.SumLate.τ Cert.SumLate.sig) → Buf (Elt Bits) ℓ) : Prop :=
  True

def Pre_SumLateIdeal (m : (ℓ : Loc Cert.SumLateIdeal.nD Cert.SumLateIdeal.τ Cert.SumLateIdeal.sig) → Buf (Elt Ideal) ℓ) : Prop :=
  True

def Pre_SumLateReferenceIdeal (m : (ℓ : Loc Cert.SumLateReferenceIdeal.nD Cert.SumLateReferenceIdeal.τ Cert.SumLateReferenceIdeal.sig) → Buf (Elt Ideal) ℓ) : Prop :=
  True

def Pre_SumEarly (m : (ℓ : Loc Cert.SumEarly.nD Cert.SumEarly.τ Cert.SumEarly.sig) → Buf (Elt Bits) ℓ) : Prop :=
  True

def Pre_SumEarlyIdeal (m : (ℓ : Loc Cert.SumEarlyIdeal.nD Cert.SumEarlyIdeal.τ Cert.SumEarlyIdeal.sig) → Buf (Elt Ideal) ℓ) : Prop :=
  True

def Pre_SumEarlyReferenceIdeal (m : (ℓ : Loc Cert.SumEarlyReferenceIdeal.nD Cert.SumEarlyReferenceIdeal.τ Cert.SumEarlyReferenceIdeal.sig) → Buf (Elt Ideal) ℓ) : Prop :=
  True

def Pre_ReduceF1W1 (m : (ℓ : Loc Cert.ReduceF1W1.nD Cert.ReduceF1W1.τ Cert.ReduceF1W1.sig) → Buf (Elt Bits) ℓ) : Prop :=
  True

def Pre_ReduceF1W1Ideal (m : (ℓ : Loc Cert.ReduceF1W1Ideal.nD Cert.ReduceF1W1Ideal.τ Cert.ReduceF1W1Ideal.sig) → Buf (Elt Ideal) ℓ) : Prop :=
  True

def Pre_ReduceF1W1ReferenceIdeal (m : (ℓ : Loc Cert.ReduceF1W1ReferenceIdeal.nD Cert.ReduceF1W1ReferenceIdeal.τ Cert.ReduceF1W1ReferenceIdeal.sig) → Buf (Elt Ideal) ℓ) : Prop :=
  True

def Pre_ReduceF1W3 (m : (ℓ : Loc Cert.ReduceF1W3.nD Cert.ReduceF1W3.τ Cert.ReduceF1W3.sig) → Buf (Elt Bits) ℓ) : Prop :=
  True

def Pre_ReduceF1W3Ideal (m : (ℓ : Loc Cert.ReduceF1W3Ideal.nD Cert.ReduceF1W3Ideal.τ Cert.ReduceF1W3Ideal.sig) → Buf (Elt Ideal) ℓ) : Prop :=
  True

def Pre_ReduceF1W3ReferenceIdeal (m : (ℓ : Loc Cert.ReduceF1W3ReferenceIdeal.nD Cert.ReduceF1W3ReferenceIdeal.τ Cert.ReduceF1W3ReferenceIdeal.sig) → Buf (Elt Ideal) ℓ) : Prop :=
  True

def Pre_ReduceF1W2 (m : (ℓ : Loc Cert.ReduceF1W2.nD Cert.ReduceF1W2.τ Cert.ReduceF1W2.sig) → Buf (Elt Bits) ℓ) : Prop :=
  True

def Pre_ReduceF1W2Ideal (m : (ℓ : Loc Cert.ReduceF1W2Ideal.nD Cert.ReduceF1W2Ideal.τ Cert.ReduceF1W2Ideal.sig) → Buf (Elt Ideal) ℓ) : Prop :=
  True

def Pre_ReduceF1W2ReferenceIdeal (m : (ℓ : Loc Cert.ReduceF1W2ReferenceIdeal.nD Cert.ReduceF1W2ReferenceIdeal.τ Cert.ReduceF1W2ReferenceIdeal.sig) → Buf (Elt Ideal) ℓ) : Prop :=
  True

def Pre_ReduceF2W1 (m : (ℓ : Loc Cert.ReduceF2W1.nD Cert.ReduceF2W1.τ Cert.ReduceF2W1.sig) → Buf (Elt Bits) ℓ) : Prop :=
  True

def Pre_ReduceF2W1Ideal (m : (ℓ : Loc Cert.ReduceF2W1Ideal.nD Cert.ReduceF2W1Ideal.τ Cert.ReduceF2W1Ideal.sig) → Buf (Elt Ideal) ℓ) : Prop :=
  True

def Pre_ReduceF2W1ReferenceIdeal (m : (ℓ : Loc Cert.ReduceF2W1ReferenceIdeal.nD Cert.ReduceF2W1ReferenceIdeal.τ Cert.ReduceF2W1ReferenceIdeal.sig) → Buf (Elt Ideal) ℓ) : Prop :=
  True

def Pre_ReduceF2W3 (m : (ℓ : Loc Cert.ReduceF2W3.nD Cert.ReduceF2W3.τ Cert.ReduceF2W3.sig) → Buf (Elt Bits) ℓ) : Prop :=
  True

def Pre_ReduceF2W3Ideal (m : (ℓ : Loc Cert.ReduceF2W3Ideal.nD Cert.ReduceF2W3Ideal.τ Cert.ReduceF2W3Ideal.sig) → Buf (Elt Ideal) ℓ) : Prop :=
  True

def Pre_ReduceF2W3ReferenceIdeal (m : (ℓ : Loc Cert.ReduceF2W3ReferenceIdeal.nD Cert.ReduceF2W3ReferenceIdeal.τ Cert.ReduceF2W3ReferenceIdeal.sig) → Buf (Elt Ideal) ℓ) : Prop :=
  True

def Pre_ReduceF2W2 (m : (ℓ : Loc Cert.ReduceF2W2.nD Cert.ReduceF2W2.τ Cert.ReduceF2W2.sig) → Buf (Elt Bits) ℓ) : Prop :=
  True

def Pre_ReduceF2W2Ideal (m : (ℓ : Loc Cert.ReduceF2W2Ideal.nD Cert.ReduceF2W2Ideal.τ Cert.ReduceF2W2Ideal.sig) → Buf (Elt Ideal) ℓ) : Prop :=
  True

def Pre_ReduceF2W2ReferenceIdeal (m : (ℓ : Loc Cert.ReduceF2W2ReferenceIdeal.nD Cert.ReduceF2W2ReferenceIdeal.τ Cert.ReduceF2W2ReferenceIdeal.sig) → Buf (Elt Ideal) ℓ) : Prop :=
  True

def Pre_ReduceOut (m : (ℓ : Loc Cert.ReduceOut.nD Cert.ReduceOut.τ Cert.ReduceOut.sig) → Buf (Elt Bits) ℓ) : Prop :=
  True

def Pre_ReduceOutIdeal (m : (ℓ : Loc Cert.ReduceOutIdeal.nD Cert.ReduceOutIdeal.τ Cert.ReduceOutIdeal.sig) → Buf (Elt Ideal) ℓ) : Prop :=
  True

def Pre_ReduceOutReferenceIdeal (m : (ℓ : Loc Cert.ReduceOutReferenceIdeal.nD Cert.ReduceOutReferenceIdeal.τ Cert.ReduceOutReferenceIdeal.sig) → Buf (Elt Ideal) ℓ) : Prop :=
  True

def Pre_ReduceIn (m : (ℓ : Loc Cert.ReduceIn.nD Cert.ReduceIn.τ Cert.ReduceIn.sig) → Buf (Elt Bits) ℓ) : Prop :=
  True

def Pre_ReduceInIdeal (m : (ℓ : Loc Cert.ReduceInIdeal.nD Cert.ReduceInIdeal.τ Cert.ReduceInIdeal.sig) → Buf (Elt Ideal) ℓ) : Prop :=
  True

def Pre_ReduceInReferenceIdeal (m : (ℓ : Loc Cert.ReduceInReferenceIdeal.nD Cert.ReduceInReferenceIdeal.τ Cert.ReduceInReferenceIdeal.sig) → Buf (Elt Ideal) ℓ) : Prop :=
  True

def Pre_GradFirst13 (m : (ℓ : Loc Cert.GradFirst13.nD Cert.GradFirst13.τ Cert.GradFirst13.sig) → Buf (Elt Bits) ℓ) : Prop :=
  True

def Pre_GradFirst13Ideal (m : (ℓ : Loc Cert.GradFirst13Ideal.nD Cert.GradFirst13Ideal.τ Cert.GradFirst13Ideal.sig) → Buf (Elt Ideal) ℓ) : Prop :=
  True

def Pre_GradFirst13ReferenceIdeal (m : (ℓ : Loc Cert.GradFirst13ReferenceIdeal.nD Cert.GradFirst13ReferenceIdeal.τ Cert.GradFirst13ReferenceIdeal.sig) → Buf (Elt Ideal) ℓ) : Prop :=
  True

def Pre_GradFirst2 (m : (ℓ : Loc Cert.GradFirst2.nD Cert.GradFirst2.τ Cert.GradFirst2.sig) → Buf (Elt Bits) ℓ) : Prop :=
  True

def Pre_GradFirst2Ideal (m : (ℓ : Loc Cert.GradFirst2Ideal.nD Cert.GradFirst2Ideal.τ Cert.GradFirst2Ideal.sig) → Buf (Elt Ideal) ℓ) : Prop :=
  True

def Pre_GradFirst2ReferenceIdeal (m : (ℓ : Loc Cert.GradFirst2ReferenceIdeal.nD Cert.GradFirst2ReferenceIdeal.τ Cert.GradFirst2ReferenceIdeal.sig) → Buf (Elt Ideal) ℓ) : Prop :=
  True

def Pre_GradMixIn (m : (ℓ : Loc Cert.GradMixIn.nD Cert.GradMixIn.τ Cert.GradMixIn.sig) → Buf (Elt Bits) ℓ) : Prop :=
  True

def Pre_GradMixInIdeal (m : (ℓ : Loc Cert.GradMixInIdeal.nD Cert.GradMixInIdeal.τ Cert.GradMixInIdeal.sig) → Buf (Elt Ideal) ℓ) : Prop :=
  True

def Pre_GradMixInReferenceIdeal (m : (ℓ : Loc Cert.GradMixInReferenceIdeal.nD Cert.GradMixInReferenceIdeal.τ Cert.GradMixInReferenceIdeal.sig) → Buf (Elt Ideal) ℓ) : Prop :=
  True

def Pre_GradMixOut (m : (ℓ : Loc Cert.GradMixOut.nD Cert.GradMixOut.τ Cert.GradMixOut.sig) → Buf (Elt Bits) ℓ) : Prop :=
  True

def Pre_GradMixOutIdeal (m : (ℓ : Loc Cert.GradMixOutIdeal.nD Cert.GradMixOutIdeal.τ Cert.GradMixOutIdeal.sig) → Buf (Elt Ideal) ℓ) : Prop :=
  True

def Pre_GradMixOutReferenceIdeal (m : (ℓ : Loc Cert.GradMixOutReferenceIdeal.nD Cert.GradMixOutReferenceIdeal.τ Cert.GradMixOutReferenceIdeal.sig) → Buf (Elt Ideal) ℓ) : Prop :=
  True

def Pre_GradFirstIn (m : (ℓ : Loc Cert.GradFirstIn.nD Cert.GradFirstIn.τ Cert.GradFirstIn.sig) → Buf (Elt Bits) ℓ) : Prop :=
  True

def Pre_GradFirstInIdeal (m : (ℓ : Loc Cert.GradFirstInIdeal.nD Cert.GradFirstInIdeal.τ Cert.GradFirstInIdeal.sig) → Buf (Elt Ideal) ℓ) : Prop :=
  True

def Pre_GradFirstInReferenceIdeal (m : (ℓ : Loc Cert.GradFirstInReferenceIdeal.nD Cert.GradFirstInReferenceIdeal.τ Cert.GradFirstInReferenceIdeal.sig) → Buf (Elt Ideal) ℓ) : Prop :=
  True

def Pre_GradFirstOut (m : (ℓ : Loc Cert.GradFirstOut.nD Cert.GradFirstOut.τ Cert.GradFirstOut.sig) → Buf (Elt Bits) ℓ) : Prop :=
  True

def Pre_GradFirstOutIdeal (m : (ℓ : Loc Cert.GradFirstOutIdeal.nD Cert.GradFirstOutIdeal.τ Cert.GradFirstOutIdeal.sig) → Buf (Elt Ideal) ℓ) : Prop :=
  True

def Pre_GradFirstOutReferenceIdeal (m : (ℓ : Loc Cert.GradFirstOutReferenceIdeal.nD Cert.GradFirstOutReferenceIdeal.τ Cert.GradFirstOutReferenceIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_finite_head [hPre_finite_head : Cert.Pre_finite_head.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_finite_head.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4)) (m ((c.tc : Thread Cert.HeadReferenceIdeal.nD Cert.HeadReferenceIdeal.τ).loc Cert.HeadReferenceIdeal.main_arg5)) (m ((c.tc : Thread Cert.HeadReferenceIdeal.nD Cert.HeadReferenceIdeal.τ).loc Cert.HeadReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Wgrad1 [hWgrad1 : Cert.Wgrad1.Facts] : Prop :=
  ∀ (m : (ℓ : Loc Cert.Wgrad1.nD Cert.Wgrad1.τ Cert.Wgrad1.sig) → Buf (Elt Bits) ℓ) (g : Dev Cert.Wgrad1.nD → PrngReg), Pre_Wgrad1 m →
    θ_run (Cert.Wgrad1.defs (F := Bits)) (onTc (τ := Cert.Wgrad1.τ) (Cert.Wgrad1.main (F := Bits))) ⟨m, fun _ => 0, g⟩ (fun r => (∀ c : Dev Cert.Wgrad1.nD,
      r.2.mem ((c.tc : Thread Cert.Wgrad1.nD Cert.Wgrad1.τ).loc Cert.Wgrad1.main_arg0) = m ((c.tc : Thread Cert.Wgrad1.nD Cert.Wgrad1.τ).loc Cert.Wgrad1.main_arg0)
      ∧ r.2.mem ((c.tc : Thread Cert.Wgrad1.nD Cert.Wgrad1.τ).loc Cert.Wgrad1.main_arg1) = m ((c.tc : Thread Cert.Wgrad1.nD Cert.Wgrad1.τ).loc Cert.Wgrad1.main_arg1)
      ∧ r.2.mem ((c.tc : Thread Cert.Wgrad1.nD Cert.Wgrad1.τ).loc Cert.Wgrad1.main_arg2) = m ((c.tc : Thread Cert.Wgrad1.nD Cert.Wgrad1.τ).loc Cert.Wgrad1.main_arg2))
      ∧ r.2.sem = fun _ => 0)

def quiescent_Wgrad1Ideal [hWgrad1Ideal : Cert.Wgrad1Ideal.Facts] : Prop :=
  ∀ (m : (ℓ : Loc Cert.Wgrad1Ideal.nD Cert.Wgrad1Ideal.τ Cert.Wgrad1Ideal.sig) → Buf (Elt Ideal) ℓ) (g : Dev Cert.Wgrad1Ideal.nD → PrngReg), Pre_Wgrad1Ideal m →
    θ_run (Cert.Wgrad1Ideal.defs (F := Ideal)) (onTc (τ := Cert.Wgrad1Ideal.τ) (Cert.Wgrad1Ideal.main (F := Ideal))) ⟨m, fun _ => 0, g⟩ (fun r => (∀ c : Dev Cert.Wgrad1Ideal.nD,
      r.2.mem ((c.tc : Thread Cert.Wgrad1Ideal.nD Cert.Wgrad1Ideal.τ).loc Cert.Wgrad1Ideal.main_arg0) = m ((c.tc : Thread Cert.Wgrad1Ideal.nD Cert.Wgrad1Ideal.τ).loc Cert.Wgrad1Ideal.main_arg0)
      ∧ r.2.mem ((c.tc : Thread Cert.Wgrad1Ideal.nD Cert.Wgrad1Ideal.τ).loc Cert.Wgrad1Ideal.main_arg1) = m ((c.tc : Thread Cert.Wgrad1Ideal.nD Cert.Wgrad1Ideal.τ).loc Cert.Wgrad1Ideal.main_arg1)
      ∧ r.2.mem ((c.tc : Thread Cert.Wgrad1Ideal.nD Cert.Wgrad1Ideal.τ).loc Cert.Wgrad1Ideal.main_arg2) = m ((c.tc : Thread Cert.Wgrad1Ideal.nD Cert.Wgrad1Ideal.τ).loc Cert.Wgrad1Ideal.main_arg2))
      ∧ r.2.sem = fun _ => 0)

def quiescent_Wgrad1ReferenceIdeal [hWgrad1ReferenceIdeal : Cert.Wgrad1ReferenceIdeal.Facts] : Prop :=
  ∀ (m : (ℓ : Loc Cert.Wgrad1ReferenceIdeal.nD Cert.Wgrad1ReferenceIdeal.τ Cert.Wgrad1ReferenceIdeal.sig) → Buf (Elt Ideal) ℓ) (g : Dev Cert.Wgrad1ReferenceIdeal.nD → PrngReg), Pre_Wgrad1ReferenceIdeal m →
    θ_run (Cert.Wgrad1ReferenceIdeal.defs (F := Ideal)) (onTc (τ := Cert.Wgrad1ReferenceIdeal.τ) (Cert.Wgrad1ReferenceIdeal.main (F := Ideal))) ⟨m, fun _ => 0, g⟩ (fun r => (∀ c : Dev Cert.Wgrad1ReferenceIdeal.nD,
      r.2.mem ((c.tc : Thread Cert.Wgrad1ReferenceIdeal.nD Cert.Wgrad1ReferenceIdeal.τ).loc Cert.Wgrad1ReferenceIdeal.main_arg0) = m ((c.tc : Thread Cert.Wgrad1ReferenceIdeal.nD Cert.Wgrad1ReferenceIdeal.τ).loc Cert.Wgrad1ReferenceIdeal.main_arg0)
      ∧ r.2.mem ((c.tc : Thread Cert.Wgrad1ReferenceIdeal.nD Cert.Wgrad1ReferenceIdeal.τ).loc Cert.Wgrad1ReferenceIdeal.main_arg1) = m ((c.tc : Thread Cert.Wgrad1ReferenceIdeal.nD Cert.Wgrad1ReferenceIdeal.τ).loc Cert.Wgrad1ReferenceIdeal.main_arg1)
      ∧ r.2.mem ((c.tc : Thread Cert.Wgrad1ReferenceIdeal.nD Cert.Wgrad1ReferenceIdeal.τ).loc Cert.Wgrad1ReferenceIdeal.main_arg2) = m ((c.tc : Thread Cert.Wgrad1ReferenceIdeal.nD Cert.Wgrad1ReferenceIdeal.τ).loc Cert.Wgrad1ReferenceIdeal.main_arg2))
      ∧ r.2.sem = fun _ => 0)

def quiescent_Wgrad3 [hWgrad3 : Cert.Wgrad3.Facts] : Prop :=
  ∀ (m : (ℓ : Loc Cert.Wgrad3.nD Cert.Wgrad3.τ Cert.Wgrad3.sig) → Buf (Elt Bits) ℓ) (g : Dev Cert.Wgrad3.nD → PrngReg), Pre_Wgrad3 m →
    θ_run (Cert.Wgrad3.defs (F := Bits)) (onTc (τ := Cert.Wgrad3.τ) (Cert.Wgrad3.main (F := Bits))) ⟨m, fun _ => 0, g⟩ (fun r => (∀ c : Dev Cert.Wgrad3.nD,
      r.2.mem ((c.tc : Thread Cert.Wgrad3.nD Cert.Wgrad3.τ).loc Cert.Wgrad3.main_arg0) = m ((c.tc : Thread Cert.Wgrad3.nD Cert.Wgrad3.τ).loc Cert.Wgrad3.main_arg0)
      ∧ r.2.mem ((c.tc : Thread Cert.Wgrad3.nD Cert.Wgrad3.τ).loc Cert.Wgrad3.main_arg1) = m ((c.tc : Thread Cert.Wgrad3.nD Cert.Wgrad3.τ).loc Cert.Wgrad3.main_arg1)
      ∧ r.2.mem ((c.tc : Thread Cert.Wgrad3.nD Cert.Wgrad3.τ).loc Cert.Wgrad3.main_arg2) = m ((c.tc : Thread Cert.Wgrad3.nD Cert.Wgrad3.τ).loc Cert.Wgrad3.main_arg2))
      ∧ r.2.sem = fun _ => 0)

def quiescent_Wgrad3Ideal [hWgrad3Ideal : Cert.Wgrad3Ideal.Facts] : Prop :=
  ∀ (m : (ℓ : Loc Cert.Wgrad3Ideal.nD Cert.Wgrad3Ideal.τ Cert.Wgrad3Ideal.sig) → Buf (Elt Ideal) ℓ) (g : Dev Cert.Wgrad3Ideal.nD → PrngReg), Pre_Wgrad3Ideal m →
    θ_run (Cert.Wgrad3Ideal.defs (F := Ideal)) (onTc (τ := Cert.Wgrad3Ideal.τ) (Cert.Wgrad3Ideal.main (F := Ideal))) ⟨m, fun _ => 0, g⟩ (fun r => (∀ c : Dev Cert.Wgrad3Ideal.nD,
      r.2.mem ((c.tc : Thread Cert.Wgrad3Ideal.nD Cert.Wgrad3Ideal.τ).loc Cert.Wgrad3Ideal.main_arg0) = m ((c.tc : Thread Cert.Wgrad3Ideal.nD Cert.Wgrad3Ideal.τ).loc Cert.Wgrad3Ideal.main_arg0)
      ∧ r.2.mem ((c.tc : Thread Cert.Wgrad3Ideal.nD Cert.Wgrad3Ideal.τ).loc Cert.Wgrad3Ideal.main_arg1) = m ((c.tc : Thread Cert.Wgrad3Ideal.nD Cert.Wgrad3Ideal.τ).loc Cert.Wgrad3Ideal.main_arg1)
      ∧ r.2.mem ((c.tc : Thread Cert.Wgrad3Ideal.nD Cert.Wgrad3Ideal.τ).loc Cert.Wgrad3Ideal.main_arg2) = m ((c.tc : Thread Cert.Wgrad3Ideal.nD Cert.Wgrad3Ideal.τ).loc Cert.Wgrad3Ideal.main_arg2))
      ∧ r.2.sem = fun _ => 0)

def quiescent_Wgrad3ReferenceIdeal [hWgrad3ReferenceIdeal : Cert.Wgrad3ReferenceIdeal.Facts] : Prop :=
  ∀ (m : (ℓ : Loc Cert.Wgrad3ReferenceIdeal.nD Cert.Wgrad3ReferenceIdeal.τ Cert.Wgrad3ReferenceIdeal.sig) → Buf (Elt Ideal) ℓ) (g : Dev Cert.Wgrad3ReferenceIdeal.nD → PrngReg), Pre_Wgrad3ReferenceIdeal m →
    θ_run (Cert.Wgrad3ReferenceIdeal.defs (F := Ideal)) (onTc (τ := Cert.Wgrad3ReferenceIdeal.τ) (Cert.Wgrad3ReferenceIdeal.main (F := Ideal))) ⟨m, fun _ => 0, g⟩ (fun r => (∀ c : Dev Cert.Wgrad3ReferenceIdeal.nD,
      r.2.mem ((c.tc : Thread Cert.Wgrad3ReferenceIdeal.nD Cert.Wgrad3ReferenceIdeal.τ).loc Cert.Wgrad3ReferenceIdeal.main_arg0) = m ((c.tc : Thread Cert.Wgrad3ReferenceIdeal.nD Cert.Wgrad3ReferenceIdeal.τ).loc Cert.Wgrad3ReferenceIdeal.main_arg0)
      ∧ r.2.mem ((c.tc : Thread Cert.Wgrad3ReferenceIdeal.nD Cert.Wgrad3ReferenceIdeal.τ).loc Cert.Wgrad3ReferenceIdeal.main_arg1) = m ((c.tc : Thread Cert.Wgrad3ReferenceIdeal.nD Cert.Wgrad3ReferenceIdeal.τ).loc Cert.Wgrad3ReferenceIdeal.main_arg1)
      ∧ r.2.mem ((c.tc : Thread Cert.Wgrad3ReferenceIdeal.nD Cert.Wgrad3ReferenceIdeal.τ).loc Cert.Wgrad3ReferenceIdeal.main_arg2) = m ((c.tc : Thread Cert.Wgrad3ReferenceIdeal.nD Cert.Wgrad3ReferenceIdeal.τ).loc Cert.Wgrad3ReferenceIdeal.main_arg2))
      ∧ r.2.sem = fun _ => 0)

def quiescent_Wgrad2 [hWgrad2 : Cert.Wgrad2.Facts] : Prop :=
  ∀ (m : (ℓ : Loc Cert.Wgrad2.nD Cert.Wgrad2.τ Cert.Wgrad2.sig) → Buf (Elt Bits) ℓ) (g : Dev Cert.Wgrad2.nD → PrngReg), Pre_Wgrad2 m →
    θ_run (Cert.Wgrad2.defs (F := Bits)) (onTc (τ := Cert.Wgrad2.τ) (Cert.Wgrad2.main (F := Bits))) ⟨m, fun _ => 0, g⟩ (fun r => (∀ c : Dev Cert.Wgrad2.nD,
      r.2.mem ((c.tc : Thread Cert.Wgrad2.nD Cert.Wgrad2.τ).loc Cert.Wgrad2.main_arg0) = m ((c.tc : Thread Cert.Wgrad2.nD Cert.Wgrad2.τ).loc Cert.Wgrad2.main_arg0)
      ∧ r.2.mem ((c.tc : Thread Cert.Wgrad2.nD Cert.Wgrad2.τ).loc Cert.Wgrad2.main_arg1) = m ((c.tc : Thread Cert.Wgrad2.nD Cert.Wgrad2.τ).loc Cert.Wgrad2.main_arg1)
      ∧ r.2.mem ((c.tc : Thread Cert.Wgrad2.nD Cert.Wgrad2.τ).loc Cert.Wgrad2.main_arg2) = m ((c.tc : Thread Cert.Wgrad2.nD Cert.Wgrad2.τ).loc Cert.Wgrad2.main_arg2))
      ∧ r.2.sem = fun _ => 0)

def quiescent_Wgrad2Ideal [hWgrad2Ideal : Cert.Wgrad2Ideal.Facts] : Prop :=
  ∀ (m : (ℓ : Loc Cert.Wgrad2Ideal.nD Cert.Wgrad2Ideal.τ Cert.Wgrad2Ideal.sig) → Buf (Elt Ideal) ℓ) (g : Dev Cert.Wgrad2Ideal.nD → PrngReg), Pre_Wgrad2Ideal m →
    θ_run (Cert.Wgrad2Ideal.defs (F := Ideal)) (onTc (τ := Cert.Wgrad2Ideal.τ) (Cert.Wgrad2Ideal.main (F := Ideal))) ⟨m, fun _ => 0, g⟩ (fun r => (∀ c : Dev Cert.Wgrad2Ideal.nD,
      r.2.mem ((c.tc : Thread Cert.Wgrad2Ideal.nD Cert.Wgrad2Ideal.τ).loc Cert.Wgrad2Ideal.main_arg0) = m ((c.tc : Thread Cert.Wgrad2Ideal.nD Cert.Wgrad2Ideal.τ).loc Cert.Wgrad2Ideal.main_arg0)
      ∧ r.2.mem ((c.tc : Thread Cert.Wgrad2Ideal.nD Cert.Wgrad2Ideal.τ).loc Cert.Wgrad2Ideal.main_arg1) = m ((c.tc : Thread Cert.Wgrad2Ideal.nD Cert.Wgrad2Ideal.τ).loc Cert.Wgrad2Ideal.main_arg1)
      ∧ r.2.mem ((c.tc : Thread Cert.Wgrad2Ideal.nD Cert.Wgrad2Ideal.τ).loc Cert.Wgrad2Ideal.main_arg2) = m ((c.tc : Thread Cert.Wgrad2Ideal.nD Cert.Wgrad2Ideal.τ).loc Cert.Wgrad2Ideal.main_arg2))
      ∧ r.2.sem = fun _ => 0)

def quiescent_Wgrad2ReferenceIdeal [hWgrad2ReferenceIdeal : Cert.Wgrad2ReferenceIdeal.Facts] : Prop :=
  ∀ (m : (ℓ : Loc Cert.Wgrad2ReferenceIdeal.nD Cert.Wgrad2ReferenceIdeal.τ Cert.Wgrad2ReferenceIdeal.sig) → Buf (Elt Ideal) ℓ) (g : Dev Cert.Wgrad2ReferenceIdeal.nD → PrngReg), Pre_Wgrad2ReferenceIdeal m →
    θ_run (Cert.Wgrad2ReferenceIdeal.defs (F := Ideal)) (onTc (τ := Cert.Wgrad2ReferenceIdeal.τ) (Cert.Wgrad2ReferenceIdeal.main (F := Ideal))) ⟨m, fun _ => 0, g⟩ (fun r => (∀ c : Dev Cert.Wgrad2ReferenceIdeal.nD,
      r.2.mem ((c.tc : Thread Cert.Wgrad2ReferenceIdeal.nD Cert.Wgrad2ReferenceIdeal.τ).loc Cert.Wgrad2ReferenceIdeal.main_arg0) = m ((c.tc : Thread Cert.Wgrad2ReferenceIdeal.nD Cert.Wgrad2ReferenceIdeal.τ).loc Cert.Wgrad2ReferenceIdeal.main_arg0)
      ∧ r.2.mem ((c.tc : Thread Cert.Wgrad2ReferenceIdeal.nD Cert.Wgrad2ReferenceIdeal.τ).loc Cert.Wgrad2ReferenceIdeal.main_arg1) = m ((c.tc : Thread Cert.Wgrad2ReferenceIdeal.nD Cert.Wgrad2ReferenceIdeal.τ).loc Cert.Wgrad2ReferenceIdeal.main_arg1)
      ∧ r.2.mem ((c.tc : Thread Cert.Wgrad2ReferenceIdeal.nD Cert.Wgrad2ReferenceIdeal.τ).loc Cert.Wgrad2ReferenceIdeal.main_arg2) = m ((c.tc : Thread Cert.Wgrad2ReferenceIdeal.nD Cert.Wgrad2ReferenceIdeal.τ).loc Cert.Wgrad2ReferenceIdeal.main_arg2))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardReferenceIdeal [hForwardReferenceIdeal : Cert.ForwardReferenceIdeal.Facts] : Prop :=
  ∀ (m : (ℓ : Loc Cert.ForwardReferenceIdeal.nD Cert.ForwardReferenceIdeal.τ Cert.ForwardReferenceIdeal.sig) → Buf (Elt Ideal) ℓ) (g : Dev Cert.ForwardReferenceIdeal.nD → PrngReg), Pre_ForwardReferenceIdeal m →
    θ_run (Cert.ForwardReferenceIdeal.defs (F := Ideal)) (onTc (τ := Cert.ForwardReferenceIdeal.τ) (Cert.ForwardReferenceIdeal.main (F := Ideal))) ⟨m, fun _ => 0, g⟩ (fun r => (∀ c : Dev Cert.ForwardReferenceIdeal.nD,
      r.2.mem ((c.tc : Thread Cert.ForwardReferenceIdeal.nD Cert.ForwardReferenceIdeal.τ).loc Cert.ForwardReferenceIdeal.main_arg0) = m ((c.tc : Thread Cert.ForwardReferenceIdeal.nD Cert.ForwardReferenceIdeal.τ).loc Cert.ForwardReferenceIdeal.main_arg0)
      ∧ r.2.mem ((c.tc : Thread Cert.ForwardReferenceIdeal.nD Cert.ForwardReferenceIdeal.τ).loc Cert.ForwardReferenceIdeal.main_arg1) = m ((c.tc : Thread Cert.ForwardReferenceIdeal.nD Cert.ForwardReferenceIdeal.τ).loc Cert.ForwardReferenceIdeal.main_arg1)
      ∧ r.2.mem ((c.tc : Thread Cert.ForwardReferenceIdeal.nD Cert.ForwardReferenceIdeal.τ).loc Cert.ForwardReferenceIdeal.main_arg2) = m ((c.tc : Thread Cert.ForwardReferenceIdeal.nD Cert.ForwardReferenceIdeal.τ).loc Cert.ForwardReferenceIdeal.main_arg2)
      ∧ r.2.mem ((c.tc : Thread Cert.ForwardReferenceIdeal.nD Cert.ForwardReferenceIdeal.τ).loc Cert.ForwardReferenceIdeal.main_arg3) = m ((c.tc : Thread Cert.ForwardReferenceIdeal.nD Cert.ForwardReferenceIdeal.τ).loc Cert.ForwardReferenceIdeal.main_arg3)
      ∧ r.2.mem ((c.tc : Thread Cert.ForwardReferenceIdeal.nD Cert.ForwardReferenceIdeal.τ).loc Cert.ForwardReferenceIdeal.main_arg4) = m ((c.tc : Thread Cert.ForwardReferenceIdeal.nD Cert.ForwardReferenceIdeal.τ).loc Cert.ForwardReferenceIdeal.main_arg4))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamChan [hAdamChan : Cert.AdamChan.Facts] : Prop :=
  ∀ (m : (ℓ : Loc Cert.AdamChan.nD Cert.AdamChan.τ Cert.AdamChan.sig) → Buf (Elt Bits) ℓ) (g : Dev Cert.AdamChan.nD → PrngReg), Pre_AdamChan m →
    θ_run (Cert.AdamChan.defs (F := Bits)) (onTc (τ := Cert.AdamChan.τ) (Cert.AdamChan.main (F := Bits))) ⟨m, fun _ => 0, g⟩ (fun r => (∀ c : Dev Cert.AdamChan.nD,
      r.2.mem ((c.tc : Thread Cert.AdamChan.nD Cert.AdamChan.τ).loc Cert.AdamChan.main_arg0) = m ((c.tc : Thread Cert.AdamChan.nD Cert.AdamChan.τ).loc Cert.AdamChan.main_arg0)
      ∧ r.2.mem ((c.tc : Thread Cert.AdamChan.nD Cert.AdamChan.τ).loc Cert.AdamChan.main_arg1) = m ((c.tc : Thread Cert.AdamChan.nD Cert.AdamChan.τ).loc Cert.AdamChan.main_arg1)
      ∧ r.2.mem ((c.tc : Thread Cert.AdamChan.nD Cert.AdamChan.τ).loc Cert.AdamChan.main_arg2) = m ((c.tc : Thread Cert.AdamChan.nD Cert.AdamChan.τ).loc Cert.AdamChan.main_arg2)
      ∧ r.2.mem ((c.tc : Thread Cert.AdamChan.nD Cert.AdamChan.τ).loc Cert.AdamChan.main_arg3) = m ((c.tc : Thread Cert.AdamChan.nD Cert.AdamChan.τ).loc Cert.AdamChan.main_arg3))
      ∧ r.2.sem = fun _ => 0)

def quiescent_AdamChanIdeal [hAdamChanIdeal : Cert.AdamChanIdeal.Facts] : Prop :=
  ∀ (m : (ℓ : Loc Cert.AdamChanIdeal.nD Cert.AdamChanIdeal.τ Cert.AdamChanIdeal.sig) → Buf (Elt Ideal) ℓ) (g : Dev Cert.AdamChanIdeal.nD → PrngReg), Pre_AdamChanIdeal m →
    θ_run (Cert.AdamChanIdeal.defs (F := Ideal)) (onTc (τ := Cert.AdamChanIdeal.τ) (Cert.AdamChanIdeal.main (F := Ideal))) ⟨m, fun _ => 0, g⟩ (fun r => (∀ c : Dev Cert.AdamChanIdeal.nD,
      r.2.mem ((c.tc : Thread Cert.AdamChanIdeal.nD Cert.AdamChanIdeal.τ).loc Cert.AdamChanIdeal.main_arg0) = m ((c.tc : Thread Cert.AdamChanIdeal.nD Cert.AdamChanIdeal.τ).loc Cert.AdamChanIdeal.main_arg0)
      ∧ r.2.mem ((c.tc : Thread Cert.AdamChanIdeal.nD Cert.AdamChanIdeal.τ).loc Cert.AdamChanIdeal.main_arg1) = m ((c.tc : Thread Cert.AdamChanIdeal.nD Cert.AdamChanIdeal.τ).loc Cert.AdamChanIdeal.main_arg1)
      ∧ r.2.mem ((c.tc : Thread Cert.AdamChanIdeal.nD Cert.AdamChanIdeal.τ).loc Cert.AdamChanIdeal.main_arg2) = m ((c.tc : Thread Cert.AdamChanIdeal.nD Cert.AdamChanIdeal.τ).loc Cert.AdamChanIdeal.main_arg2)
      ∧ r.2.mem ((c.tc : Thread Cert.AdamChanIdeal.nD Cert.AdamChanIdeal.τ).loc Cert.AdamChanIdeal.main_arg3) = m ((c.tc : Thread Cert.AdamChanIdeal.nD Cert.AdamChanIdeal.τ).loc Cert.AdamChanIdeal.main_arg3))
      ∧ r.2.sem = fun _ => 0)

def quiescent_AdamChanReferenceIdeal [hAdamChanReferenceIdeal : Cert.AdamChanReferenceIdeal.Facts] : Prop :=
  ∀ (m : (ℓ : Loc Cert.AdamChanReferenceIdeal.nD Cert.AdamChanReferenceIdeal.τ Cert.AdamChanReferenceIdeal.sig) → Buf (Elt Ideal) ℓ) (g : Dev Cert.AdamChanReferenceIdeal.nD → PrngReg), Pre_AdamChanReferenceIdeal m →
    θ_run (Cert.AdamChanReferenceIdeal.defs (F := Ideal)) (onTc (τ := Cert.AdamChanReferenceIdeal.τ) (Cert.AdamChanReferenceIdeal.main (F := Ideal))) ⟨m, fun _ => 0, g⟩ (fun r => (∀ c : Dev Cert.AdamChanReferenceIdeal.nD,
      r.2.mem ((c.tc : Thread Cert.AdamChanReferenceIdeal.nD Cert.AdamChanReferenceIdeal.τ).loc Cert.AdamChanReferenceIdeal.main_arg0) = m ((c.tc : Thread Cert.AdamChanReferenceIdeal.nD Cert.AdamChanReferenceIdeal.τ).loc Cert.AdamChanReferenceIdeal.main_arg0)
      ∧ r.2.mem ((c.tc : Thread Cert.AdamChanReferenceIdeal.nD Cert.AdamChanReferenceIdeal.τ).loc Cert.AdamChanReferenceIdeal.main_arg1) = m ((c.tc : Thread Cert.AdamChanReferenceIdeal.nD Cert.AdamChanReferenceIdeal.τ).loc Cert.AdamChanReferenceIdeal.main_arg1)
      ∧ r.2.mem ((c.tc : Thread Cert.AdamChanReferenceIdeal.nD Cert.AdamChanReferenceIdeal.τ).loc Cert.AdamChanReferenceIdeal.main_arg2) = m ((c.tc : Thread Cert.AdamChanReferenceIdeal.nD Cert.AdamChanReferenceIdeal.τ).loc Cert.AdamChanReferenceIdeal.main_arg2)
      ∧ r.2.mem ((c.tc : Thread Cert.AdamChanReferenceIdeal.nD Cert.AdamChanReferenceIdeal.τ).loc Cert.AdamChanReferenceIdeal.main_arg3) = m ((c.tc : Thread Cert.AdamChanReferenceIdeal.nD Cert.AdamChanReferenceIdeal.τ).loc Cert.AdamChanReferenceIdeal.main_arg3))
      ∧ r.2.sem = fun _ => 0)

def quiescent_AdamLast [hAdamLast : Cert.AdamLast.Facts] : Prop :=
  ∀ (m : (ℓ : Loc Cert.AdamLast.nD Cert.AdamLast.τ Cert.AdamLast.sig) → Buf (Elt Bits) ℓ) (g : Dev Cert.AdamLast.nD → PrngReg), Pre_AdamLast m →
    θ_run (Cert.AdamLast.defs (F := Bits)) (onTc (τ := Cert.AdamLast.τ) (Cert.AdamLast.main (F := Bits))) ⟨m, fun _ => 0, g⟩ (fun r => (∀ c : Dev Cert.AdamLast.nD,
      r.2.mem ((c.tc : Thread Cert.AdamLast.nD Cert.AdamLast.τ).loc Cert.AdamLast.main_arg0) = m ((c.tc : Thread Cert.AdamLast.nD Cert.AdamLast.τ).loc Cert.AdamLast.main_arg0)
      ∧ r.2.mem ((c.tc : Thread Cert.AdamLast.nD Cert.AdamLast.τ).loc Cert.AdamLast.main_arg1) = m ((c.tc : Thread Cert.AdamLast.nD Cert.AdamLast.τ).loc Cert.AdamLast.main_arg1)
      ∧ r.2.mem ((c.tc : Thread Cert.AdamLast.nD Cert.AdamLast.τ).loc Cert.AdamLast.main_arg2) = m ((c.tc : Thread Cert.AdamLast.nD Cert.AdamLast.τ).loc Cert.AdamLast.main_arg2)
      ∧ r.2.mem ((c.tc : Thread Cert.AdamLast.nD Cert.AdamLast.τ).loc Cert.AdamLast.main_arg3) = m ((c.tc : Thread Cert.AdamLast.nD Cert.AdamLast.τ).loc Cert.AdamLast.main_arg3))
      ∧ r.2.sem = fun _ => 0)

def quiescent_AdamLastIdeal [hAdamLastIdeal : Cert.AdamLastIdeal.Facts] : Prop :=
  ∀ (m : (ℓ : Loc Cert.AdamLastIdeal.nD Cert.AdamLastIdeal.τ Cert.AdamLastIdeal.sig) → Buf (Elt Ideal) ℓ) (g : Dev Cert.AdamLastIdeal.nD → PrngReg), Pre_AdamLastIdeal m →
    θ_run (Cert.AdamLastIdeal.defs (F := Ideal)) (onTc (τ := Cert.AdamLastIdeal.τ) (Cert.AdamLastIdeal.main (F := Ideal))) ⟨m, fun _ => 0, g⟩ (fun r => (∀ c : Dev Cert.AdamLastIdeal.nD,
      r.2.mem ((c.tc : Thread Cert.AdamLastIdeal.nD Cert.AdamLastIdeal.τ).loc Cert.AdamLastIdeal.main_arg0) = m ((c.tc : Thread Cert.AdamLastIdeal.nD Cert.AdamLastIdeal.τ).loc Cert.AdamLastIdeal.main_arg0)
      ∧ r.2.mem ((c.tc : Thread Cert.AdamLastIdeal.nD Cert.AdamLastIdeal.τ).loc Cert.AdamLastIdeal.main_arg1) = m ((c.tc : Thread Cert.AdamLastIdeal.nD Cert.AdamLastIdeal.τ).loc Cert.AdamLastIdeal.main_arg1)
      ∧ r.2.mem ((c.tc : Thread Cert.AdamLastIdeal.nD Cert.AdamLastIdeal.τ).loc Cert.AdamLastIdeal.main_arg2) = m ((c.tc : Thread Cert.AdamLastIdeal.nD Cert.AdamLastIdeal.τ).loc Cert.AdamLastIdeal.main_arg2)
      ∧ r.2.mem ((c.tc : Thread Cert.AdamLastIdeal.nD Cert.AdamLastIdeal.τ).loc Cert.AdamLastIdeal.main_arg3) = m ((c.tc : Thread Cert.AdamLastIdeal.nD Cert.AdamLastIdeal.τ).loc Cert.AdamLastIdeal.main_arg3))
      ∧ r.2.sem = fun _ => 0)

def quiescent_AdamLastReferenceIdeal [hAdamLastReferenceIdeal : Cert.AdamLastReferenceIdeal.Facts] : Prop :=
  ∀ (m : (ℓ : Loc Cert.AdamLastReferenceIdeal.nD Cert.AdamLastReferenceIdeal.τ Cert.AdamLastReferenceIdeal.sig) → Buf (Elt Ideal) ℓ) (g : Dev Cert.AdamLastReferenceIdeal.nD → PrngReg), Pre_AdamLastReferenceIdeal m →
    θ_run (Cert.AdamLastReferenceIdeal.defs (F := Ideal)) (onTc (τ := Cert.AdamLastReferenceIdeal.τ) (Cert.AdamLastReferenceIdeal.main (F := Ideal))) ⟨m, fun _ => 0, g⟩ (fun r => (∀ c : Dev Cert.AdamLastReferenceIdeal.nD,
      r.2.mem ((c.tc : Thread Cert.AdamLastReferenceIdeal.nD Cert.AdamLastReferenceIdeal.τ).loc Cert.AdamLastReferenceIdeal.main_arg0) = m ((c.tc : Thread Cert.AdamLastReferenceIdeal.nD Cert.AdamLastReferenceIdeal.τ).loc Cert.AdamLastReferenceIdeal.main_arg0)
      ∧ r.2.mem ((c.tc : Thread Cert.AdamLastReferenceIdeal.nD Cert.AdamLastReferenceIdeal.τ).loc Cert.AdamLastReferenceIdeal.main_arg1) = m ((c.tc : Thread Cert.AdamLastReferenceIdeal.nD Cert.AdamLastReferenceIdeal.τ).loc Cert.AdamLastReferenceIdeal.main_arg1)
      ∧ r.2.mem ((c.tc : Thread Cert.AdamLastReferenceIdeal.nD Cert.AdamLastReferenceIdeal.τ).loc Cert.AdamLastReferenceIdeal.main_arg2) = m ((c.tc : Thread Cert.AdamLastReferenceIdeal.nD Cert.AdamLastReferenceIdeal.τ).loc Cert.AdamLastReferenceIdeal.main_arg2)
      ∧ r.2.mem ((c.tc : Thread Cert.AdamLastReferenceIdeal.nD Cert.AdamLastReferenceIdeal.τ).loc Cert.AdamLastReferenceIdeal.main_arg3) = m ((c.tc : Thread Cert.AdamLastReferenceIdeal.nD Cert.AdamLastReferenceIdeal.τ).loc Cert.AdamLastReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamShort [hAdamShort : Cert.AdamShort.Facts] : Prop :=
  ∀ (m : (ℓ : Loc Cert.AdamShort.nD Cert.AdamShort.τ Cert.AdamShort.sig) → Buf (Elt Bits) ℓ) (g : Dev Cert.AdamShort.nD → PrngReg), Pre_AdamShort m →
    θ_run (Cert.AdamShort.defs (F := Bits)) (onTc (τ := Cert.AdamShort.τ) (Cert.AdamShort.main (F := Bits))) ⟨m, fun _ => 0, g⟩ (fun r => (∀ c : Dev Cert.AdamShort.nD,
      r.2.mem ((c.tc : Thread Cert.AdamShort.nD Cert.AdamShort.τ).loc Cert.AdamShort.main_arg0) = m ((c.tc : Thread Cert.AdamShort.nD Cert.AdamShort.τ).loc Cert.AdamShort.main_arg0)
      ∧ r.2.mem ((c.tc : Thread Cert.AdamShort.nD Cert.AdamShort.τ).loc Cert.AdamShort.main_arg1) = m ((c.tc : Thread Cert.AdamShort.nD Cert.AdamShort.τ).loc Cert.AdamShort.main_arg1)
      ∧ r.2.mem ((c.tc : Thread Cert.AdamShort.nD Cert.AdamShort.τ).loc Cert.AdamShort.main_arg2) = m ((c.tc : Thread Cert.AdamShort.nD Cert.AdamShort.τ).loc Cert.AdamShort.main_arg2)
      ∧ r.2.mem ((c.tc : Thread Cert.AdamShort.nD Cert.AdamShort.τ).loc Cert.AdamShort.main_arg3) = m ((c.tc : Thread Cert.AdamShort.nD Cert.AdamShort.τ).loc Cert.AdamShort.main_arg3))
      ∧ r.2.sem = fun _ => 0)

def quiescent_AdamShortIdeal [hAdamShortIdeal : Cert.AdamShortIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg), Pre_AdamShortIdeal m →
    θ_run (Cert.AdamShortIdeal.defs (F := Ideal)) (onTc (τ := Cert.AdamShortIdeal.τ) (Cert.AdamShortIdeal.main (F := Ideal))) ⟨m, fun _ => 0, g⟩ (fun r => (∀ c : Dev Cert.AdamShortIdeal.nD,
      r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
      ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
      ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
      ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ r.2.sem = fun _ => 0)

def quiescent_AdamShortReferenceIdeal [hAdamShortReferenceIdeal : Cert.AdamShortReferenceIdeal.Facts] : Prop :=
  ∀ (m : (ℓ : Loc Cert.AdamShortReferenceIdeal.nD Cert.AdamShortReferenceIdeal.τ Cert.AdamShortReferenceIdeal.sig) → Buf (Elt Ideal) ℓ) (g : Dev Cert.AdamShortReferenceIdeal.nD → PrngReg), Pre_AdamShortReferenceIdeal m →
    θ_run (Cert.AdamShortReferenceIdeal.defs (F := Ideal)) (onTc (τ := Cert.AdamShortReferenceIdeal.τ) (Cert.AdamShortReferenceIdeal.main (F := Ideal))) ⟨m, fun _ => 0, g⟩ (fun r => (∀ c : Dev Cert.AdamShortReferenceIdeal.nD,
      r.2.mem ((c.tc : Thread Cert.AdamShortReferenceIdeal.nD Cert.AdamShortReferenceIdeal.τ).loc Cert.AdamShortReferenceIdeal.main_arg0) = m ((c.tc : Thread Cert.AdamShortReferenceIdeal.nD Cert.AdamShortReferenceIdeal.τ).loc Cert.AdamShortReferenceIdeal.main_arg0)
      ∧ r.2.mem ((c.tc : Thread Cert.AdamShortReferenceIdeal.nD Cert.AdamShortReferenceIdeal.τ).loc Cert.AdamShortReferenceIdeal.main_arg1) = m ((c.tc : Thread Cert.AdamShortReferenceIdeal.nD Cert.AdamShortReferenceIdeal.τ).loc Cert.AdamShortReferenceIdeal.main_arg1)
      ∧ r.2.mem ((c.tc : Thread Cert.AdamShortReferenceIdeal.nD Cert.AdamShortReferenceIdeal.τ).loc Cert.AdamShortReferenceIdeal.main_arg2) = m ((c.tc : Thread Cert.AdamShortReferenceIdeal.nD Cert.AdamShortReferenceIdeal.τ).loc Cert.AdamShortReferenceIdeal.main_arg2)
      ∧ r.2.mem ((c.tc : Thread Cert.AdamShortReferenceIdeal.nD Cert.AdamShortReferenceIdeal.τ).loc Cert.AdamShortReferenceIdeal.main_arg3) = m ((c.tc : Thread Cert.AdamShortReferenceIdeal.nD Cert.AdamShortReferenceIdeal.τ).loc Cert.AdamShortReferenceIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3))
      ∧ r.2.sem = fun _ => 0)

def quiescent_AdamMix [hAdamMix : Cert.AdamMix.Facts] : Prop :=
  ∀ (m : (ℓ : Loc Cert.AdamMix.nD Cert.AdamMix.τ Cert.AdamMix.sig) → Buf (Elt Bits) ℓ) (g : Dev Cert.AdamMix.nD → PrngReg), Pre_AdamMix m →
    θ_run (Cert.AdamMix.defs (F := Bits)) (onTc (τ := Cert.AdamMix.τ) (Cert.AdamMix.main (F := Bits))) ⟨m, fun _ => 0, g⟩ (fun r => (∀ c : Dev Cert.AdamMix.nD,
      r.2.mem ((c.tc : Thread Cert.AdamMix.nD Cert.AdamMix.τ).loc Cert.AdamMix.main_arg0) = m ((c.tc : Thread Cert.AdamMix.nD Cert.AdamMix.τ).loc Cert.AdamMix.main_arg0)
      ∧ r.2.mem ((c.tc : Thread Cert.AdamMix.nD Cert.AdamMix.τ).loc Cert.AdamMix.main_arg1) = m ((c.tc : Thread Cert.AdamMix.nD Cert.AdamMix.τ).loc Cert.AdamMix.main_arg1)
      ∧ r.2.mem ((c.tc : Thread Cert.AdamMix.nD Cert.AdamMix.τ).loc Cert.AdamMix.main_arg2) = m ((c.tc : Thread Cert.AdamMix.nD Cert.AdamMix.τ).loc Cert.AdamMix.main_arg2)
      ∧ r.2.mem ((c.tc : Thread Cert.AdamMix.nD Cert.AdamMix.τ).loc Cert.AdamMix.main_arg3) = m ((c.tc : Thread Cert.AdamMix.nD Cert.AdamMix.τ).loc Cert.AdamMix.main_arg3))
      ∧ r.2.sem = fun _ => 0)

def quiescent_AdamMixIdeal [hAdamMixIdeal : Cert.AdamMixIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg), Pre_AdamMixIdeal m →
    θ_run (Cert.AdamMixIdeal.defs (F := Ideal)) (onTc (τ := Cert.AdamMixIdeal.τ) (Cert.AdamMixIdeal.main (F := Ideal))) ⟨m, fun _ => 0, g⟩ (fun r => (∀ c : Dev Cert.AdamMixIdeal.nD,
      r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
      ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
      ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
      ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ r.2.sem = fun _ => 0)

def quiescent_AdamMixReferenceIdeal [hAdamMixReferenceIdeal : Cert.AdamMixReferenceIdeal.Facts] : Prop :=
  ∀ (m : (ℓ : Loc Cert.AdamMixReferenceIdeal.nD Cert.AdamMixReferenceIdeal.τ Cert.AdamMixReferenceIdeal.sig) → Buf (Elt Ideal) ℓ) (g : Dev Cert.AdamMixReferenceIdeal.nD → PrngReg), Pre_AdamMixReferenceIdeal m →
    θ_run (Cert.AdamMixReferenceIdeal.defs (F := Ideal)) (onTc (τ := Cert.AdamMixReferenceIdeal.τ) (Cert.AdamMixReferenceIdeal.main (F := Ideal))) ⟨m, fun _ => 0, g⟩ (fun r => (∀ c : Dev Cert.AdamMixReferenceIdeal.nD,
      r.2.mem ((c.tc : Thread Cert.AdamMixReferenceIdeal.nD Cert.AdamMixReferenceIdeal.τ).loc Cert.AdamMixReferenceIdeal.main_arg0) = m ((c.tc : Thread Cert.AdamMixReferenceIdeal.nD Cert.AdamMixReferenceIdeal.τ).loc Cert.AdamMixReferenceIdeal.main_arg0)
      ∧ r.2.mem ((c.tc : Thread Cert.AdamMixReferenceIdeal.nD Cert.AdamMixReferenceIdeal.τ).loc Cert.AdamMixReferenceIdeal.main_arg1) = m ((c.tc : Thread Cert.AdamMixReferenceIdeal.nD Cert.AdamMixReferenceIdeal.τ).loc Cert.AdamMixReferenceIdeal.main_arg1)
      ∧ r.2.mem ((c.tc : Thread Cert.AdamMixReferenceIdeal.nD Cert.AdamMixReferenceIdeal.τ).loc Cert.AdamMixReferenceIdeal.main_arg2) = m ((c.tc : Thread Cert.AdamMixReferenceIdeal.nD Cert.AdamMixReferenceIdeal.τ).loc Cert.AdamMixReferenceIdeal.main_arg2)
      ∧ r.2.mem ((c.tc : Thread Cert.AdamMixReferenceIdeal.nD Cert.AdamMixReferenceIdeal.τ).loc Cert.AdamMixReferenceIdeal.main_arg3) = m ((c.tc : Thread Cert.AdamMixReferenceIdeal.nD Cert.AdamMixReferenceIdeal.τ).loc Cert.AdamMixReferenceIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasReferenceIdeal [hAdamBiasReferenceIdeal : Cert.AdamBiasReferenceIdeal.Facts] : Prop :=
  ∀ (m : (ℓ : Loc Cert.AdamBiasReferenceIdeal.nD Cert.AdamBiasReferenceIdeal.τ Cert.AdamBiasReferenceIdeal.sig) → Buf (Elt Ideal) ℓ) (g : Dev Cert.AdamBiasReferenceIdeal.nD → PrngReg), Pre_AdamBiasReferenceIdeal m →
    θ_run (Cert.AdamBiasReferenceIdeal.defs (F := Ideal)) (onTc (τ := Cert.AdamBiasReferenceIdeal.τ) (Cert.AdamBiasReferenceIdeal.main (F := Ideal))) ⟨m, fun _ => 0, g⟩ (fun r => (∀ c : Dev Cert.AdamBiasReferenceIdeal.nD,
      r.2.mem ((c.tc : Thread Cert.AdamBiasReferenceIdeal.nD Cert.AdamBiasReferenceIdeal.τ).loc Cert.AdamBiasReferenceIdeal.main_arg0) = m ((c.tc : Thread Cert.AdamBiasReferenceIdeal.nD Cert.AdamBiasReferenceIdeal.τ).loc Cert.AdamBiasReferenceIdeal.main_arg0)
      ∧ r.2.mem ((c.tc : Thread Cert.AdamBiasReferenceIdeal.nD Cert.AdamBiasReferenceIdeal.τ).loc Cert.AdamBiasReferenceIdeal.main_arg1) = m ((c.tc : Thread Cert.AdamBiasReferenceIdeal.nD Cert.AdamBiasReferenceIdeal.τ).loc Cert.AdamBiasReferenceIdeal.main_arg1)
      ∧ r.2.mem ((c.tc : Thread Cert.AdamBiasReferenceIdeal.nD Cert.AdamBiasReferenceIdeal.τ).loc Cert.AdamBiasReferenceIdeal.main_arg2) = m ((c.tc : Thread Cert.AdamBiasReferenceIdeal.nD Cert.AdamBiasReferenceIdeal.τ).loc Cert.AdamBiasReferenceIdeal.main_arg2)
      ∧ r.2.mem ((c.tc : Thread Cert.AdamBiasReferenceIdeal.nD Cert.AdamBiasReferenceIdeal.τ).loc Cert.AdamBiasReferenceIdeal.main_arg3) = m ((c.tc : Thread Cert.AdamBiasReferenceIdeal.nD Cert.AdamBiasReferenceIdeal.τ).loc Cert.AdamBiasReferenceIdeal.main_arg3))
      ∧ r.2.sem = fun _ => 0)

def quiescent_SumLate [hSumLate : Cert.SumLate.Facts] : Prop :=
  ∀ (m : (ℓ : Loc Cert.SumLate.nD Cert.SumLate.τ Cert.SumLate.sig) → Buf (Elt Bits) ℓ) (g : Dev Cert.SumLate.nD → PrngReg), Pre_SumLate m →
    θ_run (Cert.SumLate.defs (F := Bits)) (onTc (τ := Cert.SumLate.τ) (Cert.SumLate.main (F := Bits))) ⟨m, fun _ => 0, g⟩ (fun r => (∀ c : Dev Cert.SumLate.nD,
      r.2.mem ((c.tc : Thread Cert.SumLate.nD Cert.SumLate.τ).loc Cert.SumLate.main_arg0) = m ((c.tc : Thread Cert.SumLate.nD Cert.SumLate.τ).loc Cert.SumLate.main_arg0))
      ∧ r.2.sem = fun _ => 0)

def quiescent_SumLateIdeal [hSumLateIdeal : Cert.SumLateIdeal.Facts] : Prop :=
  ∀ (m : (ℓ : Loc Cert.SumLateIdeal.nD Cert.SumLateIdeal.τ Cert.SumLateIdeal.sig) → Buf (Elt Ideal) ℓ) (g : Dev Cert.SumLateIdeal.nD → PrngReg), Pre_SumLateIdeal m →
    θ_run (Cert.SumLateIdeal.defs (F := Ideal)) (onTc (τ := Cert.SumLateIdeal.τ) (Cert.SumLateIdeal.main (F := Ideal))) ⟨m, fun _ => 0, g⟩ (fun r => (∀ c : Dev Cert.SumLateIdeal.nD,
      r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ r.2.sem = fun _ => 0)

def quiescent_SumLateReferenceIdeal [hSumLateReferenceIdeal : Cert.SumLateReferenceIdeal.Facts] : Prop :=
  ∀ (m : (ℓ : Loc Cert.SumLateReferenceIdeal.nD Cert.SumLateReferenceIdeal.τ Cert.SumLateReferenceIdeal.sig) → Buf (Elt Ideal) ℓ) (g : Dev Cert.SumLateReferenceIdeal.nD → PrngReg), Pre_SumLateReferenceIdeal m →
    θ_run (Cert.SumLateReferenceIdeal.defs (F := Ideal)) (onTc (τ := Cert.SumLateReferenceIdeal.τ) (Cert.SumLateReferenceIdeal.main (F := Ideal))) ⟨m, fun _ => 0, g⟩ (fun r => (∀ c : Dev Cert.SumLateReferenceIdeal.nD,
      r.2.mem ((c.tc : Thread Cert.SumLateReferenceIdeal.nD Cert.SumLateReferenceIdeal.τ).loc Cert.SumLateReferenceIdeal.main_arg0) = m ((c.tc : Thread Cert.SumLateReferenceIdeal.nD Cert.SumLateReferenceIdeal.τ).loc Cert.SumLateReferenceIdeal.main_arg0))
      ∧ r.2.sem = fun _ => 0)

def quiescent_SumEarly [hSumEarly : Cert.SumEarly.Facts] : Prop :=
  ∀ (m : (ℓ : Loc Cert.SumEarly.nD Cert.SumEarly.τ Cert.SumEarly.sig) → Buf (Elt Bits) ℓ) (g : Dev Cert.SumEarly.nD → PrngReg), Pre_SumEarly m →
    θ_run (Cert.SumEarly.defs (F := Bits)) (onTc (τ := Cert.SumEarly.τ) (Cert.SumEarly.main (F := Bits))) ⟨m, fun _ => 0, g⟩ (fun r => (∀ c : Dev Cert.SumEarly.nD,
      r.2.mem ((c.tc : Thread Cert.SumEarly.nD Cert.SumEarly.τ).loc Cert.SumEarly.main_arg0) = m ((c.tc : Thread Cert.SumEarly.nD Cert.SumEarly.τ).loc Cert.SumEarly.main_arg0))
      ∧ r.2.sem = fun _ => 0)

def quiescent_SumEarlyIdeal [hSumEarlyIdeal : Cert.SumEarlyIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg), Pre_SumEarlyIdeal m →
    θ_run (Cert.SumEarlyIdeal.defs (F := Ideal)) (onTc (τ := Cert.SumEarlyIdeal.τ) (Cert.SumEarlyIdeal.main (F := Ideal))) ⟨m, fun _ => 0, g⟩ (fun r => (∀ c : Dev Cert.SumEarlyIdeal.nD,
      r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ r.2.sem = fun _ => 0)

def quiescent_SumEarlyReferenceIdeal [hSumEarlyReferenceIdeal : Cert.SumEarlyReferenceIdeal.Facts] : Prop :=
  ∀ (m : (ℓ : Loc Cert.SumEarlyReferenceIdeal.nD Cert.SumEarlyReferenceIdeal.τ Cert.SumEarlyReferenceIdeal.sig) → Buf (Elt Ideal) ℓ) (g : Dev Cert.SumEarlyReferenceIdeal.nD → PrngReg), Pre_SumEarlyReferenceIdeal m →
    θ_run (Cert.SumEarlyReferenceIdeal.defs (F := Ideal)) (onTc (τ := Cert.SumEarlyReferenceIdeal.τ) (Cert.SumEarlyReferenceIdeal.main (F := Ideal))) ⟨m, fun _ => 0, g⟩ (fun r => (∀ c : Dev Cert.SumEarlyReferenceIdeal.nD,
      r.2.mem ((c.tc : Thread Cert.SumEarlyReferenceIdeal.nD Cert.SumEarlyReferenceIdeal.τ).loc Cert.SumEarlyReferenceIdeal.main_arg0) = m ((c.tc : Thread Cert.SumEarlyReferenceIdeal.nD Cert.SumEarlyReferenceIdeal.τ).loc Cert.SumEarlyReferenceIdeal.main_arg0))
      ∧ r.2.sem = fun _ => 0)

def quiescent_ReduceF1W1 [hReduceF1W1 : Cert.ReduceF1W1.Facts] : Prop :=
  ∀ (m : (ℓ : Loc Cert.ReduceF1W1.nD Cert.ReduceF1W1.τ Cert.ReduceF1W1.sig) → Buf (Elt Bits) ℓ) (g : Dev Cert.ReduceF1W1.nD → PrngReg), Pre_ReduceF1W1 m →
    θ_run (Cert.ReduceF1W1.defs (F := Bits)) (onTc (τ := Cert.ReduceF1W1.τ) (Cert.ReduceF1W1.main (F := Bits))) ⟨m, fun _ => 0, g⟩ (fun r => (∀ c : Dev Cert.ReduceF1W1.nD,
      r.2.mem ((c.tc : Thread Cert.ReduceF1W1.nD Cert.ReduceF1W1.τ).loc Cert.ReduceF1W1.main_arg0) = m ((c.tc : Thread Cert.ReduceF1W1.nD Cert.ReduceF1W1.τ).loc Cert.ReduceF1W1.main_arg0)
      ∧ r.2.mem ((c.tc : Thread Cert.ReduceF1W1.nD Cert.ReduceF1W1.τ).loc Cert.ReduceF1W1.main_arg1) = m ((c.tc : Thread Cert.ReduceF1W1.nD Cert.ReduceF1W1.τ).loc Cert.ReduceF1W1.main_arg1)
      ∧ r.2.mem ((c.tc : Thread Cert.ReduceF1W1.nD Cert.ReduceF1W1.τ).loc Cert.ReduceF1W1.main_arg2) = m ((c.tc : Thread Cert.ReduceF1W1.nD Cert.ReduceF1W1.τ).loc Cert.ReduceF1W1.main_arg2)
      ∧ r.2.mem ((c.tc : Thread Cert.ReduceF1W1.nD Cert.ReduceF1W1.τ).loc Cert.ReduceF1W1.main_arg3) = m ((c.tc : Thread Cert.ReduceF1W1.nD Cert.ReduceF1W1.τ).loc Cert.ReduceF1W1.main_arg3)
      ∧ r.2.mem ((c.tc : Thread Cert.ReduceF1W1.nD Cert.ReduceF1W1.τ).loc Cert.ReduceF1W1.main_arg4) = m ((c.tc : Thread Cert.ReduceF1W1.nD Cert.ReduceF1W1.τ).loc Cert.ReduceF1W1.main_arg4)
      ∧ r.2.mem ((c.tc : Thread Cert.ReduceF1W1.nD Cert.ReduceF1W1.τ).loc Cert.ReduceF1W1.main_arg5) = m ((c.tc : Thread Cert.ReduceF1W1.nD Cert.ReduceF1W1.τ).loc Cert.ReduceF1W1.main_arg5)
      ∧ r.2.mem ((c.tc : Thread Cert.ReduceF1W1.nD Cert.ReduceF1W1.τ).loc Cert.ReduceF1W1.main_arg6) = m ((c.tc : Thread Cert.ReduceF1W1.nD Cert.ReduceF1W1.τ).loc Cert.ReduceF1W1.main_arg6))
      ∧ r.2.sem = fun _ => 0)

def quiescent_ReduceF1W1Ideal [hReduceF1W1Ideal : Cert.ReduceF1W1Ideal.Facts] : Prop :=
  ∀ (m : (ℓ : Loc Cert.ReduceF1W1Ideal.nD Cert.ReduceF1W1Ideal.τ Cert.ReduceF1W1Ideal.sig) → Buf (Elt Ideal) ℓ) (g : Dev Cert.ReduceF1W1Ideal.nD → PrngReg), Pre_ReduceF1W1Ideal m →
    θ_run (Cert.ReduceF1W1Ideal.defs (F := Ideal)) (onTc (τ := Cert.ReduceF1W1Ideal.τ) (Cert.ReduceF1W1Ideal.main (F := Ideal))) ⟨m, fun _ => 0, g⟩ (fun r => (∀ c : Dev Cert.ReduceF1W1Ideal.nD,
      r.2.mem ((c.tc : Thread Cert.ReduceF1W1Ideal.nD Cert.ReduceF1W1Ideal.τ).loc Cert.ReduceF1W1Ideal.main_arg0) = m ((c.tc : Thread Cert.ReduceF1W1Ideal.nD Cert.ReduceF1W1Ideal.τ).loc Cert.ReduceF1W1Ideal.main_arg0)
      ∧ r.2.mem ((c.tc : Thread Cert.ReduceF1W1Ideal.nD Cert.ReduceF1W1Ideal.τ).loc Cert.ReduceF1W1Ideal.main_arg1) = m ((c.tc : Thread Cert.ReduceF1W1Ideal.nD Cert.ReduceF1W1Ideal.τ).loc Cert.ReduceF1W1Ideal.main_arg1)
      ∧ r.2.mem ((c.tc : Thread Cert.ReduceF1W1Ideal.nD Cert.ReduceF1W1Ideal.τ).loc Cert.ReduceF1W1Ideal.main_arg2) = m ((c.tc : Thread Cert.ReduceF1W1Ideal.nD Cert.ReduceF1W1Ideal.τ).loc Cert.ReduceF1W1Ideal.main_arg2)
      ∧ r.2.mem ((c.tc : Thread Cert.ReduceF1W1Ideal.nD Cert.ReduceF1W1Ideal.τ).loc Cert.ReduceF1W1Ideal.main_arg3) = m ((c.tc : Thread Cert.ReduceF1W1Ideal.nD Cert.ReduceF1W1Ideal.τ).loc Cert.ReduceF1W1Ideal.main_arg3)
      ∧ r.2.mem ((c.tc : Thread Cert.ReduceF1W1Ideal.nD Cert.ReduceF1W1Ideal.τ).loc Cert.ReduceF1W1Ideal.main_arg4) = m ((c.tc : Thread Cert.ReduceF1W1Ideal.nD Cert.ReduceF1W1Ideal.τ).loc Cert.ReduceF1W1Ideal.main_arg4)
      ∧ r.2.mem ((c.tc : Thread Cert.ReduceF1W1Ideal.nD Cert.ReduceF1W1Ideal.τ).loc Cert.ReduceF1W1Ideal.main_arg5) = m ((c.tc : Thread Cert.ReduceF1W1Ideal.nD Cert.ReduceF1W1Ideal.τ).loc Cert.ReduceF1W1Ideal.main_arg5)
      ∧ r.2.mem ((c.tc : Thread Cert.ReduceF1W1Ideal.nD Cert.ReduceF1W1Ideal.τ).loc Cert.ReduceF1W1Ideal.main_arg6) = m ((c.tc : Thread Cert.ReduceF1W1Ideal.nD Cert.ReduceF1W1Ideal.τ).loc Cert.ReduceF1W1Ideal.main_arg6))
      ∧ r.2.sem = fun _ => 0)

def quiescent_ReduceF1W1ReferenceIdeal [hReduceF1W1ReferenceIdeal : Cert.ReduceF1W1ReferenceIdeal.Facts] : Prop :=
  ∀ (m : (ℓ : Loc Cert.ReduceF1W1ReferenceIdeal.nD Cert.ReduceF1W1ReferenceIdeal.τ Cert.ReduceF1W1ReferenceIdeal.sig) → Buf (Elt Ideal) ℓ) (g : Dev Cert.ReduceF1W1ReferenceIdeal.nD → PrngReg), Pre_ReduceF1W1ReferenceIdeal m →
    θ_run (Cert.ReduceF1W1ReferenceIdeal.defs (F := Ideal)) (onTc (τ := Cert.ReduceF1W1ReferenceIdeal.τ) (Cert.ReduceF1W1ReferenceIdeal.main (F := Ideal))) ⟨m, fun _ => 0, g⟩ (fun r => (∀ c : Dev Cert.ReduceF1W1ReferenceIdeal.nD,
      r.2.mem ((c.tc : Thread Cert.ReduceF1W1ReferenceIdeal.nD Cert.ReduceF1W1ReferenceIdeal.τ).loc Cert.ReduceF1W1ReferenceIdeal.main_arg0) = m ((c.tc : Thread Cert.ReduceF1W1ReferenceIdeal.nD Cert.ReduceF1W1ReferenceIdeal.τ).loc Cert.ReduceF1W1ReferenceIdeal.main_arg0)
      ∧ r.2.mem ((c.tc : Thread Cert.ReduceF1W1ReferenceIdeal.nD Cert.ReduceF1W1ReferenceIdeal.τ).loc Cert.ReduceF1W1ReferenceIdeal.main_arg1) = m ((c.tc : Thread Cert.ReduceF1W1ReferenceIdeal.nD Cert.ReduceF1W1ReferenceIdeal.τ).loc Cert.ReduceF1W1ReferenceIdeal.main_arg1)
      ∧ r.2.mem ((c.tc : Thread Cert.ReduceF1W1ReferenceIdeal.nD Cert.ReduceF1W1ReferenceIdeal.τ).loc Cert.ReduceF1W1ReferenceIdeal.main_arg2) = m ((c.tc : Thread Cert.ReduceF1W1ReferenceIdeal.nD Cert.ReduceF1W1ReferenceIdeal.τ).loc Cert.ReduceF1W1ReferenceIdeal.main_arg2)
      ∧ r.2.mem ((c.tc : Thread Cert.ReduceF1W1ReferenceIdeal.nD Cert.ReduceF1W1ReferenceIdeal.τ).loc Cert.ReduceF1W1ReferenceIdeal.main_arg3) = m ((c.tc : Thread Cert.ReduceF1W1ReferenceIdeal.nD Cert.ReduceF1W1ReferenceIdeal.τ).loc Cert.ReduceF1W1ReferenceIdeal.main_arg3)
      ∧ r.2.mem ((c.tc : Thread Cert.ReduceF1W1ReferenceIdeal.nD Cert.ReduceF1W1ReferenceIdeal.τ).loc Cert.ReduceF1W1ReferenceIdeal.main_arg4) = m ((c.tc : Thread Cert.ReduceF1W1ReferenceIdeal.nD Cert.ReduceF1W1ReferenceIdeal.τ).loc Cert.ReduceF1W1ReferenceIdeal.main_arg4)
      ∧ r.2.mem ((c.tc : Thread Cert.ReduceF1W1ReferenceIdeal.nD Cert.ReduceF1W1ReferenceIdeal.τ).loc Cert.ReduceF1W1ReferenceIdeal.main_arg5) = m ((c.tc : Thread Cert.ReduceF1W1ReferenceIdeal.nD Cert.ReduceF1W1ReferenceIdeal.τ).loc Cert.ReduceF1W1ReferenceIdeal.main_arg5)
      ∧ r.2.mem ((c.tc : Thread Cert.ReduceF1W1ReferenceIdeal.nD Cert.ReduceF1W1ReferenceIdeal.τ).loc Cert.ReduceF1W1ReferenceIdeal.main_arg6) = m ((c.tc : Thread Cert.ReduceF1W1ReferenceIdeal.nD Cert.ReduceF1W1ReferenceIdeal.τ).loc Cert.ReduceF1W1ReferenceIdeal.main_arg6))
      ∧ r.2.sem = fun _ => 0)

def quiescent_ReduceF1W3 [hReduceF1W3 : Cert.ReduceF1W3.Facts] : Prop :=
  ∀ (m : (ℓ : Loc Cert.ReduceF1W3.nD Cert.ReduceF1W3.τ Cert.ReduceF1W3.sig) → Buf (Elt Bits) ℓ) (g : Dev Cert.ReduceF1W3.nD → PrngReg), Pre_ReduceF1W3 m →
    θ_run (Cert.ReduceF1W3.defs (F := Bits)) (onTc (τ := Cert.ReduceF1W3.τ) (Cert.ReduceF1W3.main (F := Bits))) ⟨m, fun _ => 0, g⟩ (fun r => (∀ c : Dev Cert.ReduceF1W3.nD,
      r.2.mem ((c.tc : Thread Cert.ReduceF1W3.nD Cert.ReduceF1W3.τ).loc Cert.ReduceF1W3.main_arg0) = m ((c.tc : Thread Cert.ReduceF1W3.nD Cert.ReduceF1W3.τ).loc Cert.ReduceF1W3.main_arg0)
      ∧ r.2.mem ((c.tc : Thread Cert.ReduceF1W3.nD Cert.ReduceF1W3.τ).loc Cert.ReduceF1W3.main_arg1) = m ((c.tc : Thread Cert.ReduceF1W3.nD Cert.ReduceF1W3.τ).loc Cert.ReduceF1W3.main_arg1)
      ∧ r.2.mem ((c.tc : Thread Cert.ReduceF1W3.nD Cert.ReduceF1W3.τ).loc Cert.ReduceF1W3.main_arg2) = m ((c.tc : Thread Cert.ReduceF1W3.nD Cert.ReduceF1W3.τ).loc Cert.ReduceF1W3.main_arg2)
      ∧ r.2.mem ((c.tc : Thread Cert.ReduceF1W3.nD Cert.ReduceF1W3.τ).loc Cert.ReduceF1W3.main_arg3) = m ((c.tc : Thread Cert.ReduceF1W3.nD Cert.ReduceF1W3.τ).loc Cert.ReduceF1W3.main_arg3)
      ∧ r.2.mem ((c.tc : Thread Cert.ReduceF1W3.nD Cert.ReduceF1W3.τ).loc Cert.ReduceF1W3.main_arg4) = m ((c.tc : Thread Cert.ReduceF1W3.nD Cert.ReduceF1W3.τ).loc Cert.ReduceF1W3.main_arg4)
      ∧ r.2.mem ((c.tc : Thread Cert.ReduceF1W3.nD Cert.ReduceF1W3.τ).loc Cert.ReduceF1W3.main_arg5) = m ((c.tc : Thread Cert.ReduceF1W3.nD Cert.ReduceF1W3.τ).loc Cert.ReduceF1W3.main_arg5)
      ∧ r.2.mem ((c.tc : Thread Cert.ReduceF1W3.nD Cert.ReduceF1W3.τ).loc Cert.ReduceF1W3.main_arg6) = m ((c.tc : Thread Cert.ReduceF1W3.nD Cert.ReduceF1W3.τ).loc Cert.ReduceF1W3.main_arg6))
      ∧ r.2.sem = fun _ => 0)

def quiescent_ReduceF1W3Ideal [hReduceF1W3Ideal : Cert.ReduceF1W3Ideal.Facts] : Prop :=
  ∀ (m : (ℓ : Loc Cert.ReduceF1W3Ideal.nD Cert.ReduceF1W3Ideal.τ Cert.ReduceF1W3Ideal.sig) → Buf (Elt Ideal) ℓ) (g : Dev Cert.ReduceF1W3Ideal.nD → PrngReg), Pre_ReduceF1W3Ideal m →
    θ_run (Cert.ReduceF1W3Ideal.defs (F := Ideal)) (onTc (τ := Cert.ReduceF1W3Ideal.τ) (Cert.ReduceF1W3Ideal.main (F := Ideal))) ⟨m, fun _ => 0, g⟩ (fun r => (∀ c : Dev Cert.ReduceF1W3Ideal.nD,
      r.2.mem ((c.tc : Thread Cert.ReduceF1W3Ideal.nD Cert.ReduceF1W3Ideal.τ).loc Cert.ReduceF1W3Ideal.main_arg0) = m ((c.tc : Thread Cert.ReduceF1W3Ideal.nD Cert.ReduceF1W3Ideal.τ).loc Cert.ReduceF1W3Ideal.main_arg0)
      ∧ r.2.mem ((c.tc : Thread Cert.ReduceF1W3Ideal.nD Cert.ReduceF1W3Ideal.τ).loc Cert.ReduceF1W3Ideal.main_arg1) = m ((c.tc : Thread Cert.ReduceF1W3Ideal.nD Cert.ReduceF1W3Ideal.τ).loc Cert.ReduceF1W3Ideal.main_arg1)
      ∧ r.2.mem ((c.tc : Thread Cert.ReduceF1W3Ideal.nD Cert.ReduceF1W3Ideal.τ).loc Cert.ReduceF1W3Ideal.main_arg2) = m ((c.tc : Thread Cert.ReduceF1W3Ideal.nD Cert.ReduceF1W3Ideal.τ).loc Cert.ReduceF1W3Ideal.main_arg2)
      ∧ r.2.mem ((c.tc : Thread Cert.ReduceF1W3Ideal.nD Cert.ReduceF1W3Ideal.τ).loc Cert.ReduceF1W3Ideal.main_arg3) = m ((c.tc : Thread Cert.ReduceF1W3Ideal.nD Cert.ReduceF1W3Ideal.τ).loc Cert.ReduceF1W3Ideal.main_arg3)
      ∧ r.2.mem ((c.tc : Thread Cert.ReduceF1W3Ideal.nD Cert.ReduceF1W3Ideal.τ).loc Cert.ReduceF1W3Ideal.main_arg4) = m ((c.tc : Thread Cert.ReduceF1W3Ideal.nD Cert.ReduceF1W3Ideal.τ).loc Cert.ReduceF1W3Ideal.main_arg4)
      ∧ r.2.mem ((c.tc : Thread Cert.ReduceF1W3Ideal.nD Cert.ReduceF1W3Ideal.τ).loc Cert.ReduceF1W3Ideal.main_arg5) = m ((c.tc : Thread Cert.ReduceF1W3Ideal.nD Cert.ReduceF1W3Ideal.τ).loc Cert.ReduceF1W3Ideal.main_arg5)
      ∧ r.2.mem ((c.tc : Thread Cert.ReduceF1W3Ideal.nD Cert.ReduceF1W3Ideal.τ).loc Cert.ReduceF1W3Ideal.main_arg6) = m ((c.tc : Thread Cert.ReduceF1W3Ideal.nD Cert.ReduceF1W3Ideal.τ).loc Cert.ReduceF1W3Ideal.main_arg6))
      ∧ r.2.sem = fun _ => 0)

def quiescent_ReduceF1W3ReferenceIdeal [hReduceF1W3ReferenceIdeal : Cert.ReduceF1W3ReferenceIdeal.Facts] : Prop :=
  ∀ (m : (ℓ : Loc Cert.ReduceF1W3ReferenceIdeal.nD Cert.ReduceF1W3ReferenceIdeal.τ Cert.ReduceF1W3ReferenceIdeal.sig) → Buf (Elt Ideal) ℓ) (g : Dev Cert.ReduceF1W3ReferenceIdeal.nD → PrngReg), Pre_ReduceF1W3ReferenceIdeal m →
    θ_run (Cert.ReduceF1W3ReferenceIdeal.defs (F := Ideal)) (onTc (τ := Cert.ReduceF1W3ReferenceIdeal.τ) (Cert.ReduceF1W3ReferenceIdeal.main (F := Ideal))) ⟨m, fun _ => 0, g⟩ (fun r => (∀ c : Dev Cert.ReduceF1W3ReferenceIdeal.nD,
      r.2.mem ((c.tc : Thread Cert.ReduceF1W3ReferenceIdeal.nD Cert.ReduceF1W3ReferenceIdeal.τ).loc Cert.ReduceF1W3ReferenceIdeal.main_arg0) = m ((c.tc : Thread Cert.ReduceF1W3ReferenceIdeal.nD Cert.ReduceF1W3ReferenceIdeal.τ).loc Cert.ReduceF1W3ReferenceIdeal.main_arg0)
      ∧ r.2.mem ((c.tc : Thread Cert.ReduceF1W3ReferenceIdeal.nD Cert.ReduceF1W3ReferenceIdeal.τ).loc Cert.ReduceF1W3ReferenceIdeal.main_arg1) = m ((c.tc : Thread Cert.ReduceF1W3ReferenceIdeal.nD Cert.ReduceF1W3ReferenceIdeal.τ).loc Cert.ReduceF1W3ReferenceIdeal.main_arg1)
      ∧ r.2.mem ((c.tc : Thread Cert.ReduceF1W3ReferenceIdeal.nD Cert.ReduceF1W3ReferenceIdeal.τ).loc Cert.ReduceF1W3ReferenceIdeal.main_arg2) = m ((c.tc : Thread Cert.ReduceF1W3ReferenceIdeal.nD Cert.ReduceF1W3ReferenceIdeal.τ).loc Cert.ReduceF1W3ReferenceIdeal.main_arg2)
      ∧ r.2.mem ((c.tc : Thread Cert.ReduceF1W3ReferenceIdeal.nD Cert.ReduceF1W3ReferenceIdeal.τ).loc Cert.ReduceF1W3ReferenceIdeal.main_arg3) = m ((c.tc : Thread Cert.ReduceF1W3ReferenceIdeal.nD Cert.ReduceF1W3ReferenceIdeal.τ).loc Cert.ReduceF1W3ReferenceIdeal.main_arg3)
      ∧ r.2.mem ((c.tc : Thread Cert.ReduceF1W3ReferenceIdeal.nD Cert.ReduceF1W3ReferenceIdeal.τ).loc Cert.ReduceF1W3ReferenceIdeal.main_arg4) = m ((c.tc : Thread Cert.ReduceF1W3ReferenceIdeal.nD Cert.ReduceF1W3ReferenceIdeal.τ).loc Cert.ReduceF1W3ReferenceIdeal.main_arg4)
      ∧ r.2.mem ((c.tc : Thread Cert.ReduceF1W3ReferenceIdeal.nD Cert.ReduceF1W3ReferenceIdeal.τ).loc Cert.ReduceF1W3ReferenceIdeal.main_arg5) = m ((c.tc : Thread Cert.ReduceF1W3ReferenceIdeal.nD Cert.ReduceF1W3ReferenceIdeal.τ).loc Cert.ReduceF1W3ReferenceIdeal.main_arg5)
      ∧ r.2.mem ((c.tc : Thread Cert.ReduceF1W3ReferenceIdeal.nD Cert.ReduceF1W3ReferenceIdeal.τ).loc Cert.ReduceF1W3ReferenceIdeal.main_arg6) = m ((c.tc : Thread Cert.ReduceF1W3ReferenceIdeal.nD Cert.ReduceF1W3ReferenceIdeal.τ).loc Cert.ReduceF1W3ReferenceIdeal.main_arg6))
      ∧ r.2.sem = fun _ => 0)

def quiescent_ReduceF1W2 [hReduceF1W2 : Cert.ReduceF1W2.Facts] : Prop :=
  ∀ (m : (ℓ : Loc Cert.ReduceF1W2.nD Cert.ReduceF1W2.τ Cert.ReduceF1W2.sig) → Buf (Elt Bits) ℓ) (g : Dev Cert.ReduceF1W2.nD → PrngReg), Pre_ReduceF1W2 m →
    θ_run (Cert.ReduceF1W2.defs (F := Bits)) (onTc (τ := Cert.ReduceF1W2.τ) (Cert.ReduceF1W2.main (F := Bits))) ⟨m, fun _ => 0, g⟩ (fun r => (∀ c : Dev Cert.ReduceF1W2.nD,
      r.2.mem ((c.tc : Thread Cert.ReduceF1W2.nD Cert.ReduceF1W2.τ).loc Cert.ReduceF1W2.main_arg0) = m ((c.tc : Thread Cert.ReduceF1W2.nD Cert.ReduceF1W2.τ).loc Cert.ReduceF1W2.main_arg0)
      ∧ r.2.mem ((c.tc : Thread Cert.ReduceF1W2.nD Cert.ReduceF1W2.τ).loc Cert.ReduceF1W2.main_arg1) = m ((c.tc : Thread Cert.ReduceF1W2.nD Cert.ReduceF1W2.τ).loc Cert.ReduceF1W2.main_arg1)
      ∧ r.2.mem ((c.tc : Thread Cert.ReduceF1W2.nD Cert.ReduceF1W2.τ).loc Cert.ReduceF1W2.main_arg2) = m ((c.tc : Thread Cert.ReduceF1W2.nD Cert.ReduceF1W2.τ).loc Cert.ReduceF1W2.main_arg2)
      ∧ r.2.mem ((c.tc : Thread Cert.ReduceF1W2.nD Cert.ReduceF1W2.τ).loc Cert.ReduceF1W2.main_arg3) = m ((c.tc : Thread Cert.ReduceF1W2.nD Cert.ReduceF1W2.τ).loc Cert.ReduceF1W2.main_arg3)
      ∧ r.2.mem ((c.tc : Thread Cert.ReduceF1W2.nD Cert.ReduceF1W2.τ).loc Cert.ReduceF1W2.main_arg4) = m ((c.tc : Thread Cert.ReduceF1W2.nD Cert.ReduceF1W2.τ).loc Cert.ReduceF1W2.main_arg4)
      ∧ r.2.mem ((c.tc : Thread Cert.ReduceF1W2.nD Cert.ReduceF1W2.τ).loc Cert.ReduceF1W2.main_arg5) = m ((c.tc : Thread Cert.ReduceF1W2.nD Cert.ReduceF1W2.τ).loc Cert.ReduceF1W2.main_arg5)
      ∧ r.2.mem ((c.tc : Thread Cert.ReduceF1W2.nD Cert.ReduceF1W2.τ).loc Cert.ReduceF1W2.main_arg6) = m ((c.tc : Thread Cert.ReduceF1W2.nD Cert.ReduceF1W2.τ).loc Cert.ReduceF1W2.main_arg6))
      ∧ r.2.sem = fun _ => 0)

def quiescent_ReduceF1W2Ideal [hReduceF1W2Ideal : Cert.ReduceF1W2Ideal.Facts] : Prop :=
  ∀ (m : (ℓ : Loc Cert.ReduceF1W2Ideal.nD Cert.ReduceF1W2Ideal.τ Cert.ReduceF1W2Ideal.sig) → Buf (Elt Ideal) ℓ) (g : Dev Cert.ReduceF1W2Ideal.nD → PrngReg), Pre_ReduceF1W2Ideal m →
    θ_run (Cert.ReduceF1W2Ideal.defs (F := Ideal)) (onTc (τ := Cert.ReduceF1W2Ideal.τ) (Cert.ReduceF1W2Ideal.main (F := Ideal))) ⟨m, fun _ => 0, g⟩ (fun r => (∀ c : Dev Cert.ReduceF1W2Ideal.nD,
      r.2.mem ((c.tc : Thread Cert.ReduceF1W2Ideal.nD Cert.ReduceF1W2Ideal.τ).loc Cert.ReduceF1W2Ideal.main_arg0) = m ((c.tc : Thread Cert.ReduceF1W2Ideal.nD Cert.ReduceF1W2Ideal.τ).loc Cert.ReduceF1W2Ideal.main_arg0)
      ∧ r.2.mem ((c.tc : Thread Cert.ReduceF1W2Ideal.nD Cert.ReduceF1W2Ideal.τ).loc Cert.ReduceF1W2Ideal.main_arg1) = m ((c.tc : Thread Cert.ReduceF1W2Ideal.nD Cert.ReduceF1W2Ideal.τ).loc Cert.ReduceF1W2Ideal.main_arg1)
      ∧ r.2.mem ((c.tc : Thread Cert.ReduceF1W2Ideal.nD Cert.ReduceF1W2Ideal.τ).loc Cert.ReduceF1W2Ideal.main_arg2) = m ((c.tc : Thread Cert.ReduceF1W2Ideal.nD Cert.ReduceF1W2Ideal.τ).loc Cert.ReduceF1W2Ideal.main_arg2)
      ∧ r.2.mem ((c.tc : Thread Cert.ReduceF1W2Ideal.nD Cert.ReduceF1W2Ideal.τ).loc Cert.ReduceF1W2Ideal.main_arg3) = m ((c.tc : Thread Cert.ReduceF1W2Ideal.nD Cert.ReduceF1W2Ideal.τ).loc Cert.ReduceF1W2Ideal.main_arg3)
      ∧ r.2.mem ((c.tc : Thread Cert.ReduceF1W2Ideal.nD Cert.ReduceF1W2Ideal.τ).loc Cert.ReduceF1W2Ideal.main_arg4) = m ((c.tc : Thread Cert.ReduceF1W2Ideal.nD Cert.ReduceF1W2Ideal.τ).loc Cert.ReduceF1W2Ideal.main_arg4)
      ∧ r.2.mem ((c.tc : Thread Cert.ReduceF1W2Ideal.nD Cert.ReduceF1W2Ideal.τ).loc Cert.ReduceF1W2Ideal.main_arg5) = m ((c.tc : Thread Cert.ReduceF1W2Ideal.nD Cert.ReduceF1W2Ideal.τ).loc Cert.ReduceF1W2Ideal.main_arg5)
      ∧ r.2.mem ((c.tc : Thread Cert.ReduceF1W2Ideal.nD Cert.ReduceF1W2Ideal.τ).loc Cert.ReduceF1W2Ideal.main_arg6) = m ((c.tc : Thread Cert.ReduceF1W2Ideal.nD Cert.ReduceF1W2Ideal.τ).loc Cert.ReduceF1W2Ideal.main_arg6))
      ∧ r.2.sem = fun _ => 0)

def quiescent_ReduceF1W2ReferenceIdeal [hReduceF1W2ReferenceIdeal : Cert.ReduceF1W2ReferenceIdeal.Facts] : Prop :=
  ∀ (m : (ℓ : Loc Cert.ReduceF1W2ReferenceIdeal.nD Cert.ReduceF1W2ReferenceIdeal.τ Cert.ReduceF1W2ReferenceIdeal.sig) → Buf (Elt Ideal) ℓ) (g : Dev Cert.ReduceF1W2ReferenceIdeal.nD → PrngReg), Pre_ReduceF1W2ReferenceIdeal m →
    θ_run (Cert.ReduceF1W2ReferenceIdeal.defs (F := Ideal)) (onTc (τ := Cert.ReduceF1W2ReferenceIdeal.τ) (Cert.ReduceF1W2ReferenceIdeal.main (F := Ideal))) ⟨m, fun _ => 0, g⟩ (fun r => (∀ c : Dev Cert.ReduceF1W2ReferenceIdeal.nD,
      r.2.mem ((c.tc : Thread Cert.ReduceF1W2ReferenceIdeal.nD Cert.ReduceF1W2ReferenceIdeal.τ).loc Cert.ReduceF1W2ReferenceIdeal.main_arg0) = m ((c.tc : Thread Cert.ReduceF1W2ReferenceIdeal.nD Cert.ReduceF1W2ReferenceIdeal.τ).loc Cert.ReduceF1W2ReferenceIdeal.main_arg0)
      ∧ r.2.mem ((c.tc : Thread Cert.ReduceF1W2ReferenceIdeal.nD Cert.ReduceF1W2ReferenceIdeal.τ).loc Cert.ReduceF1W2ReferenceIdeal.main_arg1) = m ((c.tc : Thread Cert.ReduceF1W2ReferenceIdeal.nD Cert.ReduceF1W2ReferenceIdeal.τ).loc Cert.ReduceF1W2ReferenceIdeal.main_arg1)
      ∧ r.2.mem ((c.tc : Thread Cert.ReduceF1W2ReferenceIdeal.nD Cert.ReduceF1W2ReferenceIdeal.τ).loc Cert.ReduceF1W2ReferenceIdeal.main_arg2) = m ((c.tc : Thread Cert.ReduceF1W2ReferenceIdeal.nD Cert.ReduceF1W2ReferenceIdeal.τ).loc Cert.ReduceF1W2ReferenceIdeal.main_arg2)
      ∧ r.2.mem ((c.tc : Thread Cert.ReduceF1W2ReferenceIdeal.nD Cert.ReduceF1W2ReferenceIdeal.τ).loc Cert.ReduceF1W2ReferenceIdeal.main_arg3) = m ((c.tc : Thread Cert.ReduceF1W2ReferenceIdeal.nD Cert.ReduceF1W2ReferenceIdeal.τ).loc Cert.ReduceF1W2ReferenceIdeal.main_arg3)
      ∧ r.2.mem ((c.tc : Thread Cert.ReduceF1W2ReferenceIdeal.nD Cert.ReduceF1W2ReferenceIdeal.τ).loc Cert.ReduceF1W2ReferenceIdeal.main_arg4) = m ((c.tc : Thread Cert.ReduceF1W2ReferenceIdeal.nD Cert.ReduceF1W2ReferenceIdeal.τ).loc Cert.ReduceF1W2ReferenceIdeal.main_arg4)
      ∧ r.2.mem ((c.tc : Thread Cert.ReduceF1W2ReferenceIdeal.nD Cert.ReduceF1W2ReferenceIdeal.τ).loc Cert.ReduceF1W2ReferenceIdeal.main_arg5) = m ((c.tc : Thread Cert.ReduceF1W2ReferenceIdeal.nD Cert.ReduceF1W2ReferenceIdeal.τ).loc Cert.ReduceF1W2ReferenceIdeal.main_arg5)
      ∧ r.2.mem ((c.tc : Thread Cert.ReduceF1W2ReferenceIdeal.nD Cert.ReduceF1W2ReferenceIdeal.τ).loc Cert.ReduceF1W2ReferenceIdeal.main_arg6) = m ((c.tc : Thread Cert.ReduceF1W2ReferenceIdeal.nD Cert.ReduceF1W2ReferenceIdeal.τ).loc Cert.ReduceF1W2ReferenceIdeal.main_arg6))
      ∧ r.2.sem = fun _ => 0)

def quiescent_ReduceF2W1 [hReduceF2W1 : Cert.ReduceF2W1.Facts] : Prop :=
  ∀ (m : (ℓ : Loc Cert.ReduceF2W1.nD Cert.ReduceF2W1.τ Cert.ReduceF2W1.sig) → Buf (Elt Bits) ℓ) (g : Dev Cert.ReduceF2W1.nD → PrngReg), Pre_ReduceF2W1 m →
    θ_run (Cert.ReduceF2W1.defs (F := Bits)) (onTc (τ := Cert.ReduceF2W1.τ) (Cert.ReduceF2W1.main (F := Bits))) ⟨m, fun _ => 0, g⟩ (fun r => (∀ c : Dev Cert.ReduceF2W1.nD,
      r.2.mem ((c.tc : Thread Cert.ReduceF2W1.nD Cert.ReduceF2W1.τ).loc Cert.ReduceF2W1.main_arg0) = m ((c.tc : Thread Cert.ReduceF2W1.nD Cert.ReduceF2W1.τ).loc Cert.ReduceF2W1.main_arg0)
      ∧ r.2.mem ((c.tc : Thread Cert.ReduceF2W1.nD Cert.ReduceF2W1.τ).loc Cert.ReduceF2W1.main_arg1) = m ((c.tc : Thread Cert.ReduceF2W1.nD Cert.ReduceF2W1.τ).loc Cert.ReduceF2W1.main_arg1)
      ∧ r.2.mem ((c.tc : Thread Cert.ReduceF2W1.nD Cert.ReduceF2W1.τ).loc Cert.ReduceF2W1.main_arg2) = m ((c.tc : Thread Cert.ReduceF2W1.nD Cert.ReduceF2W1.τ).loc Cert.ReduceF2W1.main_arg2)
      ∧ r.2.mem ((c.tc : Thread Cert.ReduceF2W1.nD Cert.ReduceF2W1.τ).loc Cert.ReduceF2W1.main_arg3) = m ((c.tc : Thread Cert.ReduceF2W1.nD Cert.ReduceF2W1.τ).loc Cert.ReduceF2W1.main_arg3)
      ∧ r.2.mem ((c.tc : Thread Cert.ReduceF2W1.nD Cert.ReduceF2W1.τ).loc Cert.ReduceF2W1.main_arg4) = m ((c.tc : Thread Cert.ReduceF2W1.nD Cert.ReduceF2W1.τ).loc Cert.ReduceF2W1.main_arg4)
      ∧ r.2.mem ((c.tc : Thread Cert.ReduceF2W1.nD Cert.ReduceF2W1.τ).loc Cert.ReduceF2W1.main_arg5) = m ((c.tc : Thread Cert.ReduceF2W1.nD Cert.ReduceF2W1.τ).loc Cert.ReduceF2W1.main_arg5)
      ∧ r.2.mem ((c.tc : Thread Cert.ReduceF2W1.nD Cert.ReduceF2W1.τ).loc Cert.ReduceF2W1.main_arg6) = m ((c.tc : Thread Cert.ReduceF2W1.nD Cert.ReduceF2W1.τ).loc Cert.ReduceF2W1.main_arg6))
      ∧ r.2.sem = fun _ => 0)

def quiescent_ReduceF2W1Ideal [hReduceF2W1Ideal : Cert.ReduceF2W1Ideal.Facts] : Prop :=
  ∀ (m : (ℓ : Loc Cert.ReduceF2W1Ideal.nD Cert.ReduceF2W1Ideal.τ Cert.ReduceF2W1Ideal.sig) → Buf (Elt Ideal) ℓ) (g : Dev Cert.ReduceF2W1Ideal.nD → PrngReg), Pre_ReduceF2W1Ideal m →
    θ_run (Cert.ReduceF2W1Ideal.defs (F := Ideal)) (onTc (τ := Cert.ReduceF2W1Ideal.τ) (Cert.ReduceF2W1Ideal.main (F := Ideal))) ⟨m, fun _ => 0, g⟩ (fun r => (∀ c : Dev Cert.ReduceF2W1Ideal.nD,
      r.2.mem ((c.tc : Thread Cert.ReduceF2W1Ideal.nD Cert.ReduceF2W1Ideal.τ).loc Cert.ReduceF2W1Ideal.main_arg0) = m ((c.tc : Thread Cert.ReduceF2W1Ideal.nD Cert.ReduceF2W1Ideal.τ).loc Cert.ReduceF2W1Ideal.main_arg0)
      ∧ r.2.mem ((c.tc : Thread Cert.ReduceF2W1Ideal.nD Cert.ReduceF2W1Ideal.τ).loc Cert.ReduceF2W1Ideal.main_arg1) = m ((c.tc : Thread Cert.ReduceF2W1Ideal.nD Cert.ReduceF2W1Ideal.τ).loc Cert.ReduceF2W1Ideal.main_arg1)
      ∧ r.2.mem ((c.tc : Thread Cert.ReduceF2W1Ideal.nD Cert.ReduceF2W1Ideal.τ).loc Cert.ReduceF2W1Ideal.main_arg2) = m ((c.tc : Thread Cert.ReduceF2W1Ideal.nD Cert.ReduceF2W1Ideal.τ).loc Cert.ReduceF2W1Ideal.main_arg2)
      ∧ r.2.mem ((c.tc : Thread Cert.ReduceF2W1Ideal.nD Cert.ReduceF2W1Ideal.τ).loc Cert.ReduceF2W1Ideal.main_arg3) = m ((c.tc : Thread Cert.ReduceF2W1Ideal.nD Cert.ReduceF2W1Ideal.τ).loc Cert.ReduceF2W1Ideal.main_arg3)
      ∧ r.2.mem ((c.tc : Thread Cert.ReduceF2W1Ideal.nD Cert.ReduceF2W1Ideal.τ).loc Cert.ReduceF2W1Ideal.main_arg4) = m ((c.tc : Thread Cert.ReduceF2W1Ideal.nD Cert.ReduceF2W1Ideal.τ).loc Cert.ReduceF2W1Ideal.main_arg4)
      ∧ r.2.mem ((c.tc : Thread Cert.ReduceF2W1Ideal.nD Cert.ReduceF2W1Ideal.τ).loc Cert.ReduceF2W1Ideal.main_arg5) = m ((c.tc : Thread Cert.ReduceF2W1Ideal.nD Cert.ReduceF2W1Ideal.τ).loc Cert.ReduceF2W1Ideal.main_arg5)
      ∧ r.2.mem ((c.tc : Thread Cert.ReduceF2W1Ideal.nD Cert.ReduceF2W1Ideal.τ).loc Cert.ReduceF2W1Ideal.main_arg6) = m ((c.tc : Thread Cert.ReduceF2W1Ideal.nD Cert.ReduceF2W1Ideal.τ).loc Cert.ReduceF2W1Ideal.main_arg6))
      ∧ r.2.sem = fun _ => 0)

def quiescent_ReduceF2W1ReferenceIdeal [hReduceF2W1ReferenceIdeal : Cert.ReduceF2W1ReferenceIdeal.Facts] : Prop :=
  ∀ (m : (ℓ : Loc Cert.ReduceF2W1ReferenceIdeal.nD Cert.ReduceF2W1ReferenceIdeal.τ Cert.ReduceF2W1ReferenceIdeal.sig) → Buf (Elt Ideal) ℓ) (g : Dev Cert.ReduceF2W1ReferenceIdeal.nD → PrngReg), Pre_ReduceF2W1ReferenceIdeal m →
    θ_run (Cert.ReduceF2W1ReferenceIdeal.defs (F := Ideal)) (onTc (τ := Cert.ReduceF2W1ReferenceIdeal.τ) (Cert.ReduceF2W1ReferenceIdeal.main (F := Ideal))) ⟨m, fun _ => 0, g⟩ (fun r => (∀ c : Dev Cert.ReduceF2W1ReferenceIdeal.nD,
      r.2.mem ((c.tc : Thread Cert.ReduceF2W1ReferenceIdeal.nD Cert.ReduceF2W1ReferenceIdeal.τ).loc Cert.ReduceF2W1ReferenceIdeal.main_arg0) = m ((c.tc : Thread Cert.ReduceF2W1ReferenceIdeal.nD Cert.ReduceF2W1ReferenceIdeal.τ).loc Cert.ReduceF2W1ReferenceIdeal.main_arg0)
      ∧ r.2.mem ((c.tc : Thread Cert.ReduceF2W1ReferenceIdeal.nD Cert.ReduceF2W1ReferenceIdeal.τ).loc Cert.ReduceF2W1ReferenceIdeal.main_arg1) = m ((c.tc : Thread Cert.ReduceF2W1ReferenceIdeal.nD Cert.ReduceF2W1ReferenceIdeal.τ).loc Cert.ReduceF2W1ReferenceIdeal.main_arg1)
      ∧ r.2.mem ((c.tc : Thread Cert.ReduceF2W1ReferenceIdeal.nD Cert.ReduceF2W1ReferenceIdeal.τ).loc Cert.ReduceF2W1ReferenceIdeal.main_arg2) = m ((c.tc : Thread Cert.ReduceF2W1ReferenceIdeal.nD Cert.ReduceF2W1ReferenceIdeal.τ).loc Cert.ReduceF2W1ReferenceIdeal.main_arg2)
      ∧ r.2.mem ((c.tc : Thread Cert.ReduceF2W1ReferenceIdeal.nD Cert.ReduceF2W1ReferenceIdeal.τ).loc Cert.ReduceF2W1ReferenceIdeal.main_arg3) = m ((c.tc : Thread Cert.ReduceF2W1ReferenceIdeal.nD Cert.ReduceF2W1ReferenceIdeal.τ).loc Cert.ReduceF2W1ReferenceIdeal.main_arg3)
      ∧ r.2.mem ((c.tc : Thread Cert.ReduceF2W1ReferenceIdeal.nD Cert.ReduceF2W1ReferenceIdeal.τ).loc Cert.ReduceF2W1ReferenceIdeal.main_arg4) = m ((c.tc : Thread Cert.ReduceF2W1ReferenceIdeal.nD Cert.ReduceF2W1ReferenceIdeal.τ).loc Cert.ReduceF2W1ReferenceIdeal.main_arg4)
      ∧ r.2.mem ((c.tc : Thread Cert.ReduceF2W1ReferenceIdeal.nD Cert.ReduceF2W1ReferenceIdeal.τ).loc Cert.ReduceF2W1ReferenceIdeal.main_arg5) = m ((c.tc : Thread Cert.ReduceF2W1ReferenceIdeal.nD Cert.ReduceF2W1ReferenceIdeal.τ).loc Cert.ReduceF2W1ReferenceIdeal.main_arg5)
      ∧ r.2.mem ((c.tc : Thread Cert.ReduceF2W1ReferenceIdeal.nD Cert.ReduceF2W1ReferenceIdeal.τ).loc Cert.ReduceF2W1ReferenceIdeal.main_arg6) = m ((c.tc : Thread Cert.ReduceF2W1ReferenceIdeal.nD Cert.ReduceF2W1ReferenceIdeal.τ).loc Cert.ReduceF2W1ReferenceIdeal.main_arg6))
      ∧ r.2.sem = fun _ => 0)

def quiescent_ReduceF2W3 [hReduceF2W3 : Cert.ReduceF2W3.Facts] : Prop :=
  ∀ (m : (ℓ : Loc Cert.ReduceF2W3.nD Cert.ReduceF2W3.τ Cert.ReduceF2W3.sig) → Buf (Elt Bits) ℓ) (g : Dev Cert.ReduceF2W3.nD → PrngReg), Pre_ReduceF2W3 m →
    θ_run (Cert.ReduceF2W3.defs (F := Bits)) (onTc (τ := Cert.ReduceF2W3.τ) (Cert.ReduceF2W3.main (F := Bits))) ⟨m, fun _ => 0, g⟩ (fun r => (∀ c : Dev Cert.ReduceF2W3.nD,
      r.2.mem ((c.tc : Thread Cert.ReduceF2W3.nD Cert.ReduceF2W3.τ).loc Cert.ReduceF2W3.main_arg0) = m ((c.tc : Thread Cert.ReduceF2W3.nD Cert.ReduceF2W3.τ).loc Cert.ReduceF2W3.main_arg0)
      ∧ r.2.mem ((c.tc : Thread Cert.ReduceF2W3.nD Cert.ReduceF2W3.τ).loc Cert.ReduceF2W3.main_arg1) = m ((c.tc : Thread Cert.ReduceF2W3.nD Cert.ReduceF2W3.τ).loc Cert.ReduceF2W3.main_arg1)
      ∧ r.2.mem ((c.tc : Thread Cert.ReduceF2W3.nD Cert.ReduceF2W3.τ).loc Cert.ReduceF2W3.main_arg2) = m ((c.tc : Thread Cert.ReduceF2W3.nD Cert.ReduceF2W3.τ).loc Cert.ReduceF2W3.main_arg2)
      ∧ r.2.mem ((c.tc : Thread Cert.ReduceF2W3.nD Cert.ReduceF2W3.τ).loc Cert.ReduceF2W3.main_arg3) = m ((c.tc : Thread Cert.ReduceF2W3.nD Cert.ReduceF2W3.τ).loc Cert.ReduceF2W3.main_arg3)
      ∧ r.2.mem ((c.tc : Thread Cert.ReduceF2W3.nD Cert.ReduceF2W3.τ).loc Cert.ReduceF2W3.main_arg4) = m ((c.tc : Thread Cert.ReduceF2W3.nD Cert.ReduceF2W3.τ).loc Cert.ReduceF2W3.main_arg4)
      ∧ r.2.mem ((c.tc : Thread Cert.ReduceF2W3.nD Cert.ReduceF2W3.τ).loc Cert.ReduceF2W3.main_arg5) = m ((c.tc : Thread Cert.ReduceF2W3.nD Cert.ReduceF2W3.τ).loc Cert.ReduceF2W3.main_arg5)
      ∧ r.2.mem ((c.tc : Thread Cert.ReduceF2W3.nD Cert.ReduceF2W3.τ).loc Cert.ReduceF2W3.main_arg6) = m ((c.tc : Thread Cert.ReduceF2W3.nD Cert.ReduceF2W3.τ).loc Cert.ReduceF2W3.main_arg6))
      ∧ r.2.sem = fun _ => 0)

def quiescent_ReduceF2W3Ideal [hReduceF2W3Ideal : Cert.ReduceF2W3Ideal.Facts] : Prop :=
  ∀ (m : (ℓ : Loc Cert.ReduceF2W3Ideal.nD Cert.ReduceF2W3Ideal.τ Cert.ReduceF2W3Ideal.sig) → Buf (Elt Ideal) ℓ) (g : Dev Cert.ReduceF2W3Ideal.nD → PrngReg), Pre_ReduceF2W3Ideal m →
    θ_run (Cert.ReduceF2W3Ideal.defs (F := Ideal)) (onTc (τ := Cert.ReduceF2W3Ideal.τ) (Cert.ReduceF2W3Ideal.main (F := Ideal))) ⟨m, fun _ => 0, g⟩ (fun r => (∀ c : Dev Cert.ReduceF2W3Ideal.nD,
      r.2.mem ((c.tc : Thread Cert.ReduceF2W3Ideal.nD Cert.ReduceF2W3Ideal.τ).loc Cert.ReduceF2W3Ideal.main_arg0) = m ((c.tc : Thread Cert.ReduceF2W3Ideal.nD Cert.ReduceF2W3Ideal.τ).loc Cert.ReduceF2W3Ideal.main_arg0)
      ∧ r.2.mem ((c.tc : Thread Cert.ReduceF2W3Ideal.nD Cert.ReduceF2W3Ideal.τ).loc Cert.ReduceF2W3Ideal.main_arg1) = m ((c.tc : Thread Cert.ReduceF2W3Ideal.nD Cert.ReduceF2W3Ideal.τ).loc Cert.ReduceF2W3Ideal.main_arg1)
      ∧ r.2.mem ((c.tc : Thread Cert.ReduceF2W3Ideal.nD Cert.ReduceF2W3Ideal.τ).loc Cert.ReduceF2W3Ideal.main_arg2) = m ((c.tc : Thread Cert.ReduceF2W3Ideal.nD Cert.ReduceF2W3Ideal.τ).loc Cert.ReduceF2W3Ideal.main_arg2)
      ∧ r.2.mem ((c.tc : Thread Cert.ReduceF2W3Ideal.nD Cert.ReduceF2W3Ideal.τ).loc Cert.ReduceF2W3Ideal.main_arg3) = m ((c.tc : Thread Cert.ReduceF2W3Ideal.nD Cert.ReduceF2W3Ideal.τ).loc Cert.ReduceF2W3Ideal.main_arg3)
      ∧ r.2.mem ((c.tc : Thread Cert.ReduceF2W3Ideal.nD Cert.ReduceF2W3Ideal.τ).loc Cert.ReduceF2W3Ideal.main_arg4) = m ((c.tc : Thread Cert.ReduceF2W3Ideal.nD Cert.ReduceF2W3Ideal.τ).loc Cert.ReduceF2W3Ideal.main_arg4)
      ∧ r.2.mem ((c.tc : Thread Cert.ReduceF2W3Ideal.nD Cert.ReduceF2W3Ideal.τ).loc Cert.ReduceF2W3Ideal.main_arg5) = m ((c.tc : Thread Cert.ReduceF2W3Ideal.nD Cert.ReduceF2W3Ideal.τ).loc Cert.ReduceF2W3Ideal.main_arg5)
      ∧ r.2.mem ((c.tc : Thread Cert.ReduceF2W3Ideal.nD Cert.ReduceF2W3Ideal.τ).loc Cert.ReduceF2W3Ideal.main_arg6) = m ((c.tc : Thread Cert.ReduceF2W3Ideal.nD Cert.ReduceF2W3Ideal.τ).loc Cert.ReduceF2W3Ideal.main_arg6))
      ∧ r.2.sem = fun _ => 0)

def quiescent_ReduceF2W3ReferenceIdeal [hReduceF2W3ReferenceIdeal : Cert.ReduceF2W3ReferenceIdeal.Facts] : Prop :=
  ∀ (m : (ℓ : Loc Cert.ReduceF2W3ReferenceIdeal.nD Cert.ReduceF2W3ReferenceIdeal.τ Cert.ReduceF2W3ReferenceIdeal.sig) → Buf (Elt Ideal) ℓ) (g : Dev Cert.ReduceF2W3ReferenceIdeal.nD → PrngReg), Pre_ReduceF2W3ReferenceIdeal m →
    θ_run (Cert.ReduceF2W3ReferenceIdeal.defs (F := Ideal)) (onTc (τ := Cert.ReduceF2W3ReferenceIdeal.τ) (Cert.ReduceF2W3ReferenceIdeal.main (F := Ideal))) ⟨m, fun _ => 0, g⟩ (fun r => (∀ c : Dev Cert.ReduceF2W3ReferenceIdeal.nD,
      r.2.mem ((c.tc : Thread Cert.ReduceF2W3ReferenceIdeal.nD Cert.ReduceF2W3ReferenceIdeal.τ).loc Cert.ReduceF2W3ReferenceIdeal.main_arg0) = m ((c.tc : Thread Cert.ReduceF2W3ReferenceIdeal.nD Cert.ReduceF2W3ReferenceIdeal.τ).loc Cert.ReduceF2W3ReferenceIdeal.main_arg0)
      ∧ r.2.mem ((c.tc : Thread Cert.ReduceF2W3ReferenceIdeal.nD Cert.ReduceF2W3ReferenceIdeal.τ).loc Cert.ReduceF2W3ReferenceIdeal.main_arg1) = m ((c.tc : Thread Cert.ReduceF2W3ReferenceIdeal.nD Cert.ReduceF2W3ReferenceIdeal.τ).loc Cert.ReduceF2W3ReferenceIdeal.main_arg1)
      ∧ r.2.mem ((c.tc : Thread Cert.ReduceF2W3ReferenceIdeal.nD Cert.ReduceF2W3ReferenceIdeal.τ).loc Cert.ReduceF2W3ReferenceIdeal.main_arg2) = m ((c.tc : Thread Cert.ReduceF2W3ReferenceIdeal.nD Cert.ReduceF2W3ReferenceIdeal.τ).loc Cert.ReduceF2W3ReferenceIdeal.main_arg2)
      ∧ r.2.mem ((c.tc : Thread Cert.ReduceF2W3ReferenceIdeal.nD Cert.ReduceF2W3ReferenceIdeal.τ).loc Cert.ReduceF2W3ReferenceIdeal.main_arg3) = m ((c.tc : Thread Cert.ReduceF2W3ReferenceIdeal.nD Cert.ReduceF2W3ReferenceIdeal.τ).loc Cert.ReduceF2W3ReferenceIdeal.main_arg3)
      ∧ r.2.mem ((c.tc : Thread Cert.ReduceF2W3ReferenceIdeal.nD Cert.ReduceF2W3ReferenceIdeal.τ).loc Cert.ReduceF2W3ReferenceIdeal.main_arg4) = m ((c.tc : Thread Cert.ReduceF2W3ReferenceIdeal.nD Cert.ReduceF2W3ReferenceIdeal.τ).loc Cert.ReduceF2W3ReferenceIdeal.main_arg4)
      ∧ r.2.mem ((c.tc : Thread Cert.ReduceF2W3ReferenceIdeal.nD Cert.ReduceF2W3ReferenceIdeal.τ).loc Cert.ReduceF2W3ReferenceIdeal.main_arg5) = m ((c.tc : Thread Cert.ReduceF2W3ReferenceIdeal.nD Cert.ReduceF2W3ReferenceIdeal.τ).loc Cert.ReduceF2W3ReferenceIdeal.main_arg5)
      ∧ r.2.mem ((c.tc : Thread Cert.ReduceF2W3ReferenceIdeal.nD Cert.ReduceF2W3ReferenceIdeal.τ).loc Cert.ReduceF2W3ReferenceIdeal.main_arg6) = m ((c.tc : Thread Cert.ReduceF2W3ReferenceIdeal.nD Cert.ReduceF2W3ReferenceIdeal.τ).loc Cert.ReduceF2W3ReferenceIdeal.main_arg6))
      ∧ r.2.sem = fun _ => 0)

def quiescent_ReduceF2W2 [hReduceF2W2 : Cert.ReduceF2W2.Facts] : Prop :=
  ∀ (m : (ℓ : Loc Cert.ReduceF2W2.nD Cert.ReduceF2W2.τ Cert.ReduceF2W2.sig) → Buf (Elt Bits) ℓ) (g : Dev Cert.ReduceF2W2.nD → PrngReg), Pre_ReduceF2W2 m →
    θ_run (Cert.ReduceF2W2.defs (F := Bits)) (onTc (τ := Cert.ReduceF2W2.τ) (Cert.ReduceF2W2.main (F := Bits))) ⟨m, fun _ => 0, g⟩ (fun r => (∀ c : Dev Cert.ReduceF2W2.nD,
      r.2.mem ((c.tc : Thread Cert.ReduceF2W2.nD Cert.ReduceF2W2.τ).loc Cert.ReduceF2W2.main_arg0) = m ((c.tc : Thread Cert.ReduceF2W2.nD Cert.ReduceF2W2.τ).loc Cert.ReduceF2W2.main_arg0)
      ∧ r.2.mem ((c.tc : Thread Cert.ReduceF2W2.nD Cert.ReduceF2W2.τ).loc Cert.ReduceF2W2.main_arg1) = m ((c.tc : Thread Cert.ReduceF2W2.nD Cert.ReduceF2W2.τ).loc Cert.ReduceF2W2.main_arg1)
      ∧ r.2.mem ((c.tc : Thread Cert.ReduceF2W2.nD Cert.ReduceF2W2.τ).loc Cert.ReduceF2W2.main_arg2) = m ((c.tc : Thread Cert.ReduceF2W2.nD Cert.ReduceF2W2.τ).loc Cert.ReduceF2W2.main_arg2)
      ∧ r.2.mem ((c.tc : Thread Cert.ReduceF2W2.nD Cert.ReduceF2W2.τ).loc Cert.ReduceF2W2.main_arg3) = m ((c.tc : Thread Cert.ReduceF2W2.nD Cert.ReduceF2W2.τ).loc Cert.ReduceF2W2.main_arg3)
      ∧ r.2.mem ((c.tc : Thread Cert.ReduceF2W2.nD Cert.ReduceF2W2.τ).loc Cert.ReduceF2W2.main_arg4) = m ((c.tc : Thread Cert.ReduceF2W2.nD Cert.ReduceF2W2.τ).loc Cert.ReduceF2W2.main_arg4)
      ∧ r.2.mem ((c.tc : Thread Cert.ReduceF2W2.nD Cert.ReduceF2W2.τ).loc Cert.ReduceF2W2.main_arg5) = m ((c.tc : Thread Cert.ReduceF2W2.nD Cert.ReduceF2W2.τ).loc Cert.ReduceF2W2.main_arg5)
      ∧ r.2.mem ((c.tc : Thread Cert.ReduceF2W2.nD Cert.ReduceF2W2.τ).loc Cert.ReduceF2W2.main_arg6) = m ((c.tc : Thread Cert.ReduceF2W2.nD Cert.ReduceF2W2.τ).loc Cert.ReduceF2W2.main_arg6))
      ∧ r.2.sem = fun _ => 0)

def quiescent_ReduceF2W2Ideal [hReduceF2W2Ideal : Cert.ReduceF2W2Ideal.Facts] : Prop :=
  ∀ (m : (ℓ : Loc Cert.ReduceF2W2Ideal.nD Cert.ReduceF2W2Ideal.τ Cert.ReduceF2W2Ideal.sig) → Buf (Elt Ideal) ℓ) (g : Dev Cert.ReduceF2W2Ideal.nD → PrngReg), Pre_ReduceF2W2Ideal m →
    θ_run (Cert.ReduceF2W2Ideal.defs (F := Ideal)) (onTc (τ := Cert.ReduceF2W2Ideal.τ) (Cert.ReduceF2W2Ideal.main (F := Ideal))) ⟨m, fun _ => 0, g⟩ (fun r => (∀ c : Dev Cert.ReduceF2W2Ideal.nD,
      r.2.mem ((c.tc : Thread Cert.ReduceF2W2Ideal.nD Cert.ReduceF2W2Ideal.τ).loc Cert.ReduceF2W2Ideal.main_arg0) = m ((c.tc : Thread Cert.ReduceF2W2Ideal.nD Cert.ReduceF2W2Ideal.τ).loc Cert.ReduceF2W2Ideal.main_arg0)
      ∧ r.2.mem ((c.tc : Thread Cert.ReduceF2W2Ideal.nD Cert.ReduceF2W2Ideal.τ).loc Cert.ReduceF2W2Ideal.main_arg1) = m ((c.tc : Thread Cert.ReduceF2W2Ideal.nD Cert.ReduceF2W2Ideal.τ).loc Cert.ReduceF2W2Ideal.main_arg1)
      ∧ r.2.mem ((c.tc : Thread Cert.ReduceF2W2Ideal.nD Cert.ReduceF2W2Ideal.τ).loc Cert.ReduceF2W2Ideal.main_arg2) = m ((c.tc : Thread Cert.ReduceF2W2Ideal.nD Cert.ReduceF2W2Ideal.τ).loc Cert.ReduceF2W2Ideal.main_arg2)
      ∧ r.2.mem ((c.tc : Thread Cert.ReduceF2W2Ideal.nD Cert.ReduceF2W2Ideal.τ).loc Cert.ReduceF2W2Ideal.main_arg3) = m ((c.tc : Thread Cert.ReduceF2W2Ideal.nD Cert.ReduceF2W2Ideal.τ).loc Cert.ReduceF2W2Ideal.main_arg3)
      ∧ r.2.mem ((c.tc : Thread Cert.ReduceF2W2Ideal.nD Cert.ReduceF2W2Ideal.τ).loc Cert.ReduceF2W2Ideal.main_arg4) = m ((c.tc : Thread Cert.ReduceF2W2Ideal.nD Cert.ReduceF2W2Ideal.τ).loc Cert.ReduceF2W2Ideal.main_arg4)
      ∧ r.2.mem ((c.tc : Thread Cert.ReduceF2W2Ideal.nD Cert.ReduceF2W2Ideal.τ).loc Cert.ReduceF2W2Ideal.main_arg5) = m ((c.tc : Thread Cert.ReduceF2W2Ideal.nD Cert.ReduceF2W2Ideal.τ).loc Cert.ReduceF2W2Ideal.main_arg5)
      ∧ r.2.mem ((c.tc : Thread Cert.ReduceF2W2Ideal.nD Cert.ReduceF2W2Ideal.τ).loc Cert.ReduceF2W2Ideal.main_arg6) = m ((c.tc : Thread Cert.ReduceF2W2Ideal.nD Cert.ReduceF2W2Ideal.τ).loc Cert.ReduceF2W2Ideal.main_arg6))
      ∧ r.2.sem = fun _ => 0)

def quiescent_ReduceF2W2ReferenceIdeal [hReduceF2W2ReferenceIdeal : Cert.ReduceF2W2ReferenceIdeal.Facts] : Prop :=
  ∀ (m : (ℓ : Loc Cert.ReduceF2W2ReferenceIdeal.nD Cert.ReduceF2W2ReferenceIdeal.τ Cert.ReduceF2W2ReferenceIdeal.sig) → Buf (Elt Ideal) ℓ) (g : Dev Cert.ReduceF2W2ReferenceIdeal.nD → PrngReg), Pre_ReduceF2W2ReferenceIdeal m →
    θ_run (Cert.ReduceF2W2ReferenceIdeal.defs (F := Ideal)) (onTc (τ := Cert.ReduceF2W2ReferenceIdeal.τ) (Cert.ReduceF2W2ReferenceIdeal.main (F := Ideal))) ⟨m, fun _ => 0, g⟩ (fun r => (∀ c : Dev Cert.ReduceF2W2ReferenceIdeal.nD,
      r.2.mem ((c.tc : Thread Cert.ReduceF2W2ReferenceIdeal.nD Cert.ReduceF2W2ReferenceIdeal.τ).loc Cert.ReduceF2W2ReferenceIdeal.main_arg0) = m ((c.tc : Thread Cert.ReduceF2W2ReferenceIdeal.nD Cert.ReduceF2W2ReferenceIdeal.τ).loc Cert.ReduceF2W2ReferenceIdeal.main_arg0)
      ∧ r.2.mem ((c.tc : Thread Cert.ReduceF2W2ReferenceIdeal.nD Cert.ReduceF2W2ReferenceIdeal.τ).loc Cert.ReduceF2W2ReferenceIdeal.main_arg1) = m ((c.tc : Thread Cert.ReduceF2W2ReferenceIdeal.nD Cert.ReduceF2W2ReferenceIdeal.τ).loc Cert.ReduceF2W2ReferenceIdeal.main_arg1)
      ∧ r.2.mem ((c.tc : Thread Cert.ReduceF2W2ReferenceIdeal.nD Cert.ReduceF2W2ReferenceIdeal.τ).loc Cert.ReduceF2W2ReferenceIdeal.main_arg2) = m ((c.tc : Thread Cert.ReduceF2W2ReferenceIdeal.nD Cert.ReduceF2W2ReferenceIdeal.τ).loc Cert.ReduceF2W2ReferenceIdeal.main_arg2)
      ∧ r.2.mem ((c.tc : Thread Cert.ReduceF2W2ReferenceIdeal.nD Cert.ReduceF2W2ReferenceIdeal.τ).loc Cert.ReduceF2W2ReferenceIdeal.main_arg3) = m ((c.tc : Thread Cert.ReduceF2W2ReferenceIdeal.nD Cert.ReduceF2W2ReferenceIdeal.τ).loc Cert.ReduceF2W2ReferenceIdeal.main_arg3)
      ∧ r.2.mem ((c.tc : Thread Cert.ReduceF2W2ReferenceIdeal.nD Cert.ReduceF2W2ReferenceIdeal.τ).loc Cert.ReduceF2W2ReferenceIdeal.main_arg4) = m ((c.tc : Thread Cert.ReduceF2W2ReferenceIdeal.nD Cert.ReduceF2W2ReferenceIdeal.τ).loc Cert.ReduceF2W2ReferenceIdeal.main_arg4)
      ∧ r.2.mem ((c.tc : Thread Cert.ReduceF2W2ReferenceIdeal.nD Cert.ReduceF2W2ReferenceIdeal.τ).loc Cert.ReduceF2W2ReferenceIdeal.main_arg5) = m ((c.tc : Thread Cert.ReduceF2W2ReferenceIdeal.nD Cert.ReduceF2W2ReferenceIdeal.τ).loc Cert.ReduceF2W2ReferenceIdeal.main_arg5)
      ∧ r.2.mem ((c.tc : Thread Cert.ReduceF2W2ReferenceIdeal.nD Cert.ReduceF2W2ReferenceIdeal.τ).loc Cert.ReduceF2W2ReferenceIdeal.main_arg6) = m ((c.tc : Thread Cert.ReduceF2W2ReferenceIdeal.nD Cert.ReduceF2W2ReferenceIdeal.τ).loc Cert.ReduceF2W2ReferenceIdeal.main_arg6))
      ∧ r.2.sem = fun _ => 0)

def quiescent_ReduceOut [hReduceOut : Cert.ReduceOut.Facts] : Prop :=
  ∀ (m : (ℓ : Loc Cert.ReduceOut.nD Cert.ReduceOut.τ Cert.ReduceOut.sig) → Buf (Elt Bits) ℓ) (g : Dev Cert.ReduceOut.nD → PrngReg), Pre_ReduceOut m →
    θ_run (Cert.ReduceOut.defs (F := Bits)) (onTc (τ := Cert.ReduceOut.τ) (Cert.ReduceOut.main (F := Bits))) ⟨m, fun _ => 0, g⟩ (fun r => (∀ c : Dev Cert.ReduceOut.nD,
      r.2.mem ((c.tc : Thread Cert.ReduceOut.nD Cert.ReduceOut.τ).loc Cert.ReduceOut.main_arg0) = m ((c.tc : Thread Cert.ReduceOut.nD Cert.ReduceOut.τ).loc Cert.ReduceOut.main_arg0)
      ∧ r.2.mem ((c.tc : Thread Cert.ReduceOut.nD Cert.ReduceOut.τ).loc Cert.ReduceOut.main_arg1) = m ((c.tc : Thread Cert.ReduceOut.nD Cert.ReduceOut.τ).loc Cert.ReduceOut.main_arg1)
      ∧ r.2.mem ((c.tc : Thread Cert.ReduceOut.nD Cert.ReduceOut.τ).loc Cert.ReduceOut.main_arg2) = m ((c.tc : Thread Cert.ReduceOut.nD Cert.ReduceOut.τ).loc Cert.ReduceOut.main_arg2)
      ∧ r.2.mem ((c.tc : Thread Cert.ReduceOut.nD Cert.ReduceOut.τ).loc Cert.ReduceOut.main_arg3) = m ((c.tc : Thread Cert.ReduceOut.nD Cert.ReduceOut.τ).loc Cert.ReduceOut.main_arg3)
      ∧ r.2.mem ((c.tc : Thread Cert.ReduceOut.nD Cert.ReduceOut.τ).loc Cert.ReduceOut.main_arg4) = m ((c.tc : Thread Cert.ReduceOut.nD Cert.ReduceOut.τ).loc Cert.ReduceOut.main_arg4)
      ∧ r.2.mem ((c.tc : Thread Cert.ReduceOut.nD Cert.ReduceOut.τ).loc Cert.ReduceOut.main_arg5) = m ((c.tc : Thread Cert.ReduceOut.nD Cert.ReduceOut.τ).loc Cert.ReduceOut.main_arg5)
      ∧ r.2.mem ((c.tc : Thread Cert.ReduceOut.nD Cert.ReduceOut.τ).loc Cert.ReduceOut.main_arg6) = m ((c.tc : Thread Cert.ReduceOut.nD Cert.ReduceOut.τ).loc Cert.ReduceOut.main_arg6))
      ∧ r.2.sem = fun _ => 0)

def quiescent_ReduceOutIdeal [hReduceOutIdeal : Cert.ReduceOutIdeal.Facts] : Prop :=
  ∀ (m : (ℓ : Loc Cert.ReduceOutIdeal.nD Cert.ReduceOutIdeal.τ Cert.ReduceOutIdeal.sig) → Buf (Elt Ideal) ℓ) (g : Dev Cert.ReduceOutIdeal.nD → PrngReg), Pre_ReduceOutIdeal m →
    θ_run (Cert.ReduceOutIdeal.defs (F := Ideal)) (onTc (τ := Cert.ReduceOutIdeal.τ) (Cert.ReduceOutIdeal.main (F := Ideal))) ⟨m, fun _ => 0, g⟩ (fun r => (∀ c : Dev Cert.ReduceOutIdeal.nD,
      r.2.mem ((c.tc : Thread Cert.ReduceOutIdeal.nD Cert.ReduceOutIdeal.τ).loc Cert.ReduceOutIdeal.main_arg0) = m ((c.tc : Thread Cert.ReduceOutIdeal.nD Cert.ReduceOutIdeal.τ).loc Cert.ReduceOutIdeal.main_arg0)
      ∧ r.2.mem ((c.tc : Thread Cert.ReduceOutIdeal.nD Cert.ReduceOutIdeal.τ).loc Cert.ReduceOutIdeal.main_arg1) = m ((c.tc : Thread Cert.ReduceOutIdeal.nD Cert.ReduceOutIdeal.τ).loc Cert.ReduceOutIdeal.main_arg1)
      ∧ r.2.mem ((c.tc : Thread Cert.ReduceOutIdeal.nD Cert.ReduceOutIdeal.τ).loc Cert.ReduceOutIdeal.main_arg2) = m ((c.tc : Thread Cert.ReduceOutIdeal.nD Cert.ReduceOutIdeal.τ).loc Cert.ReduceOutIdeal.main_arg2)
      ∧ r.2.mem ((c.tc : Thread Cert.ReduceOutIdeal.nD Cert.ReduceOutIdeal.τ).loc Cert.ReduceOutIdeal.main_arg3) = m ((c.tc : Thread Cert.ReduceOutIdeal.nD Cert.ReduceOutIdeal.τ).loc Cert.ReduceOutIdeal.main_arg3)
      ∧ r.2.mem ((c.tc : Thread Cert.ReduceOutIdeal.nD Cert.ReduceOutIdeal.τ).loc Cert.ReduceOutIdeal.main_arg4) = m ((c.tc : Thread Cert.ReduceOutIdeal.nD Cert.ReduceOutIdeal.τ).loc Cert.ReduceOutIdeal.main_arg4)
      ∧ r.2.mem ((c.tc : Thread Cert.ReduceOutIdeal.nD Cert.ReduceOutIdeal.τ).loc Cert.ReduceOutIdeal.main_arg5) = m ((c.tc : Thread Cert.ReduceOutIdeal.nD Cert.ReduceOutIdeal.τ).loc Cert.ReduceOutIdeal.main_arg5)
      ∧ r.2.mem ((c.tc : Thread Cert.ReduceOutIdeal.nD Cert.ReduceOutIdeal.τ).loc Cert.ReduceOutIdeal.main_arg6) = m ((c.tc : Thread Cert.ReduceOutIdeal.nD Cert.ReduceOutIdeal.τ).loc Cert.ReduceOutIdeal.main_arg6))
      ∧ r.2.sem = fun _ => 0)

def quiescent_ReduceOutReferenceIdeal [hReduceOutReferenceIdeal : Cert.ReduceOutReferenceIdeal.Facts] : Prop :=
  ∀ (m : (ℓ : Loc Cert.ReduceOutReferenceIdeal.nD Cert.ReduceOutReferenceIdeal.τ Cert.ReduceOutReferenceIdeal.sig) → Buf (Elt Ideal) ℓ) (g : Dev Cert.ReduceOutReferenceIdeal.nD → PrngReg), Pre_ReduceOutReferenceIdeal m →
    θ_run (Cert.ReduceOutReferenceIdeal.defs (F := Ideal)) (onTc (τ := Cert.ReduceOutReferenceIdeal.τ) (Cert.ReduceOutReferenceIdeal.main (F := Ideal))) ⟨m, fun _ => 0, g⟩ (fun r => (∀ c : Dev Cert.ReduceOutReferenceIdeal.nD,
      r.2.mem ((c.tc : Thread Cert.ReduceOutReferenceIdeal.nD Cert.ReduceOutReferenceIdeal.τ).loc Cert.ReduceOutReferenceIdeal.main_arg0) = m ((c.tc : Thread Cert.ReduceOutReferenceIdeal.nD Cert.ReduceOutReferenceIdeal.τ).loc Cert.ReduceOutReferenceIdeal.main_arg0)
      ∧ r.2.mem ((c.tc : Thread Cert.ReduceOutReferenceIdeal.nD Cert.ReduceOutReferenceIdeal.τ).loc Cert.ReduceOutReferenceIdeal.main_arg1) = m ((c.tc : Thread Cert.ReduceOutReferenceIdeal.nD Cert.ReduceOutReferenceIdeal.τ).loc Cert.ReduceOutReferenceIdeal.main_arg1)
      ∧ r.2.mem ((c.tc : Thread Cert.ReduceOutReferenceIdeal.nD Cert.ReduceOutReferenceIdeal.τ).loc Cert.ReduceOutReferenceIdeal.main_arg2) = m ((c.tc : Thread Cert.ReduceOutReferenceIdeal.nD Cert.ReduceOutReferenceIdeal.τ).loc Cert.ReduceOutReferenceIdeal.main_arg2)
      ∧ r.2.mem ((c.tc : Thread Cert.ReduceOutReferenceIdeal.nD Cert.ReduceOutReferenceIdeal.τ).loc Cert.ReduceOutReferenceIdeal.main_arg3) = m ((c.tc : Thread Cert.ReduceOutReferenceIdeal.nD Cert.ReduceOutReferenceIdeal.τ).loc Cert.ReduceOutReferenceIdeal.main_arg3)
      ∧ r.2.mem ((c.tc : Thread Cert.ReduceOutReferenceIdeal.nD Cert.ReduceOutReferenceIdeal.τ).loc Cert.ReduceOutReferenceIdeal.main_arg4) = m ((c.tc : Thread Cert.ReduceOutReferenceIdeal.nD Cert.ReduceOutReferenceIdeal.τ).loc Cert.ReduceOutReferenceIdeal.main_arg4)
      ∧ r.2.mem ((c.tc : Thread Cert.ReduceOutReferenceIdeal.nD Cert.ReduceOutReferenceIdeal.τ).loc Cert.ReduceOutReferenceIdeal.main_arg5) = m ((c.tc : Thread Cert.ReduceOutReferenceIdeal.nD Cert.ReduceOutReferenceIdeal.τ).loc Cert.ReduceOutReferenceIdeal.main_arg5)
      ∧ r.2.mem ((c.tc : Thread Cert.ReduceOutReferenceIdeal.nD Cert.ReduceOutReferenceIdeal.τ).loc Cert.ReduceOutReferenceIdeal.main_arg6) = m ((c.tc : Thread Cert.ReduceOutReferenceIdeal.nD Cert.ReduceOutReferenceIdeal.τ).loc Cert.ReduceOutReferenceIdeal.main_arg6))
      ∧ r.2.sem = fun _ => 0)

def quiescent_ReduceIn [hReduceIn : Cert.ReduceIn.Facts] : Prop :=
  ∀ (m : (ℓ : Loc Cert.ReduceIn.nD Cert.ReduceIn.τ Cert.ReduceIn.sig) → Buf (Elt Bits) ℓ) (g : Dev Cert.ReduceIn.nD → PrngReg), Pre_ReduceIn m →
    θ_run (Cert.ReduceIn.defs (F := Bits)) (onTc (τ := Cert.ReduceIn.τ) (Cert.ReduceIn.main (F := Bits))) ⟨m, fun _ => 0, g⟩ (fun r => (∀ c : Dev Cert.ReduceIn.nD,
      r.2.mem ((c.tc : Thread Cert.ReduceIn.nD Cert.ReduceIn.τ).loc Cert.ReduceIn.main_arg0) = m ((c.tc : Thread Cert.ReduceIn.nD Cert.ReduceIn.τ).loc Cert.ReduceIn.main_arg0)
      ∧ r.2.mem ((c.tc : Thread Cert.ReduceIn.nD Cert.ReduceIn.τ).loc Cert.ReduceIn.main_arg1) = m ((c.tc : Thread Cert.ReduceIn.nD Cert.ReduceIn.τ).loc Cert.ReduceIn.main_arg1)
      ∧ r.2.mem ((c.tc : Thread Cert.ReduceIn.nD Cert.ReduceIn.τ).loc Cert.ReduceIn.main_arg2) = m ((c.tc : Thread Cert.ReduceIn.nD Cert.ReduceIn.τ).loc Cert.ReduceIn.main_arg2)
      ∧ r.2.mem ((c.tc : Thread Cert.ReduceIn.nD Cert.ReduceIn.τ).loc Cert.ReduceIn.main_arg3) = m ((c.tc : Thread Cert.ReduceIn.nD Cert.ReduceIn.τ).loc Cert.ReduceIn.main_arg3)
      ∧ r.2.mem ((c.tc : Thread Cert.ReduceIn.nD Cert.ReduceIn.τ).loc Cert.ReduceIn.main_arg4) = m ((c.tc : Thread Cert.ReduceIn.nD Cert.ReduceIn.τ).loc Cert.ReduceIn.main_arg4)
      ∧ r.2.mem ((c.tc : Thread Cert.ReduceIn.nD Cert.ReduceIn.τ).loc Cert.ReduceIn.main_arg5) = m ((c.tc : Thread Cert.ReduceIn.nD Cert.ReduceIn.τ).loc Cert.ReduceIn.main_arg5)
      ∧ r.2.mem ((c.tc : Thread Cert.ReduceIn.nD Cert.ReduceIn.τ).loc Cert.ReduceIn.main_arg6) = m ((c.tc : Thread Cert.ReduceIn.nD Cert.ReduceIn.τ).loc Cert.ReduceIn.main_arg6))
      ∧ r.2.sem = fun _ => 0)

def quiescent_ReduceInIdeal [hReduceInIdeal : Cert.ReduceInIdeal.Facts] : Prop :=
  ∀ (m : (ℓ : Loc Cert.ReduceInIdeal.nD Cert.ReduceInIdeal.τ Cert.ReduceInIdeal.sig) → Buf (Elt Ideal) ℓ) (g : Dev Cert.ReduceInIdeal.nD → PrngReg), Pre_ReduceInIdeal m →
    θ_run (Cert.ReduceInIdeal.defs (F := Ideal)) (onTc (τ := Cert.ReduceInIdeal.τ) (Cert.ReduceInIdeal.main (F := Ideal))) ⟨m, fun _ => 0, g⟩ (fun r => (∀ c : Dev Cert.ReduceInIdeal.nD,
      r.2.mem ((c.tc : Thread Cert.ReduceInIdeal.nD Cert.ReduceInIdeal.τ).loc Cert.ReduceInIdeal.main_arg0) = m ((c.tc : Thread Cert.ReduceInIdeal.nD Cert.ReduceInIdeal.τ).loc Cert.ReduceInIdeal.main_arg0)
      ∧ r.2.mem ((c.tc : Thread Cert.ReduceInIdeal.nD Cert.ReduceInIdeal.τ).loc Cert.ReduceInIdeal.main_arg1) = m ((c.tc : Thread Cert.ReduceInIdeal.nD Cert.ReduceInIdeal.τ).loc Cert.ReduceInIdeal.main_arg1)
      ∧ r.2.mem ((c.tc : Thread Cert.ReduceInIdeal.nD Cert.ReduceInIdeal.τ).loc Cert.ReduceInIdeal.main_arg2) = m ((c.tc : Thread Cert.ReduceInIdeal.nD Cert.ReduceInIdeal.τ).loc Cert.ReduceInIdeal.main_arg2)
      ∧ r.2.mem ((c.tc : Thread Cert.ReduceInIdeal.nD Cert.ReduceInIdeal.τ).loc Cert.ReduceInIdeal.main_arg3) = m ((c.tc : Thread Cert.ReduceInIdeal.nD Cert.ReduceInIdeal.τ).loc Cert.ReduceInIdeal.main_arg3)
      ∧ r.2.mem ((c.tc : Thread Cert.ReduceInIdeal.nD Cert.ReduceInIdeal.τ).loc Cert.ReduceInIdeal.main_arg4) = m ((c.tc : Thread Cert.ReduceInIdeal.nD Cert.ReduceInIdeal.τ).loc Cert.ReduceInIdeal.main_arg4)
      ∧ r.2.mem ((c.tc : Thread Cert.ReduceInIdeal.nD Cert.ReduceInIdeal.τ).loc Cert.ReduceInIdeal.main_arg5) = m ((c.tc : Thread Cert.ReduceInIdeal.nD Cert.ReduceInIdeal.τ).loc Cert.ReduceInIdeal.main_arg5)
      ∧ r.2.mem ((c.tc : Thread Cert.ReduceInIdeal.nD Cert.ReduceInIdeal.τ).loc Cert.ReduceInIdeal.main_arg6) = m ((c.tc : Thread Cert.ReduceInIdeal.nD Cert.ReduceInIdeal.τ).loc Cert.ReduceInIdeal.main_arg6))
      ∧ r.2.sem = fun _ => 0)

def quiescent_ReduceInReferenceIdeal [hReduceInReferenceIdeal : Cert.ReduceInReferenceIdeal.Facts] : Prop :=
  ∀ (m : (ℓ : Loc Cert.ReduceInReferenceIdeal.nD Cert.ReduceInReferenceIdeal.τ Cert.ReduceInReferenceIdeal.sig) → Buf (Elt Ideal) ℓ) (g : Dev Cert.ReduceInReferenceIdeal.nD → PrngReg), Pre_ReduceInReferenceIdeal m →
    θ_run (Cert.ReduceInReferenceIdeal.defs (F := Ideal)) (onTc (τ := Cert.ReduceInReferenceIdeal.τ) (Cert.ReduceInReferenceIdeal.main (F := Ideal))) ⟨m, fun _ => 0, g⟩ (fun r => (∀ c : Dev Cert.ReduceInReferenceIdeal.nD,
      r.2.mem ((c.tc : Thread Cert.ReduceInReferenceIdeal.nD Cert.ReduceInReferenceIdeal.τ).loc Cert.ReduceInReferenceIdeal.main_arg0) = m ((c.tc : Thread Cert.ReduceInReferenceIdeal.nD Cert.ReduceInReferenceIdeal.τ).loc Cert.ReduceInReferenceIdeal.main_arg0)
      ∧ r.2.mem ((c.tc : Thread Cert.ReduceInReferenceIdeal.nD Cert.ReduceInReferenceIdeal.τ).loc Cert.ReduceInReferenceIdeal.main_arg1) = m ((c.tc : Thread Cert.ReduceInReferenceIdeal.nD Cert.ReduceInReferenceIdeal.τ).loc Cert.ReduceInReferenceIdeal.main_arg1)
      ∧ r.2.mem ((c.tc : Thread Cert.ReduceInReferenceIdeal.nD Cert.ReduceInReferenceIdeal.τ).loc Cert.ReduceInReferenceIdeal.main_arg2) = m ((c.tc : Thread Cert.ReduceInReferenceIdeal.nD Cert.ReduceInReferenceIdeal.τ).loc Cert.ReduceInReferenceIdeal.main_arg2)
      ∧ r.2.mem ((c.tc : Thread Cert.ReduceInReferenceIdeal.nD Cert.ReduceInReferenceIdeal.τ).loc Cert.ReduceInReferenceIdeal.main_arg3) = m ((c.tc : Thread Cert.ReduceInReferenceIdeal.nD Cert.ReduceInReferenceIdeal.τ).loc Cert.ReduceInReferenceIdeal.main_arg3)
      ∧ r.2.mem ((c.tc : Thread Cert.ReduceInReferenceIdeal.nD Cert.ReduceInReferenceIdeal.τ).loc Cert.ReduceInReferenceIdeal.main_arg4) = m ((c.tc : Thread Cert.ReduceInReferenceIdeal.nD Cert.ReduceInReferenceIdeal.τ).loc Cert.ReduceInReferenceIdeal.main_arg4)
      ∧ r.2.mem ((c.tc : Thread Cert.ReduceInReferenceIdeal.nD Cert.ReduceInReferenceIdeal.τ).loc Cert.ReduceInReferenceIdeal.main_arg5) = m ((c.tc : Thread Cert.ReduceInReferenceIdeal.nD Cert.ReduceInReferenceIdeal.τ).loc Cert.ReduceInReferenceIdeal.main_arg5)
      ∧ r.2.mem ((c.tc : Thread Cert.ReduceInReferenceIdeal.nD Cert.ReduceInReferenceIdeal.τ).loc Cert.ReduceInReferenceIdeal.main_arg6) = m ((c.tc : Thread Cert.ReduceInReferenceIdeal.nD Cert.ReduceInReferenceIdeal.τ).loc Cert.ReduceInReferenceIdeal.main_arg6))
      ∧ r.2.sem = fun _ => 0)

def quiescent_GradFirst13 [hGradFirst13 : Cert.GradFirst13.Facts] : Prop :=
  ∀ (m : (ℓ : Loc Cert.GradFirst13.nD Cert.GradFirst13.τ Cert.GradFirst13.sig) → Buf (Elt Bits) ℓ) (g : Dev Cert.GradFirst13.nD → PrngReg), Pre_GradFirst13 m →
    θ_run (Cert.GradFirst13.defs (F := Bits)) (onTc (τ := Cert.GradFirst13.τ) (Cert.GradFirst13.main (F := Bits))) ⟨m, fun _ => 0, g⟩ (fun r => (∀ c : Dev Cert.GradFirst13.nD,
      r.2.mem ((c.tc : Thread Cert.GradFirst13.nD Cert.GradFirst13.τ).loc Cert.GradFirst13.main_arg0) = m ((c.tc : Thread Cert.GradFirst13.nD Cert.GradFirst13.τ).loc Cert.GradFirst13.main_arg0)
      ∧ r.2.mem ((c.tc : Thread Cert.GradFirst13.nD Cert.GradFirst13.τ).loc Cert.GradFirst13.main_arg1) = m ((c.tc : Thread Cert.GradFirst13.nD Cert.GradFirst13.τ).loc Cert.GradFirst13.main_arg1)
      ∧ r.2.mem ((c.tc : Thread Cert.GradFirst13.nD Cert.GradFirst13.τ).loc Cert.GradFirst13.main_arg2) = m ((c.tc : Thread Cert.GradFirst13.nD Cert.GradFirst13.τ).loc Cert.GradFirst13.main_arg2))
      ∧ r.2.sem = fun _ => 0)

def quiescent_GradFirst13Ideal [hGradFirst13Ideal : Cert.GradFirst13Ideal.Facts] : Prop :=
  ∀ (m : (ℓ : Loc Cert.GradFirst13Ideal.nD Cert.GradFirst13Ideal.τ Cert.GradFirst13Ideal.sig) → Buf (Elt Ideal) ℓ) (g : Dev Cert.GradFirst13Ideal.nD → PrngReg), Pre_GradFirst13Ideal m →
    θ_run (Cert.GradFirst13Ideal.defs (F := Ideal)) (onTc (τ := Cert.GradFirst13Ideal.τ) (Cert.GradFirst13Ideal.main (F := Ideal))) ⟨m, fun _ => 0, g⟩ (fun r => (∀ c : Dev Cert.GradFirst13Ideal.nD,
      r.2.mem ((c.tc : Thread Cert.GradFirst13Ideal.nD Cert.GradFirst13Ideal.τ).loc Cert.GradFirst13Ideal.main_arg0) = m ((c.tc : Thread Cert.GradFirst13Ideal.nD Cert.GradFirst13Ideal.τ).loc Cert.GradFirst13Ideal.main_arg0)
      ∧ r.2.mem ((c.tc : Thread Cert.GradFirst13Ideal.nD Cert.GradFirst13Ideal.τ).loc Cert.GradFirst13Ideal.main_arg1) = m ((c.tc : Thread Cert.GradFirst13Ideal.nD Cert.GradFirst13Ideal.τ).loc Cert.GradFirst13Ideal.main_arg1)
      ∧ r.2.mem ((c.tc : Thread Cert.GradFirst13Ideal.nD Cert.GradFirst13Ideal.τ).loc Cert.GradFirst13Ideal.main_arg2) = m ((c.tc : Thread Cert.GradFirst13Ideal.nD Cert.GradFirst13Ideal.τ).loc Cert.GradFirst13Ideal.main_arg2))
      ∧ r.2.sem = fun _ => 0)

def quiescent_GradFirst13ReferenceIdeal [hGradFirst13ReferenceIdeal : Cert.GradFirst13ReferenceIdeal.Facts] : Prop :=
  ∀ (m : (ℓ : Loc Cert.GradFirst13ReferenceIdeal.nD Cert.GradFirst13ReferenceIdeal.τ Cert.GradFirst13ReferenceIdeal.sig) → Buf (Elt Ideal) ℓ) (g : Dev Cert.GradFirst13ReferenceIdeal.nD → PrngReg), Pre_GradFirst13ReferenceIdeal m →
    θ_run (Cert.GradFirst13ReferenceIdeal.defs (F := Ideal)) (onTc (τ := Cert.GradFirst13ReferenceIdeal.τ) (Cert.GradFirst13ReferenceIdeal.main (F := Ideal))) ⟨m, fun _ => 0, g⟩ (fun r => (∀ c : Dev Cert.GradFirst13ReferenceIdeal.nD,
      r.2.mem ((c.tc : Thread Cert.GradFirst13ReferenceIdeal.nD Cert.GradFirst13ReferenceIdeal.τ).loc Cert.GradFirst13ReferenceIdeal.main_arg0) = m ((c.tc : Thread Cert.GradFirst13ReferenceIdeal.nD Cert.GradFirst13ReferenceIdeal.τ).loc Cert.GradFirst13ReferenceIdeal.main_arg0)
      ∧ r.2.mem ((c.tc : Thread Cert.GradFirst13ReferenceIdeal.nD Cert.GradFirst13ReferenceIdeal.τ).loc Cert.GradFirst13ReferenceIdeal.main_arg1) = m ((c.tc : Thread Cert.GradFirst13ReferenceIdeal.nD Cert.GradFirst13ReferenceIdeal.τ).loc Cert.GradFirst13ReferenceIdeal.main_arg1)
      ∧ r.2.mem ((c.tc : Thread Cert.GradFirst13ReferenceIdeal.nD Cert.GradFirst13ReferenceIdeal.τ).loc Cert.GradFirst13ReferenceIdeal.main_arg2) = m ((c.tc : Thread Cert.GradFirst13ReferenceIdeal.nD Cert.GradFirst13ReferenceIdeal.τ).loc Cert.GradFirst13ReferenceIdeal.main_arg2))
      ∧ r.2.sem = fun _ => 0)

def quiescent_GradFirst2 [hGradFirst2 : Cert.GradFirst2.Facts] : Prop :=
  ∀ (m : (ℓ : Loc Cert.GradFirst2.nD Cert.GradFirst2.τ Cert.GradFirst2.sig) → Buf (Elt Bits) ℓ) (g : Dev Cert.GradFirst2.nD → PrngReg), Pre_GradFirst2 m →
    θ_run (Cert.GradFirst2.defs (F := Bits)) (onTc (τ := Cert.GradFirst2.τ) (Cert.GradFirst2.main (F := Bits))) ⟨m, fun _ => 0, g⟩ (fun r => (∀ c : Dev Cert.GradFirst2.nD,
      r.2.mem ((c.tc : Thread Cert.GradFirst2.nD Cert.GradFirst2.τ).loc Cert.GradFirst2.main_arg0) = m ((c.tc : Thread Cert.GradFirst2.nD Cert.GradFirst2.τ).loc Cert.GradFirst2.main_arg0)
      ∧ r.2.mem ((c.tc : Thread Cert.GradFirst2.nD Cert.GradFirst2.τ).loc Cert.GradFirst2.main_arg1) = m ((c.tc : Thread Cert.GradFirst2.nD Cert.GradFirst2.τ).loc Cert.GradFirst2.main_arg1)
      ∧ r.2.mem ((c.tc : Thread Cert.GradFirst2.nD Cert.GradFirst2.τ).loc Cert.GradFirst2.main_arg2) = m ((c.tc : Thread Cert.GradFirst2.nD Cert.GradFirst2.τ).loc Cert.GradFirst2.main_arg2))
      ∧ r.2.sem = fun _ => 0)

def quiescent_GradFirst2Ideal [hGradFirst2Ideal : Cert.GradFirst2Ideal.Facts] : Prop :=
  ∀ (m : (ℓ : Loc Cert.GradFirst2Ideal.nD Cert.GradFirst2Ideal.τ Cert.GradFirst2Ideal.sig) → Buf (Elt Ideal) ℓ) (g : Dev Cert.GradFirst2Ideal.nD → PrngReg), Pre_GradFirst2Ideal m →
    θ_run (Cert.GradFirst2Ideal.defs (F := Ideal)) (onTc (τ := Cert.GradFirst2Ideal.τ) (Cert.GradFirst2Ideal.main (F := Ideal))) ⟨m, fun _ => 0, g⟩ (fun r => (∀ c : Dev Cert.GradFirst2Ideal.nD,
      r.2.mem ((c.tc : Thread Cert.GradFirst2Ideal.nD Cert.GradFirst2Ideal.τ).loc Cert.GradFirst2Ideal.main_arg0) = m ((c.tc : Thread Cert.GradFirst2Ideal.nD Cert.GradFirst2Ideal.τ).loc Cert.GradFirst2Ideal.main_arg0)
      ∧ r.2.mem ((c.tc : Thread Cert.GradFirst2Ideal.nD Cert.GradFirst2Ideal.τ).loc Cert.GradFirst2Ideal.main_arg1) = m ((c.tc : Thread Cert.GradFirst2Ideal.nD Cert.GradFirst2Ideal.τ).loc Cert.GradFirst2Ideal.main_arg1)
      ∧ r.2.mem ((c.tc : Thread Cert.GradFirst2Ideal.nD Cert.GradFirst2Ideal.τ).loc Cert.GradFirst2Ideal.main_arg2) = m ((c.tc : Thread Cert.GradFirst2Ideal.nD Cert.GradFirst2Ideal.τ).loc Cert.GradFirst2Ideal.main_arg2))
      ∧ r.2.sem = fun _ => 0)

def quiescent_GradFirst2ReferenceIdeal [hGradFirst2ReferenceIdeal : Cert.GradFirst2ReferenceIdeal.Facts] : Prop :=
  ∀ (m : (ℓ : Loc Cert.GradFirst2ReferenceIdeal.nD Cert.GradFirst2ReferenceIdeal.τ Cert.GradFirst2ReferenceIdeal.sig) → Buf (Elt Ideal) ℓ) (g : Dev Cert.GradFirst2ReferenceIdeal.nD → PrngReg), Pre_GradFirst2ReferenceIdeal m →
    θ_run (Cert.GradFirst2ReferenceIdeal.defs (F := Ideal)) (onTc (τ := Cert.GradFirst2ReferenceIdeal.τ) (Cert.GradFirst2ReferenceIdeal.main (F := Ideal))) ⟨m, fun _ => 0, g⟩ (fun r => (∀ c : Dev Cert.GradFirst2ReferenceIdeal.nD,
      r.2.mem ((c.tc : Thread Cert.GradFirst2ReferenceIdeal.nD Cert.GradFirst2ReferenceIdeal.τ).loc Cert.GradFirst2ReferenceIdeal.main_arg0) = m ((c.tc : Thread Cert.GradFirst2ReferenceIdeal.nD Cert.GradFirst2ReferenceIdeal.τ).loc Cert.GradFirst2ReferenceIdeal.main_arg0)
      ∧ r.2.mem ((c.tc : Thread Cert.GradFirst2ReferenceIdeal.nD Cert.GradFirst2ReferenceIdeal.τ).loc Cert.GradFirst2ReferenceIdeal.main_arg1) = m ((c.tc : Thread Cert.GradFirst2ReferenceIdeal.nD Cert.GradFirst2ReferenceIdeal.τ).loc Cert.GradFirst2ReferenceIdeal.main_arg1)
      ∧ r.2.mem ((c.tc : Thread Cert.GradFirst2ReferenceIdeal.nD Cert.GradFirst2ReferenceIdeal.τ).loc Cert.GradFirst2ReferenceIdeal.main_arg2) = m ((c.tc : Thread Cert.GradFirst2ReferenceIdeal.nD Cert.GradFirst2ReferenceIdeal.τ).loc Cert.GradFirst2ReferenceIdeal.main_arg2))
      ∧ r.2.sem = fun _ => 0)

def quiescent_GradMixIn [hGradMixIn : Cert.GradMixIn.Facts] : Prop :=
  ∀ (m : (ℓ : Loc Cert.GradMixIn.nD Cert.GradMixIn.τ Cert.GradMixIn.sig) → Buf (Elt Bits) ℓ) (g : Dev Cert.GradMixIn.nD → PrngReg), Pre_GradMixIn m →
    θ_run (Cert.GradMixIn.defs (F := Bits)) (onTc (τ := Cert.GradMixIn.τ) (Cert.GradMixIn.main (F := Bits))) ⟨m, fun _ => 0, g⟩ (fun r => (∀ c : Dev Cert.GradMixIn.nD,
      r.2.mem ((c.tc : Thread Cert.GradMixIn.nD Cert.GradMixIn.τ).loc Cert.GradMixIn.main_arg0) = m ((c.tc : Thread Cert.GradMixIn.nD Cert.GradMixIn.τ).loc Cert.GradMixIn.main_arg0)
      ∧ r.2.mem ((c.tc : Thread Cert.GradMixIn.nD Cert.GradMixIn.τ).loc Cert.GradMixIn.main_arg1) = m ((c.tc : Thread Cert.GradMixIn.nD Cert.GradMixIn.τ).loc Cert.GradMixIn.main_arg1)
      ∧ r.2.mem ((c.tc : Thread Cert.GradMixIn.nD Cert.GradMixIn.τ).loc Cert.GradMixIn.main_arg2) = m ((c.tc : Thread Cert.GradMixIn.nD Cert.GradMixIn.τ).loc Cert.GradMixIn.main_arg2))
      ∧ r.2.sem = fun _ => 0)

def quiescent_GradMixInIdeal [hGradMixInIdeal : Cert.GradMixInIdeal.Facts] : Prop :=
  ∀ (m : (ℓ : Loc Cert.GradMixInIdeal.nD Cert.GradMixInIdeal.τ Cert.GradMixInIdeal.sig) → Buf (Elt Ideal) ℓ) (g : Dev Cert.GradMixInIdeal.nD → PrngReg), Pre_GradMixInIdeal m →
    θ_run (Cert.GradMixInIdeal.defs (F := Ideal)) (onTc (τ := Cert.GradMixInIdeal.τ) (Cert.GradMixInIdeal.main (F := Ideal))) ⟨m, fun _ => 0, g⟩ (fun r => (∀ c : Dev Cert.GradMixInIdeal.nD,
      r.2.mem ((c.tc : Thread Cert.GradMixInIdeal.nD Cert.GradMixInIdeal.τ).loc Cert.GradMixInIdeal.main_arg0) = m ((c.tc : Thread Cert.GradMixInIdeal.nD Cert.GradMixInIdeal.τ).loc Cert.GradMixInIdeal.main_arg0)
      ∧ r.2.mem ((c.tc : Thread Cert.GradMixInIdeal.nD Cert.GradMixInIdeal.τ).loc Cert.GradMixInIdeal.main_arg1) = m ((c.tc : Thread Cert.GradMixInIdeal.nD Cert.GradMixInIdeal.τ).loc Cert.GradMixInIdeal.main_arg1)
      ∧ r.2.mem ((c.tc : Thread Cert.GradMixInIdeal.nD Cert.GradMixInIdeal.τ).loc Cert.GradMixInIdeal.main_arg2) = m ((c.tc : Thread Cert.GradMixInIdeal.nD Cert.GradMixInIdeal.τ).loc Cert.GradMixInIdeal.main_arg2))
      ∧ r.2.sem = fun _ => 0)

def quiescent_GradMixInReferenceIdeal [hGradMixInReferenceIdeal : Cert.GradMixInReferenceIdeal.Facts] : Prop :=
  ∀ (m : (ℓ : Loc Cert.GradMixInReferenceIdeal.nD Cert.GradMixInReferenceIdeal.τ Cert.GradMixInReferenceIdeal.sig) → Buf (Elt Ideal) ℓ) (g : Dev Cert.GradMixInReferenceIdeal.nD → PrngReg), Pre_GradMixInReferenceIdeal m →
    θ_run (Cert.GradMixInReferenceIdeal.defs (F := Ideal)) (onTc (τ := Cert.GradMixInReferenceIdeal.τ) (Cert.GradMixInReferenceIdeal.main (F := Ideal))) ⟨m, fun _ => 0, g⟩ (fun r => (∀ c : Dev Cert.GradMixInReferenceIdeal.nD,
      r.2.mem ((c.tc : Thread Cert.GradMixInReferenceIdeal.nD Cert.GradMixInReferenceIdeal.τ).loc Cert.GradMixInReferenceIdeal.main_arg0) = m ((c.tc : Thread Cert.GradMixInReferenceIdeal.nD Cert.GradMixInReferenceIdeal.τ).loc Cert.GradMixInReferenceIdeal.main_arg0)
      ∧ r.2.mem ((c.tc : Thread Cert.GradMixInReferenceIdeal.nD Cert.GradMixInReferenceIdeal.τ).loc Cert.GradMixInReferenceIdeal.main_arg1) = m ((c.tc : Thread Cert.GradMixInReferenceIdeal.nD Cert.GradMixInReferenceIdeal.τ).loc Cert.GradMixInReferenceIdeal.main_arg1)
      ∧ r.2.mem ((c.tc : Thread Cert.GradMixInReferenceIdeal.nD Cert.GradMixInReferenceIdeal.τ).loc Cert.GradMixInReferenceIdeal.main_arg2) = m ((c.tc : Thread Cert.GradMixInReferenceIdeal.nD Cert.GradMixInReferenceIdeal.τ).loc Cert.GradMixInReferenceIdeal.main_arg2))
      ∧ r.2.sem = fun _ => 0)

def quiescent_GradMixOut [hGradMixOut : Cert.GradMixOut.Facts] : Prop :=
  ∀ (m : (ℓ : Loc Cert.GradMixOut.nD Cert.GradMixOut.τ Cert.GradMixOut.sig) → Buf (Elt Bits) ℓ) (g : Dev Cert.GradMixOut.nD → PrngReg), Pre_GradMixOut m →
    θ_run (Cert.GradMixOut.defs (F := Bits)) (onTc (τ := Cert.GradMixOut.τ) (Cert.GradMixOut.main (F := Bits))) ⟨m, fun _ => 0, g⟩ (fun r => (∀ c : Dev Cert.GradMixOut.nD,
      r.2.mem ((c.tc : Thread Cert.GradMixOut.nD Cert.GradMixOut.τ).loc Cert.GradMixOut.main_arg0) = m ((c.tc : Thread Cert.GradMixOut.nD Cert.GradMixOut.τ).loc Cert.GradMixOut.main_arg0)
      ∧ r.2.mem ((c.tc : Thread Cert.GradMixOut.nD Cert.GradMixOut.τ).loc Cert.GradMixOut.main_arg1) = m ((c.tc : Thread Cert.GradMixOut.nD Cert.GradMixOut.τ).loc Cert.GradMixOut.main_arg1)
      ∧ r.2.mem ((c.tc : Thread Cert.GradMixOut.nD Cert.GradMixOut.τ).loc Cert.GradMixOut.main_arg2) = m ((c.tc : Thread Cert.GradMixOut.nD Cert.GradMixOut.τ).loc Cert.GradMixOut.main_arg2))
      ∧ r.2.sem = fun _ => 0)

def quiescent_GradMixOutIdeal [hGradMixOutIdeal : Cert.GradMixOutIdeal.Facts] : Prop :=
  ∀ (m : (ℓ : Loc Cert.GradMixOutIdeal.nD Cert.GradMixOutIdeal.τ Cert.GradMixOutIdeal.sig) → Buf (Elt Ideal) ℓ) (g : Dev Cert.GradMixOutIdeal.nD → PrngReg), Pre_GradMixOutIdeal m →
    θ_run (Cert.GradMixOutIdeal.defs (F := Ideal)) (onTc (τ := Cert.GradMixOutIdeal.τ) (Cert.GradMixOutIdeal.main (F := Ideal))) ⟨m, fun _ => 0, g⟩ (fun r => (∀ c : Dev Cert.GradMixOutIdeal.nD,
      r.2.mem ((c.tc : Thread Cert.GradMixOutIdeal.nD Cert.GradMixOutIdeal.τ).loc Cert.GradMixOutIdeal.main_arg0) = m ((c.tc : Thread Cert.GradMixOutIdeal.nD Cert.GradMixOutIdeal.τ).loc Cert.GradMixOutIdeal.main_arg0)
      ∧ r.2.mem ((c.tc : Thread Cert.GradMixOutIdeal.nD Cert.GradMixOutIdeal.τ).loc Cert.GradMixOutIdeal.main_arg1) = m ((c.tc : Thread Cert.GradMixOutIdeal.nD Cert.GradMixOutIdeal.τ).loc Cert.GradMixOutIdeal.main_arg1)
      ∧ r.2.mem ((c.tc : Thread Cert.GradMixOutIdeal.nD Cert.GradMixOutIdeal.τ).loc Cert.GradMixOutIdeal.main_arg2) = m ((c.tc : Thread Cert.GradMixOutIdeal.nD Cert.GradMixOutIdeal.τ).loc Cert.GradMixOutIdeal.main_arg2))
      ∧ r.2.sem = fun _ => 0)

def quiescent_GradMixOutReferenceIdeal [hGradMixOutReferenceIdeal : Cert.GradMixOutReferenceIdeal.Facts] : Prop :=
  ∀ (m : (ℓ : Loc Cert.GradMixOutReferenceIdeal.nD Cert.GradMixOutReferenceIdeal.τ Cert.GradMixOutReferenceIdeal.sig) → Buf (Elt Ideal) ℓ) (g : Dev Cert.GradMixOutReferenceIdeal.nD → PrngReg), Pre_GradMixOutReferenceIdeal m →
    θ_run (Cert.GradMixOutReferenceIdeal.defs (F := Ideal)) (onTc (τ := Cert.GradMixOutReferenceIdeal.τ) (Cert.GradMixOutReferenceIdeal.main (F := Ideal))) ⟨m, fun _ => 0, g⟩ (fun r => (∀ c : Dev Cert.GradMixOutReferenceIdeal.nD,
      r.2.mem ((c.tc : Thread Cert.GradMixOutReferenceIdeal.nD Cert.GradMixOutReferenceIdeal.τ).loc Cert.GradMixOutReferenceIdeal.main_arg0) = m ((c.tc : Thread Cert.GradMixOutReferenceIdeal.nD Cert.GradMixOutReferenceIdeal.τ).loc Cert.GradMixOutReferenceIdeal.main_arg0)
      ∧ r.2.mem ((c.tc : Thread Cert.GradMixOutReferenceIdeal.nD Cert.GradMixOutReferenceIdeal.τ).loc Cert.GradMixOutReferenceIdeal.main_arg1) = m ((c.tc : Thread Cert.GradMixOutReferenceIdeal.nD Cert.GradMixOutReferenceIdeal.τ).loc Cert.GradMixOutReferenceIdeal.main_arg1)
      ∧ r.2.mem ((c.tc : Thread Cert.GradMixOutReferenceIdeal.nD Cert.GradMixOutReferenceIdeal.τ).loc Cert.GradMixOutReferenceIdeal.main_arg2) = m ((c.tc : Thread Cert.GradMixOutReferenceIdeal.nD Cert.GradMixOutReferenceIdeal.τ).loc Cert.GradMixOutReferenceIdeal.main_arg2))
      ∧ r.2.sem = fun _ => 0)

def quiescent_GradFirstIn [hGradFirstIn : Cert.GradFirstIn.Facts] : Prop :=
  ∀ (m : (ℓ : Loc Cert.GradFirstIn.nD Cert.GradFirstIn.τ Cert.GradFirstIn.sig) → Buf (Elt Bits) ℓ) (g : Dev Cert.GradFirstIn.nD → PrngReg), Pre_GradFirstIn m →
    θ_run (Cert.GradFirstIn.defs (F := Bits)) (onTc (τ := Cert.GradFirstIn.τ) (Cert.GradFirstIn.main (F := Bits))) ⟨m, fun _ => 0, g⟩ (fun r => (∀ c : Dev Cert.GradFirstIn.nD,
      r.2.mem ((c.tc : Thread Cert.GradFirstIn.nD Cert.GradFirstIn.τ).loc Cert.GradFirstIn.main_arg0) = m ((c.tc : Thread Cert.GradFirstIn.nD Cert.GradFirstIn.τ).loc Cert.GradFirstIn.main_arg0)
      ∧ r.2.mem ((c.tc : Thread Cert.GradFirstIn.nD Cert.GradFirstIn.τ).loc Cert.GradFirstIn.main_arg1) = m ((c.tc : Thread Cert.GradFirstIn.nD Cert.GradFirstIn.τ).loc Cert.GradFirstIn.main_arg1)
      ∧ r.2.mem ((c.tc : Thread Cert.GradFirstIn.nD Cert.GradFirstIn.τ).loc Cert.GradFirstIn.main_arg2) = m ((c.tc : Thread Cert.GradFirstIn.nD Cert.GradFirstIn.τ).loc Cert.GradFirstIn.main_arg2))
      ∧ r.2.sem = fun _ => 0)

def quiescent_GradFirstInIdeal [hGradFirstInIdeal : Cert.GradFirstInIdeal.Facts] : Prop :=
  ∀ (m : (ℓ : Loc Cert.GradFirstInIdeal.nD Cert.GradFirstInIdeal.τ Cert.GradFirstInIdeal.sig) → Buf (Elt Ideal) ℓ) (g : Dev Cert.GradFirstInIdeal.nD → PrngReg), Pre_GradFirstInIdeal m →
    θ_run (Cert.GradFirstInIdeal.defs (F := Ideal)) (onTc (τ := Cert.GradFirstInIdeal.τ) (Cert.GradFirstInIdeal.main (F := Ideal))) ⟨m, fun _ => 0, g⟩ (fun r => (∀ c : Dev Cert.GradFirstInIdeal.nD,
      r.2.mem ((c.tc : Thread Cert.GradFirstInIdeal.nD Cert.GradFirstInIdeal.τ).loc Cert.GradFirstInIdeal.main_arg0) = m ((c.tc : Thread Cert.GradFirstInIdeal.nD Cert.GradFirstInIdeal.τ).loc Cert.GradFirstInIdeal.main_arg0)
      ∧ r.2.mem ((c.tc : Thread Cert.GradFirstInIdeal.nD Cert.GradFirstInIdeal.τ).loc Cert.GradFirstInIdeal.main_arg1) = m ((c.tc : Thread Cert.GradFirstInIdeal.nD Cert.GradFirstInIdeal.τ).loc Cert.GradFirstInIdeal.main_arg1)
      ∧ r.2.mem ((c.tc : Thread Cert.GradFirstInIdeal.nD Cert.GradFirstInIdeal.τ).loc Cert.GradFirstInIdeal.main_arg2) = m ((c.tc : Thread Cert.GradFirstInIdeal.nD Cert.GradFirstInIdeal.τ).loc Cert.GradFirstInIdeal.main_arg2))
      ∧ r.2.sem = fun _ => 0)

def quiescent_GradFirstInReferenceIdeal [hGradFirstInReferenceIdeal : Cert.GradFirstInReferenceIdeal.Facts] : Prop :=
  ∀ (m : (ℓ : Loc Cert.GradFirstInReferenceIdeal.nD Cert.GradFirstInReferenceIdeal.τ Cert.GradFirstInReferenceIdeal.sig) → Buf (Elt Ideal) ℓ) (g : Dev Cert.GradFirstInReferenceIdeal.nD → PrngReg), Pre_GradFirstInReferenceIdeal m →
    θ_run (Cert.GradFirstInReferenceIdeal.defs (F := Ideal)) (onTc (τ := Cert.GradFirstInReferenceIdeal.τ) (Cert.GradFirstInReferenceIdeal.main (F := Ideal))) ⟨m, fun _ => 0, g⟩ (fun r => (∀ c : Dev Cert.GradFirstInReferenceIdeal.nD,
      r.2.mem ((c.tc : Thread Cert.GradFirstInReferenceIdeal.nD Cert.GradFirstInReferenceIdeal.τ).loc Cert.GradFirstInReferenceIdeal.main_arg0) = m ((c.tc : Thread Cert.GradFirstInReferenceIdeal.nD Cert.GradFirstInReferenceIdeal.τ).loc Cert.GradFirstInReferenceIdeal.main_arg0)
      ∧ r.2.mem ((c.tc : Thread Cert.GradFirstInReferenceIdeal.nD Cert.GradFirstInReferenceIdeal.τ).loc Cert.GradFirstInReferenceIdeal.main_arg1) = m ((c.tc : Thread Cert.GradFirstInReferenceIdeal.nD Cert.GradFirstInReferenceIdeal.τ).loc Cert.GradFirstInReferenceIdeal.main_arg1)
      ∧ r.2.mem ((c.tc : Thread Cert.GradFirstInReferenceIdeal.nD Cert.GradFirstInReferenceIdeal.τ).loc Cert.GradFirstInReferenceIdeal.main_arg2) = m ((c.tc : Thread Cert.GradFirstInReferenceIdeal.nD Cert.GradFirstInReferenceIdeal.τ).loc Cert.GradFirstInReferenceIdeal.main_arg2))
      ∧ r.2.sem = fun _ => 0)

def quiescent_GradFirstOut [hGradFirstOut : Cert.GradFirstOut.Facts] : Prop :=
  ∀ (m : (ℓ : Loc Cert.GradFirstOut.nD Cert.GradFirstOut.τ Cert.GradFirstOut.sig) → Buf (Elt Bits) ℓ) (g : Dev Cert.GradFirstOut.nD → PrngReg), Pre_GradFirstOut m →
    θ_run (Cert.GradFirstOut.defs (F := Bits)) (onTc (τ := Cert.GradFirstOut.τ) (Cert.GradFirstOut.main (F := Bits))) ⟨m, fun _ => 0, g⟩ (fun r => (∀ c : Dev Cert.GradFirstOut.nD,
      r.2.mem ((c.tc : Thread Cert.GradFirstOut.nD Cert.GradFirstOut.τ).loc Cert.GradFirstOut.main_arg0) = m ((c.tc : Thread Cert.GradFirstOut.nD Cert.GradFirstOut.τ).loc Cert.GradFirstOut.main_arg0)
      ∧ r.2.mem ((c.tc : Thread Cert.GradFirstOut.nD Cert.GradFirstOut.τ).loc Cert.GradFirstOut.main_arg1) = m ((c.tc : Thread Cert.GradFirstOut.nD Cert.GradFirstOut.τ).loc Cert.GradFirstOut.main_arg1)
      ∧ r.2.mem ((c.tc : Thread Cert.GradFirstOut.nD Cert.GradFirstOut.τ).loc Cert.GradFirstOut.main_arg2) = m ((c.tc : Thread Cert.GradFirstOut.nD Cert.GradFirstOut.τ).loc Cert.GradFirstOut.main_arg2))
      ∧ r.2.sem = fun _ => 0)

def quiescent_GradFirstOutIdeal [hGradFirstOutIdeal : Cert.GradFirstOutIdeal.Facts] : Prop :=
  ∀ (m : (ℓ : Loc Cert.GradFirstOutIdeal.nD Cert.GradFirstOutIdeal.τ Cert.GradFirstOutIdeal.sig) → Buf (Elt Ideal) ℓ) (g : Dev Cert.GradFirstOutIdeal.nD → PrngReg), Pre_GradFirstOutIdeal m →
    θ_run (Cert.GradFirstOutIdeal.defs (F := Ideal)) (onTc (τ := Cert.GradFirstOutIdeal.τ) (Cert.GradFirstOutIdeal.main (F := Ideal))) ⟨m, fun _ => 0, g⟩ (fun r => (∀ c : Dev Cert.GradFirstOutIdeal.nD,
      r.2.mem ((c.tc : Thread Cert.GradFirstOutIdeal.nD Cert.GradFirstOutIdeal.τ).loc Cert.GradFirstOutIdeal.main_arg0) = m ((c.tc : Thread Cert.GradFirstOutIdeal.nD Cert.GradFirstOutIdeal.τ).loc Cert.GradFirstOutIdeal.main_arg0)
      ∧ r.2.mem ((c.tc : Thread Cert.GradFirstOutIdeal.nD Cert.GradFirstOutIdeal.τ).loc Cert.GradFirstOutIdeal.main_arg1) = m ((c.tc : Thread Cert.GradFirstOutIdeal.nD Cert.GradFirstOutIdeal.τ).loc Cert.GradFirstOutIdeal.main_arg1)
      ∧ r.2.mem ((c.tc : Thread Cert.GradFirstOutIdeal.nD Cert.GradFirstOutIdeal.τ).loc Cert.GradFirstOutIdeal.main_arg2) = m ((c.tc : Thread Cert.GradFirstOutIdeal.nD Cert.GradFirstOutIdeal.τ).loc Cert.GradFirstOutIdeal.main_arg2))
      ∧ r.2.sem = fun _ => 0)

def quiescent_GradFirstOutReferenceIdeal [hGradFirstOutReferenceIdeal : Cert.GradFirstOutReferenceIdeal.Facts] : Prop :=
  ∀ (m : (ℓ : Loc Cert.GradFirstOutReferenceIdeal.nD Cert.GradFirstOutReferenceIdeal.τ Cert.GradFirstOutReferenceIdeal.sig) → Buf (Elt Ideal) ℓ) (g : Dev Cert.GradFirstOutReferenceIdeal.nD → PrngReg), Pre_GradFirstOutReferenceIdeal m →
    θ_run (Cert.GradFirstOutReferenceIdeal.defs (F := Ideal)) (onTc (τ := Cert.GradFirstOutReferenceIdeal.τ) (Cert.GradFirstOutReferenceIdeal.main (F := Ideal))) ⟨m, fun _ => 0, g⟩ (fun r => (∀ c : Dev Cert.GradFirstOutReferenceIdeal.nD,
      r.2.mem ((c.tc : Thread Cert.GradFirstOutReferenceIdeal.nD Cert.GradFirstOutReferenceIdeal.τ).loc Cert.GradFirstOutReferenceIdeal.main_arg0) = m ((c.tc : Thread Cert.GradFirstOutReferenceIdeal.nD Cert.GradFirstOutReferenceIdeal.τ).loc Cert.GradFirstOutReferenceIdeal.main_arg0)
      ∧ r.2.mem ((c.tc : Thread Cert.GradFirstOutReferenceIdeal.nD Cert.GradFirstOutReferenceIdeal.τ).loc Cert.GradFirstOutReferenceIdeal.main_arg1) = m ((c.tc : Thread Cert.GradFirstOutReferenceIdeal.nD Cert.GradFirstOutReferenceIdeal.τ).loc Cert.GradFirstOutReferenceIdeal.main_arg1)
      ∧ r.2.mem ((c.tc : Thread Cert.GradFirstOutReferenceIdeal.nD Cert.GradFirstOutReferenceIdeal.τ).loc Cert.GradFirstOutReferenceIdeal.main_arg2) = m ((c.tc : Thread Cert.GradFirstOutReferenceIdeal.nD Cert.GradFirstOutReferenceIdeal.τ).loc Cert.GradFirstOutReferenceIdeal.main_arg2))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6))
      ∧ r.2.sem = fun _ => 0)

def quiescent_HeadReferenceIdeal_pre_finite_head [hHeadReferenceIdeal : Cert.HeadReferenceIdeal.Facts] [hPre_finite_head : Cert.Pre_finite_head.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_finite_head m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4)
      ∧ r.2.mem ((c.tc : Thread Cert.HeadReferenceIdeal.nD Cert.HeadReferenceIdeal.τ).loc Cert.HeadReferenceIdeal.main_arg5) = m ((c.tc : Thread Cert.HeadReferenceIdeal.nD Cert.HeadReferenceIdeal.τ).loc Cert.HeadReferenceIdeal.main_arg5)
      ∧ r.2.mem ((c.tc : Thread Cert.HeadReferenceIdeal.nD Cert.HeadReferenceIdeal.τ).loc Cert.HeadReferenceIdeal.main_arg6) = m ((c.tc : Thread Cert.HeadReferenceIdeal.nD Cert.HeadReferenceIdeal.τ).loc Cert.HeadReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)) (v5 : (c : Dev Cert.KernelIdeal.nD) → Buf (Elt Ideal) ((c.tc : Thread Cert.KernelIdeal.nD Cert.KernelIdeal.τ).loc Cert.KernelIdeal.main_v25_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_v25_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Wgrad1_Wgrad1Ideal : Prop :=
  True

def algebraic_Wgrad1Ideal_Wgrad1ReferenceIdeal [hWgrad1Ideal : Cert.Wgrad1Ideal.Facts] [hWgrad1ReferenceIdeal : Cert.Wgrad1ReferenceIdeal.Facts] : Prop :=
  ∀ (m : (ℓ : Loc Cert.Wgrad1Ideal.nD Cert.Wgrad1Ideal.τ Cert.Wgrad1Ideal.sig) → Buf (Elt Ideal) ℓ) (g : Dev Cert.Wgrad1Ideal.nD → PrngReg)
    (m' : (ℓ : Loc Cert.Wgrad1ReferenceIdeal.nD Cert.Wgrad1ReferenceIdeal.τ Cert.Wgrad1ReferenceIdeal.sig) → Buf (Elt Ideal) ℓ) (g' : Dev Cert.Wgrad1ReferenceIdeal.nD → PrngReg), Pre_Wgrad1Ideal m →
    (∀ c : Dev Cert.Wgrad1Ideal.nD,
      m' ((c.tc : Thread Cert.Wgrad1ReferenceIdeal.nD Cert.Wgrad1ReferenceIdeal.τ).loc Cert.Wgrad1ReferenceIdeal.main_arg0) = m ((c.tc : Thread Cert.Wgrad1Ideal.nD Cert.Wgrad1Ideal.τ).loc Cert.Wgrad1Ideal.main_arg0)
      ∧ m' ((c.tc : Thread Cert.Wgrad1ReferenceIdeal.nD Cert.Wgrad1ReferenceIdeal.τ).loc Cert.Wgrad1ReferenceIdeal.main_arg1) = m ((c.tc : Thread Cert.Wgrad1Ideal.nD Cert.Wgrad1Ideal.τ).loc Cert.Wgrad1Ideal.main_arg1)
      ∧ m' ((c.tc : Thread Cert.Wgrad1ReferenceIdeal.nD Cert.Wgrad1ReferenceIdeal.τ).loc Cert.Wgrad1ReferenceIdeal.main_arg2) = m ((c.tc : Thread Cert.Wgrad1Ideal.nD Cert.Wgrad1Ideal.τ).loc Cert.Wgrad1Ideal.main_arg2)) →
    ∃ (v0 : (c : Dev Cert.Wgrad1Ideal.nD) → Buf (Elt Ideal) ((c.tc : Thread Cert.Wgrad1Ideal.nD Cert.Wgrad1Ideal.τ).loc Cert.Wgrad1Ideal.main_v0)),
      θ_run (Cert.Wgrad1Ideal.defs (F := Ideal)) (onTc (τ := Cert.Wgrad1Ideal.τ) (Cert.Wgrad1Ideal.main (F := Ideal))) ⟨m, fun _ => 0, g⟩ (fun r => ∀ c : Dev Cert.Wgrad1Ideal.nD,
          r.2.mem ((c.tc : Thread Cert.Wgrad1Ideal.nD Cert.Wgrad1Ideal.τ).loc Cert.Wgrad1Ideal.main_v0) = v0 c
          ∧ r.2.mem ((c.tc : Thread Cert.Wgrad1Ideal.nD Cert.Wgrad1Ideal.τ).loc Cert.Wgrad1Ideal.main_arg0) = m ((c.tc : Thread Cert.Wgrad1Ideal.nD Cert.Wgrad1Ideal.τ).loc Cert.Wgrad1Ideal.main_arg0)
          ∧ r.2.mem ((c.tc : Thread Cert.Wgrad1Ideal.nD Cert.Wgrad1Ideal.τ).loc Cert.Wgrad1Ideal.main_arg1) = m ((c.tc : Thread Cert.Wgrad1Ideal.nD Cert.Wgrad1Ideal.τ).loc Cert.Wgrad1Ideal.main_arg1)
          ∧ r.2.mem ((c.tc : Thread Cert.Wgrad1Ideal.nD Cert.Wgrad1Ideal.τ).loc Cert.Wgrad1Ideal.main_arg2) = m ((c.tc : Thread Cert.Wgrad1Ideal.nD Cert.Wgrad1Ideal.τ).loc Cert.Wgrad1Ideal.main_arg2))
      ∧ θ_run (Cert.Wgrad1ReferenceIdeal.defs (F := Ideal)) (onTc (τ := Cert.Wgrad1ReferenceIdeal.τ) (Cert.Wgrad1ReferenceIdeal.main (F := Ideal))) ⟨m', fun _ => 0, g'⟩ (fun r => ∀ c : Dev Cert.Wgrad1ReferenceIdeal.nD,
          r.2.mem ((c.tc : Thread Cert.Wgrad1ReferenceIdeal.nD Cert.Wgrad1ReferenceIdeal.τ).loc Cert.Wgrad1ReferenceIdeal.main_v11) = v0 c
          ∧ r.2.mem ((c.tc : Thread Cert.Wgrad1ReferenceIdeal.nD Cert.Wgrad1ReferenceIdeal.τ).loc Cert.Wgrad1ReferenceIdeal.main_arg0) = m' ((c.tc : Thread Cert.Wgrad1ReferenceIdeal.nD Cert.Wgrad1ReferenceIdeal.τ).loc Cert.Wgrad1ReferenceIdeal.main_arg0)
          ∧ r.2.mem ((c.tc : Thread Cert.Wgrad1ReferenceIdeal.nD Cert.Wgrad1ReferenceIdeal.τ).loc Cert.Wgrad1ReferenceIdeal.main_arg1) = m' ((c.tc : Thread Cert.Wgrad1ReferenceIdeal.nD Cert.Wgrad1ReferenceIdeal.τ).loc Cert.Wgrad1ReferenceIdeal.main_arg1)
          ∧ r.2.mem ((c.tc : Thread Cert.Wgrad1ReferenceIdeal.nD Cert.Wgrad1ReferenceIdeal.τ).loc Cert.Wgrad1ReferenceIdeal.main_arg2) = m' ((c.tc : Thread Cert.Wgrad1ReferenceIdeal.nD Cert.Wgrad1ReferenceIdeal.τ).loc Cert.Wgrad1ReferenceIdeal.main_arg2))

def preserves_Wgrad3_Wgrad3Ideal : Prop :=
  True

def algebraic_Wgrad3Ideal_Wgrad3ReferenceIdeal [hWgrad3Ideal : Cert.Wgrad3Ideal.Facts] [hWgrad3ReferenceIdeal : Cert.Wgrad3ReferenceIdeal.Facts] : Prop :=
  ∀ (m : (ℓ : Loc Cert.Wgrad3Ideal.nD Cert.Wgrad3Ideal.τ Cert.Wgrad3Ideal.sig) → Buf (Elt Ideal) ℓ) (g : Dev Cert.Wgrad3Ideal.nD → PrngReg)
    (m' : (ℓ : Loc Cert.Wgrad3ReferenceIdeal.nD Cert.Wgrad3ReferenceIdeal.τ Cert.Wgrad3ReferenceIdeal.sig) → Buf (Elt Ideal) ℓ) (g' : Dev Cert.Wgrad3ReferenceIdeal.nD → PrngReg), Pre_Wgrad3Ideal m →
    (∀ c : Dev Cert.Wgrad3Ideal.nD,
      m' ((c.tc : Thread Cert.Wgrad3ReferenceIdeal.nD Cert.Wgrad3ReferenceIdeal.τ).loc Cert.Wgrad3ReferenceIdeal.main_arg0) = m ((c.tc : Thread Cert.Wgrad3Ideal.nD Cert.Wgrad3Ideal.τ).loc Cert.Wgrad3Ideal.main_arg0)
      ∧ m' ((c.tc : Thread Cert.Wgrad3ReferenceIdeal.nD Cert.Wgrad3ReferenceIdeal.τ).loc Cert.Wgrad3ReferenceIdeal.main_arg1) = m ((c.tc : Thread Cert.Wgrad3Ideal.nD Cert.Wgrad3Ideal.τ).loc Cert.Wgrad3Ideal.main_arg1)
      ∧ m' ((c.tc : Thread Cert.Wgrad3ReferenceIdeal.nD Cert.Wgrad3ReferenceIdeal.τ).loc Cert.Wgrad3ReferenceIdeal.main_arg2) = m ((c.tc : Thread Cert.Wgrad3Ideal.nD Cert.Wgrad3Ideal.τ).loc Cert.Wgrad3Ideal.main_arg2)) →
    ∃ (v0 : (c : Dev Cert.Wgrad3Ideal.nD) → Buf (Elt Ideal) ((c.tc : Thread Cert.Wgrad3Ideal.nD Cert.Wgrad3Ideal.τ).loc Cert.Wgrad3Ideal.main_v0)),
      θ_run (Cert.Wgrad3Ideal.defs (F := Ideal)) (onTc (τ := Cert.Wgrad3Ideal.τ) (Cert.Wgrad3Ideal.main (F := Ideal))) ⟨m, fun _ => 0, g⟩ (fun r => ∀ c : Dev Cert.Wgrad3Ideal.nD,
          r.2.mem ((c.tc : Thread Cert.Wgrad3Ideal.nD Cert.Wgrad3Ideal.τ).loc Cert.Wgrad3Ideal.main_v0) = v0 c
          ∧ r.2.mem ((c.tc : Thread Cert.Wgrad3Ideal.nD Cert.Wgrad3Ideal.τ).loc Cert.Wgrad3Ideal.main_arg0) = m ((c.tc : Thread Cert.Wgrad3Ideal.nD Cert.Wgrad3Ideal.τ).loc Cert.Wgrad3Ideal.main_arg0)
          ∧ r.2.mem ((c.tc : Thread Cert.Wgrad3Ideal.nD Cert.Wgrad3Ideal.τ).loc Cert.Wgrad3Ideal.main_arg1) = m ((c.tc : Thread Cert.Wgrad3Ideal.nD Cert.Wgrad3Ideal.τ).loc Cert.Wgrad3Ideal.main_arg1)
          ∧ r.2.mem ((c.tc : Thread Cert.Wgrad3Ideal.nD Cert.Wgrad3Ideal.τ).loc Cert.Wgrad3Ideal.main_arg2) = m ((c.tc : Thread Cert.Wgrad3Ideal.nD Cert.Wgrad3Ideal.τ).loc Cert.Wgrad3Ideal.main_arg2))
      ∧ θ_run (Cert.Wgrad3ReferenceIdeal.defs (F := Ideal)) (onTc (τ := Cert.Wgrad3ReferenceIdeal.τ) (Cert.Wgrad3ReferenceIdeal.main (F := Ideal))) ⟨m', fun _ => 0, g'⟩ (fun r => ∀ c : Dev Cert.Wgrad3ReferenceIdeal.nD,
          r.2.mem ((c.tc : Thread Cert.Wgrad3ReferenceIdeal.nD Cert.Wgrad3ReferenceIdeal.τ).loc Cert.Wgrad3ReferenceIdeal.main_v11) = v0 c
          ∧ r.2.mem ((c.tc : Thread Cert.Wgrad3ReferenceIdeal.nD Cert.Wgrad3ReferenceIdeal.τ).loc Cert.Wgrad3ReferenceIdeal.main_arg0) = m' ((c.tc : Thread Cert.Wgrad3ReferenceIdeal.nD Cert.Wgrad3ReferenceIdeal.τ).loc Cert.Wgrad3ReferenceIdeal.main_arg0)
          ∧ r.2.mem ((c.tc : Thread Cert.Wgrad3ReferenceIdeal.nD Cert.Wgrad3ReferenceIdeal.τ).loc Cert.Wgrad3ReferenceIdeal.main_arg1) = m' ((c.tc : Thread Cert.Wgrad3ReferenceIdeal.nD Cert.Wgrad3ReferenceIdeal.τ).loc Cert.Wgrad3ReferenceIdeal.main_arg1)
          ∧ r.2.mem ((c.tc : Thread Cert.Wgrad3ReferenceIdeal.nD Cert.Wgrad3ReferenceIdeal.τ).loc Cert.Wgrad3ReferenceIdeal.main_arg2) = m' ((c.tc : Thread Cert.Wgrad3ReferenceIdeal.nD Cert.Wgrad3ReferenceIdeal.τ).loc Cert.Wgrad3ReferenceIdeal.main_arg2))

def preserves_Wgrad2_Wgrad2Ideal : Prop :=
  True

def algebraic_Wgrad2Ideal_Wgrad2ReferenceIdeal [hWgrad2Ideal : Cert.Wgrad2Ideal.Facts] [hWgrad2ReferenceIdeal : Cert.Wgrad2ReferenceIdeal.Facts] : Prop :=
  ∀ (m : (ℓ : Loc Cert.Wgrad2Ideal.nD Cert.Wgrad2Ideal.τ Cert.Wgrad2Ideal.sig) → Buf (Elt Ideal) ℓ) (g : Dev Cert.Wgrad2Ideal.nD → PrngReg)
    (m' : (ℓ : Loc Cert.Wgrad2ReferenceIdeal.nD Cert.Wgrad2ReferenceIdeal.τ Cert.Wgrad2ReferenceIdeal.sig) → Buf (Elt Ideal) ℓ) (g' : Dev Cert.Wgrad2ReferenceIdeal.nD → PrngReg), Pre_Wgrad2Ideal m →
    (∀ c : Dev Cert.Wgrad2Ideal.nD,
      m' ((c.tc : Thread Cert.Wgrad2ReferenceIdeal.nD Cert.Wgrad2ReferenceIdeal.τ).loc Cert.Wgrad2ReferenceIdeal.main_arg0) = m ((c.tc : Thread Cert.Wgrad2Ideal.nD Cert.Wgrad2Ideal.τ).loc Cert.Wgrad2Ideal.main_arg0)
      ∧ m' ((c.tc : Thread Cert.Wgrad2ReferenceIdeal.nD Cert.Wgrad2ReferenceIdeal.τ).loc Cert.Wgrad2ReferenceIdeal.main_arg1) = m ((c.tc : Thread Cert.Wgrad2Ideal.nD Cert.Wgrad2Ideal.τ).loc Cert.Wgrad2Ideal.main_arg1)
      ∧ m' ((c.tc : Thread Cert.Wgrad2ReferenceIdeal.nD Cert.Wgrad2ReferenceIdeal.τ).loc Cert.Wgrad2ReferenceIdeal.main_arg2) = m ((c.tc : Thread Cert.Wgrad2Ideal.nD Cert.Wgrad2Ideal.τ).loc Cert.Wgrad2Ideal.main_arg2)) →
    ∃ (v0 : (c : Dev Cert.Wgrad2Ideal.nD) → Buf (Elt Ideal) ((c.tc : Thread Cert.Wgrad2Ideal.nD Cert.Wgrad2Ideal.τ).loc Cert.Wgrad2Ideal.main_v0)),
      θ_run (Cert.Wgrad2Ideal.defs (F := Ideal)) (onTc (τ := Cert.Wgrad2Ideal.τ) (Cert.Wgrad2Ideal.main (F := Ideal))) ⟨m, fun _ => 0, g⟩ (fun r => ∀ c : Dev Cert.Wgrad2Ideal.nD,
          r.2.mem ((c.tc : Thread Cert.Wgrad2Ideal.nD Cert.Wgrad2Ideal.τ).loc Cert.Wgrad2Ideal.main_v0) = v0 c
          ∧ r.2.mem ((c.tc : Thread Cert.Wgrad2Ideal.nD Cert.Wgrad2Ideal.τ).loc Cert.Wgrad2Ideal.main_arg0) = m ((c.tc : Thread Cert.Wgrad2Ideal.nD Cert.Wgrad2Ideal.τ).loc Cert.Wgrad2Ideal.main_arg0)
          ∧ r.2.mem ((c.tc : Thread Cert.Wgrad2Ideal.nD Cert.Wgrad2Ideal.τ).loc Cert.Wgrad2Ideal.main_arg1) = m ((c.tc : Thread Cert.Wgrad2Ideal.nD Cert.Wgrad2Ideal.τ).loc Cert.Wgrad2Ideal.main_arg1)
          ∧ r.2.mem ((c.tc : Thread Cert.Wgrad2Ideal.nD Cert.Wgrad2Ideal.τ).loc Cert.Wgrad2Ideal.main_arg2) = m ((c.tc : Thread Cert.Wgrad2Ideal.nD Cert.Wgrad2Ideal.τ).loc Cert.Wgrad2Ideal.main_arg2))
      ∧ θ_run (Cert.Wgrad2ReferenceIdeal.defs (F := Ideal)) (onTc (τ := Cert.Wgrad2ReferenceIdeal.τ) (Cert.Wgrad2ReferenceIdeal.main (F := Ideal))) ⟨m', fun _ => 0, g'⟩ (fun r => ∀ c : Dev Cert.Wgrad2ReferenceIdeal.nD,
          r.2.mem ((c.tc : Thread Cert.Wgrad2ReferenceIdeal.nD Cert.Wgrad2ReferenceIdeal.τ).loc Cert.Wgrad2ReferenceIdeal.main_v13) = v0 c
          ∧ r.2.mem ((c.tc : Thread Cert.Wgrad2ReferenceIdeal.nD Cert.Wgrad2ReferenceIdeal.τ).loc Cert.Wgrad2ReferenceIdeal.main_arg0) = m' ((c.tc : Thread Cert.Wgrad2ReferenceIdeal.nD Cert.Wgrad2ReferenceIdeal.τ).loc Cert.Wgrad2ReferenceIdeal.main_arg0)
          ∧ r.2.mem ((c.tc : Thread Cert.Wgrad2ReferenceIdeal.nD Cert.Wgrad2ReferenceIdeal.τ).loc Cert.Wgrad2ReferenceIdeal.main_arg1) = m' ((c.tc : Thread Cert.Wgrad2ReferenceIdeal.nD Cert.Wgrad2ReferenceIdeal.τ).loc Cert.Wgrad2ReferenceIdeal.main_arg1)
          ∧ r.2.mem ((c.tc : Thread Cert.Wgrad2ReferenceIdeal.nD Cert.Wgrad2ReferenceIdeal.τ).loc Cert.Wgrad2ReferenceIdeal.main_arg2) = m' ((c.tc : Thread Cert.Wgrad2ReferenceIdeal.nD Cert.Wgrad2ReferenceIdeal.τ).loc Cert.Wgrad2ReferenceIdeal.main_arg2))

def preserves_Forward_ForwardIdeal : Prop :=
  True

def algebraic_ForwardIdeal_ForwardReferenceIdeal [hForwardIdeal : Cert.ForwardIdeal.Facts] [hForwardReferenceIdeal : Cert.ForwardReferenceIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardReferenceIdeal.nD Cert.ForwardReferenceIdeal.τ Cert.ForwardReferenceIdeal.sig) → Buf (Elt Ideal) ℓ) (g' : Dev Cert.ForwardReferenceIdeal.nD → PrngReg), Pre_ForwardIdeal m →
    (∀ c : Dev Cert.ForwardIdeal.nD,
      m' ((c.tc : Thread Cert.ForwardReferenceIdeal.nD Cert.ForwardReferenceIdeal.τ).loc Cert.ForwardReferenceIdeal.main_arg0) = m ((c.tc : Thread Cert.ForwardIdeal.nD Cert.ForwardIdeal.τ).loc Cert.ForwardIdeal.main_arg0)
      ∧ m' ((c.tc : Thread Cert.ForwardReferenceIdeal.nD Cert.ForwardReferenceIdeal.τ).loc Cert.ForwardReferenceIdeal.main_arg1) = m ((c.tc : Thread Cert.ForwardIdeal.nD Cert.ForwardIdeal.τ).loc Cert.ForwardIdeal.main_arg1)
      ∧ m' ((c.tc : Thread Cert.ForwardReferenceIdeal.nD Cert.ForwardReferenceIdeal.τ).loc Cert.ForwardReferenceIdeal.main_arg2) = m ((c.tc : Thread Cert.ForwardIdeal.nD Cert.ForwardIdeal.τ).loc Cert.ForwardIdeal.main_arg2)
      ∧ m' ((c.tc : Thread Cert.ForwardReferenceIdeal.nD Cert.ForwardReferenceIdeal.τ).loc Cert.ForwardReferenceIdeal.main_arg3) = m ((c.tc : Thread Cert.ForwardIdeal.nD Cert.ForwardIdeal.τ).loc Cert.ForwardIdeal.main_arg3)
      ∧ m' ((c.tc : Thread Cert.ForwardReferenceIdeal.nD Cert.ForwardReferenceIdeal.τ).loc Cert.ForwardReferenceIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v8_0)) (v1 : (c : Dev Cert.ForwardIdeal.nD) → Buf (Elt Ideal) ((c.tc : Thread Cert.ForwardIdeal.nD Cert.ForwardIdeal.τ).loc Cert.ForwardIdeal.main_v8_1)) (v2 : (c : Dev Cert.ForwardIdeal.nD) → Buf (Elt Ideal) ((c.tc : Thread Cert.ForwardIdeal.nD Cert.ForwardIdeal.τ).loc Cert.ForwardIdeal.main_v8_2)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v8_0) = v0 c
          ∧ r.2.mem ((c.tc : Thread Cert.ForwardIdeal.nD Cert.ForwardIdeal.τ).loc Cert.ForwardIdeal.main_v8_1) = v1 c
          ∧ r.2.mem ((c.tc : Thread Cert.ForwardIdeal.nD Cert.ForwardIdeal.τ).loc Cert.ForwardIdeal.main_v8_2) = v2 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardReferenceIdeal.defs (F := Ideal)) (onTc (τ := Cert.ForwardReferenceIdeal.τ) (Cert.ForwardReferenceIdeal.main (F := Ideal))) ⟨m', fun _ => 0, g'⟩ (fun r => ∀ c : Dev Cert.ForwardReferenceIdeal.nD,
          r.2.mem ((c.tc : Thread Cert.ForwardReferenceIdeal.nD Cert.ForwardReferenceIdeal.τ).loc Cert.ForwardReferenceIdeal.main_v20) = v0 c
          ∧ r.2.mem ((c.tc : Thread Cert.ForwardReferenceIdeal.nD Cert.ForwardReferenceIdeal.τ).loc Cert.ForwardReferenceIdeal.main_v21) = v1 c
          ∧ r.2.mem ((c.tc : Thread Cert.ForwardReferenceIdeal.nD Cert.ForwardReferenceIdeal.τ).loc Cert.ForwardReferenceIdeal.main_v22) = v2 c
          ∧ r.2.mem ((c.tc : Thread Cert.ForwardReferenceIdeal.nD Cert.ForwardReferenceIdeal.τ).loc Cert.ForwardReferenceIdeal.main_arg0) = m' ((c.tc : Thread Cert.ForwardReferenceIdeal.nD Cert.ForwardReferenceIdeal.τ).loc Cert.ForwardReferenceIdeal.main_arg0)
          ∧ r.2.mem ((c.tc : Thread Cert.ForwardReferenceIdeal.nD Cert.ForwardReferenceIdeal.τ).loc Cert.ForwardReferenceIdeal.main_arg1) = m' ((c.tc : Thread Cert.ForwardReferenceIdeal.nD Cert.ForwardReferenceIdeal.τ).loc Cert.ForwardReferenceIdeal.main_arg1)
          ∧ r.2.mem ((c.tc : Thread Cert.ForwardReferenceIdeal.nD Cert.ForwardReferenceIdeal.τ).loc Cert.ForwardReferenceIdeal.main_arg2) = m' ((c.tc : Thread Cert.ForwardReferenceIdeal.nD Cert.ForwardReferenceIdeal.τ).loc Cert.ForwardReferenceIdeal.main_arg2)
          ∧ r.2.mem ((c.tc : Thread Cert.ForwardReferenceIdeal.nD Cert.ForwardReferenceIdeal.τ).loc Cert.ForwardReferenceIdeal.main_arg3) = m' ((c.tc : Thread Cert.ForwardReferenceIdeal.nD Cert.ForwardReferenceIdeal.τ).loc Cert.ForwardReferenceIdeal.main_arg3)
          ∧ r.2.mem ((c.tc : Thread Cert.ForwardReferenceIdeal.nD Cert.ForwardReferenceIdeal.τ).loc Cert.ForwardReferenceIdeal.main_arg4) = m' ((c.tc : Thread Cert.ForwardReferenceIdeal.nD Cert.ForwardReferenceIdeal.τ).loc Cert.ForwardReferenceIdeal.main_arg4))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamChan_AdamChanIdeal : Prop :=
  True

def algebraic_AdamChanIdeal_AdamChanReferenceIdeal [hAdamChanIdeal : Cert.AdamChanIdeal.Facts] [hAdamChanReferenceIdeal : Cert.AdamChanReferenceIdeal.Facts] : Prop :=
  ∀ (m : (ℓ : Loc Cert.AdamChanIdeal.nD Cert.AdamChanIdeal.τ Cert.AdamChanIdeal.sig) → Buf (Elt Ideal) ℓ) (g : Dev Cert.AdamChanIdeal.nD → PrngReg)
    (m' : (ℓ : Loc Cert.AdamChanReferenceIdeal.nD Cert.AdamChanReferenceIdeal.τ Cert.AdamChanReferenceIdeal.sig) → Buf (Elt Ideal) ℓ) (g' : Dev Cert.AdamChanReferenceIdeal.nD → PrngReg), Pre_AdamChanIdeal m →
    (∀ c : Dev Cert.AdamChanIdeal.nD,
      m' ((c.tc : Thread Cert.AdamChanReferenceIdeal.nD Cert.AdamChanReferenceIdeal.τ).loc Cert.AdamChanReferenceIdeal.main_arg0) = m ((c.tc : Thread Cert.AdamChanIdeal.nD Cert.AdamChanIdeal.τ).loc Cert.AdamChanIdeal.main_arg0)
      ∧ m' ((c.tc : Thread Cert.AdamChanReferenceIdeal.nD Cert.AdamChanReferenceIdeal.τ).loc Cert.AdamChanReferenceIdeal.main_arg1) = m ((c.tc : Thread Cert.AdamChanIdeal.nD Cert.AdamChanIdeal.τ).loc Cert.AdamChanIdeal.main_arg1)
      ∧ m' ((c.tc : Thread Cert.AdamChanReferenceIdeal.nD Cert.AdamChanReferenceIdeal.τ).loc Cert.AdamChanReferenceIdeal.main_arg2) = m ((c.tc : Thread Cert.AdamChanIdeal.nD Cert.AdamChanIdeal.τ).loc Cert.AdamChanIdeal.main_arg2)
      ∧ m' ((c.tc : Thread Cert.AdamChanReferenceIdeal.nD Cert.AdamChanReferenceIdeal.τ).loc Cert.AdamChanReferenceIdeal.main_arg3) = m ((c.tc : Thread Cert.AdamChanIdeal.nD Cert.AdamChanIdeal.τ).loc Cert.AdamChanIdeal.main_arg3)) →
    ∃ (v0 : (c : Dev Cert.AdamChanIdeal.nD) → Buf (Elt Ideal) ((c.tc : Thread Cert.AdamChanIdeal.nD Cert.AdamChanIdeal.τ).loc Cert.AdamChanIdeal.main_v0_0)) (v1 : (c : Dev Cert.AdamChanIdeal.nD) → Buf (Elt Ideal) ((c.tc : Thread Cert.AdamChanIdeal.nD Cert.AdamChanIdeal.τ).loc Cert.AdamChanIdeal.main_v0_1)) (v2 : (c : Dev Cert.AdamChanIdeal.nD) → Buf (Elt Ideal) ((c.tc : Thread Cert.AdamChanIdeal.nD Cert.AdamChanIdeal.τ).loc Cert.AdamChanIdeal.main_v0_2)),
      θ_run (Cert.AdamChanIdeal.defs (F := Ideal)) (onTc (τ := Cert.AdamChanIdeal.τ) (Cert.AdamChanIdeal.main (F := Ideal))) ⟨m, fun _ => 0, g⟩ (fun r => ∀ c : Dev Cert.AdamChanIdeal.nD,
          r.2.mem ((c.tc : Thread Cert.AdamChanIdeal.nD Cert.AdamChanIdeal.τ).loc Cert.AdamChanIdeal.main_v0_0) = v0 c
          ∧ r.2.mem ((c.tc : Thread Cert.AdamChanIdeal.nD Cert.AdamChanIdeal.τ).loc Cert.AdamChanIdeal.main_v0_1) = v1 c
          ∧ r.2.mem ((c.tc : Thread Cert.AdamChanIdeal.nD Cert.AdamChanIdeal.τ).loc Cert.AdamChanIdeal.main_v0_2) = v2 c
          ∧ r.2.mem ((c.tc : Thread Cert.AdamChanIdeal.nD Cert.AdamChanIdeal.τ).loc Cert.AdamChanIdeal.main_arg0) = m ((c.tc : Thread Cert.AdamChanIdeal.nD Cert.AdamChanIdeal.τ).loc Cert.AdamChanIdeal.main_arg0)
          ∧ r.2.mem ((c.tc : Thread Cert.AdamChanIdeal.nD Cert.AdamChanIdeal.τ).loc Cert.AdamChanIdeal.main_arg1) = m ((c.tc : Thread Cert.AdamChanIdeal.nD Cert.AdamChanIdeal.τ).loc Cert.AdamChanIdeal.main_arg1)
          ∧ r.2.mem ((c.tc : Thread Cert.AdamChanIdeal.nD Cert.AdamChanIdeal.τ).loc Cert.AdamChanIdeal.main_arg2) = m ((c.tc : Thread Cert.AdamChanIdeal.nD Cert.AdamChanIdeal.τ).loc Cert.AdamChanIdeal.main_arg2)
          ∧ r.2.mem ((c.tc : Thread Cert.AdamChanIdeal.nD Cert.AdamChanIdeal.τ).loc Cert.AdamChanIdeal.main_arg3) = m ((c.tc : Thread Cert.AdamChanIdeal.nD Cert.AdamChanIdeal.τ).loc Cert.AdamChanIdeal.main_arg3))
      ∧ θ_run (Cert.AdamChanReferenceIdeal.defs (F := Ideal)) (onTc (τ := Cert.AdamChanReferenceIdeal.τ) (Cert.AdamChanReferenceIdeal.main (F := Ideal))) ⟨m', fun _ => 0, g'⟩ (fun r => ∀ c : Dev Cert.AdamChanReferenceIdeal.nD,
          r.2.mem ((c.tc : Thread Cert.AdamChanReferenceIdeal.nD Cert.AdamChanReferenceIdeal.τ).loc Cert.AdamChanReferenceIdeal.main_v23) = v0 c
          ∧ r.2.mem ((c.tc : Thread Cert.AdamChanReferenceIdeal.nD Cert.AdamChanReferenceIdeal.τ).loc Cert.AdamChanReferenceIdeal.main_v4) = v1 c
          ∧ r.2.mem ((c.tc : Thread Cert.AdamChanReferenceIdeal.nD Cert.AdamChanReferenceIdeal.τ).loc Cert.AdamChanReferenceIdeal.main_v10) = v2 c
          ∧ r.2.mem ((c.tc : Thread Cert.AdamChanReferenceIdeal.nD Cert.AdamChanReferenceIdeal.τ).loc Cert.AdamChanReferenceIdeal.main_arg0) = m' ((c.tc : Thread Cert.AdamChanReferenceIdeal.nD Cert.AdamChanReferenceIdeal.τ).loc Cert.AdamChanReferenceIdeal.main_arg0)
          ∧ r.2.mem ((c.tc : Thread Cert.AdamChanReferenceIdeal.nD Cert.AdamChanReferenceIdeal.τ).loc Cert.AdamChanReferenceIdeal.main_arg1) = m' ((c.tc : Thread Cert.AdamChanReferenceIdeal.nD Cert.AdamChanReferenceIdeal.τ).loc Cert.AdamChanReferenceIdeal.main_arg1)
          ∧ r.2.mem ((c.tc : Thread Cert.AdamChanReferenceIdeal.nD Cert.AdamChanReferenceIdeal.τ).loc Cert.AdamChanReferenceIdeal.main_arg2) = m' ((c.tc : Thread Cert.AdamChanReferenceIdeal.nD Cert.AdamChanReferenceIdeal.τ).loc Cert.AdamChanReferenceIdeal.main_arg2)
          ∧ r.2.mem ((c.tc : Thread Cert.AdamChanReferenceIdeal.nD Cert.AdamChanReferenceIdeal.τ).loc Cert.AdamChanReferenceIdeal.main_arg3) = m' ((c.tc : Thread Cert.AdamChanReferenceIdeal.nD Cert.AdamChanReferenceIdeal.τ).loc Cert.AdamChanReferenceIdeal.main_arg3))

def preserves_AdamLast_AdamLastIdeal : Prop :=
  True

def algebraic_AdamLastIdeal_AdamLastReferenceIdeal [hAdamLastIdeal : Cert.AdamLastIdeal.Facts] [hAdamLastReferenceIdeal : Cert.AdamLastReferenceIdeal.Facts] : Prop :=
  ∀ (m : (ℓ : Loc Cert.AdamLastIdeal.nD Cert.AdamLastIdeal.τ Cert.AdamLastIdeal.sig) → Buf (Elt Ideal) ℓ) (g : Dev Cert.AdamLastIdeal.nD → PrngReg)
    (m' : (ℓ : Loc Cert.AdamLastReferenceIdeal.nD Cert.AdamLastReferenceIdeal.τ Cert.AdamLastReferenceIdeal.sig) → Buf (Elt Ideal) ℓ) (g' : Dev Cert.AdamLastReferenceIdeal.nD → PrngReg), Pre_AdamLastIdeal m →
    (∀ c : Dev Cert.AdamLastIdeal.nD,
      m' ((c.tc : Thread Cert.AdamLastReferenceIdeal.nD Cert.AdamLastReferenceIdeal.τ).loc Cert.AdamLastReferenceIdeal.main_arg0) = m ((c.tc : Thread Cert.AdamLastIdeal.nD Cert.AdamLastIdeal.τ).loc Cert.AdamLastIdeal.main_arg0)
      ∧ m' ((c.tc : Thread Cert.AdamLastReferenceIdeal.nD Cert.AdamLastReferenceIdeal.τ).loc Cert.AdamLastReferenceIdeal.main_arg1) = m ((c.tc : Thread Cert.AdamLastIdeal.nD Cert.AdamLastIdeal.τ).loc Cert.AdamLastIdeal.main_arg1)
      ∧ m' ((c.tc : Thread Cert.AdamLastReferenceIdeal.nD Cert.AdamLastReferenceIdeal.τ).loc Cert.AdamLastReferenceIdeal.main_arg2) = m ((c.tc : Thread Cert.AdamLastIdeal.nD Cert.AdamLastIdeal.τ).loc Cert.AdamLastIdeal.main_arg2)
      ∧ m' ((c.tc : Thread Cert.AdamLastReferenceIdeal.nD Cert.AdamLastReferenceIdeal.τ).loc Cert.AdamLastReferenceIdeal.main_arg3) = m ((c.tc : Thread Cert.AdamLastIdeal.nD Cert.AdamLastIdeal.τ).loc Cert.AdamLastIdeal.main_arg3)) →
    ∃ (v0 : (c : Dev Cert.AdamLastIdeal.nD) → Buf (Elt Ideal) ((c.tc : Thread Cert.AdamLastIdeal.nD Cert.AdamLastIdeal.τ).loc Cert.AdamLastIdeal.main_v4_0)) (v1 : (c : Dev Cert.AdamLastIdeal.nD) → Buf (Elt Ideal) ((c.tc : Thread Cert.AdamLastIdeal.nD Cert.AdamLastIdeal.τ).loc Cert.AdamLastIdeal.main_v4_1)) (v2 : (c : Dev Cert.AdamLastIdeal.nD) → Buf (Elt Ideal) ((c.tc : Thread Cert.AdamLastIdeal.nD Cert.AdamLastIdeal.τ).loc Cert.AdamLastIdeal.main_v4_2)),
      θ_run (Cert.AdamLastIdeal.defs (F := Ideal)) (onTc (τ := Cert.AdamLastIdeal.τ) (Cert.AdamLastIdeal.main (F := Ideal))) ⟨m, fun _ => 0, g⟩ (fun r => ∀ c : Dev Cert.AdamLastIdeal.nD,
          r.2.mem ((c.tc : Thread Cert.AdamLastIdeal.nD Cert.AdamLastIdeal.τ).loc Cert.AdamLastIdeal.main_v4_0) = v0 c
          ∧ r.2.mem ((c.tc : Thread Cert.AdamLastIdeal.nD Cert.AdamLastIdeal.τ).loc Cert.AdamLastIdeal.main_v4_1) = v1 c
          ∧ r.2.mem ((c.tc : Thread Cert.AdamLastIdeal.nD Cert.AdamLastIdeal.τ).loc Cert.AdamLastIdeal.main_v4_2) = v2 c
          ∧ r.2.mem ((c.tc : Thread Cert.AdamLastIdeal.nD Cert.AdamLastIdeal.τ).loc Cert.AdamLastIdeal.main_arg0) = m ((c.tc : Thread Cert.AdamLastIdeal.nD Cert.AdamLastIdeal.τ).loc Cert.AdamLastIdeal.main_arg0)
          ∧ r.2.mem ((c.tc : Thread Cert.AdamLastIdeal.nD Cert.AdamLastIdeal.τ).loc Cert.AdamLastIdeal.main_arg1) = m ((c.tc : Thread Cert.AdamLastIdeal.nD Cert.AdamLastIdeal.τ).loc Cert.AdamLastIdeal.main_arg1)
          ∧ r.2.mem ((c.tc : Thread Cert.AdamLastIdeal.nD Cert.AdamLastIdeal.τ).loc Cert.AdamLastIdeal.main_arg2) = m ((c.tc : Thread Cert.AdamLastIdeal.nD Cert.AdamLastIdeal.τ).loc Cert.AdamLastIdeal.main_arg2)
          ∧ r.2.mem ((c.tc : Thread Cert.AdamLastIdeal.nD Cert.AdamLastIdeal.τ).loc Cert.AdamLastIdeal.main_arg3) = m ((c.tc : Thread Cert.AdamLastIdeal.nD Cert.AdamLastIdeal.τ).loc Cert.AdamLastIdeal.main_arg3))
      ∧ θ_run (Cert.AdamLastReferenceIdeal.defs (F := Ideal)) (onTc (τ := Cert.AdamLastReferenceIdeal.τ) (Cert.AdamLastReferenceIdeal.main (F := Ideal))) ⟨m', fun _ => 0, g'⟩ (fun r => ∀ c : Dev Cert.AdamLastReferenceIdeal.nD,
          r.2.mem ((c.tc : Thread Cert.AdamLastReferenceIdeal.nD Cert.AdamLastReferenceIdeal.τ).loc Cert.AdamLastReferenceIdeal.main_v24) = v0 c
          ∧ r.2.mem ((c.tc : Thread Cert.AdamLastReferenceIdeal.nD Cert.AdamLastReferenceIdeal.τ).loc Cert.AdamLastReferenceIdeal.main_v25) = v1 c
          ∧ r.2.mem ((c.tc : Thread Cert.AdamLastReferenceIdeal.nD Cert.AdamLastReferenceIdeal.τ).loc Cert.AdamLastReferenceIdeal.main_v26) = v2 c
          ∧ r.2.mem ((c.tc : Thread Cert.AdamLastReferenceIdeal.nD Cert.AdamLastReferenceIdeal.τ).loc Cert.AdamLastReferenceIdeal.main_arg0) = m' ((c.tc : Thread Cert.AdamLastReferenceIdeal.nD Cert.AdamLastReferenceIdeal.τ).loc Cert.AdamLastReferenceIdeal.main_arg0)
          ∧ r.2.mem ((c.tc : Thread Cert.AdamLastReferenceIdeal.nD Cert.AdamLastReferenceIdeal.τ).loc Cert.AdamLastReferenceIdeal.main_arg1) = m' ((c.tc : Thread Cert.AdamLastReferenceIdeal.nD Cert.AdamLastReferenceIdeal.τ).loc Cert.AdamLastReferenceIdeal.main_arg1)
          ∧ r.2.mem ((c.tc : Thread Cert.AdamLastReferenceIdeal.nD Cert.AdamLastReferenceIdeal.τ).loc Cert.AdamLastReferenceIdeal.main_arg2) = m' ((c.tc : Thread Cert.AdamLastReferenceIdeal.nD Cert.AdamLastReferenceIdeal.τ).loc Cert.AdamLastReferenceIdeal.main_arg2)
          ∧ r.2.mem ((c.tc : Thread Cert.AdamLastReferenceIdeal.nD Cert.AdamLastReferenceIdeal.τ).loc Cert.AdamLastReferenceIdeal.main_arg3) = m' ((c.tc : Thread Cert.AdamLastReferenceIdeal.nD Cert.AdamLastReferenceIdeal.τ).loc Cert.AdamLastReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v24) = v0 c
          ∧ r.2.mem ((c.tc : Thread Cert.AdamConvReferenceIdeal.nD Cert.AdamConvReferenceIdeal.τ).loc Cert.AdamConvReferenceIdeal.main_v25) = v1 c
          ∧ r.2.mem ((c.tc : Thread Cert.AdamConvReferenceIdeal.nD Cert.AdamConvReferenceIdeal.τ).loc Cert.AdamConvReferenceIdeal.main_v26) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamShort_AdamShortIdeal : Prop :=
  True

def algebraic_AdamShortIdeal_AdamShortReferenceIdeal [hAdamShortIdeal : Cert.AdamShortIdeal.Facts] [hAdamShortReferenceIdeal : Cert.AdamShortReferenceIdeal.Facts] : Prop :=
  ∀ (m : (ℓ : Loc Cert.AdamShortIdeal.nD Cert.AdamShortIdeal.τ Cert.AdamShortIdeal.sig) → Buf (Elt Ideal) ℓ) (g : Dev Cert.AdamShortIdeal.nD → PrngReg)
    (m' : (ℓ : Loc Cert.AdamShortReferenceIdeal.nD Cert.AdamShortReferenceIdeal.τ Cert.AdamShortReferenceIdeal.sig) → Buf (Elt Ideal) ℓ) (g' : Dev Cert.AdamShortReferenceIdeal.nD → PrngReg), Pre_AdamShortIdeal m →
    (∀ c : Dev Cert.AdamShortIdeal.nD,
      m' ((c.tc : Thread Cert.AdamShortReferenceIdeal.nD Cert.AdamShortReferenceIdeal.τ).loc Cert.AdamShortReferenceIdeal.main_arg0) = m ((c.tc : Thread Cert.AdamShortIdeal.nD Cert.AdamShortIdeal.τ).loc Cert.AdamShortIdeal.main_arg0)
      ∧ m' ((c.tc : Thread Cert.AdamShortReferenceIdeal.nD Cert.AdamShortReferenceIdeal.τ).loc Cert.AdamShortReferenceIdeal.main_arg1) = m ((c.tc : Thread Cert.AdamShortIdeal.nD Cert.AdamShortIdeal.τ).loc Cert.AdamShortIdeal.main_arg1)
      ∧ m' ((c.tc : Thread Cert.AdamShortReferenceIdeal.nD Cert.AdamShortReferenceIdeal.τ).loc Cert.AdamShortReferenceIdeal.main_arg2) = m ((c.tc : Thread Cert.AdamShortIdeal.nD Cert.AdamShortIdeal.τ).loc Cert.AdamShortIdeal.main_arg2)
      ∧ m' ((c.tc : Thread Cert.AdamShortReferenceIdeal.nD Cert.AdamShortReferenceIdeal.τ).loc Cert.AdamShortReferenceIdeal.main_arg3) = m ((c.tc : Thread Cert.AdamShortIdeal.nD Cert.AdamShortIdeal.τ).loc Cert.AdamShortIdeal.main_arg3)) →
    ∃ (v0 : (c : Dev Cert.AdamShortIdeal.nD) → Buf (Elt Ideal) ((c.tc : Thread Cert.AdamShortIdeal.nD Cert.AdamShortIdeal.τ).loc Cert.AdamShortIdeal.main_v4_0)) (v1 : (c : Dev Cert.AdamShortIdeal.nD) → Buf (Elt Ideal) ((c.tc : Thread Cert.AdamShortIdeal.nD Cert.AdamShortIdeal.τ).loc Cert.AdamShortIdeal.main_v4_1)) (v2 : (c : Dev Cert.AdamShortIdeal.nD) → Buf (Elt Ideal) ((c.tc : Thread Cert.AdamShortIdeal.nD Cert.AdamShortIdeal.τ).loc Cert.AdamShortIdeal.main_v4_2)),
      θ_run (Cert.AdamShortIdeal.defs (F := Ideal)) (onTc (τ := Cert.AdamShortIdeal.τ) (Cert.AdamShortIdeal.main (F := Ideal))) ⟨m, fun _ => 0, g⟩ (fun r => ∀ c : Dev Cert.AdamShortIdeal.nD,
          r.2.mem ((c.tc : Thread Cert.AdamShortIdeal.nD Cert.AdamShortIdeal.τ).loc Cert.AdamShortIdeal.main_v4_0) = v0 c
          ∧ r.2.mem ((c.tc : Thread Cert.AdamShortIdeal.nD Cert.AdamShortIdeal.τ).loc Cert.AdamShortIdeal.main_v4_1) = v1 c
          ∧ r.2.mem ((c.tc : Thread Cert.AdamShortIdeal.nD Cert.AdamShortIdeal.τ).loc Cert.AdamShortIdeal.main_v4_2) = v2 c
          ∧ r.2.mem ((c.tc : Thread Cert.AdamShortIdeal.nD Cert.AdamShortIdeal.τ).loc Cert.AdamShortIdeal.main_arg0) = m ((c.tc : Thread Cert.AdamShortIdeal.nD Cert.AdamShortIdeal.τ).loc Cert.AdamShortIdeal.main_arg0)
          ∧ r.2.mem ((c.tc : Thread Cert.AdamShortIdeal.nD Cert.AdamShortIdeal.τ).loc Cert.AdamShortIdeal.main_arg1) = m ((c.tc : Thread Cert.AdamShortIdeal.nD Cert.AdamShortIdeal.τ).loc Cert.AdamShortIdeal.main_arg1)
          ∧ r.2.mem ((c.tc : Thread Cert.AdamShortIdeal.nD Cert.AdamShortIdeal.τ).loc Cert.AdamShortIdeal.main_arg2) = m ((c.tc : Thread Cert.AdamShortIdeal.nD Cert.AdamShortIdeal.τ).loc Cert.AdamShortIdeal.main_arg2)
          ∧ r.2.mem ((c.tc : Thread Cert.AdamShortIdeal.nD Cert.AdamShortIdeal.τ).loc Cert.AdamShortIdeal.main_arg3) = m ((c.tc : Thread Cert.AdamShortIdeal.nD Cert.AdamShortIdeal.τ).loc Cert.AdamShortIdeal.main_arg3))
      ∧ θ_run (Cert.AdamShortReferenceIdeal.defs (F := Ideal)) (onTc (τ := Cert.AdamShortReferenceIdeal.τ) (Cert.AdamShortReferenceIdeal.main (F := Ideal))) ⟨m', fun _ => 0, g'⟩ (fun r => ∀ c : Dev Cert.AdamShortReferenceIdeal.nD,
          r.2.mem ((c.tc : Thread Cert.AdamShortReferenceIdeal.nD Cert.AdamShortReferenceIdeal.τ).loc Cert.AdamShortReferenceIdeal.main_v24) = v0 c
          ∧ r.2.mem ((c.tc : Thread Cert.AdamShortReferenceIdeal.nD Cert.AdamShortReferenceIdeal.τ).loc Cert.AdamShortReferenceIdeal.main_v25) = v1 c
          ∧ r.2.mem ((c.tc : Thread Cert.AdamShortReferenceIdeal.nD Cert.AdamShortReferenceIdeal.τ).loc Cert.AdamShortReferenceIdeal.main_v26) = v2 c
          ∧ r.2.mem ((c.tc : Thread Cert.AdamShortReferenceIdeal.nD Cert.AdamShortReferenceIdeal.τ).loc Cert.AdamShortReferenceIdeal.main_arg0) = m' ((c.tc : Thread Cert.AdamShortReferenceIdeal.nD Cert.AdamShortReferenceIdeal.τ).loc Cert.AdamShortReferenceIdeal.main_arg0)
          ∧ r.2.mem ((c.tc : Thread Cert.AdamShortReferenceIdeal.nD Cert.AdamShortReferenceIdeal.τ).loc Cert.AdamShortReferenceIdeal.main_arg1) = m' ((c.tc : Thread Cert.AdamShortReferenceIdeal.nD Cert.AdamShortReferenceIdeal.τ).loc Cert.AdamShortReferenceIdeal.main_arg1)
          ∧ r.2.mem ((c.tc : Thread Cert.AdamShortReferenceIdeal.nD Cert.AdamShortReferenceIdeal.τ).loc Cert.AdamShortReferenceIdeal.main_arg2) = m' ((c.tc : Thread Cert.AdamShortReferenceIdeal.nD Cert.AdamShortReferenceIdeal.τ).loc Cert.AdamShortReferenceIdeal.main_arg2)
          ∧ r.2.mem ((c.tc : Thread Cert.AdamShortReferenceIdeal.nD Cert.AdamShortReferenceIdeal.τ).loc Cert.AdamShortReferenceIdeal.main_arg3) = m' ((c.tc : Thread Cert.AdamShortReferenceIdeal.nD Cert.AdamShortReferenceIdeal.τ).loc Cert.AdamShortReferenceIdeal.main_arg3))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v4_0)) (v1 : (c : Dev Cert.AdamPoolIdeal.nD) → Buf (Elt Ideal) ((c.tc : Thread Cert.AdamPoolIdeal.nD Cert.AdamPoolIdeal.τ).loc Cert.AdamPoolIdeal.main_v4_1)) (v2 : (c : Dev Cert.AdamPoolIdeal.nD) → Buf (Elt Ideal) ((c.tc : Thread Cert.AdamPoolIdeal.nD Cert.AdamPoolIdeal.τ).loc Cert.AdamPoolIdeal.main_v4_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v4_0) = v0 c
          ∧ r.2.mem ((c.tc : Thread Cert.AdamPoolIdeal.nD Cert.AdamPoolIdeal.τ).loc Cert.AdamPoolIdeal.main_v4_1) = v1 c
          ∧ r.2.mem ((c.tc : Thread Cert.AdamPoolIdeal.nD Cert.AdamPoolIdeal.τ).loc Cert.AdamPoolIdeal.main_v4_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v24) = v0 c
          ∧ r.2.mem ((c.tc : Thread Cert.AdamPoolReferenceIdeal.nD Cert.AdamPoolReferenceIdeal.τ).loc Cert.AdamPoolReferenceIdeal.main_v25) = v1 c
          ∧ r.2.mem ((c.tc : Thread Cert.AdamPoolReferenceIdeal.nD Cert.AdamPoolReferenceIdeal.τ).loc Cert.AdamPoolReferenceIdeal.main_v26) = v2 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3))

def preserves_AdamMix_AdamMixIdeal : Prop :=
  True

def algebraic_AdamMixIdeal_AdamMixReferenceIdeal [hAdamMixIdeal : Cert.AdamMixIdeal.Facts] [hAdamMixReferenceIdeal : Cert.AdamMixReferenceIdeal.Facts] : Prop :=
  ∀ (m : (ℓ : Loc Cert.AdamMixIdeal.nD Cert.AdamMixIdeal.τ Cert.AdamMixIdeal.sig) → Buf (Elt Ideal) ℓ) (g : Dev Cert.AdamMixIdeal.nD → PrngReg)
    (m' : (ℓ : Loc Cert.AdamMixReferenceIdeal.nD Cert.AdamMixReferenceIdeal.τ Cert.AdamMixReferenceIdeal.sig) → Buf (Elt Ideal) ℓ) (g' : Dev Cert.AdamMixReferenceIdeal.nD → PrngReg), Pre_AdamMixIdeal m →
    (∀ c : Dev Cert.AdamMixIdeal.nD,
      m' ((c.tc : Thread Cert.AdamMixReferenceIdeal.nD Cert.AdamMixReferenceIdeal.τ).loc Cert.AdamMixReferenceIdeal.main_arg0) = m ((c.tc : Thread Cert.AdamMixIdeal.nD Cert.AdamMixIdeal.τ).loc Cert.AdamMixIdeal.main_arg0)
      ∧ m' ((c.tc : Thread Cert.AdamMixReferenceIdeal.nD Cert.AdamMixReferenceIdeal.τ).loc Cert.AdamMixReferenceIdeal.main_arg1) = m ((c.tc : Thread Cert.AdamMixIdeal.nD Cert.AdamMixIdeal.τ).loc Cert.AdamMixIdeal.main_arg1)
      ∧ m' ((c.tc : Thread Cert.AdamMixReferenceIdeal.nD Cert.AdamMixReferenceIdeal.τ).loc Cert.AdamMixReferenceIdeal.main_arg2) = m ((c.tc : Thread Cert.AdamMixIdeal.nD Cert.AdamMixIdeal.τ).loc Cert.AdamMixIdeal.main_arg2)
      ∧ m' ((c.tc : Thread Cert.AdamMixReferenceIdeal.nD Cert.AdamMixReferenceIdeal.τ).loc Cert.AdamMixReferenceIdeal.main_arg3) = m ((c.tc : Thread Cert.AdamMixIdeal.nD Cert.AdamMixIdeal.τ).loc Cert.AdamMixIdeal.main_arg3)) →
    ∃ (v0 : (c : Dev Cert.AdamMixIdeal.nD) → Buf (Elt Ideal) ((c.tc : Thread Cert.AdamMixIdeal.nD Cert.AdamMixIdeal.τ).loc Cert.AdamMixIdeal.main_v4_0)) (v1 : (c : Dev Cert.AdamMixIdeal.nD) → Buf (Elt Ideal) ((c.tc : Thread Cert.AdamMixIdeal.nD Cert.AdamMixIdeal.τ).loc Cert.AdamMixIdeal.main_v4_1)) (v2 : (c : Dev Cert.AdamMixIdeal.nD) → Buf (Elt Ideal) ((c.tc : Thread Cert.AdamMixIdeal.nD Cert.AdamMixIdeal.τ).loc Cert.AdamMixIdeal.main_v4_2)),
      θ_run (Cert.AdamMixIdeal.defs (F := Ideal)) (onTc (τ := Cert.AdamMixIdeal.τ) (Cert.AdamMixIdeal.main (F := Ideal))) ⟨m, fun _ => 0, g⟩ (fun r => ∀ c : Dev Cert.AdamMixIdeal.nD,
          r.2.mem ((c.tc : Thread Cert.AdamMixIdeal.nD Cert.AdamMixIdeal.τ).loc Cert.AdamMixIdeal.main_v4_0) = v0 c
          ∧ r.2.mem ((c.tc : Thread Cert.AdamMixIdeal.nD Cert.AdamMixIdeal.τ).loc Cert.AdamMixIdeal.main_v4_1) = v1 c
          ∧ r.2.mem ((c.tc : Thread Cert.AdamMixIdeal.nD Cert.AdamMixIdeal.τ).loc Cert.AdamMixIdeal.main_v4_2) = v2 c
          ∧ r.2.mem ((c.tc : Thread Cert.AdamMixIdeal.nD Cert.AdamMixIdeal.τ).loc Cert.AdamMixIdeal.main_arg0) = m ((c.tc : Thread Cert.AdamMixIdeal.nD Cert.AdamMixIdeal.τ).loc Cert.AdamMixIdeal.main_arg0)
          ∧ r.2.mem ((c.tc : Thread Cert.AdamMixIdeal.nD Cert.AdamMixIdeal.τ).loc Cert.AdamMixIdeal.main_arg1) = m ((c.tc : Thread Cert.AdamMixIdeal.nD Cert.AdamMixIdeal.τ).loc Cert.AdamMixIdeal.main_arg1)
          ∧ r.2.mem ((c.tc : Thread Cert.AdamMixIdeal.nD Cert.AdamMixIdeal.τ).loc Cert.AdamMixIdeal.main_arg2) = m ((c.tc : Thread Cert.AdamMixIdeal.nD Cert.AdamMixIdeal.τ).loc Cert.AdamMixIdeal.main_arg2)
          ∧ r.2.mem ((c.tc : Thread Cert.AdamMixIdeal.nD Cert.AdamMixIdeal.τ).loc Cert.AdamMixIdeal.main_arg3) = m ((c.tc : Thread Cert.AdamMixIdeal.nD Cert.AdamMixIdeal.τ).loc Cert.AdamMixIdeal.main_arg3))
      ∧ θ_run (Cert.AdamMixReferenceIdeal.defs (F := Ideal)) (onTc (τ := Cert.AdamMixReferenceIdeal.τ) (Cert.AdamMixReferenceIdeal.main (F := Ideal))) ⟨m', fun _ => 0, g'⟩ (fun r => ∀ c : Dev Cert.AdamMixReferenceIdeal.nD,
          r.2.mem ((c.tc : Thread Cert.AdamMixReferenceIdeal.nD Cert.AdamMixReferenceIdeal.τ).loc Cert.AdamMixReferenceIdeal.main_v24) = v0 c
          ∧ r.2.mem ((c.tc : Thread Cert.AdamMixReferenceIdeal.nD Cert.AdamMixReferenceIdeal.τ).loc Cert.AdamMixReferenceIdeal.main_v25) = v1 c
          ∧ r.2.mem ((c.tc : Thread Cert.AdamMixReferenceIdeal.nD Cert.AdamMixReferenceIdeal.τ).loc Cert.AdamMixReferenceIdeal.main_v26) = v2 c
          ∧ r.2.mem ((c.tc : Thread Cert.AdamMixReferenceIdeal.nD Cert.AdamMixReferenceIdeal.τ).loc Cert.AdamMixReferenceIdeal.main_arg0) = m' ((c.tc : Thread Cert.AdamMixReferenceIdeal.nD Cert.AdamMixReferenceIdeal.τ).loc Cert.AdamMixReferenceIdeal.main_arg0)
          ∧ r.2.mem ((c.tc : Thread Cert.AdamMixReferenceIdeal.nD Cert.AdamMixReferenceIdeal.τ).loc Cert.AdamMixReferenceIdeal.main_arg1) = m' ((c.tc : Thread Cert.AdamMixReferenceIdeal.nD Cert.AdamMixReferenceIdeal.τ).loc Cert.AdamMixReferenceIdeal.main_arg1)
          ∧ r.2.mem ((c.tc : Thread Cert.AdamMixReferenceIdeal.nD Cert.AdamMixReferenceIdeal.τ).loc Cert.AdamMixReferenceIdeal.main_arg2) = m' ((c.tc : Thread Cert.AdamMixReferenceIdeal.nD Cert.AdamMixReferenceIdeal.τ).loc Cert.AdamMixReferenceIdeal.main_arg2)
          ∧ r.2.mem ((c.tc : Thread Cert.AdamMixReferenceIdeal.nD Cert.AdamMixReferenceIdeal.τ).loc Cert.AdamMixReferenceIdeal.main_arg3) = m' ((c.tc : Thread Cert.AdamMixReferenceIdeal.nD Cert.AdamMixReferenceIdeal.τ).loc Cert.AdamMixReferenceIdeal.main_arg3))

def preserves_AdamBias_AdamBiasIdeal : Prop :=
  True

def algebraic_AdamBiasIdeal_AdamBiasReferenceIdeal [hAdamBiasIdeal : Cert.AdamBiasIdeal.Facts] [hAdamBiasReferenceIdeal : Cert.AdamBiasReferenceIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasReferenceIdeal.nD Cert.AdamBiasReferenceIdeal.τ Cert.AdamBiasReferenceIdeal.sig) → Buf (Elt Ideal) ℓ) (g' : Dev Cert.AdamBiasReferenceIdeal.nD → PrngReg), Pre_AdamBiasIdeal m →
    (∀ c : Dev Cert.AdamBiasIdeal.nD,
      m' ((c.tc : Thread Cert.AdamBiasReferenceIdeal.nD Cert.AdamBiasReferenceIdeal.τ).loc Cert.AdamBiasReferenceIdeal.main_arg0) = m ((c.tc : Thread Cert.AdamBiasIdeal.nD Cert.AdamBiasIdeal.τ).loc Cert.AdamBiasIdeal.main_arg0)
      ∧ m' ((c.tc : Thread Cert.AdamBiasReferenceIdeal.nD Cert.AdamBiasReferenceIdeal.τ).loc Cert.AdamBiasReferenceIdeal.main_arg1) = m ((c.tc : Thread Cert.AdamBiasIdeal.nD Cert.AdamBiasIdeal.τ).loc Cert.AdamBiasIdeal.main_arg1)
      ∧ m' ((c.tc : Thread Cert.AdamBiasReferenceIdeal.nD Cert.AdamBiasReferenceIdeal.τ).loc Cert.AdamBiasReferenceIdeal.main_arg2) = m ((c.tc : Thread Cert.AdamBiasIdeal.nD Cert.AdamBiasIdeal.τ).loc Cert.AdamBiasIdeal.main_arg2)
      ∧ m' ((c.tc : Thread Cert.AdamBiasReferenceIdeal.nD Cert.AdamBiasReferenceIdeal.τ).loc Cert.AdamBiasReferenceIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v4_0)) (v1 : (c : Dev Cert.AdamBiasIdeal.nD) → Buf (Elt Ideal) ((c.tc : Thread Cert.AdamBiasIdeal.nD Cert.AdamBiasIdeal.τ).loc Cert.AdamBiasIdeal.main_v4_1)) (v2 : (c : Dev Cert.AdamBiasIdeal.nD) → Buf (Elt Ideal) ((c.tc : Thread Cert.AdamBiasIdeal.nD Cert.AdamBiasIdeal.τ).loc Cert.AdamBiasIdeal.main_v4_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v4_0) = v0 c
          ∧ r.2.mem ((c.tc : Thread Cert.AdamBiasIdeal.nD Cert.AdamBiasIdeal.τ).loc Cert.AdamBiasIdeal.main_v4_1) = v1 c
          ∧ r.2.mem ((c.tc : Thread Cert.AdamBiasIdeal.nD Cert.AdamBiasIdeal.τ).loc Cert.AdamBiasIdeal.main_v4_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasReferenceIdeal.defs (F := Ideal)) (onTc (τ := Cert.AdamBiasReferenceIdeal.τ) (Cert.AdamBiasReferenceIdeal.main (F := Ideal))) ⟨m', fun _ => 0, g'⟩ (fun r => ∀ c : Dev Cert.AdamBiasReferenceIdeal.nD,
          r.2.mem ((c.tc : Thread Cert.AdamBiasReferenceIdeal.nD Cert.AdamBiasReferenceIdeal.τ).loc Cert.AdamBiasReferenceIdeal.main_v24) = v0 c
          ∧ r.2.mem ((c.tc : Thread Cert.AdamBiasReferenceIdeal.nD Cert.AdamBiasReferenceIdeal.τ).loc Cert.AdamBiasReferenceIdeal.main_v25) = v1 c
          ∧ r.2.mem ((c.tc : Thread Cert.AdamBiasReferenceIdeal.nD Cert.AdamBiasReferenceIdeal.τ).loc Cert.AdamBiasReferenceIdeal.main_v26) = v2 c
          ∧ r.2.mem ((c.tc : Thread Cert.AdamBiasReferenceIdeal.nD Cert.AdamBiasReferenceIdeal.τ).loc Cert.AdamBiasReferenceIdeal.main_arg0) = m' ((c.tc : Thread Cert.AdamBiasReferenceIdeal.nD Cert.AdamBiasReferenceIdeal.τ).loc Cert.AdamBiasReferenceIdeal.main_arg0)
          ∧ r.2.mem ((c.tc : Thread Cert.AdamBiasReferenceIdeal.nD Cert.AdamBiasReferenceIdeal.τ).loc Cert.AdamBiasReferenceIdeal.main_arg1) = m' ((c.tc : Thread Cert.AdamBiasReferenceIdeal.nD Cert.AdamBiasReferenceIdeal.τ).loc Cert.AdamBiasReferenceIdeal.main_arg1)
          ∧ r.2.mem ((c.tc : Thread Cert.AdamBiasReferenceIdeal.nD Cert.AdamBiasReferenceIdeal.τ).loc Cert.AdamBiasReferenceIdeal.main_arg2) = m' ((c.tc : Thread Cert.AdamBiasReferenceIdeal.nD Cert.AdamBiasReferenceIdeal.τ).loc Cert.AdamBiasReferenceIdeal.main_arg2)
          ∧ r.2.mem ((c.tc : Thread Cert.AdamBiasReferenceIdeal.nD Cert.AdamBiasReferenceIdeal.τ).loc Cert.AdamBiasReferenceIdeal.main_arg3) = m' ((c.tc : Thread Cert.AdamBiasReferenceIdeal.nD Cert.AdamBiasReferenceIdeal.τ).loc Cert.AdamBiasReferenceIdeal.main_arg3))

def preserves_SumLate_SumLateIdeal : Prop :=
  True

def algebraic_SumLateIdeal_SumLateReferenceIdeal [hSumLateIdeal : Cert.SumLateIdeal.Facts] [hSumLateReferenceIdeal : Cert.SumLateReferenceIdeal.Facts] : Prop :=
  ∀ (m : (ℓ : Loc Cert.SumLateIdeal.nD Cert.SumLateIdeal.τ Cert.SumLateIdeal.sig) → Buf (Elt Ideal) ℓ) (g : Dev Cert.SumLateIdeal.nD → PrngReg)
    (m' : (ℓ : Loc Cert.SumLateReferenceIdeal.nD Cert.SumLateReferenceIdeal.τ Cert.SumLateReferenceIdeal.sig) → Buf (Elt Ideal) ℓ) (g' : Dev Cert.SumLateReferenceIdeal.nD → PrngReg), Pre_SumLateIdeal m →
    (∀ c : Dev Cert.SumLateIdeal.nD,
      m' ((c.tc : Thread Cert.SumLateReferenceIdeal.nD Cert.SumLateReferenceIdeal.τ).loc Cert.SumLateReferenceIdeal.main_arg0) = m ((c.tc : Thread Cert.SumLateIdeal.nD Cert.SumLateIdeal.τ).loc Cert.SumLateIdeal.main_arg0)) →
    ∃ (v0 : (c : Dev Cert.SumLateIdeal.nD) → Buf (Elt Ideal) ((c.tc : Thread Cert.SumLateIdeal.nD Cert.SumLateIdeal.τ).loc Cert.SumLateIdeal.main_v0)),
      θ_run (Cert.SumLateIdeal.defs (F := Ideal)) (onTc (τ := Cert.SumLateIdeal.τ) (Cert.SumLateIdeal.main (F := Ideal))) ⟨m, fun _ => 0, g⟩ (fun r => ∀ c : Dev Cert.SumLateIdeal.nD,
          r.2.mem ((c.tc : Thread Cert.SumLateIdeal.nD Cert.SumLateIdeal.τ).loc Cert.SumLateIdeal.main_v0) = v0 c
          ∧ r.2.mem ((c.tc : Thread Cert.SumLateIdeal.nD Cert.SumLateIdeal.τ).loc Cert.SumLateIdeal.main_arg0) = m ((c.tc : Thread Cert.SumLateIdeal.nD Cert.SumLateIdeal.τ).loc Cert.SumLateIdeal.main_arg0))
      ∧ θ_run (Cert.SumLateReferenceIdeal.defs (F := Ideal)) (onTc (τ := Cert.SumLateReferenceIdeal.τ) (Cert.SumLateReferenceIdeal.main (F := Ideal))) ⟨m', fun _ => 0, g'⟩ (fun r => ∀ c : Dev Cert.SumLateReferenceIdeal.nD,
          r.2.mem ((c.tc : Thread Cert.SumLateReferenceIdeal.nD Cert.SumLateReferenceIdeal.τ).loc Cert.SumLateReferenceIdeal.main_v0) = v0 c
          ∧ r.2.mem ((c.tc : Thread Cert.SumLateReferenceIdeal.nD Cert.SumLateReferenceIdeal.τ).loc Cert.SumLateReferenceIdeal.main_arg0) = m' ((c.tc : Thread Cert.SumLateReferenceIdeal.nD Cert.SumLateReferenceIdeal.τ).loc Cert.SumLateReferenceIdeal.main_arg0))

def preserves_SumEarly_SumEarlyIdeal : Prop :=
  True

def algebraic_SumEarlyIdeal_SumEarlyReferenceIdeal [hSumEarlyIdeal : Cert.SumEarlyIdeal.Facts] [hSumEarlyReferenceIdeal : Cert.SumEarlyReferenceIdeal.Facts] : Prop :=
  ∀ (m : (ℓ : Loc Cert.SumEarlyIdeal.nD Cert.SumEarlyIdeal.τ Cert.SumEarlyIdeal.sig) → Buf (Elt Ideal) ℓ) (g : Dev Cert.SumEarlyIdeal.nD → PrngReg)
    (m' : (ℓ : Loc Cert.SumEarlyReferenceIdeal.nD Cert.SumEarlyReferenceIdeal.τ Cert.SumEarlyReferenceIdeal.sig) → Buf (Elt Ideal) ℓ) (g' : Dev Cert.SumEarlyReferenceIdeal.nD → PrngReg), Pre_SumEarlyIdeal m →
    (∀ c : Dev Cert.SumEarlyIdeal.nD,
      m' ((c.tc : Thread Cert.SumEarlyReferenceIdeal.nD Cert.SumEarlyReferenceIdeal.τ).loc Cert.SumEarlyReferenceIdeal.main_arg0) = m ((c.tc : Thread Cert.SumEarlyIdeal.nD Cert.SumEarlyIdeal.τ).loc Cert.SumEarlyIdeal.main_arg0)) →
    ∃ (v0 : (c : Dev Cert.SumEarlyIdeal.nD) → Buf (Elt Ideal) ((c.tc : Thread Cert.SumEarlyIdeal.nD Cert.SumEarlyIdeal.τ).loc Cert.SumEarlyIdeal.main_v0)),
      θ_run (Cert.SumEarlyIdeal.defs (F := Ideal)) (onTc (τ := Cert.SumEarlyIdeal.τ) (Cert.SumEarlyIdeal.main (F := Ideal))) ⟨m, fun _ => 0, g⟩ (fun r => ∀ c : Dev Cert.SumEarlyIdeal.nD,
          r.2.mem ((c.tc : Thread Cert.SumEarlyIdeal.nD Cert.SumEarlyIdeal.τ).loc Cert.SumEarlyIdeal.main_v0) = v0 c
          ∧ r.2.mem ((c.tc : Thread Cert.SumEarlyIdeal.nD Cert.SumEarlyIdeal.τ).loc Cert.SumEarlyIdeal.main_arg0) = m ((c.tc : Thread Cert.SumEarlyIdeal.nD Cert.SumEarlyIdeal.τ).loc Cert.SumEarlyIdeal.main_arg0))
      ∧ θ_run (Cert.SumEarlyReferenceIdeal.defs (F := Ideal)) (onTc (τ := Cert.SumEarlyReferenceIdeal.τ) (Cert.SumEarlyReferenceIdeal.main (F := Ideal))) ⟨m', fun _ => 0, g'⟩ (fun r => ∀ c : Dev Cert.SumEarlyReferenceIdeal.nD,
          r.2.mem ((c.tc : Thread Cert.SumEarlyReferenceIdeal.nD Cert.SumEarlyReferenceIdeal.τ).loc Cert.SumEarlyReferenceIdeal.main_v0) = v0 c
          ∧ r.2.mem ((c.tc : Thread Cert.SumEarlyReferenceIdeal.nD Cert.SumEarlyReferenceIdeal.τ).loc Cert.SumEarlyReferenceIdeal.main_arg0) = m' ((c.tc : Thread Cert.SumEarlyReferenceIdeal.nD Cert.SumEarlyReferenceIdeal.τ).loc Cert.SumEarlyReferenceIdeal.main_arg0))

def preserves_ReduceF1W1_ReduceF1W1Ideal : Prop :=
  True

def algebraic_ReduceF1W1Ideal_ReduceF1W1ReferenceIdeal [hReduceF1W1Ideal : Cert.ReduceF1W1Ideal.Facts] [hReduceF1W1ReferenceIdeal : Cert.ReduceF1W1ReferenceIdeal.Facts] : Prop :=
  ∀ (m : (ℓ : Loc Cert.ReduceF1W1Ideal.nD Cert.ReduceF1W1Ideal.τ Cert.ReduceF1W1Ideal.sig) → Buf (Elt Ideal) ℓ) (g : Dev Cert.ReduceF1W1Ideal.nD → PrngReg)
    (m' : (ℓ : Loc Cert.ReduceF1W1ReferenceIdeal.nD Cert.ReduceF1W1ReferenceIdeal.τ Cert.ReduceF1W1ReferenceIdeal.sig) → Buf (Elt Ideal) ℓ) (g' : Dev Cert.ReduceF1W1ReferenceIdeal.nD → PrngReg), Pre_ReduceF1W1Ideal m →
    (∀ c : Dev Cert.ReduceF1W1Ideal.nD,
      m' ((c.tc : Thread Cert.ReduceF1W1ReferenceIdeal.nD Cert.ReduceF1W1ReferenceIdeal.τ).loc Cert.ReduceF1W1ReferenceIdeal.main_arg0) = m ((c.tc : Thread Cert.ReduceF1W1Ideal.nD Cert.ReduceF1W1Ideal.τ).loc Cert.ReduceF1W1Ideal.main_arg0)
      ∧ m' ((c.tc : Thread Cert.ReduceF1W1ReferenceIdeal.nD Cert.ReduceF1W1ReferenceIdeal.τ).loc Cert.ReduceF1W1ReferenceIdeal.main_arg1) = m ((c.tc : Thread Cert.ReduceF1W1Ideal.nD Cert.ReduceF1W1Ideal.τ).loc Cert.ReduceF1W1Ideal.main_arg1)
      ∧ m' ((c.tc : Thread Cert.ReduceF1W1ReferenceIdeal.nD Cert.ReduceF1W1ReferenceIdeal.τ).loc Cert.ReduceF1W1ReferenceIdeal.main_arg2) = m ((c.tc : Thread Cert.ReduceF1W1Ideal.nD Cert.ReduceF1W1Ideal.τ).loc Cert.ReduceF1W1Ideal.main_arg2)
      ∧ m' ((c.tc : Thread Cert.ReduceF1W1ReferenceIdeal.nD Cert.ReduceF1W1ReferenceIdeal.τ).loc Cert.ReduceF1W1ReferenceIdeal.main_arg3) = m ((c.tc : Thread Cert.ReduceF1W1Ideal.nD Cert.ReduceF1W1Ideal.τ).loc Cert.ReduceF1W1Ideal.main_arg3)
      ∧ m' ((c.tc : Thread Cert.ReduceF1W1ReferenceIdeal.nD Cert.ReduceF1W1ReferenceIdeal.τ).loc Cert.ReduceF1W1ReferenceIdeal.main_arg4) = m ((c.tc : Thread Cert.ReduceF1W1Ideal.nD Cert.ReduceF1W1Ideal.τ).loc Cert.ReduceF1W1Ideal.main_arg4)
      ∧ m' ((c.tc : Thread Cert.ReduceF1W1ReferenceIdeal.nD Cert.ReduceF1W1ReferenceIdeal.τ).loc Cert.ReduceF1W1ReferenceIdeal.main_arg5) = m ((c.tc : Thread Cert.ReduceF1W1Ideal.nD Cert.ReduceF1W1Ideal.τ).loc Cert.ReduceF1W1Ideal.main_arg5)
      ∧ m' ((c.tc : Thread Cert.ReduceF1W1ReferenceIdeal.nD Cert.ReduceF1W1ReferenceIdeal.τ).loc Cert.ReduceF1W1ReferenceIdeal.main_arg6) = m ((c.tc : Thread Cert.ReduceF1W1Ideal.nD Cert.ReduceF1W1Ideal.τ).loc Cert.ReduceF1W1Ideal.main_arg6)) →
    ∃ (v0 : (c : Dev Cert.ReduceF1W1Ideal.nD) → Buf (Elt Ideal) ((c.tc : Thread Cert.ReduceF1W1Ideal.nD Cert.ReduceF1W1Ideal.τ).loc Cert.ReduceF1W1Ideal.main_v3_0)) (v1 : (c : Dev Cert.ReduceF1W1Ideal.nD) → Buf (Elt Ideal) ((c.tc : Thread Cert.ReduceF1W1Ideal.nD Cert.ReduceF1W1Ideal.τ).loc Cert.ReduceF1W1Ideal.main_v3_1)) (v2 : (c : Dev Cert.ReduceF1W1Ideal.nD) → Buf (Elt Ideal) ((c.tc : Thread Cert.ReduceF1W1Ideal.nD Cert.ReduceF1W1Ideal.τ).loc Cert.ReduceF1W1Ideal.main_v3_2)) (v3 : (c : Dev Cert.ReduceF1W1Ideal.nD) → Buf (Elt Ideal) ((c.tc : Thread Cert.ReduceF1W1Ideal.nD Cert.ReduceF1W1Ideal.τ).loc Cert.ReduceF1W1Ideal.main_v3_3)),
      θ_run (Cert.ReduceF1W1Ideal.defs (F := Ideal)) (onTc (τ := Cert.ReduceF1W1Ideal.τ) (Cert.ReduceF1W1Ideal.main (F := Ideal))) ⟨m, fun _ => 0, g⟩ (fun r => ∀ c : Dev Cert.ReduceF1W1Ideal.nD,
          r.2.mem ((c.tc : Thread Cert.ReduceF1W1Ideal.nD Cert.ReduceF1W1Ideal.τ).loc Cert.ReduceF1W1Ideal.main_v3_0) = v0 c
          ∧ r.2.mem ((c.tc : Thread Cert.ReduceF1W1Ideal.nD Cert.ReduceF1W1Ideal.τ).loc Cert.ReduceF1W1Ideal.main_v3_1) = v1 c
          ∧ r.2.mem ((c.tc : Thread Cert.ReduceF1W1Ideal.nD Cert.ReduceF1W1Ideal.τ).loc Cert.ReduceF1W1Ideal.main_v3_2) = v2 c
          ∧ r.2.mem ((c.tc : Thread Cert.ReduceF1W1Ideal.nD Cert.ReduceF1W1Ideal.τ).loc Cert.ReduceF1W1Ideal.main_v3_3) = v3 c
          ∧ r.2.mem ((c.tc : Thread Cert.ReduceF1W1Ideal.nD Cert.ReduceF1W1Ideal.τ).loc Cert.ReduceF1W1Ideal.main_arg0) = m ((c.tc : Thread Cert.ReduceF1W1Ideal.nD Cert.ReduceF1W1Ideal.τ).loc Cert.ReduceF1W1Ideal.main_arg0)
          ∧ r.2.mem ((c.tc : Thread Cert.ReduceF1W1Ideal.nD Cert.ReduceF1W1Ideal.τ).loc Cert.ReduceF1W1Ideal.main_arg1) = m ((c.tc : Thread Cert.ReduceF1W1Ideal.nD Cert.ReduceF1W1Ideal.τ).loc Cert.ReduceF1W1Ideal.main_arg1)
          ∧ r.2.mem ((c.tc : Thread Cert.ReduceF1W1Ideal.nD Cert.ReduceF1W1Ideal.τ).loc Cert.ReduceF1W1Ideal.main_arg2) = m ((c.tc : Thread Cert.ReduceF1W1Ideal.nD Cert.ReduceF1W1Ideal.τ).loc Cert.ReduceF1W1Ideal.main_arg2)
          ∧ r.2.mem ((c.tc : Thread Cert.ReduceF1W1Ideal.nD Cert.ReduceF1W1Ideal.τ).loc Cert.ReduceF1W1Ideal.main_arg3) = m ((c.tc : Thread Cert.ReduceF1W1Ideal.nD Cert.ReduceF1W1Ideal.τ).loc Cert.ReduceF1W1Ideal.main_arg3)
          ∧ r.2.mem ((c.tc : Thread Cert.ReduceF1W1Ideal.nD Cert.ReduceF1W1Ideal.τ).loc Cert.ReduceF1W1Ideal.main_arg4) = m ((c.tc : Thread Cert.ReduceF1W1Ideal.nD Cert.ReduceF1W1Ideal.τ).loc Cert.ReduceF1W1Ideal.main_arg4)
          ∧ r.2.mem ((c.tc : Thread Cert.ReduceF1W1Ideal.nD Cert.ReduceF1W1Ideal.τ).loc Cert.ReduceF1W1Ideal.main_arg5) = m ((c.tc : Thread Cert.ReduceF1W1Ideal.nD Cert.ReduceF1W1Ideal.τ).loc Cert.ReduceF1W1Ideal.main_arg5)
          ∧ r.2.mem ((c.tc : Thread Cert.ReduceF1W1Ideal.nD Cert.ReduceF1W1Ideal.τ).loc Cert.ReduceF1W1Ideal.main_arg6) = m ((c.tc : Thread Cert.ReduceF1W1Ideal.nD Cert.ReduceF1W1Ideal.τ).loc Cert.ReduceF1W1Ideal.main_arg6))
      ∧ θ_run (Cert.ReduceF1W1ReferenceIdeal.defs (F := Ideal)) (onTc (τ := Cert.ReduceF1W1ReferenceIdeal.τ) (Cert.ReduceF1W1ReferenceIdeal.main (F := Ideal))) ⟨m', fun _ => 0, g'⟩ (fun r => ∀ c : Dev Cert.ReduceF1W1ReferenceIdeal.nD,
          r.2.mem ((c.tc : Thread Cert.ReduceF1W1ReferenceIdeal.nD Cert.ReduceF1W1ReferenceIdeal.τ).loc Cert.ReduceF1W1ReferenceIdeal.main_v18) = v0 c
          ∧ r.2.mem ((c.tc : Thread Cert.ReduceF1W1ReferenceIdeal.nD Cert.ReduceF1W1ReferenceIdeal.τ).loc Cert.ReduceF1W1ReferenceIdeal.main_v42) = v1 c
          ∧ r.2.mem ((c.tc : Thread Cert.ReduceF1W1ReferenceIdeal.nD Cert.ReduceF1W1ReferenceIdeal.τ).loc Cert.ReduceF1W1ReferenceIdeal.main_v23) = v2 c
          ∧ r.2.mem ((c.tc : Thread Cert.ReduceF1W1ReferenceIdeal.nD Cert.ReduceF1W1ReferenceIdeal.τ).loc Cert.ReduceF1W1ReferenceIdeal.main_v29) = v3 c
          ∧ r.2.mem ((c.tc : Thread Cert.ReduceF1W1ReferenceIdeal.nD Cert.ReduceF1W1ReferenceIdeal.τ).loc Cert.ReduceF1W1ReferenceIdeal.main_arg0) = m' ((c.tc : Thread Cert.ReduceF1W1ReferenceIdeal.nD Cert.ReduceF1W1ReferenceIdeal.τ).loc Cert.ReduceF1W1ReferenceIdeal.main_arg0)
          ∧ r.2.mem ((c.tc : Thread Cert.ReduceF1W1ReferenceIdeal.nD Cert.ReduceF1W1ReferenceIdeal.τ).loc Cert.ReduceF1W1ReferenceIdeal.main_arg1) = m' ((c.tc : Thread Cert.ReduceF1W1ReferenceIdeal.nD Cert.ReduceF1W1ReferenceIdeal.τ).loc Cert.ReduceF1W1ReferenceIdeal.main_arg1)
          ∧ r.2.mem ((c.tc : Thread Cert.ReduceF1W1ReferenceIdeal.nD Cert.ReduceF1W1ReferenceIdeal.τ).loc Cert.ReduceF1W1ReferenceIdeal.main_arg2) = m' ((c.tc : Thread Cert.ReduceF1W1ReferenceIdeal.nD Cert.ReduceF1W1ReferenceIdeal.τ).loc Cert.ReduceF1W1ReferenceIdeal.main_arg2)
          ∧ r.2.mem ((c.tc : Thread Cert.ReduceF1W1ReferenceIdeal.nD Cert.ReduceF1W1ReferenceIdeal.τ).loc Cert.ReduceF1W1ReferenceIdeal.main_arg3) = m' ((c.tc : Thread Cert.ReduceF1W1ReferenceIdeal.nD Cert.ReduceF1W1ReferenceIdeal.τ).loc Cert.ReduceF1W1ReferenceIdeal.main_arg3)
          ∧ r.2.mem ((c.tc : Thread Cert.ReduceF1W1ReferenceIdeal.nD Cert.ReduceF1W1ReferenceIdeal.τ).loc Cert.ReduceF1W1ReferenceIdeal.main_arg4) = m' ((c.tc : Thread Cert.ReduceF1W1ReferenceIdeal.nD Cert.ReduceF1W1ReferenceIdeal.τ).loc Cert.ReduceF1W1ReferenceIdeal.main_arg4)
          ∧ r.2.mem ((c.tc : Thread Cert.ReduceF1W1ReferenceIdeal.nD Cert.ReduceF1W1ReferenceIdeal.τ).loc Cert.ReduceF1W1ReferenceIdeal.main_arg5) = m' ((c.tc : Thread Cert.ReduceF1W1ReferenceIdeal.nD Cert.ReduceF1W1ReferenceIdeal.τ).loc Cert.ReduceF1W1ReferenceIdeal.main_arg5)
          ∧ r.2.mem ((c.tc : Thread Cert.ReduceF1W1ReferenceIdeal.nD Cert.ReduceF1W1ReferenceIdeal.τ).loc Cert.ReduceF1W1ReferenceIdeal.main_arg6) = m' ((c.tc : Thread Cert.ReduceF1W1ReferenceIdeal.nD Cert.ReduceF1W1ReferenceIdeal.τ).loc Cert.ReduceF1W1ReferenceIdeal.main_arg6))

def preserves_ReduceF1W3_ReduceF1W3Ideal : Prop :=
  True

def algebraic_ReduceF1W3Ideal_ReduceF1W3ReferenceIdeal [hReduceF1W3Ideal : Cert.ReduceF1W3Ideal.Facts] [hReduceF1W3ReferenceIdeal : Cert.ReduceF1W3ReferenceIdeal.Facts] : Prop :=
  ∀ (m : (ℓ : Loc Cert.ReduceF1W3Ideal.nD Cert.ReduceF1W3Ideal.τ Cert.ReduceF1W3Ideal.sig) → Buf (Elt Ideal) ℓ) (g : Dev Cert.ReduceF1W3Ideal.nD → PrngReg)
    (m' : (ℓ : Loc Cert.ReduceF1W3ReferenceIdeal.nD Cert.ReduceF1W3ReferenceIdeal.τ Cert.ReduceF1W3ReferenceIdeal.sig) → Buf (Elt Ideal) ℓ) (g' : Dev Cert.ReduceF1W3ReferenceIdeal.nD → PrngReg), Pre_ReduceF1W3Ideal m →
    (∀ c : Dev Cert.ReduceF1W3Ideal.nD,
      m' ((c.tc : Thread Cert.ReduceF1W3ReferenceIdeal.nD Cert.ReduceF1W3ReferenceIdeal.τ).loc Cert.ReduceF1W3ReferenceIdeal.main_arg0) = m ((c.tc : Thread Cert.ReduceF1W3Ideal.nD Cert.ReduceF1W3Ideal.τ).loc Cert.ReduceF1W3Ideal.main_arg0)
      ∧ m' ((c.tc : Thread Cert.ReduceF1W3ReferenceIdeal.nD Cert.ReduceF1W3ReferenceIdeal.τ).loc Cert.ReduceF1W3ReferenceIdeal.main_arg1) = m ((c.tc : Thread Cert.ReduceF1W3Ideal.nD Cert.ReduceF1W3Ideal.τ).loc Cert.ReduceF1W3Ideal.main_arg1)
      ∧ m' ((c.tc : Thread Cert.ReduceF1W3ReferenceIdeal.nD Cert.ReduceF1W3ReferenceIdeal.τ).loc Cert.ReduceF1W3ReferenceIdeal.main_arg2) = m ((c.tc : Thread Cert.ReduceF1W3Ideal.nD Cert.ReduceF1W3Ideal.τ).loc Cert.ReduceF1W3Ideal.main_arg2)
      ∧ m' ((c.tc : Thread Cert.ReduceF1W3ReferenceIdeal.nD Cert.ReduceF1W3ReferenceIdeal.τ).loc Cert.ReduceF1W3ReferenceIdeal.main_arg3) = m ((c.tc : Thread Cert.ReduceF1W3Ideal.nD Cert.ReduceF1W3Ideal.τ).loc Cert.ReduceF1W3Ideal.main_arg3)
      ∧ m' ((c.tc : Thread Cert.ReduceF1W3ReferenceIdeal.nD Cert.ReduceF1W3ReferenceIdeal.τ).loc Cert.ReduceF1W3ReferenceIdeal.main_arg4) = m ((c.tc : Thread Cert.ReduceF1W3Ideal.nD Cert.ReduceF1W3Ideal.τ).loc Cert.ReduceF1W3Ideal.main_arg4)
      ∧ m' ((c.tc : Thread Cert.ReduceF1W3ReferenceIdeal.nD Cert.ReduceF1W3ReferenceIdeal.τ).loc Cert.ReduceF1W3ReferenceIdeal.main_arg5) = m ((c.tc : Thread Cert.ReduceF1W3Ideal.nD Cert.ReduceF1W3Ideal.τ).loc Cert.ReduceF1W3Ideal.main_arg5)
      ∧ m' ((c.tc : Thread Cert.ReduceF1W3ReferenceIdeal.nD Cert.ReduceF1W3ReferenceIdeal.τ).loc Cert.ReduceF1W3ReferenceIdeal.main_arg6) = m ((c.tc : Thread Cert.ReduceF1W3Ideal.nD Cert.ReduceF1W3Ideal.τ).loc Cert.ReduceF1W3Ideal.main_arg6)) →
    ∃ (v0 : (c : Dev Cert.ReduceF1W3Ideal.nD) → Buf (Elt Ideal) ((c.tc : Thread Cert.ReduceF1W3Ideal.nD Cert.ReduceF1W3Ideal.τ).loc Cert.ReduceF1W3Ideal.main_v3_0)) (v1 : (c : Dev Cert.ReduceF1W3Ideal.nD) → Buf (Elt Ideal) ((c.tc : Thread Cert.ReduceF1W3Ideal.nD Cert.ReduceF1W3Ideal.τ).loc Cert.ReduceF1W3Ideal.main_v3_1)) (v2 : (c : Dev Cert.ReduceF1W3Ideal.nD) → Buf (Elt Ideal) ((c.tc : Thread Cert.ReduceF1W3Ideal.nD Cert.ReduceF1W3Ideal.τ).loc Cert.ReduceF1W3Ideal.main_v3_2)) (v3 : (c : Dev Cert.ReduceF1W3Ideal.nD) → Buf (Elt Ideal) ((c.tc : Thread Cert.ReduceF1W3Ideal.nD Cert.ReduceF1W3Ideal.τ).loc Cert.ReduceF1W3Ideal.main_v3_3)),
      θ_run (Cert.ReduceF1W3Ideal.defs (F := Ideal)) (onTc (τ := Cert.ReduceF1W3Ideal.τ) (Cert.ReduceF1W3Ideal.main (F := Ideal))) ⟨m, fun _ => 0, g⟩ (fun r => ∀ c : Dev Cert.ReduceF1W3Ideal.nD,
          r.2.mem ((c.tc : Thread Cert.ReduceF1W3Ideal.nD Cert.ReduceF1W3Ideal.τ).loc Cert.ReduceF1W3Ideal.main_v3_0) = v0 c
          ∧ r.2.mem ((c.tc : Thread Cert.ReduceF1W3Ideal.nD Cert.ReduceF1W3Ideal.τ).loc Cert.ReduceF1W3Ideal.main_v3_1) = v1 c
          ∧ r.2.mem ((c.tc : Thread Cert.ReduceF1W3Ideal.nD Cert.ReduceF1W3Ideal.τ).loc Cert.ReduceF1W3Ideal.main_v3_2) = v2 c
          ∧ r.2.mem ((c.tc : Thread Cert.ReduceF1W3Ideal.nD Cert.ReduceF1W3Ideal.τ).loc Cert.ReduceF1W3Ideal.main_v3_3) = v3 c
          ∧ r.2.mem ((c.tc : Thread Cert.ReduceF1W3Ideal.nD Cert.ReduceF1W3Ideal.τ).loc Cert.ReduceF1W3Ideal.main_arg0) = m ((c.tc : Thread Cert.ReduceF1W3Ideal.nD Cert.ReduceF1W3Ideal.τ).loc Cert.ReduceF1W3Ideal.main_arg0)
          ∧ r.2.mem ((c.tc : Thread Cert.ReduceF1W3Ideal.nD Cert.ReduceF1W3Ideal.τ).loc Cert.ReduceF1W3Ideal.main_arg1) = m ((c.tc : Thread Cert.ReduceF1W3Ideal.nD Cert.ReduceF1W3Ideal.τ).loc Cert.ReduceF1W3Ideal.main_arg1)
          ∧ r.2.mem ((c.tc : Thread Cert.ReduceF1W3Ideal.nD Cert.ReduceF1W3Ideal.τ).loc Cert.ReduceF1W3Ideal.main_arg2) = m ((c.tc : Thread Cert.ReduceF1W3Ideal.nD Cert.ReduceF1W3Ideal.τ).loc Cert.ReduceF1W3Ideal.main_arg2)
          ∧ r.2.mem ((c.tc : Thread Cert.ReduceF1W3Ideal.nD Cert.ReduceF1W3Ideal.τ).loc Cert.ReduceF1W3Ideal.main_arg3) = m ((c.tc : Thread Cert.ReduceF1W3Ideal.nD Cert.ReduceF1W3Ideal.τ).loc Cert.ReduceF1W3Ideal.main_arg3)
          ∧ r.2.mem ((c.tc : Thread Cert.ReduceF1W3Ideal.nD Cert.ReduceF1W3Ideal.τ).loc Cert.ReduceF1W3Ideal.main_arg4) = m ((c.tc : Thread Cert.ReduceF1W3Ideal.nD Cert.ReduceF1W3Ideal.τ).loc Cert.ReduceF1W3Ideal.main_arg4)
          ∧ r.2.mem ((c.tc : Thread Cert.ReduceF1W3Ideal.nD Cert.ReduceF1W3Ideal.τ).loc Cert.ReduceF1W3Ideal.main_arg5) = m ((c.tc : Thread Cert.ReduceF1W3Ideal.nD Cert.ReduceF1W3Ideal.τ).loc Cert.ReduceF1W3Ideal.main_arg5)
          ∧ r.2.mem ((c.tc : Thread Cert.ReduceF1W3Ideal.nD Cert.ReduceF1W3Ideal.τ).loc Cert.ReduceF1W3Ideal.main_arg6) = m ((c.tc : Thread Cert.ReduceF1W3Ideal.nD Cert.ReduceF1W3Ideal.τ).loc Cert.ReduceF1W3Ideal.main_arg6))
      ∧ θ_run (Cert.ReduceF1W3ReferenceIdeal.defs (F := Ideal)) (onTc (τ := Cert.ReduceF1W3ReferenceIdeal.τ) (Cert.ReduceF1W3ReferenceIdeal.main (F := Ideal))) ⟨m', fun _ => 0, g'⟩ (fun r => ∀ c : Dev Cert.ReduceF1W3ReferenceIdeal.nD,
          r.2.mem ((c.tc : Thread Cert.ReduceF1W3ReferenceIdeal.nD Cert.ReduceF1W3ReferenceIdeal.τ).loc Cert.ReduceF1W3ReferenceIdeal.main_v18) = v0 c
          ∧ r.2.mem ((c.tc : Thread Cert.ReduceF1W3ReferenceIdeal.nD Cert.ReduceF1W3ReferenceIdeal.τ).loc Cert.ReduceF1W3ReferenceIdeal.main_v42) = v1 c
          ∧ r.2.mem ((c.tc : Thread Cert.ReduceF1W3ReferenceIdeal.nD Cert.ReduceF1W3ReferenceIdeal.τ).loc Cert.ReduceF1W3ReferenceIdeal.main_v23) = v2 c
          ∧ r.2.mem ((c.tc : Thread Cert.ReduceF1W3ReferenceIdeal.nD Cert.ReduceF1W3ReferenceIdeal.τ).loc Cert.ReduceF1W3ReferenceIdeal.main_v29) = v3 c
          ∧ r.2.mem ((c.tc : Thread Cert.ReduceF1W3ReferenceIdeal.nD Cert.ReduceF1W3ReferenceIdeal.τ).loc Cert.ReduceF1W3ReferenceIdeal.main_arg0) = m' ((c.tc : Thread Cert.ReduceF1W3ReferenceIdeal.nD Cert.ReduceF1W3ReferenceIdeal.τ).loc Cert.ReduceF1W3ReferenceIdeal.main_arg0)
          ∧ r.2.mem ((c.tc : Thread Cert.ReduceF1W3ReferenceIdeal.nD Cert.ReduceF1W3ReferenceIdeal.τ).loc Cert.ReduceF1W3ReferenceIdeal.main_arg1) = m' ((c.tc : Thread Cert.ReduceF1W3ReferenceIdeal.nD Cert.ReduceF1W3ReferenceIdeal.τ).loc Cert.ReduceF1W3ReferenceIdeal.main_arg1)
          ∧ r.2.mem ((c.tc : Thread Cert.ReduceF1W3ReferenceIdeal.nD Cert.ReduceF1W3ReferenceIdeal.τ).loc Cert.ReduceF1W3ReferenceIdeal.main_arg2) = m' ((c.tc : Thread Cert.ReduceF1W3ReferenceIdeal.nD Cert.ReduceF1W3ReferenceIdeal.τ).loc Cert.ReduceF1W3ReferenceIdeal.main_arg2)
          ∧ r.2.mem ((c.tc : Thread Cert.ReduceF1W3ReferenceIdeal.nD Cert.ReduceF1W3ReferenceIdeal.τ).loc Cert.ReduceF1W3ReferenceIdeal.main_arg3) = m' ((c.tc : Thread Cert.ReduceF1W3ReferenceIdeal.nD Cert.ReduceF1W3ReferenceIdeal.τ).loc Cert.ReduceF1W3ReferenceIdeal.main_arg3)
          ∧ r.2.mem ((c.tc : Thread Cert.ReduceF1W3ReferenceIdeal.nD Cert.ReduceF1W3ReferenceIdeal.τ).loc Cert.ReduceF1W3ReferenceIdeal.main_arg4) = m' ((c.tc : Thread Cert.ReduceF1W3ReferenceIdeal.nD Cert.ReduceF1W3ReferenceIdeal.τ).loc Cert.ReduceF1W3ReferenceIdeal.main_arg4)
          ∧ r.2.mem ((c.tc : Thread Cert.ReduceF1W3ReferenceIdeal.nD Cert.ReduceF1W3ReferenceIdeal.τ).loc Cert.ReduceF1W3ReferenceIdeal.main_arg5) = m' ((c.tc : Thread Cert.ReduceF1W3ReferenceIdeal.nD Cert.ReduceF1W3ReferenceIdeal.τ).loc Cert.ReduceF1W3ReferenceIdeal.main_arg5)
          ∧ r.2.mem ((c.tc : Thread Cert.ReduceF1W3ReferenceIdeal.nD Cert.ReduceF1W3ReferenceIdeal.τ).loc Cert.ReduceF1W3ReferenceIdeal.main_arg6) = m' ((c.tc : Thread Cert.ReduceF1W3ReferenceIdeal.nD Cert.ReduceF1W3ReferenceIdeal.τ).loc Cert.ReduceF1W3ReferenceIdeal.main_arg6))

def preserves_ReduceF1W2_ReduceF1W2Ideal : Prop :=
  True

def algebraic_ReduceF1W2Ideal_ReduceF1W2ReferenceIdeal [hReduceF1W2Ideal : Cert.ReduceF1W2Ideal.Facts] [hReduceF1W2ReferenceIdeal : Cert.ReduceF1W2ReferenceIdeal.Facts] : Prop :=
  ∀ (m : (ℓ : Loc Cert.ReduceF1W2Ideal.nD Cert.ReduceF1W2Ideal.τ Cert.ReduceF1W2Ideal.sig) → Buf (Elt Ideal) ℓ) (g : Dev Cert.ReduceF1W2Ideal.nD → PrngReg)
    (m' : (ℓ : Loc Cert.ReduceF1W2ReferenceIdeal.nD Cert.ReduceF1W2ReferenceIdeal.τ Cert.ReduceF1W2ReferenceIdeal.sig) → Buf (Elt Ideal) ℓ) (g' : Dev Cert.ReduceF1W2ReferenceIdeal.nD → PrngReg), Pre_ReduceF1W2Ideal m →
    (∀ c : Dev Cert.ReduceF1W2Ideal.nD,
      m' ((c.tc : Thread Cert.ReduceF1W2ReferenceIdeal.nD Cert.ReduceF1W2ReferenceIdeal.τ).loc Cert.ReduceF1W2ReferenceIdeal.main_arg0) = m ((c.tc : Thread Cert.ReduceF1W2Ideal.nD Cert.ReduceF1W2Ideal.τ).loc Cert.ReduceF1W2Ideal.main_arg0)
      ∧ m' ((c.tc : Thread Cert.ReduceF1W2ReferenceIdeal.nD Cert.ReduceF1W2ReferenceIdeal.τ).loc Cert.ReduceF1W2ReferenceIdeal.main_arg1) = m ((c.tc : Thread Cert.ReduceF1W2Ideal.nD Cert.ReduceF1W2Ideal.τ).loc Cert.ReduceF1W2Ideal.main_arg1)
      ∧ m' ((c.tc : Thread Cert.ReduceF1W2ReferenceIdeal.nD Cert.ReduceF1W2ReferenceIdeal.τ).loc Cert.ReduceF1W2ReferenceIdeal.main_arg2) = m ((c.tc : Thread Cert.ReduceF1W2Ideal.nD Cert.ReduceF1W2Ideal.τ).loc Cert.ReduceF1W2Ideal.main_arg2)
      ∧ m' ((c.tc : Thread Cert.ReduceF1W2ReferenceIdeal.nD Cert.ReduceF1W2ReferenceIdeal.τ).loc Cert.ReduceF1W2ReferenceIdeal.main_arg3) = m ((c.tc : Thread Cert.ReduceF1W2Ideal.nD Cert.ReduceF1W2Ideal.τ).loc Cert.ReduceF1W2Ideal.main_arg3)
      ∧ m' ((c.tc : Thread Cert.ReduceF1W2ReferenceIdeal.nD Cert.ReduceF1W2ReferenceIdeal.τ).loc Cert.ReduceF1W2ReferenceIdeal.main_arg4) = m ((c.tc : Thread Cert.ReduceF1W2Ideal.nD Cert.ReduceF1W2Ideal.τ).loc Cert.ReduceF1W2Ideal.main_arg4)
      ∧ m' ((c.tc : Thread Cert.ReduceF1W2ReferenceIdeal.nD Cert.ReduceF1W2ReferenceIdeal.τ).loc Cert.ReduceF1W2ReferenceIdeal.main_arg5) = m ((c.tc : Thread Cert.ReduceF1W2Ideal.nD Cert.ReduceF1W2Ideal.τ).loc Cert.ReduceF1W2Ideal.main_arg5)
      ∧ m' ((c.tc : Thread Cert.ReduceF1W2ReferenceIdeal.nD Cert.ReduceF1W2ReferenceIdeal.τ).loc Cert.ReduceF1W2ReferenceIdeal.main_arg6) = m ((c.tc : Thread Cert.ReduceF1W2Ideal.nD Cert.ReduceF1W2Ideal.τ).loc Cert.ReduceF1W2Ideal.main_arg6)) →
    ∃ (v0 : (c : Dev Cert.ReduceF1W2Ideal.nD) → Buf (Elt Ideal) ((c.tc : Thread Cert.ReduceF1W2Ideal.nD Cert.ReduceF1W2Ideal.τ).loc Cert.ReduceF1W2Ideal.main_v0_0)) (v1 : (c : Dev Cert.ReduceF1W2Ideal.nD) → Buf (Elt Ideal) ((c.tc : Thread Cert.ReduceF1W2Ideal.nD Cert.ReduceF1W2Ideal.τ).loc Cert.ReduceF1W2Ideal.main_v0_1)) (v2 : (c : Dev Cert.ReduceF1W2Ideal.nD) → Buf (Elt Ideal) ((c.tc : Thread Cert.ReduceF1W2Ideal.nD Cert.ReduceF1W2Ideal.τ).loc Cert.ReduceF1W2Ideal.main_v0_2)) (v3 : (c : Dev Cert.ReduceF1W2Ideal.nD) → Buf (Elt Ideal) ((c.tc : Thread Cert.ReduceF1W2Ideal.nD Cert.ReduceF1W2Ideal.τ).loc Cert.ReduceF1W2Ideal.main_v0_3)),
      θ_run (Cert.ReduceF1W2Ideal.defs (F := Ideal)) (onTc (τ := Cert.ReduceF1W2Ideal.τ) (Cert.ReduceF1W2Ideal.main (F := Ideal))) ⟨m, fun _ => 0, g⟩ (fun r => ∀ c : Dev Cert.ReduceF1W2Ideal.nD,
          r.2.mem ((c.tc : Thread Cert.ReduceF1W2Ideal.nD Cert.ReduceF1W2Ideal.τ).loc Cert.ReduceF1W2Ideal.main_v0_0) = v0 c
          ∧ r.2.mem ((c.tc : Thread Cert.ReduceF1W2Ideal.nD Cert.ReduceF1W2Ideal.τ).loc Cert.ReduceF1W2Ideal.main_v0_1) = v1 c
          ∧ r.2.mem ((c.tc : Thread Cert.ReduceF1W2Ideal.nD Cert.ReduceF1W2Ideal.τ).loc Cert.ReduceF1W2Ideal.main_v0_2) = v2 c
          ∧ r.2.mem ((c.tc : Thread Cert.ReduceF1W2Ideal.nD Cert.ReduceF1W2Ideal.τ).loc Cert.ReduceF1W2Ideal.main_v0_3) = v3 c
          ∧ r.2.mem ((c.tc : Thread Cert.ReduceF1W2Ideal.nD Cert.ReduceF1W2Ideal.τ).loc Cert.ReduceF1W2Ideal.main_arg0) = m ((c.tc : Thread Cert.ReduceF1W2Ideal.nD Cert.ReduceF1W2Ideal.τ).loc Cert.ReduceF1W2Ideal.main_arg0)
          ∧ r.2.mem ((c.tc : Thread Cert.ReduceF1W2Ideal.nD Cert.ReduceF1W2Ideal.τ).loc Cert.ReduceF1W2Ideal.main_arg1) = m ((c.tc : Thread Cert.ReduceF1W2Ideal.nD Cert.ReduceF1W2Ideal.τ).loc Cert.ReduceF1W2Ideal.main_arg1)
          ∧ r.2.mem ((c.tc : Thread Cert.ReduceF1W2Ideal.nD Cert.ReduceF1W2Ideal.τ).loc Cert.ReduceF1W2Ideal.main_arg2) = m ((c.tc : Thread Cert.ReduceF1W2Ideal.nD Cert.ReduceF1W2Ideal.τ).loc Cert.ReduceF1W2Ideal.main_arg2)
          ∧ r.2.mem ((c.tc : Thread Cert.ReduceF1W2Ideal.nD Cert.ReduceF1W2Ideal.τ).loc Cert.ReduceF1W2Ideal.main_arg3) = m ((c.tc : Thread Cert.ReduceF1W2Ideal.nD Cert.ReduceF1W2Ideal.τ).loc Cert.ReduceF1W2Ideal.main_arg3)
          ∧ r.2.mem ((c.tc : Thread Cert.ReduceF1W2Ideal.nD Cert.ReduceF1W2Ideal.τ).loc Cert.ReduceF1W2Ideal.main_arg4) = m ((c.tc : Thread Cert.ReduceF1W2Ideal.nD Cert.ReduceF1W2Ideal.τ).loc Cert.ReduceF1W2Ideal.main_arg4)
          ∧ r.2.mem ((c.tc : Thread Cert.ReduceF1W2Ideal.nD Cert.ReduceF1W2Ideal.τ).loc Cert.ReduceF1W2Ideal.main_arg5) = m ((c.tc : Thread Cert.ReduceF1W2Ideal.nD Cert.ReduceF1W2Ideal.τ).loc Cert.ReduceF1W2Ideal.main_arg5)
          ∧ r.2.mem ((c.tc : Thread Cert.ReduceF1W2Ideal.nD Cert.ReduceF1W2Ideal.τ).loc Cert.ReduceF1W2Ideal.main_arg6) = m ((c.tc : Thread Cert.ReduceF1W2Ideal.nD Cert.ReduceF1W2Ideal.τ).loc Cert.ReduceF1W2Ideal.main_arg6))
      ∧ θ_run (Cert.ReduceF1W2ReferenceIdeal.defs (F := Ideal)) (onTc (τ := Cert.ReduceF1W2ReferenceIdeal.τ) (Cert.ReduceF1W2ReferenceIdeal.main (F := Ideal))) ⟨m', fun _ => 0, g'⟩ (fun r => ∀ c : Dev Cert.ReduceF1W2ReferenceIdeal.nD,
          r.2.mem ((c.tc : Thread Cert.ReduceF1W2ReferenceIdeal.nD Cert.ReduceF1W2ReferenceIdeal.τ).loc Cert.ReduceF1W2ReferenceIdeal.main_v15) = v0 c
          ∧ r.2.mem ((c.tc : Thread Cert.ReduceF1W2ReferenceIdeal.nD Cert.ReduceF1W2ReferenceIdeal.τ).loc Cert.ReduceF1W2ReferenceIdeal.main_v39) = v1 c
          ∧ r.2.mem ((c.tc : Thread Cert.ReduceF1W2ReferenceIdeal.nD Cert.ReduceF1W2ReferenceIdeal.τ).loc Cert.ReduceF1W2ReferenceIdeal.main_v20) = v2 c
          ∧ r.2.mem ((c.tc : Thread Cert.ReduceF1W2ReferenceIdeal.nD Cert.ReduceF1W2ReferenceIdeal.τ).loc Cert.ReduceF1W2ReferenceIdeal.main_v26) = v3 c
          ∧ r.2.mem ((c.tc : Thread Cert.ReduceF1W2ReferenceIdeal.nD Cert.ReduceF1W2ReferenceIdeal.τ).loc Cert.ReduceF1W2ReferenceIdeal.main_arg0) = m' ((c.tc : Thread Cert.ReduceF1W2ReferenceIdeal.nD Cert.ReduceF1W2ReferenceIdeal.τ).loc Cert.ReduceF1W2ReferenceIdeal.main_arg0)
          ∧ r.2.mem ((c.tc : Thread Cert.ReduceF1W2ReferenceIdeal.nD Cert.ReduceF1W2ReferenceIdeal.τ).loc Cert.ReduceF1W2ReferenceIdeal.main_arg1) = m' ((c.tc : Thread Cert.ReduceF1W2ReferenceIdeal.nD Cert.ReduceF1W2ReferenceIdeal.τ).loc Cert.ReduceF1W2ReferenceIdeal.main_arg1)
          ∧ r.2.mem ((c.tc : Thread Cert.ReduceF1W2ReferenceIdeal.nD Cert.ReduceF1W2ReferenceIdeal.τ).loc Cert.ReduceF1W2ReferenceIdeal.main_arg2) = m' ((c.tc : Thread Cert.ReduceF1W2ReferenceIdeal.nD Cert.ReduceF1W2ReferenceIdeal.τ).loc Cert.ReduceF1W2ReferenceIdeal.main_arg2)
          ∧ r.2.mem ((c.tc : Thread Cert.ReduceF1W2ReferenceIdeal.nD Cert.ReduceF1W2ReferenceIdeal.τ).loc Cert.ReduceF1W2ReferenceIdeal.main_arg3) = m' ((c.tc : Thread Cert.ReduceF1W2ReferenceIdeal.nD Cert.ReduceF1W2ReferenceIdeal.τ).loc Cert.ReduceF1W2ReferenceIdeal.main_arg3)
          ∧ r.2.mem ((c.tc : Thread Cert.ReduceF1W2ReferenceIdeal.nD Cert.ReduceF1W2ReferenceIdeal.τ).loc Cert.ReduceF1W2ReferenceIdeal.main_arg4) = m' ((c.tc : Thread Cert.ReduceF1W2ReferenceIdeal.nD Cert.ReduceF1W2ReferenceIdeal.τ).loc Cert.ReduceF1W2ReferenceIdeal.main_arg4)
          ∧ r.2.mem ((c.tc : Thread Cert.ReduceF1W2ReferenceIdeal.nD Cert.ReduceF1W2ReferenceIdeal.τ).loc Cert.ReduceF1W2ReferenceIdeal.main_arg5) = m' ((c.tc : Thread Cert.ReduceF1W2ReferenceIdeal.nD Cert.ReduceF1W2ReferenceIdeal.τ).loc Cert.ReduceF1W2ReferenceIdeal.main_arg5)
          ∧ r.2.mem ((c.tc : Thread Cert.ReduceF1W2ReferenceIdeal.nD Cert.ReduceF1W2ReferenceIdeal.τ).loc Cert.ReduceF1W2ReferenceIdeal.main_arg6) = m' ((c.tc : Thread Cert.ReduceF1W2ReferenceIdeal.nD Cert.ReduceF1W2ReferenceIdeal.τ).loc Cert.ReduceF1W2ReferenceIdeal.main_arg6))

def preserves_ReduceF2W1_ReduceF2W1Ideal : Prop :=
  True

def algebraic_ReduceF2W1Ideal_ReduceF2W1ReferenceIdeal [hReduceF2W1Ideal : Cert.ReduceF2W1Ideal.Facts] [hReduceF2W1ReferenceIdeal : Cert.ReduceF2W1ReferenceIdeal.Facts] : Prop :=
  ∀ (m : (ℓ : Loc Cert.ReduceF2W1Ideal.nD Cert.ReduceF2W1Ideal.τ Cert.ReduceF2W1Ideal.sig) → Buf (Elt Ideal) ℓ) (g : Dev Cert.ReduceF2W1Ideal.nD → PrngReg)
    (m' : (ℓ : Loc Cert.ReduceF2W1ReferenceIdeal.nD Cert.ReduceF2W1ReferenceIdeal.τ Cert.ReduceF2W1ReferenceIdeal.sig) → Buf (Elt Ideal) ℓ) (g' : Dev Cert.ReduceF2W1ReferenceIdeal.nD → PrngReg), Pre_ReduceF2W1Ideal m →
    (∀ c : Dev Cert.ReduceF2W1Ideal.nD,
      m' ((c.tc : Thread Cert.ReduceF2W1ReferenceIdeal.nD Cert.ReduceF2W1ReferenceIdeal.τ).loc Cert.ReduceF2W1ReferenceIdeal.main_arg0) = m ((c.tc : Thread Cert.ReduceF2W1Ideal.nD Cert.ReduceF2W1Ideal.τ).loc Cert.ReduceF2W1Ideal.main_arg0)
      ∧ m' ((c.tc : Thread Cert.ReduceF2W1ReferenceIdeal.nD Cert.ReduceF2W1ReferenceIdeal.τ).loc Cert.ReduceF2W1ReferenceIdeal.main_arg1) = m ((c.tc : Thread Cert.ReduceF2W1Ideal.nD Cert.ReduceF2W1Ideal.τ).loc Cert.ReduceF2W1Ideal.main_arg1)
      ∧ m' ((c.tc : Thread Cert.ReduceF2W1ReferenceIdeal.nD Cert.ReduceF2W1ReferenceIdeal.τ).loc Cert.ReduceF2W1ReferenceIdeal.main_arg2) = m ((c.tc : Thread Cert.ReduceF2W1Ideal.nD Cert.ReduceF2W1Ideal.τ).loc Cert.ReduceF2W1Ideal.main_arg2)
      ∧ m' ((c.tc : Thread Cert.ReduceF2W1ReferenceIdeal.nD Cert.ReduceF2W1ReferenceIdeal.τ).loc Cert.ReduceF2W1ReferenceIdeal.main_arg3) = m ((c.tc : Thread Cert.ReduceF2W1Ideal.nD Cert.ReduceF2W1Ideal.τ).loc Cert.ReduceF2W1Ideal.main_arg3)
      ∧ m' ((c.tc : Thread Cert.ReduceF2W1ReferenceIdeal.nD Cert.ReduceF2W1ReferenceIdeal.τ).loc Cert.ReduceF2W1ReferenceIdeal.main_arg4) = m ((c.tc : Thread Cert.ReduceF2W1Ideal.nD Cert.ReduceF2W1Ideal.τ).loc Cert.ReduceF2W1Ideal.main_arg4)
      ∧ m' ((c.tc : Thread Cert.ReduceF2W1ReferenceIdeal.nD Cert.ReduceF2W1ReferenceIdeal.τ).loc Cert.ReduceF2W1ReferenceIdeal.main_arg5) = m ((c.tc : Thread Cert.ReduceF2W1Ideal.nD Cert.ReduceF2W1Ideal.τ).loc Cert.ReduceF2W1Ideal.main_arg5)
      ∧ m' ((c.tc : Thread Cert.ReduceF2W1ReferenceIdeal.nD Cert.ReduceF2W1ReferenceIdeal.τ).loc Cert.ReduceF2W1ReferenceIdeal.main_arg6) = m ((c.tc : Thread Cert.ReduceF2W1Ideal.nD Cert.ReduceF2W1Ideal.τ).loc Cert.ReduceF2W1Ideal.main_arg6)) →
    ∃ (v0 : (c : Dev Cert.ReduceF2W1Ideal.nD) → Buf (Elt Ideal) ((c.tc : Thread Cert.ReduceF2W1Ideal.nD Cert.ReduceF2W1Ideal.τ).loc Cert.ReduceF2W1Ideal.main_v3_0)) (v1 : (c : Dev Cert.ReduceF2W1Ideal.nD) → Buf (Elt Ideal) ((c.tc : Thread Cert.ReduceF2W1Ideal.nD Cert.ReduceF2W1Ideal.τ).loc Cert.ReduceF2W1Ideal.main_v3_1)) (v2 : (c : Dev Cert.ReduceF2W1Ideal.nD) → Buf (Elt Ideal) ((c.tc : Thread Cert.ReduceF2W1Ideal.nD Cert.ReduceF2W1Ideal.τ).loc Cert.ReduceF2W1Ideal.main_v3_2)) (v3 : (c : Dev Cert.ReduceF2W1Ideal.nD) → Buf (Elt Ideal) ((c.tc : Thread Cert.ReduceF2W1Ideal.nD Cert.ReduceF2W1Ideal.τ).loc Cert.ReduceF2W1Ideal.main_v3_3)),
      θ_run (Cert.ReduceF2W1Ideal.defs (F := Ideal)) (onTc (τ := Cert.ReduceF2W1Ideal.τ) (Cert.ReduceF2W1Ideal.main (F := Ideal))) ⟨m, fun _ => 0, g⟩ (fun r => ∀ c : Dev Cert.ReduceF2W1Ideal.nD,
          r.2.mem ((c.tc : Thread Cert.ReduceF2W1Ideal.nD Cert.ReduceF2W1Ideal.τ).loc Cert.ReduceF2W1Ideal.main_v3_0) = v0 c
          ∧ r.2.mem ((c.tc : Thread Cert.ReduceF2W1Ideal.nD Cert.ReduceF2W1Ideal.τ).loc Cert.ReduceF2W1Ideal.main_v3_1) = v1 c
          ∧ r.2.mem ((c.tc : Thread Cert.ReduceF2W1Ideal.nD Cert.ReduceF2W1Ideal.τ).loc Cert.ReduceF2W1Ideal.main_v3_2) = v2 c
          ∧ r.2.mem ((c.tc : Thread Cert.ReduceF2W1Ideal.nD Cert.ReduceF2W1Ideal.τ).loc Cert.ReduceF2W1Ideal.main_v3_3) = v3 c
          ∧ r.2.mem ((c.tc : Thread Cert.ReduceF2W1Ideal.nD Cert.ReduceF2W1Ideal.τ).loc Cert.ReduceF2W1Ideal.main_arg0) = m ((c.tc : Thread Cert.ReduceF2W1Ideal.nD Cert.ReduceF2W1Ideal.τ).loc Cert.ReduceF2W1Ideal.main_arg0)
          ∧ r.2.mem ((c.tc : Thread Cert.ReduceF2W1Ideal.nD Cert.ReduceF2W1Ideal.τ).loc Cert.ReduceF2W1Ideal.main_arg1) = m ((c.tc : Thread Cert.ReduceF2W1Ideal.nD Cert.ReduceF2W1Ideal.τ).loc Cert.ReduceF2W1Ideal.main_arg1)
          ∧ r.2.mem ((c.tc : Thread Cert.ReduceF2W1Ideal.nD Cert.ReduceF2W1Ideal.τ).loc Cert.ReduceF2W1Ideal.main_arg2) = m ((c.tc : Thread Cert.ReduceF2W1Ideal.nD Cert.ReduceF2W1Ideal.τ).loc Cert.ReduceF2W1Ideal.main_arg2)
          ∧ r.2.mem ((c.tc : Thread Cert.ReduceF2W1Ideal.nD Cert.ReduceF2W1Ideal.τ).loc Cert.ReduceF2W1Ideal.main_arg3) = m ((c.tc : Thread Cert.ReduceF2W1Ideal.nD Cert.ReduceF2W1Ideal.τ).loc Cert.ReduceF2W1Ideal.main_arg3)
          ∧ r.2.mem ((c.tc : Thread Cert.ReduceF2W1Ideal.nD Cert.ReduceF2W1Ideal.τ).loc Cert.ReduceF2W1Ideal.main_arg4) = m ((c.tc : Thread Cert.ReduceF2W1Ideal.nD Cert.ReduceF2W1Ideal.τ).loc Cert.ReduceF2W1Ideal.main_arg4)
          ∧ r.2.mem ((c.tc : Thread Cert.ReduceF2W1Ideal.nD Cert.ReduceF2W1Ideal.τ).loc Cert.ReduceF2W1Ideal.main_arg5) = m ((c.tc : Thread Cert.ReduceF2W1Ideal.nD Cert.ReduceF2W1Ideal.τ).loc Cert.ReduceF2W1Ideal.main_arg5)
          ∧ r.2.mem ((c.tc : Thread Cert.ReduceF2W1Ideal.nD Cert.ReduceF2W1Ideal.τ).loc Cert.ReduceF2W1Ideal.main_arg6) = m ((c.tc : Thread Cert.ReduceF2W1Ideal.nD Cert.ReduceF2W1Ideal.τ).loc Cert.ReduceF2W1Ideal.main_arg6))
      ∧ θ_run (Cert.ReduceF2W1ReferenceIdeal.defs (F := Ideal)) (onTc (τ := Cert.ReduceF2W1ReferenceIdeal.τ) (Cert.ReduceF2W1ReferenceIdeal.main (F := Ideal))) ⟨m', fun _ => 0, g'⟩ (fun r => ∀ c : Dev Cert.ReduceF2W1ReferenceIdeal.nD,
          r.2.mem ((c.tc : Thread Cert.ReduceF2W1ReferenceIdeal.nD Cert.ReduceF2W1ReferenceIdeal.τ).loc Cert.ReduceF2W1ReferenceIdeal.main_v19) = v0 c
          ∧ r.2.mem ((c.tc : Thread Cert.ReduceF2W1ReferenceIdeal.nD Cert.ReduceF2W1ReferenceIdeal.τ).loc Cert.ReduceF2W1ReferenceIdeal.main_v43) = v1 c
          ∧ r.2.mem ((c.tc : Thread Cert.ReduceF2W1ReferenceIdeal.nD Cert.ReduceF2W1ReferenceIdeal.τ).loc Cert.ReduceF2W1ReferenceIdeal.main_v24) = v2 c
          ∧ r.2.mem ((c.tc : Thread Cert.ReduceF2W1ReferenceIdeal.nD Cert.ReduceF2W1ReferenceIdeal.τ).loc Cert.ReduceF2W1ReferenceIdeal.main_v30) = v3 c
          ∧ r.2.mem ((c.tc : Thread Cert.ReduceF2W1ReferenceIdeal.nD Cert.ReduceF2W1ReferenceIdeal.τ).loc Cert.ReduceF2W1ReferenceIdeal.main_arg0) = m' ((c.tc : Thread Cert.ReduceF2W1ReferenceIdeal.nD Cert.ReduceF2W1ReferenceIdeal.τ).loc Cert.ReduceF2W1ReferenceIdeal.main_arg0)
          ∧ r.2.mem ((c.tc : Thread Cert.ReduceF2W1ReferenceIdeal.nD Cert.ReduceF2W1ReferenceIdeal.τ).loc Cert.ReduceF2W1ReferenceIdeal.main_arg1) = m' ((c.tc : Thread Cert.ReduceF2W1ReferenceIdeal.nD Cert.ReduceF2W1ReferenceIdeal.τ).loc Cert.ReduceF2W1ReferenceIdeal.main_arg1)
          ∧ r.2.mem ((c.tc : Thread Cert.ReduceF2W1ReferenceIdeal.nD Cert.ReduceF2W1ReferenceIdeal.τ).loc Cert.ReduceF2W1ReferenceIdeal.main_arg2) = m' ((c.tc : Thread Cert.ReduceF2W1ReferenceIdeal.nD Cert.ReduceF2W1ReferenceIdeal.τ).loc Cert.ReduceF2W1ReferenceIdeal.main_arg2)
          ∧ r.2.mem ((c.tc : Thread Cert.ReduceF2W1ReferenceIdeal.nD Cert.ReduceF2W1ReferenceIdeal.τ).loc Cert.ReduceF2W1ReferenceIdeal.main_arg3) = m' ((c.tc : Thread Cert.ReduceF2W1ReferenceIdeal.nD Cert.ReduceF2W1ReferenceIdeal.τ).loc Cert.ReduceF2W1ReferenceIdeal.main_arg3)
          ∧ r.2.mem ((c.tc : Thread Cert.ReduceF2W1ReferenceIdeal.nD Cert.ReduceF2W1ReferenceIdeal.τ).loc Cert.ReduceF2W1ReferenceIdeal.main_arg4) = m' ((c.tc : Thread Cert.ReduceF2W1ReferenceIdeal.nD Cert.ReduceF2W1ReferenceIdeal.τ).loc Cert.ReduceF2W1ReferenceIdeal.main_arg4)
          ∧ r.2.mem ((c.tc : Thread Cert.ReduceF2W1ReferenceIdeal.nD Cert.ReduceF2W1ReferenceIdeal.τ).loc Cert.ReduceF2W1ReferenceIdeal.main_arg5) = m' ((c.tc : Thread Cert.ReduceF2W1ReferenceIdeal.nD Cert.ReduceF2W1ReferenceIdeal.τ).loc Cert.ReduceF2W1ReferenceIdeal.main_arg5)
          ∧ r.2.mem ((c.tc : Thread Cert.ReduceF2W1ReferenceIdeal.nD Cert.ReduceF2W1ReferenceIdeal.τ).loc Cert.ReduceF2W1ReferenceIdeal.main_arg6) = m' ((c.tc : Thread Cert.ReduceF2W1ReferenceIdeal.nD Cert.ReduceF2W1ReferenceIdeal.τ).loc Cert.ReduceF2W1ReferenceIdeal.main_arg6))

def preserves_ReduceF2W3_ReduceF2W3Ideal : Prop :=
  True

def algebraic_ReduceF2W3Ideal_ReduceF2W3ReferenceIdeal [hReduceF2W3Ideal : Cert.ReduceF2W3Ideal.Facts] [hReduceF2W3ReferenceIdeal : Cert.ReduceF2W3ReferenceIdeal.Facts] : Prop :=
  ∀ (m : (ℓ : Loc Cert.ReduceF2W3Ideal.nD Cert.ReduceF2W3Ideal.τ Cert.ReduceF2W3Ideal.sig) → Buf (Elt Ideal) ℓ) (g : Dev Cert.ReduceF2W3Ideal.nD → PrngReg)
    (m' : (ℓ : Loc Cert.ReduceF2W3ReferenceIdeal.nD Cert.ReduceF2W3ReferenceIdeal.τ Cert.ReduceF2W3ReferenceIdeal.sig) → Buf (Elt Ideal) ℓ) (g' : Dev Cert.ReduceF2W3ReferenceIdeal.nD → PrngReg), Pre_ReduceF2W3Ideal m →
    (∀ c : Dev Cert.ReduceF2W3Ideal.nD,
      m' ((c.tc : Thread Cert.ReduceF2W3ReferenceIdeal.nD Cert.ReduceF2W3ReferenceIdeal.τ).loc Cert.ReduceF2W3ReferenceIdeal.main_arg0) = m ((c.tc : Thread Cert.ReduceF2W3Ideal.nD Cert.ReduceF2W3Ideal.τ).loc Cert.ReduceF2W3Ideal.main_arg0)
      ∧ m' ((c.tc : Thread Cert.ReduceF2W3ReferenceIdeal.nD Cert.ReduceF2W3ReferenceIdeal.τ).loc Cert.ReduceF2W3ReferenceIdeal.main_arg1) = m ((c.tc : Thread Cert.ReduceF2W3Ideal.nD Cert.ReduceF2W3Ideal.τ).loc Cert.ReduceF2W3Ideal.main_arg1)
      ∧ m' ((c.tc : Thread Cert.ReduceF2W3ReferenceIdeal.nD Cert.ReduceF2W3ReferenceIdeal.τ).loc Cert.ReduceF2W3ReferenceIdeal.main_arg2) = m ((c.tc : Thread Cert.ReduceF2W3Ideal.nD Cert.ReduceF2W3Ideal.τ).loc Cert.ReduceF2W3Ideal.main_arg2)
      ∧ m' ((c.tc : Thread Cert.ReduceF2W3ReferenceIdeal.nD Cert.ReduceF2W3ReferenceIdeal.τ).loc Cert.ReduceF2W3ReferenceIdeal.main_arg3) = m ((c.tc : Thread Cert.ReduceF2W3Ideal.nD Cert.ReduceF2W3Ideal.τ).loc Cert.ReduceF2W3Ideal.main_arg3)
      ∧ m' ((c.tc : Thread Cert.ReduceF2W3ReferenceIdeal.nD Cert.ReduceF2W3ReferenceIdeal.τ).loc Cert.ReduceF2W3ReferenceIdeal.main_arg4) = m ((c.tc : Thread Cert.ReduceF2W3Ideal.nD Cert.ReduceF2W3Ideal.τ).loc Cert.ReduceF2W3Ideal.main_arg4)
      ∧ m' ((c.tc : Thread Cert.ReduceF2W3ReferenceIdeal.nD Cert.ReduceF2W3ReferenceIdeal.τ).loc Cert.ReduceF2W3ReferenceIdeal.main_arg5) = m ((c.tc : Thread Cert.ReduceF2W3Ideal.nD Cert.ReduceF2W3Ideal.τ).loc Cert.ReduceF2W3Ideal.main_arg5)
      ∧ m' ((c.tc : Thread Cert.ReduceF2W3ReferenceIdeal.nD Cert.ReduceF2W3ReferenceIdeal.τ).loc Cert.ReduceF2W3ReferenceIdeal.main_arg6) = m ((c.tc : Thread Cert.ReduceF2W3Ideal.nD Cert.ReduceF2W3Ideal.τ).loc Cert.ReduceF2W3Ideal.main_arg6)) →
    ∃ (v0 : (c : Dev Cert.ReduceF2W3Ideal.nD) → Buf (Elt Ideal) ((c.tc : Thread Cert.ReduceF2W3Ideal.nD Cert.ReduceF2W3Ideal.τ).loc Cert.ReduceF2W3Ideal.main_v3_0)) (v1 : (c : Dev Cert.ReduceF2W3Ideal.nD) → Buf (Elt Ideal) ((c.tc : Thread Cert.ReduceF2W3Ideal.nD Cert.ReduceF2W3Ideal.τ).loc Cert.ReduceF2W3Ideal.main_v3_1)) (v2 : (c : Dev Cert.ReduceF2W3Ideal.nD) → Buf (Elt Ideal) ((c.tc : Thread Cert.ReduceF2W3Ideal.nD Cert.ReduceF2W3Ideal.τ).loc Cert.ReduceF2W3Ideal.main_v3_2)) (v3 : (c : Dev Cert.ReduceF2W3Ideal.nD) → Buf (Elt Ideal) ((c.tc : Thread Cert.ReduceF2W3Ideal.nD Cert.ReduceF2W3Ideal.τ).loc Cert.ReduceF2W3Ideal.main_v3_3)),
      θ_run (Cert.ReduceF2W3Ideal.defs (F := Ideal)) (onTc (τ := Cert.ReduceF2W3Ideal.τ) (Cert.ReduceF2W3Ideal.main (F := Ideal))) ⟨m, fun _ => 0, g⟩ (fun r => ∀ c : Dev Cert.ReduceF2W3Ideal.nD,
          r.2.mem ((c.tc : Thread Cert.ReduceF2W3Ideal.nD Cert.ReduceF2W3Ideal.τ).loc Cert.ReduceF2W3Ideal.main_v3_0) = v0 c
          ∧ r.2.mem ((c.tc : Thread Cert.ReduceF2W3Ideal.nD Cert.ReduceF2W3Ideal.τ).loc Cert.ReduceF2W3Ideal.main_v3_1) = v1 c
          ∧ r.2.mem ((c.tc : Thread Cert.ReduceF2W3Ideal.nD Cert.ReduceF2W3Ideal.τ).loc Cert.ReduceF2W3Ideal.main_v3_2) = v2 c
          ∧ r.2.mem ((c.tc : Thread Cert.ReduceF2W3Ideal.nD Cert.ReduceF2W3Ideal.τ).loc Cert.ReduceF2W3Ideal.main_v3_3) = v3 c
          ∧ r.2.mem ((c.tc : Thread Cert.ReduceF2W3Ideal.nD Cert.ReduceF2W3Ideal.τ).loc Cert.ReduceF2W3Ideal.main_arg0) = m ((c.tc : Thread Cert.ReduceF2W3Ideal.nD Cert.ReduceF2W3Ideal.τ).loc Cert.ReduceF2W3Ideal.main_arg0)
          ∧ r.2.mem ((c.tc : Thread Cert.ReduceF2W3Ideal.nD Cert.ReduceF2W3Ideal.τ).loc Cert.ReduceF2W3Ideal.main_arg1) = m ((c.tc : Thread Cert.ReduceF2W3Ideal.nD Cert.ReduceF2W3Ideal.τ).loc Cert.ReduceF2W3Ideal.main_arg1)
          ∧ r.2.mem ((c.tc : Thread Cert.ReduceF2W3Ideal.nD Cert.ReduceF2W3Ideal.τ).loc Cert.ReduceF2W3Ideal.main_arg2) = m ((c.tc : Thread Cert.ReduceF2W3Ideal.nD Cert.ReduceF2W3Ideal.τ).loc Cert.ReduceF2W3Ideal.main_arg2)
          ∧ r.2.mem ((c.tc : Thread Cert.ReduceF2W3Ideal.nD Cert.ReduceF2W3Ideal.τ).loc Cert.ReduceF2W3Ideal.main_arg3) = m ((c.tc : Thread Cert.ReduceF2W3Ideal.nD Cert.ReduceF2W3Ideal.τ).loc Cert.ReduceF2W3Ideal.main_arg3)
          ∧ r.2.mem ((c.tc : Thread Cert.ReduceF2W3Ideal.nD Cert.ReduceF2W3Ideal.τ).loc Cert.ReduceF2W3Ideal.main_arg4) = m ((c.tc : Thread Cert.ReduceF2W3Ideal.nD Cert.ReduceF2W3Ideal.τ).loc Cert.ReduceF2W3Ideal.main_arg4)
          ∧ r.2.mem ((c.tc : Thread Cert.ReduceF2W3Ideal.nD Cert.ReduceF2W3Ideal.τ).loc Cert.ReduceF2W3Ideal.main_arg5) = m ((c.tc : Thread Cert.ReduceF2W3Ideal.nD Cert.ReduceF2W3Ideal.τ).loc Cert.ReduceF2W3Ideal.main_arg5)
          ∧ r.2.mem ((c.tc : Thread Cert.ReduceF2W3Ideal.nD Cert.ReduceF2W3Ideal.τ).loc Cert.ReduceF2W3Ideal.main_arg6) = m ((c.tc : Thread Cert.ReduceF2W3Ideal.nD Cert.ReduceF2W3Ideal.τ).loc Cert.ReduceF2W3Ideal.main_arg6))
      ∧ θ_run (Cert.ReduceF2W3ReferenceIdeal.defs (F := Ideal)) (onTc (τ := Cert.ReduceF2W3ReferenceIdeal.τ) (Cert.ReduceF2W3ReferenceIdeal.main (F := Ideal))) ⟨m', fun _ => 0, g'⟩ (fun r => ∀ c : Dev Cert.ReduceF2W3ReferenceIdeal.nD,
          r.2.mem ((c.tc : Thread Cert.ReduceF2W3ReferenceIdeal.nD Cert.ReduceF2W3ReferenceIdeal.τ).loc Cert.ReduceF2W3ReferenceIdeal.main_v19) = v0 c
          ∧ r.2.mem ((c.tc : Thread Cert.ReduceF2W3ReferenceIdeal.nD Cert.ReduceF2W3ReferenceIdeal.τ).loc Cert.ReduceF2W3ReferenceIdeal.main_v43) = v1 c
          ∧ r.2.mem ((c.tc : Thread Cert.ReduceF2W3ReferenceIdeal.nD Cert.ReduceF2W3ReferenceIdeal.τ).loc Cert.ReduceF2W3ReferenceIdeal.main_v24) = v2 c
          ∧ r.2.mem ((c.tc : Thread Cert.ReduceF2W3ReferenceIdeal.nD Cert.ReduceF2W3ReferenceIdeal.τ).loc Cert.ReduceF2W3ReferenceIdeal.main_v30) = v3 c
          ∧ r.2.mem ((c.tc : Thread Cert.ReduceF2W3ReferenceIdeal.nD Cert.ReduceF2W3ReferenceIdeal.τ).loc Cert.ReduceF2W3ReferenceIdeal.main_arg0) = m' ((c.tc : Thread Cert.ReduceF2W3ReferenceIdeal.nD Cert.ReduceF2W3ReferenceIdeal.τ).loc Cert.ReduceF2W3ReferenceIdeal.main_arg0)
          ∧ r.2.mem ((c.tc : Thread Cert.ReduceF2W3ReferenceIdeal.nD Cert.ReduceF2W3ReferenceIdeal.τ).loc Cert.ReduceF2W3ReferenceIdeal.main_arg1) = m' ((c.tc : Thread Cert.ReduceF2W3ReferenceIdeal.nD Cert.ReduceF2W3ReferenceIdeal.τ).loc Cert.ReduceF2W3ReferenceIdeal.main_arg1)
          ∧ r.2.mem ((c.tc : Thread Cert.ReduceF2W3ReferenceIdeal.nD Cert.ReduceF2W3ReferenceIdeal.τ).loc Cert.ReduceF2W3ReferenceIdeal.main_arg2) = m' ((c.tc : Thread Cert.ReduceF2W3ReferenceIdeal.nD Cert.ReduceF2W3ReferenceIdeal.τ).loc Cert.ReduceF2W3ReferenceIdeal.main_arg2)
          ∧ r.2.mem ((c.tc : Thread Cert.ReduceF2W3ReferenceIdeal.nD Cert.ReduceF2W3ReferenceIdeal.τ).loc Cert.ReduceF2W3ReferenceIdeal.main_arg3) = m' ((c.tc : Thread Cert.ReduceF2W3ReferenceIdeal.nD Cert.ReduceF2W3ReferenceIdeal.τ).loc Cert.ReduceF2W3ReferenceIdeal.main_arg3)
          ∧ r.2.mem ((c.tc : Thread Cert.ReduceF2W3ReferenceIdeal.nD Cert.ReduceF2W3ReferenceIdeal.τ).loc Cert.ReduceF2W3ReferenceIdeal.main_arg4) = m' ((c.tc : Thread Cert.ReduceF2W3ReferenceIdeal.nD Cert.ReduceF2W3ReferenceIdeal.τ).loc Cert.ReduceF2W3ReferenceIdeal.main_arg4)
          ∧ r.2.mem ((c.tc : Thread Cert.ReduceF2W3ReferenceIdeal.nD Cert.ReduceF2W3ReferenceIdeal.τ).loc Cert.ReduceF2W3ReferenceIdeal.main_arg5) = m' ((c.tc : Thread Cert.ReduceF2W3ReferenceIdeal.nD Cert.ReduceF2W3ReferenceIdeal.τ).loc Cert.ReduceF2W3ReferenceIdeal.main_arg5)
          ∧ r.2.mem ((c.tc : Thread Cert.ReduceF2W3ReferenceIdeal.nD Cert.ReduceF2W3ReferenceIdeal.τ).loc Cert.ReduceF2W3ReferenceIdeal.main_arg6) = m' ((c.tc : Thread Cert.ReduceF2W3ReferenceIdeal.nD Cert.ReduceF2W3ReferenceIdeal.τ).loc Cert.ReduceF2W3ReferenceIdeal.main_arg6))

def preserves_ReduceF2W2_ReduceF2W2Ideal : Prop :=
  True

def algebraic_ReduceF2W2Ideal_ReduceF2W2ReferenceIdeal [hReduceF2W2Ideal : Cert.ReduceF2W2Ideal.Facts] [hReduceF2W2ReferenceIdeal : Cert.ReduceF2W2ReferenceIdeal.Facts] : Prop :=
  ∀ (m : (ℓ : Loc Cert.ReduceF2W2Ideal.nD Cert.ReduceF2W2Ideal.τ Cert.ReduceF2W2Ideal.sig) → Buf (Elt Ideal) ℓ) (g : Dev Cert.ReduceF2W2Ideal.nD → PrngReg)
    (m' : (ℓ : Loc Cert.ReduceF2W2ReferenceIdeal.nD Cert.ReduceF2W2ReferenceIdeal.τ Cert.ReduceF2W2ReferenceIdeal.sig) → Buf (Elt Ideal) ℓ) (g' : Dev Cert.ReduceF2W2ReferenceIdeal.nD → PrngReg), Pre_ReduceF2W2Ideal m →
    (∀ c : Dev Cert.ReduceF2W2Ideal.nD,
      m' ((c.tc : Thread Cert.ReduceF2W2ReferenceIdeal.nD Cert.ReduceF2W2ReferenceIdeal.τ).loc Cert.ReduceF2W2ReferenceIdeal.main_arg0) = m ((c.tc : Thread Cert.ReduceF2W2Ideal.nD Cert.ReduceF2W2Ideal.τ).loc Cert.ReduceF2W2Ideal.main_arg0)
      ∧ m' ((c.tc : Thread Cert.ReduceF2W2ReferenceIdeal.nD Cert.ReduceF2W2ReferenceIdeal.τ).loc Cert.ReduceF2W2ReferenceIdeal.main_arg1) = m ((c.tc : Thread Cert.ReduceF2W2Ideal.nD Cert.ReduceF2W2Ideal.τ).loc Cert.ReduceF2W2Ideal.main_arg1)
      ∧ m' ((c.tc : Thread Cert.ReduceF2W2ReferenceIdeal.nD Cert.ReduceF2W2ReferenceIdeal.τ).loc Cert.ReduceF2W2ReferenceIdeal.main_arg2) = m ((c.tc : Thread Cert.ReduceF2W2Ideal.nD Cert.ReduceF2W2Ideal.τ).loc Cert.ReduceF2W2Ideal.main_arg2)
      ∧ m' ((c.tc : Thread Cert.ReduceF2W2ReferenceIdeal.nD Cert.ReduceF2W2ReferenceIdeal.τ).loc Cert.ReduceF2W2ReferenceIdeal.main_arg3) = m ((c.tc : Thread Cert.ReduceF2W2Ideal.nD Cert.ReduceF2W2Ideal.τ).loc Cert.ReduceF2W2Ideal.main_arg3)
      ∧ m' ((c.tc : Thread Cert.ReduceF2W2ReferenceIdeal.nD Cert.ReduceF2W2ReferenceIdeal.τ).loc Cert.ReduceF2W2ReferenceIdeal.main_arg4) = m ((c.tc : Thread Cert.ReduceF2W2Ideal.nD Cert.ReduceF2W2Ideal.τ).loc Cert.ReduceF2W2Ideal.main_arg4)
      ∧ m' ((c.tc : Thread Cert.ReduceF2W2ReferenceIdeal.nD Cert.ReduceF2W2ReferenceIdeal.τ).loc Cert.ReduceF2W2ReferenceIdeal.main_arg5) = m ((c.tc : Thread Cert.ReduceF2W2Ideal.nD Cert.ReduceF2W2Ideal.τ).loc Cert.ReduceF2W2Ideal.main_arg5)
      ∧ m' ((c.tc : Thread Cert.ReduceF2W2ReferenceIdeal.nD Cert.ReduceF2W2ReferenceIdeal.τ).loc Cert.ReduceF2W2ReferenceIdeal.main_arg6) = m ((c.tc : Thread Cert.ReduceF2W2Ideal.nD Cert.ReduceF2W2Ideal.τ).loc Cert.ReduceF2W2Ideal.main_arg6)) →
    ∃ (v0 : (c : Dev Cert.ReduceF2W2Ideal.nD) → Buf (Elt Ideal) ((c.tc : Thread Cert.ReduceF2W2Ideal.nD Cert.ReduceF2W2Ideal.τ).loc Cert.ReduceF2W2Ideal.main_v0_0)) (v1 : (c : Dev Cert.ReduceF2W2Ideal.nD) → Buf (Elt Ideal) ((c.tc : Thread Cert.ReduceF2W2Ideal.nD Cert.ReduceF2W2Ideal.τ).loc Cert.ReduceF2W2Ideal.main_v0_1)) (v2 : (c : Dev Cert.ReduceF2W2Ideal.nD) → Buf (Elt Ideal) ((c.tc : Thread Cert.ReduceF2W2Ideal.nD Cert.ReduceF2W2Ideal.τ).loc Cert.ReduceF2W2Ideal.main_v0_2)) (v3 : (c : Dev Cert.ReduceF2W2Ideal.nD) → Buf (Elt Ideal) ((c.tc : Thread Cert.ReduceF2W2Ideal.nD Cert.ReduceF2W2Ideal.τ).loc Cert.ReduceF2W2Ideal.main_v0_3)),
      θ_run (Cert.ReduceF2W2Ideal.defs (F := Ideal)) (onTc (τ := Cert.ReduceF2W2Ideal.τ) (Cert.ReduceF2W2Ideal.main (F := Ideal))) ⟨m, fun _ => 0, g⟩ (fun r => ∀ c : Dev Cert.ReduceF2W2Ideal.nD,
          r.2.mem ((c.tc : Thread Cert.ReduceF2W2Ideal.nD Cert.ReduceF2W2Ideal.τ).loc Cert.ReduceF2W2Ideal.main_v0_0) = v0 c
          ∧ r.2.mem ((c.tc : Thread Cert.ReduceF2W2Ideal.nD Cert.ReduceF2W2Ideal.τ).loc Cert.ReduceF2W2Ideal.main_v0_1) = v1 c
          ∧ r.2.mem ((c.tc : Thread Cert.ReduceF2W2Ideal.nD Cert.ReduceF2W2Ideal.τ).loc Cert.ReduceF2W2Ideal.main_v0_2) = v2 c
          ∧ r.2.mem ((c.tc : Thread Cert.ReduceF2W2Ideal.nD Cert.ReduceF2W2Ideal.τ).loc Cert.ReduceF2W2Ideal.main_v0_3) = v3 c
          ∧ r.2.mem ((c.tc : Thread Cert.ReduceF2W2Ideal.nD Cert.ReduceF2W2Ideal.τ).loc Cert.ReduceF2W2Ideal.main_arg0) = m ((c.tc : Thread Cert.ReduceF2W2Ideal.nD Cert.ReduceF2W2Ideal.τ).loc Cert.ReduceF2W2Ideal.main_arg0)
          ∧ r.2.mem ((c.tc : Thread Cert.ReduceF2W2Ideal.nD Cert.ReduceF2W2Ideal.τ).loc Cert.ReduceF2W2Ideal.main_arg1) = m ((c.tc : Thread Cert.ReduceF2W2Ideal.nD Cert.ReduceF2W2Ideal.τ).loc Cert.ReduceF2W2Ideal.main_arg1)
          ∧ r.2.mem ((c.tc : Thread Cert.ReduceF2W2Ideal.nD Cert.ReduceF2W2Ideal.τ).loc Cert.ReduceF2W2Ideal.main_arg2) = m ((c.tc : Thread Cert.ReduceF2W2Ideal.nD Cert.ReduceF2W2Ideal.τ).loc Cert.ReduceF2W2Ideal.main_arg2)
          ∧ r.2.mem ((c.tc : Thread Cert.ReduceF2W2Ideal.nD Cert.ReduceF2W2Ideal.τ).loc Cert.ReduceF2W2Ideal.main_arg3) = m ((c.tc : Thread Cert.ReduceF2W2Ideal.nD Cert.ReduceF2W2Ideal.τ).loc Cert.ReduceF2W2Ideal.main_arg3)
          ∧ r.2.mem ((c.tc : Thread Cert.ReduceF2W2Ideal.nD Cert.ReduceF2W2Ideal.τ).loc Cert.ReduceF2W2Ideal.main_arg4) = m ((c.tc : Thread Cert.ReduceF2W2Ideal.nD Cert.ReduceF2W2Ideal.τ).loc Cert.ReduceF2W2Ideal.main_arg4)
          ∧ r.2.mem ((c.tc : Thread Cert.ReduceF2W2Ideal.nD Cert.ReduceF2W2Ideal.τ).loc Cert.ReduceF2W2Ideal.main_arg5) = m ((c.tc : Thread Cert.ReduceF2W2Ideal.nD Cert.ReduceF2W2Ideal.τ).loc Cert.ReduceF2W2Ideal.main_arg5)
          ∧ r.2.mem ((c.tc : Thread Cert.ReduceF2W2Ideal.nD Cert.ReduceF2W2Ideal.τ).loc Cert.ReduceF2W2Ideal.main_arg6) = m ((c.tc : Thread Cert.ReduceF2W2Ideal.nD Cert.ReduceF2W2Ideal.τ).loc Cert.ReduceF2W2Ideal.main_arg6))
      ∧ θ_run (Cert.ReduceF2W2ReferenceIdeal.defs (F := Ideal)) (onTc (τ := Cert.ReduceF2W2ReferenceIdeal.τ) (Cert.ReduceF2W2ReferenceIdeal.main (F := Ideal))) ⟨m', fun _ => 0, g'⟩ (fun r => ∀ c : Dev Cert.ReduceF2W2ReferenceIdeal.nD,
          r.2.mem ((c.tc : Thread Cert.ReduceF2W2ReferenceIdeal.nD Cert.ReduceF2W2ReferenceIdeal.τ).loc Cert.ReduceF2W2ReferenceIdeal.main_v16) = v0 c
          ∧ r.2.mem ((c.tc : Thread Cert.ReduceF2W2ReferenceIdeal.nD Cert.ReduceF2W2ReferenceIdeal.τ).loc Cert.ReduceF2W2ReferenceIdeal.main_v40) = v1 c
          ∧ r.2.mem ((c.tc : Thread Cert.ReduceF2W2ReferenceIdeal.nD Cert.ReduceF2W2ReferenceIdeal.τ).loc Cert.ReduceF2W2ReferenceIdeal.main_v21) = v2 c
          ∧ r.2.mem ((c.tc : Thread Cert.ReduceF2W2ReferenceIdeal.nD Cert.ReduceF2W2ReferenceIdeal.τ).loc Cert.ReduceF2W2ReferenceIdeal.main_v27) = v3 c
          ∧ r.2.mem ((c.tc : Thread Cert.ReduceF2W2ReferenceIdeal.nD Cert.ReduceF2W2ReferenceIdeal.τ).loc Cert.ReduceF2W2ReferenceIdeal.main_arg0) = m' ((c.tc : Thread Cert.ReduceF2W2ReferenceIdeal.nD Cert.ReduceF2W2ReferenceIdeal.τ).loc Cert.ReduceF2W2ReferenceIdeal.main_arg0)
          ∧ r.2.mem ((c.tc : Thread Cert.ReduceF2W2ReferenceIdeal.nD Cert.ReduceF2W2ReferenceIdeal.τ).loc Cert.ReduceF2W2ReferenceIdeal.main_arg1) = m' ((c.tc : Thread Cert.ReduceF2W2ReferenceIdeal.nD Cert.ReduceF2W2ReferenceIdeal.τ).loc Cert.ReduceF2W2ReferenceIdeal.main_arg1)
          ∧ r.2.mem ((c.tc : Thread Cert.ReduceF2W2ReferenceIdeal.nD Cert.ReduceF2W2ReferenceIdeal.τ).loc Cert.ReduceF2W2ReferenceIdeal.main_arg2) = m' ((c.tc : Thread Cert.ReduceF2W2ReferenceIdeal.nD Cert.ReduceF2W2ReferenceIdeal.τ).loc Cert.ReduceF2W2ReferenceIdeal.main_arg2)
          ∧ r.2.mem ((c.tc : Thread Cert.ReduceF2W2ReferenceIdeal.nD Cert.ReduceF2W2ReferenceIdeal.τ).loc Cert.ReduceF2W2ReferenceIdeal.main_arg3) = m' ((c.tc : Thread Cert.ReduceF2W2ReferenceIdeal.nD Cert.ReduceF2W2ReferenceIdeal.τ).loc Cert.ReduceF2W2ReferenceIdeal.main_arg3)
          ∧ r.2.mem ((c.tc : Thread Cert.ReduceF2W2ReferenceIdeal.nD Cert.ReduceF2W2ReferenceIdeal.τ).loc Cert.ReduceF2W2ReferenceIdeal.main_arg4) = m' ((c.tc : Thread Cert.ReduceF2W2ReferenceIdeal.nD Cert.ReduceF2W2ReferenceIdeal.τ).loc Cert.ReduceF2W2ReferenceIdeal.main_arg4)
          ∧ r.2.mem ((c.tc : Thread Cert.ReduceF2W2ReferenceIdeal.nD Cert.ReduceF2W2ReferenceIdeal.τ).loc Cert.ReduceF2W2ReferenceIdeal.main_arg5) = m' ((c.tc : Thread Cert.ReduceF2W2ReferenceIdeal.nD Cert.ReduceF2W2ReferenceIdeal.τ).loc Cert.ReduceF2W2ReferenceIdeal.main_arg5)
          ∧ r.2.mem ((c.tc : Thread Cert.ReduceF2W2ReferenceIdeal.nD Cert.ReduceF2W2ReferenceIdeal.τ).loc Cert.ReduceF2W2ReferenceIdeal.main_arg6) = m' ((c.tc : Thread Cert.ReduceF2W2ReferenceIdeal.nD Cert.ReduceF2W2ReferenceIdeal.τ).loc Cert.ReduceF2W2ReferenceIdeal.main_arg6))

def preserves_ReduceOut_ReduceOutIdeal : Prop :=
  True

def algebraic_ReduceOutIdeal_ReduceOutReferenceIdeal [hReduceOutIdeal : Cert.ReduceOutIdeal.Facts] [hReduceOutReferenceIdeal : Cert.ReduceOutReferenceIdeal.Facts] : Prop :=
  ∀ (m : (ℓ : Loc Cert.ReduceOutIdeal.nD Cert.ReduceOutIdeal.τ Cert.ReduceOutIdeal.sig) → Buf (Elt Ideal) ℓ) (g : Dev Cert.ReduceOutIdeal.nD → PrngReg)
    (m' : (ℓ : Loc Cert.ReduceOutReferenceIdeal.nD Cert.ReduceOutReferenceIdeal.τ Cert.ReduceOutReferenceIdeal.sig) → Buf (Elt Ideal) ℓ) (g' : Dev Cert.ReduceOutReferenceIdeal.nD → PrngReg), Pre_ReduceOutIdeal m →
    (∀ c : Dev Cert.ReduceOutIdeal.nD,
      m' ((c.tc : Thread Cert.ReduceOutReferenceIdeal.nD Cert.ReduceOutReferenceIdeal.τ).loc Cert.ReduceOutReferenceIdeal.main_arg0) = m ((c.tc : Thread Cert.ReduceOutIdeal.nD Cert.ReduceOutIdeal.τ).loc Cert.ReduceOutIdeal.main_arg0)
      ∧ m' ((c.tc : Thread Cert.ReduceOutReferenceIdeal.nD Cert.ReduceOutReferenceIdeal.τ).loc Cert.ReduceOutReferenceIdeal.main_arg1) = m ((c.tc : Thread Cert.ReduceOutIdeal.nD Cert.ReduceOutIdeal.τ).loc Cert.ReduceOutIdeal.main_arg1)
      ∧ m' ((c.tc : Thread Cert.ReduceOutReferenceIdeal.nD Cert.ReduceOutReferenceIdeal.τ).loc Cert.ReduceOutReferenceIdeal.main_arg2) = m ((c.tc : Thread Cert.ReduceOutIdeal.nD Cert.ReduceOutIdeal.τ).loc Cert.ReduceOutIdeal.main_arg2)
      ∧ m' ((c.tc : Thread Cert.ReduceOutReferenceIdeal.nD Cert.ReduceOutReferenceIdeal.τ).loc Cert.ReduceOutReferenceIdeal.main_arg3) = m ((c.tc : Thread Cert.ReduceOutIdeal.nD Cert.ReduceOutIdeal.τ).loc Cert.ReduceOutIdeal.main_arg3)
      ∧ m' ((c.tc : Thread Cert.ReduceOutReferenceIdeal.nD Cert.ReduceOutReferenceIdeal.τ).loc Cert.ReduceOutReferenceIdeal.main_arg4) = m ((c.tc : Thread Cert.ReduceOutIdeal.nD Cert.ReduceOutIdeal.τ).loc Cert.ReduceOutIdeal.main_arg4)
      ∧ m' ((c.tc : Thread Cert.ReduceOutReferenceIdeal.nD Cert.ReduceOutReferenceIdeal.τ).loc Cert.ReduceOutReferenceIdeal.main_arg5) = m ((c.tc : Thread Cert.ReduceOutIdeal.nD Cert.ReduceOutIdeal.τ).loc Cert.ReduceOutIdeal.main_arg5)
      ∧ m' ((c.tc : Thread Cert.ReduceOutReferenceIdeal.nD Cert.ReduceOutReferenceIdeal.τ).loc Cert.ReduceOutReferenceIdeal.main_arg6) = m ((c.tc : Thread Cert.ReduceOutIdeal.nD Cert.ReduceOutIdeal.τ).loc Cert.ReduceOutIdeal.main_arg6)) →
    ∃ (v0 : (c : Dev Cert.ReduceOutIdeal.nD) → Buf (Elt Ideal) ((c.tc : Thread Cert.ReduceOutIdeal.nD Cert.ReduceOutIdeal.τ).loc Cert.ReduceOutIdeal.main_v0_0)) (v1 : (c : Dev Cert.ReduceOutIdeal.nD) → Buf (Elt Ideal) ((c.tc : Thread Cert.ReduceOutIdeal.nD Cert.ReduceOutIdeal.τ).loc Cert.ReduceOutIdeal.main_v0_1)) (v2 : (c : Dev Cert.ReduceOutIdeal.nD) → Buf (Elt Ideal) ((c.tc : Thread Cert.ReduceOutIdeal.nD Cert.ReduceOutIdeal.τ).loc Cert.ReduceOutIdeal.main_v0_2)) (v3 : (c : Dev Cert.ReduceOutIdeal.nD) → Buf (Elt Ideal) ((c.tc : Thread Cert.ReduceOutIdeal.nD Cert.ReduceOutIdeal.τ).loc Cert.ReduceOutIdeal.main_v0_3)),
      θ_run (Cert.ReduceOutIdeal.defs (F := Ideal)) (onTc (τ := Cert.ReduceOutIdeal.τ) (Cert.ReduceOutIdeal.main (F := Ideal))) ⟨m, fun _ => 0, g⟩ (fun r => ∀ c : Dev Cert.ReduceOutIdeal.nD,
          r.2.mem ((c.tc : Thread Cert.ReduceOutIdeal.nD Cert.ReduceOutIdeal.τ).loc Cert.ReduceOutIdeal.main_v0_0) = v0 c
          ∧ r.2.mem ((c.tc : Thread Cert.ReduceOutIdeal.nD Cert.ReduceOutIdeal.τ).loc Cert.ReduceOutIdeal.main_v0_1) = v1 c
          ∧ r.2.mem ((c.tc : Thread Cert.ReduceOutIdeal.nD Cert.ReduceOutIdeal.τ).loc Cert.ReduceOutIdeal.main_v0_2) = v2 c
          ∧ r.2.mem ((c.tc : Thread Cert.ReduceOutIdeal.nD Cert.ReduceOutIdeal.τ).loc Cert.ReduceOutIdeal.main_v0_3) = v3 c
          ∧ r.2.mem ((c.tc : Thread Cert.ReduceOutIdeal.nD Cert.ReduceOutIdeal.τ).loc Cert.ReduceOutIdeal.main_arg0) = m ((c.tc : Thread Cert.ReduceOutIdeal.nD Cert.ReduceOutIdeal.τ).loc Cert.ReduceOutIdeal.main_arg0)
          ∧ r.2.mem ((c.tc : Thread Cert.ReduceOutIdeal.nD Cert.ReduceOutIdeal.τ).loc Cert.ReduceOutIdeal.main_arg1) = m ((c.tc : Thread Cert.ReduceOutIdeal.nD Cert.ReduceOutIdeal.τ).loc Cert.ReduceOutIdeal.main_arg1)
          ∧ r.2.mem ((c.tc : Thread Cert.ReduceOutIdeal.nD Cert.ReduceOutIdeal.τ).loc Cert.ReduceOutIdeal.main_arg2) = m ((c.tc : Thread Cert.ReduceOutIdeal.nD Cert.ReduceOutIdeal.τ).loc Cert.ReduceOutIdeal.main_arg2)
          ∧ r.2.mem ((c.tc : Thread Cert.ReduceOutIdeal.nD Cert.ReduceOutIdeal.τ).loc Cert.ReduceOutIdeal.main_arg3) = m ((c.tc : Thread Cert.ReduceOutIdeal.nD Cert.ReduceOutIdeal.τ).loc Cert.ReduceOutIdeal.main_arg3)
          ∧ r.2.mem ((c.tc : Thread Cert.ReduceOutIdeal.nD Cert.ReduceOutIdeal.τ).loc Cert.ReduceOutIdeal.main_arg4) = m ((c.tc : Thread Cert.ReduceOutIdeal.nD Cert.ReduceOutIdeal.τ).loc Cert.ReduceOutIdeal.main_arg4)
          ∧ r.2.mem ((c.tc : Thread Cert.ReduceOutIdeal.nD Cert.ReduceOutIdeal.τ).loc Cert.ReduceOutIdeal.main_arg5) = m ((c.tc : Thread Cert.ReduceOutIdeal.nD Cert.ReduceOutIdeal.τ).loc Cert.ReduceOutIdeal.main_arg5)
          ∧ r.2.mem ((c.tc : Thread Cert.ReduceOutIdeal.nD Cert.ReduceOutIdeal.τ).loc Cert.ReduceOutIdeal.main_arg6) = m ((c.tc : Thread Cert.ReduceOutIdeal.nD Cert.ReduceOutIdeal.τ).loc Cert.ReduceOutIdeal.main_arg6))
      ∧ θ_run (Cert.ReduceOutReferenceIdeal.defs (F := Ideal)) (onTc (τ := Cert.ReduceOutReferenceIdeal.τ) (Cert.ReduceOutReferenceIdeal.main (F := Ideal))) ⟨m', fun _ => 0, g'⟩ (fun r => ∀ c : Dev Cert.ReduceOutReferenceIdeal.nD,
          r.2.mem ((c.tc : Thread Cert.ReduceOutReferenceIdeal.nD Cert.ReduceOutReferenceIdeal.τ).loc Cert.ReduceOutReferenceIdeal.main_v15) = v0 c
          ∧ r.2.mem ((c.tc : Thread Cert.ReduceOutReferenceIdeal.nD Cert.ReduceOutReferenceIdeal.τ).loc Cert.ReduceOutReferenceIdeal.main_v39) = v1 c
          ∧ r.2.mem ((c.tc : Thread Cert.ReduceOutReferenceIdeal.nD Cert.ReduceOutReferenceIdeal.τ).loc Cert.ReduceOutReferenceIdeal.main_v20) = v2 c
          ∧ r.2.mem ((c.tc : Thread Cert.ReduceOutReferenceIdeal.nD Cert.ReduceOutReferenceIdeal.τ).loc Cert.ReduceOutReferenceIdeal.main_v26) = v3 c
          ∧ r.2.mem ((c.tc : Thread Cert.ReduceOutReferenceIdeal.nD Cert.ReduceOutReferenceIdeal.τ).loc Cert.ReduceOutReferenceIdeal.main_arg0) = m' ((c.tc : Thread Cert.ReduceOutReferenceIdeal.nD Cert.ReduceOutReferenceIdeal.τ).loc Cert.ReduceOutReferenceIdeal.main_arg0)
          ∧ r.2.mem ((c.tc : Thread Cert.ReduceOutReferenceIdeal.nD Cert.ReduceOutReferenceIdeal.τ).loc Cert.ReduceOutReferenceIdeal.main_arg1) = m' ((c.tc : Thread Cert.ReduceOutReferenceIdeal.nD Cert.ReduceOutReferenceIdeal.τ).loc Cert.ReduceOutReferenceIdeal.main_arg1)
          ∧ r.2.mem ((c.tc : Thread Cert.ReduceOutReferenceIdeal.nD Cert.ReduceOutReferenceIdeal.τ).loc Cert.ReduceOutReferenceIdeal.main_arg2) = m' ((c.tc : Thread Cert.ReduceOutReferenceIdeal.nD Cert.ReduceOutReferenceIdeal.τ).loc Cert.ReduceOutReferenceIdeal.main_arg2)
          ∧ r.2.mem ((c.tc : Thread Cert.ReduceOutReferenceIdeal.nD Cert.ReduceOutReferenceIdeal.τ).loc Cert.ReduceOutReferenceIdeal.main_arg3) = m' ((c.tc : Thread Cert.ReduceOutReferenceIdeal.nD Cert.ReduceOutReferenceIdeal.τ).loc Cert.ReduceOutReferenceIdeal.main_arg3)
          ∧ r.2.mem ((c.tc : Thread Cert.ReduceOutReferenceIdeal.nD Cert.ReduceOutReferenceIdeal.τ).loc Cert.ReduceOutReferenceIdeal.main_arg4) = m' ((c.tc : Thread Cert.ReduceOutReferenceIdeal.nD Cert.ReduceOutReferenceIdeal.τ).loc Cert.ReduceOutReferenceIdeal.main_arg4)
          ∧ r.2.mem ((c.tc : Thread Cert.ReduceOutReferenceIdeal.nD Cert.ReduceOutReferenceIdeal.τ).loc Cert.ReduceOutReferenceIdeal.main_arg5) = m' ((c.tc : Thread Cert.ReduceOutReferenceIdeal.nD Cert.ReduceOutReferenceIdeal.τ).loc Cert.ReduceOutReferenceIdeal.main_arg5)
          ∧ r.2.mem ((c.tc : Thread Cert.ReduceOutReferenceIdeal.nD Cert.ReduceOutReferenceIdeal.τ).loc Cert.ReduceOutReferenceIdeal.main_arg6) = m' ((c.tc : Thread Cert.ReduceOutReferenceIdeal.nD Cert.ReduceOutReferenceIdeal.τ).loc Cert.ReduceOutReferenceIdeal.main_arg6))

def preserves_ReduceIn_ReduceInIdeal : Prop :=
  True

def algebraic_ReduceInIdeal_ReduceInReferenceIdeal [hReduceInIdeal : Cert.ReduceInIdeal.Facts] [hReduceInReferenceIdeal : Cert.ReduceInReferenceIdeal.Facts] : Prop :=
  ∀ (m : (ℓ : Loc Cert.ReduceInIdeal.nD Cert.ReduceInIdeal.τ Cert.ReduceInIdeal.sig) → Buf (Elt Ideal) ℓ) (g : Dev Cert.ReduceInIdeal.nD → PrngReg)
    (m' : (ℓ : Loc Cert.ReduceInReferenceIdeal.nD Cert.ReduceInReferenceIdeal.τ Cert.ReduceInReferenceIdeal.sig) → Buf (Elt Ideal) ℓ) (g' : Dev Cert.ReduceInReferenceIdeal.nD → PrngReg), Pre_ReduceInIdeal m →
    (∀ c : Dev Cert.ReduceInIdeal.nD,
      m' ((c.tc : Thread Cert.ReduceInReferenceIdeal.nD Cert.ReduceInReferenceIdeal.τ).loc Cert.ReduceInReferenceIdeal.main_arg0) = m ((c.tc : Thread Cert.ReduceInIdeal.nD Cert.ReduceInIdeal.τ).loc Cert.ReduceInIdeal.main_arg0)
      ∧ m' ((c.tc : Thread Cert.ReduceInReferenceIdeal.nD Cert.ReduceInReferenceIdeal.τ).loc Cert.ReduceInReferenceIdeal.main_arg1) = m ((c.tc : Thread Cert.ReduceInIdeal.nD Cert.ReduceInIdeal.τ).loc Cert.ReduceInIdeal.main_arg1)
      ∧ m' ((c.tc : Thread Cert.ReduceInReferenceIdeal.nD Cert.ReduceInReferenceIdeal.τ).loc Cert.ReduceInReferenceIdeal.main_arg2) = m ((c.tc : Thread Cert.ReduceInIdeal.nD Cert.ReduceInIdeal.τ).loc Cert.ReduceInIdeal.main_arg2)
      ∧ m' ((c.tc : Thread Cert.ReduceInReferenceIdeal.nD Cert.ReduceInReferenceIdeal.τ).loc Cert.ReduceInReferenceIdeal.main_arg3) = m ((c.tc : Thread Cert.ReduceInIdeal.nD Cert.ReduceInIdeal.τ).loc Cert.ReduceInIdeal.main_arg3)
      ∧ m' ((c.tc : Thread Cert.ReduceInReferenceIdeal.nD Cert.ReduceInReferenceIdeal.τ).loc Cert.ReduceInReferenceIdeal.main_arg4) = m ((c.tc : Thread Cert.ReduceInIdeal.nD Cert.ReduceInIdeal.τ).loc Cert.ReduceInIdeal.main_arg4)
      ∧ m' ((c.tc : Thread Cert.ReduceInReferenceIdeal.nD Cert.ReduceInReferenceIdeal.τ).loc Cert.ReduceInReferenceIdeal.main_arg5) = m ((c.tc : Thread Cert.ReduceInIdeal.nD Cert.ReduceInIdeal.τ).loc Cert.ReduceInIdeal.main_arg5)
      ∧ m' ((c.tc : Thread Cert.ReduceInReferenceIdeal.nD Cert.ReduceInReferenceIdeal.τ).loc Cert.ReduceInReferenceIdeal.main_arg6) = m ((c.tc : Thread Cert.ReduceInIdeal.nD Cert.ReduceInIdeal.τ).loc Cert.ReduceInIdeal.main_arg6)) →
    ∃ (v0 : (c : Dev Cert.ReduceInIdeal.nD) → Buf (Elt Ideal) ((c.tc : Thread Cert.ReduceInIdeal.nD Cert.ReduceInIdeal.τ).loc Cert.ReduceInIdeal.main_v0_0)) (v1 : (c : Dev Cert.ReduceInIdeal.nD) → Buf (Elt Ideal) ((c.tc : Thread Cert.ReduceInIdeal.nD Cert.ReduceInIdeal.τ).loc Cert.ReduceInIdeal.main_v0_1)) (v2 : (c : Dev Cert.ReduceInIdeal.nD) → Buf (Elt Ideal) ((c.tc : Thread Cert.ReduceInIdeal.nD Cert.ReduceInIdeal.τ).loc Cert.ReduceInIdeal.main_v0_2)) (v3 : (c : Dev Cert.ReduceInIdeal.nD) → Buf (Elt Ideal) ((c.tc : Thread Cert.ReduceInIdeal.nD Cert.ReduceInIdeal.τ).loc Cert.ReduceInIdeal.main_v0_3)),
      θ_run (Cert.ReduceInIdeal.defs (F := Ideal)) (onTc (τ := Cert.ReduceInIdeal.τ) (Cert.ReduceInIdeal.main (F := Ideal))) ⟨m, fun _ => 0, g⟩ (fun r => ∀ c : Dev Cert.ReduceInIdeal.nD,
          r.2.mem ((c.tc : Thread Cert.ReduceInIdeal.nD Cert.ReduceInIdeal.τ).loc Cert.ReduceInIdeal.main_v0_0) = v0 c
          ∧ r.2.mem ((c.tc : Thread Cert.ReduceInIdeal.nD Cert.ReduceInIdeal.τ).loc Cert.ReduceInIdeal.main_v0_1) = v1 c
          ∧ r.2.mem ((c.tc : Thread Cert.ReduceInIdeal.nD Cert.ReduceInIdeal.τ).loc Cert.ReduceInIdeal.main_v0_2) = v2 c
          ∧ r.2.mem ((c.tc : Thread Cert.ReduceInIdeal.nD Cert.ReduceInIdeal.τ).loc Cert.ReduceInIdeal.main_v0_3) = v3 c
          ∧ r.2.mem ((c.tc : Thread Cert.ReduceInIdeal.nD Cert.ReduceInIdeal.τ).loc Cert.ReduceInIdeal.main_arg0) = m ((c.tc : Thread Cert.ReduceInIdeal.nD Cert.ReduceInIdeal.τ).loc Cert.ReduceInIdeal.main_arg0)
          ∧ r.2.mem ((c.tc : Thread Cert.ReduceInIdeal.nD Cert.ReduceInIdeal.τ).loc Cert.ReduceInIdeal.main_arg1) = m ((c.tc : Thread Cert.ReduceInIdeal.nD Cert.ReduceInIdeal.τ).loc Cert.ReduceInIdeal.main_arg1)
          ∧ r.2.mem ((c.tc : Thread Cert.ReduceInIdeal.nD Cert.ReduceInIdeal.τ).loc Cert.ReduceInIdeal.main_arg2) = m ((c.tc : Thread Cert.ReduceInIdeal.nD Cert.ReduceInIdeal.τ).loc Cert.ReduceInIdeal.main_arg2)
          ∧ r.2.mem ((c.tc : Thread Cert.ReduceInIdeal.nD Cert.ReduceInIdeal.τ).loc Cert.ReduceInIdeal.main_arg3) = m ((c.tc : Thread Cert.ReduceInIdeal.nD Cert.ReduceInIdeal.τ).loc Cert.ReduceInIdeal.main_arg3)
          ∧ r.2.mem ((c.tc : Thread Cert.ReduceInIdeal.nD Cert.ReduceInIdeal.τ).loc Cert.ReduceInIdeal.main_arg4) = m ((c.tc : Thread Cert.ReduceInIdeal.nD Cert.ReduceInIdeal.τ).loc Cert.ReduceInIdeal.main_arg4)
          ∧ r.2.mem ((c.tc : Thread Cert.ReduceInIdeal.nD Cert.ReduceInIdeal.τ).loc Cert.ReduceInIdeal.main_arg5) = m ((c.tc : Thread Cert.ReduceInIdeal.nD Cert.ReduceInIdeal.τ).loc Cert.ReduceInIdeal.main_arg5)
          ∧ r.2.mem ((c.tc : Thread Cert.ReduceInIdeal.nD Cert.ReduceInIdeal.τ).loc Cert.ReduceInIdeal.main_arg6) = m ((c.tc : Thread Cert.ReduceInIdeal.nD Cert.ReduceInIdeal.τ).loc Cert.ReduceInIdeal.main_arg6))
      ∧ θ_run (Cert.ReduceInReferenceIdeal.defs (F := Ideal)) (onTc (τ := Cert.ReduceInReferenceIdeal.τ) (Cert.ReduceInReferenceIdeal.main (F := Ideal))) ⟨m', fun _ => 0, g'⟩ (fun r => ∀ c : Dev Cert.ReduceInReferenceIdeal.nD,
          r.2.mem ((c.tc : Thread Cert.ReduceInReferenceIdeal.nD Cert.ReduceInReferenceIdeal.τ).loc Cert.ReduceInReferenceIdeal.main_v19) = v0 c
          ∧ r.2.mem ((c.tc : Thread Cert.ReduceInReferenceIdeal.nD Cert.ReduceInReferenceIdeal.τ).loc Cert.ReduceInReferenceIdeal.main_v43) = v1 c
          ∧ r.2.mem ((c.tc : Thread Cert.ReduceInReferenceIdeal.nD Cert.ReduceInReferenceIdeal.τ).loc Cert.ReduceInReferenceIdeal.main_v24) = v2 c
          ∧ r.2.mem ((c.tc : Thread Cert.ReduceInReferenceIdeal.nD Cert.ReduceInReferenceIdeal.τ).loc Cert.ReduceInReferenceIdeal.main_v30) = v3 c
          ∧ r.2.mem ((c.tc : Thread Cert.ReduceInReferenceIdeal.nD Cert.ReduceInReferenceIdeal.τ).loc Cert.ReduceInReferenceIdeal.main_arg0) = m' ((c.tc : Thread Cert.ReduceInReferenceIdeal.nD Cert.ReduceInReferenceIdeal.τ).loc Cert.ReduceInReferenceIdeal.main_arg0)
          ∧ r.2.mem ((c.tc : Thread Cert.ReduceInReferenceIdeal.nD Cert.ReduceInReferenceIdeal.τ).loc Cert.ReduceInReferenceIdeal.main_arg1) = m' ((c.tc : Thread Cert.ReduceInReferenceIdeal.nD Cert.ReduceInReferenceIdeal.τ).loc Cert.ReduceInReferenceIdeal.main_arg1)
          ∧ r.2.mem ((c.tc : Thread Cert.ReduceInReferenceIdeal.nD Cert.ReduceInReferenceIdeal.τ).loc Cert.ReduceInReferenceIdeal.main_arg2) = m' ((c.tc : Thread Cert.ReduceInReferenceIdeal.nD Cert.ReduceInReferenceIdeal.τ).loc Cert.ReduceInReferenceIdeal.main_arg2)
          ∧ r.2.mem ((c.tc : Thread Cert.ReduceInReferenceIdeal.nD Cert.ReduceInReferenceIdeal.τ).loc Cert.ReduceInReferenceIdeal.main_arg3) = m' ((c.tc : Thread Cert.ReduceInReferenceIdeal.nD Cert.ReduceInReferenceIdeal.τ).loc Cert.ReduceInReferenceIdeal.main_arg3)
          ∧ r.2.mem ((c.tc : Thread Cert.ReduceInReferenceIdeal.nD Cert.ReduceInReferenceIdeal.τ).loc Cert.ReduceInReferenceIdeal.main_arg4) = m' ((c.tc : Thread Cert.ReduceInReferenceIdeal.nD Cert.ReduceInReferenceIdeal.τ).loc Cert.ReduceInReferenceIdeal.main_arg4)
          ∧ r.2.mem ((c.tc : Thread Cert.ReduceInReferenceIdeal.nD Cert.ReduceInReferenceIdeal.τ).loc Cert.ReduceInReferenceIdeal.main_arg5) = m' ((c.tc : Thread Cert.ReduceInReferenceIdeal.nD Cert.ReduceInReferenceIdeal.τ).loc Cert.ReduceInReferenceIdeal.main_arg5)
          ∧ r.2.mem ((c.tc : Thread Cert.ReduceInReferenceIdeal.nD Cert.ReduceInReferenceIdeal.τ).loc Cert.ReduceInReferenceIdeal.main_arg6) = m' ((c.tc : Thread Cert.ReduceInReferenceIdeal.nD Cert.ReduceInReferenceIdeal.τ).loc Cert.ReduceInReferenceIdeal.main_arg6))

def preserves_GradFirst13_GradFirst13Ideal : Prop :=
  True

def algebraic_GradFirst13Ideal_GradFirst13ReferenceIdeal [hGradFirst13Ideal : Cert.GradFirst13Ideal.Facts] [hGradFirst13ReferenceIdeal : Cert.GradFirst13ReferenceIdeal.Facts] : Prop :=
  ∀ (m : (ℓ : Loc Cert.GradFirst13Ideal.nD Cert.GradFirst13Ideal.τ Cert.GradFirst13Ideal.sig) → Buf (Elt Ideal) ℓ) (g : Dev Cert.GradFirst13Ideal.nD → PrngReg)
    (m' : (ℓ : Loc Cert.GradFirst13ReferenceIdeal.nD Cert.GradFirst13ReferenceIdeal.τ Cert.GradFirst13ReferenceIdeal.sig) → Buf (Elt Ideal) ℓ) (g' : Dev Cert.GradFirst13ReferenceIdeal.nD → PrngReg), Pre_GradFirst13Ideal m →
    (∀ c : Dev Cert.GradFirst13Ideal.nD,
      m' ((c.tc : Thread Cert.GradFirst13ReferenceIdeal.nD Cert.GradFirst13ReferenceIdeal.τ).loc Cert.GradFirst13ReferenceIdeal.main_arg0) = m ((c.tc : Thread Cert.GradFirst13Ideal.nD Cert.GradFirst13Ideal.τ).loc Cert.GradFirst13Ideal.main_arg0)
      ∧ m' ((c.tc : Thread Cert.GradFirst13ReferenceIdeal.nD Cert.GradFirst13ReferenceIdeal.τ).loc Cert.GradFirst13ReferenceIdeal.main_arg1) = m ((c.tc : Thread Cert.GradFirst13Ideal.nD Cert.GradFirst13Ideal.τ).loc Cert.GradFirst13Ideal.main_arg1)
      ∧ m' ((c.tc : Thread Cert.GradFirst13ReferenceIdeal.nD Cert.GradFirst13ReferenceIdeal.τ).loc Cert.GradFirst13ReferenceIdeal.main_arg2) = m ((c.tc : Thread Cert.GradFirst13Ideal.nD Cert.GradFirst13Ideal.τ).loc Cert.GradFirst13Ideal.main_arg2)) →
    ∃ (v0 : (c : Dev Cert.GradFirst13Ideal.nD) → Buf (Elt Ideal) ((c.tc : Thread Cert.GradFirst13Ideal.nD Cert.GradFirst13Ideal.τ).loc Cert.GradFirst13Ideal.main_v0)),
      θ_run (Cert.GradFirst13Ideal.defs (F := Ideal)) (onTc (τ := Cert.GradFirst13Ideal.τ) (Cert.GradFirst13Ideal.main (F := Ideal))) ⟨m, fun _ => 0, g⟩ (fun r => ∀ c : Dev Cert.GradFirst13Ideal.nD,
          r.2.mem ((c.tc : Thread Cert.GradFirst13Ideal.nD Cert.GradFirst13Ideal.τ).loc Cert.GradFirst13Ideal.main_v0) = v0 c
          ∧ r.2.mem ((c.tc : Thread Cert.GradFirst13Ideal.nD Cert.GradFirst13Ideal.τ).loc Cert.GradFirst13Ideal.main_arg0) = m ((c.tc : Thread Cert.GradFirst13Ideal.nD Cert.GradFirst13Ideal.τ).loc Cert.GradFirst13Ideal.main_arg0)
          ∧ r.2.mem ((c.tc : Thread Cert.GradFirst13Ideal.nD Cert.GradFirst13Ideal.τ).loc Cert.GradFirst13Ideal.main_arg1) = m ((c.tc : Thread Cert.GradFirst13Ideal.nD Cert.GradFirst13Ideal.τ).loc Cert.GradFirst13Ideal.main_arg1)
          ∧ r.2.mem ((c.tc : Thread Cert.GradFirst13Ideal.nD Cert.GradFirst13Ideal.τ).loc Cert.GradFirst13Ideal.main_arg2) = m ((c.tc : Thread Cert.GradFirst13Ideal.nD Cert.GradFirst13Ideal.τ).loc Cert.GradFirst13Ideal.main_arg2))
      ∧ θ_run (Cert.GradFirst13ReferenceIdeal.defs (F := Ideal)) (onTc (τ := Cert.GradFirst13ReferenceIdeal.τ) (Cert.GradFirst13ReferenceIdeal.main (F := Ideal))) ⟨m', fun _ => 0, g'⟩ (fun r => ∀ c : Dev Cert.GradFirst13ReferenceIdeal.nD,
          r.2.mem ((c.tc : Thread Cert.GradFirst13ReferenceIdeal.nD Cert.GradFirst13ReferenceIdeal.τ).loc Cert.GradFirst13ReferenceIdeal.main_v8) = v0 c
          ∧ r.2.mem ((c.tc : Thread Cert.GradFirst13ReferenceIdeal.nD Cert.GradFirst13ReferenceIdeal.τ).loc Cert.GradFirst13ReferenceIdeal.main_arg0) = m' ((c.tc : Thread Cert.GradFirst13ReferenceIdeal.nD Cert.GradFirst13ReferenceIdeal.τ).loc Cert.GradFirst13ReferenceIdeal.main_arg0)
          ∧ r.2.mem ((c.tc : Thread Cert.GradFirst13ReferenceIdeal.nD Cert.GradFirst13ReferenceIdeal.τ).loc Cert.GradFirst13ReferenceIdeal.main_arg1) = m' ((c.tc : Thread Cert.GradFirst13ReferenceIdeal.nD Cert.GradFirst13ReferenceIdeal.τ).loc Cert.GradFirst13ReferenceIdeal.main_arg1)
          ∧ r.2.mem ((c.tc : Thread Cert.GradFirst13ReferenceIdeal.nD Cert.GradFirst13ReferenceIdeal.τ).loc Cert.GradFirst13ReferenceIdeal.main_arg2) = m' ((c.tc : Thread Cert.GradFirst13ReferenceIdeal.nD Cert.GradFirst13ReferenceIdeal.τ).loc Cert.GradFirst13ReferenceIdeal.main_arg2))

def preserves_GradFirst2_GradFirst2Ideal : Prop :=
  True

def algebraic_GradFirst2Ideal_GradFirst2ReferenceIdeal [hGradFirst2Ideal : Cert.GradFirst2Ideal.Facts] [hGradFirst2ReferenceIdeal : Cert.GradFirst2ReferenceIdeal.Facts] : Prop :=
  ∀ (m : (ℓ : Loc Cert.GradFirst2Ideal.nD Cert.GradFirst2Ideal.τ Cert.GradFirst2Ideal.sig) → Buf (Elt Ideal) ℓ) (g : Dev Cert.GradFirst2Ideal.nD → PrngReg)
    (m' : (ℓ : Loc Cert.GradFirst2ReferenceIdeal.nD Cert.GradFirst2ReferenceIdeal.τ Cert.GradFirst2ReferenceIdeal.sig) → Buf (Elt Ideal) ℓ) (g' : Dev Cert.GradFirst2ReferenceIdeal.nD → PrngReg), Pre_GradFirst2Ideal m →
    (∀ c : Dev Cert.GradFirst2Ideal.nD,
      m' ((c.tc : Thread Cert.GradFirst2ReferenceIdeal.nD Cert.GradFirst2ReferenceIdeal.τ).loc Cert.GradFirst2ReferenceIdeal.main_arg0) = m ((c.tc : Thread Cert.GradFirst2Ideal.nD Cert.GradFirst2Ideal.τ).loc Cert.GradFirst2Ideal.main_arg0)
      ∧ m' ((c.tc : Thread Cert.GradFirst2ReferenceIdeal.nD Cert.GradFirst2ReferenceIdeal.τ).loc Cert.GradFirst2ReferenceIdeal.main_arg1) = m ((c.tc : Thread Cert.GradFirst2Ideal.nD Cert.GradFirst2Ideal.τ).loc Cert.GradFirst2Ideal.main_arg1)
      ∧ m' ((c.tc : Thread Cert.GradFirst2ReferenceIdeal.nD Cert.GradFirst2ReferenceIdeal.τ).loc Cert.GradFirst2ReferenceIdeal.main_arg2) = m ((c.tc : Thread Cert.GradFirst2Ideal.nD Cert.GradFirst2Ideal.τ).loc Cert.GradFirst2Ideal.main_arg2)) →
    ∃ (v0 : (c : Dev Cert.GradFirst2Ideal.nD) → Buf (Elt Ideal) ((c.tc : Thread Cert.GradFirst2Ideal.nD Cert.GradFirst2Ideal.τ).loc Cert.GradFirst2Ideal.main_v0)),
      θ_run (Cert.GradFirst2Ideal.defs (F := Ideal)) (onTc (τ := Cert.GradFirst2Ideal.τ) (Cert.GradFirst2Ideal.main (F := Ideal))) ⟨m, fun _ => 0, g⟩ (fun r => ∀ c : Dev Cert.GradFirst2Ideal.nD,
          r.2.mem ((c.tc : Thread Cert.GradFirst2Ideal.nD Cert.GradFirst2Ideal.τ).loc Cert.GradFirst2Ideal.main_v0) = v0 c
          ∧ r.2.mem ((c.tc : Thread Cert.GradFirst2Ideal.nD Cert.GradFirst2Ideal.τ).loc Cert.GradFirst2Ideal.main_arg0) = m ((c.tc : Thread Cert.GradFirst2Ideal.nD Cert.GradFirst2Ideal.τ).loc Cert.GradFirst2Ideal.main_arg0)
          ∧ r.2.mem ((c.tc : Thread Cert.GradFirst2Ideal.nD Cert.GradFirst2Ideal.τ).loc Cert.GradFirst2Ideal.main_arg1) = m ((c.tc : Thread Cert.GradFirst2Ideal.nD Cert.GradFirst2Ideal.τ).loc Cert.GradFirst2Ideal.main_arg1)
          ∧ r.2.mem ((c.tc : Thread Cert.GradFirst2Ideal.nD Cert.GradFirst2Ideal.τ).loc Cert.GradFirst2Ideal.main_arg2) = m ((c.tc : Thread Cert.GradFirst2Ideal.nD Cert.GradFirst2Ideal.τ).loc Cert.GradFirst2Ideal.main_arg2))
      ∧ θ_run (Cert.GradFirst2ReferenceIdeal.defs (F := Ideal)) (onTc (τ := Cert.GradFirst2ReferenceIdeal.τ) (Cert.GradFirst2ReferenceIdeal.main (F := Ideal))) ⟨m', fun _ => 0, g'⟩ (fun r => ∀ c : Dev Cert.GradFirst2ReferenceIdeal.nD,
          r.2.mem ((c.tc : Thread Cert.GradFirst2ReferenceIdeal.nD Cert.GradFirst2ReferenceIdeal.τ).loc Cert.GradFirst2ReferenceIdeal.main_v10) = v0 c
          ∧ r.2.mem ((c.tc : Thread Cert.GradFirst2ReferenceIdeal.nD Cert.GradFirst2ReferenceIdeal.τ).loc Cert.GradFirst2ReferenceIdeal.main_arg0) = m' ((c.tc : Thread Cert.GradFirst2ReferenceIdeal.nD Cert.GradFirst2ReferenceIdeal.τ).loc Cert.GradFirst2ReferenceIdeal.main_arg0)
          ∧ r.2.mem ((c.tc : Thread Cert.GradFirst2ReferenceIdeal.nD Cert.GradFirst2ReferenceIdeal.τ).loc Cert.GradFirst2ReferenceIdeal.main_arg1) = m' ((c.tc : Thread Cert.GradFirst2ReferenceIdeal.nD Cert.GradFirst2ReferenceIdeal.τ).loc Cert.GradFirst2ReferenceIdeal.main_arg1)
          ∧ r.2.mem ((c.tc : Thread Cert.GradFirst2ReferenceIdeal.nD Cert.GradFirst2ReferenceIdeal.τ).loc Cert.GradFirst2ReferenceIdeal.main_arg2) = m' ((c.tc : Thread Cert.GradFirst2ReferenceIdeal.nD Cert.GradFirst2ReferenceIdeal.τ).loc Cert.GradFirst2ReferenceIdeal.main_arg2))

def preserves_GradMixIn_GradMixInIdeal : Prop :=
  True

def algebraic_GradMixInIdeal_GradMixInReferenceIdeal [hGradMixInIdeal : Cert.GradMixInIdeal.Facts] [hGradMixInReferenceIdeal : Cert.GradMixInReferenceIdeal.Facts] : Prop :=
  ∀ (m : (ℓ : Loc Cert.GradMixInIdeal.nD Cert.GradMixInIdeal.τ Cert.GradMixInIdeal.sig) → Buf (Elt Ideal) ℓ) (g : Dev Cert.GradMixInIdeal.nD → PrngReg)
    (m' : (ℓ : Loc Cert.GradMixInReferenceIdeal.nD Cert.GradMixInReferenceIdeal.τ Cert.GradMixInReferenceIdeal.sig) → Buf (Elt Ideal) ℓ) (g' : Dev Cert.GradMixInReferenceIdeal.nD → PrngReg), Pre_GradMixInIdeal m →
    (∀ c : Dev Cert.GradMixInIdeal.nD,
      m' ((c.tc : Thread Cert.GradMixInReferenceIdeal.nD Cert.GradMixInReferenceIdeal.τ).loc Cert.GradMixInReferenceIdeal.main_arg0) = m ((c.tc : Thread Cert.GradMixInIdeal.nD Cert.GradMixInIdeal.τ).loc Cert.GradMixInIdeal.main_arg0)
      ∧ m' ((c.tc : Thread Cert.GradMixInReferenceIdeal.nD Cert.GradMixInReferenceIdeal.τ).loc Cert.GradMixInReferenceIdeal.main_arg1) = m ((c.tc : Thread Cert.GradMixInIdeal.nD Cert.GradMixInIdeal.τ).loc Cert.GradMixInIdeal.main_arg1)
      ∧ m' ((c.tc : Thread Cert.GradMixInReferenceIdeal.nD Cert.GradMixInReferenceIdeal.τ).loc Cert.GradMixInReferenceIdeal.main_arg2) = m ((c.tc : Thread Cert.GradMixInIdeal.nD Cert.GradMixInIdeal.τ).loc Cert.GradMixInIdeal.main_arg2)) →
    ∃ (v0 : (c : Dev Cert.GradMixInIdeal.nD) → Buf (Elt Ideal) ((c.tc : Thread Cert.GradMixInIdeal.nD Cert.GradMixInIdeal.τ).loc Cert.GradMixInIdeal.main_v0)),
      θ_run (Cert.GradMixInIdeal.defs (F := Ideal)) (onTc (τ := Cert.GradMixInIdeal.τ) (Cert.GradMixInIdeal.main (F := Ideal))) ⟨m, fun _ => 0, g⟩ (fun r => ∀ c : Dev Cert.GradMixInIdeal.nD,
          r.2.mem ((c.tc : Thread Cert.GradMixInIdeal.nD Cert.GradMixInIdeal.τ).loc Cert.GradMixInIdeal.main_v0) = v0 c
          ∧ r.2.mem ((c.tc : Thread Cert.GradMixInIdeal.nD Cert.GradMixInIdeal.τ).loc Cert.GradMixInIdeal.main_arg0) = m ((c.tc : Thread Cert.GradMixInIdeal.nD Cert.GradMixInIdeal.τ).loc Cert.GradMixInIdeal.main_arg0)
          ∧ r.2.mem ((c.tc : Thread Cert.GradMixInIdeal.nD Cert.GradMixInIdeal.τ).loc Cert.GradMixInIdeal.main_arg1) = m ((c.tc : Thread Cert.GradMixInIdeal.nD Cert.GradMixInIdeal.τ).loc Cert.GradMixInIdeal.main_arg1)
          ∧ r.2.mem ((c.tc : Thread Cert.GradMixInIdeal.nD Cert.GradMixInIdeal.τ).loc Cert.GradMixInIdeal.main_arg2) = m ((c.tc : Thread Cert.GradMixInIdeal.nD Cert.GradMixInIdeal.τ).loc Cert.GradMixInIdeal.main_arg2))
      ∧ θ_run (Cert.GradMixInReferenceIdeal.defs (F := Ideal)) (onTc (τ := Cert.GradMixInReferenceIdeal.τ) (Cert.GradMixInReferenceIdeal.main (F := Ideal))) ⟨m', fun _ => 0, g'⟩ (fun r => ∀ c : Dev Cert.GradMixInReferenceIdeal.nD,
          r.2.mem ((c.tc : Thread Cert.GradMixInReferenceIdeal.nD Cert.GradMixInReferenceIdeal.τ).loc Cert.GradMixInReferenceIdeal.main_v10) = v0 c
          ∧ r.2.mem ((c.tc : Thread Cert.GradMixInReferenceIdeal.nD Cert.GradMixInReferenceIdeal.τ).loc Cert.GradMixInReferenceIdeal.main_arg0) = m' ((c.tc : Thread Cert.GradMixInReferenceIdeal.nD Cert.GradMixInReferenceIdeal.τ).loc Cert.GradMixInReferenceIdeal.main_arg0)
          ∧ r.2.mem ((c.tc : Thread Cert.GradMixInReferenceIdeal.nD Cert.GradMixInReferenceIdeal.τ).loc Cert.GradMixInReferenceIdeal.main_arg1) = m' ((c.tc : Thread Cert.GradMixInReferenceIdeal.nD Cert.GradMixInReferenceIdeal.τ).loc Cert.GradMixInReferenceIdeal.main_arg1)
          ∧ r.2.mem ((c.tc : Thread Cert.GradMixInReferenceIdeal.nD Cert.GradMixInReferenceIdeal.τ).loc Cert.GradMixInReferenceIdeal.main_arg2) = m' ((c.tc : Thread Cert.GradMixInReferenceIdeal.nD Cert.GradMixInReferenceIdeal.τ).loc Cert.GradMixInReferenceIdeal.main_arg2))

def preserves_GradMixOut_GradMixOutIdeal : Prop :=
  True

def algebraic_GradMixOutIdeal_GradMixOutReferenceIdeal [hGradMixOutIdeal : Cert.GradMixOutIdeal.Facts] [hGradMixOutReferenceIdeal : Cert.GradMixOutReferenceIdeal.Facts] : Prop :=
  ∀ (m : (ℓ : Loc Cert.GradMixOutIdeal.nD Cert.GradMixOutIdeal.τ Cert.GradMixOutIdeal.sig) → Buf (Elt Ideal) ℓ) (g : Dev Cert.GradMixOutIdeal.nD → PrngReg)
    (m' : (ℓ : Loc Cert.GradMixOutReferenceIdeal.nD Cert.GradMixOutReferenceIdeal.τ Cert.GradMixOutReferenceIdeal.sig) → Buf (Elt Ideal) ℓ) (g' : Dev Cert.GradMixOutReferenceIdeal.nD → PrngReg), Pre_GradMixOutIdeal m →
    (∀ c : Dev Cert.GradMixOutIdeal.nD,
      m' ((c.tc : Thread Cert.GradMixOutReferenceIdeal.nD Cert.GradMixOutReferenceIdeal.τ).loc Cert.GradMixOutReferenceIdeal.main_arg0) = m ((c.tc : Thread Cert.GradMixOutIdeal.nD Cert.GradMixOutIdeal.τ).loc Cert.GradMixOutIdeal.main_arg0)
      ∧ m' ((c.tc : Thread Cert.GradMixOutReferenceIdeal.nD Cert.GradMixOutReferenceIdeal.τ).loc Cert.GradMixOutReferenceIdeal.main_arg1) = m ((c.tc : Thread Cert.GradMixOutIdeal.nD Cert.GradMixOutIdeal.τ).loc Cert.GradMixOutIdeal.main_arg1)
      ∧ m' ((c.tc : Thread Cert.GradMixOutReferenceIdeal.nD Cert.GradMixOutReferenceIdeal.τ).loc Cert.GradMixOutReferenceIdeal.main_arg2) = m ((c.tc : Thread Cert.GradMixOutIdeal.nD Cert.GradMixOutIdeal.τ).loc Cert.GradMixOutIdeal.main_arg2)) →
    ∃ (v0 : (c : Dev Cert.GradMixOutIdeal.nD) → Buf (Elt Ideal) ((c.tc : Thread Cert.GradMixOutIdeal.nD Cert.GradMixOutIdeal.τ).loc Cert.GradMixOutIdeal.main_v0)),
      θ_run (Cert.GradMixOutIdeal.defs (F := Ideal)) (onTc (τ := Cert.GradMixOutIdeal.τ) (Cert.GradMixOutIdeal.main (F := Ideal))) ⟨m, fun _ => 0, g⟩ (fun r => ∀ c : Dev Cert.GradMixOutIdeal.nD,
          r.2.mem ((c.tc : Thread Cert.GradMixOutIdeal.nD Cert.GradMixOutIdeal.τ).loc Cert.GradMixOutIdeal.main_v0) = v0 c
          ∧ r.2.mem ((c.tc : Thread Cert.GradMixOutIdeal.nD Cert.GradMixOutIdeal.τ).loc Cert.GradMixOutIdeal.main_arg0) = m ((c.tc : Thread Cert.GradMixOutIdeal.nD Cert.GradMixOutIdeal.τ).loc Cert.GradMixOutIdeal.main_arg0)
          ∧ r.2.mem ((c.tc : Thread Cert.GradMixOutIdeal.nD Cert.GradMixOutIdeal.τ).loc Cert.GradMixOutIdeal.main_arg1) = m ((c.tc : Thread Cert.GradMixOutIdeal.nD Cert.GradMixOutIdeal.τ).loc Cert.GradMixOutIdeal.main_arg1)
          ∧ r.2.mem ((c.tc : Thread Cert.GradMixOutIdeal.nD Cert.GradMixOutIdeal.τ).loc Cert.GradMixOutIdeal.main_arg2) = m ((c.tc : Thread Cert.GradMixOutIdeal.nD Cert.GradMixOutIdeal.τ).loc Cert.GradMixOutIdeal.main_arg2))
      ∧ θ_run (Cert.GradMixOutReferenceIdeal.defs (F := Ideal)) (onTc (τ := Cert.GradMixOutReferenceIdeal.τ) (Cert.GradMixOutReferenceIdeal.main (F := Ideal))) ⟨m', fun _ => 0, g'⟩ (fun r => ∀ c : Dev Cert.GradMixOutReferenceIdeal.nD,
          r.2.mem ((c.tc : Thread Cert.GradMixOutReferenceIdeal.nD Cert.GradMixOutReferenceIdeal.τ).loc Cert.GradMixOutReferenceIdeal.main_v8) = v0 c
          ∧ r.2.mem ((c.tc : Thread Cert.GradMixOutReferenceIdeal.nD Cert.GradMixOutReferenceIdeal.τ).loc Cert.GradMixOutReferenceIdeal.main_arg0) = m' ((c.tc : Thread Cert.GradMixOutReferenceIdeal.nD Cert.GradMixOutReferenceIdeal.τ).loc Cert.GradMixOutReferenceIdeal.main_arg0)
          ∧ r.2.mem ((c.tc : Thread Cert.GradMixOutReferenceIdeal.nD Cert.GradMixOutReferenceIdeal.τ).loc Cert.GradMixOutReferenceIdeal.main_arg1) = m' ((c.tc : Thread Cert.GradMixOutReferenceIdeal.nD Cert.GradMixOutReferenceIdeal.τ).loc Cert.GradMixOutReferenceIdeal.main_arg1)
          ∧ r.2.mem ((c.tc : Thread Cert.GradMixOutReferenceIdeal.nD Cert.GradMixOutReferenceIdeal.τ).loc Cert.GradMixOutReferenceIdeal.main_arg2) = m' ((c.tc : Thread Cert.GradMixOutReferenceIdeal.nD Cert.GradMixOutReferenceIdeal.τ).loc Cert.GradMixOutReferenceIdeal.main_arg2))

def preserves_GradFirstIn_GradFirstInIdeal : Prop :=
  True

def algebraic_GradFirstInIdeal_GradFirstInReferenceIdeal [hGradFirstInIdeal : Cert.GradFirstInIdeal.Facts] [hGradFirstInReferenceIdeal : Cert.GradFirstInReferenceIdeal.Facts] : Prop :=
  ∀ (m : (ℓ : Loc Cert.GradFirstInIdeal.nD Cert.GradFirstInIdeal.τ Cert.GradFirstInIdeal.sig) → Buf (Elt Ideal) ℓ) (g : Dev Cert.GradFirstInIdeal.nD → PrngReg)
    (m' : (ℓ : Loc Cert.GradFirstInReferenceIdeal.nD Cert.GradFirstInReferenceIdeal.τ Cert.GradFirstInReferenceIdeal.sig) → Buf (Elt Ideal) ℓ) (g' : Dev Cert.GradFirstInReferenceIdeal.nD → PrngReg), Pre_GradFirstInIdeal m →
    (∀ c : Dev Cert.GradFirstInIdeal.nD,
      m' ((c.tc : Thread Cert.GradFirstInReferenceIdeal.nD Cert.GradFirstInReferenceIdeal.τ).loc Cert.GradFirstInReferenceIdeal.main_arg0) = m ((c.tc : Thread Cert.GradFirstInIdeal.nD Cert.GradFirstInIdeal.τ).loc Cert.GradFirstInIdeal.main_arg0)
      ∧ m' ((c.tc : Thread Cert.GradFirstInReferenceIdeal.nD Cert.GradFirstInReferenceIdeal.τ).loc Cert.GradFirstInReferenceIdeal.main_arg1) = m ((c.tc : Thread Cert.GradFirstInIdeal.nD Cert.GradFirstInIdeal.τ).loc Cert.GradFirstInIdeal.main_arg1)
      ∧ m' ((c.tc : Thread Cert.GradFirstInReferenceIdeal.nD Cert.GradFirstInReferenceIdeal.τ).loc Cert.GradFirstInReferenceIdeal.main_arg2) = m ((c.tc : Thread Cert.GradFirstInIdeal.nD Cert.GradFirstInIdeal.τ).loc Cert.GradFirstInIdeal.main_arg2)) →
    ∃ (v0 : (c : Dev Cert.GradFirstInIdeal.nD) → Buf (Elt Ideal) ((c.tc : Thread Cert.GradFirstInIdeal.nD Cert.GradFirstInIdeal.τ).loc Cert.GradFirstInIdeal.main_v0)),
      θ_run (Cert.GradFirstInIdeal.defs (F := Ideal)) (onTc (τ := Cert.GradFirstInIdeal.τ) (Cert.GradFirstInIdeal.main (F := Ideal))) ⟨m, fun _ => 0, g⟩ (fun r => ∀ c : Dev Cert.GradFirstInIdeal.nD,
          r.2.mem ((c.tc : Thread Cert.GradFirstInIdeal.nD Cert.GradFirstInIdeal.τ).loc Cert.GradFirstInIdeal.main_v0) = v0 c
          ∧ r.2.mem ((c.tc : Thread Cert.GradFirstInIdeal.nD Cert.GradFirstInIdeal.τ).loc Cert.GradFirstInIdeal.main_arg0) = m ((c.tc : Thread Cert.GradFirstInIdeal.nD Cert.GradFirstInIdeal.τ).loc Cert.GradFirstInIdeal.main_arg0)
          ∧ r.2.mem ((c.tc : Thread Cert.GradFirstInIdeal.nD Cert.GradFirstInIdeal.τ).loc Cert.GradFirstInIdeal.main_arg1) = m ((c.tc : Thread Cert.GradFirstInIdeal.nD Cert.GradFirstInIdeal.τ).loc Cert.GradFirstInIdeal.main_arg1)
          ∧ r.2.mem ((c.tc : Thread Cert.GradFirstInIdeal.nD Cert.GradFirstInIdeal.τ).loc Cert.GradFirstInIdeal.main_arg2) = m ((c.tc : Thread Cert.GradFirstInIdeal.nD Cert.GradFirstInIdeal.τ).loc Cert.GradFirstInIdeal.main_arg2))
      ∧ θ_run (Cert.GradFirstInReferenceIdeal.defs (F := Ideal)) (onTc (τ := Cert.GradFirstInReferenceIdeal.τ) (Cert.GradFirstInReferenceIdeal.main (F := Ideal))) ⟨m', fun _ => 0, g'⟩ (fun r => ∀ c : Dev Cert.GradFirstInReferenceIdeal.nD,
          r.2.mem ((c.tc : Thread Cert.GradFirstInReferenceIdeal.nD Cert.GradFirstInReferenceIdeal.τ).loc Cert.GradFirstInReferenceIdeal.main_v8) = v0 c
          ∧ r.2.mem ((c.tc : Thread Cert.GradFirstInReferenceIdeal.nD Cert.GradFirstInReferenceIdeal.τ).loc Cert.GradFirstInReferenceIdeal.main_arg0) = m' ((c.tc : Thread Cert.GradFirstInReferenceIdeal.nD Cert.GradFirstInReferenceIdeal.τ).loc Cert.GradFirstInReferenceIdeal.main_arg0)
          ∧ r.2.mem ((c.tc : Thread Cert.GradFirstInReferenceIdeal.nD Cert.GradFirstInReferenceIdeal.τ).loc Cert.GradFirstInReferenceIdeal.main_arg1) = m' ((c.tc : Thread Cert.GradFirstInReferenceIdeal.nD Cert.GradFirstInReferenceIdeal.τ).loc Cert.GradFirstInReferenceIdeal.main_arg1)
          ∧ r.2.mem ((c.tc : Thread Cert.GradFirstInReferenceIdeal.nD Cert.GradFirstInReferenceIdeal.τ).loc Cert.GradFirstInReferenceIdeal.main_arg2) = m' ((c.tc : Thread Cert.GradFirstInReferenceIdeal.nD Cert.GradFirstInReferenceIdeal.τ).loc Cert.GradFirstInReferenceIdeal.main_arg2))

def preserves_GradFirstOut_GradFirstOutIdeal : Prop :=
  True

def algebraic_GradFirstOutIdeal_GradFirstOutReferenceIdeal [hGradFirstOutIdeal : Cert.GradFirstOutIdeal.Facts] [hGradFirstOutReferenceIdeal : Cert.GradFirstOutReferenceIdeal.Facts] : Prop :=
  ∀ (m : (ℓ : Loc Cert.GradFirstOutIdeal.nD Cert.GradFirstOutIdeal.τ Cert.GradFirstOutIdeal.sig) → Buf (Elt Ideal) ℓ) (g : Dev Cert.GradFirstOutIdeal.nD → PrngReg)
    (m' : (ℓ : Loc Cert.GradFirstOutReferenceIdeal.nD Cert.GradFirstOutReferenceIdeal.τ Cert.GradFirstOutReferenceIdeal.sig) → Buf (Elt Ideal) ℓ) (g' : Dev Cert.GradFirstOutReferenceIdeal.nD → PrngReg), Pre_GradFirstOutIdeal m →
    (∀ c : Dev Cert.GradFirstOutIdeal.nD,
      m' ((c.tc : Thread Cert.GradFirstOutReferenceIdeal.nD Cert.GradFirstOutReferenceIdeal.τ).loc Cert.GradFirstOutReferenceIdeal.main_arg0) = m ((c.tc : Thread Cert.GradFirstOutIdeal.nD Cert.GradFirstOutIdeal.τ).loc Cert.GradFirstOutIdeal.main_arg0)
      ∧ m' ((c.tc : Thread Cert.GradFirstOutReferenceIdeal.nD Cert.GradFirstOutReferenceIdeal.τ).loc Cert.GradFirstOutReferenceIdeal.main_arg1) = m ((c.tc : Thread Cert.GradFirstOutIdeal.nD Cert.GradFirstOutIdeal.τ).loc Cert.GradFirstOutIdeal.main_arg1)
      ∧ m' ((c.tc : Thread Cert.GradFirstOutReferenceIdeal.nD Cert.GradFirstOutReferenceIdeal.τ).loc Cert.GradFirstOutReferenceIdeal.main_arg2) = m ((c.tc : Thread Cert.GradFirstOutIdeal.nD Cert.GradFirstOutIdeal.τ).loc Cert.GradFirstOutIdeal.main_arg2)) →
    ∃ (v0 : (c : Dev Cert.GradFirstOutIdeal.nD) → Buf (Elt Ideal) ((c.tc : Thread Cert.GradFirstOutIdeal.nD Cert.GradFirstOutIdeal.τ).loc Cert.GradFirstOutIdeal.main_v0)),
      θ_run (Cert.GradFirstOutIdeal.defs (F := Ideal)) (onTc (τ := Cert.GradFirstOutIdeal.τ) (Cert.GradFirstOutIdeal.main (F := Ideal))) ⟨m, fun _ => 0, g⟩ (fun r => ∀ c : Dev Cert.GradFirstOutIdeal.nD,
          r.2.mem ((c.tc : Thread Cert.GradFirstOutIdeal.nD Cert.GradFirstOutIdeal.τ).loc Cert.GradFirstOutIdeal.main_v0) = v0 c
          ∧ r.2.mem ((c.tc : Thread Cert.GradFirstOutIdeal.nD Cert.GradFirstOutIdeal.τ).loc Cert.GradFirstOutIdeal.main_arg0) = m ((c.tc : Thread Cert.GradFirstOutIdeal.nD Cert.GradFirstOutIdeal.τ).loc Cert.GradFirstOutIdeal.main_arg0)
          ∧ r.2.mem ((c.tc : Thread Cert.GradFirstOutIdeal.nD Cert.GradFirstOutIdeal.τ).loc Cert.GradFirstOutIdeal.main_arg1) = m ((c.tc : Thread Cert.GradFirstOutIdeal.nD Cert.GradFirstOutIdeal.τ).loc Cert.GradFirstOutIdeal.main_arg1)
          ∧ r.2.mem ((c.tc : Thread Cert.GradFirstOutIdeal.nD Cert.GradFirstOutIdeal.τ).loc Cert.GradFirstOutIdeal.main_arg2) = m ((c.tc : Thread Cert.GradFirstOutIdeal.nD Cert.GradFirstOutIdeal.τ).loc Cert.GradFirstOutIdeal.main_arg2))
      ∧ θ_run (Cert.GradFirstOutReferenceIdeal.defs (F := Ideal)) (onTc (τ := Cert.GradFirstOutReferenceIdeal.τ) (Cert.GradFirstOutReferenceIdeal.main (F := Ideal))) ⟨m', fun _ => 0, g'⟩ (fun r => ∀ c : Dev Cert.GradFirstOutReferenceIdeal.nD,
          r.2.mem ((c.tc : Thread Cert.GradFirstOutReferenceIdeal.nD Cert.GradFirstOutReferenceIdeal.τ).loc Cert.GradFirstOutReferenceIdeal.main_v6) = v0 c
          ∧ r.2.mem ((c.tc : Thread Cert.GradFirstOutReferenceIdeal.nD Cert.GradFirstOutReferenceIdeal.τ).loc Cert.GradFirstOutReferenceIdeal.main_arg0) = m' ((c.tc : Thread Cert.GradFirstOutReferenceIdeal.nD Cert.GradFirstOutReferenceIdeal.τ).loc Cert.GradFirstOutReferenceIdeal.main_arg0)
          ∧ r.2.mem ((c.tc : Thread Cert.GradFirstOutReferenceIdeal.nD Cert.GradFirstOutReferenceIdeal.τ).loc Cert.GradFirstOutReferenceIdeal.main_arg1) = m' ((c.tc : Thread Cert.GradFirstOutReferenceIdeal.nD Cert.GradFirstOutReferenceIdeal.τ).loc Cert.GradFirstOutReferenceIdeal.main_arg1)
          ∧ r.2.mem ((c.tc : Thread Cert.GradFirstOutReferenceIdeal.nD Cert.GradFirstOutReferenceIdeal.τ).loc Cert.GradFirstOutReferenceIdeal.main_arg2) = m' ((c.tc : Thread Cert.GradFirstOutReferenceIdeal.nD Cert.GradFirstOutReferenceIdeal.τ).loc Cert.GradFirstOutReferenceIdeal.main_arg2))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v1) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0))

def preserves_Head_HeadIdeal : Prop :=
  True

def algebraic_HeadIdeal_HeadReferenceIdeal_pre_finite_head [hHeadIdeal : Cert.HeadIdeal.Facts] [hHeadReferenceIdeal : Cert.HeadReferenceIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_finite_head m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)
      ∧ m' ((c.tc : Thread Cert.HeadReferenceIdeal.nD Cert.HeadReferenceIdeal.τ).loc Cert.HeadReferenceIdeal.main_arg5) = m ((c.tc : Thread Cert.HeadIdeal.nD Cert.HeadIdeal.τ).loc Cert.HeadIdeal.main_arg5)
      ∧ m' ((c.tc : Thread Cert.HeadReferenceIdeal.nD Cert.HeadReferenceIdeal.τ).loc Cert.HeadReferenceIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v9_0)) (v1 : (c : Dev Cert.HeadIdeal.nD) → Buf (Elt Ideal) ((c.tc : Thread Cert.HeadIdeal.nD Cert.HeadIdeal.τ).loc Cert.HeadIdeal.main_v9_1)) (v2 : (c : Dev Cert.HeadIdeal.nD) → Buf (Elt Ideal) ((c.tc : Thread Cert.HeadIdeal.nD Cert.HeadIdeal.τ).loc Cert.HeadIdeal.main_v9_2)) (v3 : (c : Dev Cert.HeadIdeal.nD) → Buf (Elt Ideal) ((c.tc : Thread Cert.HeadIdeal.nD Cert.HeadIdeal.τ).loc Cert.HeadIdeal.main_v9_3)) (v4 : (c : Dev Cert.HeadIdeal.nD) → Buf (Elt Ideal) ((c.tc : Thread Cert.HeadIdeal.nD Cert.HeadIdeal.τ).loc Cert.HeadIdeal.main_v9_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v9_0) = v0 c
          ∧ r.2.mem ((c.tc : Thread Cert.HeadIdeal.nD Cert.HeadIdeal.τ).loc Cert.HeadIdeal.main_v9_1) = v1 c
          ∧ r.2.mem ((c.tc : Thread Cert.HeadIdeal.nD Cert.HeadIdeal.τ).loc Cert.HeadIdeal.main_v9_2) = v2 c
          ∧ r.2.mem ((c.tc : Thread Cert.HeadIdeal.nD Cert.HeadIdeal.τ).loc Cert.HeadIdeal.main_v9_3) = v3 c
          ∧ r.2.mem ((c.tc : Thread Cert.HeadIdeal.nD Cert.HeadIdeal.τ).loc Cert.HeadIdeal.main_v9_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v71) = v0 c
          ∧ r.2.mem ((c.tc : Thread Cert.HeadReferenceIdeal.nD Cert.HeadReferenceIdeal.τ).loc Cert.HeadReferenceIdeal.main_v72) = v1 c
          ∧ r.2.mem ((c.tc : Thread Cert.HeadReferenceIdeal.nD Cert.HeadReferenceIdeal.τ).loc Cert.HeadReferenceIdeal.main_v73) = v2 c
          ∧ r.2.mem ((c.tc : Thread Cert.HeadReferenceIdeal.nD Cert.HeadReferenceIdeal.τ).loc Cert.HeadReferenceIdeal.main_v74) = v3 c
          ∧ r.2.mem ((c.tc : Thread Cert.HeadReferenceIdeal.nD Cert.HeadReferenceIdeal.τ).loc Cert.HeadReferenceIdeal.main_v76) = v4 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4)
          ∧ r.2.mem ((c.tc : Thread Cert.HeadReferenceIdeal.nD Cert.HeadReferenceIdeal.τ).loc Cert.HeadReferenceIdeal.main_arg5) = m' ((c.tc : Thread Cert.HeadReferenceIdeal.nD Cert.HeadReferenceIdeal.τ).loc Cert.HeadReferenceIdeal.main_arg5)
          ∧ r.2.mem ((c.tc : Thread Cert.HeadReferenceIdeal.nD Cert.HeadReferenceIdeal.τ).loc Cert.HeadReferenceIdeal.main_arg6) = m' ((c.tc : Thread Cert.HeadReferenceIdeal.nD Cert.HeadReferenceIdeal.τ).loc Cert.HeadReferenceIdeal.main_arg6))

def Claim : Prop :=
  ∃ (hKernel : Cert.Kernel.Facts) (hKernelIdeal : Cert.KernelIdeal.Facts) (hReferenceIdeal : Cert.ReferenceIdeal.Facts) (hWgrad1 : Cert.Wgrad1.Facts) (hWgrad1Ideal : Cert.Wgrad1Ideal.Facts) (hWgrad1ReferenceIdeal : Cert.Wgrad1ReferenceIdeal.Facts) (hWgrad3 : Cert.Wgrad3.Facts) (hWgrad3Ideal : Cert.Wgrad3Ideal.Facts) (hWgrad3ReferenceIdeal : Cert.Wgrad3ReferenceIdeal.Facts) (hWgrad2 : Cert.Wgrad2.Facts) (hWgrad2Ideal : Cert.Wgrad2Ideal.Facts) (hWgrad2ReferenceIdeal : Cert.Wgrad2ReferenceIdeal.Facts) (hForward : Cert.Forward.Facts) (hForwardIdeal : Cert.ForwardIdeal.Facts) (hForwardReferenceIdeal : Cert.ForwardReferenceIdeal.Facts) (hAdamNorm : Cert.AdamNorm.Facts) (hAdamNormIdeal : Cert.AdamNormIdeal.Facts) (hAdamNormReferenceIdeal : Cert.AdamNormReferenceIdeal.Facts) (hAdamChan : Cert.AdamChan.Facts) (hAdamChanIdeal : Cert.AdamChanIdeal.Facts) (hAdamChanReferenceIdeal : Cert.AdamChanReferenceIdeal.Facts) (hAdamLast : Cert.AdamLast.Facts) (hAdamLastIdeal : Cert.AdamLastIdeal.Facts) (hAdamLastReferenceIdeal : Cert.AdamLastReferenceIdeal.Facts) (hAdamConv : Cert.AdamConv.Facts) (hAdamConvIdeal : Cert.AdamConvIdeal.Facts) (hAdamConvReferenceIdeal : Cert.AdamConvReferenceIdeal.Facts) (hAdamShort : Cert.AdamShort.Facts) (hAdamShortIdeal : Cert.AdamShortIdeal.Facts) (hAdamShortReferenceIdeal : Cert.AdamShortReferenceIdeal.Facts) (hAdamPool : Cert.AdamPool.Facts) (hAdamPoolIdeal : Cert.AdamPoolIdeal.Facts) (hAdamPoolReferenceIdeal : Cert.AdamPoolReferenceIdeal.Facts) (hAdamMix : Cert.AdamMix.Facts) (hAdamMixIdeal : Cert.AdamMixIdeal.Facts) (hAdamMixReferenceIdeal : Cert.AdamMixReferenceIdeal.Facts) (hAdamBias : Cert.AdamBias.Facts) (hAdamBiasIdeal : Cert.AdamBiasIdeal.Facts) (hAdamBiasReferenceIdeal : Cert.AdamBiasReferenceIdeal.Facts) (hSumLate : Cert.SumLate.Facts) (hSumLateIdeal : Cert.SumLateIdeal.Facts) (hSumLateReferenceIdeal : Cert.SumLateReferenceIdeal.Facts) (hSumEarly : Cert.SumEarly.Facts) (hSumEarlyIdeal : Cert.SumEarlyIdeal.Facts) (hSumEarlyReferenceIdeal : Cert.SumEarlyReferenceIdeal.Facts) (hReduceF1W1 : Cert.ReduceF1W1.Facts) (hReduceF1W1Ideal : Cert.ReduceF1W1Ideal.Facts) (hReduceF1W1ReferenceIdeal : Cert.ReduceF1W1ReferenceIdeal.Facts) (hReduceF1W3 : Cert.ReduceF1W3.Facts) (hReduceF1W3Ideal : Cert.ReduceF1W3Ideal.Facts) (hReduceF1W3ReferenceIdeal : Cert.ReduceF1W3ReferenceIdeal.Facts) (hReduceF1W2 : Cert.ReduceF1W2.Facts) (hReduceF1W2Ideal : Cert.ReduceF1W2Ideal.Facts) (hReduceF1W2ReferenceIdeal : Cert.ReduceF1W2ReferenceIdeal.Facts) (hReduceF2W1 : Cert.ReduceF2W1.Facts) (hReduceF2W1Ideal : Cert.ReduceF2W1Ideal.Facts) (hReduceF2W1ReferenceIdeal : Cert.ReduceF2W1ReferenceIdeal.Facts) (hReduceF2W3 : Cert.ReduceF2W3.Facts) (hReduceF2W3Ideal : Cert.ReduceF2W3Ideal.Facts) (hReduceF2W3ReferenceIdeal : Cert.ReduceF2W3ReferenceIdeal.Facts) (hReduceF2W2 : Cert.ReduceF2W2.Facts) (hReduceF2W2Ideal : Cert.ReduceF2W2Ideal.Facts) (hReduceF2W2ReferenceIdeal : Cert.ReduceF2W2ReferenceIdeal.Facts) (hReduceOut : Cert.ReduceOut.Facts) (hReduceOutIdeal : Cert.ReduceOutIdeal.Facts) (hReduceOutReferenceIdeal : Cert.ReduceOutReferenceIdeal.Facts) (hReduceIn : Cert.ReduceIn.Facts) (hReduceInIdeal : Cert.ReduceInIdeal.Facts) (hReduceInReferenceIdeal : Cert.ReduceInReferenceIdeal.Facts) (hGradFirst13 : Cert.GradFirst13.Facts) (hGradFirst13Ideal : Cert.GradFirst13Ideal.Facts) (hGradFirst13ReferenceIdeal : Cert.GradFirst13ReferenceIdeal.Facts) (hGradFirst2 : Cert.GradFirst2.Facts) (hGradFirst2Ideal : Cert.GradFirst2Ideal.Facts) (hGradFirst2ReferenceIdeal : Cert.GradFirst2ReferenceIdeal.Facts) (hGradMixIn : Cert.GradMixIn.Facts) (hGradMixInIdeal : Cert.GradMixInIdeal.Facts) (hGradMixInReferenceIdeal : Cert.GradMixInReferenceIdeal.Facts) (hGradMixOut : Cert.GradMixOut.Facts) (hGradMixOutIdeal : Cert.GradMixOutIdeal.Facts) (hGradMixOutReferenceIdeal : Cert.GradMixOutReferenceIdeal.Facts) (hGradFirstIn : Cert.GradFirstIn.Facts) (hGradFirstInIdeal : Cert.GradFirstInIdeal.Facts) (hGradFirstInReferenceIdeal : Cert.GradFirstInReferenceIdeal.Facts) (hGradFirstOut : Cert.GradFirstOut.Facts) (hGradFirstOutIdeal : Cert.GradFirstOutIdeal.Facts) (hGradFirstOutReferenceIdeal : Cert.GradFirstOutReferenceIdeal.Facts) (hPack : Cert.Pack.Facts) (hPackIdeal : Cert.PackIdeal.Facts) (hPackReferenceIdeal : Cert.PackReferenceIdeal.Facts) (hHead : Cert.Head.Facts) (hHeadIdeal : Cert.HeadIdeal.Facts) (hHeadReferenceIdeal : Cert.HeadReferenceIdeal.Facts) (hPre_finite : Cert.Pre_finite.Facts) (hPre_finite_head : Cert.Pre_finite_head.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wgrad1 (hWgrad1 := hWgrad1)
    ∧ quiescent_Wgrad1Ideal (hWgrad1Ideal := hWgrad1Ideal)
    ∧ quiescent_Wgrad1ReferenceIdeal (hWgrad1ReferenceIdeal := hWgrad1ReferenceIdeal)
    ∧ quiescent_Wgrad3 (hWgrad3 := hWgrad3)
    ∧ quiescent_Wgrad3Ideal (hWgrad3Ideal := hWgrad3Ideal)
    ∧ quiescent_Wgrad3ReferenceIdeal (hWgrad3ReferenceIdeal := hWgrad3ReferenceIdeal)
    ∧ quiescent_Wgrad2 (hWgrad2 := hWgrad2)
    ∧ quiescent_Wgrad2Ideal (hWgrad2Ideal := hWgrad2Ideal)
    ∧ quiescent_Wgrad2ReferenceIdeal (hWgrad2ReferenceIdeal := hWgrad2ReferenceIdeal)
    ∧ quiescent_Forward (hForward := hForward)
    ∧ quiescent_ForwardIdeal (hForwardIdeal := hForwardIdeal)
    ∧ quiescent_ForwardReferenceIdeal (hForwardReferenceIdeal := hForwardReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamChan (hAdamChan := hAdamChan)
    ∧ quiescent_AdamChanIdeal (hAdamChanIdeal := hAdamChanIdeal)
    ∧ quiescent_AdamChanReferenceIdeal (hAdamChanReferenceIdeal := hAdamChanReferenceIdeal)
    ∧ quiescent_AdamLast (hAdamLast := hAdamLast)
    ∧ quiescent_AdamLastIdeal (hAdamLastIdeal := hAdamLastIdeal)
    ∧ quiescent_AdamLastReferenceIdeal (hAdamLastReferenceIdeal := hAdamLastReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamShort (hAdamShort := hAdamShort)
    ∧ quiescent_AdamShortIdeal (hAdamShortIdeal := hAdamShortIdeal)
    ∧ quiescent_AdamShortReferenceIdeal (hAdamShortReferenceIdeal := hAdamShortReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamMix (hAdamMix := hAdamMix)
    ∧ quiescent_AdamMixIdeal (hAdamMixIdeal := hAdamMixIdeal)
    ∧ quiescent_AdamMixReferenceIdeal (hAdamMixReferenceIdeal := hAdamMixReferenceIdeal)
    ∧ quiescent_AdamBias (hAdamBias := hAdamBias)
    ∧ quiescent_AdamBiasIdeal (hAdamBiasIdeal := hAdamBiasIdeal)
    ∧ quiescent_AdamBiasReferenceIdeal (hAdamBiasReferenceIdeal := hAdamBiasReferenceIdeal)
    ∧ quiescent_SumLate (hSumLate := hSumLate)
    ∧ quiescent_SumLateIdeal (hSumLateIdeal := hSumLateIdeal)
    ∧ quiescent_SumLateReferenceIdeal (hSumLateReferenceIdeal := hSumLateReferenceIdeal)
    ∧ quiescent_SumEarly (hSumEarly := hSumEarly)
    ∧ quiescent_SumEarlyIdeal (hSumEarlyIdeal := hSumEarlyIdeal)
    ∧ quiescent_SumEarlyReferenceIdeal (hSumEarlyReferenceIdeal := hSumEarlyReferenceIdeal)
    ∧ quiescent_ReduceF1W1 (hReduceF1W1 := hReduceF1W1)
    ∧ quiescent_ReduceF1W1Ideal (hReduceF1W1Ideal := hReduceF1W1Ideal)
    ∧ quiescent_ReduceF1W1ReferenceIdeal (hReduceF1W1ReferenceIdeal := hReduceF1W1ReferenceIdeal)
    ∧ quiescent_ReduceF1W3 (hReduceF1W3 := hReduceF1W3)
    ∧ quiescent_ReduceF1W3Ideal (hReduceF1W3Ideal := hReduceF1W3Ideal)
    ∧ quiescent_ReduceF1W3ReferenceIdeal (hReduceF1W3ReferenceIdeal := hReduceF1W3ReferenceIdeal)
    ∧ quiescent_ReduceF1W2 (hReduceF1W2 := hReduceF1W2)
    ∧ quiescent_ReduceF1W2Ideal (hReduceF1W2Ideal := hReduceF1W2Ideal)
    ∧ quiescent_ReduceF1W2ReferenceIdeal (hReduceF1W2ReferenceIdeal := hReduceF1W2ReferenceIdeal)
    ∧ quiescent_ReduceF2W1 (hReduceF2W1 := hReduceF2W1)
    ∧ quiescent_ReduceF2W1Ideal (hReduceF2W1Ideal := hReduceF2W1Ideal)
    ∧ quiescent_ReduceF2W1ReferenceIdeal (hReduceF2W1ReferenceIdeal := hReduceF2W1ReferenceIdeal)
    ∧ quiescent_ReduceF2W3 (hReduceF2W3 := hReduceF2W3)
    ∧ quiescent_ReduceF2W3Ideal (hReduceF2W3Ideal := hReduceF2W3Ideal)
    ∧ quiescent_ReduceF2W3ReferenceIdeal (hReduceF2W3ReferenceIdeal := hReduceF2W3ReferenceIdeal)
    ∧ quiescent_ReduceF2W2 (hReduceF2W2 := hReduceF2W2)
    ∧ quiescent_ReduceF2W2Ideal (hReduceF2W2Ideal := hReduceF2W2Ideal)
    ∧ quiescent_ReduceF2W2ReferenceIdeal (hReduceF2W2ReferenceIdeal := hReduceF2W2ReferenceIdeal)
    ∧ quiescent_ReduceOut (hReduceOut := hReduceOut)
    ∧ quiescent_ReduceOutIdeal (hReduceOutIdeal := hReduceOutIdeal)
    ∧ quiescent_ReduceOutReferenceIdeal (hReduceOutReferenceIdeal := hReduceOutReferenceIdeal)
    ∧ quiescent_ReduceIn (hReduceIn := hReduceIn)
    ∧ quiescent_ReduceInIdeal (hReduceInIdeal := hReduceInIdeal)
    ∧ quiescent_ReduceInReferenceIdeal (hReduceInReferenceIdeal := hReduceInReferenceIdeal)
    ∧ quiescent_GradFirst13 (hGradFirst13 := hGradFirst13)
    ∧ quiescent_GradFirst13Ideal (hGradFirst13Ideal := hGradFirst13Ideal)
    ∧ quiescent_GradFirst13ReferenceIdeal (hGradFirst13ReferenceIdeal := hGradFirst13ReferenceIdeal)
    ∧ quiescent_GradFirst2 (hGradFirst2 := hGradFirst2)
    ∧ quiescent_GradFirst2Ideal (hGradFirst2Ideal := hGradFirst2Ideal)
    ∧ quiescent_GradFirst2ReferenceIdeal (hGradFirst2ReferenceIdeal := hGradFirst2ReferenceIdeal)
    ∧ quiescent_GradMixIn (hGradMixIn := hGradMixIn)
    ∧ quiescent_GradMixInIdeal (hGradMixInIdeal := hGradMixInIdeal)
    ∧ quiescent_GradMixInReferenceIdeal (hGradMixInReferenceIdeal := hGradMixInReferenceIdeal)
    ∧ quiescent_GradMixOut (hGradMixOut := hGradMixOut)
    ∧ quiescent_GradMixOutIdeal (hGradMixOutIdeal := hGradMixOutIdeal)
    ∧ quiescent_GradMixOutReferenceIdeal (hGradMixOutReferenceIdeal := hGradMixOutReferenceIdeal)
    ∧ quiescent_GradFirstIn (hGradFirstIn := hGradFirstIn)
    ∧ quiescent_GradFirstInIdeal (hGradFirstInIdeal := hGradFirstInIdeal)
    ∧ quiescent_GradFirstInReferenceIdeal (hGradFirstInReferenceIdeal := hGradFirstInReferenceIdeal)
    ∧ quiescent_GradFirstOut (hGradFirstOut := hGradFirstOut)
    ∧ quiescent_GradFirstOutIdeal (hGradFirstOutIdeal := hGradFirstOutIdeal)
    ∧ quiescent_GradFirstOutReferenceIdeal (hGradFirstOutReferenceIdeal := hGradFirstOutReferenceIdeal)
    ∧ quiescent_Pack (hPack := hPack)
    ∧ quiescent_PackIdeal (hPackIdeal := hPackIdeal)
    ∧ quiescent_PackReferenceIdeal (hPackReferenceIdeal := hPackReferenceIdeal)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadReferenceIdeal (hHeadReferenceIdeal := hHeadReferenceIdeal)
    ∧ quiescent_HeadReferenceIdeal_pre_finite_head (hHeadReferenceIdeal := hHeadReferenceIdeal) (hPre_finite_head := hPre_finite_head)
    ∧ preserves_Kernel_KernelIdeal
    ∧ algebraic_KernelIdeal_ReferenceIdeal_pre_finite (hKernelIdeal := hKernelIdeal) (hReferenceIdeal := hReferenceIdeal) (hPre_finite := hPre_finite)
    ∧ preserves_Wgrad1_Wgrad1Ideal
    ∧ algebraic_Wgrad1Ideal_Wgrad1ReferenceIdeal (hWgrad1Ideal := hWgrad1Ideal) (hWgrad1ReferenceIdeal := hWgrad1ReferenceIdeal)
    ∧ preserves_Wgrad3_Wgrad3Ideal
    ∧ algebraic_Wgrad3Ideal_Wgrad3ReferenceIdeal (hWgrad3Ideal := hWgrad3Ideal) (hWgrad3ReferenceIdeal := hWgrad3ReferenceIdeal)
    ∧ preserves_Wgrad2_Wgrad2Ideal
    ∧ algebraic_Wgrad2Ideal_Wgrad2ReferenceIdeal (hWgrad2Ideal := hWgrad2Ideal) (hWgrad2ReferenceIdeal := hWgrad2ReferenceIdeal)
    ∧ preserves_Forward_ForwardIdeal
    ∧ algebraic_ForwardIdeal_ForwardReferenceIdeal (hForwardIdeal := hForwardIdeal) (hForwardReferenceIdeal := hForwardReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamChan_AdamChanIdeal
    ∧ algebraic_AdamChanIdeal_AdamChanReferenceIdeal (hAdamChanIdeal := hAdamChanIdeal) (hAdamChanReferenceIdeal := hAdamChanReferenceIdeal)
    ∧ preserves_AdamLast_AdamLastIdeal
    ∧ algebraic_AdamLastIdeal_AdamLastReferenceIdeal (hAdamLastIdeal := hAdamLastIdeal) (hAdamLastReferenceIdeal := hAdamLastReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamShort_AdamShortIdeal
    ∧ algebraic_AdamShortIdeal_AdamShortReferenceIdeal (hAdamShortIdeal := hAdamShortIdeal) (hAdamShortReferenceIdeal := hAdamShortReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamMix_AdamMixIdeal
    ∧ algebraic_AdamMixIdeal_AdamMixReferenceIdeal (hAdamMixIdeal := hAdamMixIdeal) (hAdamMixReferenceIdeal := hAdamMixReferenceIdeal)
    ∧ preserves_AdamBias_AdamBiasIdeal
    ∧ algebraic_AdamBiasIdeal_AdamBiasReferenceIdeal (hAdamBiasIdeal := hAdamBiasIdeal) (hAdamBiasReferenceIdeal := hAdamBiasReferenceIdeal)
    ∧ preserves_SumLate_SumLateIdeal
    ∧ algebraic_SumLateIdeal_SumLateReferenceIdeal (hSumLateIdeal := hSumLateIdeal) (hSumLateReferenceIdeal := hSumLateReferenceIdeal)
    ∧ preserves_SumEarly_SumEarlyIdeal
    ∧ algebraic_SumEarlyIdeal_SumEarlyReferenceIdeal (hSumEarlyIdeal := hSumEarlyIdeal) (hSumEarlyReferenceIdeal := hSumEarlyReferenceIdeal)
    ∧ preserves_ReduceF1W1_ReduceF1W1Ideal
    ∧ algebraic_ReduceF1W1Ideal_ReduceF1W1ReferenceIdeal (hReduceF1W1Ideal := hReduceF1W1Ideal) (hReduceF1W1ReferenceIdeal := hReduceF1W1ReferenceIdeal)
    ∧ preserves_ReduceF1W3_ReduceF1W3Ideal
    ∧ algebraic_ReduceF1W3Ideal_ReduceF1W3ReferenceIdeal (hReduceF1W3Ideal := hReduceF1W3Ideal) (hReduceF1W3ReferenceIdeal := hReduceF1W3ReferenceIdeal)
    ∧ preserves_ReduceF1W2_ReduceF1W2Ideal
    ∧ algebraic_ReduceF1W2Ideal_ReduceF1W2ReferenceIdeal (hReduceF1W2Ideal := hReduceF1W2Ideal) (hReduceF1W2ReferenceIdeal := hReduceF1W2ReferenceIdeal)
    ∧ preserves_ReduceF2W1_ReduceF2W1Ideal
    ∧ algebraic_ReduceF2W1Ideal_ReduceF2W1ReferenceIdeal (hReduceF2W1Ideal := hReduceF2W1Ideal) (hReduceF2W1ReferenceIdeal := hReduceF2W1ReferenceIdeal)
    ∧ preserves_ReduceF2W3_ReduceF2W3Ideal
    ∧ algebraic_ReduceF2W3Ideal_ReduceF2W3ReferenceIdeal (hReduceF2W3Ideal := hReduceF2W3Ideal) (hReduceF2W3ReferenceIdeal := hReduceF2W3ReferenceIdeal)
    ∧ preserves_ReduceF2W2_ReduceF2W2Ideal
    ∧ algebraic_ReduceF2W2Ideal_ReduceF2W2ReferenceIdeal (hReduceF2W2Ideal := hReduceF2W2Ideal) (hReduceF2W2ReferenceIdeal := hReduceF2W2ReferenceIdeal)
    ∧ preserves_ReduceOut_ReduceOutIdeal
    ∧ algebraic_ReduceOutIdeal_ReduceOutReferenceIdeal (hReduceOutIdeal := hReduceOutIdeal) (hReduceOutReferenceIdeal := hReduceOutReferenceIdeal)
    ∧ preserves_ReduceIn_ReduceInIdeal
    ∧ algebraic_ReduceInIdeal_ReduceInReferenceIdeal (hReduceInIdeal := hReduceInIdeal) (hReduceInReferenceIdeal := hReduceInReferenceIdeal)
    ∧ preserves_GradFirst13_GradFirst13Ideal
    ∧ algebraic_GradFirst13Ideal_GradFirst13ReferenceIdeal (hGradFirst13Ideal := hGradFirst13Ideal) (hGradFirst13ReferenceIdeal := hGradFirst13ReferenceIdeal)
    ∧ preserves_GradFirst2_GradFirst2Ideal
    ∧ algebraic_GradFirst2Ideal_GradFirst2ReferenceIdeal (hGradFirst2Ideal := hGradFirst2Ideal) (hGradFirst2ReferenceIdeal := hGradFirst2ReferenceIdeal)
    ∧ preserves_GradMixIn_GradMixInIdeal
    ∧ algebraic_GradMixInIdeal_GradMixInReferenceIdeal (hGradMixInIdeal := hGradMixInIdeal) (hGradMixInReferenceIdeal := hGradMixInReferenceIdeal)
    ∧ preserves_GradMixOut_GradMixOutIdeal
    ∧ algebraic_GradMixOutIdeal_GradMixOutReferenceIdeal (hGradMixOutIdeal := hGradMixOutIdeal) (hGradMixOutReferenceIdeal := hGradMixOutReferenceIdeal)
    ∧ preserves_GradFirstIn_GradFirstInIdeal
    ∧ algebraic_GradFirstInIdeal_GradFirstInReferenceIdeal (hGradFirstInIdeal := hGradFirstInIdeal) (hGradFirstInReferenceIdeal := hGradFirstInReferenceIdeal)
    ∧ preserves_GradFirstOut_GradFirstOutIdeal
    ∧ algebraic_GradFirstOutIdeal_GradFirstOutReferenceIdeal (hGradFirstOutIdeal := hGradFirstOutIdeal) (hGradFirstOutReferenceIdeal := hGradFirstOutReferenceIdeal)
    ∧ preserves_Pack_PackIdeal
    ∧ algebraic_PackIdeal_PackReferenceIdeal (hPackIdeal := hPackIdeal) (hPackReferenceIdeal := hPackReferenceIdeal)
    ∧ preserves_Head_HeadIdeal
    ∧ algebraic_HeadIdeal_HeadReferenceIdeal_pre_finite_head (hHeadIdeal := hHeadIdeal) (hHeadReferenceIdeal := hHeadReferenceIdeal) (hPre_finite_head := hPre_finite_head)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_head.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_arg6 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x352x1024 : Shape := ⟨3, ![8, 352, 1024]⟩
abbrev S8x1056x1024 : Shape := ⟨3, ![8, 1056, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 40
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S2816x1024, .f32⟩
  | .hbm, ⟨27, _⟩ => ⟨S8x352x1024, .f32⟩
  | .hbm, ⟨28, _⟩ => ⟨S2816x1024, .f32⟩
  | .hbm, ⟨29, _⟩ => ⟨S8x352x1024, .f32⟩
  | .hbm, ⟨30, _⟩ => ⟨S8x352x1024, .f32⟩
  | .hbm, ⟨31, _⟩ => ⟨S8x1056x1024, .f32⟩
  | .hbm, ⟨32, _⟩ => ⟨S8x1056x1024, .bf16⟩
  | .hbm, ⟨33, _⟩ => ⟨S1x1024, .f32⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .bf16⟩
  | .hbm, ⟨39, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S8x352x1024, .bf16⟩
  | .local _ .vmem, ⟨10, _⟩ => ⟨S8x352x1024, .bf16⟩
  | .local _ .vmem, ⟨11, _⟩ => ⟨S8x352x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x1024 : Shape := ⟨2, ![8, 1024]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x2816, .f32⟩
  | 23 => ⟨S8192x2816, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x1024, .f32⟩
  | 39 => ⟨S_, .f32⟩
  | 40 => ⟨S8192x1024, .f32⟩
  | 41 => ⟨S8192x1024, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x2816, .f32⟩
  | 48 => ⟨S8192x2816, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S1x1024, .f32⟩
  | 67 => ⟨S8192x1024, .f32⟩
  | 68 => ⟨S8192x1024, .f32⟩
  | 69 => ⟨S8192x2816, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S_, .f32⟩
  | 76 => ⟨S8192x2816, .f32⟩
  | 77 => ⟨S8192x2816, .f32⟩
  | 78 => ⟨S_, .f32⟩
  | 79 => ⟨S8192x2816, .f32⟩
  | 80 => ⟨S8192x2816, .f32⟩
  | 81 => ⟨S8192x2816, .f32⟩
  | 82 => ⟨S8192x2816, .f32⟩
  | 83 => ⟨S8192x2816, .f32⟩
  | 84 => ⟨S8192x2816, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x2816, .f32⟩
  | 95 => ⟨S8192x2816, .f32⟩
  | 96 => ⟨S8192x2816, .f32⟩
  | 97 => ⟨S8192x1024, .f32⟩
  | 98 => ⟨S8192x2816, .f32⟩
  | 99 => ⟨S8192x2816, .f32⟩
  | 100 => ⟨S8192x2816, .f32⟩
  | 101 => ⟨S8192x2816, .f32⟩
  | 102 => ⟨S8192x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S_, .f32⟩
  | 111 => ⟨S1024, .f32⟩
  | 112 => ⟨S8192x1024, .f32⟩
  | 113 => ⟨S_, .f32⟩
  | 114 => ⟨S8192, .f32⟩
  | 115 => ⟨S8192x1, .f32⟩
  | 116 => ⟨S8192x1024, .f32⟩
  | 117 => ⟨S8192x1024, .f32⟩
  | 118 => ⟨S8192x1024, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x2816, .bf16⟩
  | 3 => ⟨S8192x2816, .bf16⟩
  | 4 => ⟨S8192x2816, .f32⟩
  | 5 => ⟨S8192x2816, .f32⟩
  | 6 => ⟨S_, .f32⟩
  | 7 => ⟨S8192x2816, .f32⟩
  | 8 => ⟨S8192x2816, .f32⟩
  | 9 => ⟨S_, .f32⟩
  | 10 => ⟨S8192x2816, .f32⟩
  | 11 => ⟨S8192x2816, .f32⟩
  | 12 => ⟨S8192x2816, .f32⟩
  | 13 => ⟨S8192x2816, .f32⟩
  | 14 => ⟨S8192x2816, .bf16⟩
  | 15 => ⟨S8192x1024, .bf16⟩
  | 16 => ⟨S1x1024, .f32⟩
  | 17 => ⟨S_, .i32⟩
  | 18 => ⟨S_, .f32⟩
  | 19 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call2_v0 : Ref sig .tc := ⟨.hbm, 70, rfl⟩
abbrev main_call2_v1 : Ref sig .tc := ⟨.hbm, 71, rfl⟩
abbrev main_call2_cst : Ref sig .tc := ⟨.hbm, 72, rfl⟩
abbrev main_call2_v2 : Ref sig .tc := ⟨.hbm, 73, rfl⟩
abbrev main_call2_v3 : Ref sig .tc := ⟨.hbm, 74, rfl⟩
abbrev main_call2_cst_0 : Ref sig .tc := ⟨.hbm, 75, rfl⟩
abbrev main_call2_v4 : Ref sig .tc := ⟨.hbm, 76, rfl⟩
abbrev main_v41_2 : Ref sig .tc := ⟨.hbm, 77, rfl⟩
abbrev main_call2_cst_1 : Ref sig .tc := ⟨.hbm, 78, rfl⟩
abbrev main_call2_v6 : Ref sig .tc := ⟨.hbm, 79, rfl⟩
abbrev main_call2_v7 : Ref sig .tc := ⟨.hbm, 80, rfl⟩
abbrev main_v41_1 : Ref sig .tc := ⟨.hbm, 81, rfl⟩
abbrev main_v41_0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_8 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_9 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_10 : Ref sig .tc := ⟨.hbm, 110, rfl⟩
abbrev main_v63 : Ref sig .tc := ⟨.hbm, 111, rfl⟩
abbrev main_v64 : Ref sig .tc := ⟨.hbm, 112, rfl⟩
abbrev main_cst_11 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_12 : Ref sig .tc := ⟨.hbm, 120, rfl⟩
abbrev main_v71 : Ref sig .tc := ⟨.hbm, 121, rfl⟩
abbrev main_v72 : Ref sig .tc := ⟨.hbm, 122, rfl⟩
abbrev main_cst_13 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_call4_v0 : Ref sig .tc := ⟨.hbm, 132, rfl⟩
abbrev main_call4_v1 : Ref sig .tc := ⟨.hbm, 133, rfl⟩
abbrev main_call4_cst : Ref sig .tc := ⟨.hbm, 134, rfl⟩
abbrev main_call4_v2 : Ref sig .tc := ⟨.hbm, 135, rfl⟩
abbrev main_call4_v3 : Ref sig .tc := ⟨.hbm, 136, rfl⟩
abbrev main_call4_cst_0 : Ref sig .tc := ⟨.hbm, 137, rfl⟩
abbrev main_call4_v4 : Ref sig .tc := ⟨.hbm, 138, rfl⟩
abbrev main_call4_v5 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c : Ref sig .tc := ⟨.hbm, 145, rfl⟩
abbrev main_call5_v0 : Ref sig .tc := ⟨.hbm, 146, rfl⟩
abbrev main_v86 : Ref sig .tc := ⟨.hbm, 147, rfl⟩

abbrev nD : Nat := 1
abbrev τ : Topo := Topo.v7x

variable {F : FTy → Type} [FloatOps F]
-- ==== Wgrad1.lean ====
abbrev S8192x2816 : Shape := ⟨2, ![8192, 2816]⟩
abbrev S8192x1024 : Shape := ⟨2, ![8192, 1024]⟩
abbrev S8x1056x1024 : Shape := ⟨3, ![8, 1056, 1024]⟩
abbrev S1024x2816 : Shape := ⟨2, ![1024, 2816]⟩
abbrev S1024x1024 : Shape := ⟨2, ![1024, 1024]⟩
abbrev S8x352x1024 : Shape := ⟨3, ![8, 352, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x1056x1024, .bf16⟩
  | .hbm, ⟨3, _⟩ => ⟨S8x1056x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Wgrad1ReferenceIdeal.lean ====
abbrev S8192x2816 : Shape := ⟨2, ![8192, 2816]⟩
abbrev S8192x1024 : Shape := ⟨2, ![8192, 1024]⟩
abbrev S8x1056x1024 : Shape := ⟨3, ![8, 1056, 1024]⟩
abbrev S_ : Shape := ⟨0, ![]⟩
abbrev S1024x2816 : Shape := ⟨2, ![1024, 2816]⟩
abbrev S2816x1024 : Shape := ⟨2, ![2816, 1024]⟩
abbrev S8x0x1024 : Shape := ⟨3, ![8, 0, 1024]⟩
abbrev S8x352x1024 : Shape := ⟨3, ![8, 352, 1024]⟩
abbrev S8x704x1024 : Shape := ⟨3, ![8, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x1056x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S8x0x1024, .bf16⟩
  | .hbm, ⟨12, _⟩ => ⟨S8x352x1024, .f32⟩
  | .hbm, ⟨13, _⟩ => ⟨S8x352x1024, .bf16⟩
  | .hbm, ⟨14, _⟩ => ⟨S8x704x1024, .bf16⟩
  | .hbm, ⟨15, _⟩ => ⟨S8x1056x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Wgrad3.lean ====
abbrev S8192x2816 : Shape := ⟨2, ![8192, 2816]⟩
abbrev S8192x1024 : Shape := ⟨2, ![8192, 1024]⟩
abbrev S8x1056x1024 : Shape := ⟨3, ![8, 1056, 1024]⟩
abbrev S1024x2816 : Shape := ⟨2, ![1024, 2816]⟩
abbrev S1024x1024 : Shape := ⟨2, ![1024, 1024]⟩
abbrev S8x352x1024 : Shape := ⟨3, ![8, 352, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x1056x1024, .bf16⟩
  | .hbm, ⟨3, _⟩ => ⟨S8x1056x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Wgrad3ReferenceIdeal.lean ====
abbrev S8192x2816 : Shape := ⟨2, ![8192, 2816]⟩
abbrev S8192x1024 : Shape := ⟨2, ![8192, 1024]⟩
abbrev S8x1056x1024 : Shape := ⟨3, ![8, 1056, 1024]⟩
abbrev S_ : Shape := ⟨0, ![]⟩
abbrev S1024x2816 : Shape := ⟨2, ![1024, 2816]⟩
abbrev S2816x1024 : Shape := ⟨2, ![2816, 1024]⟩
abbrev S8x352x1024 : Shape := ⟨3, ![8, 352, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x1056x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S8x352x1024, .bf16⟩
  | .hbm, ⟨12, _⟩ => ⟨S8x352x1024, .f32⟩
  | .hbm, ⟨13, _⟩ => ⟨S8x352x1024, .bf16⟩
  | .hbm, ⟨14, _⟩ => ⟨S8x352x1024, .bf16⟩
  | .hbm, ⟨15, _⟩ => ⟨S8x1056x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Wgrad2.lean ====
abbrev S8192x2816 : Shape := ⟨2, ![8192, 2816]⟩
abbrev S8192x1024 : Shape := ⟨2, ![8192, 1024]⟩
abbrev S8x1056x1024 : Shape := ⟨3, ![8, 1056, 1024]⟩
abbrev S1024x2816 : Shape := ⟨2, ![1024, 2816]⟩
abbrev S1024x1024 : Shape := ⟨2, ![1024, 1024]⟩
abbrev S8x352x1024 : Shape := ⟨3, ![8, 352, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x1056x1024, .bf16⟩
  | .hbm, ⟨3, _⟩ => ⟨S8x1056x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Wgrad2ReferenceIdeal.lean ====
abbrev S8192x2816 : Shape := ⟨2, ![8192, 2816]⟩
abbrev S8192x1024 : Shape := ⟨2, ![8192, 1024]⟩
abbrev S8x1056x1024 : Shape := ⟨3, ![8, 1056, 1024]⟩
abbrev S_ : Shape := ⟨0, ![]⟩
abbrev S2816x1024 : Shape := ⟨2, ![2816, 1024]⟩
abbrev S1024x2816 : Shape := ⟨2, ![1024, 2816]⟩
abbrev S8x704x1024 : Shape := ⟨3, ![8, 704, 1024]⟩
abbrev S8x352x1024 : Shape := ⟨3, ![8, 352, 1024]⟩
abbrev S8x0x1024 : Shape := ⟨3, ![8, 0, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x1056x1024, .bf16⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S8x704x1024, .bf16⟩
  | .hbm, ⟨16, _⟩ => ⟨S8x352x1024, .f32⟩
  | .hbm, ⟨17, _⟩ => ⟨S8x352x1024, .bf16⟩
  | .hbm, ⟨18, _⟩ => ⟨S8x0x1024, .bf16⟩
  | .hbm, ⟨19, _⟩ => ⟨S8x1056x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Forward.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 16
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x1056x1024, .f32⟩
  | .hbm, ⟨11, _⟩ => ⟨S8x1056x1024, .bf16⟩
  | .hbm, ⟨12, _⟩ => ⟨S1x1024, .f32⟩
  | .hbm, ⟨13, _⟩ => ⟨S8192x1024, .f32⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ForwardReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamChan.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChanIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamChanReferenceIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLast.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLastIdeal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLastReferenceIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConv.lean ====
abbrev S4x31x32 : Shape := ⟨3, ![4, 31, 32]⟩
abbrev S124x32 : Shape := ⟨2, ![124, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x31x32, .f32⟩
  | .hbm, ⟨1, _⟩ => ⟨S4x31x32, .f32⟩
  | .hbm, ⟨2, _⟩ => ⟨S4x31x32, .f32⟩
  | .hbm, ⟨3, _⟩ => ⟨S4x31x32, .f32⟩
  | .hbm, ⟨4, _⟩ => ⟨S124x32, .f32⟩
  | .hbm, ⟨5, _⟩ => ⟨S124x32, .f32⟩
  | .hbm, ⟨6, _⟩ => ⟨S124x32, .f32⟩
  | .hbm, ⟨7, _⟩ => ⟨S124x32, .f32⟩
  | .hbm, ⟨8, _⟩ => ⟨S124x32, .f32⟩
  | .hbm, ⟨9, _⟩ => ⟨S124x32, .f32⟩
  | .hbm, ⟨10, _⟩ => ⟨S124x32, .f32⟩
  | .local _ .vmem, ⟨0, _⟩ => ⟨S124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | _, _ => ⟨S4x31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x31x32 : Shape := ⟨3, ![4, 31, 32]⟩
abbrev S124x32 : Shape := ⟨2, ![124, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x31x32, .f32⟩
  | .hbm, ⟨1, _⟩ => ⟨S4x31x32, .f32⟩
  | .hbm, ⟨2, _⟩ => ⟨S4x31x32, .f32⟩
  | .hbm, ⟨3, _⟩ => ⟨S4x31x32, .f32⟩
  | .hbm, ⟨4, _⟩ => ⟨S124x32, .f32⟩
  | .hbm, ⟨5, _⟩ => ⟨S124x32, .f32⟩
  | .hbm, ⟨6, _⟩ => ⟨S124x32, .f32⟩
  | .hbm, ⟨7, _⟩ => ⟨S124x32, .f32⟩
  | .hbm, ⟨8, _⟩ => ⟨S124x32, .f32⟩
  | .hbm, ⟨9, _⟩ => ⟨S124x32, .f32⟩
  | .hbm, ⟨10, _⟩ => ⟨S124x32, .f32⟩
  | .local _ .vmem, ⟨0, _⟩ => ⟨S124x32, .f32⟩
  | .local _ .vmem, ⟨1, _⟩ => ⟨S124x32, .f32⟩
  | .local _ .vmem, ⟨2, _⟩ => ⟨S124x32, .f32⟩
  | .local _ .vmem, ⟨3, _⟩ => ⟨S124x32, .f32⟩
  | .local _ .vmem, ⟨4, _⟩ => ⟨S124x32, .f32⟩
  | .local _ .vmem, ⟨5, _⟩ => ⟨S124x32, .f32⟩
  | .local _ .vmem, ⟨6, _⟩ => ⟨S124x32, .f32⟩
  | _, _ => ⟨S4x31x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S4x31x32 : Shape := ⟨3, ![4, 31, 32]⟩
abbrev S_ : Shape := ⟨0, ![]⟩
abbrev S124x32 : Shape := ⟨2, ![124, 32]⟩

abbrev nBuf : Space → Nat
  | .hbm => 40
  | .vmem => 0
  | .smem => 0
  | _ => 0

abbrev bufTy : (tb : Table) → Fin (tcTables nBuf tb) → BufTy
  | .hbm, ⟨0, _⟩ => ⟨S4x31x32, .f32⟩
  | .hbm, ⟨1, _⟩ => ⟨S4x31x32, .f32⟩
  | .hbm, ⟨2, _⟩ => ⟨S4x31x32, .f32⟩
  | .hbm, ⟨3, _⟩ => ⟨S4x31x32, .f32⟩
  | .hbm, ⟨4, _⟩ => ⟨S_, .f32⟩
  | .hbm, ⟨5, _⟩ => ⟨S4x31x32, .f32⟩
  | .hbm, ⟨6, _⟩ => ⟨S4x31x32, .f32⟩
  | .hbm, ⟨7, _⟩ => ⟨S_, .f32⟩
  | .hbm, ⟨8, _⟩ => ⟨S4x31x32, .f32⟩
  | .hbm, ⟨9, _⟩ => ⟨S4x31x32, .f32⟩
  | .hbm, ⟨10, _⟩ => ⟨S4x31x32, .f32⟩
  | .hbm, ⟨11, _⟩ => ⟨S_, .f32⟩
  | .hbm, ⟨12, _⟩ => ⟨S4x31x32, .f32⟩
  | .hbm, ⟨13, _⟩ => ⟨S4x31x32, .f32⟩
  | .hbm, ⟨14, _⟩ => ⟨S4x31x32, .f32⟩
  | .hbm, ⟨15, _⟩ => ⟨S_, .f32⟩
  | .hbm, ⟨16, _⟩ => ⟨S4x31x32, .f32⟩
  | .hbm, ⟨17, _⟩ => ⟨S4x31x32, .f32⟩
  | .hbm, ⟨18, _⟩ => ⟨S4x31x32, .f32⟩
  | .hbm, ⟨19, _⟩ => ⟨S_, .f32⟩
  | .hbm, ⟨20, _⟩ => ⟨S4x31x32, .f32⟩
  | .hbm, ⟨21, _⟩ => ⟨S4x31x32, .f32⟩
  | .hbm, ⟨22, _⟩ => ⟨S_, .f32⟩
  | .hbm, ⟨23, _⟩ => ⟨S4x31x32, .f32⟩
  | .hbm, ⟨24, _⟩ => ⟨S4x31x32, .f32⟩
  | .hbm, ⟨25, _⟩ => ⟨S4x31x32, .f32⟩
  | .hbm, ⟨26, _⟩ => ⟨S_, .f32⟩
  | .hbm, ⟨27, _⟩ => ⟨S4x31x32, .f32⟩
  | .hbm, ⟨28, _⟩ => ⟨S4x31x32, .f32⟩
  | .hbm, ⟨29, _⟩ => ⟨S4x31x32, .f32⟩
  | .hbm, ⟨30, _⟩ => ⟨S_, .f32⟩
  | .hbm, ⟨31, _⟩ => ⟨S4x31x32, .f32⟩
  | .hbm, ⟨32, _⟩ => ⟨S4x31x32, .f32⟩
  | .hbm, ⟨33, _⟩ => ⟨S4x31x32, .f32⟩
  | .hbm, ⟨34, _⟩ => ⟨S_, .f32⟩
  | .hbm, ⟨35, _⟩ => ⟨S4x31x32, .f32⟩
  | .hbm, ⟨36, _⟩ => ⟨S4x31x32, .f32⟩
  | .hbm, ⟨37, _⟩ => ⟨S124x32, .f32⟩
  | .hbm, ⟨38, _⟩ => ⟨S124x32, .f32⟩
  | .hbm, ⟨39, _⟩ => ⟨S124x32, .f32⟩
  | _, _ => ⟨S4x31x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamShort.lean ====
abbrev S4x3x32 : Shape := ⟨3, ![4, 3, 32]⟩
abbrev S12x32 : Shape := ⟨2, ![12, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .hbm, ⟨8, _⟩ => ⟨S12x32, .f32⟩
  | .hbm, ⟨9, _⟩ => ⟨S12x32, .f32⟩
  | .hbm, ⟨10, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S4x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortIdeal.lean ====
abbrev S4x3x32 : Shape := ⟨3, ![4, 3, 32]⟩
abbrev S12x32 : Shape := ⟨2, ![12, 32]⟩

abbrev nBuf : Space → Nat
  | .hbm => 11
  | .vmem => 7
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S12x32, .f32⟩
  | .hbm, ⟨5, _⟩ => ⟨S12x32, .f32⟩
  | .hbm, ⟨6, _⟩ => ⟨S12x32, .f32⟩
  | .hbm, ⟨7, _⟩ => ⟨S12x32, .f32⟩
  | .hbm, ⟨8, _⟩ => ⟨S12x32, .f32⟩
  | .hbm, ⟨9, _⟩ => ⟨S12x32, .f32⟩
  | .hbm, ⟨10, _⟩ => ⟨S12x32, .f32⟩
  | .local _ .vmem, ⟨0, _⟩ => ⟨S12x32, .f32⟩
  | .local _ .vmem, ⟨1, _⟩ => ⟨S12x32, .f32⟩
  | .local _ .vmem, ⟨2, _⟩ => ⟨S12x32, .f32⟩
  | .local _ .vmem, ⟨3, _⟩ => ⟨S12x32, .f32⟩
  | .local _ .vmem, ⟨4, _⟩ => ⟨S12x32, .f32⟩
  | .local _ .vmem, ⟨5, _⟩ => ⟨S12x32, .f32⟩
  | .local _ .vmem, ⟨6, _⟩ => ⟨S12x32, .f32⟩
  | _, _ => ⟨S4x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamShortReferenceIdeal.lean ====
abbrev S4x3x32 : Shape := ⟨3, ![4, 3, 32]⟩
abbrev S_ : Shape := ⟨0, ![]⟩
abbrev S12x32 : Shape := ⟨2, ![12, 32]⟩

abbrev nBuf : Space → Nat
  | .hbm => 40
  | .vmem => 0
  | .smem => 0
  | _ => 0

abbrev bufTy : (tb : Table) → Fin (tcTables nBuf tb) → BufTy
  | .hbm, ⟨0, _⟩ => ⟨S4x3x32, .f32⟩
  | .hbm, ⟨1, _⟩ => ⟨S4x3x32, .f32⟩
  | .hbm, ⟨2, _⟩ => ⟨S4x3x32, .f32⟩
  | .hbm, ⟨3, _⟩ => ⟨S4x3x32, .f32⟩
  | .hbm, ⟨4, _⟩ => ⟨S_, .f32⟩
  | .hbm, ⟨5, _⟩ => ⟨S4x3x32, .f32⟩
  | .hbm, ⟨6, _⟩ => ⟨S4x3x32, .f32⟩
  | .hbm, ⟨7, _⟩ => ⟨S_, .f32⟩
  | .hbm, ⟨8, _⟩ => ⟨S4x3x32, .f32⟩
  | .hbm, ⟨9, _⟩ => ⟨S4x3x32, .f32⟩
  | .hbm, ⟨10, _⟩ => ⟨S4x3x32, .f32⟩
  | .hbm, ⟨11, _⟩ => ⟨S_, .f32⟩
  | .hbm, ⟨12, _⟩ => ⟨S4x3x32, .f32⟩
  | .hbm, ⟨13, _⟩ => ⟨S4x3x32, .f32⟩
  | .hbm, ⟨14, _⟩ => ⟨S4x3x32, .f32⟩
  | .hbm, ⟨15, _⟩ => ⟨S_, .f32⟩
  | .hbm, ⟨16, _⟩ => ⟨S4x3x32, .f32⟩
  | .hbm, ⟨17, _⟩ => ⟨S4x3x32, .f32⟩
  | .hbm, ⟨18, _⟩ => ⟨S4x3x32, .f32⟩
  | .hbm, ⟨19, _⟩ => ⟨S_, .f32⟩
  | .hbm, ⟨20, _⟩ => ⟨S4x3x32, .f32⟩
  | .hbm, ⟨21, _⟩ => ⟨S4x3x32, .f32⟩
  | .hbm, ⟨22, _⟩ => ⟨S_, .f32⟩
  | .hbm, ⟨23, _⟩ => ⟨S4x3x32, .f32⟩
  | .hbm, ⟨24, _⟩ => ⟨S4x3x32, .f32⟩
  | .hbm, ⟨25, _⟩ => ⟨S4x3x32, .f32⟩
  | .hbm, ⟨26, _⟩ => ⟨S_, .f32⟩
  | .hbm, ⟨27, _⟩ => ⟨S4x3x32, .f32⟩
  | .hbm, ⟨28, _⟩ => ⟨S4x3x32, .f32⟩
  | .hbm, ⟨29, _⟩ => ⟨S4x3x32, .f32⟩
  | .hbm, ⟨30, _⟩ => ⟨S_, .f32⟩
  | .hbm, ⟨31, _⟩ => ⟨S4x3x32, .f32⟩
  | .hbm, ⟨32, _⟩ => ⟨S4x3x32, .f32⟩
  | .hbm, ⟨33, _⟩ => ⟨S4x3x32, .f32⟩
  | .hbm, ⟨34, _⟩ => ⟨S_, .f32⟩
  | .hbm, ⟨35, _⟩ => ⟨S4x3x32, .f32⟩
  | .hbm, ⟨36, _⟩ => ⟨S4x3x32, .f32⟩
  | .hbm, ⟨37, _⟩ => ⟨S12x32, .f32⟩
  | .hbm, ⟨38, _⟩ => ⟨S12x32, .f32⟩
  | .hbm, ⟨39, _⟩ => ⟨S12x32, .f32⟩
  | _, _ => ⟨S4x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPool.lean ====
abbrev S4x4x64x64 : Shape := ⟨4, ![4, 4, 64, 64]⟩
abbrev S1024x64 : Shape := ⟨2, ![1024, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolIdeal.lean ====
abbrev S4x4x64x64 : Shape := ⟨4, ![4, 4, 64, 64]⟩
abbrev S1024x64 : Shape := ⟨2, ![1024, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolReferenceIdeal.lean ====
abbrev S4x4x64x64 : Shape := ⟨4, ![4, 4, 64, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x64x64, .f32⟩
  | .hbm, ⟨3, _⟩ => ⟨S4x4x64x64, .f32⟩
  | .hbm, ⟨4, _⟩ => ⟨S_, .f32⟩
  | .hbm, ⟨5, _⟩ => ⟨S4x4x64x64, .f32⟩
  | .hbm, ⟨6, _⟩ => ⟨S4x4x64x64, .f32⟩
  | .hbm, ⟨7, _⟩ => ⟨S_, .f32⟩
  | .hbm, ⟨8, _⟩ => ⟨S4x4x64x64, .f32⟩
  | .hbm, ⟨9, _⟩ => ⟨S4x4x64x64, .f32⟩
  | .hbm, ⟨10, _⟩ => ⟨S4x4x64x64, .f32⟩
  | .hbm, ⟨11, _⟩ => ⟨S_, .f32⟩
  | .hbm, ⟨12, _⟩ => ⟨S4x4x64x64, .f32⟩
  | .hbm, ⟨13, _⟩ => ⟨S4x4x64x64, .f32⟩
  | .hbm, ⟨14, _⟩ => ⟨S4x4x64x64, .f32⟩
  | .hbm, ⟨15, _⟩ => ⟨S_, .f32⟩
  | .hbm, ⟨16, _⟩ => ⟨S4x4x64x64, .f32⟩
  | .hbm, ⟨17, _⟩ => ⟨S4x4x64x64, .f32⟩
  | .hbm, ⟨18, _⟩ => ⟨S4x4x64x64, .f32⟩
  | .hbm, ⟨19, _⟩ => ⟨S_, .f32⟩
  | .hbm, ⟨20, _⟩ => ⟨S4x4x64x64, .f32⟩
  | .hbm, ⟨21, _⟩ => ⟨S4x4x64x64, .f32⟩
  | .hbm, ⟨22, _⟩ => ⟨S_, .f32⟩
  | .hbm, ⟨23, _⟩ => ⟨S4x4x64x64, .f32⟩
  | .hbm, ⟨24, _⟩ => ⟨S4x4x64x64, .f32⟩
  | .hbm, ⟨25, _⟩ => ⟨S4x4x64x64, .f32⟩
  | .hbm, ⟨26, _⟩ => ⟨S_, .f32⟩
  | .hbm, ⟨27, _⟩ => ⟨S4x4x64x64, .f32⟩
  | .hbm, ⟨28, _⟩ => ⟨S4x4x64x64, .f32⟩
  | .hbm, ⟨29, _⟩ => ⟨S4x4x64x64, .f32⟩
  | .hbm, ⟨30, _⟩ => ⟨S_, .f32⟩
  | .hbm, ⟨31, _⟩ => ⟨S4x4x64x64, .f32⟩
  | .hbm, ⟨32, _⟩ => ⟨S4x4x64x64, .f32⟩
  | .hbm, ⟨33, _⟩ => ⟨S4x4x64x64, .f32⟩
  | .hbm, ⟨34, _⟩ => ⟨S_, .f32⟩
  | .hbm, ⟨35, _⟩ => ⟨S4x4x64x64, .f32⟩
  | .hbm, ⟨36, _⟩ => ⟨S4x4x64x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMix.lean ====
abbrev S4x4x128x128 : Shape := ⟨4, ![4, 4, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixIdeal.lean ====
abbrev S4x4x128x128 : Shape := ⟨4, ![4, 4, 128, 128]⟩
abbrev S2048x128 : Shape := ⟨2, ![2048, 128]⟩
abbrev S512x128 : Shape := ⟨2, ![512, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMixReferenceIdeal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBias.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasReferenceIdeal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumLate.lean ====
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .local _ .vmem, ⟨0, _⟩ => ⟨S8x96x1024, .f32⟩
  | .local _ .vmem, ⟨1, _⟩ => ⟨S96x1024, .f32⟩
  | _, _ => ⟨S8x96x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLateIdeal.lean ====
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x96x1024, .f32⟩
  | .hbm, ⟨1, _⟩ => ⟨S96x1024, .f32⟩
  | .local _ .vmem, ⟨0, _⟩ => ⟨S8x96x1024, .f32⟩
  | .local _ .vmem, ⟨1, _⟩ => ⟨S96x1024, .f32⟩
  | _, _ => ⟨S8x96x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumLateReferenceIdeal.lean ====
abbrev S8x96x1024 : Shape := ⟨3, ![8, 96, 1024]⟩
abbrev S_ : Shape := ⟨0, ![]⟩
abbrev S96x1024 : Shape := ⟨2, ![96, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x96x1024, .f32⟩
  | .hbm, ⟨1, _⟩ => ⟨S_, .f32⟩
  | .hbm, ⟨2, _⟩ => ⟨S96x1024, .f32⟩
  | _, _ => ⟨S8x96x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumEarly.lean ====
abbrev S8x304x1024 : Shape := ⟨3, ![8, 304, 1024]⟩
abbrev S304x1024 : Shape := ⟨2, ![304, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x304x1024, .f32⟩
  | .hbm, ⟨1, _⟩ => ⟨S304x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | _, _ => ⟨S8x304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumEarlyReferenceIdeal.lean ====
abbrev S8x304x1024 : Shape := ⟨3, ![8, 304, 1024]⟩
abbrev S_ : Shape := ⟨0, ![]⟩
abbrev S304x1024 : Shape := ⟨2, ![304, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x304x1024, .f32⟩
  | .hbm, ⟨1, _⟩ => ⟨S_, .f32⟩
  | .hbm, ⟨2, _⟩ => ⟨S304x1024, .f32⟩
  | _, _ => ⟨S8x304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ReduceF1W1.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W1Ideal.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W1ReferenceIdeal.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .bf16⟩
  | .hbm, ⟨14, _⟩ => ⟨S8x352x1024, .f32⟩
  | .hbm, ⟨15, _⟩ => ⟨S_, .f32⟩
  | .hbm, ⟨16, _⟩ => ⟨S352x1024, .f32⟩
  | .hbm, ⟨17, _⟩ => ⟨S8x352x1024, .bf16⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S8x352x1024, .bf16⟩
  | .hbm, ⟨22, _⟩ => ⟨S8x352x1024, .f32⟩
  | .hbm, ⟨23, _⟩ => ⟨S_, .f32⟩
  | .hbm, ⟨24, _⟩ => ⟨S352x1024, .f32⟩
  | .hbm, ⟨25, _⟩ => ⟨S1x352x1024, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | .hbm, ⟨40, _⟩ => ⟨S4x352x1024, .f32⟩
  | .hbm, ⟨41, _⟩ => ⟨S_, .f32⟩
  | .hbm, ⟨42, _⟩ => ⟨S4x352x1024, .f32⟩
  | .hbm, ⟨43, _⟩ => ⟨S4x352x1024, .f32⟩
  | .hbm, ⟨44, _⟩ => ⟨S4x352x1024, .f32⟩
  | .hbm, ⟨45, _⟩ => ⟨S_, .f32⟩
  | .hbm, ⟨46, _⟩ => ⟨S4x352x1024, .f32⟩
  | .hbm, ⟨47, _⟩ => ⟨S4x352x1024, .f32⟩
  | .hbm, ⟨48, _⟩ => ⟨S_, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S_, .f32⟩
  | .hbm, ⟨53, _⟩ => ⟨S4x352x1024, .f32⟩
  | .hbm, ⟨54, _⟩ => ⟨S4x352x1024, .f32⟩
  | .hbm, ⟨55, _⟩ => ⟨S4x352x1024, .f32⟩
  | .hbm, ⟨56, _⟩ => ⟨S_, .f32⟩
  | .hbm, ⟨57, _⟩ => ⟨S4x352x1024, .f32⟩
  | .hbm, ⟨58, _⟩ => ⟨S4x352x1024, .f32⟩
  | .hbm, ⟨59, _⟩ => ⟨S4x352x1024, .f32⟩
  | .hbm, ⟨60, _⟩ => ⟨S_, .f32⟩
  | .hbm, ⟨61, _⟩ => ⟨S4x352x1024, .f32⟩
  | .hbm, ⟨62, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== ReduceF1W3.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c3_i32 : BitVec 32 := 3#32
  let v1 : BitVec 32 := Scalar.maxsi c2_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c2_i32_0 : BitVec 32 := 2#32
  let c3_i32 : BitVec 32 := 3#32
  let v1 : BitVec 32 := Scalar.maxsi c2_i32_0 v0
  let v2 : BitVec 32 := Scalar.minsi c3_i32 v1
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W3Ideal.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c3_i32 : BitVec 32 := 3#32
  let v1 : BitVec 32 := Scalar.maxsi c2_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c2_i32_0 : BitVec 32 := 2#32
  let c3_i32 : BitVec 32 := 3#32
  let v1 : BitVec 32 := Scalar.maxsi c2_i32_0 v0
  let v2 : BitVec 32 := Scalar.minsi c3_i32 v1
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W3ReferenceIdeal.lean ====
abbrev S8x352x1024 : Shape := ⟨3, ![8, 352, 1024]⟩
abbrev S8x1056x1024 : Shape := ⟨3, ![8, 1056, 1024]⟩
abbrev S4x1024x352 : Shape := ⟨3, ![4, 1024, 352]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S8x352x1024, .bf16⟩
  | .hbm, ⟨14, _⟩ => ⟨S8x352x1024, .f32⟩
  | .hbm, ⟨15, _⟩ => ⟨S_, .f32⟩
  | .hbm, ⟨16, _⟩ => ⟨S352x1024, .f32⟩
  | .hbm, ⟨17, _⟩ => ⟨S8x352x1024, .bf16⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S8x352x1024, .bf16⟩
  | .hbm, ⟨22, _⟩ => ⟨S8x352x1024, .f32⟩
  | .hbm, ⟨23, _⟩ => ⟨S_, .f32⟩
  | .hbm, ⟨24, _⟩ => ⟨S352x1024, .f32⟩
  | .hbm, ⟨25, _⟩ => ⟨S1x352x1024, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | .hbm, ⟨40, _⟩ => ⟨S4x352x1024, .f32⟩
  | .hbm, ⟨41, _⟩ => ⟨S_, .f32⟩
  | .hbm, ⟨42, _⟩ => ⟨S4x352x1024, .f32⟩
  | .hbm, ⟨43, _⟩ => ⟨S4x352x1024, .f32⟩
  | .hbm, ⟨44, _⟩ => ⟨S4x352x1024, .f32⟩
  | .hbm, ⟨45, _⟩ => ⟨S_, .f32⟩
  | .hbm, ⟨46, _⟩ => ⟨S4x352x1024, .f32⟩
  | .hbm, ⟨47, _⟩ => ⟨S4x352x1024, .f32⟩
  | .hbm, ⟨48, _⟩ => ⟨S_, .f32⟩
  | .hbm, ⟨49, _⟩ => ⟨S4x352x1024, .f32⟩
  | .hbm, ⟨50, _⟩ => ⟨S4x352x1024, .f32⟩
  | .hbm, ⟨51, _⟩ => ⟨S4x352x1024, .f32⟩
  | .hbm, ⟨52, _⟩ => ⟨S_, .f32⟩
  | .hbm, ⟨53, _⟩ => ⟨S4x352x1024, .f32⟩
  | .hbm, ⟨54, _⟩ => ⟨S4x352x1024, .f32⟩
  | .hbm, ⟨55, _⟩ => ⟨S4x352x1024, .f32⟩
  | .hbm, ⟨56, _⟩ => ⟨S_, .f32⟩
  | .hbm, ⟨57, _⟩ => ⟨S4x352x1024, .f32⟩
  | .hbm, ⟨58, _⟩ => ⟨S4x352x1024, .f32⟩
  | .hbm, ⟨59, _⟩ => ⟨S4x352x1024, .f32⟩
  | .hbm, ⟨60, _⟩ => ⟨S_, .f32⟩
  | .hbm, ⟨61, _⟩ => ⟨S4x352x1024, .f32⟩
  | .hbm, ⟨62, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== ReduceF1W2.lean ====
abbrev S8x352x1024 : Shape := ⟨3, ![8, 352, 1024]⟩
abbrev S8x1056x1024 : Shape := ⟨3, ![8, 1056, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c_m2_i32 : BitVec 32 := 4294967294#32
  let v0 : BitVec 32 := Scalar.subi arg0 c_m2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c4_i32 : BitVec 32 := 4#32
  let c5_i32 : BitVec 32 := 5#32
  let v1 : BitVec 32 := Scalar.maxsi c4_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W2Ideal.lean ====
abbrev S8x352x1024 : Shape := ⟨3, ![8, 352, 1024]⟩
abbrev S8x1056x1024 : Shape := ⟨3, ![8, 1056, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c_m2_i32 : BitVec 32 := 4294967294#32
  let v0 : BitVec 32 := Scalar.subi arg0 c_m2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c4_i32 : BitVec 32 := 4#32
  let c5_i32 : BitVec 32 := 5#32
  let v1 : BitVec 32 := Scalar.maxsi c4_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF1W2ReferenceIdeal.lean ====
abbrev S8x352x1024 : Shape := ⟨3, ![8, 352, 1024]⟩
abbrev S8x1056x1024 : Shape := ⟨3, ![8, 1056, 1024]⟩
abbrev S4x352x1024 : Shape := ⟨3, ![4, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .f32⟩
  | .hbm, ⟨8, _⟩ => ⟨S_, .f32⟩
  | .hbm, ⟨9, _⟩ => ⟨S352x1024, .f32⟩
  | .hbm, ⟨10, _⟩ => ⟨S8x352x1024, .bf16⟩
  | .hbm, ⟨11, _⟩ => ⟨S8x352x1024, .f32⟩
  | .hbm, ⟨12, _⟩ => ⟨S_, .f32⟩
  | .hbm, ⟨13, _⟩ => ⟨S352x1024, .f32⟩
  | .hbm, ⟨14, _⟩ => ⟨S8x352x1024, .bf16⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S8x352x1024, .bf16⟩
  | .hbm, ⟨19, _⟩ => ⟨S8x352x1024, .f32⟩
  | .hbm, ⟨20, _⟩ => ⟨S_, .f32⟩
  | .hbm, ⟨21, _⟩ => ⟨S352x1024, .f32⟩
  | .hbm, ⟨22, _⟩ => ⟨S1x352x1024, .f32⟩
  | .hbm, ⟨23, _⟩ => ⟨S1x352x1024, .f32⟩
  | .hbm, ⟨24, _⟩ => ⟨S1x352x1024, .f32⟩
  | .hbm, ⟨25, _⟩ => ⟨S1x352x1024, .f32⟩
  | .hbm, ⟨26, _⟩ => ⟨S4x352x1024, .f32⟩
  | .hbm, ⟨27, _⟩ => ⟨S_, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S_, .f32⟩
  | .hbm, ⟨46, _⟩ => ⟨S4x352x1024, .f32⟩
  | .hbm, ⟨47, _⟩ => ⟨S4x352x1024, .f32⟩
  | .hbm, ⟨48, _⟩ => ⟨S4x352x1024, .f32⟩
  | .hbm, ⟨49, _⟩ => ⟨S_, .f32⟩
  | .hbm, ⟨50, _⟩ => ⟨S4x352x1024, .f32⟩
  | .hbm, ⟨51, _⟩ => ⟨S4x352x1024, .f32⟩
  | .hbm, ⟨52, _⟩ => ⟨S4x352x1024, .f32⟩
  | .hbm, ⟨53, _⟩ => ⟨S_, .f32⟩
  | .hbm, ⟨54, _⟩ => ⟨S4x352x1024, .f32⟩
  | .hbm, ⟨55, _⟩ => ⟨S4x352x1024, .f32⟩
  | .hbm, ⟨56, _⟩ => ⟨S4x352x1024, .f32⟩
  | .hbm, ⟨57, _⟩ => ⟨S_, .f32⟩
  | .hbm, ⟨58, _⟩ => ⟨S4x352x1024, .f32⟩
  | .hbm, ⟨59, _⟩ => ⟨S4x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== ReduceF2W1.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W1Ideal.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W1ReferenceIdeal.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S8x352x1024, .bf16⟩
  | .hbm, ⟨11, _⟩ => ⟨S8x352x1024, .f32⟩
  | .hbm, ⟨12, _⟩ => ⟨S_, .f32⟩
  | .hbm, ⟨13, _⟩ => ⟨S352x1024, .f32⟩
  | .hbm, ⟨14, _⟩ => ⟨S8x352x1024, .bf16⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S8x352x1024, .bf16⟩
  | .hbm, ⟨19, _⟩ => ⟨S8x352x1024, .f32⟩
  | .hbm, ⟨20, _⟩ => ⟨S_, .f32⟩
  | .hbm, ⟨21, _⟩ => ⟨S352x1024, .f32⟩
  | .hbm, ⟨22, _⟩ => ⟨S8x352x1024, .bf16⟩
  | .hbm, ⟨23, _⟩ => ⟨S8x352x1024, .f32⟩
  | .hbm, ⟨24, _⟩ => ⟨S_, .f32⟩
  | .hbm, ⟨25, _⟩ => ⟨S352x1024, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S_, .f32⟩
  | .hbm, ⟨50, _⟩ => ⟨S4x352x1024, .f32⟩
  | .hbm, ⟨51, _⟩ => ⟨S4x352x1024, .f32⟩
  | .hbm, ⟨52, _⟩ => ⟨S4x352x1024, .f32⟩
  | .hbm, ⟨53, _⟩ => ⟨S_, .f32⟩
  | .hbm, ⟨54, _⟩ => ⟨S4x352x1024, .f32⟩
  | .hbm, ⟨55, _⟩ => ⟨S4x352x1024, .f32⟩
  | .hbm, ⟨56, _⟩ => ⟨S4x352x1024, .f32⟩
  | .hbm, ⟨57, _⟩ => ⟨S_, .f32⟩
  | .hbm, ⟨58, _⟩ => ⟨S4x352x1024, .f32⟩
  | .hbm, ⟨59, _⟩ => ⟨S4x352x1024, .f32⟩
  | .hbm, ⟨60, _⟩ => ⟨S4x352x1024, .f32⟩
  | .hbm, ⟨61, _⟩ => ⟨S_, .f32⟩
  | .hbm, ⟨62, _⟩ => ⟨S4x352x1024, .f32⟩
  | .hbm, ⟨63, _⟩ => ⟨S4x352x1024, .f32⟩
  | _, _ => ⟨S8x1056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== ReduceF2W3.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c_m2_i32 : BitVec 32 := 4294967294#32
  let v0 : BitVec 32 := Scalar.subi arg0 c_m2_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c3_i32 : BitVec 32 := 3#32
  let v1 : BitVec 32 := Scalar.maxsi c2_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c2_i32_0 : BitVec 32 := 2#32
  let c3_i32 : BitVec 32 := 3#32
  let v1 : BitVec 32 := Scalar.maxsi c2_i32_0 v0
  let v2 : BitVec 32 := Scalar.minsi c3_i32 v1
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W3Ideal.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c_m2_i32 : BitVec 32 := 4294967294#32
  let v0 : BitVec 32 := Scalar.subi arg0 c_m2_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c3_i32 : BitVec 32 := 3#32
  let v1 : BitVec 32 := Scalar.maxsi c2_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.subi arg0 c2_i32
  let c2_i32_0 : BitVec 32 := 2#32
  let c3_i32 : BitVec 32 := 3#32
  let v1 : BitVec 32 := Scalar.maxsi c2_i32_0 v0
  let v2 : BitVec 32 := Scalar.minsi c3_i32 v1
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.subi arg0 c4_i32
  let c2_i32 : BitVec 32 := 2#32
  let c3_i32 : BitVec 32 := 3#32
  let v1 : BitVec 32 := Scalar.maxsi c2_i32 v0
  let v2 : BitVec 32 := Scalar.minsi c3_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W3ReferenceIdeal.lean ====
abbrev S8x1056x1024 : Shape := ⟨3, ![8, 1056, 1024]⟩
abbrev S4x1024x352 : Shape := ⟨3, ![4, 1024, 352]⟩
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x1024x352, .f32⟩
  | .hbm, ⟨5, _⟩ => ⟨S4x1024x352, .f32⟩
  | .hbm, ⟨6, _⟩ => ⟨S4x1024x352, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S8x352x1024, .bf16⟩
  | .hbm, ⟨11, _⟩ => ⟨S8x352x1024, .f32⟩
  | .hbm, ⟨12, _⟩ => ⟨S_, .f32⟩
  | .hbm, ⟨13, _⟩ => ⟨S352x1024, .f32⟩
  | .hbm, ⟨14, _⟩ => ⟨S8x352x1024, .bf16⟩
  | .hbm, ⟨15, _⟩ => ⟨S8x352x1024, .f32⟩
  | .hbm, ⟨16, _⟩ => ⟨S_, .f32⟩
  | .hbm, ⟨17, _⟩ => ⟨S352x1024, .f32⟩
  | .hbm, ⟨18, _⟩ => ⟨S8x352x1024, .bf16⟩
  | .hbm, ⟨19, _⟩ => ⟨S8x352x1024, .f32⟩
  | .hbm, ⟨20, _⟩ => ⟨S_, .f32⟩
  | .hbm, ⟨21, _⟩ => ⟨S352x1024, .f32⟩
  | .hbm, ⟨22, _⟩ => ⟨S8x352x1024, .bf16⟩
  | .hbm, ⟨23, _⟩ => ⟨S8x352x1024, .f32⟩
  | .hbm, ⟨24, _⟩ => ⟨S_, .f32⟩
  | .hbm, ⟨25, _⟩ => ⟨S352x1024, .f32⟩
  | .hbm, ⟨26, _⟩ => ⟨S1x352x1024, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S4x352x1024, .f32⟩
  | .hbm, ⟨38, _⟩ => ⟨S_, .f32⟩
  | .hbm, ⟨39, _⟩ => ⟨S4x352x1024, .f32⟩
  | .hbm, ⟨40, _⟩ => ⟨S4x352x1024, .f32⟩
  | .hbm, ⟨41, _⟩ => ⟨S4x352x1024, .f32⟩
  | .hbm, ⟨42, _⟩ => ⟨S_, .f32⟩
  | .hbm, ⟨43, _⟩ => ⟨S4x352x1024, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S_, .f32⟩
  | .hbm, ⟨50, _⟩ => ⟨S4x352x1024, .f32⟩
  | .hbm, ⟨51, _⟩ => ⟨S4x352x1024, .f32⟩
  | .hbm, ⟨52, _⟩ => ⟨S4x352x1024, .f32⟩
  | .hbm, ⟨53, _⟩ => ⟨S_, .f32⟩
  | .hbm, ⟨54, _⟩ => ⟨S4x352x1024, .f32⟩
  | .hbm, ⟨55, _⟩ => ⟨S4x352x1024, .f32⟩
  | .hbm, ⟨56, _⟩ => ⟨S4x352x1024, .f32⟩
  | .hbm, ⟨57, _⟩ => ⟨S_, .f32⟩
  | .hbm, ⟨58, _⟩ => ⟨S4x352x1024, .f32⟩
  | .hbm, ⟨59, _⟩ => ⟨S4x352x1024, .f32⟩
  | .hbm, ⟨60, _⟩ => ⟨S4x352x1024, .f32⟩
  | .hbm, ⟨61, _⟩ => ⟨S_, .f32⟩
  | .hbm, ⟨62, _⟩ => ⟨S4x352x1024, .f32⟩
  | .hbm, ⟨63, _⟩ => ⟨S4x352x1024, .f32⟩
  | _, _ => ⟨S8x1056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== ReduceF2W2.lean ====
abbrev S8x1056x1024 : Shape := ⟨3, ![8, 1056, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c_m4_i32 : BitVec 32 := 4294967292#32
  let v0 : BitVec 32 := Scalar.subi arg0 c_m4_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c_m2_i32 : BitVec 32 := 4294967294#32
  let v0 : BitVec 32 := Scalar.subi arg0 c_m2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c4_i32 : BitVec 32 := 4#32
  let c5_i32 : BitVec 32 := 5#32
  let v1 : BitVec 32 := Scalar.maxsi c4_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W2Ideal.lean ====
abbrev S8x1056x1024 : Shape := ⟨3, ![8, 1056, 1024]⟩
abbrev S4x352x1024 : Shape := ⟨3, ![4, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S8x176x1024, .bf16⟩
  | .local _ .vmem, ⟨5, _⟩ => ⟨S8x176x1024, .bf16⟩
  | .local _ .vmem, ⟨6, _⟩ => ⟨S8x176x1024, .bf16⟩
  | .local _ .vmem, ⟨7, _⟩ => ⟨S8x176x1024, .bf16⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | _, _ => ⟨S8x1056x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c_m4_i32 : BitVec 32 := 4294967292#32
  let v0 : BitVec 32 := Scalar.subi arg0 c_m4_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let c_m2_i32 : BitVec 32 := 4294967294#32
  let v0 : BitVec 32 := Scalar.subi arg0 c_m2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c4_i32 : BitVec 32 := 4#32
  let c5_i32 : BitVec 32 := 5#32
  let v1 : BitVec 32 := Scalar.maxsi c4_i32 v0
  let v2 : BitVec 32 := Scalar.minsi c5_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c4_i32 : BitVec 32 := 4#32
  let c5_i32 : BitVec 32 := 5#32
  let v1 : BitVec 32 := Scalar.maxsi c4_i32 v0
  let v2 : BitVec 32 := Scalar.minsi c5_i32 v1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceF2W2ReferenceIdeal.lean ====
abbrev S8x1056x1024 : Shape := ⟨3, ![8, 1056, 1024]⟩
abbrev S4x352x1024 : Shape := ⟨3, ![4, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x1056x1024, .bf16⟩
  | .hbm, ⟨1, _⟩ => ⟨S8x1056x1024, .bf16⟩
  | .hbm, ⟨2, _⟩ => ⟨S8x1056x1024, .bf16⟩
  | .hbm, ⟨3, _⟩ => ⟨S8x1056x1024, .bf16⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S8x352x1024, .bf16⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S8x352x1024, .bf16⟩
  | .hbm, ⟨12, _⟩ => ⟨S8x352x1024, .f32⟩
  | .hbm, ⟨13, _⟩ => ⟨S_, .f32⟩
  | .hbm, ⟨14, _⟩ => ⟨S352x1024, .f32⟩
  | .hbm, ⟨15, _⟩ => ⟨S8x352x1024, .bf16⟩
  | .hbm, ⟨16, _⟩ => ⟨S8x352x1024, .f32⟩
  | .hbm, ⟨17, _⟩ => ⟨S_, .f32⟩
  | .hbm, ⟨18, _⟩ => ⟨S352x1024, .f32⟩
  | .hbm, ⟨19, _⟩ => ⟨S8x352x1024, .bf16⟩
  | .hbm, ⟨20, _⟩ => ⟨S8x352x1024, .f32⟩
  | .hbm, ⟨21, _⟩ => ⟨S_, .f32⟩
  | .hbm, ⟨22, _⟩ => ⟨S352x1024, .f32⟩
  | .hbm, ⟨23, _⟩ => ⟨S1x352x1024, .f32⟩
  | .hbm, ⟨24, _⟩ => ⟨S1x352x1024, .f32⟩
  | .hbm, ⟨25, _⟩ => ⟨S1x352x1024, .f32⟩
  | .hbm, ⟨26, _⟩ => ⟨S1x352x1024, .f32⟩
  | .hbm, ⟨27, _⟩ => ⟨S4x352x1024, .f32⟩
  | .hbm, ⟨28, _⟩ => ⟨S_, .f32⟩
  | .hbm, ⟨29, _⟩ => ⟨S4x352x1024, .f32⟩
  | .hbm, ⟨30, _⟩ => ⟨S4x352x1024, .f32⟩
  | .hbm, ⟨31, _⟩ => ⟨S_, .f32⟩
  | .hbm, ⟨32, _⟩ => ⟨S4x352x1024, .f32⟩
  | .hbm, ⟨33, _⟩ => ⟨S4x352x1024, .f32⟩
  | .hbm, ⟨34, _⟩ => ⟨S4x352x1024, .f32⟩
  | .hbm, ⟨35, _⟩ => ⟨S_, .f32⟩
  | .hbm, ⟨36, _⟩ => ⟨S4x352x1024, .f32⟩
  | .hbm, ⟨37, _⟩ => ⟨S4x352x1024, .f32⟩
  | .hbm, ⟨38, _⟩ => ⟨S4x352x1024, .f32⟩
  | .hbm, ⟨39, _⟩ => ⟨S_, .f32⟩
  | .hbm, ⟨40, _⟩ => ⟨S4x352x1024, .f32⟩
  | .hbm, ⟨41, _⟩ => ⟨S4x352x1024, .f32⟩
  | .hbm, ⟨42, _⟩ => ⟨S4x352x1024, .f32⟩
  | .hbm, ⟨43, _⟩ => ⟨S_, .f32⟩
  | .hbm, ⟨44, _⟩ => ⟨S4x352x1024, .f32⟩
  | .hbm, ⟨45, _⟩ => ⟨S4x352x1024, .f32⟩
  | .hbm, ⟨46, _⟩ => ⟨S_, .f32⟩
  | .hbm, ⟨47, _⟩ => ⟨S4x352x1024, .f32⟩
  | .hbm, ⟨48, _⟩ => ⟨S4x352x1024, .f32⟩
  | .hbm, ⟨49, _⟩ => ⟨S4x352x1024, .f32⟩
  | .hbm, ⟨50, _⟩ => ⟨S_, .f32⟩
  | .hbm, ⟨51, _⟩ => ⟨S4x352x1024, .f32⟩
  | .hbm, ⟨52, _⟩ => ⟨S4x352x1024, .f32⟩
  | .hbm, ⟨53, _⟩ => ⟨S4x352x1024, .f32⟩
  | .hbm, ⟨54, _⟩ => ⟨S_, .f32⟩
  | .hbm, ⟨55, _⟩ => ⟨S4x352x1024, .f32⟩
  | .hbm, ⟨56, _⟩ => ⟨S4x352x1024, .f32⟩
  | .hbm, ⟨57, _⟩ => ⟨S4x352x1024, .f32⟩
  | .hbm, ⟨58, _⟩ => ⟨S_, .f32⟩
  | .hbm, ⟨59, _⟩ => ⟨S4x352x1024, .f32⟩
  | .hbm, ⟨60, _⟩ => ⟨S4x352x1024, .f32⟩
  | _, _ => ⟨S8x1056x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== ReduceOut.lean ====
abbrev S8x128x1024 : Shape := ⟨3, ![8, 128, 1024]⟩
abbrev S8x384x1024 : Shape := ⟨3, ![8, 384, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c_m1_i32 : BitVec 32 := 4294967295#32
  let v0 : BitVec 32 := Scalar.subi arg0 c_m1_i32
  let c2_i32 : BitVec 32 := 2#32
  let c2_i32_0 : BitVec 32 := 2#32
  let v1 : BitVec 32 := Scalar.maxsi c2_i32 v0
  let v2 : BitVec 32 := Scalar.minsi c2_i32_0 v1
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c2_i32_0 : BitVec 32 := 2#32
  let v1 : BitVec 32 := Scalar.maxsi c2_i32 v0
  let v2 : BitVec 32 := Scalar.minsi c2_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let c2_i32_0 : BitVec 32 := 2#32
  let v1 : BitVec 32 := Scalar.maxsi c2_i32 v0
  let v2 : BitVec 32 := Scalar.minsi c2_i32_0 v1
  let c0_i32 : BitVec 32 := 0#32
  let c0_i32_1 : BitVec 32 := 0#32
  let c0_i32_2 : BitVec 32 := 0#32
  ![c0_i32.toNat, v2.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceOutIdeal.lean ====
abbrev S8x128x1024 : Shape := ⟨3, ![8, 128, 1024]⟩
abbrev S8x384x1024 : Shape := ⟨3, ![8, 384, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x128x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 3 → Nat :=
  let arg0 : BitVec 32 := BitVec.ofNat 32 (i 0).val
  let c_m1_i32 : BitVec 32 := 4294967295#32
  let v0 : BitVec 32 := Scalar.subi arg0 c_m1_i32
  let c2_i32 : BitVec 32 := 2#32
  let c2_i32_0 : BitVec 32 := 2#32
  let v1 : BitVec 32 := Scalar.maxsi c2_i32 v0
  let v2 : BitVec 32 := Scalar.minsi c2_i32_0 v1
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c2_i32 : BitVec 32 := 2#32
  let c2_i32_0 : BitVec 32 := 2#32
  let v1 : BitVec 32 := Scalar.maxsi c2_i32 v0
  let v2 : BitVec 32 := Scalar.minsi c2_i32_0 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let c2_i32_0 : BitVec 32 := 2#32
  let v1 : BitVec 32 := Scalar.maxsi c2_i32 v0
  let v2 : BitVec 32 := Scalar.minsi c2_i32_0 v1
  let c0_i32 : BitVec 32 := 0#32
  let c0_i32_1 : BitVec 32 := 0#32
  let c0_i32_2 : BitVec 32 := 0#32
  ![c0_i32.toNat, v2.toNat, c0_i32_1.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceOutReferenceIdeal.lean ====
abbrev S8x128x1024 : Shape := ⟨3, ![8, 128, 1024]⟩
abbrev S8x384x1024 : Shape := ⟨3, ![8, 384, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .bf16⟩
  | .hbm, ⟨11, _⟩ => ⟨S8x128x1024, .f32⟩
  | .hbm, ⟨12, _⟩ => ⟨S_, .f32⟩
  | .hbm, ⟨13, _⟩ => ⟨S128x1024, .f32⟩
  | .hbm, ⟨14, _⟩ => ⟨S8x128x1024, .bf16⟩
  | .hbm, ⟨15, _⟩ => ⟨S8x128x1024, .f32⟩
  | .hbm, ⟨16, _⟩ => ⟨S_, .f32⟩
  | .hbm, ⟨17, _⟩ => ⟨S128x1024, .f32⟩
  | .hbm, ⟨18, _⟩ => ⟨S8x128x1024, .bf16⟩
  | .hbm, ⟨19, _⟩ => ⟨S8x128x1024, .f32⟩
  | .hbm, ⟨20, _⟩ => ⟨S_, .f32⟩
  | .hbm, ⟨21, _⟩ => ⟨S128x1024, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S1x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S_, .f32⟩
  | .hbm, ⟨46, _⟩ => ⟨S4x128x1024, .f32⟩
  | .hbm, ⟨47, _⟩ => ⟨S4x128x1024, .f32⟩
  | .hbm, ⟨48, _⟩ => ⟨S4x128x1024, .f32⟩
  | .hbm, ⟨49, _⟩ => ⟨S_, .f32⟩
  | .hbm, ⟨50, _⟩ => ⟨S4x128x1024, .f32⟩
  | .hbm, ⟨51, _⟩ => ⟨S4x128x1024, .f32⟩
  | .hbm, ⟨52, _⟩ => ⟨S4x128x1024, .f32⟩
  | .hbm, ⟨53, _⟩ => ⟨S_, .f32⟩
  | .hbm, ⟨54, _⟩ => ⟨S4x128x1024, .f32⟩
  | .hbm, ⟨55, _⟩ => ⟨S4x128x1024, .f32⟩
  | .hbm, ⟨56, _⟩ => ⟨S4x128x1024, .f32⟩
  | .hbm, ⟨57, _⟩ => ⟨S_, .f32⟩
  | .hbm, ⟨58, _⟩ => ⟨S4x128x1024, .f32⟩
  | .hbm, ⟨59, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== ReduceIn.lean ====
abbrev S8x256x1024 : Shape := ⟨3, ![8, 256, 1024]⟩
abbrev S8x384x1024 : Shape := ⟨3, ![8, 384, 1024]⟩
abbrev S4x1024x256 : Shape := ⟨3, ![4, 1024, 256]⟩
abbrev S8x256x512 : Shape := ⟨3, ![8, 256, 512]⟩
abbrev S1x512x256 : Shape := ⟨3, ![1, 512, 256]⟩
abbrev S1x256x512 : Shape := ⟨3, ![1, 256, 512]⟩
abbrev S256x512 : Shape := ⟨2, ![256, 512]⟩
abbrev S512x256 : Shape := ⟨2, ![512, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x256x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat, v2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceInIdeal.lean ====
abbrev S8x256x1024 : Shape := ⟨3, ![8, 256, 1024]⟩
abbrev S8x384x1024 : Shape := ⟨3, ![8, 384, 1024]⟩
abbrev S4x1024x256 : Shape := ⟨3, ![4, 1024, 256]⟩
abbrev S8x256x512 : Shape := ⟨3, ![8, 256, 512]⟩
abbrev S1x512x256 : Shape := ⟨3, ![1, 512, 256]⟩
abbrev S1x256x512 : Shape := ⟨3, ![1, 256, 512]⟩
abbrev S256x512 : Shape := ⟨2, ![256, 512]⟩
abbrev S512x256 : Shape := ⟨2, ![512, 256]⟩

abbrev nBuf : Space → Nat
  | .hbm => 11
  | .vmem => 22
  | .smem => 0
  | _ => 0

abbrev bufTy : (tb : Table) → Fin (tcTables nBuf tb) → BufTy
  | .hbm, ⟨0, _⟩ => ⟨S8x256x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_8 : BitVec 32 := 2#32
  let v23 : BitVec 1 := Scalar.cmpi .eq v16 c2_i32_8
  let v24 : BitVec 32 := Scalar.extui v23
  let c0_i32_9 : BitVec 32 := 0#32
  let v25 : BitVec 1 := Scalar.cmpi .ne v24 c0_i32_9
  v25

def k0_cond4 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, c0_i32_2.toNat, v2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReduceInReferenceIdeal.lean ====
abbrev S8x256x1024 : Shape := ⟨3, ![8, 256, 1024]⟩
abbrev S8x384x1024 : Shape := ⟨3, ![8, 384, 1024]⟩
abbrev S4x1024x256 : Shape := ⟨3, ![4, 1024, 256]⟩
abbrev S_ : Shape := ⟨0, ![]⟩
abbrev S256x1024 : Shape := ⟨2, ![256, 1024]⟩
abbrev S1024x256 : Shape := ⟨2, ![1024, 256]⟩
abbrev S1x1024x256 : Shape := ⟨3, ![1, 1024, 256]⟩

abbrev nBuf : Space → Nat
  | .hbm => 64
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x384x1024, .bf16⟩
  | .hbm, ⟨2, _⟩ => ⟨S8x384x1024, .bf16⟩
  | .hbm, ⟨3, _⟩ => ⟨S8x384x1024, .bf16⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S8x256x1024, .f32⟩
  | .hbm, ⟨8, _⟩ => ⟨S_, .f32⟩
  | .hbm, ⟨9, _⟩ => ⟨S256x1024, .f32⟩
  | .hbm, ⟨10, _⟩ => ⟨S1024x256, .f32⟩
  | .hbm, ⟨11, _⟩ => ⟨S8x256x1024, .bf16⟩
  | .hbm, ⟨12, _⟩ => ⟨S8x256x1024, .f32⟩
  | .hbm, ⟨13, _⟩ => ⟨S_, .f32⟩
  | .hbm, ⟨14, _⟩ => ⟨S256x1024, .f32⟩
  | .hbm, ⟨15, _⟩ => ⟨S1024x256, .f32⟩
  | .hbm, ⟨16, _⟩ => ⟨S8x256x1024, .bf16⟩
  | .hbm, ⟨17, _⟩ => ⟨S8x256x1024, .f32⟩
  | .hbm, ⟨18, _⟩ => ⟨S_, .f32⟩
  | .hbm, ⟨19, _⟩ => ⟨S256x1024, .f32⟩
  | .hbm, ⟨20, _⟩ => ⟨S1024x256, .f32⟩
  | .hbm, ⟨21, _⟩ => ⟨S8x256x1024, .bf16⟩
  | .hbm, ⟨22, _⟩ => ⟨S8x256x1024, .f32⟩
  | .hbm, ⟨23, _⟩ => ⟨S_, .f32⟩
  | .hbm, ⟨24, _⟩ => ⟨S256x1024, .f32⟩
  | .hbm, ⟨25, _⟩ => ⟨S1024x256, .f32⟩
  | .hbm, ⟨26, _⟩ => ⟨S1x1024x256, .f32⟩
  | .hbm, ⟨27, _⟩ => ⟨S1x1024x256, .f32⟩
  | .hbm, ⟨28, _⟩ => ⟨S1x1024x256, .f32⟩
  | .hbm, ⟨29, _⟩ => ⟨S1x1024x256, .f32⟩
  | .hbm, ⟨30, _⟩ => ⟨S4x1024x256, .f32⟩
  | .hbm, ⟨31, _⟩ => ⟨S_, .f32⟩
  | .hbm, ⟨32, _⟩ => ⟨S4x1024x256, .f32⟩
  | .hbm, ⟨33, _⟩ => ⟨S4x1024x256, .f32⟩
  | .hbm, ⟨34, _⟩ => ⟨S_, .f32⟩
  | .hbm, ⟨35, _⟩ => ⟨S4x1024x256, .f32⟩
  | .hbm, ⟨36, _⟩ => ⟨S4x1024x256, .f32⟩
  | .hbm, ⟨37, _⟩ => ⟨S4x1024x256, .f32⟩
  | .hbm, ⟨38, _⟩ => ⟨S_, .f32⟩
  | .hbm, ⟨39, _⟩ => ⟨S4x1024x256, .f32⟩
  | .hbm, ⟨40, _⟩ => ⟨S4x1024x256, .f32⟩
  | .hbm, ⟨41, _⟩ => ⟨S4x1024x256, .f32⟩
  | .hbm, ⟨42, _⟩ => ⟨S_, .f32⟩
  | .hbm, ⟨43, _⟩ => ⟨S4x1024x256, .f32⟩
  | .hbm, ⟨44, _⟩ => ⟨S4x1024x256, .f32⟩
  | .hbm, ⟨45, _⟩ => ⟨S4x1024x256, .f32⟩
  | .hbm, ⟨46, _⟩ => ⟨S_, .f32⟩
  | .hbm, ⟨47, _⟩ => ⟨S4x1024x256, .f32⟩
  | .hbm, ⟨48, _⟩ => ⟨S4x1024x256, .f32⟩
  | .hbm, ⟨49, _⟩ => ⟨S_, .f32⟩
  | .hbm, ⟨50, _⟩ => ⟨S4x1024x256, .f32⟩
  | .hbm, ⟨51, _⟩ => ⟨S4x1024x256, .f32⟩
  | .hbm, ⟨52, _⟩ => ⟨S4x1024x256, .f32⟩
  | .hbm, ⟨53, _⟩ => ⟨S_, .f32⟩
  | .hbm, ⟨54, _⟩ => ⟨S4x1024x256, .f32⟩
  | .hbm, ⟨55, _⟩ => ⟨S4x1024x256, .f32⟩
  | .hbm, ⟨56, _⟩ => ⟨S4x1024x256, .f32⟩
  | .hbm, ⟨57, _⟩ => ⟨S_, .f32⟩
  | .hbm, ⟨58, _⟩ => ⟨S4x1024x256, .f32⟩
  | .hbm, ⟨59, _⟩ => ⟨S4x1024x256, .f32⟩
  | .hbm, ⟨60, _⟩ => ⟨S4x1024x256, .f32⟩
  | .hbm, ⟨61, _⟩ => ⟨S_, .f32⟩
  | .hbm, ⟨62, _⟩ => ⟨S4x1024x256, .f32⟩
  | .hbm, ⟨63, _⟩ => ⟨S4x1024x256, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== GradFirst13.lean ====
abbrev S8192x2816 : Shape := ⟨2, ![8192, 2816]⟩
abbrev S8192x1024 : Shape := ⟨2, ![8192, 1024]⟩
abbrev S8x352x1024 : Shape := ⟨3, ![8, 352, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x352x1024, .bf16⟩
  | .hbm, ⟨3, _⟩ => ⟨S8x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirst13Ideal.lean ====
abbrev S8192x2816 : Shape := ⟨2, ![8192, 2816]⟩
abbrev S8192x1024 : Shape := ⟨2, ![8192, 1024]⟩
abbrev S8x352x1024 : Shape := ⟨3, ![8, 352, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x352x1024, .bf16⟩
  | .hbm, ⟨3, _⟩ => ⟨S8x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirst13ReferenceIdeal.lean ====
abbrev S8192x2816 : Shape := ⟨2, ![8192, 2816]⟩
abbrev S8192x1024 : Shape := ⟨2, ![8192, 1024]⟩
abbrev S8x352x1024 : Shape := ⟨3, ![8, 352, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8x352x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S8x352x1024, .f32⟩
  | .hbm, ⟨12, _⟩ => ⟨S8x352x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GradFirst2.lean ====
abbrev S8192x2816 : Shape := ⟨2, ![8192, 2816]⟩
abbrev S8192x1024 : Shape := ⟨2, ![8192, 1024]⟩
abbrev S8x352x1024 : Shape := ⟨3, ![8, 352, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x352x1024, .bf16⟩
  | .hbm, ⟨3, _⟩ => ⟨S8x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirst2Ideal.lean ====
abbrev S8192x2816 : Shape := ⟨2, ![8192, 2816]⟩
abbrev S8192x1024 : Shape := ⟨2, ![8192, 1024]⟩
abbrev S8x352x1024 : Shape := ⟨3, ![8, 352, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x352x1024, .bf16⟩
  | .hbm, ⟨3, _⟩ => ⟨S8x352x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S8x352x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirst2ReferenceIdeal.lean ====
abbrev S8192x2816 : Shape := ⟨2, ![8192, 2816]⟩
abbrev S8192x1024 : Shape := ⟨2, ![8192, 1024]⟩
abbrev S8x352x1024 : Shape := ⟨3, ![8, 352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8x352x1024, .bf16⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S8x352x1024, .f32⟩
  | .hbm, ⟨16, _⟩ => ⟨S8x352x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== GradMixIn.lean ====
abbrev S8192x2048 : Shape := ⟨2, ![8192, 2048]⟩
abbrev S8192x1024 : Shape := ⟨2, ![8192, 1024]⟩
abbrev S8x384x1024 : Shape := ⟨3, ![8, 384, 1024]⟩
abbrev S1024x2048 : Shape := ⟨2, ![1024, 2048]⟩
abbrev S1024x1024 : Shape := ⟨2, ![1024, 1024]⟩
abbrev S8x256x1024 : Shape := ⟨3, ![8, 256, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x384x1024, .bf16⟩
  | .hbm, ⟨3, _⟩ => ⟨S8x384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMixInIdeal.lean ====
abbrev S8192x2048 : Shape := ⟨2, ![8192, 2048]⟩
abbrev S8192x1024 : Shape := ⟨2, ![8192, 1024]⟩
abbrev S8x384x1024 : Shape := ⟨3, ![8, 384, 1024]⟩
abbrev S1024x2048 : Shape := ⟨2, ![1024, 2048]⟩
abbrev S1024x1024 : Shape := ⟨2, ![1024, 1024]⟩
abbrev S8x256x1024 : Shape := ⟨3, ![8, 256, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x384x1024, .bf16⟩
  | .hbm, ⟨3, _⟩ => ⟨S8x384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMixInReferenceIdeal.lean ====
abbrev S8192x2048 : Shape := ⟨2, ![8192, 2048]⟩
abbrev S8192x1024 : Shape := ⟨2, ![8192, 1024]⟩
abbrev S8x384x1024 : Shape := ⟨3, ![8, 384, 1024]⟩
abbrev S_ : Shape := ⟨0, ![]⟩
abbrev S1024x2048 : Shape := ⟨2, ![1024, 2048]⟩
abbrev S2048x1024 : Shape := ⟨2, ![2048, 1024]⟩
abbrev S8x256x1024 : Shape := ⟨3, ![8, 256, 1024]⟩
abbrev S8x128x1024 : Shape := ⟨3, ![8, 128, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x384x1024, .bf16⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S8x256x1024, .f32⟩
  | .hbm, ⟨12, _⟩ => ⟨S8x256x1024, .bf16⟩
  | .hbm, ⟨13, _⟩ => ⟨S8x128x1024, .bf16⟩
  | .hbm, ⟨14, _⟩ => ⟨S8x384x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GradMixOut.lean ====
abbrev S8192x1024 : Shape := ⟨2, ![8192, 1024]⟩
abbrev S8x384x1024 : Shape := ⟨3, ![8, 384, 1024]⟩
abbrev S1024x1024 : Shape := ⟨2, ![1024, 1024]⟩
abbrev S8x128x1024 : Shape := ⟨3, ![8, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x384x1024, .bf16⟩
  | .hbm, ⟨3, _⟩ => ⟨S8x384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMixOutIdeal.lean ====
abbrev S8192x1024 : Shape := ⟨2, ![8192, 1024]⟩
abbrev S8x384x1024 : Shape := ⟨3, ![8, 384, 1024]⟩
abbrev S1024x1024 : Shape := ⟨2, ![1024, 1024]⟩
abbrev S8x128x1024 : Shape := ⟨3, ![8, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x384x1024, .bf16⟩
  | .hbm, ⟨3, _⟩ => ⟨S8x384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradMixOutReferenceIdeal.lean ====
abbrev S8192x1024 : Shape := ⟨2, ![8192, 1024]⟩
abbrev S8x384x1024 : Shape := ⟨3, ![8, 384, 1024]⟩
abbrev S_ : Shape := ⟨0, ![]⟩
abbrev S1024x1024 : Shape := ⟨2, ![1024, 1024]⟩
abbrev S8x128x1024 : Shape := ⟨3, ![8, 128, 1024]⟩
abbrev S8x256x1024 : Shape := ⟨3, ![8, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x384x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | .hbm, ⟨11, _⟩ => ⟨S8x256x1024, .bf16⟩
  | .hbm, ⟨12, _⟩ => ⟨S8x384x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GradFirstIn.lean ====
abbrev S8192x2048 : Shape := ⟨2, ![8192, 2048]⟩
abbrev S8192x1024 : Shape := ⟨2, ![8192, 1024]⟩
abbrev S8x256x1024 : Shape := ⟨3, ![8, 256, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x256x1024, .bf16⟩
  | .hbm, ⟨3, _⟩ => ⟨S8x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirstInIdeal.lean ====
abbrev S8192x2048 : Shape := ⟨2, ![8192, 2048]⟩
abbrev S8192x1024 : Shape := ⟨2, ![8192, 1024]⟩
abbrev S8x256x1024 : Shape := ⟨3, ![8, 256, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x256x1024, .bf16⟩
  | .hbm, ⟨3, _⟩ => ⟨S8x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirstInReferenceIdeal.lean ====
abbrev S8192x2048 : Shape := ⟨2, ![8192, 2048]⟩
abbrev S8192x1024 : Shape := ⟨2, ![8192, 1024]⟩
abbrev S8x256x1024 : Shape := ⟨3, ![8, 256, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8x256x1024, .bf16⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S8x256x1024, .f32⟩
  | .hbm, ⟨12, _⟩ => ⟨S8x256x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GradFirstOut.lean ====
abbrev S8192x1024 : Shape := ⟨2, ![8192, 1024]⟩
abbrev S8x128x1024 : Shape := ⟨3, ![8, 128, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x128x1024, .bf16⟩
  | .hbm, ⟨3, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradFirstOutReferenceIdeal.lean ====
abbrev S8192x1024 : Shape := ⟨2, ![8192, 1024]⟩
abbrev S8x128x1024 : Shape := ⟨3, ![8, 128, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8x128x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Pack.lean ====
abbrev S4x1024x256 : Shape := ⟨3, ![4, 1024, 256]⟩
abbrev S4x256x1024 : Shape := ⟨3, ![4, 256, 1024]⟩
abbrev S1x1024x256 : Shape := ⟨3, ![1, 1024, 256]⟩
abbrev S1x256x1024 : Shape := ⟨3, ![1, 256, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x256, .f32⟩
  | .hbm, ⟨1, _⟩ => ⟨S4x256x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x256x1024, .bf16⟩
  | .local _ .vmem, ⟨3, _⟩ => ⟨S1x256x1024, .bf16⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackReferenceIdeal.lean ====
abbrev S4x1024x256 : Shape := ⟨3, ![4, 1024, 256]⟩
abbrev S4x256x1024 : Shape := ⟨3, ![4, 256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S4x256x1024, .f32⟩
  | .hbm, ⟨2, _⟩ => ⟨S4x256x1024, .bf16⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Head.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x1024 : Shape := ⟨2, ![1024, 1024]⟩
abbrev S768x1024 : Shape := ⟨2, ![768, 1024]⟩
abbrev S512x768 : Shape := ⟨2, ![512, 768]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 21
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S2816x1024, .f32⟩
  | .hbm, ⟨8, _⟩ => ⟨S8x352x1024, .f32⟩
  | .hbm, ⟨9, _⟩ => ⟨S2816x1024, .f32⟩
  | .hbm, ⟨10, _⟩ => ⟨S8x352x1024, .f32⟩
  | .hbm, ⟨11, _⟩ => ⟨S8x352x1024, .f32⟩
  | .hbm, ⟨12, _⟩ => ⟨S8x1056x1024, .f32⟩
  | .hbm, ⟨13, _⟩ => ⟨S8x1056x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x2816, .bf16⟩
  | .hbm, ⟨18, _⟩ => ⟨S8192x2816, .bf16⟩
  | .hbm, ⟨19, _⟩ => ⟨S8x128, .f32⟩
  | .hbm, ⟨20, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S8x128, .f32⟩
  | .local _ .vmem, ⟨16, _⟩ => ⟨S8x1024, .f32⟩
  | .local _ .vmem, ⟨17, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HeadReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x2816, .bf16⟩
  | .hbm, ⟨109, _⟩ => ⟨S8192x2816, .bf16⟩
  | .hbm, ⟨110, _⟩ => ⟨S8x128, .f32⟩
  | .hbm, ⟨111, _⟩ => ⟨S1x1024, .f32⟩
  | .hbm, ⟨112, _⟩ => ⟨S_, .i32⟩
  | .hbm, ⟨113, _⟩ => ⟨S_, .f32⟩
  | .hbm, ⟨114, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_cst_12 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_cst_14 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_cst_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c : Ref sig .tc := ⟨.hbm, 112, rfl⟩
abbrev main_call1_v0 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Proof.RowMath.lean ====
/- One row of the feed-forward block over the real numbers: the normalised row, the two projections, the gate, and
   the gradients of all of them; with the passage from finite extended reals to reals. Both programs are read into
   these functions. -/
module

public import Idealize.ShloMosaic.Lib.Pointwise
public import Idealize.ShloMosaic.Lib.IdealHost

@[expose] public section

noncomputable section

namespace RowMath

open Idealize.ShloMosaic

/-- The number that the programs add to the mean square: the float nearest to a millionth. -/
def eps : ℝ := 8796093 * (2 : ℝ) ^ (-43 : ℤ)

theorem eps_pos : 0 < eps := by unfold eps; positivity

theorem bits_eps : Ideal.ofBits .f32 0x358637BD#32 = ((eps : ℝ) : EReal) := by
  simp [Ideal.ofBits, Ideal.ieee, -EReal.coe_mul, eps]

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_1024 : Ideal.ofBits .f32 0x44800000#32 = ((1024 : ℝ) : EReal) := by
  simp [Ideal.ofBits, Ideal.ieee, -EReal.coe_mul]; norm_num

/-- A finite sum of reals, taken among the extended reals. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, EReal.coe_add, ih]

/-- A real quotient by a number that is not zero. -/
theorem div_real (x y : ℝ) (h : y ≠ 0) : Ideal.div ((x : ℝ) : EReal) ((y : ℝ) : EReal) = ((x / y : ℝ) : EReal) := by
  rw [Ideal.div_coe h, ← EReal.coe_mul, mul_one_div]

/-- The reciprocal square root of a positive number. -/
theorem rsqrt_real (x : ℝ) (h : 0 < x) : Ideal.rsqrt ((x : ℝ) : EReal) = (((Real.sqrt x)⁻¹ : ℝ) : EReal) := by
  rw [Ideal.rsqrt_coe, if_neg (not_lt.2 h.le), if_neg h.ne']

/-- A table of reals as an array of extended reals. -/
def tab {n m : ℕ} (f : Fin n → Fin m → ℝ) : (⟨2, ![n, m]⟩ : Shape).Idx → EReal := fun j => ((f (j 0) (j 1) : ℝ) : EReal)

theorem tab_ix2 {n m : ℕ} (f : Fin n → Fin m → ℝ) (a : Fin n) (b : Fin m) : tab f (ix2 a b) = ((f a b : ℝ) : EReal) := rfl

/-- The logistic function. -/
def sg (a : ℝ) : ℝ := 1 / (1 + Real.exp (-a))

theorem one_add_exp_ne (a : ℝ) : 1 + Real.exp (-a) ≠ 0 := by positivity

/-- The logistic function through the hyperbolic tangent of half the argument. -/
theorem sg_tanh (a : ℝ) : 1 / 2 * Real.tanh (1 / 2 * a) + 1 / 2 = sg a := by
  have h1 : Real.exp (-a) = Real.exp (-(1 / 2 * a)) * Real.exp (-(1 / 2 * a)) := by
    rw [← Real.exp_add]; congr 1; ring
  have h2 : Real.exp (1 / 2 * a) * Real.exp (-(1 / 2 * a)) = 1 := by rw [← Real.exp_add]; simp
  rw [Real.tanh_eq_sinh_div_cosh, Real.sinh_eq, Real.cosh_eq, sg, h1]
  have p := Real.exp_pos (1 / 2 * a)
  have q := Real.exp_pos (-(1 / 2 * a))
  generalize Real.exp (1 / 2 * a) = u at *
  generalize Real.exp (-(1 / 2 * a)) = v at *
  have hs : u + v ≠ 0 := by positivity
  have ht : 1 + v * v ≠ 0 := by positivity
  field_simp
  linear_combination 2 * v * h2

/-- The mean square of a row, with the small number added. -/
def ms (x : Fin 1024 → ℝ) : ℝ := (∑ k, x k * x k) / 1024 + eps

theorem ms_pos (x : Fin 1024 → ℝ) : 0 < ms x := by
  have h : 0 ≤ ∑ k, x k * x k := Finset.sum_nonneg fun k _ => mul_self_nonneg _
  have := eps_pos
  unfold ms; positivity

/-- The factor that normalises a row. -/
def rinv (x : Fin 1024 → ℝ) : ℝ := (Real.sqrt (ms x))⁻¹

theorem rinv_sq (x : Fin 1024 → ℝ) : rinv x / ms x = rinv x * (rinv x * rinv x) := by
  have h := ms_pos x
  have hs : Real.sqrt (ms x) ≠ 0 := (Real.sqrt_pos.2 h).ne'
  unfold rinv
  rw [← mul_inv, Real.mul_self_sqrt h.le, div_eq_mul_inv]

/-- The normalised row under its gain. -/
def hid (x g : Fin 1024 → ℝ) (k : Fin 1024) : ℝ := x k * rinv x * g k

/-- A row through a projection into the hidden width. -/
def lin (h : Fin 1024 → ℝ) (w : Fin 1024 → Fin 2816 → ℝ) (f : Fin 2816) : ℝ := ∑ k, h k * w k f

/-- The gradient that reaches the gate's product: half the row's gradient, back through the last projection. -/
def du (dy : Fin 1024 → ℝ) (w2 : Fin 2816 → Fin 1024 → ℝ) (f : Fin 2816) : ℝ := ∑ c, 1 / 2 * dy c * w2 f c

/-- The gradient of the gated branch. -/
def da (a b d : ℝ) : ℝ := d * b * (sg a + a * sg a * (1 - sg a))

/-- The gradient of the linear branch. -/
def db (a d : ℝ) : ℝ := d * (a * sg a)

/-- The gate's product. -/
def uu (a b : ℝ) : ℝ := a * sg a * b

/-- Two branch gradients back through the two projections. -/
def dh (p q : Fin 2816 → ℝ) (w1 w3 : Fin 1024 → Fin 2816 → ℝ) (k : Fin 1024) : ℝ :=
  ∑ f, p f * w1 k f + ∑ f, q f * w3 k f

/-- The gradient of the row: straight through, and through the normalisation. -/
def dx (x dy g t : Fin 1024 → ℝ) (k : Fin 1024) : ℝ :=
  dy k + rinv x * (t k * g k - x k * rinv x * ((∑ c, t c * g c * (x c * rinv x)) / 1024))

/-- The gradient through the normalisation as differentiating the reciprocal square root gives it. -/
theorem dx_eq (x dy g t : Fin 1024 → ℝ) (k : Fin 1024) :
    dy k + t k * g k * rinv x + x k * ((∑ c, x c * (t c * g c)) * (-(1 / 2) * (rinv x / ms x)) / 1024)
      + (∑ c, x c * (t c * g c)) * (-(1 / 2) * (rinv x / ms x)) / 1024 * x k = dx x dy g t k := by
  have e : ∑ c, t c * g c * (x c * rinv x) = rinv x * ∑ c, x c * (t c * g c) := by
    rw [Finset.mul_sum]; exact Finset.sum_congr rfl fun c _ => by ring
  rw [rinv_sq, dx, e]
  ring

/-- A vector of reals as an array of extended reals. -/
def vec {n : ℕ} (f : Fin n → ℝ) : (⟨1, ![n]⟩ : Shape).Idx → EReal := fun j => ((f (j 0) : ℝ) : EReal)

theorem vec_ix1 {n : ℕ} (f : Fin n → ℝ) (a : Fin n) : vec f (ix1 a) = ((f a : ℝ) : EReal) := rfl

/-! ## All rows -/

variable (X DY : Fin 8192 → Fin 1024 → ℝ) (G : Fin 1024 → ℝ) (W1 W3 : Fin 1024 → Fin 2816 → ℝ) (W2 : Fin 2816 → Fin 1024 → ℝ)

/-- The first projection of row `i`. -/
abbrev pa (i : Fin 8192) : Fin 2816 → ℝ := lin (hid (X i) G) W1

/-- The gradient of the first projection of row `i`. -/
abbrev ga (i : Fin 8192) (f : Fin 2816) : ℝ := da (pa X G W1 i f) (pa X G W3 i f) (du (DY i) W2 f)

/-- The gradient of the second projection of row `i`. -/
abbrev gb (i : Fin 8192) (f : Fin 2816) : ℝ := db (pa X G W1 i f) (du (DY i) W2 f)

/-- The gradient of the normalised row `i`, under its gain. -/
abbrev gh (i : Fin 8192) : Fin 1024 → ℝ := dh (ga X DY G W1 W3 W2 i) (gb X DY G W1 W2 i) W1 W3

end RowMath

end
-- ==== Proof.FfnKernel.lean ====
/- The values of one block of the feed-forward backward kernel, read into the row functions: 256 rows, the hidden width
   taken in three pieces of 1024, 1024 and 768 columns. -/
module

public import proofs.«01_k».proof.Proof.RowMath
public import proofs.«01_k».proof.Proof.Gen.KernelIdeal.Skeleton

@[expose] public section

set_option maxRecDepth 16384

noncomputable section

namespace Cert.KernelIdeal.Rows

open Cert.KernelIdeal Cert.KernelIdeal.Gen Idealize.ShloMosaic RowMath

/-- A column of the first piece of the hidden width. -/
def c0 (k : Fin 1024) : Fin 2816 := ⟨k.val, by omega⟩
/-- A column of the second piece. -/
def c1 (k : Fin 1024) : Fin 2816 := ⟨1024 + k.val, by omega⟩
/-- A column of the third piece. -/
def c2 (k : Fin 768) : Fin 2816 := ⟨2048 + k.val, by omega⟩

/-- A sum over the hidden width, by pieces. -/
theorem sum_pieces (f : Fin 2816 → ℝ) : ∑ k, f k = ∑ k, f (c0 k) + ∑ k, f (c1 k) + ∑ k, f (c2 k) := by
  have h : ∑ k : Fin (1024 + 1024 + 768), f k = _ := Fin.sum_univ_add _
  rw [show ∑ k, f k = ∑ k : Fin (1024 + 1024 + 768), f k from rfl, h, Fin.sum_univ_add]
  rfl

/-- A weight table in the slots of the gathered set: slot `n`, row `j` holds row `352 n + j`. -/
def slot (V : Fin 2816 → Fin 1024 → ℝ) : (⟨3, ![8, 352, 1024]⟩ : Shape).Idx → EReal :=
  fun j => ((V ⟨(j 0).val * 352 + (j 1).val, by have h0 : (j 0).val < 8 := (j 0).2; have h1 : (j 1).val < 352 := (j 1).2; omega⟩ (j 2) : ℝ) : EReal)

theorem pay9 (V : Fin 2816 → Fin 1024 → ℝ) : k0_pay9 (F := Ideal) (slot V) = tab V := by
  funext j; idx_vars j
  pointwise [k0_pay9, tab_ix2, slot]
  congr 3
  omega

theorem pay10 (V : Fin 2816 → Fin 1024 → ℝ) : k0_pay10 (F := Ideal) (slot V) = tab V := pay9 V
theorem pay11 (V : Fin 2816 → Fin 1024 → ℝ) : k0_pay11 (F := Ideal) (slot V) = tab V := pay9 V

variable (x dy : Fin 256 → Fin 1024 → ℝ) (g : Fin 1 → Fin 1024 → ℝ) (a b : Fin 256 → Fin 2816 → ℝ)
  (V1 V3 V2 : Fin 2816 → Fin 1024 → ℝ)

theorem pay5 : k0_pay5 (F := Ideal) (tab x) = tab fun i _ => rinv (x i) := by
  funext j; idx_vars j
  pointwise [k0_pay5, tab_ix2]
  simp only [bits_1024, bits_eps, ← EReal.coe_mul, coe_sum]
  rw [div_real _ _ (by norm_num), ← EReal.coe_add]
  exact rsqrt_real _ (ms_pos _)

theorem pay6 : k0_pay6 (F := Ideal) (tab x) = tab fun i k => x i k * rinv (x i) := by
  unfold k0_pay6; rw [pay5]
  funext j; idx_vars j
  pointwise [tab_ix2]
  simp only [← EReal.coe_mul]

theorem pay4 : k0_pay4 (F := Ideal) (tab g) = tab g := by
  funext j; idx_vars j
  pointwise [k0_pay4, tab_ix2]

theorem pay7 : k0_pay7 (F := Ideal) (tab x) (tab g) = tab fun i => hid (x i) (g 0) := by
  unfold k0_pay7; rw [pay6, pay4]
  funext j; idx_vars j
  pointwise [tab_ix2]
  simp only [← EReal.coe_mul]; rfl

theorem pay8 : k0_pay8 (F := Ideal) (tab dy) = tab fun i k => 1 / 2 * dy i k := by
  funext j; idx_vars j
  pointwise [k0_pay8, tab_ix2]
  simp only [bits_half, ← EReal.coe_mul]

/-- The gradient at the gate's product, first piece. -/
theorem pay12 : k0_pay12 (F := Ideal) (tab fun i k => 1 / 2 * dy i k) (tab V2) = tab fun i k => du (dy i) V2 (c0 k) := by
  funext j; idx_vars j
  pointwise [k0_pay12, tab_ix2]
  simp only [← EReal.coe_mul, coe_sum]
  rfl

theorem pay21 : k0_pay21 (F := Ideal) (tab fun i k => 1 / 2 * dy i k) (tab V2) = tab fun i k => du (dy i) V2 (c1 k) := by
  funext j; idx_vars j
  pointwise [k0_pay21, tab_ix2]
  simp only [← EReal.coe_mul, coe_sum]
  rfl

theorem pay30 : k0_pay30 (F := Ideal) (tab fun i k => 1 / 2 * dy i k) (tab V2) = tab fun i k => du (dy i) V2 (c2 k) := by
  funext j; idx_vars j
  pointwise [k0_pay30, tab_ix2]
  simp only [← EReal.coe_mul, coe_sum]
  rfl

variable {p : ℕ} (al be dl : Fin 256 → Fin 1024 → ℝ) (al' be' dl' : Fin 256 → Fin 768 → ℝ)

theorem pay15 : k0_pay15 (F := Ideal) (tab al) = tab fun i k => sg (al i k) := by
  funext j; idx_vars j
  pointwise [k0_pay15, k0_pay13, tab_ix2]
  simp only [bits_half, ← EReal.coe_mul, Ideal.tanh_coe, ← EReal.coe_add, sg_tanh]

theorem pay16 : k0_pay16 (F := Ideal) (tab al) = tab fun i k => al i k * sg (al i k) := by
  unfold k0_pay16; rw [pay15]
  funext j; idx_vars j
  pointwise [k0_pay13, tab_ix2]
  simp only [← EReal.coe_mul]

theorem pay17 : k0_pay17 (F := Ideal) (tab al) (tab be) = tab fun i k => uu (al i k) (be i k) := by
  unfold k0_pay17; rw [pay16]
  funext j; idx_vars j
  pointwise [k0_pay14, tab_ix2]
  simp only [← EReal.coe_mul]; rfl

/-- The gradient of the gated branch, the second piece. -/
theorem pay27 : k0_pay27 (F := Ideal) (tab dl) (tab al) (tab be) = tab fun i k => da (al i k) (be i k) (dl i k) := by
  unfold k0_pay27
  rw [show k0_pay24 (F := Ideal) (tab al) = _ from pay15 al, show k0_pay25 (F := Ideal) (tab al) = _ from pay16 al]
  funext j; idx_vars j
  pointwise [k0_pay23, tab_ix2]
  rw [← EReal.coe_one]
  simp only [← EReal.coe_mul, ← EReal.coe_add, ← EReal.coe_sub]; rfl

theorem pay28 : k0_pay28 (F := Ideal) (tab dl) (tab al) = tab fun i k => db (al i k) (dl i k) := by
  unfold k0_pay28
  rw [show k0_pay25 (F := Ideal) (tab al) = _ from pay16 al]
  funext j; idx_vars j
  pointwise [tab_ix2]
  simp only [← EReal.coe_mul]; rfl

theorem pay26 : k0_pay26 (F := Ideal) (tab al) (tab be) = tab fun i k => uu (al i k) (be i k) := pay17 al be

theorem pay18 : k0_pay18 (F := Ideal) (tab fun i k => 1 / 2 * dy i k) (tab V2) (tab al) (tab be)
    = tab fun i k => da (al i k) (be i k) (du (dy i) V2 (c0 k)) := by
  rw [← pay27 al be fun i k => du (dy i) V2 (c0 k), ← pay12]; rfl

theorem pay19 : k0_pay19 (F := Ideal) (tab fun i k => 1 / 2 * dy i k) (tab V2) (tab al)
    = tab fun i k => db (al i k) (du (dy i) V2 (c0 k)) := by
  rw [← pay28 al fun i k => du (dy i) V2 (c0 k), ← pay12]; rfl

theorem pay34 : k0_pay34 (F := Ideal) (tab al') = tab fun i k => sg (al' i k) := by
  funext j; idx_vars j
  pointwise [k0_pay34, k0_pay32, tab_ix2]
  simp only [bits_half, ← EReal.coe_mul, Ideal.tanh_coe, ← EReal.coe_add, sg_tanh]

theorem pay35 : k0_pay35 (F := Ideal) (tab al') = tab fun i k => al' i k * sg (al' i k) := by
  unfold k0_pay35; rw [pay34]
  funext j; idx_vars j
  pointwise [k0_pay32, tab_ix2]
  simp only [← EReal.coe_mul]

theorem pay36 : k0_pay36 (F := Ideal) (tab al') (tab be') = tab fun i k => uu (al' i k) (be' i k) := by
  unfold k0_pay36; rw [pay35]
  funext j; idx_vars j
  pointwise [k0_pay33, tab_ix2]
  simp only [← EReal.coe_mul]; rfl

theorem pay37 : k0_pay37 (F := Ideal) (tab dl') (tab al') (tab be') = tab fun i k => da (al' i k) (be' i k) (dl' i k) := by
  unfold k0_pay37
  rw [pay34, pay35]
  funext j; idx_vars j
  pointwise [k0_pay33, tab_ix2]
  rw [← EReal.coe_one]
  simp only [← EReal.coe_mul, ← EReal.coe_add, ← EReal.coe_sub]; rfl

theorem pay38 : k0_pay38 (F := Ideal) (tab dl') (tab al') = tab fun i k => db (al' i k) (dl' i k) := by
  unfold k0_pay38; rw [pay35]
  funext j; idx_vars j
  pointwise [tab_ix2]
  simp only [← EReal.coe_mul]; rfl

theorem pay31 : k0_pay31 (F := Ideal) (tab al') = tab al' := by
  funext j; idx_vars j
  pointwise [k0_pay31, tab_ix2]

/-- The first piece's part of the gradient of the normalised row. -/
theorem pay20 (z : Ideal .f32) (hz : z = (0 : EReal)) : k0_pay20 (F := Ideal) (tab fun i k => 1 / 2 * dy i k) (tab V1) (tab V3) (tab V2) z (tab al) (tab be)
    = tab fun i c => ∑ k, da (al i k) (be i k) (du (dy i) V2 (c0 k)) * V1 (c0 k) c + ∑ k, db (al i k) (du (dy i) V2 (c0 k)) * V3 (c0 k) c := by
  subst hz
  unfold k0_pay20; rw [pay18, pay19]
  funext j; idx_vars j
  pointwise [tab_ix2]
  simp only [← EReal.coe_mul, coe_sum, ← EReal.coe_add]
  rfl

theorem pay29 (s : Fin 256 → Fin 1024 → ℝ) : k0_pay29 (F := Ideal) (tab V1) (tab V3) (tab s) (tab dl) (tab al) (tab be)
    = tab fun i c => s i c + ∑ k, da (al i k) (be i k) (dl i k) * V1 (c1 k) c + ∑ k, db (al i k) (dl i k) * V3 (c1 k) c := by
  unfold k0_pay29; rw [pay27, pay28]
  funext j; idx_vars j
  pointwise [tab_ix2]
  simp only [← EReal.coe_mul, coe_sum, ← EReal.coe_add]
  rfl

theorem pay39 (s : Fin 256 → Fin 1024 → ℝ) : k0_pay39 (F := Ideal) (tab V1) (tab V3) (tab s) (tab dl') (tab al') (tab be')
    = tab fun i c => s i c + ∑ k, da (al' i k) (be' i k) (dl' i k) * V1 (c2 k) c + ∑ k, db (al' i k) (dl' i k) * V3 (c2 k) c := by
  unfold k0_pay39; rw [pay37, pay38]
  funext j; idx_vars j
  pointwise [tab_ix2]
  simp only [← EReal.coe_mul, coe_sum, ← EReal.coe_add]
  rfl

/-- The gradient of the normalised row `i`, under its gain, from what the block holds. -/
def th (i : Fin 256) : Fin 1024 → ℝ :=
  dh (fun f => da (a i f) (b i f) (du (dy i) V2 f)) (fun f => db (a i f) (du (dy i) V2 f)) (fun k f => V1 f k) fun k f => V3 f k

/-- The three pieces together are the whole gradient of the normalised row. -/
theorem th_pieces : k0_pay39 (F := Ideal) (tab V1) (tab V3)
      (tab fun i c => ∑ k, da (a i (c0 k)) (b i (c0 k)) (du (dy i) V2 (c0 k)) * V1 (c0 k) c + ∑ k, db (a i (c0 k)) (du (dy i) V2 (c0 k)) * V3 (c0 k) c
        + ∑ k, da (a i (c1 k)) (b i (c1 k)) (du (dy i) V2 (c1 k)) * V1 (c1 k) c + ∑ k, db (a i (c1 k)) (du (dy i) V2 (c1 k)) * V3 (c1 k) c)
      (tab fun i k => du (dy i) V2 (c2 k)) (tab fun i k => a i (c2 k)) (tab fun i k => b i (c2 k))
    = tab (th dy a b V1 V3 V2) := by
  rw [pay39]
  congr 1; funext i c
  rw [th, dh, sum_pieces, sum_pieces]; ring

theorem zero_bits : FloatOps.ofBits (F := Ideal) FTy.f32 0#32 = (0 : EReal) := by simp [FloatOps.ofBits]

/-- The gradient of the normalised row as the run piles it up. -/
theorem th_run : k0_pay39 (F := Ideal) (tab V1) (tab V3)
      (k0_pay29 (tab V1) (tab V3)
        (k0_pay20 (tab fun i k => 1 / 2 * dy i k) (tab V1) (tab V3) (tab V2) (FloatOps.ofBits FTy.f32 0#32)
          (tab fun i k => a i (c0 k)) (tab fun i k => b i (c0 k)))
        (tab fun i k => du (dy i) V2 (c1 k)) (tab fun i k => a i (c1 k)) (tab fun i k => b i (c1 k)))
      (tab fun i k => du (dy i) V2 (c2 k)) (tab fun i k => a i (c2 k)) (tab fun i k => b i (c2 k))
    = tab (th dy a b V1 V3 V2) := by
  rw [pay20 _ _ _ _ _ _ _ zero_bits, pay29]
  exact th_pieces dy a b V1 V3 V2

variable (t : Fin 256 → Fin 1024 → ℝ)

theorem pay40 (V1 V3 : FVec Ideal S2816x1024 .bf16) (s : FVec Ideal S256x1024 .f32) (d a b) (h : k0_pay39 (F := Ideal) V1 V3 s d a b = tab t) :
    k0_pay40 (F := Ideal) (tab g) V1 V3 s d a b = tab fun i k => t i k * g 0 k := by
  unfold k0_pay40; rw [h]
  funext j; idx_vars j
  pointwise [tab_ix2]
  simp only [← EReal.coe_mul]

theorem pay41 (V1 V3 : FVec Ideal S2816x1024 .bf16) (s : FVec Ideal S256x1024 .f32) (d a b) (h : k0_pay39 (F := Ideal) V1 V3 s d a b = tab t) :
    k0_pay41 (F := Ideal) (tab g) (tab x) V1 V3 s d a b = tab fun i k => x i k * ((∑ c, t i c * g 0 c * x i c) / 1024) := by
  unfold k0_pay41; rw [pay40 g t _ _ _ _ _ _ h]
  funext j; idx_vars j
  pointwise [tab_ix2]
  simp only [bits_1024, ← EReal.coe_mul, coe_sum, div_real _ _ (show (1024 : ℝ) ≠ 0 by norm_num)]

theorem pay1 : k0_pay1 (F := Ideal) (tab dy) (tab fun i _ => rinv (x i)) (tab fun i k => t i k * g 0 k)
      (tab fun i k => x i k * rinv (x i) * ((∑ c, t i c * g 0 c * (x i c * rinv (x i))) / 1024))
    = tab fun i => dx (x i) (dy i) (g 0) (t i) := by
  funext j; idx_vars j
  pointwise [k0_pay1, tab_ix2]
  simp only [← EReal.coe_mul, ← EReal.coe_add, ← EReal.coe_sub]; rfl

/-- The row that collects the gradient of the gain: what it held, and this block's column sums. -/
theorem pay2 (s : Fin 1 → Fin 1024 → ℝ) : k0_pay2 (F := Ideal) (tab x) (tab t) (tab s) = tab fun r k => s r k + ∑ i, t i k * x i k := by
  funext j; idx_vars j
  pointwise [k0_pay2, tab_ix2]
  simp only [← EReal.coe_mul, ← EReal.coe_add, coe_sum]

theorem pay3 : k0_pay3 (F := Ideal) = tab fun _ _ => 0 := by
  funext j; idx_vars j
  pointwise [k0_pay3, tab_ix2]
  rfl

end Cert.KernelIdeal.Rows
end
-- ==== Proof.FfnHost.lean ====
/- What the host lays before the feed-forward backward kernel, and the block of it that a grid point reads. -/
module

public import proofs.«01_k».proof.Proof.FfnKernel
public import proofs.«01_k».proof.Proof.Gen.KernelIdeal.Value
public import Idealize.ShloMosaic.Lib.StableHlo.RunRead
public import Idealize.ShloMosaic.Lib.Pipeline.ValueKit.Geometry
public import Idealize.ShloMosaic.Lib.Pipeline.ValueKit.Acc

@[expose] public section

set_option maxRecDepth 16384
set_option maxHeartbeats 1000000

noncomputable section

namespace Cert.KernelIdeal.Rows

open Cert.KernelIdeal Cert.KernelIdeal.Gen Idealize.ShloMosaic Idealize.ShloMosaic.TcCoe Idealize.SL.Sem RowMath

variable (m : (ℓ : Loc nD τ sig) → Buf (Elt Ideal) ℓ)

variable (X DY : Fin 8192 → Fin 1024 → ℝ) (G : Fin 1024 → ℝ) (W1 W3 : Fin 1024 → Fin 2816 → ℝ) (W2 : Fin 2816 → Fin 1024 → ℝ)

theorem rsqrt_ms (x : Fin 1024 → ℝ) : Ideal.rsqrt (((∑ k, x k * x k) / 1024 + eps : ℝ) : EReal) = ((rinv x : ℝ) : EReal) :=
  rsqrt_real _ (ms_pos x)

variable (c : Dev nD)

/-- The first projection, as the host hands it to the kernel. -/
theorem V14 (hX : m ((c : Thread nD τ).loc main_arg0) = tab X) (hG : m ((c : Thread nD τ).loc main_arg2) = vec G)
    (hW : m ((c : Thread nD τ).loc main_arg3) = tab W1) : V m c main_v14 = tab (pa X G W1) := by
  show StableHlo.after hostOps0 _ (Proc.devRef .tc main_v14) = _
  after_results
  rw [show m (c, Proc.devRef .tc main_arg0) = tab X from hX, show m (c, Proc.devRef .tc main_arg2) = vec G from hG,
    show m (c, Proc.devRef .tc main_arg3) = tab W1 from hW]
  funext j; idx_vars j
  pointwise [tab_ix2, vec_ix1]
  simp only [bits_1024, bits_eps, ← EReal.coe_mul, coe_sum, div_real _ _ (show (1024 : ℝ) ≠ 0 by norm_num), ← EReal.coe_add, rsqrt_ms]
  rfl

theorem V16 (hX : m ((c : Thread nD τ).loc main_arg0) = tab X) (hG : m ((c : Thread nD τ).loc main_arg2) = vec G)
    (hW : m ((c : Thread nD τ).loc main_arg4) = tab W3) : V m c main_v16 = tab (pa X G W3) := by
  show StableHlo.after hostOps0 _ (Proc.devRef .tc main_v16) = _
  after_results
  rw [show m (c, Proc.devRef .tc main_arg0) = tab X from hX, show m (c, Proc.devRef .tc main_arg2) = vec G from hG,
    show m (c, Proc.devRef .tc main_arg4) = tab W3 from hW]
  funext j; idx_vars j
  pointwise [tab_ix2, vec_ix1]
  simp only [bits_1024, bits_eps, ← EReal.coe_mul, coe_sum, div_real _ _ (show (1024 : ℝ) ≠ 0 by norm_num), ← EReal.coe_add, rsqrt_ms]
  rfl

/-- The gain as a row. -/
theorem V24 (hG : m ((c : Thread nD τ).loc main_arg2) = vec G) : V m c main_v24 = tab fun (_ : Fin 1) k => G k := by
  show StableHlo.after hostOps0 _ (Proc.devRef .tc main_v24) = _
  after_results
  rw [show m (c, Proc.devRef .tc main_arg2) = vec G from hG]
  funext j; idx_vars j
  pointwise [tab_ix2, vec_ix1]

/-- The gathered weight set: in each of the eight slots 352 rows of each of the three weights. -/
theorem V23 (h1 : m ((c : Thread nD τ).loc main_arg3) = tab W1) (h3 : m ((c : Thread nD τ).loc main_arg4) = tab W3)
    (h2 : m ((c : Thread nD τ).loc main_arg5) = tab W2) (n : Fin 8) (j : Fin 352) (k : Fin 1024) :
    V m c main_v23 (ix3 n ⟨j.val, by omega⟩ k) = slot (fun f k => W1 k f) (ix3 n j k)
    ∧ V m c main_v23 (ix3 n ⟨352 + j.val, by omega⟩ k) = slot (fun f k => W3 k f) (ix3 n j k)
    ∧ V m c main_v23 (ix3 n ⟨704 + j.val, by omega⟩ k) = slot W2 (ix3 n j k) := by
  have e : (V m c main_v23 : FVec Ideal S8x1056x1024 .bf16) = truncf (F := Ideal) .bf16 (concatenate S8x1056x1024 1 [⟨S8x352x1024, StableHlo.upto (hostOps0 (F := Ideal)) (fun b => m (c, b)) 25 (Proc.devRef .tc main_v18)⟩,
      ⟨S8x352x1024, StableHlo.upto (hostOps0 (F := Ideal)) (fun b => m (c, b)) 25 (Proc.devRef .tc main_v20)⟩,
      ⟨S8x352x1024, StableHlo.upto (hostOps0 (F := Ideal)) (fun b => m (c, b)) 25 (Proc.devRef .tc main_v21)⟩] concatenates_S8x352x1024_S8x352x1024_S8x352x1024_S8x1056x1024_d1) bitsLt_bf16_f32 := by
    show StableHlo.after hostOps0 _ (Proc.devRef .tc main_v23) = _
    rw [StableHlo.after_last_write (i := 26) [main_v24] rfl rfl (by decide), StableHlo.unary_result',
      StableHlo.upto_last_write (i := 25) [] rfl rfl (by decide), StableHlo.nary_result']
    rfl
  rw [e]
  rw [StableHlo.upto_last_write (n := 25) (i := 21) (r := main_v18) [main_v19, main_v20, main_v21] rfl rfl (by decide), StableHlo.reshape_result',
    StableHlo.upto_last_write (n := 21) (i := 20) (r := main_v17) [] rfl rfl (by decide), StableHlo.unary_result',
    StableHlo.upto_last_write (n := 25) (i := 23) (r := main_v20) [main_v21] rfl rfl (by decide), StableHlo.reshape_result',
    StableHlo.upto_last_write (n := 23) (i := 22) (r := main_v19) [] rfl rfl (by decide), StableHlo.unary_result',
    StableHlo.upto_last_write (n := 25) (i := 24) (r := main_v21) [] rfl rfl (by decide), StableHlo.reshape_result',
    StableHlo.upto_unwritten (n := 20) (r := main_arg3)
      [main_v0, main_cst, main_v1, main_v2, main_cst_0, main_v3, main_v4, main_cst_1, main_v5, main_v6, main_v7, main_v8, main_v9, main_v10, main_v11, main_v12, main_v13, main_v14, main_v15, main_v16] rfl (by decide), StableHlo.upto_unwritten (n := 22) (r := main_arg4)
      [main_v0, main_cst, main_v1, main_v2, main_cst_0, main_v3, main_v4, main_cst_1, main_v5, main_v6, main_v7, main_v8, main_v9, main_v10, main_v11, main_v12, main_v13, main_v14, main_v15, main_v16, main_v17, main_v18] rfl (by decide),
    StableHlo.upto_unwritten (n := 24) (r := main_arg5)
      [main_v0, main_cst, main_v1, main_v2, main_cst_0, main_v3, main_v4, main_cst_1, main_v5, main_v6, main_v7, main_v8, main_v9, main_v10, main_v11, main_v12, main_v13, main_v14, main_v15, main_v16, main_v17, main_v18, main_v19, main_v20] rfl (by decide)]
  rw [show m (c, Proc.devRef .tc main_arg3) = tab W1 from h1, show m (c, Proc.devRef .tc main_arg4) = tab W3 from h3,
    show m (c, Proc.devRef .tc main_arg5) = tab W2 from h2]
  refine ⟨?_, ?_, ?_⟩
  · pointwise [tab_ix2]; rfl
  · pointwise [tab_ix2]; rfl
  · pointwise [tab_ix2]
    rw [dif_neg (by omega), dif_neg (by omega)]
    have q : n.val * 352 + (704 + j.val - 352 - 352) = n.val * 352 + j.val := by omega
    simp only [q]; rfl

/-! ## The block of each window at a grid point -/

/-- Rows `256 t` to `256 t + 255` of a table. -/
theorem rows_le (t : Fin cfg0.N) (i : Fin 256) : t.val * 256 + i.val < 8192 := by
  have := t.isLt; have hN : cfg0.N = 32 := rfl; omega

/-- The global row that is row `i` of the block at grid point `t`. -/
def rowAt (t : Fin cfg0.N) (i : Fin 256) : Fin 8192 := ⟨t.val * 256 + i.val, rows_le t i⟩

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![t.val, 0] := (by decide +kernel : ∀ t : Fin grid0.N, win0_3.index t = ![t.val, 0])
theorem at4 : ∀ t : Fin cfg0.N, win0_4.index t = ![0, 0] := (by decide +kernel : ∀ t : Fin grid0.N, win0_4.index t = ![0, 0])
theorem at5 : ∀ t : Fin cfg0.N, win0_5.index t = ![0, 0, 0] := (by decide +kernel : ∀ t : Fin grid0.N, win0_5.index t = ![0, 0, 0])
theorem at6 : ∀ t : Fin cfg0.N, win0_6.index t = ![0, 1, 0] := (by decide +kernel : ∀ t : Fin grid0.N, win0_6.index t = ![0, 1, 0])
theorem at7 : ∀ t : Fin cfg0.N, win0_7.index t = ![0, 2, 0] := (by decide +kernel : ∀ t : Fin grid0.N, win0_7.index t = ![0, 2, 0])

theorem blk0 (hX : m ((c : Thread nD τ).loc main_arg0) = tab X) (t : Fin cfg0.N) :
    (iblk m c 0 t : FVec Ideal S256x1024 .f32) = tab fun i k => X (rowAt t i) k := by
  refine funext fun (j : S256x1024.Idx) => ?_
  have e : ((cfg0.win 0).blk t).view.emb j = (ix2 (rowAt t (j 0)) (j 1) : S8192x1024.Idx) := by
    funext a
    apply Fin.ext
    match a with
    | ⟨0, _⟩ => show win0_0.index t 0 * 256 + 1 * (j 0).val = t.val * 256 + (j 0).val; rw [at0 t]; simp
    | ⟨1, _⟩ => show win0_0.index t 1 * 1024 + 1 * (j 1).val = (j 1).val; rw [at0 t]; simp
  show V m c main_arg0 (((cfg0.win 0).blk t).view.emb j) = _
  rw [e, Gen.V_main_arg0, hX]
  rfl

theorem blk1 (hY : m ((c : Thread nD τ).loc main_arg1) = tab DY) (t : Fin cfg0.N) :
    (iblk m c 1 t : FVec Ideal S256x1024 .f32) = tab fun i k => DY (rowAt t i) k := by
  refine funext fun (j : S256x1024.Idx) => ?_
  have e : ((cfg0.win 1).blk t).view.emb j = (ix2 (rowAt t (j 0)) (j 1) : S8192x1024.Idx) := by
    funext a
    apply Fin.ext
    match a with
    | ⟨0, _⟩ => show win0_1.index t 0 * 256 + 1 * (j 0).val = t.val * 256 + (j 0).val; rw [at1 t]; simp
    | ⟨1, _⟩ => show win0_1.index t 1 * 1024 + 1 * (j 1).val = (j 1).val; rw [at1 t]; simp
  show V m c main_arg1 (((cfg0.win 1).blk t).view.emb j) = _
  rw [e, Gen.V_main_arg1, hY]
  rfl

theorem blk2 (hX : m ((c : Thread nD τ).loc main_arg0) = tab X) (hG : m ((c : Thread nD τ).loc main_arg2) = vec G) (h1 : m ((c : Thread nD τ).loc main_arg3) = tab W1) (t : Fin cfg0.N) :
    (iblk m c 2 t : FVec Ideal S256x2816 .bf16) = tab fun i k => pa X G W1 (rowAt t i) k := by
  refine funext fun (j : S256x2816.Idx) => ?_
  have e : ((cfg0.win 2).blk t).view.emb j = (ix2 (rowAt t (j 0)) (j 1) : S8192x2816.Idx) := by
    funext a
    apply Fin.ext
    match a with
    | ⟨0, _⟩ => show win0_2.index t 0 * 256 + 1 * (j 0).val = t.val * 256 + (j 0).val; rw [at2 t]; simp
    | ⟨1, _⟩ => show win0_2.index t 1 * 2816 + 1 * (j 1).val = (j 1).val; rw [at2 t]; simp
  show V m c main_v14 (((cfg0.win 2).blk t).view.emb j) = _
  rw [e, V14 m X G W1 c hX hG h1]
  rfl

theorem blk3 (hX : m ((c : Thread nD τ).loc main_arg0) = tab X) (hG : m ((c : Thread nD τ).loc main_arg2) = vec G) (h3 : m ((c : Thread nD τ).loc main_arg4) = tab W3) (t : Fin cfg0.N) :
    (iblk m c 3 t : FVec Ideal S256x2816 .bf16) = tab fun i k => pa X G W3 (rowAt t i) k := by
  refine funext fun (j : S256x2816.Idx) => ?_
  have e : ((cfg0.win 3).blk t).view.emb j = (ix2 (rowAt t (j 0)) (j 1) : S8192x2816.Idx) := by
    funext a
    apply Fin.ext
    match a with
    | ⟨0, _⟩ => show win0_3.index t 0 * 256 + 1 * (j 0).val = t.val * 256 + (j 0).val; rw [at3 t]; simp
    | ⟨1, _⟩ => show win0_3.index t 1 * 2816 + 1 * (j 1).val = (j 1).val; rw [at3 t]; simp
  show V m c main_v16 (((cfg0.win 3).blk t).view.emb j) = _
  rw [e, V16 m X G W3 c hX hG h3]
  rfl

theorem blk4 (hG : m ((c : Thread nD τ).loc main_arg2) = vec G) (t : Fin cfg0.N) : (iblk m c 4 t : FVec Ideal S1x1024 .f32) = tab fun (_ : Fin 1) k => G k := by
  refine funext fun (j : S1x1024.Idx) => ?_
  have e : ((cfg0.win 4).blk t).view.emb j = (ix2 (j 0) (j 1) : S1x1024.Idx) := by
    funext a
    apply Fin.ext
    match a with
    | ⟨0, _⟩ => show win0_4.index t 0 * 1 + 1 * (j 0).val = (j 0).val; rw [at4 t]; simp
    | ⟨1, _⟩ => show win0_4.index t 1 * 1024 + 1 * (j 1).val = (j 1).val; rw [at4 t]; simp
  show V m c main_v24 (((cfg0.win 4).blk t).view.emb j) = _
  rw [e, V24 m G c hG]
  rfl

theorem blk5 (h1 : m ((c : Thread nD τ).loc main_arg3) = tab W1)
    (h3 : m ((c : Thread nD τ).loc main_arg4) = tab W3)
    (h2 : m ((c : Thread nD τ).loc main_arg5) = tab W2) (t : Fin cfg0.N) :
    (iblk m c 5 t : FVec Ideal S8x352x1024 .bf16) = slot (fun f k => W1 k f) := by
  refine funext fun (i : S8x352x1024.Idx) => ?_
  obtain ⟨n, j, k, rfl⟩ : ∃ (n : Fin 8) (j : Fin 352) (k : Fin 1024), i = ix3 n j k :=
    ⟨i 0, i 1, i 2, by funext a; match a with | ⟨0, _⟩ => rfl | ⟨1, _⟩ => rfl | ⟨2, _⟩ => rfl⟩
  have e : ((cfg0.win 5).blk t).view.emb (ix3 n j k : S8x352x1024.Idx) = (ix3 n ⟨j.val, by omega⟩ k : S8x1056x1024.Idx) := by
    funext a
    apply Fin.ext
    match a with
    | ⟨0, _⟩ => show win0_5.index t 0 * 8 + 1 * n.val = n.val; rw [at5 t]; simp
    | ⟨1, _⟩ => show win0_5.index t 1 * 352 + 1 * j.val = j.val; rw [at5 t]; simp
    | ⟨2, _⟩ => show win0_5.index t 2 * 1024 + 1 * k.val = k.val; rw [at5 t]; simp
  show V m c main_v23 (((cfg0.win 5).blk t).view.emb _) = _
  rw [e]
  exact (V23 m W1 W3 W2 c h1 h3 h2 n j k).1

theorem blk6 (h1 : m ((c : Thread nD τ).loc main_arg3) = tab W1)
    (h3 : m ((c : Thread nD τ).loc main_arg4) = tab W3)
    (h2 : m ((c : Thread nD τ).loc main_arg5) = tab W2) (t : Fin cfg0.N) :
    (iblk m c 6 t : FVec Ideal S8x352x1024 .bf16) = slot (fun f k => W3 k f) := by
  refine funext fun (i : S8x352x1024.Idx) => ?_
  obtain ⟨n, j, k, rfl⟩ : ∃ (n : Fin 8) (j : Fin 352) (k : Fin 1024), i = ix3 n j k :=
    ⟨i 0, i 1, i 2, by funext a; match a with | ⟨0, _⟩ => rfl | ⟨1, _⟩ => rfl | ⟨2, _⟩ => rfl⟩
  have e : ((cfg0.win 6).blk t).view.emb (ix3 n j k : S8x352x1024.Idx) = (ix3 n ⟨352 + j.val, by omega⟩ k : S8x1056x1024.Idx) := by
    funext a
    apply Fin.ext
    match a with
    | ⟨0, _⟩ => show win0_6.index t 0 * 8 + 1 * n.val = n.val; rw [at6 t]; simp
    | ⟨1, _⟩ => show win0_6.index t 1 * 352 + 1 * j.val = 352 + j.val; rw [at6 t]; simp
    | ⟨2, _⟩ => show win0_6.index t 2 * 1024 + 1 * k.val = k.val; rw [at6 t]; simp
  show V m c main_v23 (((cfg0.win 6).blk t).view.emb _) = _
  rw [e]
  exact (V23 m W1 W3 W2 c h1 h3 h2 n j k).2.1

theorem blk7 (h1 : m ((c : Thread nD τ).loc main_arg3) = tab W1)
    (h3 : m ((c : Thread nD τ).loc main_arg4) = tab W3)
    (h2 : m ((c : Thread nD τ).loc main_arg5) = tab W2) (t : Fin cfg0.N) :
    (iblk m c 7 t : FVec Ideal S8x352x1024 .bf16) = slot W2 := by
  refine funext fun (i : S8x352x1024.Idx) => ?_
  obtain ⟨n, j, k, rfl⟩ : ∃ (n : Fin 8) (j : Fin 352) (k : Fin 1024), i = ix3 n j k :=
    ⟨i 0, i 1, i 2, by funext a; match a with | ⟨0, _⟩ => rfl | ⟨1, _⟩ => rfl | ⟨2, _⟩ => rfl⟩
  have e : ((cfg0.win 7).blk t).view.emb (ix3 n j k : S8x352x1024.Idx) = (ix3 n ⟨704 + j.val, by omega⟩ k : S8x1056x1024.Idx) := by
    funext a
    apply Fin.ext
    match a with
    | ⟨0, _⟩ => show win0_7.index t 0 * 8 + 1 * n.val = n.val; rw [at7 t]; simp
    | ⟨1, _⟩ => show win0_7.index t 1 * 352 + 1 * j.val = 704 + j.val; rw [at7 t]; simp
    | ⟨2, _⟩ => show win0_7.index t 2 * 1024 + 1 * k.val = k.val; rw [at7 t]; simp
  show V m c main_v23 (((cfg0.win 7).blk t).view.emb _) = _
  rw [e]
  exact (V23 m W1 W3 W2 c h1 h3 h2 n j k).2.2

end Cert.KernelIdeal.Rows
end
-- ==== Proof.FfnBlocks.lean ====
/- What one grid point leaves in each output block of the feed-forward backward kernel. -/
module

public import proofs.«01_k».proof.Proof.FfnKernel
public import proofs.«01_k».proof.Proof.Gen.KernelIdeal.Value

@[expose] public section

set_option maxRecDepth 16384
set_option maxHeartbeats 4000000

noncomputable section

namespace Cert.KernelIdeal.Rows

open Cert.KernelIdeal Cert.KernelIdeal.Gen Idealize.ShloMosaic Idealize.ShloMosaic.TcCoe Idealize.SL.Sem RowMath

variable (m : (ℓ : Loc nD τ sig) → Buf (Elt Ideal) ℓ)

theorem hz : (![0, 0] : Fin 2 → Nat) = fun _ => 0 := by funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

section Loads
variable (a : Fin 256 → Fin 2816 → ℝ)

theorem ld_c0 (inb) : View.ld (Val := Elt Ideal) (e' := .bf16) (tab a) (Rect.unit (s := S256x2816) ![0, 0] ![256, 1024] inb) = tab fun i k => a i (c0 k) := by
  funext j; idx_vars j
  pointwise [tab_ix2]
  rfl
theorem ld_c1 (inb) : View.ld (Val := Elt Ideal) (e' := .bf16) (tab a) (Rect.unit (s := S256x2816) ![0, 1024] ![256, 1024] inb) = tab fun i k => a i (c1 k) := by
  funext j; idx_vars j
  pointwise [tab_ix2]
  rfl
theorem ld_c2 (inb) : View.ld (Val := Elt Ideal) (e' := .bf16) (tab a) (Rect.unit (s := S256x2816) ![0, 2048] ![256, 768] inb) = tab fun i k => a i (c2 k) := by
  funext j; idx_vars j
  pointwise [tab_ix2]
  rfl

/-- Three column pieces written one after another make the whole table. -/
theorem canon_pieces (i0 i1 i2) :
    View.canon (Val := Elt Ideal) (s := S256x2816) (e := .bf16) [⟨Rect.unit ![0, 2048] ![256, 768] i2, tab fun i k => a i (c2 k)⟩,
      ⟨Rect.unit ![0, 1024] ![256, 1024] i1, tab fun i k => a i (c1 k)⟩,
      ⟨Rect.unit ![0, 0] ![256, 1024] i0, tab fun i k => a i (c0 k)⟩] = tab a := by
  funext y
  refine View.canon_apply_of_pieces (Val := Elt Ideal) (e := .bf16) (tab a) _ ?_ y ?_
  · intro p hp
    simp only [List.mem_cons, List.not_mem_nil, or_false] at hp
    rcases hp with rfl | rfl | rfl
    · intro j; exact (congrFun (ld_c2 a i2) j).symm
    · intro j; exact (congrFun (ld_c1 a i1) j).symm
    · intro j; exact (congrFun (ld_c0 a i0) j).symm
  · have h0 : (y 0).val < 256 := (y 0).2
    have h1 : (y 1).val < 2816 := (y 1).2
    by_cases q0 : (y 1).val < 1024
    · refine ⟨_, List.mem_cons_of_mem _ (List.mem_cons_of_mem _ (List.mem_singleton_self _)), ?_⟩
      rw [Rect.mem_set_unit]
      intro b; match b with
        | ⟨0, _⟩ => exact ⟨Nat.zero_le _, by simpa using h0⟩
        | ⟨1, _⟩ => exact ⟨Nat.zero_le _, by simpa using q0⟩
    by_cases q1 : (y 1).val < 2048
    · refine ⟨_, List.mem_cons_of_mem _ (List.mem_cons_self), ?_⟩
      rw [Rect.mem_set_unit]
      intro b; match b with
        | ⟨0, _⟩ => exact ⟨Nat.zero_le _, by simpa using h0⟩
        | ⟨1, _⟩ => exact ⟨by simpa using q0, by simpa using q1⟩
    · refine ⟨_, List.mem_cons_self, ?_⟩
      rw [Rect.mem_set_unit]
      intro b; match b with
        | ⟨0, _⟩ => exact ⟨Nat.zero_le _, by simpa using h0⟩
        | ⟨1, _⟩ => exact ⟨by simpa using q1, by simpa using h1⟩
end Loads

variable (c : Dev nD) (t : Fin cfg0.N) (x dy : Fin 256 → Fin 1024 → ℝ) (g : Fin 1 → Fin 1024 → ℝ) (a b : Fin 256 → Fin 2816 → ℝ)
  (V1 V3 V2 : Fin 2816 → Fin 1024 → ℝ)

theorem o8_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).1 = tab fun i => dx (x i) (dy i) (g 0) (th dy a b V1 V3 V2 i) := by
  rw [outsAt0_A m c t h0]; dsimp only
  unfold out0_A_8
  rw [View.read_writes_eq_canon _ _ _ (cover0_A_8 c (grid0.coords t) _ _ _ _ _ _ _ _ _ _ _ _ _ _ _ _ _ _ _ _ _ _ _ _ _ _ _ _ ((hcond0_0 t).mpr h0) _ _ _ _ _ _ _ _ )]
  rw [e0, e1, e2, e3, e4, e5, e6, e7]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31]
  rw [pay40 _ _ _ _ _ _ _ _ (th_run dy a b V1 V3 V2), pay41 _ _ _ _ _ _ _ _ _ (th_run dy a b V1 V3 V2), pay1]

theorem o9_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.1 = tab fun i f => da (a i f) (b i f) (du (dy i) V2 f) := by
  rw [outsAt0_A m c t h0]; dsimp only
  unfold out0_A_9
  rw [View.read_writes_eq_canon _ _ _ (cover0_A_9 c (grid0.coords t) _ _ _ _ _ _ _ _ _ _ _ _ _ _ _ _ _ _ _ _ _ _ _ _ _ _ _ _ ((hcond0_0 t).mpr h0) _ _ _ _ _ _ _ _ )]
  rw [e0, e1, e2, e3, e4, e5, e6, e7]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay18, pay27, pay37]
  exact canon_pieces (fun i f => da (a i f) (b i f) (du (dy i) V2 f)) _ _ _

theorem o10_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.1 = tab fun i f => db (a i f) (du (dy i) V2 f) := by
  rw [outsAt0_A m c t h0]; dsimp only
  unfold out0_A_10
  rw [View.read_writes_eq_canon _ _ _ (cover0_A_10 c (grid0.coords t) _ _ _ _ _ _ _ _ _ _ _ _ _ _ _ _ _ _ _ _ _ _ _ _ _ _ _ _ ((hcond0_0 t).mpr h0) _ _ _ _ _ _ _ _ )]
  rw [e0, e1, e2, e3, e4, e5, e6, e7]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay19, pay28, pay38]
  exact canon_pieces (fun i f => db (a i f) (du (dy i) V2 f)) _ _ _

theorem o11_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.2.1 = tab fun i f => uu (a i f) (b i f) := by
  rw [outsAt0_A m c t h0]; dsimp only
  unfold out0_A_11
  rw [View.read_writes_eq_canon _ _ _ (cover0_A_11 c (grid0.coords t) _ _ _ _ _ _ _ _ _ _ _ _ _ _ _ _ _ _ _ _ _ _ _ _ _ _ _ _ ((hcond0_0 t).mpr h0) _ _ _ _ _ _ _ _ )]
  rw [e0, e1, e2, e3, e4, e5, e6, e7]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay17, pay26, pay36]
  exact canon_pieces (fun i f => uu (a i f) (b i f)) _ _ _

theorem o12_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.2.2.1 = tab fun i => hid (x i) (g 0) := by
  rw [outsAt0_A m c t h0]; dsimp only
  unfold out0_A_12
  rw [View.read_writes_eq_canon _ _ _ (cover0_A_12 c (grid0.coords t) _ _ _ _ _ _ _ _ _ _ _ _ _ _ _ _ _ _ _ _ _ _ _ _ _ _ _ _ ((hcond0_0 t).mpr h0) _ _ _ _ _ _ _ _ )]
  rw [e0, e1, e2, e3, e4, e5, e6, e7]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay7]

theorem o8_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).1 = tab fun i => dx (x i) (dy i) (g 0) (th dy a b V1 V3 V2 i) := by
  rw [outsAt0_B m c t h0]; dsimp only
  unfold out0_B_8
  rw [View.read_writes_eq_canon _ _ _ (cover0_B_8 c (grid0.coords t) _ _ _ _ _ _ _ _ _ _ _ _ _ _ _ _ _ _ _ _ _ _ _ _ _ _ _ _ (fun h => h0 ((hcond0_0 t).mp h)) _ _ _ _ _ _ _ _ _ )]
  rw [e0, e1, e2, e3, e4, e5, e6, e7]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31]
  rw [pay40 _ _ _ _ _ _ _ _ (th_run dy a b V1 V3 V2), pay41 _ _ _ _ _ _ _ _ _ (th_run dy a b V1 V3 V2), pay1]

theorem o9_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.1 = tab fun i f => da (a i f) (b i f) (du (dy i) V2 f) := by
  rw [outsAt0_B m c t h0]; dsimp only
  unfold out0_B_9
  rw [View.read_writes_eq_canon _ _ _ (cover0_B_9 c (grid0.coords t) _ _ _ _ _ _ _ _ _ _ _ _ _ _ _ _ _ _ _ _ _ _ _ _ _ _ _ _ (fun h => h0 ((hcond0_0 t).mp h)) _ _ _ _ _ _ _ _ _ )]
  rw [e0, e1, e2, e3, e4, e5, e6, e7]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay18, pay27, pay37]
  exact canon_pieces (fun i f => da (a i f) (b i f) (du (dy i) V2 f)) _ _ _

theorem o10_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.1 = tab fun i f => db (a i f) (du (dy i) V2 f) := by
  rw [outsAt0_B m c t h0]; dsimp only
  unfold out0_B_10
  rw [View.read_writes_eq_canon _ _ _ (cover0_B_10 c (grid0.coords t) _ _ _ _ _ _ _ _ _ _ _ _ _ _ _ _ _ _ _ _ _ _ _ _ _ _ _ _ (fun h => h0 ((hcond0_0 t).mp h)) _ _ _ _ _ _ _ _ _ )]
  rw [e0, e1, e2, e3, e4, e5, e6, e7]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay19, pay28, pay38]
  exact canon_pieces (fun i f => db (a i f) (du (dy i) V2 f)) _ _ _

theorem o11_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.2.1 = tab fun i f => uu (a i f) (b i f) := by
  rw [outsAt0_B m c t h0]; dsimp only
  unfold out0_B_11
  rw [View.read_writes_eq_canon _ _ _ (cover0_B_11 c (grid0.coords t) _ _ _ _ _ _ _ _ _ _ _ _ _ _ _ _ _ _ _ _ _ _ _ _ _ _ _ _ (fun h => h0 ((hcond0_0 t).mp h)) _ _ _ _ _ _ _ _ _ )]
  rw [e0, e1, e2, e3, e4, e5, e6, e7]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay17, pay26, pay36]
  exact canon_pieces (fun i f => uu (a i f) (b i f)) _ _ _

theorem o12_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.2.2.1 = tab fun i => hid (x i) (g 0) := by
  rw [outsAt0_B m c t h0]; dsimp only
  unfold out0_B_12
  rw [View.read_writes_eq_canon _ _ _ (cover0_B_12 c (grid0.coords t) _ _ _ _ _ _ _ _ _ _ _ _ _ _ _ _ _ _ _ _ _ _ _ _ _ _ _ _ (fun h => h0 ((hcond0_0 t).mp h)) _ _ _ _ _ _ _ _ _ )]
  rw [e0, e1, e2, e3, e4, e5, e6, e7]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay7]

end Cert.KernelIdeal.Rows
end
-- ==== Proof.FfnGain.lean ====
/- The eight rows that collect the gradient of the gain over the grid. -/
module

public import proofs.«01_k».proof.Proof.FfnBlocks
public import Idealize.ShloMosaic.Lib.WritesUnit
public import Idealize.ShloMosaic.Lib.VecWindow

@[expose] public section

set_option maxRecDepth 16384
set_option maxHeartbeats 4000000

noncomputable section

namespace Cert.KernelIdeal.Rows

open Cert.KernelIdeal Cert.KernelIdeal.Gen Idealize.ShloMosaic Idealize.ShloMosaic.TcCoe Idealize.SL.Sem RowMath

variable (m : (ℓ : Loc nD τ sig) → Buf (Elt Ideal) ℓ)

theorem ld_row0 (S : Fin 8 → Fin 1024 → ℝ) (inb) : View.ld (Val := Elt Ideal) (e' := .f32) (tab S) (Rect.unit (s := S8x1024) ![0, 0] ![1, 1024] inb)
    = tab fun (_ : Fin 1) k => S 0 k := by
  funext j; idx_vars j
  pointwise [tab_ix2]

/-- A store of the first row over what a buffer of eight rows held. -/
theorem row0_write {sp : Space} (v : View sig .tc sp S8x1024 .f32) (f : v.ty.Contents (Elt Ideal)) (L : List (View.Piece (Elt Ideal) S8x1024 .f32))
    (Z : Fin 8 → Fin 1024 → ℝ) (u : Fin 1 → Fin 1024 → ℝ) (inb) (hL : v.read (Elt Ideal) (v.writes (Elt Ideal) f L) = tab Z) :
    v.read (Elt Ideal) (v.writes (Elt Ideal) f (⟨Rect.unit (s := S8x1024) ![0, 0] ![1, 1024] inb, tab u⟩ :: L))
      = tab fun r k => if r.val = 0 then u 0 k else Z r k := by
  funext y
  by_cases h : (y 0).val = 0
  · rw [View.read_writes_cons_unit_of_mem v f inb (tab u) L y (ix2 0 (y 1)) rfl (by
      intro b; match b with
        | ⟨0, _⟩ => exact h
        | ⟨1, _⟩ => exact (Nat.zero_add _).symm)]
    show _ = (((if (y 0).val = 0 then u 0 (y 1) else Z (y 0) (y 1) : ℝ)) : EReal)
    rw [if_pos h]; rfl
  · rw [View.read_writes_cons_unit_of_not_mem v f inb (tab u) L y rfl 0 (.inr (by show 0 + 1 ≤ (y 0).val; omega)), hL]
    show _ = (((if (y 0).val = 0 then u 0 (y 1) else Z (y 0) (y 1) : ℝ)) : EReal)
    rw [if_neg h]; rfl

variable (c : Dev nD) (t : Fin cfg0.N) (x dy : Fin 256 → Fin 1024 → ℝ) (g : Fin 1 → Fin 1024 → ℝ) (a b : Fin 256 → Fin 2816 → ℝ)
  (V1 V3 V2 : Fin 2816 → Fin 1024 → ℝ)

theorem o13_A (h0 : t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2) :
    (outsAt0 m c t.val t.isLt).2.2.2.2.2 = tab fun r k => if r.val = 0 then ∑ i, x i k * rinv (x i) * th dy a b V1 V3 V2 i k else 0 := by
  rw [outsAt0_A m c t h0]; dsimp only
  unfold out0_A_13
  rw [e0, e1, e2, e3, e4, e5, e6, e7]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay3]
  rw [th_run dy a b V1 V3 V2, View.readCov_eq_canon_ld _ _ _ (fun y => ⟨_, List.mem_singleton_self _, View.mem_set_unit_zero hz inb_S8x1024_S8x1024_0_0 y⟩), View.canon_unit_zero hz]
  simp only [ld_row0, pay2]
  rw [row0_write _ _ _ (fun _ _ => 0) _ _ (View.read_writes_full _ _ _ _ _)]
  congr 1; funext r k
  simp [mul_comm]

theorem o13_B (h0 : ¬ t.val % 32 = 0) (e0 : iblk m c 0 t = tab x) (e1 : iblk m c 1 t = tab dy) (e2 : iblk m c 2 t = tab a)
    (e3 : iblk m c 3 t = tab b) (e4 : iblk m c 4 t = tab g) (e5 : iblk m c 5 t = slot V1) (e6 : iblk m c 6 t = slot V3) (e7 : iblk m c 7 t = slot V2)
    (S : Fin 8 → Fin 1024 → ℝ) (eS : (outsAt0 m c (t.val - 1) (by omega)).2.2.2.2.2 = tab S) :
    (outsAt0 m c t.val t.isLt).2.2.2.2.2 = tab fun r k => if r.val = 0 then S r k + ∑ i, x i k * rinv (x i) * th dy a b V1 V3 V2 i k else S r k := by
  rw [outsAt0_B m c t h0]; dsimp only
  unfold out0_B_13
  rw [e0, e1, e2, e3, e4, e5, e6, e7]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S256x1024) hz, View.ld_unit_zero (S := S1x1024) hz, View.ld_unit_zero (S := S8x352x1024) hz3, ld_c0, ld_c1, ld_c2,
    pay9, pay10, pay11, pay4, pay5, pay6, pay8, pay12, pay21, pay30, pay31, pay3]
  rw [th_run dy a b V1 V3 V2, eS, (hs0_13 t).read_unread]
  simp only [ld_row0, pay2]
  rw [row0_write _ _ _ S _ _ ((hs0_13 t).read_unread _)]
  congr 1; funext r k
  by_cases h : r.val = 0
  · rw [if_pos h, if_pos h, show r = 0 from Fin.ext h]
    congr 1; exact Finset.sum_congr rfl fun i _ => mul_comm _ _
  · rw [if_neg h, if_neg h]

end Cert.KernelIdeal.Rows
end
-- ==== Proof.FfnFinal.lean ====
/- The feed-forward backward kernel's result arrays, each as one function of the rows. -/
module

public import proofs.«01_k».proof.Proof.FfnHost
public import proofs.«01_k».proof.Proof.FfnGain

@[expose] public section

set_option maxRecDepth 16384
set_option maxHeartbeats 1000000

noncomputable section

namespace Cert.KernelIdeal.Rows

open Cert.KernelIdeal Cert.KernelIdeal.Gen Idealize.ShloMosaic Idealize.ShloMosaic.TcCoe Idealize.SL.Sem RowMath

theorem at8 : ∀ t : Fin cfg0.N, win0_8.index t = ![t.val, 0] := (by decide +kernel : ∀ t : Fin grid0.N, win0_8.index t = ![t.val, 0])
theorem at9 : ∀ t : Fin cfg0.N, win0_9.index t = ![t.val, 0] := (by decide +kernel : ∀ t : Fin grid0.N, win0_9.index t = ![t.val, 0])
theorem at10 : ∀ t : Fin cfg0.N, win0_10.index t = ![t.val, 0] := (by decide +kernel : ∀ t : Fin grid0.N, win0_10.index t = ![t.val, 0])
theorem at11 : ∀ t : Fin cfg0.N, win0_11.index t = ![t.val, 0] := (by decide +kernel : ∀ t : Fin grid0.N, win0_11.index t = ![t.val, 0])
theorem at12 : ∀ t : Fin cfg0.N, win0_12.index t = ![t.val, 0] := (by decide +kernel : ∀ t : Fin grid0.N, win0_12.index t = ![t.val, 0])

variable (m : (ℓ : Loc nD τ sig) → Buf (Elt Ideal) ℓ)
  (X DY : Fin 8192 → Fin 1024 → ℝ) (G : Fin 1024 → ℝ) (W1 W3 : Fin 1024 → Fin 2816 → ℝ) (W2 : Fin 2816 → Fin 1024 → ℝ) (c : Dev nD)
  (hX : m ((c : Thread nD τ).loc main_arg0) = tab X) (hY : m ((c : Thread nD τ).loc main_arg1) = tab DY)
  (hG : m ((c : Thread nD τ).loc main_arg2) = vec G) (h1 : m ((c : Thread nD τ).loc main_arg3) = tab W1)
  (h3 : m ((c : Thread nD τ).loc main_arg4) = tab W3) (h2 : m ((c : Thread nD τ).loc main_arg5) = tab W2)

/-- The gain gradient's share of grid point `p`. -/
def share (p : ℕ) (k : Fin 1024) : ℝ :=
  if h : p < 32 then ∑ i : Fin 256, X (rowAt ⟨p, h⟩ i) k * rinv (X (rowAt ⟨p, h⟩ i)) * gh X DY G W1 W3 W2 (rowAt ⟨p, h⟩ i) k else 0

include hX hY hG h1 h3 h2

theorem out8 (t : Fin cfg0.N) : (outsAt0 m c t.val t.isLt).1 = tab fun i => (fun i => dx (X i) (DY i) G (gh X DY G W1 W3 W2 i)) (rowAt t i) := by
  by_cases h0 : t.val % 32 = 0
  · have q := o8_A m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]; rfl
  · have q := o8_B m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]; rfl

theorem final8 : (dats m 0 c).arrAt 8 cfg0.N = tab (fun i => dx (X i) (DY i) G (gh X DY G W1 W3 W2 i)) := by
  refine (dats m 0 c).arrAt_eq_of_covers 8 _ (by decide +kernel) fun t _ (y : S256x1024.Idx) => ?_
  have e : ((cfg0.win 8).blk t).view.emb y = (ix2 (rowAt t (y 0)) (y 1) : S8192x1024.Idx) := by
    funext a
    apply Fin.ext
    match a with
    | ⟨0, _⟩ => show win0_8.index t 0 * 256 + 1 * (y 0).val = t.val * 256 + (y 0).val; rw [at8 t]; simp
    | ⟨1, _⟩ => show win0_8.index t 1 * 1024 + 1 * (y 1).val = (y 1).val; rw [at8 t]; simp
  rw [e]
  show (dats m 0 c).after 8 t y = _
  rw [after0_8, out8 m X DY G W1 W3 W2 c hX hY hG h1 h3 h2 t]
  rfl

theorem out9 (t : Fin cfg0.N) : (outsAt0 m c t.val t.isLt).2.1 = tab fun i => (ga X DY G W1 W3 W2) (rowAt t i) := by
  by_cases h0 : t.val % 32 = 0
  · have q := o9_A m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]
  · have q := o9_B m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]

theorem final9 : (dats m 0 c).arrAt 9 cfg0.N = tab (ga X DY G W1 W3 W2) := by
  refine (dats m 0 c).arrAt_eq_of_covers 9 _ (by decide +kernel) fun t _ (y : S256x2816.Idx) => ?_
  have e : ((cfg0.win 9).blk t).view.emb y = (ix2 (rowAt t (y 0)) (y 1) : S8192x2816.Idx) := by
    funext a
    apply Fin.ext
    match a with
    | ⟨0, _⟩ => show win0_9.index t 0 * 256 + 1 * (y 0).val = t.val * 256 + (y 0).val; rw [at9 t]; simp
    | ⟨1, _⟩ => show win0_9.index t 1 * 2816 + 1 * (y 1).val = (y 1).val; rw [at9 t]; simp
  rw [e]
  show (dats m 0 c).after 9 t y = _
  rw [after0_9, out9 m X DY G W1 W3 W2 c hX hY hG h1 h3 h2 t]
  rfl

theorem out10 (t : Fin cfg0.N) : (outsAt0 m c t.val t.isLt).2.2.1 = tab fun i => (gb X DY G W1 W2) (rowAt t i) := by
  by_cases h0 : t.val % 32 = 0
  · have q := o10_A m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]
  · have q := o10_B m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]

theorem final10 : (dats m 0 c).arrAt 10 cfg0.N = tab (gb X DY G W1 W2) := by
  refine (dats m 0 c).arrAt_eq_of_covers 10 _ (by decide +kernel) fun t _ (y : S256x2816.Idx) => ?_
  have e : ((cfg0.win 10).blk t).view.emb y = (ix2 (rowAt t (y 0)) (y 1) : S8192x2816.Idx) := by
    funext a
    apply Fin.ext
    match a with
    | ⟨0, _⟩ => show win0_10.index t 0 * 256 + 1 * (y 0).val = t.val * 256 + (y 0).val; rw [at10 t]; simp
    | ⟨1, _⟩ => show win0_10.index t 1 * 2816 + 1 * (y 1).val = (y 1).val; rw [at10 t]; simp
  rw [e]
  show (dats m 0 c).after 10 t y = _
  rw [after0_10, out10 m X DY G W1 W3 W2 c hX hY hG h1 h3 h2 t]
  rfl

theorem out11 (t : Fin cfg0.N) : (outsAt0 m c t.val t.isLt).2.2.2.1 = tab fun i => (fun i f => uu (pa X G W1 i f) (pa X G W3 i f)) (rowAt t i) := by
  by_cases h0 : t.val % 32 = 0
  · have q := o11_A m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]
  · have q := o11_B m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]

theorem final11 : (dats m 0 c).arrAt 11 cfg0.N = tab (fun i f => uu (pa X G W1 i f) (pa X G W3 i f)) := by
  refine (dats m 0 c).arrAt_eq_of_covers 11 _ (by decide +kernel) fun t _ (y : S256x2816.Idx) => ?_
  have e : ((cfg0.win 11).blk t).view.emb y = (ix2 (rowAt t (y 0)) (y 1) : S8192x2816.Idx) := by
    funext a
    apply Fin.ext
    match a with
    | ⟨0, _⟩ => show win0_11.index t 0 * 256 + 1 * (y 0).val = t.val * 256 + (y 0).val; rw [at11 t]; simp
    | ⟨1, _⟩ => show win0_11.index t 1 * 2816 + 1 * (y 1).val = (y 1).val; rw [at11 t]; simp
  rw [e]
  show (dats m 0 c).after 11 t y = _
  rw [after0_11, out11 m X DY G W1 W3 W2 c hX hY hG h1 h3 h2 t]
  rfl

theorem out12 (t : Fin cfg0.N) : (outsAt0 m c t.val t.isLt).2.2.2.2.1 = tab fun i => (fun i => hid (X i) G) (rowAt t i) := by
  by_cases h0 : t.val % 32 = 0
  · have q := o12_A m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]
  · have q := o12_B m c t _ _ _ _ _ _ _ _ h0 (blk0 m X c hX t) (blk1 m DY c hY t) (blk2 m X G W1 c hX hG h1 t)
      (blk3 m X G W3 c hX hG h3 t) (blk4 m G c hG t) (blk5 m W1 W3 W2 c h1 h3 h2 t) (blk6 m W1 W3 W2 c h1 h3 h2 t) (blk7 m W1 W3 W2 c h1 h3 h2 t)
    rw [q]

theorem final12 : (dats m 0 c).arrAt 12 cfg0.N = tab (fun i => hid (X i) G) := by
  refine (dats m 0 c).arrAt_eq_of_covers 12 _ (by decide +kernel) fun t _ (y : S256x1024.Idx) => ?_
  have e : ((cfg0.win 12).blk t).view.emb y = (ix2 (rowAt t (y 0)) (y 1) : S8192x1024.Idx) := by
    funext a
    apply Fin.ext
    match a with
    | ⟨0, _⟩ => show win0_12.index t 0 * 256 + 1 * (y 0).val = t.val * 256 + (y 0).val; rw [at12 t]; simp
    | ⟨1, _⟩ => show win0_12.index t 1 * 1024 + 1 * (y 1).val = (y 1).val; rw [at12 t]; simp
  rw [e]
  show (dats m 0 c).after 12 t y = _
  rw [after0_12, out12 m X DY G W1 W3 W2 c hX hY hG h1 h3 h2 t]
  rfl

theorem out13 (n : ℕ) (hn : n < cfg0.N) : (outsAt0 m c n hn).2.2.2.2.2
    = tab fun r k => if r.val = 0 then ∑ p ∈ Finset.range (n + 1), share X DY G W1 W3 W2 p k else 0 := by
  have hN : cfg0.N = 32 := rfl
  induction n with
  | zero =>
    have q := o13_A m c ⟨0, hn⟩ _ _ _ _ _ _ _ _ rfl (blk0 m X c hX ⟨0, hn⟩) (blk1 m DY c hY ⟨0, hn⟩) (blk2 m X G W1 c hX hG h1 ⟨0, hn⟩)
      (blk3 m X G W3 c hX hG h3 ⟨0, hn⟩) (blk4 m G c hG ⟨0, hn⟩) (blk5 m W1 W3 W2 c h1 h3 h2 ⟨0, hn⟩) (blk6 m W1 W3 W2 c h1 h3 h2 ⟨0, hn⟩) (blk7 m W1 W3 W2 c h1 h3 h2 ⟨0, hn⟩)
    refine q.trans ?_
    congr 1; funext r k
    rw [Finset.sum_range_one]
    rfl
  | succ n ih =>
    have h0 : ¬ (n + 1) % 32 = 0 := by omega
    have q := o13_B m c ⟨n + 1, hn⟩ _ _ _ _ _ _ _ _ h0 (blk0 m X c hX ⟨n + 1, hn⟩) (blk1 m DY c hY ⟨n + 1, hn⟩) (blk2 m X G W1 c hX hG h1 ⟨n + 1, hn⟩)
      (blk3 m X G W3 c hX hG h3 ⟨n + 1, hn⟩) (blk4 m G c hG ⟨n + 1, hn⟩) (blk5 m W1 W3 W2 c h1 h3 h2 ⟨n + 1, hn⟩) (blk6 m W1 W3 W2 c h1 h3 h2 ⟨n + 1, hn⟩) (blk7 m W1 W3 W2 c h1 h3 h2 ⟨n + 1, hn⟩) _ (ih (by omega))
    refine q.trans ?_
    congr 1; funext r k
    by_cases hr : r.val = 0
    · rw [if_pos hr, if_pos hr, if_pos hr, Finset.sum_range_succ _ (n + 1)]
      congr 1
      unfold share
      rw [dif_pos (by omega : n + 1 < 32)]
      rfl
    · rw [if_neg hr, if_neg hr, if_neg hr]

theorem final13 : (dats m 0 c).arrAt 13 cfg0.N
    = tab fun (r : Fin 8) k => if r.val = 0 then ∑ i, X i k * rinv (X i) * gh X DY G W1 W3 W2 i k else 0 := by
  refine (dats m 0 c).arrAt_eq_of_after_last 13 ⟨31, by decide⟩ (by decide +kernel) _ fun (y : S8x1024.Idx) => ?_
  show (dats m 0 c).after 13 ⟨31, by decide⟩ y = _
  rw [after0_13, out13 m X DY G W1 W3 W2 c hX hY hG h1 h3 h2]
  show tab _ (y : S8x1024.Idx) = tab _ (y : S8x1024.Idx)
  congr 1; funext r k
  by_cases hr : r.val = 0
  · rw [if_pos hr, if_pos hr, Finset.sum_range, ← Fin.sum_mul_add_fin (L := 8192) 32 256]
    refine Finset.sum_congr rfl fun p _ => ?_
    unfold share
    rw [dif_pos p.isLt]
    rfl
  · rw [if_neg hr, if_neg hr]

end Cert.KernelIdeal.Rows
end
-- ==== Proof.FfnRef.lean ====
/- The reference of the feed-forward gradients, read into the row functions. -/
module

public import proofs.«01_k».proof.Proof.RowMath
public import proofs.«01_k».proof.Proof.Gen.ReferenceIdeal.Read

@[expose] public section

set_option maxRecDepth 16384

noncomputable section

namespace Cert.ReferenceIdeal.Rows

open Cert.ReferenceIdeal Cert.ReferenceIdeal.Read Idealize.ShloMosaic RowMath

variable (X DY : Fin 8192 → Fin 1024 → ℝ) (G : Fin 1024 → ℝ) (W1 W3 : Fin 1024 → Fin 2816 → ℝ) (W2 : Fin 2816 → Fin 1024 → ℝ)

theorem v6 : val_main_v6 (F := Ideal) (tab X) = tab fun i _ => ms (X i) := by
  funext j; idx_vars j
  pointwise [val_main_v6, val_main_v4, val_main_v2, val_main_v3, val_main_v5, val_main_v1, val_main_cst_1, val_main_cst_0, val_main_v0,
    val_main_cst, tab_ix2]
  simp only [bits_1024, bits_eps, ← EReal.coe_mul, coe_sum]
  rw [div_real _ _ (by norm_num), ← EReal.coe_add]; rfl

theorem v30 : val_main_v30 (F := Ideal) (tab X) = tab fun i _ => ms (X i) := v6 X

theorem v7 : val_main_v7 (F := Ideal) (tab X) = tab fun i _ => rinv (X i) := by
  unfold val_main_v7; rw [v6]
  funext j; idx_vars j
  pointwise [tab_ix2]
  exact rsqrt_real _ (ms_pos _)

theorem v31 : val_main_v31 (F := Ideal) (tab X) = tab fun i _ => rinv (X i) := v7 X

theorem v12 : val_main_v12 (F := Ideal) (tab X) (vec G) = tab fun i => hid (X i) G := by
  unfold val_main_v12 val_main_v9 val_main_v8; rw [v7]
  funext j; idx_vars j
  pointwise [val_main_v11, val_main_v10, tab_ix2, vec_ix1]
  simp only [← EReal.coe_mul]; rfl

theorem v39 : val_main_v39 (F := Ideal) (tab X) (vec G) = tab fun i => hid (X i) G := v12 X G

theorem v13 : val_main_v13 (F := Ideal) (tab X) (vec G) (tab W1) = tab (pa X G W1) := by
  unfold val_main_v13; rw [v12]
  funext j; idx_vars j
  pointwise [tab_ix2]
  simp only [← EReal.coe_mul, coe_sum]; rfl

theorem v14 : val_main_v14 (F := Ideal) (tab X) (vec G) (tab W3) = tab (pa X G W3) := v13 X G W3
theorem v40 : val_main_v40 (F := Ideal) (tab X) (vec G) (tab W1) = tab (pa X G W1) := v13 X G W1
theorem v42 : val_main_v42 (F := Ideal) (tab X) (vec G) (tab W3) = tab (pa X G W3) := v13 X G W3

theorem v15_2 : val_main_v15_2 (F := Ideal) (tab X) (vec G) (tab W1) = tab fun i f => sg (pa X G W1 i f) := by
  unfold val_main_v15_2 val_main_call0_v3 val_main_call0_v1 val_main_call0_v0; rw [v13]
  funext j; idx_vars j
  pointwise [val_main_call0_v4, val_main_call0_v2, val_main_call0_cst, val_main_call0_cst_0, tab_ix2]
  rw [← EReal.coe_one, ← EReal.coe_neg, Ideal.exp_coe, ← EReal.coe_add, div_real _ _ (one_add_exp_ne _)]; rfl

theorem v41_2 : val_main_v41_2 (F := Ideal) (tab X) (vec G) (tab W1) = tab fun i f => sg (pa X G W1 i f) := v15_2 X G W1
theorem v4_5 : val_main_call4_v5 (F := Ideal) (tab X) (vec G) (tab W1) = tab fun i f => sg (pa X G W1 i f) := v15_2 X G W1

theorem v20 : val_main_v20 (F := Ideal) (tab DY) (tab W2) = tab fun i => du (DY i) W2 := by
  funext j; idx_vars j
  pointwise [val_main_v20, val_main_v19, val_main_v18, val_main_cst_2, tab_ix2]
  simp only [bits_half, ← EReal.coe_mul, coe_sum]; rfl

theorem v51 : val_main_v51 (F := Ideal) (tab DY) (tab W2) = tab fun i => du (DY i) W2 := by
  funext j; idx_vars j
  pointwise [val_main_v51, val_main_v50, val_main_v49, val_main_v48, val_main_cst_8, tab_ix2]
  simp only [bits_half, ← EReal.coe_mul, coe_sum]; rfl

/-- The second result: the gradient of the first projection. -/
theorem v79 : val_main_v79 (F := Ideal) (tab X) (tab DY) (vec G) (tab W1) (tab W3) (tab W2) = tab (ga X DY G W1 W3 W2) := by
  unfold val_main_v79 val_main_v23 val_main_call1_v1 val_main_call1_v2 val_main_call1_v0 val_main_v15_1 val_main_call0_v7 val_main_v22
  rw [v15_2, v13, v14, v20]
  funext j; idx_vars j
  pointwise [val_main_call0_v6, val_main_call0_cst_1, tab_ix2]
  rw [← EReal.coe_one]
  simp only [← EReal.coe_mul, ← EReal.coe_sub, ← EReal.coe_add, ga, da]
  congr 1; ring

theorem v55 : val_main_v55 (F := Ideal) (tab X) (tab DY) (vec G) (tab W1) (tab W3) (tab W2) = tab (ga X DY G W1 W3 W2) := by
  unfold val_main_v55 val_main_call3_v1 val_main_call3_v2 val_main_call3_v0 val_main_v41_1 val_main_call2_v7 val_main_v53
  rw [v41_2, v40, v42, v51]
  funext j; idx_vars j
  pointwise [val_main_call2_v6, val_main_call2_cst_1, tab_ix2]
  rw [← EReal.coe_one]
  simp only [← EReal.coe_mul, ← EReal.coe_sub, ← EReal.coe_add, ga, da]
  congr 1; ring

/-- The third result: the gradient of the second projection. -/
theorem v80 : val_main_v80 (F := Ideal) (tab X) (tab DY) (vec G) (tab W1) (tab W2) = tab (gb X DY G W1 W2) := by
  unfold val_main_v80 val_main_v21 val_main_v15_0
  rw [v15_2, v13, v20]
  funext j; idx_vars j
  pointwise [tab_ix2]
  simp only [← EReal.coe_mul, gb, db]
  congr 1; ring

theorem v52 : val_main_v52 (F := Ideal) (tab X) (tab DY) (vec G) (tab W1) (tab W2) = tab (gb X DY G W1 W2) := by
  unfold val_main_v52 val_main_v41_0
  rw [v41_2, v40, v51]
  funext j; idx_vars j
  pointwise [tab_ix2]
  simp only [← EReal.coe_mul, gb, db]
  congr 1; ring

/-- The fourth result: the gate's product. -/
theorem v83 : val_main_v83 (F := Ideal) (tab X) (vec G) (tab W1) (tab W3)
    = tab fun i f => uu (pa X G W1 i f) (pa X G W3 i f) := by
  unfold val_main_v83 val_main_v82 val_main_v81
  rw [v4_5, v13, v14]
  funext j; idx_vars j
  pointwise [tab_ix2]
  simp only [← EReal.coe_mul]; rfl

/-- The fifth result: the normalised rows. -/
theorem v84 : val_main_v84 (F := Ideal) (tab X) (vec G) = tab fun i => hid (X i) G := by
  unfold val_main_v84
  rw [v12]; rfl

theorem v57 : val_main_v57 (F := Ideal) (tab X) (tab DY) (vec G) (tab W1) (tab W3) (tab W2) = tab (gh X DY G W1 W3 W2) := by
  unfold val_main_v57 val_main_v54 val_main_v56
  rw [v52, v55]
  funext j; idx_vars j
  pointwise [tab_ix2]
  simp only [← EReal.coe_mul, coe_sum, ← EReal.coe_add, gh, dh]
  congr 1; ring

theorem v64 : val_main_v64 (F := Ideal) (tab X) (tab DY) (vec G) (tab W1) (tab W3) (tab W2)
    = tab fun i k => X i k * (gh X DY G W1 W3 W2 i k * G k) := by
  unfold val_main_v64 val_main_v62
  rw [v57]
  funext j; idx_vars j
  pointwise [val_main_v61, val_main_v37, tab_ix2, vec_ix1]
  simp only [← EReal.coe_mul]

theorem v62 : val_main_v62 (F := Ideal) (tab X) (tab DY) (vec G) (tab W1) (tab W3) (tab W2)
    = tab fun i k => gh X DY G W1 W3 W2 i k * G k := by
  unfold val_main_v62
  rw [v57]
  funext j; idx_vars j
  pointwise [val_main_v61, val_main_v37, tab_ix2, vec_ix1]
  simp only [← EReal.coe_mul]

theorem v74 : val_main_v74 (F := Ideal) (tab X) (tab DY) (vec G) (tab W1) (tab W3) (tab W2)
    = tab fun i _ => (∑ c, X i c * (gh X DY G W1 W3 W2 i c * G c)) * (-(1 / 2) * (rinv (X i) / ms (X i))) / 1024 := by
  unfold val_main_v74 val_main_v73 val_main_v72 val_main_v70 val_main_v66 val_main_v65 val_main_v34 val_main_v32
  rw [v64, v30, v31]
  funext j; idx_vars j
  pointwise [val_main_v71, val_main_cst_12, val_main_cst_13, val_main_cst_11, val_main_cst_6, val_main_v33, tab_ix2]
  simp only [bits_1024, bits_neg_half, div_real _ _ (ms_pos _).ne', ← EReal.coe_mul, coe_sum, div_real _ _ (show (1024 : ℝ) ≠ 0 by norm_num)]
  simp

/-- The first result: the gradient of the block's input. -/
theorem v78 : val_main_v78 (F := Ideal) (tab X) (tab DY) (vec G) (tab W1) (tab W3) (tab W2)
    = tab fun i => dx (X i) (DY i) G (gh X DY G W1 W3 W2 i) := by
  unfold val_main_v78 val_main_v76 val_main_v77 val_main_v75 val_main_v69 val_main_v68 val_main_v67
  rw [v74, v62, v31]
  funext j; idx_vars j
  pointwise [tab_ix2]
  simp only [← EReal.coe_mul, ← EReal.coe_add]
  rw [← dx_eq]

/-- The sixth result: the gradient of the gain, in the first of eight rows. -/
theorem v86 : val_main_v86 (F := Ideal) (tab X) (tab DY) (vec G) (tab W1) (tab W3) (tab W2)
    = tab fun r k => if r.val = 0 then ∑ i, X i k * rinv (X i) * gh X DY G W1 W3 W2 i k else 0 := by
  unfold val_main_v86 val_main_v85 val_main_v63 val_main_v60 val_main_v59 val_main_v58 val_main_v36 val_main_v35
  rw [v57, v31]
  funext j; idx_vars j
  pointwise [val_main_cst_9, val_main_cst_10, val_main_call5_v0, val_main_c, tab_ix2]
  simp only [← EReal.coe_mul, coe_sum]
  by_cases h : j0.val = 0
  · rw [dif_pos (by omega), if_pos h]; simp
  · rw [dif_neg (by omega), if_neg h]; simp [FloatOps.sitofp]

end Cert.ReferenceIdeal.Rows
end
-- ==== Proof.Finite.lean ====
/- Arguments every entry of which is a finite number are tables of real numbers. -/
module

public import proofs.«01_k».proof.Proof.RowMath
public import proofs.«01_k».proof.Pre_finite
public import Idealize.ShloMosaic.Lib.ReduceAll

@[expose] public section

noncomputable section

namespace Cert.Pre_finite.Real

open Idealize.ShloMosaic RowMath

theorem inf_bits : Ideal.ofBits FTy.f32 0x7F800000#32 = (⊤ : EReal) := by
  simp [Ideal.ofBits, Ideal.ieee]

/-- An extended real whose absolute value is below infinity is a real number. -/
theorem real_of_abs {x : EReal} (h : max x (-x) < ⊤) : x = ((x.toReal : ℝ) : EReal) := by
  rw [EReal.coe_toReal]
  · rintro rfl; simp at h
  · rintro rfl; simp at h

/-- One conjunct of the precondition: every entry of `x` is a real number. -/
theorem real_of_all {s t u : Shape} {axes : List (Fin s.rank)} [Subsingleton t.Idx] (x : FVec Ideal s .f32) (b : S_.BroadcastsInDim s (![] : Fin 0 → Fin s.rank))
    (init : u.Idx → BitVec 1) (h : s.ReducesTo axes t) (hu : 0 < u.numel) (j : t.Idx)
    (e : Host.reduce IntOp.andi (cmpf .olt (Host.absf x) (broadcastInDim s ![] b (constant (F := Ideal) S_ .f32 0x7F800000#32))) init h hu j = 1#1) (i : s.Idx) :
    x i = (((x i).toReal : ℝ) : EReal) := by
  have q := Host.reduce_andi_all _ _ _ _ j e i
  apply real_of_abs
  rw [← inf_bits]
  unfold cmpf Host.absf broadcastInDim constant at q
  by_contra hn
  have w : Ideal.cmp .olt (max (x i) (-x i)) (Ideal.ofBits FTy.f32 0x7F800000#32) = 1#1 := q
  simp [Ideal.cmp, hn] at w

theorem and_one {a b : BitVec 1} (h : IntOp.andi a b = 1#1) : a = 1#1 ∧ b = 1#1 := by revert h; revert a b; decide

theorem tab_of {n k : ℕ} (x : (⟨2, ![n, k]⟩ : Shape).Idx → EReal) (h : ∀ i, x i = (((x i).toReal : ℝ) : EReal)) : ∃ X : Fin n → Fin k → ℝ, x = tab X :=
  ⟨fun i j => (x (ix2 i j)).toReal, by
    funext j
    have e : j = ix2 (j 0) (j 1) := by funext a; match a with | ⟨0, _⟩ => rfl | ⟨1, _⟩ => rfl
    rw [e]; exact h _⟩

theorem vec_of {n : ℕ} (x : (⟨1, ![n]⟩ : Shape).Idx → EReal) (h : ∀ i, x i = (((x i).toReal : ℝ) : EReal)) : ∃ X : Fin n → ℝ, x = vec X :=
  ⟨fun i => (x (ix1 i)).toReal, by
    funext j
    have e : j = ix1 (j 0) := by funext a; match a with | ⟨0, _⟩ => rfl
    rw [e]; exact h _⟩

/-- What the precondition says of the six arguments. -/
theorem args [Facts] (a0 a1 : FVec Ideal S8192x1024 .f32) (a2 : FVec Ideal S1024 .f32) (a3 a4 : FVec Ideal S1024x2816 .f32) (a5 : FVec Ideal S2816x1024 .f32)
    (h : fn (F := Ideal) a0 a1 a2 a3 a4 a5 = fun _ => 1#1) :
    (∃ X, a0 = tab X) ∧ (∃ X, a1 = tab X) ∧ (∃ X, a2 = vec X) ∧ (∃ X, a3 = tab X) ∧ (∃ X, a4 = tab X) ∧ (∃ X, a5 = tab X) := by
  have q := congrFun h ix0
  unfold fn fn_part1 at q
  dsimp only at q
  obtain ⟨q, q5⟩ := and_one q
  obtain ⟨q, q4⟩ := and_one q
  obtain ⟨q, q3⟩ := and_one q
  obtain ⟨q, q2⟩ := and_one q
  obtain ⟨q0, q1⟩ := and_one q
  exact ⟨tab_of _ (real_of_all a0 _ _ _ _ _ q0), tab_of _ (real_of_all a1 _ _ _ _ _ q1), vec_of _ (real_of_all a2 _ _ _ _ _ q2),
    tab_of _ (real_of_all a3 _ _ _ _ _ q3), tab_of _ (real_of_all a4 _ _ _ _ _ q4), tab_of _ (real_of_all a5 _ _ _ _ _ q5)⟩

end Cert.Pre_finite.Real

end
-- ==== Proof.FfnClaim.lean ====
/- The claims about the feed-forward backward kernel, its idealization and its reference. -/
module

public import proofs.«01_k».proof.Defs
public import proofs.«01_k».proof.Proof.FfnFinal
public import proofs.«01_k».proof.Proof.FfnRef
public import proofs.«01_k».proof.Proof.Finite
public import proofs.«01_k».proof.Proof.Gen.Pre_finite
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof.Ffn

open Idealize.ShloMosaic Idealize.ShloMosaic.TcCoe Idealize.SL.Sem RowMath

/-- The reference's program declares no semaphore, so its run is its frame. -/
theorem frame_ref : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run m ρ)

/-- Both programs end with the same six arrays, each the same function of the rows. -/
theorem algebraic : Cert.algebraic_KernelIdeal_ReferenceIdeal_pre_finite := by
  intro m g m' g' hpre hargs
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨q0, q1, q2, q3, q4, q5, qa⟩ := h c
  obtain ⟨a0, a1, a2, a3, a4, a5⟩ := hargs c
  obtain ⟨⟨X, hX⟩, ⟨DY, hY⟩, ⟨G, hG⟩, ⟨W1, h1⟩, ⟨W3, h3⟩, ⟨W2, h2⟩⟩ := Cert.Pre_finite.Real.args _ _ _ _ _ _ (hpre c)
  refine ⟨?_, ?_, ?_, ?_, ?_, ?_, qa⟩
  · refine (q0.trans (Cert.ReferenceIdeal.Read.val_main_v78_eq m' c)).trans (Eq.trans ?_ (Cert.KernelIdeal.Rows.final8 m X DY G W1 W3 W2 c hX hY hG h1 h3 h2).symm)
    rw [(a0.trans hX), (a1.trans hY), (a2.trans hG), (a3.trans h1), (a4.trans h3), (a5.trans h2)]
    exact Cert.ReferenceIdeal.Rows.v78 X DY G W1 W3 W2
  · refine (q1.trans (Cert.ReferenceIdeal.Read.val_main_v79_eq m' c)).trans (Eq.trans ?_ (Cert.KernelIdeal.Rows.final9 m X DY G W1 W3 W2 c hX hY hG h1 h3 h2).symm)
    rw [(a0.trans hX), (a1.trans hY), (a2.trans hG), (a3.trans h1), (a4.trans h3), (a5.trans h2)]
    exact Cert.ReferenceIdeal.Rows.v79 X DY G W1 W3 W2
  · refine (q2.trans (Cert.ReferenceIdeal.Read.val_main_v80_eq (F := Ideal) _ _ _ _ _)).trans (Eq.trans ?_ (Cert.KernelIdeal.Rows.final10 m X DY G W1 W3 W2 c hX hY hG h1 h3 h2).symm)
    rw [(a0.trans hX), (a1.trans hY), (a2.trans hG), (a3.trans h1), (a5.trans h2)]
    exact Cert.ReferenceIdeal.Rows.v80 X DY G W1 W2
  · refine (q3.trans (Cert.ReferenceIdeal.Read.val_main_v83_eq (F := Ideal) _ _ _ _)).trans (Eq.trans ?_ (Cert.KernelIdeal.Rows.final11 m X DY G W1 W3 W2 c hX hY hG h1 h3 h2).symm)
    rw [(a0.trans hX), (a2.trans hG), (a3.trans h1), (a4.trans h3)]
    exact Cert.ReferenceIdeal.Rows.v83 X G W1 W3
  · refine (q4.trans (Cert.ReferenceIdeal.Read.val_main_v84_eq (F := Ideal) _ _)).trans (Eq.trans ?_ (Cert.KernelIdeal.Rows.final12 m X DY G W1 W3 W2 c hX hY hG h1 h3 h2).symm)
    rw [(a0.trans hX), (a2.trans hG)]
    exact Cert.ReferenceIdeal.Rows.v84 X G
  · refine (q5.trans (Cert.ReferenceIdeal.Read.val_main_v86_eq m' c)).trans (Eq.trans ?_ (Cert.KernelIdeal.Rows.final13 m X DY G W1 W3 W2 c hX hY hG h1 h3 h2).symm)
    rw [(a0.trans hX), (a1.trans hY), (a2.trans hG), (a3.trans h1), (a4.trans h3), (a5.trans h2)]
    exact Cert.ReferenceIdeal.Rows.v86 X DY G W1 W3 W2

end Cert.Proof.Ffn

end
-- ==== Proof.HeadMath.lean ====
/- One row of the loss head over the real numbers: the error of the normalised row against its target, its mean square,
   and the gradient which reaches the row. -/
module

public import proofs.«01_k».proof.Proof.RowMath

@[expose] public section

noncomputable section

namespace RowMath

open Idealize.ShloMosaic

theorem bits_1_1024 : Ideal.ofBits .f32 0x3A800000#32 = ((1 / 1024 : ℝ) : EReal) := by
  simp [Ideal.ofBits, Ideal.ieee, -EReal.coe_mul]; norm_num

theorem bits_zero : Ideal.ofBits .f32 0x00000000#32 = ((0 : ℝ) : EReal) := by
  simp [Ideal.ofBits, Ideal.ieee]

theorem bits_1 : Ideal.ofBits .f32 0x3F800000#32 = ((1 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

/-- One row of the feed-forward block's output. -/
def res (x : Fin 1024 → ℝ) (u : Fin 2816 → ℝ) (w2 : Fin 2816 → Fin 1024 → ℝ) (k : Fin 1024) : ℝ := x k + 1 / 2 * ∑ f, u f * w2 f k

/-- The error of a normalised row against its target. -/
def err (y g t : Fin 1024 → ℝ) (k : Fin 1024) : ℝ := hid y g k - t k

/-- The mean square of a row's error. -/
def msq (y g t : Fin 1024 → ℝ) : ℝ := (∑ k, err y g t k * err y g t k) / 1024

/-- The gradient of half the mean square with respect to the normalised row under its gain. -/
def ct (y g t : Fin 1024 → ℝ) (k : Fin 1024) : ℝ := err y g t k * (1 / 1024)

/-- The gradient of half the mean square with respect to the row. -/
def back (y g t : Fin 1024 → ℝ) : Fin 1024 → ℝ := dx y (fun _ => 0) g (ct y g t)

variable (X T : Fin 8192 → Fin 1024 → ℝ) (G GF : Fin 1024 → ℝ) (W1 W3 : Fin 1024 → Fin 2816 → ℝ) (W2 : Fin 2816 → Fin 1024 → ℝ)

/-- The block's output in row `i`. -/
abbrev yy (i : Fin 8192) : Fin 1024 → ℝ := res (X i) (fun f => uu (pa X G W1 i f) (pa X G W3 i f)) W2

end RowMath

end
-- ==== Proof.HeadKernel.lean ====
/- The values of one block of the last feed-forward block's forward kernel, read into the row functions: 512 rows, the
   hidden width taken in three pieces of 1024, 1024 and 768 columns, then the loss head. -/
module

public import proofs.«01_k».proof.Proof.HeadMath
public import proofs.«01_k».proof.Proof.Gen.HeadIdeal.Skeleton

@[expose] public section

set_option maxRecDepth 16384

noncomputable section

namespace Cert.HeadIdeal.Rows

open Cert.HeadIdeal Cert.HeadIdeal.Gen Idealize.ShloMosaic RowMath

/-- Where the first piece of the hidden width lies. -/
def q0 (k : Fin 1024) : Fin 2816 := ⟨k.val, by omega⟩
/-- Where the second piece lies. -/
def q1 (k : Fin 1024) : Fin 2816 := ⟨1024 + k.val, by omega⟩
/-- Where the third piece lies. -/
def q2 (k : Fin 768) : Fin 2816 := ⟨2048 + k.val, by omega⟩

/-- A weight by hidden unit, as the eight devices' slots hold it: unit `352 n + j` is row `j` of slot `n`. -/
def units (V : Fin 2816 → Fin 1024 → ℝ) : (⟨3, ![8, 352, 1024]⟩ : Shape).Idx → EReal :=
  fun j => ((V ⟨(j 0).val * 352 + (j 1).val, by have h0 : (j 0).val < 8 := (j 0).2; have h1 : (j 1).val < 352 := (j 1).2; omega⟩ (j 2) : ℝ) : EReal)

variable (x y t : Fin 512 → Fin 1024 → ℝ) (g gf : Fin 1 → Fin 1024 → ℝ) (V W : Fin 2816 → Fin 1024 → ℝ) (u : Fin 512 → Fin 2816 → ℝ)

theorem weight1 : k0_pay4 (F := Ideal) (units V) = tab V := by
  funext j; idx_vars j
  pointwise [k0_pay4, tab_ix2, units]
  congr 3
  omega
theorem weight3 : k0_pay5 (F := Ideal) (units V) = tab V := weight1 V

theorem norm : k0_pay3 (F := Ideal) (tab x) (tab g) = tab fun i => hid (x i) (g 0) := by
  funext j; idx_vars j
  pointwise [k0_pay3, tab_ix2]
  simp only [bits_1024, bits_eps, ← EReal.coe_mul, coe_sum]
  rw [div_real _ _ (by norm_num), ← EReal.coe_add, show Ideal.rsqrt (((∑ k, x j0 k * x j0 k) / 1024 + eps : ℝ) : EReal) = ((rinv (x j0) : ℝ) : EReal) from rsqrt_real _ (ms_pos _)]
  simp only [← EReal.coe_mul]
  rfl

/-! ## The two projections, piece by piece -/

theorem a0 : k0_pay6 (F := Ideal) (tab x) (tab g) (units V) = tab fun i k => ∑ l, hid (x i) (g 0) l * V (q0 k) l := by
  unfold k0_pay6; rw [norm, weight1]
  funext j; idx_vars j
  pointwise [tab_ix2]
  simp only [← EReal.coe_mul, coe_sum]
  rfl
theorem b0 : k0_pay7 (F := Ideal) (tab x) (tab g) (units V) = tab fun i k => ∑ l, hid (x i) (g 0) l * V (q0 k) l := a0 x g V
theorem a0t : k0_pay8 (F := Ideal) (tab x) (tab g) (units V) = tab fun i k => ∑ l, hid (x i) (g 0) l * V (q0 k) l := a0 x g V
theorem b0t : k0_pay9 (F := Ideal) (tab x) (tab g) (units V) = tab fun i k => ∑ l, hid (x i) (g 0) l * V (q0 k) l := a0 x g V

theorem a1 : k0_pay12 (F := Ideal) (tab x) (tab V) = tab fun i k => ∑ l, x i l * V (q1 k) l := by
  funext j; idx_vars j
  pointwise [k0_pay12, tab_ix2]
  simp only [← EReal.coe_mul, coe_sum]
  rfl
theorem b1 : k0_pay13 (F := Ideal) (tab x) (tab V) = tab fun i k => ∑ l, x i l * V (q1 k) l := a1 x V
theorem a1t : k0_pay14 (F := Ideal) (tab x) (tab V) = tab fun i k => ∑ l, x i l * V (q1 k) l := a1 x V
theorem b1t : k0_pay15 (F := Ideal) (tab x) (tab V) = tab fun i k => ∑ l, x i l * V (q1 k) l := a1 x V

theorem a2 : k0_pay17 (F := Ideal) (tab x) (tab V) = tab fun i k => ∑ l, x i l * V (q2 k) l := by
  funext j; idx_vars j
  pointwise [k0_pay17, tab_ix2]
  simp only [← EReal.coe_mul, coe_sum]
  rfl
theorem b2 : k0_pay18 (F := Ideal) (tab x) (tab V) = tab fun i k => ∑ l, x i l * V (q2 k) l := a2 x V
theorem a2t : k0_pay19 (F := Ideal) (tab x) (tab V) = tab fun i k => ∑ l, x i l * V (q2 k) l := a2 x V
theorem b2t (b : Fin 512 → Fin 768 → ℝ) : k0_pay20 (F := Ideal) (tab b) = tab b := rfl

/-! ## The gate's product, piece by piece -/

theorem u0 (a b : Fin 512 → Fin 1024 → ℝ) : k0_pay11 (F := Ideal) (tab a) (tab b) (k0_pay10 (F := Ideal)) = tab fun i k => uu (a i k) (b i k) := by
  funext j; idx_vars j
  pointwise [k0_pay11, k0_pay10, tab_ix2]
  simp only [bits_half, ← EReal.coe_mul, Ideal.tanh_coe, ← EReal.coe_add, sg_tanh]
  rfl

theorem u1 : k0_pay16 (F := Ideal) (tab x) (tab V) (tab W)
    = tab fun i k => uu (∑ l, x i l * V (q1 k) l) (∑ l, x i l * W (q1 k) l) := by
  unfold k0_pay16; rw [a1, b1]
  funext j; idx_vars j
  pointwise [tab_ix2]
  simp only [bits_half, ← EReal.coe_mul, Ideal.tanh_coe, ← EReal.coe_add, sg_tanh]
  rfl

theorem u2 (a b : Fin 512 → Fin 768 → ℝ) : k0_pay21 (F := Ideal) (tab a) (tab b) = tab fun i k => uu (a i k) (b i k) := by
  funext j; idx_vars j
  pointwise [k0_pay21, tab_ix2]
  simp only [bits_half, ← EReal.coe_mul, Ideal.tanh_coe, ← EReal.coe_add, sg_tanh]
  rfl

/-! ## The block's output and the loss head -/

theorem output : k0_pay22 (F := Ideal) (tab x) (tab u) (units V) = tab fun i => res (x i) (u i) V := by
  show addf (tab x) (mulf (broadcast S512x1024 _) (matmul dot_S512x2816_S2816x1024_S512x1024_1_0_0_1_n_n none (tab u)
    (k0_pay4 (F := Ideal) (units V)) _)) = _
  rw [weight1]
  funext j; idx_vars j
  pointwise [tab_ix2]
  simp only [bits_half, ← EReal.coe_mul, coe_sum, ← EReal.coe_add]
  rfl

theorem gain : k0_pay23 (F := Ideal) (tab gf) = tab gf := by
  funext j; idx_vars j
  pointwise [k0_pay23, tab_ix2]

theorem factor : k0_pay24 (F := Ideal) (tab x) (tab u) (units V) = tab fun i _ => rinv (res (x i) (u i) V) := by
  unfold k0_pay24; rw [output]
  funext j; idx_vars j
  pointwise [tab_ix2]
  simp only [bits_1024, bits_eps, ← EReal.coe_mul, coe_sum]
  rw [div_real _ _ (by norm_num), ← EReal.coe_add]
  exact rsqrt_real _ (ms_pos _)

theorem hat : k0_pay25 (F := Ideal) (tab x) (tab u) (units V) = tab fun i k => res (x i) (u i) V k * rinv (res (x i) (u i) V) := by
  unfold k0_pay25; rw [output, factor]
  funext j; idx_vars j
  pointwise [tab_ix2]
  simp only [← EReal.coe_mul]

theorem gains : k0_pay26 (F := Ideal) (tab gf) = tab fun (_ : Fin 512) k => gf 0 k := by
  unfold k0_pay26; rw [gain]
  funext j; idx_vars j
  pointwise [tab_ix2]

/-- The rows `y`, normalised. -/
abbrev hats : Fin 512 → Fin 1024 → ℝ := fun i k => y i k * rinv (y i)
/-- The gain in every row. -/
abbrev every : Fin 512 → Fin 1024 → ℝ := fun _ k => gf 0 k

theorem error : k0_pay27 (F := Ideal) (tab (hats y)) (tab (every gf)) (tab t) = tab fun i => err (y i) (gf 0) (t i) := by
  funext j; idx_vars j
  pointwise [k0_pay27, tab_ix2]
  simp only [← EReal.coe_mul, ← EReal.coe_sub]
  rfl

theorem cotangent : k0_pay29 (F := Ideal) (tab (hats y)) (tab (every gf)) (tab t) = tab fun i => ct (y i) (gf 0) (t i) := by
  unfold k0_pay29; rw [error]
  funext j; idx_vars j
  pointwise [tab_ix2]
  simp only [bits_1_1024, ← EReal.coe_mul]
  rfl

theorem gradient : k0_pay30 (F := Ideal) (tab gf) (tab fun i (_ : Fin 1) => rinv (y i)) (tab (hats y)) (tab (every gf)) (tab t)
    = tab fun i => back (y i) (gf 0) (t i) := by
  unfold k0_pay30; rw [cotangent]
  funext j; idx_vars j
  pointwise [tab_ix2]
  simp only [bits_1024, ← EReal.coe_mul, coe_sum, div_real _ _ (show (1024 : ℝ) ≠ 0 by norm_num), ← EReal.coe_sub]
  simp only [back, dx, zero_add]

theorem gainRow (s : Fin 1 → Fin 1024 → ℝ) : k0_pay31 (F := Ideal) (tab (hats y)) (tab (every gf)) (tab t) (tab s)
    = tab fun r k => s r k + ∑ i, ct (y i) (gf 0) (t i) k * (y i k * rinv (y i)) := by
  unfold k0_pay31; rw [cotangent]
  funext j; idx_vars j
  pointwise [tab_ix2]
  simp only [← EReal.coe_mul, coe_sum, ← EReal.coe_add]

theorem zeros : k0_pay1 (F := Ideal) = tab fun _ _ => 0 := by
  funext j; idx_vars j
  pointwise [k0_pay1, tab_ix2]
  rfl

theorem zeroRows : k0_pay2 (F := Ideal) = tab fun _ _ => 0 := by
  funext j; idx_vars j
  pointwise [k0_pay2, tab_ix2]
  rfl

theorem loss (s : Fin 8 → Fin 128 → ℝ) : k0_pay28 (F := Ideal) (tab (hats y)) (tab (every gf)) (tab t) (tab s)
    = tab fun r k => s r k + 1 / 2 * ∑ i, msq (y i) (gf 0) (t i) := by
  unfold k0_pay28; rw [error]
  funext j; idx_vars j
  pointwise [tab_ix2]
  simp only [bits_1024, bits_half, ← EReal.coe_mul, coe_sum, div_real _ _ (show (1024 : ℝ) ≠ 0 by norm_num), ← EReal.coe_add,
    Finset.univ_unique, Finset.sum_singleton]
  rfl

end Cert.HeadIdeal.Rows
end
-- ==== Proof.HeadHost.lean ====
/- What the host lays before the last feed-forward block's forward kernel, and the block of it that a grid point reads. -/
module

public import proofs.«01_k».proof.Proof.HeadKernel
public import proofs.«01_k».proof.Proof.Gen.HeadIdeal.Value
public import Idealize.ShloMosaic.Lib.StableHlo.RunRead
public import Idealize.ShloMosaic.Lib.Pipeline.ValueKit.Geometry
public import Idealize.ShloMosaic.Lib.Pipeline.ValueKit.Acc

@[expose] public section

set_option maxRecDepth 16384
set_option maxHeartbeats 1000000

noncomputable section

namespace Cert.HeadIdeal.Rows

open Cert.HeadIdeal Cert.HeadIdeal.Gen Idealize.ShloMosaic Idealize.ShloMosaic.TcCoe Idealize.SL.Sem RowMath

variable (m : (ℓ : Loc nD τ sig) → Buf (Elt Ideal) ℓ)
  (X T : Fin 8192 → Fin 1024 → ℝ) (G GF : Fin 1024 → ℝ) (W1 W3 : Fin 1024 → Fin 2816 → ℝ) (W2 : Fin 2816 → Fin 1024 → ℝ)
  (c : Dev nD)

/-- The gain as a row. -/
theorem gainAsRow (hG : m ((c : Thread nD τ).loc main_arg1) = vec G) : V m c main_v7 = tab fun (_ : Fin 1) k => G k := by
  show StableHlo.after hostOps0 _ (Proc.devRef .tc main_v7) = _
  after_results
  rw [show m (c, Proc.devRef .tc main_arg1) = vec G from hG]
  funext j; idx_vars j
  pointwise [tab_ix2, vec_ix1]

/-- The last gain as a row. -/
theorem lastAsRow (hF : m ((c : Thread nD τ).loc main_arg6) = vec GF) : V m c main_v8 = tab fun (_ : Fin 1) k => GF k := by
  show StableHlo.after hostOps0 _ (Proc.devRef .tc main_v8) = _
  after_results
  rw [show m (c, Proc.devRef .tc main_arg6) = vec GF from hF]
  funext j; idx_vars j
  pointwise [tab_ix2, vec_ix1]

/-- The weight set the host lays: slot `n` holds rows `352 n` and on of the first weight's transpose, of the third's and
    of the second weight, one below another. -/
theorem weightSet (h1 : m ((c : Thread nD τ).loc main_arg2) = tab W1) (h3 : m ((c : Thread nD τ).loc main_arg3) = tab W3)
    (h2 : m ((c : Thread nD τ).loc main_arg4) = tab W2) (n : Fin 8) (j : Fin 352) (k : Fin 1024) :
    V m c main_v6 (ix3 n ⟨j.val, by omega⟩ k) = units (fun f k => W1 k f) (ix3 n j k)
    ∧ V m c main_v6 (ix3 n ⟨352 + j.val, by omega⟩ k) = units (fun f k => W3 k f) (ix3 n j k)
    ∧ V m c main_v6 (ix3 n ⟨704 + j.val, by omega⟩ k) = units W2 (ix3 n j k) := by
  have e : (V m c main_v6 : FVec Ideal S8x1056x1024 .bf16) = truncf (F := Ideal) .bf16 (concatenate S8x1056x1024 1 [⟨S8x352x1024, StableHlo.upto (hostOps0 (F := Ideal)) (fun b => m (c, b)) 5 (Proc.devRef .tc main_v1)⟩,
      ⟨S8x352x1024, StableHlo.upto (hostOps0 (F := Ideal)) (fun b => m (c, b)) 5 (Proc.devRef .tc main_v3)⟩,
      ⟨S8x352x1024, StableHlo.upto (hostOps0 (F := Ideal)) (fun b => m (c, b)) 5 (Proc.devRef .tc main_v4)⟩] concatenates_S8x352x1024_S8x352x1024_S8x352x1024_S8x1056x1024_d1) bitsLt_bf16_f32 := by
    show StableHlo.after hostOps0 _ (Proc.devRef .tc main_v6) = _
    rw [StableHlo.after_last_write (i := 6) [main_v7, main_v8] rfl rfl (by decide), StableHlo.unary_result',
      StableHlo.upto_last_write (i := 5) [] rfl rfl (by decide), StableHlo.nary_result']
    rfl
  rw [e]
  rw [StableHlo.upto_last_write (n := 5) (i := 1) (r := main_v1) [main_v2, main_v3, main_v4] rfl rfl (by decide), StableHlo.reshape_result',
    StableHlo.upto_last_write (n := 1) (i := 0) (r := main_v0) [] rfl rfl (by decide), StableHlo.unary_result',
    StableHlo.upto_last_write (n := 5) (i := 3) (r := main_v3) [main_v4] rfl rfl (by decide), StableHlo.reshape_result',
    StableHlo.upto_last_write (n := 3) (i := 2) (r := main_v2) [] rfl rfl (by decide), StableHlo.unary_result',
    StableHlo.upto_last_write (n := 5) (i := 4) (r := main_v4) [] rfl rfl (by decide), StableHlo.reshape_result',
    StableHlo.upto_unwritten (n := 0) (r := main_arg2) [] rfl (by decide),
    StableHlo.upto_unwritten (n := 2) (r := main_arg3) [main_v0, main_v1] rfl (by decide),
    StableHlo.upto_unwritten (n := 4) (r := main_arg4) [main_v0, main_v1, main_v2, main_v3] rfl (by decide)]
  rw [show m (c, Proc.devRef .tc main_arg2) = tab W1 from h1, show m (c, Proc.devRef .tc main_arg3) = tab W3 from h3,
    show m (c, Proc.devRef .tc main_arg4) = tab W2 from h2]
  refine ⟨?_, ?_, ?_⟩
  · pointwise [tab_ix2]; rfl
  · pointwise [tab_ix2]; rfl
  · pointwise [tab_ix2]
    rw [dif_neg (by omega), dif_neg (by omega)]
    have q : n.val * 352 + (704 + j.val - 352 - 352) = n.val * 352 + j.val := by omega
    simp only [q]; rfl

/-! ## The block of each window at a grid point -/

/-- The row of the whole table that is row `i` of the block at grid point `t`. -/
def rowAt (t : Fin cfg0.N) (i : Fin 512) : Fin 8192 := ⟨t.val * 512 + i.val, by
  have := t.isLt; have hN : cfg0.N = 16 := rfl; omega⟩

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![0, 0, 0] := (by decide +kernel : ∀ t : Fin grid0.N, win0_2.index t = ![0, 0, 0])
theorem at3 : ∀ t : Fin cfg0.N, win0_3.index t = ![0, 1, 0] := (by decide +kernel : ∀ t : Fin grid0.N, win0_3.index t = ![0, 1, 0])
theorem at4 : ∀ t : Fin cfg0.N, win0_4.index t = ![0, 2, 0] := (by decide +kernel : ∀ t : Fin grid0.N, win0_4.index t = ![0, 2, 0])

theorem blk0 (hX : m ((c : Thread nD τ).loc main_arg0) = tab X) (t : Fin cfg0.N) :
    (iblk m c 0 t : FVec Ideal S512x1024 .f32) = tab fun i k => X (rowAt t i) k := by
  refine funext fun (j : S512x1024.Idx) => ?_
  have e : ((cfg0.win 0).blk t).view.emb j = (ix2 (rowAt t (j 0)) (j 1) : S8192x1024.Idx) := by
    funext a
    apply Fin.ext
    match a with
    | ⟨0, _⟩ => show win0_0.index t 0 * 512 + 1 * (j 0).val = t.val * 512 + (j 0).val; rw [at0 t]; simp
    | ⟨1, _⟩ => show win0_0.index t 1 * 1024 + 1 * (j 1).val = (j 1).val; rw [at0 t]; simp
  show V m c main_arg0 (((cfg0.win 0).blk t).view.emb j) = _
  rw [e, Gen.V_main_arg0, hX]
  rfl

theorem blk1 (hG : m ((c : Thread nD τ).loc main_arg1) = vec G) (t : Fin cfg0.N) :
    (iblk m c 1 t : FVec Ideal S1x1024 .f32) = tab fun (_ : Fin 1) k => G k := by
  refine funext fun (j : S1x1024.Idx) => ?_
  have e : ((cfg0.win 1).blk t).view.emb j = (ix2 (j 0) (j 1) : S1x1024.Idx) := by
    funext a
    apply Fin.ext
    match a with
    | ⟨0, _⟩ => show win0_1.index t 0 * 1 + 1 * (j 0).val = (j 0).val; rw [at1 t]; simp
    | ⟨1, _⟩ => show win0_1.index t 1 * 1024 + 1 * (j 1).val = (j 1).val; rw [at1 t]; simp
  show V m c main_v7 (((cfg0.win 1).blk t).view.emb j) = _
  rw [e, gainAsRow m G c hG]
  rfl

/-- An index of a slot table, by its three coordinates. -/
theorem slot_idx (i : S8x352x1024.Idx) : ∃ (n : Fin 8) (j : Fin 352) (k : Fin 1024), i = ix3 n j k :=
  ⟨i 0, i 1, i 2, by funext a; match a with | ⟨0, _⟩ => rfl | ⟨1, _⟩ => rfl | ⟨2, _⟩ => rfl⟩

theorem blk2 (h1 : m ((c : Thread nD τ).loc main_arg2) = tab W1) (h3 : m ((c : Thread nD τ).loc main_arg3) = tab W3)
    (h2 : m ((c : Thread nD τ).loc main_arg4) = tab W2) (t : Fin cfg0.N) : (iblk m c 2 t : FVec Ideal S8x352x1024 .bf16) = units (fun f k => W1 k f) := by
  refine funext fun (i : S8x352x1024.Idx) => ?_
  obtain ⟨n, j, k, rfl⟩ := slot_idx i
  have e : ((cfg0.win 2).blk t).view.emb (ix3 n j k : S8x352x1024.Idx) = (ix3 n ⟨j.val, by omega⟩ k : S8x1056x1024.Idx) := by
    funext a
    apply Fin.ext
    match a with
    | ⟨0, _⟩ => show win0_2.index t 0 * 8 + 1 * n.val = n.val; rw [at2 t]; simp
    | ⟨1, _⟩ => show win0_2.index t 1 * 352 + 1 * j.val = j.val; rw [at2 t]; simp
    | ⟨2, _⟩ => show win0_2.index t 2 * 1024 + 1 * k.val = k.val; rw [at2 t]; simp
  show V m c main_v6 (((cfg0.win 2).blk t).view.emb _) = _
  rw [e]
  exact (weightSet m W1 W3 W2 c h1 h3 h2 n j k).1

theorem blk3 (h1 : m ((c : Thread nD τ).loc main_arg2) = tab W1) (h3 : m ((c : Thread nD τ).loc main_arg3) = tab W3)
    (h2 : m ((c : Thread nD τ).loc main_arg4) = tab W2) (t : Fin cfg0.N) : (iblk m c 3 t : FVec Ideal S8x352x1024 .bf16) = units (fun f k => W3 k f) := by
  refine funext fun (i : S8x352x1024.Idx) => ?_
  obtain ⟨n, j, k, rfl⟩ := slot_idx i
  have e : ((cfg0.win 3).blk t).view.emb (ix3 n j k : S8x352x1024.Idx) = (ix3 n ⟨352 + j.val, by omega⟩ k : S8x1056x1024.Idx) := by
    funext a
    apply Fin.ext
    match a with
    | ⟨0, _⟩ => show win0_3.index t 0 * 8 + 1 * n.val = n.val; rw [at3 t]; simp
    | ⟨1, _⟩ => show win0_3.index t 1 * 352 + 1 * j.val = 352 + j.val; rw [at3 t]; simp
    | ⟨2, _⟩ => show win0_3.index t 2 * 1024 + 1 * k.val = k.val; rw [at3 t]; simp
  show V m c main_v6 (((cfg0.win 3).blk t).view.emb _) = _
  rw [e]
  exact (weightSet m W1 W3 W2 c h1 h3 h2 n j k).2.1

theorem blk4 (h1 : m ((c : Thread nD τ).loc main_arg2) = tab W1) (h3 : m ((c : Thread nD τ).loc main_arg3) = tab W3)
    (h2 : m ((c : Thread nD τ).loc main_arg4) = tab W2) (t : Fin cfg0.N) : (iblk m c 4 t : FVec Ideal S8x352x1024 .bf16) = units W2 := by
  refine funext fun (i : S8x352x1024.Idx) => ?_
  obtain ⟨n, j, k, rfl⟩ := slot_idx i
  have e : ((cfg0.win 4).blk t).view.emb (ix3 n j k : S8x352x1024.Idx) = (ix3 n ⟨704 + j.val, by omega⟩ k : S8x1056x1024.Idx) := by
    funext a
    apply Fin.ext
    match a with
    | ⟨0, _⟩ => show win0_4.index t 0 * 8 + 1 * n.val = n.val; rw [at4 t]; simp
    | ⟨1, _⟩ => show win0_4.index t 1 * 352 + 1 * j.val = 704 + j.val; rw [at4 t]; simp
    | ⟨2, _⟩ => show win0_4.index t 2 * 1024 + 1 * k.val = k.val; rw [at4 t]; simp
  show V m c main_v6 (((cfg0.win 4).blk t).view.emb _) = _
  rw [e]
  exact (weightSet m W1 W3 W2 c h1 h3 h2 n j k).2.2

theorem at5 : ∀ t : Fin cfg0.N, win0_5.index t = ![t.val, 0] := (by decide +kernel : ∀ t : Fin grid0.N, win0_5.index t = ![t.val, 0])
theorem at6 : ∀ t : Fin cfg0.N, win0_6.index t = ![0, 0] := (by decide +kernel : ∀ t : Fin grid0.N, win0_6.index t = ![0, 0])

theorem blk5 (hT : m ((c : Thread nD τ).loc main_arg5) = tab T) (t : Fin cfg0.N) :
    (iblk m c 5 t : FVec Ideal S512x1024 .f32) = tab fun i k => T (rowAt t i) k := by
  refine funext fun (j : S512x1024.Idx) => ?_
  have e : ((cfg0.win 5).blk t).view.emb j = (ix2 (rowAt t (j 0)) (j 1) : S8192x1024.Idx) := by
    funext a
    apply Fin.ext
    match a with
    | ⟨0, _⟩ => show win0_5.index t 0 * 512 + 1 * (j 0).val = t.val * 512 + (j 0).val; rw [at5 t]; simp
    | ⟨1, _⟩ => show win0_5.index t 1 * 1024 + 1 * (j 1).val = (j 1).val; rw [at5 t]; simp
  show V m c main_arg5 (((cfg0.win 5).blk t).view.emb j) = _
  rw [e, Gen.V_main_arg5, hT]
  rfl

theorem blk6 (hF : m ((c : Thread nD τ).loc main_arg6) = vec GF) (t : Fin cfg0.N) :
    (iblk m c 6 t : FVec Ideal S1x1024 .f32) = tab fun (_ : Fin 1) k => GF k := by
  refine funext fun (j : S1x1024.Idx) => ?_
  have e : ((cfg0.win 6).blk t).view.emb j = (ix2 (j 0) (j 1) : S1x1024.Idx) := by
    funext a
    apply Fin.ext
    match a with
    | ⟨0, _⟩ => show win0_6.index t 0 * 1 + 1 * (j 0).val = (j 0).val; rw [at6 t]; simp
    | ⟨1, _⟩ => show win0_6.index t 1 * 1024 + 1 * (j 1).val = (j 1).val; rw [at6 t]; simp
  show V m c main_v8 (((cfg0.win 6).blk t).view.emb j) = _
  rw [e, lastAsRow m GF c hF]
  rfl

end Cert.HeadIdeal.Rows
end
-- ==== Proof.HeadBlocks.lean ====
/- What one grid point leaves in each output block of the last feed-forward block's forward kernel. -/
module

public import proofs.«01_k».proof.Proof.HeadKernel
public import proofs.«01_k».proof.Proof.Gen.HeadIdeal.Value
public import Idealize.ShloMosaic.Lib.WritesUnit
public import Idealize.ShloMosaic.Lib.VecWindow

@[expose] public section

set_option maxRecDepth 16384
set_option maxHeartbeats 4000000

noncomputable section

namespace Cert.HeadIdeal.Rows

open Cert.HeadIdeal Cert.HeadIdeal.Gen Idealize.ShloMosaic Idealize.ShloMosaic.TcCoe Idealize.SL.Sem RowMath

variable (m : (ℓ : Loc nD τ sig) → Buf (Elt Ideal) ℓ)

theorem hz : (![0, 0] : Fin 2 → Nat) = fun _ => 0 := by funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

section Loads
variable (a : Fin 512 → Fin 2816 → ℝ)

theorem ld_q0 (inb) : View.ld (Val := Elt Ideal) (e' := .bf16) (tab a) (Rect.unit (s := S512x2816) ![0, 0] ![512, 1024] inb) = tab fun i k => a i (q0 k) := by
  funext j; idx_vars j
  pointwise [tab_ix2]
  rfl
theorem ld_q1 (inb) : View.ld (Val := Elt Ideal) (e' := .bf16) (tab a) (Rect.unit (s := S512x2816) ![0, 1024] ![512, 1024] inb) = tab fun i k => a i (q1 k) := by
  funext j; idx_vars j
  pointwise [tab_ix2]
  rfl
theorem ld_q2 (inb) : View.ld (Val := Elt Ideal) (e' := .bf16) (tab a) (Rect.unit (s := S512x2816) ![0, 2048] ![512, 768] inb) = tab fun i k => a i (q2 k) := by
  funext j; idx_vars j
  pointwise [tab_ix2]
  rfl

/-- Three column pieces written one after another make the whole tablele. -/
theorem canon_pieces (i0 i1 i2) :
    View.canon (Val := Elt Ideal) (s := S512x2816) (e := .bf16) [⟨Rect.unit ![0, 2048] ![512, 768] i2, tab fun i k => a i (q2 k)⟩,
      ⟨Rect.unit ![0, 1024] ![512, 1024] i1, tab fun i k => a i (q1 k)⟩,
      ⟨Rect.unit ![0, 0] ![512, 1024] i0, tab fun i k => a i (q0 k)⟩] = tab a := by
  funext y
  refine View.canon_apply_of_pieces (Val := Elt Ideal) (e := .bf16) (tab a) _ ?_ y ?_
  · intro p hp
    simp only [List.mem_cons, List.not_mem_nil, or_false] at hp
    rcases hp with rfl | rfl | rfl
    · intro j; exact (congrFun (ld_q2 a i2) j).symm
    · intro j; exact (congrFun (ld_q1 a i1) j).symm
    · intro j; exact (congrFun (ld_q0 a i0) j).symm
  · have h0 : (y 0).val < 512 := (y 0).2
    have h1 : (y 1).val < 2816 := (y 1).2
    by_cases l0 : (y 1).val < 1024
    · refine ⟨_, List.mem_cons_of_mem _ (List.mem_cons_of_mem _ (List.mem_singleton_self _)), ?_⟩
      rw [Rect.mem_set_unit]
      intro b; match b with
        | ⟨0, _⟩ => exact ⟨Nat.zero_le _, by simpa using h0⟩
        | ⟨1, _⟩ => exact ⟨Nat.zero_le _, by simpa using l0⟩
    by_cases l1 : (y 1).val < 2048
    · refine ⟨_, List.mem_cons_of_mem _ (List.mem_cons_self), ?_⟩
      rw [Rect.mem_set_unit]
      intro b; match b with
        | ⟨0, _⟩ => exact ⟨Nat.zero_le _, by simpa using h0⟩
        | ⟨1, _⟩ => exact ⟨by simpa using l0, by simpa using l1⟩
    · refine ⟨_, List.mem_cons_self, ?_⟩
      rw [Rect.mem_set_unit]
      intro b; match b with
        | ⟨0, _⟩ => exact ⟨Nat.zero_le _, by simpa using h0⟩
        | ⟨1, _⟩ => exact ⟨by simpa using l1, by simpa using h1⟩

/-- The scratch buffer read back whole after its three column pieces were stored. -/
theorem back_pieces (i0 i1 i2 i3) :
    (View.whole cc0_scratch0).readCov (Val := Elt Ideal) [⟨Rect.unit (s := S512x2816) ![0, 2048] ![512, 768] i2, tab fun i k => a i (q2 k)⟩,
      ⟨Rect.unit ![0, 1024] ![512, 1024] i1, tab fun i k => a i (q1 k)⟩,
      ⟨Rect.unit ![0, 0] ![512, 1024] i0, tab fun i k => a i (q0 k)⟩] (Rect.unit ![0, 0] ![512, 2816] i3).toLoadRect = tab a := by
  refine (View.readCov_eq_canon' _ _ _).trans ?_
  show View.ld (Val := Elt Ideal) (View.canon (Val := Elt Ideal) (s := S512x2816) (e := .bf16) _) (Rect.unit ![0, 0] ![512, 2816] i3) = _
  rw [canon_pieces a i0 i1 i2]
  exact View.ld_unit_zero (S := S512x2816) hz _ _
end Loads

variable (c : Dev nD) (t : Fin cfg0.N) (x tt : Fin 512 → Fin 1024 → ℝ) (g gf : Fin 1 → Fin 1024 → ℝ)
  (V1 V3 V2 : Fin 2816 → Fin 1024 → ℝ)

/-- A block's rows projected by a weight kept by hidden units. -/
def proj (x : Fin 512 → Fin 1024 → ℝ) (g : Fin 1 → Fin 1024 → ℝ) (V : Fin 2816 → Fin 1024 → ℝ) (i : Fin 512) (f : Fin 2816) : ℝ :=
  ∑ l, hid (x i) (g 0) l * V f l
/-- The block's output rows. -/
def outs (x : Fin 512 → Fin 1024 → ℝ) (g : Fin 1 → Fin 1024 → ℝ) (V1 V3 V2 : Fin 2816 → Fin 1024 → ℝ) (i : Fin 512) : Fin 1024 → ℝ :=
  res (x i) (fun f => uu (proj x g V1 i f) (proj x g V3 i f)) V2

/-- The gated products, read back from the scratch buffer after their three pieces were stored. -/
theorem products (i0 i1 i2 i3) :
    (View.whole cc0_scratch0).readCov (Val := Elt Ideal) [⟨Rect.unit (s := S512x2816) ![0, 2048] ![512, 768] i2,
        tab fun i k => uu (∑ l, hid (x i) (g 0) l * V1 (q2 k) l) (∑ l, hid (x i) (g 0) l * V3 (q2 k) l)⟩,
      ⟨Rect.unit ![0, 1024] ![512, 1024] i1, tab fun i k => uu (∑ l, hid (x i) (g 0) l * V1 (q1 k) l) (∑ l, hid (x i) (g 0) l * V3 (q1 k) l)⟩,
      ⟨Rect.unit ![0, 0] ![512, 1024] i0, tab fun i k => uu (∑ l, hid (x i) (g 0) l * V1 (q0 k) l) (∑ l, hid (x i) (g 0) l * V3 (q0 k) l)⟩]
      (Rect.unit ![0, 0] ![512, 2816] i3).toLoadRect = tab fun i f => uu (proj x g V1 i f) (proj x g V3 i f) :=
  back_pieces (fun i f => uu (proj x g V1 i f) (proj x g V3 i f)) i0 i1 i2 i3

theorem factor_outs : k0_pay24 (F := Ideal) (tab x) (tab fun i f => uu (proj x g V1 i f) (proj x g V3 i f)) (units V2)
    = tab fun i (_ : Fin 1) => rinv (outs x g V1 V3 V2 i) := factor x V2 _
theorem hat_outs : k0_pay25 (F := Ideal) (tab x) (tab fun i f => uu (proj x g V1 i f) (proj x g V3 i f)) (units V2)
    = tab (hats (outs x g V1 V3 V2)) := hat x V2 _
theorem gains_every : k0_pay26 (F := Ideal) (tab gf) = tab (every gf) := gains gf

theorem ld_row0 (S : Fin 8 → Fin 1024 → ℝ) (inb) : View.ld (Val := Elt Ideal) (e' := .f32) (tab S) (Rect.unit (s := S8x1024) ![0, 0] ![1, 1024] inb)
    = tab fun (_ : Fin 1) k => S 0 k := by
  funext j; idx_vars j
  pointwise [tab_ix2]

/-- A store of the first row over what a buffer of eight rows held. -/
theorem row0_write {sp : Space} (v : View sig .tc sp S8x1024 .f32) (f : v.ty.Contents (Elt Ideal)) (L : List (View.Piece (Elt Ideal) S8x1024 .f32))
    (Z : Fin 8 → Fin 1024 → ℝ) (u : Fin 1 → Fin 1024 → ℝ) (inb) (hL : v.read (Elt Ideal) (v.writes (Elt Ideal) f L) = tab Z) :
    v.read (Elt Ideal) (v.writes (Elt Ideal) f (⟨Rect.unit (s := S8x1024) ![0, 0] ![1, 1024] inb, tab u⟩ :: L))
      = tab fun r k => if r.val = 0 then u 0 k else Z r k := by
  funext y
  by_cases h : (y 0).val = 0
  · rw [View.read_writes_cons_unit_of_mem v f inb (tab u) L y (ix2 0 (y 1)) rfl (by
      intro b; match b with
        | ⟨0, _⟩ => exact h
        | ⟨1, _⟩ => exact (Nat.zero_add _).symm)]
    show _ = (((if (y 0).val = 0 then u 0 (y 1) else Z (y 0) (y 1) : ℝ)) : EReal)
    rw [if_pos h]; rfl
  · rw [View.read_writes_cons_unit_of_not_mem v f inb (tab u) L y rfl 0 (.inr (by show 0 + 1 ≤ (y 0).val; omega)), hL]
    show _ = (((if (y 0).val = 0 then u 0 (y 1) else Z (y 0) (y 1) : ℝ)) : EReal)
    rw [if_neg h]; rfl

theorem o7_A (h0 : t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).1 = tab fun i => back (outs x g V1 V3 V2 i) (gf 0) (tt i) := by
  rw [outsAt0_A m c t h0]; dsimp only
  unfold out0_A_7
  rw [View.read_writes_eq_canon _ _ _ (cover0_A_7 c (grid0.coords t) _ _ _ _ _ _ _ _ _ _ _ _ _ _ _ _ _ _ _ _ _ _ _ _ _ _ ((hcond0_0 t).mpr h0) _ _ _ _ _ _ _)]
  rw [e0, e1, e2, e3, e4, e5, e6]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3]
  simp only [gain, factor_outs, hat_outs, gains_every]
  rw [View.canon_unit_zero (S := S512x1024) hz]
  exact gradient (outs x g V1 V3 V2) tt gf

theorem o8_A (h0 : t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.1 = tab (proj x g V1) := by
  rw [outsAt0_A m c t h0]; dsimp only
  unfold out0_A_8
  rw [View.read_writes_eq_canon _ _ _ (cover0_A_8 c (grid0.coords t) _ _ _ _ _ _ _ _ _ _ _ _ _ _ _ _ _ _ _ _ _ _ _ _ _ _ ((hcond0_0 t).mpr h0) _ _ _ _ _ _ _)]
  rw [e0, e1, e2, e3, e4, e5, e6]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  exact canon_pieces (proj x g V1) _ _ _

theorem o9_A (h0 : t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.2.1 = tab (proj x g V3) := by
  rw [outsAt0_A m c t h0]; dsimp only
  unfold out0_A_9
  rw [View.read_writes_eq_canon _ _ _ (cover0_A_9 c (grid0.coords t) _ _ _ _ _ _ _ _ _ _ _ _ _ _ _ _ _ _ _ _ _ _ _ _ _ _ ((hcond0_0 t).mpr h0) _ _ _ _ _ _ _)]
  rw [e0, e1, e2, e3, e4, e5, e6]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  exact canon_pieces (proj x g V3) _ _ _

theorem o10_A (h0 : t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.2.2.1 = tab fun r k => (0) + 1 / 2 * ∑ i, msq (outs x g V1 V3 V2 i) (gf 0) (tt i) := by
  rw [outsAt0_A m c t h0]; dsimp only
  unfold out0_A_10
  rw [View.read_writes_eq_canon _ _ _ (cover0_A_10 c (grid0.coords t) _ _ _ _ _ _ _ _ _ _ _ _ _ _ _ _ _ _ _ _ _ _ _ _ _ _ ((hcond0_0 t).mpr h0) _ _ _ _ _ _ _)]
  rw [e0, e1, e2, e3, e4, e5, e6]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3]
  simp only [gain, factor_outs, hat_outs, gains_every]
  rw [View.canon_cons_unit_zero (S := S8x128) hz, View.readCov_unit_zero (S := S8x128) _ hz]
  rw [zeros]
  exact loss (outs x g V1 V3 V2) tt gf _

theorem o11_A (h0 : t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.2.2.2 = tab fun r k => if r.val = 0 then 0 + ∑ i, ct (outs x g V1 V3 V2 i) (gf 0) (tt i) k * (outs x g V1 V3 V2 i k * rinv (outs x g V1 V3 V2 i)) else 0 := by
  rw [outsAt0_A m c t h0]; dsimp only
  unfold out0_A_11
  rw [e0, e1, e2, e3, e4, e5, e6]
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3, View.readCov_eq_canon_ld _ _ _ (fun y => ⟨_, List.mem_singleton_self _, View.mem_set_unit_zero hz inb_S8x1024_S8x1024_0_0 y⟩), View.canon_unit_zero hz]
  simp only [gain, factor_outs, hat_outs, gains_every, zeroRows, ld_row0]
  rw [gainRow (outs x g V1 V3 V2) tt gf fun _ _ => 0, row0_write _ _ _ (fun _ _ => 0) _ _ (View.read_writes_full _ _ _ _ _)]

theorem o7_B (h0 : ¬ t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).1 = tab fun i => back (outs x g V1 V3 V2 i) (gf 0) (tt i) := by
  rw [outsAt0_B m c t h0]; dsimp only
  unfold out0_B_7
  rw [View.read_writes_eq_canon _ _ _ (cover0_B_7 c (grid0.coords t) _ _ _ _ _ _ _ _ _ _ _ _ _ _ _ _ _ _ _ _ _ _ _ _ _ _ (fun h => h0 ((hcond0_0 t).mp h)) _ _ _ _ _ _ _ _ _)]
  rw [e0, e1, e2, e3, e4, e5, e6]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3]
  simp only [gain, factor_outs, hat_outs, gains_every]
  rw [View.canon_unit_zero (S := S512x1024) hz]
  exact gradient (outs x g V1 V3 V2) tt gf

theorem o8_B (h0 : ¬ t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.1 = tab (proj x g V1) := by
  rw [outsAt0_B m c t h0]; dsimp only
  unfold out0_B_8
  rw [View.read_writes_eq_canon _ _ _ (cover0_B_8 c (grid0.coords t) _ _ _ _ _ _ _ _ _ _ _ _ _ _ _ _ _ _ _ _ _ _ _ _ _ _ (fun h => h0 ((hcond0_0 t).mp h)) _ _ _ _ _ _ _ _ _)]
  rw [e0, e1, e2, e3, e4, e5, e6]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  exact canon_pieces (proj x g V1) _ _ _

theorem o9_B (h0 : ¬ t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf) :
    (outsAt0 m c t.val t.isLt).2.2.1 = tab (proj x g V3) := by
  rw [outsAt0_B m c t h0]; dsimp only
  unfold out0_B_9
  rw [View.read_writes_eq_canon _ _ _ (cover0_B_9 c (grid0.coords t) _ _ _ _ _ _ _ _ _ _ _ _ _ _ _ _ _ _ _ _ _ _ _ _ _ _ (fun h => h0 ((hcond0_0 t).mp h)) _ _ _ _ _ _ _ _ _)]
  rw [e0, e1, e2, e3, e4, e5, e6]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  exact canon_pieces (proj x g V3) _ _ _

theorem o10_B (h0 : ¬ t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf)
    (S : Fin 8 → Fin 128 → ℝ) (eS : (outsAt0 m c (t.val - 1) (by omega)).2.2.2.1 = tab S) :
    (outsAt0 m c t.val t.isLt).2.2.2.1 = tab fun r k => (S r k) + 1 / 2 * ∑ i, msq (outs x g V1 V3 V2 i) (gf 0) (tt i) := by
  rw [outsAt0_B m c t h0]; dsimp only
  unfold out0_B_10
  rw [View.read_writes_eq_canon _ _ _ (cover0_B_10 c (grid0.coords t) _ _ _ _ _ _ _ _ _ _ _ _ _ _ _ _ _ _ _ _ _ _ _ _ _ _ (fun h => h0 ((hcond0_0 t).mp h)) _ _ _ _ _ _ _ _ _)]
  rw [e0, e1, e2, e3, e4, e5, e6, eS]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3]
  simp only [gain, factor_outs, hat_outs, gains_every]
  rw [View.canon_unit_zero (S := S8x128) hz, (hs0_10 t).read_unread]
  exact loss (outs x g V1 V3 V2) tt gf _

theorem o11_B (h0 : ¬ t.val % 16 = 0) (e0 : iblk m c 0 t = tab x) (e1 : iblk m c 1 t = tab g) (e2 : iblk m c 2 t = units V1) (e3 : iblk m c 3 t = units V3)
    (e4 : iblk m c 4 t = units V2) (e5 : iblk m c 5 t = tab tt) (e6 : iblk m c 6 t = tab gf)
    (S : Fin 8 → Fin 1024 → ℝ) (eS : (outsAt0 m c (t.val - 1) (by omega)).2.2.2.2 = tab S) :
    (outsAt0 m c t.val t.isLt).2.2.2.2 = tab fun r k => if r.val = 0 then S r k + ∑ i, ct (outs x g V1 V3 V2 i) (gf 0) (tt i) k * (outs x g V1 V3 V2 i k * rinv (outs x g V1 V3 V2 i)) else S r k := by
  rw [outsAt0_B m c t h0]; dsimp only
  unfold out0_B_11
  rw [e0, e1, e2, e3, e4, e5, e6, eS]
  unfold kernelRun0_B
  dsimp only
  sl_unfold_words
  simp only [View.readAt_eq_ld, (hs0_0 t).read_unread, (hs0_1 t).read_unread, (hs0_2 t).read_unread, (hs0_3 t).read_unread, (hs0_4 t).read_unread,
    (hs0_5 t).read_unread, (hs0_6 t).read_unread, View.ld_unit_zero (S := S512x1024) hz, View.ld_unit_zero (S := S1x1024) hz,
    View.ld_unit_zero (S := S8x128) hz, View.ld_unit_zero (S := S8x352x1024) hz3,
    norm, weight1, weight3, a0, b0, a0t, b0t, a1, b1, a1t, b1t, a2, b2, a2t, b2t, u0, u1, u2]
  rw [products x g V1 V3, (hs0_11 t).read_unread]
  simp only [gain, factor_outs, hat_outs, gains_every, ld_row0]
  rw [gainRow (outs x g V1 V3 V2) tt gf fun _ k => S 0 k, row0_write _ _ _ S _ _ ((hs0_11 t).read_unread _)]
  congr 1; funext r k
  by_cases h : r.val = 0
  · rw [if_pos h, if_pos h, show r = 0 from Fin.ext h]
  · rw [if_neg h, if_neg h]

end Cert.HeadIdeal.Rows
end
-- ==== Proof.HeadFinal.lean ====
/- The last feed-forward block's forward kernel's result arrays, each as one function of the rows. -/
module

public import proofs.«01_k».proof.Proof.HeadHost
public import proofs.«01_k».proof.Proof.HeadBlocks

@[expose] public section

set_option maxRecDepth 16384
set_option maxHeartbeats 1000000

noncomputable section

namespace Cert.HeadIdeal.Rows

open Cert.HeadIdeal Cert.HeadIdeal.Gen Idealize.ShloMosaic Idealize.ShloMosaic.TcCoe Idealize.SL.Sem RowMath

theorem at7 : ∀ t : Fin cfg0.N, win0_7.index t = ![t.val, 0] := (by decide +kernel : ∀ t : Fin grid0.N, win0_7.index t = ![t.val, 0])
theorem at8 : ∀ t : Fin cfg0.N, win0_8.index t = ![t.val, 0] := (by decide +kernel : ∀ t : Fin grid0.N, win0_8.index t = ![t.val, 0])
theorem at9 : ∀ t : Fin cfg0.N, win0_9.index t = ![t.val, 0] := (by decide +kernel : ∀ t : Fin grid0.N, win0_9.index t = ![t.val, 0])

variable (m : (ℓ : Loc nD τ sig) → Buf (Elt Ideal) ℓ)
  (X T : Fin 8192 → Fin 1024 → ℝ) (G GF : Fin 1024 → ℝ) (W1 W3 : Fin 1024 → Fin 2816 → ℝ) (W2 : Fin 2816 → Fin 1024 → ℝ) (c : Dev nD)
  (hX : m ((c : Thread nD τ).loc main_arg0) = tab X) (hT : m ((c : Thread nD τ).loc main_arg5) = tab T)
  (hG : m ((c : Thread nD τ).loc main_arg1) = vec G) (hF : m ((c : Thread nD τ).loc main_arg6) = vec GF)
  (h1 : m ((c : Thread nD τ).loc main_arg2) = tab W1) (h3 : m ((c : Thread nD τ).loc main_arg3) = tab W3)
  (h2 : m ((c : Thread nD τ).loc main_arg4) = tab W2)

/-- The mean squared errors of the rows of grid point `p`, added up. -/
def lossShare (p : ℕ) : ℝ :=
  if h : p < 16 then ∑ i : Fin 512, msq (yy X G W1 W3 W2 (rowAt ⟨p, h⟩ i)) GF (T (rowAt ⟨p, h⟩ i)) else 0

/-- The last gain's gradient's share of grid point `p`. -/
def gainShare (p : ℕ) (k : Fin 1024) : ℝ :=
  if h : p < 16 then ∑ i : Fin 512, ct (yy X G W1 W3 W2 (rowAt ⟨p, h⟩ i)) GF (T (rowAt ⟨p, h⟩ i)) k
    * (yy X G W1 W3 W2 (rowAt ⟨p, h⟩ i) k * rinv (yy X G W1 W3 W2 (rowAt ⟨p, h⟩ i))) else 0

include hX hT hG hF h1 h3 h2

theorem out7 (t : Fin cfg0.N) : (outsAt0 m c t.val t.isLt).1 = tab fun i => (fun i => back (yy X G W1 W3 W2 i) GF (T i)) (rowAt t i) := by
  by_cases h0 : t.val % 16 = 0
  · exact (o7_A m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl
  · exact (o7_B m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl

theorem final7 : (dats m 0 c).arrAt 7 cfg0.N = tab (fun i => back (yy X G W1 W3 W2 i) GF (T i)) := by
  refine (dats m 0 c).arrAt_eq_of_covers 7 _ (by decide +kernel) fun t _ (y : S512x1024.Idx) => ?_
  have e : ((cfg0.win 7).blk t).view.emb y = (ix2 (rowAt t (y 0)) (y 1) : S8192x1024.Idx) := by
    funext a
    apply Fin.ext
    match a with
    | ⟨0, _⟩ => show win0_7.index t 0 * 512 + 1 * (y 0).val = t.val * 512 + (y 0).val; rw [at7 t]; simp
    | ⟨1, _⟩ => show win0_7.index t 1 * 1024 + 1 * (y 1).val = (y 1).val; rw [at7 t]; simp
  rw [e]
  show (dats m 0 c).after 7 t y = _
  rw [after0_7, out7 m X T G GF W1 W3 W2 c hX hT hG hF h1 h3 h2 t]
  rfl

theorem out8 (t : Fin cfg0.N) : (outsAt0 m c t.val t.isLt).2.1 = tab fun i => (pa X G W1) (rowAt t i) := by
  by_cases h0 : t.val % 16 = 0
  · exact (o8_A m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl
  · exact (o8_B m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl

theorem final8 : (dats m 0 c).arrAt 8 cfg0.N = tab (pa X G W1) := by
  refine (dats m 0 c).arrAt_eq_of_covers 8 _ (by decide +kernel) fun t _ (y : S512x2816.Idx) => ?_
  have e : ((cfg0.win 8).blk t).view.emb y = (ix2 (rowAt t (y 0)) (y 1) : S8192x2816.Idx) := by
    funext a
    apply Fin.ext
    match a with
    | ⟨0, _⟩ => show win0_8.index t 0 * 512 + 1 * (y 0).val = t.val * 512 + (y 0).val; rw [at8 t]; simp
    | ⟨1, _⟩ => show win0_8.index t 1 * 2816 + 1 * (y 1).val = (y 1).val; rw [at8 t]; simp
  rw [e]
  show (dats m 0 c).after 8 t y = _
  rw [after0_8, out8 m X T G GF W1 W3 W2 c hX hT hG hF h1 h3 h2 t]
  rfl

theorem out9 (t : Fin cfg0.N) : (outsAt0 m c t.val t.isLt).2.2.1 = tab fun i => (pa X G W3) (rowAt t i) := by
  by_cases h0 : t.val % 16 = 0
  · exact (o9_A m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl
  · exact (o9_B m c t _ _ _ _ _ _ _ h0 (blk0 m X c hX t) (blk1 m G c hG t) (blk2 m W1 W3 W2 c h1 h3 h2 t) (blk3 m W1 W3 W2 c h1 h3 h2 t)
      (blk4 m W1 W3 W2 c h1 h3 h2 t) (blk5 m T c hT t) (blk6 m GF c hF t)).trans rfl

theorem final9 : (dats m 0 c).arrAt 9 cfg0.N = tab (pa X G W3) := by
  refine (dats m 0 c).arrAt_eq_of_covers 9 _ (by decide +kernel) fun t _ (y : S512x2816.Idx) => ?_
  have e : ((cfg0.win 9).blk t).view.emb y = (ix2 (rowAt t (y 0)) (y 1) : S8192x2816.Idx) := by
    funext a
    apply Fin.ext
    match a with
    | ⟨0, _⟩ => show win0_9.index t 0 * 512 + 1 * (y 0).val = t.val * 512 + (y 0).val; rw [at9 t]; simp
    | ⟨1, _⟩ => show win0_9.index t 1 * 2816 + 1 * (y 1).val = (y 1).val; rw [at9 t]; simp
  rw [e]
  show (dats m 0 c).after 9 t y = _
  rw [after0_9, out9 m X T G GF W1 W3 W2 c hX hT hG hF h1 h3 h2 t]
  rfl

theorem out10 (n : ℕ) (hn : n < cfg0.N) : (outsAt0 m c n hn).2.2.2.1
    = tab fun _ _ => 1 / 2 * ∑ p ∈ Finset.range (n + 1), lossShare X T G GF W1 W3 W2 p := by
  have hN : cfg0.N = 16 := rfl
  induction n with
  | zero =>
    have q := o10_A m c ⟨0, hn⟩ _ _ _ _ _ _ _ rfl (blk0 m X c hX ⟨0, hn⟩) (blk1 m G c hG ⟨0, hn⟩) (blk2 m W1 W3 W2 c h1 h3 h2 ⟨0, hn⟩) (blk3 m W1 W3 W2 c h1 h3 h2 ⟨0, hn⟩)
      (blk4 m W1 W3 W2 c h1 h3 h2 ⟨0, hn⟩) (blk5 m T c hT ⟨0, hn⟩) (blk6 m GF c hF ⟨0, hn⟩)
    refine q.trans ?_
    congr 1; funext r k
    rw [Finset.sum_range_one, zero_add]
    rfl
  | succ n ih =>
    have h0 : ¬ (n + 1) % 16 = 0 := by omega
    have q := o10_B m c ⟨n + 1, hn⟩ _ _ _ _ _ _ _ h0 (blk0 m X c hX ⟨n + 1, hn⟩) (blk1 m G c hG ⟨n + 1, hn⟩) (blk2 m W1 W3 W2 c h1 h3 h2 ⟨n + 1, hn⟩) (blk3 m W1 W3 W2 c h1 h3 h2 ⟨n + 1, hn⟩)
      (blk4 m W1 W3 W2 c h1 h3 h2 ⟨n + 1, hn⟩) (blk5 m T c hT ⟨n + 1, hn⟩) (blk6 m GF c hF ⟨n + 1, hn⟩) _ (ih (by omega))
    refine q.trans ?_
    congr 1; funext r k
    rw [Finset.sum_range_succ _ (n + 1), mul_add]
    congr 2
    unfold lossShare
    rw [dif_pos (by omega : n + 1 < 16)]
    rfl

theorem final10 : (dats m 0 c).arrAt 10 cfg0.N = tab fun (_ : Fin 8) (_ : Fin 128) => 1 / 2 * ∑ i, msq (yy X G W1 W3 W2 i) GF (T i) := by
  refine (dats m 0 c).arrAt_eq_of_after_last 10 ⟨15, by decide⟩ (by decide +kernel) _ fun (y : S8x128.Idx) => ?_
  show (dats m 0 c).after 10 ⟨15, by decide⟩ y = _
  rw [after0_10, out10 m X T G GF W1 W3 W2 c hX hT hG hF h1 h3 h2]
  show tab _ (y : S8x128.Idx) = tab _ (y : S8x128.Idx)
  congr 1; funext r k
  rw [Finset.sum_range, ← Fin.sum_mul_add_fin (L := 8192) 16 512]
  congr 1

theorem out11 (n : ℕ) (hn : n < cfg0.N) : (outsAt0 m c n hn).2.2.2.2
    = tab fun r k => if r.val = 0 then ∑ p ∈ Finset.range (n + 1), gainShare X T G GF W1 W3 W2 p k else 0 := by
  have hN : cfg0.N = 16 := rfl
  induction n with
  | zero =>
    have q := o11_A m c ⟨0, hn⟩ _ _ _ _ _ _ _ rfl (blk0 m X c hX ⟨0, hn⟩) (blk1 m G c hG ⟨0, hn⟩) (blk2 m W1 W3 W2 c h1 h3 h2 ⟨0, hn⟩) (blk3 m W1 W3 W2 c h1 h3 h2 ⟨0, hn⟩)
      (blk4 m W1 W3 W2 c h1 h3 h2 ⟨0, hn⟩) (blk5 m T c hT ⟨0, hn⟩) (blk6 m GF c hF ⟨0, hn⟩)
    refine q.trans ?_
    congr 1; funext r k
    rw [Finset.sum_range_one, zero_add]
    rfl
  | succ n ih =>
    have h0 : ¬ (n + 1) % 16 = 0 := by omega
    have q := o11_B m c ⟨n + 1, hn⟩ _ _ _ _ _ _ _ h0 (blk0 m X c hX ⟨n + 1, hn⟩) (blk1 m G c hG ⟨n + 1, hn⟩) (blk2 m W1 W3 W2 c h1 h3 h2 ⟨n + 1, hn⟩) (blk3 m W1 W3 W2 c h1 h3 h2 ⟨n + 1, hn⟩)
      (blk4 m W1 W3 W2 c h1 h3 h2 ⟨n + 1, hn⟩) (blk5 m T c hT ⟨n + 1, hn⟩) (blk6 m GF c hF ⟨n + 1, hn⟩) _ (ih (by omega))
    refine q.trans ?_
    congr 1; funext r k
    by_cases hr : r.val = 0
    · rw [if_pos hr, if_pos hr, if_pos hr, Finset.sum_range_succ _ (n + 1)]
      congr 1
      unfold gainShare
      rw [dif_pos (by omega : n + 1 < 16)]
      rfl
    · rw [if_neg hr, if_neg hr, if_neg hr]

theorem final11 : (dats m 0 c).arrAt 11 cfg0.N
    = tab fun (r : Fin 8) k => if r.val = 0 then ∑ i, ct (yy X G W1 W3 W2 i) GF (T i) k * (yy X G W1 W3 W2 i k * rinv (yy X G W1 W3 W2 i)) else 0 := by
  refine (dats m 0 c).arrAt_eq_of_after_last 11 ⟨15, by decide⟩ (by decide +kernel) _ fun (y : S8x1024.Idx) => ?_
  show (dats m 0 c).after 11 ⟨15, by decide⟩ y = _
  rw [after0_11, out11 m X T G GF W1 W3 W2 c hX hT hG hF h1 h3 h2]
  show tab _ (y : S8x1024.Idx) = tab _ (y : S8x1024.Idx)
  congr 1; funext r k
  by_cases hr : r.val = 0
  · rw [if_pos hr, if_pos hr, Finset.sum_range, ← Fin.sum_mul_add_fin (L := 8192) 16 512]
    refine Finset.sum_congr rfl fun p _ => ?_
    unfold gainShare
    rw [dif_pos p.isLt]
    rfl
  · rw [if_neg hr, if_neg hr]

end Cert.HeadIdeal.Rows
end
-- ==== Proof.HeadRef.lean ====
/- The reference of the last feed-forward block with the loss head and its gradients, read into the row functions. -/
module

public import proofs.«01_k».proof.Proof.HeadMath
public import proofs.«01_k».proof.Proof.Gen.HeadReferenceIdeal.Read

@[expose] public section

set_option maxRecDepth 16384
set_option maxHeartbeats 1000000

noncomputable section

namespace Cert.HeadReferenceIdeal.Rows

open Cert.HeadReferenceIdeal Cert.HeadReferenceIdeal.Read Idealize.ShloMosaic RowMath

variable (X T : Fin 8192 → Fin 1024 → ℝ) (G GF : Fin 1024 → ℝ) (W1 W3 : Fin 1024 → Fin 2816 → ℝ) (W2 : Fin 2816 → Fin 1024 → ℝ)

/-! ## The block -/

theorem v6 : val_main_v6 (F := Ideal) (tab X)
    = tab fun i _ => ms (X i) := by
  funext j; idx_vars j
  pointwise [val_main_v6, val_main_v4, val_main_v2, val_main_v3, val_main_v5, val_main_v1, val_main_cst_1, val_main_cst_0, val_main_v0, val_main_cst, tab_ix2, vec_ix1]
  simp only [bits_1024, bits_eps, ← EReal.coe_mul, coe_sum]
  rw [div_real _ _ (by norm_num), ← EReal.coe_add]; rfl

theorem v7 : val_main_v7 (F := Ideal) (tab X)
    = tab fun i _ => rinv (X i) := by
  unfold val_main_v7
  rw [v6]
  funext j; idx_vars j
  pointwise [tab_ix2, vec_ix1]
  exact rsqrt_real _ (ms_pos _)

theorem v12 : val_main_v12 (F := Ideal) (tab X) (vec G)
    = tab fun i => hid (X i) G := by
  unfold val_main_v12 val_main_v9 val_main_v8
  rw [v7]
  funext j; idx_vars j
  pointwise [val_main_v11, val_main_v10, tab_ix2, vec_ix1]
  simp only [← EReal.coe_mul]; rfl

theorem v13 : val_main_v13 (F := Ideal) (tab X) (vec G) (tab W1)
    = tab (pa X G W1) := by
  unfold val_main_v13
  rw [v12]
  funext j; idx_vars j
  pointwise [tab_ix2, vec_ix1]
  simp only [← EReal.coe_mul, coe_sum]; rfl

theorem v14 : val_main_v14 (F := Ideal) (tab X) (vec G) (tab W3) = tab (pa X G W3) := v13 X G W3

theorem call0_v5 : val_main_call0_v5 (F := Ideal) (tab X) (vec G) (tab W1)
    = tab fun i f => sg (pa X G W1 i f) := by
  unfold val_main_call0_v5 val_main_call0_v3 val_main_call0_v1 val_main_call0_v0
  rw [v13]
  funext j; idx_vars j
  pointwise [val_main_call0_v4, val_main_call0_v2, val_main_call0_cst, val_main_call0_cst_0, tab_ix2, vec_ix1]
  rw [← EReal.coe_one, ← EReal.coe_neg, Ideal.exp_coe, ← EReal.coe_add, div_real _ _ (one_add_exp_ne _)]; rfl

theorem v16 : val_main_v16 (F := Ideal) (tab X) (vec G) (tab W1) (tab W3)
    = tab fun i f => uu (pa X G W1 i f) (pa X G W3 i f) := by
  unfold val_main_v16 val_main_v15
  rw [call0_v5, v13, v14]
  funext j; idx_vars j
  pointwise [tab_ix2, vec_ix1]
  simp only [← EReal.coe_mul]; rfl

theorem v20 : val_main_v20 (F := Ideal) (tab X) (vec G) (tab W1) (tab W3) (tab W2)
    = tab fun i => yy X G W1 W3 W2 i := by
  unfold val_main_v20 val_main_v19 val_main_v17
  rw [v16]
  funext j; idx_vars j
  pointwise [val_main_v18, val_main_cst_2, tab_ix2, vec_ix1]
  simp only [bits_half, ← EReal.coe_mul, coe_sum, ← EReal.coe_add]; rfl

/-! ## The loss -/

theorem v27 : val_main_v27 (F := Ideal) (tab X) (vec G) (tab W1) (tab W3) (tab W2)
    = tab fun i _ => ms (yy X G W1 W3 W2 i) := by
  unfold val_main_v27 val_main_v25 val_main_v23 val_main_v22 val_main_v21
  rw [v20]
  funext j; idx_vars j
  pointwise [val_main_v24, val_main_v26, val_main_cst_3, val_main_cst_4, val_main_cst_5, tab_ix2, vec_ix1]
  simp only [bits_1024, bits_eps, ← EReal.coe_mul, coe_sum]
  rw [div_real _ _ (by norm_num), ← EReal.coe_add]; rfl

theorem v28 : val_main_v28 (F := Ideal) (tab X) (vec G) (tab W1) (tab W3) (tab W2)
    = tab fun i _ => rinv (yy X G W1 W3 W2 i) := by
  unfold val_main_v28
  rw [v27]
  funext j; idx_vars j
  pointwise [tab_ix2, vec_ix1]
  exact rsqrt_real _ (ms_pos _)

theorem v33 : val_main_v33 (F := Ideal) (tab X) (vec G) (tab W1) (tab W3) (tab W2)
    = tab fun i k => yy X G W1 W3 W2 i k * rinv (yy X G W1 W3 W2 i) := by
  unfold val_main_v33 val_main_v32
  rw [v28, v20]
  funext j; idx_vars j
  pointwise [tab_ix2, vec_ix1]
  simp only [← EReal.coe_mul]

theorem v37 : val_main_v37 (F := Ideal) (tab X) (vec G) (tab W1) (tab W3) (tab W2) (tab T) (vec GF)
    = tab fun i => err (yy X G W1 W3 W2 i) GF (T i) := by
  unfold val_main_v37 val_main_v36
  rw [v33]
  funext j; idx_vars j
  pointwise [val_main_v35, val_main_v34, tab_ix2, vec_ix1]
  simp only [← EReal.coe_mul, ← EReal.coe_sub]; rfl

theorem v43 : val_main_v43 (F := Ideal) (tab X) (vec G) (tab W1) (tab W3) (tab W2) (tab T) (vec GF)
    = vec fun i => msq (yy X G W1 W3 W2 i) GF (T i) := by
  unfold val_main_v43 val_main_v41 val_main_v38
  rw [v37]
  funext j; idx_vars j
  pointwise [val_main_v42, val_main_cst_8, val_main_cst_9, tab_ix2, vec_ix1]
  simp only [bits_1024, ← EReal.coe_mul, coe_sum]
  rw [div_real _ _ (by norm_num)]; rfl

/-- The fourth result: the loss, in every entry. -/
theorem v74 : val_main_v74 (F := Ideal) (tab X) (vec G) (tab W1) (tab W3) (tab W2) (tab T) (vec GF)
    = tab fun (_ : Fin 8) (_ : Fin 128) => 1 / 2 * ∑ i, msq (yy X G W1 W3 W2 i) GF (T i) := by
  unfold val_main_v74 val_main_v45 val_main_v44
  rw [v43]
  funext j; idx_vars j
  pointwise [val_main_cst_10, val_main_cst_11, tab_ix2, vec_ix1]
  simp only [bits_half, coe_sum, ← EReal.coe_mul]

/-! ## The gradients -/

theorem v51 : val_main_v51 (F := Ideal) (tab X) (vec G) (tab W1) (tab W3) (tab W2) (tab T) (vec GF)
    = tab fun i => ct (yy X G W1 W3 W2 i) GF (T i) := by
  unfold val_main_v51 val_main_v40
  rw [v37]
  funext j; idx_vars j
  pointwise [val_main_v50, val_main_v49, val_main_v48, val_main_v47, val_main_v46, val_main_v39, val_main_cst_7, val_main_cst_12, val_main_cst_13, val_main_cst_14, tab_ix2, vec_ix1]
  simp only [bits_half, bits_1, bits_2, bits_1024, ← EReal.coe_mul]
  rw [div_real _ _ (by norm_num)]
  simp only [← EReal.coe_mul]
  unfold ct
  congr 1; ring

theorem v56 : val_main_v56 (F := Ideal) (tab X) (vec G) (tab W1) (tab W3) (tab W2) (tab T) (vec GF)
    = tab fun i k => ct (yy X G W1 W3 W2 i) GF (T i) k * GF k := by
  unfold val_main_v56
  rw [v51]
  funext j; idx_vars j
  pointwise [val_main_v55, val_main_v34, tab_ix2, vec_ix1]
  simp only [← EReal.coe_mul]

theorem v67 : val_main_v67 (F := Ideal) (tab X) (vec G) (tab W1) (tab W3) (tab W2) (tab T) (vec GF)
    = tab fun i _ => (∑ c, yy X G W1 W3 W2 i c * (ct (yy X G W1 W3 W2 i) GF (T i) c * GF c)) * (-(1 / 2) * (rinv (yy X G W1 W3 W2 i) / ms (yy X G W1 W3 W2 i))) / 1024 := by
  unfold val_main_v67 val_main_v66 val_main_v65 val_main_v63 val_main_v60 val_main_v59 val_main_v58 val_main_v31 val_main_v29
  rw [v56, v28, v27, v20]
  funext j; idx_vars j
  pointwise [val_main_v64, val_main_v30, val_main_cst_6, val_main_cst_17, val_main_cst_18, val_main_cst_19, tab_ix2, vec_ix1]
  simp only [bits_1024, bits_neg_half, div_real _ _ (ms_pos _).ne', ← EReal.coe_mul, coe_sum, div_real _ _ (show (1024 : ℝ) ≠ 0 by norm_num)]
  simp

/-- The first result: the gradient of the block's output. -/
theorem v71 : val_main_v71 (F := Ideal) (tab X) (vec G) (tab W1) (tab W3) (tab W2) (tab T) (vec GF)
    = tab fun i => back (yy X G W1 W3 W2 i) GF (T i) := by
  unfold val_main_v71 val_main_v69 val_main_v70 val_main_v68 val_main_v62 val_main_v61
  rw [v67, v56, v28, v20]
  funext j; idx_vars j
  pointwise [tab_ix2, vec_ix1]
  simp only [← EReal.coe_mul, ← EReal.coe_add]
  have e := dx_eq (yy X G W1 W3 W2 j0) (fun _ => 0) GF (ct (yy X G W1 W3 W2 j0) GF (T j0)) j1
  simp only [zero_add] at e
  exact congrArg _ e

/-- The second and third results: the projections. -/
theorem v72 : val_main_v72 (F := Ideal) (tab X) (vec G) (tab W1) = tab (pa X G W1) := v13 X G W1
theorem v73 : val_main_v73 (F := Ideal) (tab X) (vec G) (tab W3) = tab (pa X G W3) := v13 X G W3

/-- The fifth result: the gradient of the last gain, in the first of eight rows. -/
theorem v76 : val_main_v76 (F := Ideal) (tab X) (vec G) (tab W1) (tab W3) (tab W2) (tab T) (vec GF)
    = tab fun r k => if r.val = 0 then ∑ i, ct (yy X G W1 W3 W2 i) GF (T i) k * (yy X G W1 W3 W2 i k * rinv (yy X G W1 W3 W2 i)) else 0 := by
  unfold val_main_v76 val_main_v75 val_main_v57 val_main_v54 val_main_v53 val_main_v52
  rw [v51, v33]
  funext j; idx_vars j
  pointwise [val_main_cst_15, val_main_cst_16, val_main_call1_v0, val_main_c, tab_ix2, vec_ix1]
  simp only [← EReal.coe_mul, coe_sum]
  by_cases h : j0.val = 0
  · rw [dif_pos (by omega), if_pos h]; simp [mul_comm]
  · rw [dif_neg (by omega), if_neg h]; simp [FloatOps.sitofp]

end Cert.HeadReferenceIdeal.Rows
end
-- ==== Proof.HeadClaim.lean ====
/- The claims about the last feed-forward block's forward kernel, its idealization and its reference. -/
module

public import proofs.«01_k».proof.Defs
public import proofs.«01_k».proof.Proof.HeadFinal
public import proofs.«01_k».proof.Proof.HeadRef
public import proofs.«01_k».proof.Proof.Finite
public import proofs.«01_k».proof.Proof.Gen.Pre_finite_head
public import proofs.«01_k».proof.Proof.Gen.HeadReferenceIdeal.Run
public import proofs.«01_k».proof.Proof.Gen.HeadReferenceIdeal.Read
public import Idealize.ShloMosaic.Lib.Quiescent

@[expose] public section

set_option maxRecDepth 16384
set_option maxHeartbeats 1000000

noncomputable section

namespace Cert.Pre_finite_head.Real

open Idealize.ShloMosaic RowMath Cert.Pre_finite.Real

/-- What the precondition says of the seven arguments. -/
theorem args [Facts] (a0 : FVec Ideal S8192x1024 .f32) (a1 : FVec Ideal S1024 .f32) (a2 a3 : FVec Ideal S1024x2816 .f32)
    (a4 : FVec Ideal S2816x1024 .f32) (a5 : FVec Ideal S8192x1024 .f32) (a6 : FVec Ideal S1024 .f32)
    (h : fn (F := Ideal) a0 a1 a2 a3 a4 a5 a6 = fun _ => 1#1) :
    (∃ X, a0 = tab X) ∧ (∃ X, a1 = vec X) ∧ (∃ X, a2 = tab X) ∧ (∃ X, a3 = tab X) ∧ (∃ X, a4 = tab X) ∧ (∃ X, a5 = tab X) ∧ (∃ X, a6 = vec X) := by
  have q := congrFun h ix0
  unfold fn fn_part1 at q
  dsimp only at q
  obtain ⟨q, q6⟩ := and_one q
  obtain ⟨q, q5⟩ := and_one q
  obtain ⟨q, q4⟩ := and_one q
  obtain ⟨q, q3⟩ := and_one q
  obtain ⟨q, q2⟩ := and_one q
  obtain ⟨q0, q1⟩ := and_one q
  exact ⟨tab_of _ (real_of_all a0 _ _ _ _ _ q0), vec_of _ (real_of_all a1 _ _ _ _ _ q1), tab_of _ (real_of_all a2 _ _ _ _ _ q2),
    tab_of _ (real_of_all a3 _ _ _ _ _ q3), tab_of _ (real_of_all a4 _ _ _ _ _ q4), tab_of _ (real_of_all a5 _ _ _ _ _ q5), vec_of _ (real_of_all a6 _ _ _ _ _ q6)⟩

end Cert.Pre_finite_head.Real

namespace Cert.Proof.Head

open Idealize.ShloMosaic Idealize.ShloMosaic.TcCoe Idealize.SL.Sem RowMath

/-- The reference's program declares no semaphore, so its run is its frame. -/
theorem frame_ref : Cert.quiescent_HeadReferenceIdeal := fun m ρ _ =>
  (θ_run Cert.HeadReferenceIdeal.defs _ _).mono (fun r h => ⟨fun c => (h c).2.2.2.2.2, sem_eq_zero_of_no_sems (by decide) r.2⟩)
    (Cert.HeadReferenceIdeal.Value.run m ρ)

/-- Both programs end with the same five arrays, each the same function of the rows. -/
theorem algebraic : Cert.algebraic_HeadIdeal_HeadReferenceIdeal_pre_finite_head := by
  intro m g m' g' hpre hargs
  refine ⟨fun c => (Cert.HeadIdeal.Gen.dats m 0 c).arrAt 7 Cert.HeadIdeal.cfg0.N, fun c => (Cert.HeadIdeal.Gen.dats m 0 c).arrAt 8 Cert.HeadIdeal.cfg0.N,
    fun c => (Cert.HeadIdeal.Gen.dats m 0 c).arrAt 9 Cert.HeadIdeal.cfg0.N, fun c => (Cert.HeadIdeal.Gen.dats m 0 c).arrAt 10 Cert.HeadIdeal.cfg0.N,
    fun c => (Cert.HeadIdeal.Gen.dats m 0 c).arrAt 11 Cert.HeadIdeal.cfg0.N, Cert.HeadIdeal.Value.run_blocks m g, ?_⟩
  refine (θ_run Cert.HeadReferenceIdeal.defs _ _).mono (fun r h c => ?_) (Cert.HeadReferenceIdeal.Value.run m' g')
  obtain ⟨q0, q1, q2, q3, q4, qa⟩ := h c
  obtain ⟨a0, a1, a2, a3, a4, a5, a6⟩ := hargs c
  obtain ⟨⟨X, hX⟩, ⟨G, hG⟩, ⟨W1, h1⟩, ⟨W3, h3⟩, ⟨W2, h2⟩, ⟨T, hT⟩, ⟨GF, hF⟩⟩ := Cert.Pre_finite_head.Real.args _ _ _ _ _ _ _ (hpre c)
  refine ⟨?_, ?_, ?_, ?_, ?_, qa⟩
  · refine (q0.trans (Cert.HeadReferenceIdeal.Read.val_main_v71_eq m' c)).trans (Eq.trans ?_ (Cert.HeadIdeal.Rows.final7 m X T G GF W1 W3 W2 c hX hT hG hF h1 h3 h2).symm)
    rw [(a0.trans hX), (a1.trans hG), (a2.trans h1), (a3.trans h3), (a4.trans h2), (a5.trans hT), (a6.trans hF)]
    exact Cert.HeadReferenceIdeal.Rows.v71 X T G GF W1 W3 W2
  · refine (q1.trans (Cert.HeadReferenceIdeal.Read.val_main_v72_eq (F := Ideal) _ _ _)).trans (Eq.trans ?_ (Cert.HeadIdeal.Rows.final8 m X T G GF W1 W3 W2 c hX hT hG hF h1 h3 h2).symm)
    rw [(a0.trans hX), (a1.trans hG), (a2.trans h1)]
    exact Cert.HeadReferenceIdeal.Rows.v72 X G W1
  · refine (q2.trans (Cert.HeadReferenceIdeal.Read.val_main_v73_eq (F := Ideal) _ _ _)).trans (Eq.trans ?_ (Cert.HeadIdeal.Rows.final9 m X T G GF W1 W3 W2 c hX hT hG hF h1 h3 h2).symm)
    rw [(a0.trans hX), (a1.trans hG), (a3.trans h3)]
    exact Cert.HeadReferenceIdeal.Rows.v73 X G W3
  · refine (q3.trans (Cert.HeadReferenceIdeal.Read.val_main_v74_eq m' c)).trans (Eq.trans ?_ (Cert.HeadIdeal.Rows.final10 m X T G GF W1 W3 W2 c hX hT hG hF h1 h3 h2).symm)
    rw [(a0.trans hX), (a1.trans hG), (a2.trans h1), (a3.trans h3), (a4.trans h2), (a5.trans hT), (a6.trans hF)]
    exact Cert.HeadReferenceIdeal.Rows.v74 X T G GF W1 W3 W2
  · refine (q4.trans (Cert.HeadReferenceIdeal.Read.val_main_v76_eq m' c)).trans (Eq.trans ?_ (Cert.HeadIdeal.Rows.final11 m X T G GF W1 W3 W2 c hX hT hG hF h1 h3 h2).symm)
    rw [(a0.trans hX), (a1.trans hG), (a2.trans h1), (a3.trans h3), (a4.trans h2), (a5.trans hT), (a6.trans hF)]
    exact Cert.HeadReferenceIdeal.Rows.v76 X T G GF W1 W3 W2

end Cert.Proof.Head

end
-- ==== Proof.WgradMath.lean ====
/- A weight's gradient as one sum over all rows, and the gradient set with one of its thirds replaced. -/
module

public import proofs.«01_k».proof.Proof.RowMath

@[expose] public section

noncomputable section

namespace WgradMath

open Idealize.ShloMosaic

/-- The gradient of a weight: entry (`f`, `k`) sums, over all rows, the left array's column `f` times the right's column `k`. -/
def gram (a : (⟨2, ![8192, 2816]⟩ : Shape).Idx → EReal) (h : (⟨2, ![8192, 1024]⟩ : Shape).Idx → EReal)
    (f : Fin 2816) (k : Fin 1024) : EReal := ∑ r : Fin 8192, a (ix2 r f) * h (ix2 r k)

/-- The gradient set with third `b` replaced by `w`: row `j` of slot `n` of that third is row `352 n + j` of `w`. -/
def third (b : ℕ) (w : Fin 2816 → Fin 1024 → EReal) (S : (⟨3, ![8, 1056, 1024]⟩ : Shape).Idx → EReal) :
    (⟨3, ![8, 1056, 1024]⟩ : Shape).Idx → EReal :=
  fun i => if (i 1).val / 352 = b then
      w ⟨(i 0).val * 352 + (i 1).val % 352, by have h0 : (i 0).val < 8 := (i 0).2; omega⟩ (i 2)
    else S i

/-- Half of a sum is the sum of the halves, also among the extended reals. -/
theorem half_sum {n : ℕ} (f : Fin n → EReal) :
    Ideal.ofBits .f32 0x3F000000#32 * ∑ k, f k = ∑ k, Ideal.ofBits .f32 0x3F000000#32 * f k := by
  rw [RowMath.bits_half]
  induction n with
  | zero => simp
  | succ n ih =>
    rw [Fin.sum_univ_succ, Fin.sum_univ_succ, ← ih,
      EReal.left_distrib_of_nonneg_of_ne_top (EReal.coe_nonneg.2 (by norm_num)) (EReal.coe_ne_top _)]

end WgradMath

end
-- ==== Proof.Wgrad1Kernel.lean ====
/- The gradient of the first feed-forward weight: the blocks' partial products added over the grid. -/
module

public import proofs.«01_k».proof.Proof.WgradMath
public import proofs.«01_k».proof.Proof.Gen.Wgrad1Ideal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.Wgrad1Ideal.Rows

open Cert.Wgrad1Ideal Cert.Wgrad1Ideal.Gen Idealize.ShloMosaic Idealize.ShloMosaic.TcCoe Idealize.SL.Sem WgradMath

theorem zero_apply (j : S2816x1024.Idx) : k0_pay1 (F := Ideal) j = 0 := by
  idx_vars j
  pointwise [k0_pay1]

theorem step_apply (v : S2816x1024.Idx → EReal) (a : S1024x2816.Idx → EReal) (h : S1024x1024.Idx → EReal) (j : S2816x1024.Idx) :
    k0_pay2 (F := Ideal) v a h j = v j + ∑ k : Fin 1024, a (ix2 k (j 0)) * h (ix2 k (j 1)) := by
  idx_vars j
  pointwise [k0_pay2]

theorem last_apply (v : S2816x1024.Idx → EReal) (j : S8x352x1024.Idx) :
    k0_pay3 (F := Ideal) v j = v (ix2 ⟨(j 0).val * 352 + (j 1).val, by have h0 : (j 0).val < 8 := (j 0).2; have h1 : (j 1).val < 352 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2816.Idx → EReal := m ((c : Thread nD τ).loc main_arg0)
abbrev right : S8192x1024.Idx → EReal := m ((c : Thread nD τ).loc main_arg1)

theorem blk0 (t : Fin cfg0.N) (k : Fin 1024) (f : Fin 2816) : iblk m c 0 t (ix2 k f : S1024x2816.Idx) = left m c (ix2 (rowAt t k) f) := by
  have e : ((cfg0.win 0).blk t).view.emb (ix2 k f : S1024x2816.Idx) = (ix2 (rowAt t k) f : S8192x2816.Idx) := by
    funext a
    apply Fin.ext
    match a with
    | ⟨0, _⟩ => show win0_0.index t 0 * 1024 + 1 * k.val = t.val * 1024 + k.val; rw [at0 t]; simp
    | ⟨1, _⟩ => show win0_0.index t 1 * 2816 + 1 * f.val = f.val; rw [at0 t]; simp
  show V m c main_arg0 (((cfg0.win 0).blk t).view.emb (ix2 k f : S1024x2816.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2816x1024.Idx) : EReal :=
  ∑ k : Fin 1024, left m c (ix2 (rowAt t k) (j 0)) * right m c (ix2 (rowAt t k) (j 1))

theorem step_term (v : S2816x1024.Idx → EReal) (t : Fin cfg0.N) (j : S2816x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2816x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x352x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the set with its first third replaced by the gradient. -/
theorem final : (dats m 0 c).arrAt 2 cfg0.N = third 0 (gram (left m c) (right m c))
    (m ((c : Thread nD τ).loc main_arg2)) := by
  refine (dats m 0 c).arrAt_eq_of_coversWhere_of_agree 2 _ (fun β => β (1 : Fin 3) = 0) (by decide +kernel) (fun t hf (y : S8x352x1024.Idx) => ?_) (fun (j : S8x1056x1024.Idx) hj => ?_)
  · have h7 : t.val % 8 = 7 := (Cert.Wgrad1Ideal.Gen.flush0_2 t).mp hf
    have hN : t.val < 8 := lt_of_lt_of_eq t.isLt N_0
    have hy : (y 1).val < 352 := (y 1).2
    have e0 : (((cfg0.win 2).blk t).view.emb y : S8x1056x1024.Idx) = (ix3 (y 0) ⟨0 + (y 1).val, by omega⟩ (y 2) : S8x1056x1024.Idx) := by
      funext a
      apply Fin.ext
      match a with
      | ⟨0, _⟩ => show win0_2.index t 0 * 8 + 1 * (y 0).val = (y 0).val; rw [at2 t]; simp
      | ⟨1, _⟩ => show win0_2.index t 1 * 352 + 1 * (y 1).val = 0 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (0 + (y 1).val) / 352 = 0 := by omega
    show _ = if (0 + (y 1).val) / 352 = 0 then _ else _
    rw [if_pos hc]
    refine congrArg (fun f => gram (left m c) (right m c) f (y 2)) (Fin.ext ?_)
    show (y 0).val * 352 + (y 1).val = (y 0).val * 352 + (0 + (y 1).val) % 352
    omega
  · have hc : ¬(j 1).val / 352 = 0 := hj
    show V m c main_v0 j = if (j 1).val / 352 = 0 then _ else _
    rw [if_neg hc]
    show StableHlo.after hostOps0 _ (Proc.devRef .tc main_v0) j = _
    after_results
    rfl

end Cert.Wgrad1Ideal.Rows

end
-- ==== Proof.Wgrad1Ref.lean ====
/- The reference of the first feed-forward weight's gradient, and the claims about the call. -/
module

public import proofs.«01_k».proof.Defs
public import proofs.«01_k».proof.Proof.Wgrad1Kernel
public import proofs.«01_k».proof.Proof.Gen.Wgrad1ReferenceIdeal.Read
public import Idealize.ShloMosaic.Lib.Quiescent

@[expose] public section

set_option maxRecDepth 16384

noncomputable section

namespace Cert.Proof.Wgrad1

open Cert.Wgrad1ReferenceIdeal.Read Idealize.ShloMosaic Idealize.ShloMosaic.TcCoe Idealize.SL.Sem WgradMath

/-- One entry of the reference's gradient, before it is laid into the set. -/
theorem entry (a : (⟨2, ![8192, 2816]⟩ : Shape).Idx → EReal) (h : (⟨2, ![8192, 1024]⟩ : Shape).Idx → EReal) (f : Fin 2816) (k : Fin 1024) :
    val_main_v6 (F := Ideal) a h (ix2 f k) = gram a h f k := by
  pointwise [val_main_v6, val_main_v5, val_main_v4, val_main_v3, val_main_v1]
  rfl

theorem whole (a : (⟨2, ![8192, 2816]⟩ : Shape).Idx → EReal) (h : (⟨2, ![8192, 1024]⟩ : Shape).Idx → EReal)
    (s : (⟨3, ![8, 1056, 1024]⟩ : Shape).Idx → EReal) :
    val_main_v11 (F := Ideal) a h s = third 0 (gram a h) s := by
  funext j
  have h0 : (j 0).val < 8 := (j 0).2
  have h1 : (j 1).val < 1056 := (j 1).2
  idx_vars j
  pointwise [val_main_v11, val_main_v10, val_main_v9, val_main_v8]
  show _ = if j1.val / 352 = 0 then gram a h ⟨j0.val * 352 + j1.val % 352, _⟩ j2 else s (ix3 j0 j1 j2)
  by_cases hc : j1.val < 352
  · refine (dif_pos hc).trans (Eq.trans ?_ (if_pos (by omega)).symm)
    exact (entry a h _ j2).trans (congrArg (fun f => gram a h f j2)
      (Fin.ext (by show j0.val * 352 + j1.val = j0.val * 352 + j1.val % 352; omega)))
  · refine (dif_neg hc).trans (Eq.trans ?_ (if_neg (by omega)).symm)
    exact congrArg (fun q => s (ix3 j0 q j2)) (Fin.ext (by show 352 + (j1.val - 352) = j1.val; omega))

/-- The reference's program declares no semaphore, so its run is its frame. -/
theorem frame_ref : Cert.quiescent_Wgrad1ReferenceIdeal := fun m ρ _ =>
  (θ_run Cert.Wgrad1ReferenceIdeal.defs _ _).mono (fun r h => ⟨fun c => (h c).2, sem_eq_zero_of_no_sems (by decide) r.2⟩)
    (Cert.Wgrad1ReferenceIdeal.Value.run m ρ)

/-- Both programs end with the same set: its first third the gradient, the rest as it was. -/
theorem algebraic : Cert.algebraic_Wgrad1Ideal_Wgrad1ReferenceIdeal := by
  intro m g m' g' _ hargs
  refine ⟨fun c => (Cert.Wgrad1Ideal.Gen.dats m 0 c).arrAt 2 Cert.Wgrad1Ideal.cfg0.N, Cert.Wgrad1Ideal.Value.run_blocks m g, ?_⟩
  refine (θ_run Cert.Wgrad1ReferenceIdeal.defs _ _).mono (fun r h c => ?_) (Cert.Wgrad1ReferenceIdeal.Value.run m' g')
  obtain ⟨q, qa⟩ := h c
  obtain ⟨a0, a1, a2⟩ := hargs c
  refine ⟨?_, qa⟩
  refine (q.trans (val_main_v11_eq (F := Ideal) _ _ _)).trans (Eq.trans ?_ (Cert.Wgrad1Ideal.Rows.final m c).symm)
  rw [a0, a1, a2]
  exact whole _ _ _

end Cert.Proof.Wgrad1

end
-- ==== Proof.Wgrad3Kernel.lean ====
/- The gradient of the gate's linear feed-forward weight: the blocks' partial products added over the grid. -/
module

public import proofs.«01_k».proof.Proof.WgradMath
public import proofs.«01_k».proof.Proof.Gen.Wgrad3Ideal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.Wgrad3Ideal.Rows

open Cert.Wgrad3Ideal Cert.Wgrad3Ideal.Gen Idealize.ShloMosaic Idealize.ShloMosaic.TcCoe Idealize.SL.Sem WgradMath

theorem zero_apply (j : S2816x1024.Idx) : k0_pay1 (F := Ideal) j = 0 := by
  idx_vars j
  pointwise [k0_pay1]

theorem step_apply (v : S2816x1024.Idx → EReal) (a : S1024x2816.Idx → EReal) (h : S1024x1024.Idx → EReal) (j : S2816x1024.Idx) :
    k0_pay2 (F := Ideal) v a h j = v j + ∑ k : Fin 1024, a (ix2 k (j 0)) * h (ix2 k (j 1)) := by
  idx_vars j
  pointwise [k0_pay2]

theorem last_apply (v : S2816x1024.Idx → EReal) (j : S8x352x1024.Idx) :
    k0_pay3 (F := Ideal) v j = v (ix2 ⟨(j 0).val * 352 + (j 1).val, by have h0 : (j 0).val < 8 := (j 0).2; have h1 : (j 1).val < 352 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 1, 0] := (by decide +kernel : ∀ t : Fin grid0.N, win0_2.index t = ![0, 1, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2816.Idx → EReal := m ((c : Thread nD τ).loc main_arg0)
abbrev right : S8192x1024.Idx → EReal := m ((c : Thread nD τ).loc main_arg1)

theorem blk0 (t : Fin cfg0.N) (k : Fin 1024) (f : Fin 2816) : iblk m c 0 t (ix2 k f : S1024x2816.Idx) = left m c (ix2 (rowAt t k) f) := by
  have e : ((cfg0.win 0).blk t).view.emb (ix2 k f : S1024x2816.Idx) = (ix2 (rowAt t k) f : S8192x2816.Idx) := by
    funext a
    apply Fin.ext
    match a with
    | ⟨0, _⟩ => show win0_0.index t 0 * 1024 + 1 * k.val = t.val * 1024 + k.val; rw [at0 t]; simp
    | ⟨1, _⟩ => show win0_0.index t 1 * 2816 + 1 * f.val = f.val; rw [at0 t]; simp
  show V m c main_arg0 (((cfg0.win 0).blk t).view.emb (ix2 k f : S1024x2816.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2816x1024.Idx) : EReal :=
  ∑ k : Fin 1024, left m c (ix2 (rowAt t k) (j 0)) * right m c (ix2 (rowAt t k) (j 1))

theorem step_term (v : S2816x1024.Idx → EReal) (t : Fin cfg0.N) (j : S2816x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2816x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x352x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the set with its second third replaced by the gradient. -/
theorem final : (dats m 0 c).arrAt 2 cfg0.N = third 1 (gram (left m c) (right m c))
    (m ((c : Thread nD τ).loc main_arg2)) := by
  refine (dats m 0 c).arrAt_eq_of_coversWhere_of_agree 2 _ (fun β => β (1 : Fin 3) = 1) (by decide +kernel) (fun t hf (y : S8x352x1024.Idx) => ?_) (fun (j : S8x1056x1024.Idx) hj => ?_)
  · have h7 : t.val % 8 = 7 := (Cert.Wgrad3Ideal.Gen.flush0_2 t).mp hf
    have hN : t.val < 8 := lt_of_lt_of_eq t.isLt N_0
    have hy : (y 1).val < 352 := (y 1).2
    have e0 : (((cfg0.win 2).blk t).view.emb y : S8x1056x1024.Idx) = (ix3 (y 0) ⟨352 + (y 1).val, by omega⟩ (y 2) : S8x1056x1024.Idx) := by
      funext a
      apply Fin.ext
      match a with
      | ⟨0, _⟩ => show win0_2.index t 0 * 8 + 1 * (y 0).val = (y 0).val; rw [at2 t]; simp
      | ⟨1, _⟩ => show win0_2.index t 1 * 352 + 1 * (y 1).val = 352 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (352 + (y 1).val) / 352 = 1 := by omega
    show _ = if (352 + (y 1).val) / 352 = 1 then _ else _
    rw [if_pos hc]
    refine congrArg (fun f => gram (left m c) (right m c) f (y 2)) (Fin.ext ?_)
    show (y 0).val * 352 + (y 1).val = (y 0).val * 352 + (352 + (y 1).val) % 352
    omega
  · have hc : ¬(j 1).val / 352 = 1 := hj
    show V m c main_v0 j = if (j 1).val / 352 = 1 then _ else _
    rw [if_neg hc]
    show StableHlo.after hostOps0 _ (Proc.devRef .tc main_v0) j = _
    after_results
    rfl

end Cert.Wgrad3Ideal.Rows

end
-- ==== Proof.Wgrad3Ref.lean ====
/- The reference of the gate's linear feed-forward weight's gradient, and the claims about the call. -/
module

public import proofs.«01_k».proof.Defs
public import proofs.«01_k».proof.Proof.Wgrad3Kernel
public import proofs.«01_k».proof.Proof.Gen.Wgrad3ReferenceIdeal.Read
public import Idealize.ShloMosaic.Lib.Quiescent

@[expose] public section

set_option maxRecDepth 16384

noncomputable section

namespace Cert.Proof.Wgrad3

open Cert.Wgrad3ReferenceIdeal.Read Idealize.ShloMosaic Idealize.ShloMosaic.TcCoe Idealize.SL.Sem WgradMath

/-- One entry of the reference's gradient, before it is laid into the set. -/
theorem entry (a : (⟨2, ![8192, 2816]⟩ : Shape).Idx → EReal) (h : (⟨2, ![8192, 1024]⟩ : Shape).Idx → EReal) (f : Fin 2816) (k : Fin 1024) :
    val_main_v6 (F := Ideal) a h (ix2 f k) = gram a h f k := by
  pointwise [val_main_v6, val_main_v5, val_main_v4, val_main_v3, val_main_v1]
  rfl

theorem whole (a : (⟨2, ![8192, 2816]⟩ : Shape).Idx → EReal) (h : (⟨2, ![8192, 1024]⟩ : Shape).Idx → EReal)
    (s : (⟨3, ![8, 1056, 1024]⟩ : Shape).Idx → EReal) :
    val_main_v11 (F := Ideal) a h s = third 1 (gram a h) s := by
  funext j
  have h0 : (j 0).val < 8 := (j 0).2
  have h1 : (j 1).val < 1056 := (j 1).2
  idx_vars j
  pointwise [val_main_v11, val_main_v10, val_main_v9, val_main_v8, val_main_v7]
  show _ = if j1.val / 352 = 1 then gram a h ⟨j0.val * 352 + j1.val % 352, _⟩ j2 else s (ix3 j0 j1 j2)
  by_cases hc : j1.val < 352
  · exact (dif_pos hc).trans (if_neg (by omega)).symm
  · refine (dif_neg hc).trans ?_
    by_cases hd : j1.val - 352 < 352
    · refine (dif_pos hd).trans (Eq.trans ?_ (if_pos (by omega)).symm)
      exact (entry a h _ j2).trans (congrArg (fun f => gram a h f j2)
        (Fin.ext (by show j0.val * 352 + (j1.val - 352) = j0.val * 352 + j1.val % 352; omega)))
    · refine (dif_neg hd).trans (Eq.trans ?_ (if_neg (by omega)).symm)
      exact congrArg (fun q => s (ix3 j0 q j2)) (Fin.ext (by show 704 + (j1.val - 352 - 352) = j1.val; omega))

/-- The reference's program declares no semaphore, so its run is its frame. -/
theorem frame_ref : Cert.quiescent_Wgrad3ReferenceIdeal := fun m ρ _ =>
  (θ_run Cert.Wgrad3ReferenceIdeal.defs _ _).mono (fun r h => ⟨fun c => (h c).2, sem_eq_zero_of_no_sems (by decide) r.2⟩)
    (Cert.Wgrad3ReferenceIdeal.Value.run m ρ)

/-- Both programs end with the same set: its second third the gradient, the rest as it was. -/
theorem algebraic : Cert.algebraic_Wgrad3Ideal_Wgrad3ReferenceIdeal := by
  intro m g m' g' _ hargs
  refine ⟨fun c => (Cert.Wgrad3Ideal.Gen.dats m 0 c).arrAt 2 Cert.Wgrad3Ideal.cfg0.N, Cert.Wgrad3Ideal.Value.run_blocks m g, ?_⟩
  refine (θ_run Cert.Wgrad3ReferenceIdeal.defs _ _).mono (fun r h c => ?_) (Cert.Wgrad3ReferenceIdeal.Value.run m' g')
  obtain ⟨q, qa⟩ := h c
  obtain ⟨a0, a1, a2⟩ := hargs c
  refine ⟨?_, qa⟩
  refine (q.trans (val_main_v11_eq (F := Ideal) _ _ _)).trans (Eq.trans ?_ (Cert.Wgrad3Ideal.Rows.final m c).symm)
  rw [a0, a1, a2]
  exact whole _ _ _

end Cert.Proof.Wgrad3

end
-- ==== Proof.Wgrad2Kernel.lean ====
/- The gradient of the second feed-forward weight: the blocks' partial products added over the grid. -/
module

public import proofs.«01_k».proof.Proof.WgradMath
public import proofs.«01_k».proof.Proof.Gen.Wgrad2Ideal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.Wgrad2Ideal.Rows

open Cert.Wgrad2Ideal Cert.Wgrad2Ideal.Gen Idealize.ShloMosaic Idealize.ShloMosaic.TcCoe Idealize.SL.Sem WgradMath

theorem zero_apply (j : S2816x1024.Idx) : k0_pay1 (F := Ideal) j = 0 := by
  idx_vars j
  pointwise [k0_pay1]

theorem step_apply (v : S2816x1024.Idx → EReal) (a : S1024x2816.Idx → EReal) (h : S1024x1024.Idx → EReal) (j : S2816x1024.Idx) :
    k0_pay2 (F := Ideal) v a h j = v j + ∑ k : Fin 1024, a (ix2 k (j 0)) * h (ix2 k (j 1)) := by
  idx_vars j
  pointwise [k0_pay2]

theorem last_apply (v : S2816x1024.Idx → EReal) (j : S8x352x1024.Idx) :
    k0_pay3 (F := Ideal) v j = Ideal.ofBits .f32 0x3F000000#32
      * v (ix2 ⟨(j 0).val * 352 + (j 1).val, by have h0 : (j 0).val < 8 := (j 0).2; have h1 : (j 1).val < 352 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 2, 0] := (by decide +kernel : ∀ t : Fin grid0.N, win0_2.index t = ![0, 2, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2816.Idx → EReal := m ((c : Thread nD τ).loc main_arg0)
abbrev right : S8192x1024.Idx → EReal := m ((c : Thread nD τ).loc main_arg1)

theorem blk0 (t : Fin cfg0.N) (k : Fin 1024) (f : Fin 2816) : iblk m c 0 t (ix2 k f : S1024x2816.Idx) = left m c (ix2 (rowAt t k) f) := by
  have e : ((cfg0.win 0).blk t).view.emb (ix2 k f : S1024x2816.Idx) = (ix2 (rowAt t k) f : S8192x2816.Idx) := by
    funext a
    apply Fin.ext
    match a with
    | ⟨0, _⟩ => show win0_0.index t 0 * 1024 + 1 * k.val = t.val * 1024 + k.val; rw [at0 t]; simp
    | ⟨1, _⟩ => show win0_0.index t 1 * 2816 + 1 * f.val = f.val; rw [at0 t]; simp
  show V m c main_arg0 (((cfg0.win 0).blk t).view.emb (ix2 k f : S1024x2816.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2816x1024.Idx) : EReal :=
  ∑ k : Fin 1024, left m c (ix2 (rowAt t k) (j 0)) * right m c (ix2 (rowAt t k) (j 1))

theorem step_term (v : S2816x1024.Idx → EReal) (t : Fin cfg0.N) (j : S2816x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2816x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x352x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the set with its last third replaced by half the gradient. -/
theorem final : (dats m 0 c).arrAt 2 cfg0.N = third 2 (fun f k => Ideal.ofBits .f32 0x3F000000#32 * gram (left m c) (right m c) f k)
    (m ((c : Thread nD τ).loc main_arg2)) := by
  refine (dats m 0 c).arrAt_eq_of_coversWhere_of_agree 2 _ (fun β => β (1 : Fin 3) = 2) (by decide +kernel) (fun t hf (y : S8x352x1024.Idx) => ?_) (fun (j : S8x1056x1024.Idx) hj => ?_)
  · have h7 : t.val % 8 = 7 := (Cert.Wgrad2Ideal.Gen.flush0_2 t).mp hf
    have hN : t.val < 8 := lt_of_lt_of_eq t.isLt N_0
    have hy : (y 1).val < 352 := (y 1).2
    have e0 : (((cfg0.win 2).blk t).view.emb y : S8x1056x1024.Idx) = (ix3 (y 0) ⟨704 + (y 1).val, by omega⟩ (y 2) : S8x1056x1024.Idx) := by
      funext a
      apply Fin.ext
      match a with
      | ⟨0, _⟩ => show win0_2.index t 0 * 8 + 1 * (y 0).val = (y 0).val; rw [at2 t]; simp
      | ⟨1, _⟩ => show win0_2.index t 1 * 352 + 1 * (y 1).val = 704 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (704 + (y 1).val) / 352 = 2 := by omega
    show _ = if (704 + (y 1).val) / 352 = 2 then _ else _
    rw [if_pos hc]
    congr 2
    apply Fin.ext
    show (y 0).val * 352 + (y 1).val = (y 0).val * 352 + (704 + (y 1).val) % 352
    omega
  · have hc : ¬(j 1).val / 352 = 2 := hj
    show V m c main_v0 j = if (j 1).val / 352 = 2 then _ else _
    rw [if_neg hc]
    show StableHlo.after hostOps0 _ (Proc.devRef .tc main_v0) j = _
    after_results
    rfl

end Cert.Wgrad2Ideal.Rows

end
-- ==== Proof.Wgrad2Ref.lean ====
/- The reference of the second feed-forward weight's gradient, and the claims about the call. -/
module

public import proofs.«01_k».proof.Defs
public import proofs.«01_k».proof.Proof.Wgrad2Kernel
public import proofs.«01_k».proof.Proof.Gen.Wgrad2ReferenceIdeal.Read
public import Idealize.ShloMosaic.Lib.Quiescent

@[expose] public section

set_option maxRecDepth 16384

noncomputable section

namespace Cert.Proof.Wgrad2

open Cert.Wgrad2ReferenceIdeal.Read Idealize.ShloMosaic Idealize.ShloMosaic.TcCoe Idealize.SL.Sem WgradMath

/-- One entry of the reference's gradient, before it is laid into the set. -/
theorem entry (a : (⟨2, ![8192, 2816]⟩ : Shape).Idx → EReal) (h : (⟨2, ![8192, 1024]⟩ : Shape).Idx → EReal) (f : Fin 2816) (k : Fin 1024) :
    val_main_v8 (F := Ideal) a h (ix2 f k) = Ideal.ofBits .f32 0x3F000000#32 * gram a h f k := by
  pointwise [val_main_v8, val_main_v7, val_main_v6, val_main_v5, val_main_cst_1, val_main_v1]
  unfold gram
  rw [half_sum]
  exact Finset.sum_congr rfl fun r _ => by rw [mul_assoc, mul_comm (h _)]

theorem whole (a : (⟨2, ![8192, 2816]⟩ : Shape).Idx → EReal) (h : (⟨2, ![8192, 1024]⟩ : Shape).Idx → EReal)
    (s : (⟨3, ![8, 1056, 1024]⟩ : Shape).Idx → EReal) :
    val_main_v13 (F := Ideal) a h s = third 2 (fun f k => Ideal.ofBits .f32 0x3F000000#32 * gram a h f k) s := by
  funext j
  have h0 : (j 0).val < 8 := (j 0).2
  have h1 : (j 1).val < 1056 := (j 1).2
  idx_vars j
  pointwise [val_main_v13, val_main_v9, val_main_v11, val_main_v10]
  show _ = if j1.val / 352 = 2 then Ideal.ofBits .f32 0x3F000000#32 * gram a h ⟨j0.val * 352 + j1.val % 352, _⟩ j2 else s (ix3 j0 j1 j2)
  by_cases hc : j1.val < 704
  · exact (dif_pos hc).trans (if_neg (by omega)).symm
  · refine (dif_neg hc).trans (Eq.trans ?_ (if_pos (by omega)).symm)
    exact (entry a h _ j2).trans (congrArg (fun f => Ideal.ofBits .f32 0x3F000000#32 * gram a h f j2)
      (Fin.ext (by show j0.val * 352 + (j1.val - 704) = j0.val * 352 + j1.val % 352; omega)))

/-- The reference's program declares no semaphore, so its run is its frame. -/
theorem frame_ref : Cert.quiescent_Wgrad2ReferenceIdeal := fun m ρ _ =>
  (θ_run Cert.Wgrad2ReferenceIdeal.defs _ _).mono (fun r h => ⟨fun c => (h c).2, sem_eq_zero_of_no_sems (by decide) r.2⟩)
    (Cert.Wgrad2ReferenceIdeal.Value.run m ρ)

/-- Both programs end with the same set: its last third half the gradient, the rest as it was. -/
theorem algebraic : Cert.algebraic_Wgrad2Ideal_Wgrad2ReferenceIdeal := by
  intro m g m' g' _ hargs
  refine ⟨fun c => (Cert.Wgrad2Ideal.Gen.dats m 0 c).arrAt 2 Cert.Wgrad2Ideal.cfg0.N, Cert.Wgrad2Ideal.Value.run_blocks m g, ?_⟩
  refine (θ_run Cert.Wgrad2ReferenceIdeal.defs _ _).mono (fun r h c => ?_) (Cert.Wgrad2ReferenceIdeal.Value.run m' g')
  obtain ⟨q, qa⟩ := h c
  obtain ⟨a0, a1, a2⟩ := hargs c
  refine ⟨?_, qa⟩
  refine (q.trans (val_main_v13_eq (F := Ideal) _ _ _)).trans (Eq.trans ?_ (Cert.Wgrad2Ideal.Rows.final m c).symm)
  rw [a0, a1, a2]
  exact whole _ _ _

end Cert.Proof.Wgrad2

end
-- ==== Proof.FwdMath.lean ====
/- The feed-forward layer row by row on the extended reals, and its gate in the two forms in which it is computed. -/
module

public import proofs.«01_k».proof.Proof.RowMath

@[expose] public section

noncomputable section

namespace FwdMath

open Idealize.ShloMosaic RowMath

/-- A table of extended reals as the contents of an array of rank two. -/
def etab {n m : ℕ} (f : Fin n → Fin m → EReal) : (⟨2, ![n, m]⟩ : Shape).Idx → EReal := fun j => f (j 0) (j 1)
theorem etab_ix2 {n m : ℕ} (f : Fin n → Fin m → EReal) (i : Fin n) (k : Fin m) : etab f (ix2 i k : (⟨2, ![n, m]⟩ : Shape).Idx) = f i k := rfl
/-- A list of extended reals as the contents of an array of rank one. -/
def evec {n : ℕ} (f : Fin n → EReal) : (⟨1, ![n]⟩ : Shape).Idx → EReal := fun j => f (j 0)
theorem evec_ix1 {n : ℕ} (f : Fin n → EReal) (i : Fin n) : evec f (ix1 i : (⟨1, ![n]⟩ : Shape).Idx) = f i := rfl

/-- Every array of rank two is a table. -/
theorem etab_self {n m : ℕ} (x : (⟨2, ![n, m]⟩ : Shape).Idx → EReal) : x = etab fun i k => x (ix2 i k) := by
  funext j
  show x j = x (ix2 (j 0) (j 1))
  exact congrArg x (funext fun a => match a with | ⟨0, _⟩ => rfl | ⟨1, _⟩ => rfl)
/-- Every array of rank one is a list. -/
theorem evec_self {n : ℕ} (x : (⟨1, ![n]⟩ : Shape).Idx → EReal) : x = evec fun i => x (ix1 i) := by
  funext j
  show x j = x (ix1 (j 0))
  exact congrArg x (funext fun a => match a with | ⟨0, _⟩ => rfl)

/-- One half, as both programs write it. -/
abbrev half : EReal := Ideal.ofBits .f32 0x3F000000#32

/-- A row divided by its root mean square and scaled by the gain. -/
def hidden (x g : Fin 1024 → EReal) (k : Fin 1024) : EReal :=
  x k * Ideal.rsqrt (Ideal.div (∑ l, x l * x l) (Ideal.ofBits .f32 0x44800000#32) + Ideal.ofBits .f32 0x358637BD#32) * g k
/-- The normalised row against column `f` of a weight kept by columns. -/
def lin (x g : Fin 1024 → EReal) (V : Fin 2816 → Fin 1024 → EReal) (f : Fin 2816) : EReal := ∑ k, hidden x g k * V f k
/-- The gate's sigmoid, through the hyperbolic tangent. -/
def gate (a : EReal) : EReal := half * Ideal.tanh (half * a) + half
/-- The gated product that enters the second matrix product. -/
def prod (a b : EReal) : EReal := a * gate a * b
/-- One row of the layer's output. -/
def out (x : Fin 1024 → EReal) (u : Fin 2816 → EReal) (W : Fin 2816 → Fin 1024 → EReal) (k : Fin 1024) : EReal :=
  x k + half * ∑ f, u f * W f k

theorem half_top : half * ⊤ = ⊤ := by
  rw [show half = ((1 / 2 : ℝ) : EReal) from bits_half]; exact EReal.coe_mul_top_of_pos (by norm_num)
theorem half_bot : half * ⊥ = ⊥ := by
  rw [show half = ((1 / 2 : ℝ) : EReal) from bits_half]; exact EReal.coe_mul_bot_of_pos (by norm_num)

/-- The two forms of the sigmoid agree at every extended real, the infinities included. -/
theorem gate_eq (a : EReal) : Ideal.div 1 (1 + Ideal.exp (-a)) = gate a := by
  unfold gate
  induction a with
  | bot =>
    rw [half_bot, show half = ((1 / 2 : ℝ) : EReal) from bits_half]
    show Ideal.div 1 (1 + ⊤) = ((1 / 2 : ℝ) : EReal) * ((-1 : ℝ) : EReal) + ((1 / 2 : ℝ) : EReal)
    rw [← EReal.coe_mul, ← EReal.coe_add, show (1 / 2 * -1 + 1 / 2 : ℝ) = 0 by norm_num]
    rw [show (1 : EReal) + ⊤ = ⊤ from EReal.coe_add_top 1]
    unfold Ideal.div
    rw [if_neg (by simp), EReal.inv_top, mul_zero]; rfl
  | top =>
    rw [half_top, show half = ((1 / 2 : ℝ) : EReal) from bits_half]
    show Ideal.div 1 (1 + 0) = ((1 / 2 : ℝ) : EReal) * ((1 : ℝ) : EReal) + ((1 / 2 : ℝ) : EReal)
    rw [← EReal.coe_mul, ← EReal.coe_add, show (1 / 2 * 1 + 1 / 2 : ℝ) = 1 by norm_num, add_zero]
    exact (div_real 1 1 one_ne_zero).trans (by norm_num)
  | coe r =>
    rw [show half = ((1 / 2 : ℝ) : EReal) from bits_half, ← EReal.coe_mul, Ideal.tanh_coe, ← EReal.coe_mul, ← EReal.coe_add, sg_tanh]
    rw [← EReal.coe_neg, Ideal.exp_coe, ← EReal.coe_one, ← EReal.coe_add, div_real _ _ (by positivity)]
    rfl

end FwdMath
-- ==== Proof.FwdKernel.lean ====
/- The values of one block of the feed-forward forward kernel, read into the row functions: 512 rows, the hidden width
   taken in three pieces of 1024, 1024 and 768 columns. -/
module

public import proofs.«01_k».proof.Proof.FwdMath
public import proofs.«01_k».proof.Proof.Gen.ForwardIdeal.Skeleton

@[expose] public section

set_option maxRecDepth 16384

noncomputable section

namespace Cert.ForwardIdeal.Rows

open Cert.ForwardIdeal Cert.ForwardIdeal.Gen Idealize.ShloMosaic FwdMath

/-- A hidden column of the first piece. -/
def p0 (k : Fin 1024) : Fin 2816 := ⟨k.val, by omega⟩
/-- A hidden column of the second piece. -/
def p1 (k : Fin 1024) : Fin 2816 := ⟨1024 + k.val, by omega⟩
/-- A hidden column of the third piece. -/
def p2 (k : Fin 768) : Fin 2816 := ⟨2048 + k.val, by omega⟩

/-- A weight kept by hidden column, laid over the eight slots of 352 columns each. -/
def eslot (V : Fin 2816 → Fin 1024 → EReal) : (⟨3, ![8, 352, 1024]⟩ : Shape).Idx → EReal :=
  fun j => V ⟨(j 0).val * 352 + (j 1).val, by have h0 : (j 0).val < 8 := (j 0).2; have h1 : (j 1).val < 352 := (j 1).2; omega⟩ (j 2)

variable (x : Fin 512 → Fin 1024 → EReal) (g : Fin 1 → Fin 1024 → EReal) (V W : Fin 2816 → Fin 1024 → EReal)
  (u : Fin 512 → Fin 2816 → EReal)

theorem weight1 : k0_pay4 (F := Ideal) (eslot V) = etab V := by
  funext j; idx_vars j
  pointwise [k0_pay4, etab_ix2, eslot]
  congr 2
  omega

theorem weight3 : k0_pay5 (F := Ideal) (eslot V) = etab V := weight1 V

theorem norm : k0_pay3 (F := Ideal) (etab x) (etab g) = etab fun i => hidden (x i) (g 0) := by
  funext j; idx_vars j
  pointwise [k0_pay3, etab_ix2]
  rfl

/-! ## The two products, piece by piece -/

theorem a0 : k0_pay6 (F := Ideal) (etab x) (etab g) (eslot V) = etab fun i k => lin (x i) (g 0) V (p0 k) := by
  unfold k0_pay6; rw [norm, weight1]
  funext j; idx_vars j
  pointwise [etab_ix2]
  rfl
theorem b0 : k0_pay7 (F := Ideal) (etab x) (etab g) (eslot V) = etab fun i k => lin (x i) (g 0) V (p0 k) := a0 x g V
theorem a0t : k0_pay8 (F := Ideal) (etab x) (etab g) (eslot V) = etab fun i k => lin (x i) (g 0) V (p0 k) := a0 x g V
theorem b0t : k0_pay9 (F := Ideal) (etab x) (etab g) (eslot V) = etab fun i k => lin (x i) (g 0) V (p0 k) := a0 x g V

theorem a1 : k0_pay12 (F := Ideal) (etab fun i => hidden (x i) (g 0)) (etab V) = etab fun i k => lin (x i) (g 0) V (p1 k) := by
  funext j; idx_vars j
  pointwise [k0_pay12, etab_ix2]
  rfl
theorem b1 : k0_pay13 (F := Ideal) (etab fun i => hidden (x i) (g 0)) (etab V) = etab fun i k => lin (x i) (g 0) V (p1 k) := a1 x g V
theorem a1t : k0_pay14 (F := Ideal) (etab fun i => hidden (x i) (g 0)) (etab V) = etab fun i k => lin (x i) (g 0) V (p1 k) := a1 x g V
theorem b1t : k0_pay15 (F := Ideal) (etab fun i => hidden (x i) (g 0)) (etab V) = etab fun i k => lin (x i) (g 0) V (p1 k) := a1 x g V

theorem a2 : k0_pay17 (F := Ideal) (etab fun i => hidden (x i) (g 0)) (etab V) = etab fun i k => lin (x i) (g 0) V (p2 k) := by
  funext j; idx_vars j
  pointwise [k0_pay17, etab_ix2]
  rfl
theorem b2 : k0_pay18 (F := Ideal) (etab fun i => hidden (x i) (g 0)) (etab V) = etab fun i k => lin (x i) (g 0) V (p2 k) := a2 x g V
theorem a2t : k0_pay19 (F := Ideal) (etab fun i => hidden (x i) (g 0)) (etab V) = etab fun i k => lin (x i) (g 0) V (p2 k) := a2 x g V
theorem b2t : k0_pay20 (F := Ideal) (etab fun i => hidden (x i) (g 0)) (etab V) = etab fun i k => lin (x i) (g 0) V (p2 k) := a2 x g V

/-! ## The gated product, piece by piece -/

/-- The product `u` of row `i` at a hidden column. -/
def gated (i : Fin 512) (f : Fin 2816) : EReal := prod (lin (x i) (g 0) V f) (lin (x i) (g 0) W f)

theorem tanh0 : k0_pay10 (F := Ideal) (etab x) (etab g) (eslot V) = etab fun i k => half * Ideal.tanh (half * lin (x i) (g 0) V (p0 k)) := by
  unfold k0_pay10; rw [a0]
  funext j; idx_vars j
  pointwise [etab_ix2]

theorem u0 : k0_pay11 (F := Ideal) (etab fun i k => lin (x i) (g 0) V (p0 k)) (etab fun i k => lin (x i) (g 0) W (p0 k))
    (etab fun i k => half * Ideal.tanh (half * lin (x i) (g 0) V (p0 k))) (Scalar.ofBits .f32 0x3F000000#32)
    = etab fun i k => gated x g V W i (p0 k) := by
  funext j; idx_vars j
  pointwise [k0_pay11, etab_ix2]
  rfl

theorem u1 : k0_pay16 (F := Ideal) (etab fun i => hidden (x i) (g 0)) (etab V) (etab W) = etab fun i k => gated x g V W i (p1 k) := by
  unfold k0_pay16; rw [a1, b1]
  funext j; idx_vars j
  pointwise [etab_ix2]
  rfl

theorem u2 : k0_pay1 (F := Ideal) (etab fun i k => lin (x i) (g 0) V (p2 k)) (etab fun i k => lin (x i) (g 0) W (p2 k))
    = etab fun i k => gated x g V W i (p2 k) := by
  funext j; idx_vars j
  pointwise [k0_pay1, etab_ix2]
  rfl

theorem y : k0_pay2 (F := Ideal) (etab x) (etab u) (eslot V) = etab fun i => out (x i) (u i) V := by
  show addf (etab x) (mulf (broadcast S512x1024 _) (matmul dot_S512x2816_S2816x1024_S512x1024_1_0_0_1_n_n none (etab u)
    (k0_pay4 (F := Ideal) (eslot V)) _)) = _
  rw [weight1]
  funext j; idx_vars j
  pointwise [etab_ix2]
  rfl

end Cert.ForwardIdeal.Rows
-- ==== Proof.FwdHost.lean ====
/- What the host lays before the feed-forward forward kernel, and the block of it that a grid point reads. -/
module

public import proofs.«01_k».proof.Proof.FwdKernel
public import proofs.«01_k».proof.Proof.Gen.ForwardIdeal.Value
public import Idealize.ShloMosaic.Lib.StableHlo.RunRead
public import Idealize.ShloMosaic.Lib.Pipeline.ValueKit.Geometry
public import Idealize.ShloMosaic.Lib.Pipeline.ValueKit.Acc

@[expose] public section

set_option maxRecDepth 16384
set_option maxHeartbeats 1000000

noncomputable section

namespace Cert.ForwardIdeal.Rows

open Cert.ForwardIdeal Cert.ForwardIdeal.Gen Idealize.ShloMosaic Idealize.ShloMosaic.TcCoe Idealize.SL.Sem FwdMath

variable (m : (ℓ : Loc nD τ sig) → Buf (Elt Ideal) ℓ)
  (X : Fin 8192 → Fin 1024 → EReal) (G : Fin 1024 → EReal) (W1 W3 : Fin 1024 → Fin 2816 → EReal) (W2 : Fin 2816 → Fin 1024 → EReal)
  (c : Dev nD)

/-- The gain as a row. -/
theorem gainRow (hG : m ((c : Thread nD τ).loc main_arg1) = evec G) : V m c main_v7 = etab fun (_ : Fin 1) k => G k := by
  show StableHlo.after hostOps0 _ (Proc.devRef .tc main_v7) = _
  after_results
  rw [show m (c, Proc.devRef .tc main_arg1) = evec G from hG]
  funext j; idx_vars j
  pointwise [etab_ix2, evec_ix1]

/-- The weight set the host lays: slot `n` holds rows `352 n` and on of the first weight's transpose, of the third's and
    of the second weight, one below another. -/
theorem weightSet (h1 : m ((c : Thread nD τ).loc main_arg2) = etab W1) (h3 : m ((c : Thread nD τ).loc main_arg3) = etab W3)
    (h2 : m ((c : Thread nD τ).loc main_arg4) = etab W2) (n : Fin 8) (j : Fin 352) (k : Fin 1024) :
    V m c main_v6 (ix3 n ⟨j.val, by omega⟩ k) = eslot (fun f k => W1 k f) (ix3 n j k)
    ∧ V m c main_v6 (ix3 n ⟨352 + j.val, by omega⟩ k) = eslot (fun f k => W3 k f) (ix3 n j k)
    ∧ V m c main_v6 (ix3 n ⟨704 + j.val, by omega⟩ k) = eslot W2 (ix3 n j k) := by
  have e : (V m c main_v6 : FVec Ideal S8x1056x1024 .bf16) = truncf (F := Ideal) .bf16 (concatenate S8x1056x1024 1 [⟨S8x352x1024, StableHlo.upto (hostOps0 (F := Ideal)) (fun b => m (c, b)) 5 (Proc.devRef .tc main_v1)⟩,
      ⟨S8x352x1024, StableHlo.upto (hostOps0 (F := Ideal)) (fun b => m (c, b)) 5 (Proc.devRef .tc main_v3)⟩,
      ⟨S8x352x1024, StableHlo.upto (hostOps0 (F := Ideal)) (fun b => m (c, b)) 5 (Proc.devRef .tc main_v4)⟩] concatenates_S8x352x1024_S8x352x1024_S8x352x1024_S8x1056x1024_d1) bitsLt_bf16_f32 := by
    show StableHlo.after hostOps0 _ (Proc.devRef .tc main_v6) = _
    rw [StableHlo.after_last_write (i := 6) [main_v7] rfl rfl (by decide), StableHlo.unary_result',
      StableHlo.upto_last_write (i := 5) [] rfl rfl (by decide), StableHlo.nary_result']
    rfl
  rw [e]
  rw [StableHlo.upto_last_write (n := 5) (i := 1) (r := main_v1) [main_v2, main_v3, main_v4] rfl rfl (by decide), StableHlo.reshape_result',
    StableHlo.upto_last_write (n := 1) (i := 0) (r := main_v0) [] rfl rfl (by decide), StableHlo.unary_result',
    StableHlo.upto_last_write (n := 5) (i := 3) (r := main_v3) [main_v4] rfl rfl (by decide), StableHlo.reshape_result',
    StableHlo.upto_last_write (n := 3) (i := 2) (r := main_v2) [] rfl rfl (by decide), StableHlo.unary_result',
    StableHlo.upto_last_write (n := 5) (i := 4) (r := main_v4) [] rfl rfl (by decide), StableHlo.reshape_result',
    StableHlo.upto_unwritten (n := 0) (r := main_arg2) [] rfl (by decide),
    StableHlo.upto_unwritten (n := 2) (r := main_arg3) [main_v0, main_v1] rfl (by decide),
    StableHlo.upto_unwritten (n := 4) (r := main_arg4) [main_v0, main_v1, main_v2, main_v3] rfl (by decide)]
  rw [show m (c, Proc.devRef .tc main_arg2) = etab W1 from h1, show m (c, Proc.devRef .tc main_arg3) = etab W3 from h3,
    show m (c, Proc.devRef .tc main_arg4) = etab W2 from h2]
  refine ⟨?_, ?_, ?_⟩
  · pointwise [etab_ix2]; rfl
  · pointwise [etab_ix2]; rfl
  · pointwise [etab_ix2]
    rw [dif_neg (by omega), dif_neg (by omega)]
    have q : n.val * 352 + (704 + j.val - 352 - 352) = n.val * 352 + j.val := by omega
    simp only [q]; rfl

/-! ## The block of each window at a grid point -/

/-- The row of the whole table that is row `i` of the block at grid point `t`. -/
def rowAt (t : Fin cfg0.N) (i : Fin 512) : Fin 8192 := ⟨t.val * 512 + i.val, by
  have := t.isLt; have hN : cfg0.N = 16 := rfl; omega⟩

theorem at0 : ∀ t : Fin cfg0.N, win0_0.index t = ![t.val, 0] := (by decide +kernel : ∀ t : Fin grid0.N, win0_0.index t = ![t.val, 0])
theorem at1 : ∀ t : Fin cfg0.N, win0_1.index t = ![0, 0] := (by decide +kernel : ∀ t : Fin grid0.N, win0_1.index t = ![0, 0])
theorem at2 : ∀ t : Fin cfg0.N, win0_2.index t = ![0, 0, 0] := (by decide +kernel : ∀ t : Fin grid0.N, win0_2.index t = ![0, 0, 0])
theorem at3 : ∀ t : Fin cfg0.N, win0_3.index t = ![0, 1, 0] := (by decide +kernel : ∀ t : Fin grid0.N, win0_3.index t = ![0, 1, 0])
theorem at4 : ∀ t : Fin cfg0.N, win0_4.index t = ![0, 2, 0] := (by decide +kernel : ∀ t : Fin grid0.N, win0_4.index t = ![0, 2, 0])

theorem blk0 (hX : m ((c : Thread nD τ).loc main_arg0) = etab X) (t : Fin cfg0.N) :
    (iblk m c 0 t : FVec Ideal S512x1024 .f32) = etab fun i k => X (rowAt t i) k := by
  refine funext fun (j : S512x1024.Idx) => ?_
  have e : ((cfg0.win 0).blk t).view.emb j = (ix2 (rowAt t (j 0)) (j 1) : S8192x1024.Idx) := by
    funext a
    apply Fin.ext
    match a with
    | ⟨0, _⟩ => show win0_0.index t 0 * 512 + 1 * (j 0).val = t.val * 512 + (j 0).val; rw [at0 t]; simp
    | ⟨1, _⟩ => show win0_0.index t 1 * 1024 + 1 * (j 1).val = (j 1).val; rw [at0 t]; simp
  show V m c main_arg0 (((cfg0.win 0).blk t).view.emb j) = _
  rw [e, Gen.V_main_arg0, hX]
  rfl

theorem blk1 (hG : m ((c : Thread nD τ).loc main_arg1) = evec G) (t : Fin cfg0.N) :
    (iblk m c 1 t : FVec Ideal S1x1024 .f32) = etab fun (_ : Fin 1) k => G k := by
  refine funext fun (j : S1x1024.Idx) => ?_
  have e : ((cfg0.win 1).blk t).view.emb j = (ix2 (j 0) (j 1) : S1x1024.Idx) := by
    funext a
    apply Fin.ext
    match a with
    | ⟨0, _⟩ => show win0_1.index t 0 * 1 + 1 * (j 0).val = (j 0).val; rw [at1 t]; simp
    | ⟨1, _⟩ => show win0_1.index t 1 * 1024 + 1 * (j 1).val = (j 1).val; rw [at1 t]; simp
  show V m c main_v7 (((cfg0.win 1).blk t).view.emb j) = _
  rw [e, gainRow m G c hG]
  rfl

/-- An index of a slot table, by its three coordinates. -/
theorem slot_idx (i : S8x352x1024.Idx) : ∃ (n : Fin 8) (j : Fin 352) (k : Fin 1024), i = ix3 n j k :=
  ⟨i 0, i 1, i 2, by funext a; match a with | ⟨0, _⟩ => rfl | ⟨1, _⟩ => rfl | ⟨2, _⟩ => rfl⟩

theorem blk2 (h1 : m ((c : Thread nD τ).loc main_arg2) = etab W1) (h3 : m ((c : Thread nD τ).loc main_arg3) = etab W3)
    (h2 : m ((c : Thread nD τ).loc main_arg4) = etab W2) (t : Fin cfg0.N) : (iblk m c 2 t : FVec Ideal S8x352x1024 .bf16) = eslot (fun f k => W1 k f) := by
  refine funext fun (i : S8x352x1024.Idx) => ?_
  obtain ⟨n, j, k, rfl⟩ := slot_idx i
  have e : ((cfg0.win 2).blk t).view.emb (ix3 n j k : S8x352x1024.Idx) = (ix3 n ⟨j.val, by omega⟩ k : S8x1056x1024.Idx) := by
    funext a
    apply Fin.ext
    match a with
    | ⟨0, _⟩ => show win0_2.index t 0 * 8 + 1 * n.val = n.val; rw [at2 t]; simp
    | ⟨1, _⟩ => show win0_2.index t 1 * 352 + 1 * j.val = j.val; rw [at2 t]; simp
    | ⟨2, _⟩ => show win0_2.index t 2 * 1024 + 1 * k.val = k.val; rw [at2 t]; simp
  show V m c main_v6 (((cfg0.win 2).blk t).view.emb _) = _
  rw [e]
  exact (weightSet m W1 W3 W2 c h1 h3 h2 n j k).1

theorem blk3 (h1 : m ((c : Thread nD τ).loc main_arg2) = etab W1) (h3 : m ((c : Thread nD τ).loc main_arg3) = etab W3)
    (h2 : m ((c : Thread nD τ).loc main_arg4) = etab W2) (t : Fin cfg0.N) : (iblk m c 3 t : FVec Ideal S8x352x1024 .bf16) = eslot (fun f k => W3 k f) := by
  refine funext fun (i : S8x352x1024.Idx) => ?_
  obtain ⟨n, j, k, rfl⟩ := slot_idx i
  have e : ((cfg0.win 3).blk t).view.emb (ix3 n j k : S8x352x1024.Idx) = (ix3 n ⟨352 + j.val, by omega⟩ k : S8x1056x1024.Idx) := by
    funext a
    apply Fin.ext
    match a with
    | ⟨0, _⟩ => show win0_3.index t 0 * 8 + 1 * n.val = n.val; rw [at3 t]; simp
    | ⟨1, _⟩ => show win0_3.index t 1 * 352 + 1 * j.val = 352 + j.val; rw [at3 t]; simp
    | ⟨2, _⟩ => show win0_3.index t 2 * 1024 + 1 * k.val = k.val; rw [at3 t]; simp
  show V m c main_v6 (((cfg0.win 3).blk t).view.emb _) = _
  rw [e]
  exact (weightSet m W1 W3 W2 c h1 h3 h2 n j k).2.1

theorem blk4 (h1 : m ((c : Thread nD τ).loc main_arg2) = etab W1) (h3 : m ((c : Thread nD τ).loc main_arg3) = etab W3)
    (h2 : m ((c : Thread nD τ).loc main_arg4) = etab W2) (t : Fin cfg0.N) : (iblk m c 4 t : FVec Ideal S8x352x1024 .bf16) = eslot W2 := by
  refine funext fun (i : S8x352x1024.Idx) => ?_
  obtain ⟨n, j, k, rfl⟩ := slot_idx i
  have e : ((cfg0.win 4).blk t).view.emb (ix3 n j k : S8x352x1024.Idx) = (ix3 n ⟨704 + j.val, by omega⟩ k : S8x1056x1024.Idx) := by
    funext a
    apply Fin.ext
    match a with
    | ⟨0, _⟩ => show win0_4.index t 0 * 8 + 1 * n.val = n.val; rw [at4 t]; simp
    | ⟨1, _⟩ => show win0_4.index t 1 * 352 + 1 * j.val = 704 + j.val; rw [at4 t]; simp
    | ⟨2, _⟩ => show win0_4.index t 2 * 1024 + 1 * k.val = k.val; rw [at4 t]; simp
  show V m c main_v6 (((cfg0.win 4).blk t).view.emb _) = _
  rw [e]
  exact (weightSet m W1 W3 W2 c h1 h3 h2 n j k).2.2

end Cert.ForwardIdeal.Rows
-- ==== Proof.FwdBlocks.lean ====
/- What one grid point leaves in each output block of the feed-forward forward kernel. -/
module

public import proofs.«01_k».proof.Proof.FwdKernel
public import proofs.«01_k».proof.Proof.Gen.ForwardIdeal.Value

@[expose] public section

set_option maxRecDepth 16384
set_option maxHeartbeats 4000000

noncomputable section

namespace Cert.ForwardIdeal.Rows

open Cert.ForwardIdeal Cert.ForwardIdeal.Gen Idealize.ShloMosaic Idealize.ShloMosaic.TcCoe Idealize.SL.Sem FwdMath

variable (m : (ℓ : Loc nD τ sig) → Buf (Elt Ideal) ℓ)

theorem hz : (![0, 0] : Fin 2 → Nat) = fun _ => 0 := by funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

section Loads
variable (a : Fin 512 → Fin 2816 → EReal)

theorem ld_p0 (inb) : View.ld (Val := Elt Ideal) (e' := .bf16) (etab a) (Rect.unit (s := S512x2816) ![0, 0] ![512, 1024] inb) = etab fun i k => a i (p0 k) := by
  funext j; idx_vars j
  pointwise [etab_ix2]
  rfl
theorem ld_p1 (inb) : View.ld (Val := Elt Ideal) (e' := .bf16) (etab a) (Rect.unit (s := S512x2816) ![0, 1024] ![512, 1024] inb) = etab fun i k => a i (p1 k) := by
  funext j; idx_vars j
  pointwise [etab_ix2]
  rfl
theorem ld_p2 (inb) : View.ld (Val := Elt Ideal) (e' := .bf16) (etab a) (Rect.unit (s := S512x2816) ![0, 2048] ![512, 768] inb) = etab fun i k => a i (p2 k) := by
  funext j; idx_vars j
  pointwise [etab_ix2]
  rfl

/-- Three column pieces written one after another make the whole etable. -/
theorem canon_pieces (i0 i1 i2) :
    View.canon (Val := Elt Ideal) (s := S512x2816) (e := .bf16) [⟨Rect.unit ![0, 2048] ![512, 768] i2, etab fun i k => a i (p2 k)⟩,
      ⟨Rect.unit ![0, 1024] ![512, 1024] i1, etab fun i k => a i (p1 k)⟩,
      ⟨Rect.unit ![0, 0] ![512, 1024] i0, etab fun i k => a i (p0 k)⟩] = etab a := by
  funext y
  refine View.canon_apply_of_pieces (Val := Elt Ideal) (e := .bf16) (etab a) _ ?_ y ?_
  · intro p hp
    simp only [List.mem_cons, List.not_mem_nil, or_false] at hp
    rcases hp with rfl | rfl | rfl
    · intro j; exact (congrFun (ld_p2 a i2) j).symm
    · intro j; exact (congrFun (ld_p1 a i1) j).symm
    · intro j; exact (congrFun (ld_p0 a i0) j).symm
  · have h0 : (y 0).val < 512 := (y 0).2
    have h1 : (y 1).val < 2816 := (y 1).2
    by_cases q0 : (y 1).val < 1024
    · refine ⟨_, List.mem_cons_of_mem _ (List.mem_cons_of_mem _ (List.mem_singleton_self _)), ?_⟩
      rw [Rect.mem_set_unit]
      intro b; match b with
        | ⟨0, _⟩ => exact ⟨Nat.zero_le _, by simpa using h0⟩
        | ⟨1, _⟩ => exact ⟨Nat.zero_le _, by simpa using q0⟩
    by_cases q1 : (y 1).val < 2048
    · refine ⟨_, List.mem_cons_of_mem _ (List.mem_cons_self), ?_⟩
      rw [Rect.mem_set_unit]
      intro b; match b with
        | ⟨0, _⟩ => exact ⟨Nat.zero_le _, by simpa using h0⟩
        | ⟨1, _⟩ => exact ⟨by simpa using q0, by simpa using q1⟩
    · refine ⟨_, List.mem_cons_self, ?_⟩
      rw [Rect.mem_set_unit]
      intro b; match b with
        | ⟨0, _⟩ => exact ⟨Nat.zero_le _, by simpa using h0⟩
        | ⟨1, _⟩ => exact ⟨by simpa using q1, by simpa using h1⟩

/-- The scratch buffer read back whole after its three column pieces were stored. -/
theorem back_pieces (i0 i1 i2 i3) :
    (View.whole cc0_scratch0).readCov (Val := Elt Ideal) [⟨Rect.unit (s := S512x2816) ![0, 2048] ![512, 768] i2, etab fun i k => a i (p2 k)⟩,
      ⟨Rect.unit ![0, 1024] ![512, 1024] i1, etab fun i k => a i (p1 k)⟩,
      ⟨Rect.unit ![0, 0] ![512, 1024] i0, etab fun i k => a i (p0 k)⟩] (Rect.unit ![0, 0] ![512, 2816] i3).toLoadRect = etab a := by
  refine (View.readCov_eq_canon' _ _ _).trans ?_
  show View.ld (Val := Elt Ideal) (View.canon (Val := Elt Ideal) (s := S512x2816) (e := .bf16) _) (Rect.unit ![0, 0] ![512, 2816] i3) = _
  rw [canon_pieces a i0 i1 i2]
  exact View.ld_unit_zero (S := S512x2816) hz _ _
end Loads

variable (c : Dev nD) (t : Fin cfg0.N) (x : Fin 512 → Fin 1024 → EReal) (g : Fin 1 → Fin 1024 → EReal)
  (V1 V3 V2 : Fin 2816 → Fin 1024 → EReal)

theorem o6 (e0 : iblk m c 0 t = etab x) (e1 : iblk m c 1 t = etab g) (e2 : iblk m c 2 t = eslot V1)
    (e3 : iblk m c 3 t = eslot V3) (e4 : iblk m c 4 t = eslot V2) :
    (outsAt0 m c t).2.1 = etab fun i f => lin (x i) (g 0) V1 f := by
  unfold outsAt0; dsimp only
  unfold out0_A_6
  rw [View.read_writes_eq_canon _ _ _ (cover0_A_6 c (grid0.coords t) _ _ _ _ _ _ _ _ _ _ _ _ _ _ _ _ _ _ _ _ _ _ _)]
  rw [e0, e1, e2, e3, e4]
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S8x352x1024) hz3,
    norm, weight1, weight3, a0, b0, a0t, b0t, a1, b1, a1t, b1t, a2, b2, a2t, b2t, tanh0, u0, u1, u2]
  exact canon_pieces (fun i f => lin (x i) (g 0) V1 f) _ _ _

theorem o7 (e0 : iblk m c 0 t = etab x) (e1 : iblk m c 1 t = etab g) (e2 : iblk m c 2 t = eslot V1)
    (e3 : iblk m c 3 t = eslot V3) (e4 : iblk m c 4 t = eslot V2) :
    (outsAt0 m c t).2.2 = etab fun i f => lin (x i) (g 0) V3 f := by
  unfold outsAt0; dsimp only
  unfold out0_A_7
  rw [View.read_writes_eq_canon _ _ _ (cover0_A_7 c (grid0.coords t) _ _ _ _ _ _ _ _ _ _ _ _ _ _ _ _ _ _ _ _ _ _ _)]
  rw [e0, e1, e2, e3, e4]
  unfold kernelRun0_A
  dsimp only
  sl_unfold_words
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S8x352x1024) hz3,
    norm, weight1, weight3, a0, b0, a0t, b0t, a1, b1, a1t, b1t, a2, b2, a2t, b2t, tanh0, u0, u1, u2]
  exact canon_pieces (fun i f => lin (x i) (g 0) V3 f) _ _ _

theorem o5 (e0 : iblk m c 0 t = etab x) (e1 : iblk m c 1 t = etab g) (e2 : iblk m c 2 t = eslot V1)
    (e3 : iblk m c 3 t = eslot V3) (e4 : iblk m c 4 t = eslot V2) :
    (outsAt0 m c t).1 = etab fun i => out (x i) (gated x g V1 V3 i) V2 := by
  unfold outsAt0; dsimp only
  unfold out0_A_5
  rw [View.read_writes_eq_canon _ _ _ (cover0_A_5 c (grid0.coords t) _ _ _ _ _ _ _ _ _ _ _ _ _ _ _ _ _ _ _ _ _ _ _)]
  rw [e0, e1, e2, e3, e4]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread,
    View.ld_unit_zero (S := S512x1024) hz, View.ld_unit_zero (S := S1x1024) hz, View.ld_unit_zero (S := S8x352x1024) hz3,
    norm, weight1, weight3, a0, b0, a0t, b0t, a1, b1, a1t, b1t, a2, b2, a2t, b2t, tanh0, u0, u1, u2]
  refine (congrArg (fun w => k0_pay2 (F := Ideal) (etab x) w (eslot V2)) (back_pieces (gated x g V1 V3) _ _ _ _)).trans ?_
  exact y x V2 (gated x g V1 V3)

end Cert.ForwardIdeal.Rows
-- ==== Proof.FwdFinal.lean ====
/- The feed-forward forward kernel's three result arrays, each as one function of the rows. -/
module

public import proofs.«01_k».proof.Proof.FwdHost
public import proofs.«01_k».proof.Proof.FwdBlocks

@[expose] public section

set_option maxRecDepth 16384
set_option maxHeartbeats 1000000

noncomputable section

namespace Cert.ForwardIdeal.Rows

open Cert.ForwardIdeal Cert.ForwardIdeal.Gen Idealize.ShloMosaic Idealize.ShloMosaic.TcCoe Idealize.SL.Sem FwdMath

variable (m : (ℓ : Loc nD τ sig) → Buf (Elt Ideal) ℓ)
  (X : Fin 8192 → Fin 1024 → EReal) (G : Fin 1024 → EReal) (W1 W3 : Fin 1024 → Fin 2816 → EReal) (W2 : Fin 2816 → Fin 1024 → EReal)
  (c : Dev nD)

theorem at5 : ∀ t : Fin cfg0.N, win0_5.index t = ![t.val, 0] := (by decide +kernel : ∀ t : Fin grid0.N, win0_5.index t = ![t.val, 0])
theorem at6 : ∀ t : Fin cfg0.N, win0_6.index t = ![t.val, 0] := (by decide +kernel : ∀ t : Fin grid0.N, win0_6.index t = ![t.val, 0])
theorem at7 : ∀ t : Fin cfg0.N, win0_7.index t = ![t.val, 0] := (by decide +kernel : ∀ t : Fin grid0.N, win0_7.index t = ![t.val, 0])

variable (hX : m ((c : Thread nD τ).loc main_arg0) = etab X) (hG : m ((c : Thread nD τ).loc main_arg1) = evec G)
  (h1 : m ((c : Thread nD τ).loc main_arg2) = etab W1) (h3 : m ((c : Thread nD τ).loc main_arg3) = etab W3)
  (h2 : m ((c : Thread nD τ).loc main_arg4) = etab W2)

/-- The first product, or the second: a normalised row against the columns of a weight. -/
def proj (W : Fin 1024 → Fin 2816 → EReal) (i : Fin 8192) : Fin 2816 → EReal := lin (X i) G fun f k => W k f
/-- The layer's output, row by row. -/
def layer (i : Fin 8192) : Fin 1024 → EReal := out (X i) (fun f => prod (proj X G W1 i f) (proj X G W3 i f)) W2

include hX hG h1 h3 h2

theorem final6 : (dats m 0 c).arrAt 6 cfg0.N = etab (proj X G W1) := by
  refine (dats m 0 c).arrAt_eq_of_covers 6 _ (by decide +kernel) fun t _ (y : S512x2816.Idx) => ?_
  have e : ((cfg0.win 6).blk t).view.emb y = (ix2 (rowAt t (y 0)) (y 1) : S8192x2816.Idx) := by
    funext a
    apply Fin.ext
    match a with
    | ⟨0, _⟩ => show win0_6.index t 0 * 512 + 1 * (y 0).val = t.val * 512 + (y 0).val; rw [at6 t]; simp
    | ⟨1, _⟩ => show win0_6.index t 1 * 2816 + 1 * (y 1).val = (y 1).val; rw [at6 t]; simp
  rw [e]
  show (dats m 0 c).after 6 t y = _
  have q := o6 m c t _ _ _ _ _ (blk0 m X c hX t) (blk1 m G c hG t) (blk2 m W1 W3 W2 c h1 h3 h2 t) (blk3 m W1 W3 W2 c h1 h3 h2 t)
    (blk4 m W1 W3 W2 c h1 h3 h2 t)
  rw [after0_6, q]
  rfl

theorem final7 : (dats m 0 c).arrAt 7 cfg0.N = etab (proj X G W3) := by
  refine (dats m 0 c).arrAt_eq_of_covers 7 _ (by decide +kernel) fun t _ (y : S512x2816.Idx) => ?_
  have e : ((cfg0.win 7).blk t).view.emb y = (ix2 (rowAt t (y 0)) (y 1) : S8192x2816.Idx) := by
    funext a
    apply Fin.ext
    match a with
    | ⟨0, _⟩ => show win0_7.index t 0 * 512 + 1 * (y 0).val = t.val * 512 + (y 0).val; rw [at7 t]; simp
    | ⟨1, _⟩ => show win0_7.index t 1 * 2816 + 1 * (y 1).val = (y 1).val; rw [at7 t]; simp
  rw [e]
  show (dats m 0 c).after 7 t y = _
  have q := o7 m c t _ _ _ _ _ (blk0 m X c hX t) (blk1 m G c hG t) (blk2 m W1 W3 W2 c h1 h3 h2 t) (blk3 m W1 W3 W2 c h1 h3 h2 t)
    (blk4 m W1 W3 W2 c h1 h3 h2 t)
  rw [after0_7, q]
  rfl

theorem final5 : (dats m 0 c).arrAt 5 cfg0.N = etab (layer X G W1 W3 W2) := by
  refine (dats m 0 c).arrAt_eq_of_covers 5 _ (by decide +kernel) fun t _ (y : S512x1024.Idx) => ?_
  have e : ((cfg0.win 5).blk t).view.emb y = (ix2 (rowAt t (y 0)) (y 1) : S8192x1024.Idx) := by
    funext a
    apply Fin.ext
    match a with
    | ⟨0, _⟩ => show win0_5.index t 0 * 512 + 1 * (y 0).val = t.val * 512 + (y 0).val; rw [at5 t]; simp
    | ⟨1, _⟩ => show win0_5.index t 1 * 1024 + 1 * (y 1).val = (y 1).val; rw [at5 t]; simp
  rw [e]
  show (dats m 0 c).after 5 t y = _
  have q := o5 m c t _ _ _ _ _ (blk0 m X c hX t) (blk1 m G c hG t) (blk2 m W1 W3 W2 c h1 h3 h2 t) (blk3 m W1 W3 W2 c h1 h3 h2 t)
    (blk4 m W1 W3 W2 c h1 h3 h2 t)
  rw [after0_5, q]
  rfl

end Cert.ForwardIdeal.Rows
-- ==== Proof.FwdRef.lean ====
/- The reference of the feed-forward forward call, and the claims about the call. -/
module

public import proofs.«01_k».proof.Defs
public import proofs.«01_k».proof.Proof.FwdFinal
public import proofs.«01_k».proof.Proof.Gen.ForwardReferenceIdeal.Run
public import proofs.«01_k».proof.Proof.Gen.ForwardReferenceIdeal.Read
public import Idealize.ShloMosaic.Lib.Quiescent

@[expose] public section

set_option maxRecDepth 16384

noncomputable section

namespace Cert.Proof.Forward

open Cert.ForwardReferenceIdeal.Read Cert.ForwardIdeal.Rows Idealize.ShloMosaic Idealize.ShloMosaic.TcCoe Idealize.SL.Sem FwdMath

variable (X : Fin 8192 → Fin 1024 → EReal) (G : Fin 1024 → EReal) (W W1 W3 : Fin 1024 → Fin 2816 → EReal) (W2 : Fin 2816 → Fin 1024 → EReal)

theorem bits_one : Ideal.ofBits .f32 0x3F800000#32 = 1 :=
  (show Ideal.ofBits .f32 0x3F800000#32 = ((1 : ℝ) : EReal) by simp [Ideal.ofBits, Ideal.ieee, -EReal.coe_mul]; norm_num).trans rfl

theorem normalised : val_main_v12 (F := Ideal) (etab X) (evec G) = etab fun i => hidden (X i) G := by
  funext j; idx_vars j
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, etab_ix2, evec_ix1]
  rfl

theorem first : val_main_v13 (F := Ideal) (etab X) (evec G) (etab W) = etab (proj X G W) := by
  unfold val_main_v13; rw [normalised]
  funext j; idx_vars j
  pointwise [etab_ix2]
  rfl
theorem second : val_main_v14 (F := Ideal) (etab X) (evec G) (etab W) = etab (proj X G W) := first X G W

theorem sigmoid : val_main_call0_v5 (F := Ideal) (etab X) (evec G) (etab W) = etab fun i f => gate (proj X G W i f) := by
  unfold val_main_call0_v5 val_main_call0_v3 val_main_call0_v1 val_main_call0_v0; rw [first]
  funext j; idx_vars j
  pointwise [val_main_call0_v4, val_main_call0_v2, val_main_call0_cst, val_main_call0_cst_0, etab_ix2]
  rw [← gate_eq]

theorem gatedProduct : val_main_v16 (F := Ideal) (etab X) (evec G) (etab W1) (etab W3)
    = etab fun i f => prod (proj X G W1 i f) (proj X G W3 i f) := by
  unfold val_main_v16 val_main_v15; rw [first, second, sigmoid]
  funext j; idx_vars j
  pointwise [etab_ix2]
  rfl

theorem whole : val_main_v20 (F := Ideal) (etab X) (evec G) (etab W1) (etab W3) (etab W2) = etab (layer X G W1 W3 W2) := by
  unfold val_main_v20 val_main_v19 val_main_v17; rw [gatedProduct]
  funext j; idx_vars j
  pointwise [val_main_v18, val_main_cst_2, etab_ix2]
  rfl

/-- The reference's program declares no semaphore, so its run is its frame. -/
theorem frame_ref : Cert.quiescent_ForwardReferenceIdeal := fun m ρ _ =>
  (θ_run Cert.ForwardReferenceIdeal.defs _ _).mono (fun r h => ⟨fun c => (h c).2.2.2, sem_eq_zero_of_no_sems (by decide) r.2⟩)
    (Cert.ForwardReferenceIdeal.Value.run m ρ)

/-- Both programs end with the same three arrays: the layer's output and its two products. -/
theorem algebraic : Cert.algebraic_ForwardIdeal_ForwardReferenceIdeal := by
  intro m g m' g' _ hargs
  refine ⟨fun c => (Cert.ForwardIdeal.Gen.dats m 0 c).arrAt 5 Cert.ForwardIdeal.cfg0.N,
    fun c => (Cert.ForwardIdeal.Gen.dats m 0 c).arrAt 6 Cert.ForwardIdeal.cfg0.N,
    fun c => (Cert.ForwardIdeal.Gen.dats m 0 c).arrAt 7 Cert.ForwardIdeal.cfg0.N, Cert.ForwardIdeal.Value.run_blocks m g, ?_⟩
  refine (θ_run Cert.ForwardReferenceIdeal.defs _ _).mono (fun r h c => ?_) (Cert.ForwardReferenceIdeal.Value.run m' g')
  obtain ⟨q0, q1, q2, qa⟩ := h c
  obtain ⟨a0, a1, a2, a3, a4⟩ := hargs c
  refine ⟨?_, ?_, ?_, qa⟩
  · refine (q0.trans (val_main_v20_eq (F := Ideal) _ _ _ _ _)).trans (Eq.trans ?_
      (final5 m _ _ _ _ _ c (etab_self _) (evec_self _) (etab_self _) (etab_self _) (etab_self _)).symm)
    rw [a0.trans (etab_self _), a1.trans (evec_self _), a2.trans (etab_self _), a3.trans (etab_self _), a4.trans (etab_self _)]
    exact whole _ _ _ _ _
  · refine (q1.trans (val_main_v21_eq (F := Ideal) _ _ _)).trans (Eq.trans ?_
      (final6 m _ _ _ _ _ c (etab_self _) (evec_self _) (etab_self _) (etab_self _) (etab_self _)).symm)
    rw [a0.trans (etab_self _), a1.trans (evec_self _), a2.trans (etab_self _)]
    exact first _ _ _
  · refine (q2.trans (val_main_v22_eq (F := Ideal) _ _ _)).trans (Eq.trans ?_
      (final7 m _ _ _ _ _ c (etab_self _) (evec_self _) (etab_self _) (etab_self _) (etab_self _)).symm)
    rw [a0.trans (etab_self _), a1.trans (evec_self _), a3.trans (etab_self _)]
    exact second _ _ _

end Cert.Proof.Forward

end
-- ==== Proof.AdamMath.lean ====
/- One step of the optimiser on one weight, on the extended reals. -/
module

public import Idealize.ShloMosaic.Lib.Pointwise
public import Idealize.ShloMosaic.Lib.IdealHost
public import Idealize.ShloMosaic.Lib.Pipeline.Value

@[expose] public section

noncomputable section

namespace AdamMath

open Idealize.ShloMosaic

/-- The running mean of the gradient after the step: nine tenths of the old one and a tenth of the gradient. -/
def mean (g m : EReal) : EReal := Ideal.ofBits .f32 0x3F666666#32 * m + Ideal.ofBits .f32 0x3DCCCCCD#32 * g
/-- The running mean of the squared gradient after the step. -/
def square (g v : EReal) : EReal := Ideal.ofBits .f32 0x3F7FBE77#32 * v + Ideal.ofBits .f32 0x3A83126F#32 * (g * g)
/-- The change of the weight: both means without their bias, the first over the root of the second, and the decay of the
    weight, times minus the learning rate. -/
def change (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- Laying an array out anew in its own shape moves nothing. -/
theorem cast_self {S : Shape} {α : Type} (x : S.Idx → α) (h : S.ShapeCasts S) : shapeCast S x h = x :=
  funext fun y => shapeCast_apply x h y y rfl

end AdamMath
-- ==== Proof.AdamNorm.lean ====
/- The optimiser's step on a weight of four rows and 1024 columns: the kernel's three arrays are the reference's. -/
module

public import proofs.«01_k».proof.Proof.AdamMath
public import proofs.«01_k».proof.Proof.Gen.AdamNormIdeal.Value
public import proofs.«01_k».proof.Proof.Gen.AdamNormReferenceIdeal.Run
public import proofs.«01_k».proof.Proof.Gen.AdamNormReferenceIdeal.Read
public import proofs.«01_k».proof.Defs

@[expose] public section

set_option maxRecDepth 16384

noncomputable section

namespace Cert.Proof.AdamNorm

open Idealize.ShloMosaic Idealize.ShloMosaic.TcCoe Idealize.SL.Sem AdamMath
open Cert.AdamNormReferenceIdeal.Read

/-- The reference's program declares no semaphore, so its run is its frame. -/
theorem frame_ref : Cert.quiescent_AdamNormReferenceIdeal := fun m ρ _ =>
  (θ_run Cert.AdamNormReferenceIdeal.defs _ _).mono (fun r h => ⟨fun c => (h c).2.2.2, sem_eq_zero_of_no_sems (by decide) r.2⟩)
    (Cert.AdamNormReferenceIdeal.Value.run m ρ)

/-- Both programs end with the change of the weight and the two running means. -/
theorem algebraic : Cert.algebraic_AdamNormIdeal_AdamNormReferenceIdeal := by
  intro m g m' g' _ hargs
  refine ⟨_, _, _, Cert.AdamNormIdeal.Value.run m g, ?_⟩
  refine (θ_run Cert.AdamNormReferenceIdeal.defs _ _).mono (fun r h c => ?_) (Cert.AdamNormReferenceIdeal.Value.run m' g')
  obtain ⟨q0, q1, q2, qa⟩ := h c
  obtain ⟨a0, a1, a2, a3⟩ := hargs c
  refine ⟨?_, ?_, ?_, qa⟩
  · refine q0.trans ?_; rw [a0, a1, a2, a3]; rfl
  · refine q1.trans ?_; rw [a1, a2]; rfl
  · refine q2.trans ?_; rw [a1, a3]; rfl

end Cert.Proof.AdamNorm
-- ==== Proof.AdamChan.lean ====
/- The optimiser's step on a weight of four rows and 256 columns: the kernel's three arrays are the reference's. -/
module

public import proofs.«01_k».proof.Proof.AdamMath
public import proofs.«01_k».proof.Proof.Gen.AdamChanIdeal.Value
public import proofs.«01_k».proof.Proof.Gen.AdamChanReferenceIdeal.Run
public import proofs.«01_k».proof.Proof.Gen.AdamChanReferenceIdeal.Read
public import proofs.«01_k».proof.Defs

@[expose] public section

set_option maxRecDepth 16384

noncomputable section

namespace Cert.Proof.AdamChan

open Idealize.ShloMosaic Idealize.ShloMosaic.TcCoe Idealize.SL.Sem AdamMath
open Cert.AdamChanReferenceIdeal.Read

/-- The reference's program declares no semaphore, so its run is its frame. -/
theorem frame_ref : Cert.quiescent_AdamChanReferenceIdeal := fun m ρ _ =>
  (θ_run Cert.AdamChanReferenceIdeal.defs _ _).mono (fun r h => ⟨fun c => (h c).2.2.2, sem_eq_zero_of_no_sems (by decide) r.2⟩)
    (Cert.AdamChanReferenceIdeal.Value.run m ρ)

/-- Both programs end with the change of the weight and the two running means. -/
theorem algebraic : Cert.algebraic_AdamChanIdeal_AdamChanReferenceIdeal := by
  intro m g m' g' _ hargs
  refine ⟨_, _, _, Cert.AdamChanIdeal.Value.run m g, ?_⟩
  refine (θ_run Cert.AdamChanReferenceIdeal.defs _ _).mono (fun r h c => ?_) (Cert.AdamChanReferenceIdeal.Value.run m' g')
  obtain ⟨q0, q1, q2, qa⟩ := h c
  obtain ⟨a0, a1, a2, a3⟩ := hargs c
  refine ⟨?_, ?_, ?_, qa⟩
  · refine q0.trans ?_; rw [a0, a1, a2, a3]; rfl
  · refine q1.trans ?_; rw [a1, a2]; rfl
  · refine q2.trans ?_; rw [a1, a3]; rfl

end Cert.Proof.AdamChan
-- ==== Proof.AdamLast.lean ====
/- The optimiser's step on the gain of the last norm, laid as one row:
   the kernel's three arrays are the reference's. -/
module

public import proofs.«01_k».proof.Proof.AdamMath
public import proofs.«01_k».proof.Proof.Gen.AdamLastIdeal.Value
public import proofs.«01_k».proof.Proof.Gen.AdamLastReferenceIdeal.Run
public import proofs.«01_k».proof.Proof.Gen.AdamLastReferenceIdeal.Read
public import proofs.«01_k».proof.Defs
public import Idealize.ShloMosaic.Lib.Pipeline.ValueKit.Geometry

@[expose] public section

set_option maxRecDepth 16384

noncomputable section

namespace Cert.Proof.AdamLast

open Idealize.ShloMosaic Idealize.ShloMosaic.TcCoe Idealize.SL.Sem AdamMath
open Cert.AdamLastIdeal Cert.AdamLastIdeal.Gen

variable (m : (ℓ : Loc nD τ sig) → Buf (Elt Idealize.ShloMosaic.Ideal) ℓ) (c : Dev nD)

/-- An argument as the rows the kernel is given. -/
def rows (a : S1024.Idx → EReal) : S1x1024.Idx → EReal := shapeCast S1x1024 a shapeCasts_S1024_S1x1024

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S1x1024.Idx) : S1x1024.Idx := ((cfg0.win 0).blk t).view.emb y

theorem blk0 (t : Fin cfg0.N) (y : S1x1024.Idx) : iblk m c 0 t y = rows (m ((c : Thread nD τ).loc main_arg0)) (at_ t y) := congrFun (host0 m c) _
theorem blk1 (t : Fin cfg0.N) (y : S1x1024.Idx) : iblk m c 1 t y = rows (m ((c : Thread nD τ).loc main_arg1)) (at_ t y) := congrFun (host1 m c) _
theorem blk2 (t : Fin cfg0.N) (y : S1x1024.Idx) : iblk m c 2 t y = rows (m ((c : Thread nD τ).loc main_arg2)) (at_ t y) := congrFun (host2 m c) _
theorem blk3 (t : Fin cfg0.N) (y : S1x1024.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S1x1024.Idx → EReal) (y : S1x1024.Idx) : k0_pay4 (F := Ideal) x0 x1 x2 x3 y = change (x0 y) (x1 y) (x2 y) (x3 y) := by
  simp only [k0_pay4, k0_pay3, k0_pay2, k0_pay1, cast_self]; rfl
theorem pay2 (x1 x2 : S1x1024.Idx → EReal) (y : S1x1024.Idx) : k0_pay2 (F := Ideal) x1 x2 y = mean (x1 y) (x2 y) := by
  simp only [k0_pay2, k0_pay1, cast_self]; rfl
theorem pay3 (x1 x3 : S1x1024.Idx → EReal) (y : S1x1024.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S1x1024.Idx) => ?_
  show (dats m 0 c).after 4 t y = _
  rw [after0_4]
  unfold out0_4
  rw [View.canon_unit_zero hz]
  simp only [View.ld_unit_zero (S := S1x1024) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S1x1024.Idx) => ?_
  show (dats m 0 c).after 5 t y = _
  rw [after0_5]
  unfold out0_5
  rw [View.canon_unit_zero hz]
  simp only [View.ld_unit_zero (S := S1x1024) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S1x1024.Idx) => ?_
  show (dats m 0 c).after 6 t y = _
  rw [after0_6]
  unfold out0_6
  rw [View.canon_unit_zero hz]
  simp only [View.ld_unit_zero (S := S1x1024) hz]
  rw [pay3, blk1, blk3]
  rfl

/-- The reference's program declares no semaphore, so its run is its frame. -/
theorem frame_ref : Cert.quiescent_AdamLastReferenceIdeal := fun m ρ _ =>
  (θ_run Cert.AdamLastReferenceIdeal.defs _ _).mono (fun r h => ⟨fun c => (h c).2.2.2, sem_eq_zero_of_no_sems (by decide) r.2⟩)
    (Cert.AdamLastReferenceIdeal.Value.run m ρ)

/-- Both programs end with the change of the weight and the two running means. -/
theorem algebraic : Cert.algebraic_AdamLastIdeal_AdamLastReferenceIdeal := by
  intro m g m' g' _ hargs
  refine ⟨_, _, _, Value.run_blocks m g, ?_⟩
  refine (θ_run Cert.AdamLastReferenceIdeal.defs _ _).mono (fun r h c => ?_) (Cert.AdamLastReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamLast
-- ==== Proof.AdamConv.lean ====
/- The optimiser's step on the weight of the long depthwise convolution, laid as rows of 32:
   the kernel's three arrays are the reference's. -/
module

public import proofs.«01_k».proof.Proof.AdamMath
public import proofs.«01_k».proof.Proof.Gen.AdamConvIdeal.Value
public import proofs.«01_k».proof.Proof.Gen.AdamConvReferenceIdeal.Run
public import proofs.«01_k».proof.Proof.Gen.AdamConvReferenceIdeal.Read
public import proofs.«01_k».proof.Defs
public import Idealize.ShloMosaic.Lib.Pipeline.ValueKit.Geometry

@[expose] public section

set_option maxRecDepth 16384

noncomputable section

namespace Cert.Proof.AdamConv

open Idealize.ShloMosaic Idealize.ShloMosaic.TcCoe Idealize.SL.Sem AdamMath
open Cert.AdamConvIdeal Cert.AdamConvIdeal.Gen

variable (m : (ℓ : Loc nD τ sig) → Buf (Elt Idealize.ShloMosaic.Ideal) ℓ) (c : Dev nD)

/-- An argument as the rows the kernel is given. -/
def rows (a : S4x31x32.Idx → EReal) : S124x32.Idx → EReal := shapeCast S124x32 a shapeCasts_S4x31x32_S124x32

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S124x32.Idx) : S124x32.Idx := ((cfg0.win 0).blk t).view.emb y

theorem blk0 (t : Fin cfg0.N) (y : S124x32.Idx) : iblk m c 0 t y = rows (m ((c : Thread nD τ).loc main_arg0)) (at_ t y) := congrFun (host0 m c) _
theorem blk1 (t : Fin cfg0.N) (y : S124x32.Idx) : iblk m c 1 t y = rows (m ((c : Thread nD τ).loc main_arg1)) (at_ t y) := congrFun (host1 m c) _
theorem blk2 (t : Fin cfg0.N) (y : S124x32.Idx) : iblk m c 2 t y = rows (m ((c : Thread nD τ).loc main_arg2)) (at_ t y) := congrFun (host2 m c) _
theorem blk3 (t : Fin cfg0.N) (y : S124x32.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S124x32.Idx → EReal) (y : S124x32.Idx) : k0_pay4 (F := Ideal) x0 x1 x2 x3 y = change (x0 y) (x1 y) (x2 y) (x3 y) := by
  simp only [k0_pay4, k0_pay3, k0_pay2, k0_pay1, cast_self]; rfl
theorem pay2 (x1 x2 : S124x32.Idx → EReal) (y : S124x32.Idx) : k0_pay2 (F := Ideal) x1 x2 y = mean (x1 y) (x2 y) := by
  simp only [k0_pay2, k0_pay1, cast_self]; rfl
theorem pay3 (x1 x3 : S124x32.Idx → EReal) (y : S124x32.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S124x32.Idx) => ?_
  show (dats m 0 c).after 4 t y = _
  rw [after0_4]
  unfold out0_4
  rw [View.canon_unit_zero hz]
  simp only [View.ld_unit_zero (S := S124x32) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S124x32.Idx) => ?_
  show (dats m 0 c).after 5 t y = _
  rw [after0_5]
  unfold out0_5
  rw [View.canon_unit_zero hz]
  simp only [View.ld_unit_zero (S := S124x32) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S124x32.Idx) => ?_
  show (dats m 0 c).after 6 t y = _
  rw [after0_6]
  unfold out0_6
  rw [View.canon_unit_zero hz]
  simp only [View.ld_unit_zero (S := S124x32) hz]
  rw [pay3, blk1, blk3]
  rfl

/-- The reference's program declares no semaphore, so its run is its frame. -/
theorem frame_ref : Cert.quiescent_AdamConvReferenceIdeal := fun m ρ _ =>
  (θ_run Cert.AdamConvReferenceIdeal.defs _ _).mono (fun r h => ⟨fun c => (h c).2.2.2, sem_eq_zero_of_no_sems (by decide) r.2⟩)
    (Cert.AdamConvReferenceIdeal.Value.run m ρ)

/-- Both programs end with the change of the weight and the two running means. -/
theorem algebraic : Cert.algebraic_AdamConvIdeal_AdamConvReferenceIdeal := by
  intro m g m' g' _ hargs
  refine ⟨_, _, _, Value.run_blocks m g, ?_⟩
  refine (θ_run Cert.AdamConvReferenceIdeal.defs _ _).mono (fun r h c => ?_) (Cert.AdamConvReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamConv
-- ==== Proof.AdamShort.lean ====
/- The optimiser's step on the weight of the short convolution, laid as rows of 32:
   the kernel's three arrays are the reference's. -/
module

public import proofs.«01_k».proof.Proof.AdamMath
public import proofs.«01_k».proof.Proof.Gen.AdamShortIdeal.Value
public import proofs.«01_k».proof.Proof.Gen.AdamShortReferenceIdeal.Run
public import proofs.«01_k».proof.Proof.Gen.AdamShortReferenceIdeal.Read
public import proofs.«01_k».proof.Defs
public import Idealize.ShloMosaic.Lib.Pipeline.ValueKit.Geometry

@[expose] public section

set_option maxRecDepth 16384

noncomputable section

namespace Cert.Proof.AdamShort

open Idealize.ShloMosaic Idealize.ShloMosaic.TcCoe Idealize.SL.Sem AdamMath
open Cert.AdamShortIdeal Cert.AdamShortIdeal.Gen

variable (m : (ℓ : Loc nD τ sig) → Buf (Elt Idealize.ShloMosaic.Ideal) ℓ) (c : Dev nD)

/-- An argument as the rows the kernel is given. -/
def rows (a : S4x3x32.Idx → EReal) : S12x32.Idx → EReal := shapeCast S12x32 a shapeCasts_S4x3x32_S12x32

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S12x32.Idx) : S12x32.Idx := ((cfg0.win 0).blk t).view.emb y

theorem blk0 (t : Fin cfg0.N) (y : S12x32.Idx) : iblk m c 0 t y = rows (m ((c : Thread nD τ).loc main_arg0)) (at_ t y) := congrFun (host0 m c) _
theorem blk1 (t : Fin cfg0.N) (y : S12x32.Idx) : iblk m c 1 t y = rows (m ((c : Thread nD τ).loc main_arg1)) (at_ t y) := congrFun (host1 m c) _
theorem blk2 (t : Fin cfg0.N) (y : S12x32.Idx) : iblk m c 2 t y = rows (m ((c : Thread nD τ).loc main_arg2)) (at_ t y) := congrFun (host2 m c) _
theorem blk3 (t : Fin cfg0.N) (y : S12x32.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S12x32.Idx → EReal) (y : S12x32.Idx) : k0_pay4 (F := Ideal) x0 x1 x2 x3 y = change (x0 y) (x1 y) (x2 y) (x3 y) := by
  simp only [k0_pay4, k0_pay3, k0_pay2, k0_pay1, cast_self]; rfl
theorem pay2 (x1 x2 : S12x32.Idx → EReal) (y : S12x32.Idx) : k0_pay2 (F := Ideal) x1 x2 y = mean (x1 y) (x2 y) := by
  simp only [k0_pay2, k0_pay1, cast_self]; rfl
theorem pay3 (x1 x3 : S12x32.Idx → EReal) (y : S12x32.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S12x32.Idx) => ?_
  show (dats m 0 c).after 4 t y = _
  rw [after0_4]
  unfold out0_4
  rw [View.canon_unit_zero hz]
  simp only [View.ld_unit_zero (S := S12x32) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S12x32.Idx) => ?_
  show (dats m 0 c).after 5 t y = _
  rw [after0_5]
  unfold out0_5
  rw [View.canon_unit_zero hz]
  simp only [View.ld_unit_zero (S := S12x32) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S12x32.Idx) => ?_
  show (dats m 0 c).after 6 t y = _
  rw [after0_6]
  unfold out0_6
  rw [View.canon_unit_zero hz]
  simp only [View.ld_unit_zero (S := S12x32) hz]
  rw [pay3, blk1, blk3]
  rfl

/-- The reference's program declares no semaphore, so its run is its frame. -/
theorem frame_ref : Cert.quiescent_AdamShortReferenceIdeal := fun m ρ _ =>
  (θ_run Cert.AdamShortReferenceIdeal.defs _ _).mono (fun r h => ⟨fun c => (h c).2.2.2, sem_eq_zero_of_no_sems (by decide) r.2⟩)
    (Cert.AdamShortReferenceIdeal.Value.run m ρ)

/-- Both programs end with the change of the weight and the two running means. -/
theorem algebraic : Cert.algebraic_AdamShortIdeal_AdamShortReferenceIdeal := by
  intro m g m' g' _ hargs
  refine ⟨_, _, _, Value.run_blocks m g, ?_⟩
  refine (θ_run Cert.AdamShortReferenceIdeal.defs _ _).mono (fun r h c => ?_) (Cert.AdamShortReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamShort
-- ==== Proof.AdamPool.lean ====
/- The optimiser's step on the pooling weight, laid as rows of 64:
   the kernel's three arrays are the reference's. -/
module

public import proofs.«01_k».proof.Proof.AdamMath
public import proofs.«01_k».proof.Proof.Gen.AdamPoolIdeal.Value
public import proofs.«01_k».proof.Proof.Gen.AdamPoolReferenceIdeal.Run
public import proofs.«01_k».proof.Proof.Gen.AdamPoolReferenceIdeal.Read
public import proofs.«01_k».proof.Defs
public import Idealize.ShloMosaic.Lib.Pipeline.ValueKit.Geometry

@[expose] public section

set_option maxRecDepth 16384

noncomputable section

namespace Cert.Proof.AdamPool

open Idealize.ShloMosaic Idealize.ShloMosaic.TcCoe Idealize.SL.Sem AdamMath
open Cert.AdamPoolIdeal Cert.AdamPoolIdeal.Gen

variable (m : (ℓ : Loc nD τ sig) → Buf (Elt Idealize.ShloMosaic.Ideal) ℓ) (c : Dev nD)

/-- An argument as the rows the kernel is given. -/
def rows (a : S4x4x64x64.Idx → EReal) : S1024x64.Idx → EReal := shapeCast S1024x64 a shapeCasts_S4x4x64x64_S1024x64

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S1024x64.Idx) : S1024x64.Idx := ((cfg0.win 0).blk t).view.emb y

theorem blk0 (t : Fin cfg0.N) (y : S1024x64.Idx) : iblk m c 0 t y = rows (m ((c : Thread nD τ).loc main_arg0)) (at_ t y) := congrFun (host0 m c) _
theorem blk1 (t : Fin cfg0.N) (y : S1024x64.Idx) : iblk m c 1 t y = rows (m ((c : Thread nD τ).loc main_arg1)) (at_ t y) := congrFun (host1 m c) _
theorem blk2 (t : Fin cfg0.N) (y : S1024x64.Idx) : iblk m c 2 t y = rows (m ((c : Thread nD τ).loc main_arg2)) (at_ t y) := congrFun (host2 m c) _
theorem blk3 (t : Fin cfg0.N) (y : S1024x64.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S1024x64.Idx → EReal) (y : S1024x64.Idx) : k0_pay4 (F := Ideal) x0 x1 x2 x3 y = change (x0 y) (x1 y) (x2 y) (x3 y) := by
  simp only [k0_pay4, k0_pay3, k0_pay2, k0_pay1, cast_self]; rfl
theorem pay2 (x1 x2 : S1024x64.Idx → EReal) (y : S1024x64.Idx) : k0_pay2 (F := Ideal) x1 x2 y = mean (x1 y) (x2 y) := by
  simp only [k0_pay2, k0_pay1, cast_self]; rfl
theorem pay3 (x1 x3 : S1024x64.Idx → EReal) (y : S1024x64.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S1024x64.Idx) => ?_
  show (dats m 0 c).after 4 t y = _
  rw [after0_4]
  unfold out0_4
  rw [View.canon_unit_zero hz]
  simp only [View.ld_unit_zero (S := S1024x64) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S1024x64.Idx) => ?_
  show (dats m 0 c).after 5 t y = _
  rw [after0_5]
  unfold out0_5
  rw [View.canon_unit_zero hz]
  simp only [View.ld_unit_zero (S := S1024x64) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S1024x64.Idx) => ?_
  show (dats m 0 c).after 6 t y = _
  rw [after0_6]
  unfold out0_6
  rw [View.canon_unit_zero hz]
  simp only [View.ld_unit_zero (S := S1024x64) hz]
  rw [pay3, blk1, blk3]
  rfl

/-- The reference's program declares no semaphore, so its run is its frame. -/
theorem frame_ref : Cert.quiescent_AdamPoolReferenceIdeal := fun m ρ _ =>
  (θ_run Cert.AdamPoolReferenceIdeal.defs _ _).mono (fun r h => ⟨fun c => (h c).2.2.2, sem_eq_zero_of_no_sems (by decide) r.2⟩)
    (Cert.AdamPoolReferenceIdeal.Value.run m ρ)

/-- Both programs end with the change of the weight and the two running means. -/
theorem algebraic : Cert.algebraic_AdamPoolIdeal_AdamPoolReferenceIdeal := by
  intro m g m' g' _ hargs
  refine ⟨_, _, _, Value.run_blocks m g, ?_⟩
  refine (θ_run Cert.AdamPoolReferenceIdeal.defs _ _).mono (fun r h c => ?_) (Cert.AdamPoolReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamPool
-- ==== Proof.AdamMix.lean ====
/- The optimiser's step on the mixing weight of the gated unit, laid as rows of 128 in four blocks of 512 rows:
   the kernel's three arrays are the reference's. -/
module

public import proofs.«01_k».proof.Proof.AdamMath
public import proofs.«01_k».proof.Proof.Gen.AdamMixIdeal.Value
public import proofs.«01_k».proof.Proof.Gen.AdamMixReferenceIdeal.Run
public import proofs.«01_k».proof.Proof.Gen.AdamMixReferenceIdeal.Read
public import proofs.«01_k».proof.Defs
public import Idealize.ShloMosaic.Lib.Pipeline.ValueKit.Geometry

@[expose] public section

set_option maxRecDepth 16384

noncomputable section

namespace Cert.Proof.AdamMix

open Idealize.ShloMosaic Idealize.ShloMosaic.TcCoe Idealize.SL.Sem AdamMath
open Cert.AdamMixIdeal Cert.AdamMixIdeal.Gen

variable (m : (ℓ : Loc nD τ sig) → Buf (Elt Idealize.ShloMosaic.Ideal) ℓ) (c : Dev nD)

/-- An argument as the rows the kernel is given. -/
def rows (a : S4x4x128x128.Idx → EReal) : S2048x128.Idx → EReal := shapeCast S2048x128 a shapeCasts_S4x4x128x128_S2048x128

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S512x128.Idx) : S2048x128.Idx := ((cfg0.win 0).blk t).view.emb y

theorem blk0 (t : Fin cfg0.N) (y : S512x128.Idx) : iblk m c 0 t y = rows (m ((c : Thread nD τ).loc main_arg0)) (at_ t y) := congrFun (host0 m c) _
theorem blk1 (t : Fin cfg0.N) (y : S512x128.Idx) : iblk m c 1 t y = rows (m ((c : Thread nD τ).loc main_arg1)) (at_ t y) := congrFun (host1 m c) _
theorem blk2 (t : Fin cfg0.N) (y : S512x128.Idx) : iblk m c 2 t y = rows (m ((c : Thread nD τ).loc main_arg2)) (at_ t y) := congrFun (host2 m c) _
theorem blk3 (t : Fin cfg0.N) (y : S512x128.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S512x128.Idx → EReal) (y : S512x128.Idx) : k0_pay4 (F := Ideal) x0 x1 x2 x3 y = change (x0 y) (x1 y) (x2 y) (x3 y) := by
  simp only [k0_pay4, k0_pay3, k0_pay2, k0_pay1, cast_self]; rfl
theorem pay2 (x1 x2 : S512x128.Idx → EReal) (y : S512x128.Idx) : k0_pay2 (F := Ideal) x1 x2 y = mean (x1 y) (x2 y) := by
  simp only [k0_pay2, k0_pay1, cast_self]; rfl
theorem pay3 (x1 x3 : S512x128.Idx → EReal) (y : S512x128.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S512x128.Idx) => ?_
  show (dats m 0 c).after 4 t y = _
  rw [after0_4]
  unfold out0_4
  rw [View.canon_unit_zero hz]
  simp only [View.ld_unit_zero (S := S512x128) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S512x128.Idx) => ?_
  show (dats m 0 c).after 5 t y = _
  rw [after0_5]
  unfold out0_5
  rw [View.canon_unit_zero hz]
  simp only [View.ld_unit_zero (S := S512x128) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S512x128.Idx) => ?_
  show (dats m 0 c).after 6 t y = _
  rw [after0_6]
  unfold out0_6
  rw [View.canon_unit_zero hz]
  simp only [View.ld_unit_zero (S := S512x128) hz]
  rw [pay3, blk1, blk3]
  rfl

/-- The reference's program declares no semaphore, so its run is its frame. -/
theorem frame_ref : Cert.quiescent_AdamMixReferenceIdeal := fun m ρ _ =>
  (θ_run Cert.AdamMixReferenceIdeal.defs _ _).mono (fun r h => ⟨fun c => (h c).2.2.2, sem_eq_zero_of_no_sems (by decide) r.2⟩)
    (Cert.AdamMixReferenceIdeal.Value.run m ρ)

/-- Both programs end with the change of the weight and the two running means. -/
theorem algebraic : Cert.algebraic_AdamMixIdeal_AdamMixReferenceIdeal := by
  intro m g m' g' _ hargs
  refine ⟨_, _, _, Value.run_blocks m g, ?_⟩
  refine (θ_run Cert.AdamMixReferenceIdeal.defs _ _).mono (fun r h c => ?_) (Cert.AdamMixReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamMix
-- ==== Proof.AdamBias.lean ====
/- The optimiser's step on the bias of the gated unit, laid as rows of 128:
   the kernel's three arrays are the reference's. -/
module

public import proofs.«01_k».proof.Proof.AdamMath
public import proofs.«01_k».proof.Proof.Gen.AdamBiasIdeal.Value
public import proofs.«01_k».proof.Proof.Gen.AdamBiasReferenceIdeal.Run
public import proofs.«01_k».proof.Proof.Gen.AdamBiasReferenceIdeal.Read
public import proofs.«01_k».proof.Defs
public import Idealize.ShloMosaic.Lib.Pipeline.ValueKit.Geometry

@[expose] public section

set_option maxRecDepth 16384

noncomputable section

namespace Cert.Proof.AdamBias

open Idealize.ShloMosaic Idealize.ShloMosaic.TcCoe Idealize.SL.Sem AdamMath
open Cert.AdamBiasIdeal Cert.AdamBiasIdeal.Gen

variable (m : (ℓ : Loc nD τ sig) → Buf (Elt Idealize.ShloMosaic.Ideal) ℓ) (c : Dev nD)

/-- An argument as the rows the kernel is given. -/
def rows (a : S4x4x128.Idx → EReal) : S16x128.Idx → EReal := shapeCast S16x128 a shapeCasts_S4x4x128_S16x128

theorem host0 : V m c main_v0 = rows (m ((c : Thread nD τ).loc main_arg0)) := by
  show StableHlo.after hostOps0 _ (Proc.devRef .tc main_v0) = _
  after_results; rfl
theorem host1 : V m c main_v1 = rows (m ((c : Thread nD τ).loc main_arg1)) := by
  show StableHlo.after hostOps0 _ (Proc.devRef .tc main_v1) = _
  after_results; rfl
theorem host2 : V m c main_v2 = rows (m ((c : Thread nD τ).loc main_arg2)) := by
  show StableHlo.after hostOps0 _ (Proc.devRef .tc main_v2) = _
  after_results; rfl
theorem host3 : V m c main_v3 = rows (m ((c : Thread nD τ).loc main_arg3)) := by
  show StableHlo.after hostOps0 _ (Proc.devRef .tc main_v3) = _
  after_results; rfl

/-- Where entry `y` of the block at a grid point lies in its array: the same place in all seven. -/
abbrev at_ (t : Fin cfg0.N) (y : S16x128.Idx) : S16x128.Idx := ((cfg0.win 0).blk t).view.emb y

theorem blk0 (t : Fin cfg0.N) (y : S16x128.Idx) : iblk m c 0 t y = rows (m ((c : Thread nD τ).loc main_arg0)) (at_ t y) := congrFun (host0 m c) _
theorem blk1 (t : Fin cfg0.N) (y : S16x128.Idx) : iblk m c 1 t y = rows (m ((c : Thread nD τ).loc main_arg1)) (at_ t y) := congrFun (host1 m c) _
theorem blk2 (t : Fin cfg0.N) (y : S16x128.Idx) : iblk m c 2 t y = rows (m ((c : Thread nD τ).loc main_arg2)) (at_ t y) := congrFun (host2 m c) _
theorem blk3 (t : Fin cfg0.N) (y : S16x128.Idx) : iblk m c 3 t y = rows (m ((c : Thread nD τ).loc main_arg3)) (at_ t y) := congrFun (host3 m c) _

theorem hz : (![0, 0] : Fin 2 → Nat) = fun _ => 0 := funext fun a => by fin_cases a <;> rfl

theorem pay4 (x0 x1 x2 x3 : S16x128.Idx → EReal) (y : S16x128.Idx) : k0_pay4 (F := Ideal) x0 x1 x2 x3 y = change (x0 y) (x1 y) (x2 y) (x3 y) := by
  simp only [k0_pay4, k0_pay3, k0_pay2, k0_pay1, cast_self]; rfl
theorem pay2 (x1 x2 : S16x128.Idx → EReal) (y : S16x128.Idx) : k0_pay2 (F := Ideal) x1 x2 y = mean (x1 y) (x2 y) := by
  simp only [k0_pay2, k0_pay1, cast_self]; rfl
theorem pay3 (x1 x3 : S16x128.Idx → EReal) (y : S16x128.Idx) : k0_pay3 (F := Ideal) x1 x3 y = square (x1 y) (x3 y) := by
  simp only [k0_pay3, k0_pay1, cast_self]; rfl

theorem final4 : (dats m 0 c).arrAt 4 cfg0.N = fun y => change (rows (m ((c : Thread nD τ).loc main_arg0)) y) (rows (m ((c : Thread nD τ).loc main_arg1)) y)
    (rows (m ((c : Thread nD τ).loc main_arg2)) y) (rows (m ((c : Thread nD τ).loc main_arg3)) y) := by
  refine (dats m 0 c).arrAt_eq_of_covers 4 _ (by decide +kernel) fun t _ (y : S16x128.Idx) => ?_
  show (dats m 0 c).after 4 t y = _
  rw [after0_4]
  unfold out0_4
  rw [View.canon_unit_zero hz]
  simp only [View.ld_unit_zero (S := S16x128) hz]
  rw [pay4, blk0, blk1, blk2, blk3]
  rfl

theorem final5 : (dats m 0 c).arrAt 5 cfg0.N = fun y => mean (rows (m ((c : Thread nD τ).loc main_arg1)) y)
    (rows (m ((c : Thread nD τ).loc main_arg2)) y) := by
  refine (dats m 0 c).arrAt_eq_of_covers 5 _ (by decide +kernel) fun t _ (y : S16x128.Idx) => ?_
  show (dats m 0 c).after 5 t y = _
  rw [after0_5]
  unfold out0_5
  rw [View.canon_unit_zero hz]
  simp only [View.ld_unit_zero (S := S16x128) hz]
  rw [pay2, blk1, blk2]
  rfl

theorem final6 : (dats m 0 c).arrAt 6 cfg0.N = fun y => square (rows (m ((c : Thread nD τ).loc main_arg1)) y)
    (rows (m ((c : Thread nD τ).loc main_arg3)) y) := by
  refine (dats m 0 c).arrAt_eq_of_covers 6 _ (by decide +kernel) fun t _ (y : S16x128.Idx) => ?_
  show (dats m 0 c).after 6 t y = _
  rw [after0_6]
  unfold out0_6
  rw [View.canon_unit_zero hz]
  simp only [View.ld_unit_zero (S := S16x128) hz]
  rw [pay3, blk1, blk3]
  rfl

/-- The reference's program declares no semaphore, so its run is its frame. -/
theorem frame_ref : Cert.quiescent_AdamBiasReferenceIdeal := fun m ρ _ =>
  (θ_run Cert.AdamBiasReferenceIdeal.defs _ _).mono (fun r h => ⟨fun c => (h c).2.2.2, sem_eq_zero_of_no_sems (by decide) r.2⟩)
    (Cert.AdamBiasReferenceIdeal.Value.run m ρ)

/-- Both programs end with the change of the weight and the two running means. -/
theorem algebraic : Cert.algebraic_AdamBiasIdeal_AdamBiasReferenceIdeal := by
  intro m g m' g' _ hargs
  refine ⟨_, _, _, Value.run_blocks m g, ?_⟩
  refine (θ_run Cert.AdamBiasReferenceIdeal.defs _ _).mono (fun r h c => ?_) (Cert.AdamBiasReferenceIdeal.Value.run m' g')
  obtain ⟨q0, q1, q2, qa⟩ := h c
  obtain ⟨a0, a1, a2, a3⟩ := hargs c
  refine ⟨?_, ?_, ?_, qa⟩
  · refine q0.trans (Eq.trans ?_ (final4 m c).symm); rw [a0, a1, a2, a3]; rfl
  · refine q1.trans (Eq.trans ?_ (final5 m c).symm); rw [a1, a2]; rfl
  · refine q2.trans (Eq.trans ?_ (final6 m c).symm); rw [a1, a3]; rfl

end Cert.Proof.AdamBias
-- ==== Proof.ReduceMath.lean ====
/- Sums over the devices' parts of a gradient, and the optimiser's step on the sums, on blocks and on whole arrays. -/
module

public import proofs.«01_k».proof.Proof.AdamMath
public import Idealize.ShloMosaic.PureOps.Ideal.Laws

@[expose] public section

noncomputable section

namespace ReduceMath

open Idealize.ShloMosaic AdamMath

abbrev S2 (r k : ℕ) : Shape := ⟨2, ![r, k]⟩
abbrev S3 (n r k : ℕ) : Shape := ⟨3, ![n, r, k]⟩

/-- The sum of the eight parts at row `i` and column `q`. -/
def total {r k : ℕ} (x : (S3 8 r k).Idx → EReal) (i : Fin r) (q : Fin k) : EReal := ∑ n : Fin 8, x (ix3 n i q)

theorem total_congr {r k r' k' : ℕ} (x : (S3 8 r k).Idx → EReal) (x' : (S3 8 r' k').Idx → EReal) (i : Fin r) (q : Fin k) (i' : Fin r') (q' : Fin k')
    (h : ∀ n, x (ix3 n i q) = x' (ix3 n i' q')) : total x i q = total x' i' q' := Finset.sum_congr rfl fun n _ => h n

/-- The sum of eight slabs is the total of what they were taken from. -/
theorem sum8 {r k : ℕ} (x : (S3 8 r k).Idx → EReal) (b : ∀ n : Fin 8, ∀ a, (![n.val, 0, 0] : Fin 3 → ℕ) a + (S3 1 r k).size a ≤ (S3 8 r k).size a)
    (h : (S3 1 r k).ShapeCasts (S2 r k)) (i : (S2 r k).Idx) (e : Fin 8 → EReal)
    (he : ∀ n, e n = shapeCast (S2 r k) (fun y => x ((Rect.unit (s := S3 8 r k) ![n.val, 0, 0] (S3 1 r k).size (b n)).idx y)) h i) :
    e 0 + e 1 + e 2 + e 3 + e 4 + e 5 + e 6 + e 7 = total x (i 0) (i 1) := by
  show _ = ∑ n : Fin 8, x (ix3 n (i 0) (i 1))
  rw [Fin.sum_univ_eight]
  have key : ∀ n, e n = x (ix3 n (i 0) (i 1)) := fun n => by
    rw [he, shapeCast_dropUnit_apply ![r, k]]
    refine congrArg x (funext fun a => Fin.ext ?_)
    match a with
    | ⟨0, _⟩ => show n.val + 1 * 0 = n.val; omega
    | ⟨1, _⟩ => show 0 + 1 * (i 0).val = (i 0).val; omega
    | ⟨2, _⟩ => show 0 + 1 * (i 1).val = (i 1).val; omega
  simp only [key]

/-- The row and the column of an entry of a one-layer block. -/
abbrev tail {r k : ℕ} (y : (S3 1 r k).Idx) : (S2 r k).Idx := fun a => y a.succ

theorem cast_tail {r k : ℕ} (w : (S3 1 r k).Idx → EReal) (h : (S3 1 r k).ShapeCasts (S2 r k)) (y : (S3 1 r k).Idx) :
    shapeCast (S2 r k) w h (tail y) = w y := by
  rw [shapeCast_dropUnit_apply ![r, k]]
  refine congrArg w (funext fun a => ?_)
  match a with
  | ⟨0, _⟩ => exact Fin.ext (show 0 = (y 0).val by have h0 : (y 0).val < 1 := (y 0).2; omega)
  | ⟨1, _⟩ => rfl
  | ⟨2, _⟩ => rfl

/-- An entrywise function of a sum and of three one-layer blocks, laid out as a one-layer block. -/
theorem lift {r k : ℕ} (f : EReal → EReal → EReal → EReal → EReal) (g : (S2 r k).Idx → EReal) (w u v : (S3 1 r k).Idx → EReal)
    (h : (S3 1 r k).ShapeCasts (S2 r k)) (h' : (S2 r k).ShapeCasts (S3 1 r k)) (y : (S3 1 r k).Idx) :
    shapeCast (S3 1 r k) (fun j => f (shapeCast (S2 r k) w h j) (g j) (shapeCast (S2 r k) u h j) (shapeCast (S2 r k) v h j)) h' y
      = f (w y) (g (tail y)) (u y) (v y) := by
  rw [shapeCast_addUnit_apply ![r, k]]
  exact congr (congr (congrArg₂ f (cast_tail w h y) rfl) (cast_tail u h y)) (cast_tail v h y)

/-- The host's sum over the first axis. -/
theorem host_sum {r k : ℕ} (x : (S3 8 r k).Idx → EReal) (z : (⟨0, ![]⟩ : Shape).Idx → EReal) (hz : ∀ i, z i = 0)
    (h : (S3 8 r k).ReducesTo [0] (S2 r k)) (h' : (S3 8 r k).Reduces [0] (S2 r k)) (hs : 0 < (⟨0, ![]⟩ : Shape).numel) (i : (S2 r k).Idx) :
    Host.reduceAdd (F := Ideal) (φ := .f32) x z h hs i = ∑ n : Fin 8, x (ix3 n (i 0) (i 1)) := by
  simp only [Host.reduceAdd, Ideal.hostReduceAdd_def]
  rw [Ideal.hostReduceAdd_single h h', hz, zero_add]
  refine Finset.sum_congr rfl fun n _ => congrArg x (funext fun a => Fin.ext ?_)
  match a with
  | ⟨0, _⟩ => rfl
  | ⟨1, _⟩ => rfl
  | ⟨2, _⟩ => rfl

/-- The four blocks a grid point leaves, of its block of the gradient: that block, the change of the weight and the two running means. -/
def step {r k : ℕ} (g w u v : (S3 1 r k).Idx → EReal) :
    ((S3 1 r k).Idx → EReal) × ((S3 1 r k).Idx → EReal) × ((S3 1 r k).Idx → EReal) × ((S3 1 r k).Idx → EReal) :=
  (g, fun y => change (w y) (g y) (u y) (v y), fun y => mean (g y) (u y), fun y => square (g y) (v y))

/-- The n-th slab of a block. -/
def slab {r k : ℕ} (x : (S3 8 r k).Idx → EReal) (b : ∀ n : Fin 8, ∀ a, (![n.val, 0, 0] : Fin 3 → ℕ) a + (S3 1 r k).size a ≤ (S3 8 r k).size a) (n : Fin 8) :
    (S3 1 r k).Idx → EReal := fun z => x ((Rect.unit (s := S3 8 r k) ![n.val, 0, 0] (S3 1 r k).size (b n)).idx z)

/-- The slabs' sum is the total of the block. -/
theorem slabs {r k : ℕ} (x : (S3 8 r k).Idx → EReal) (b : ∀ n : Fin 8, ∀ a, (![n.val, 0, 0] : Fin 3 → ℕ) a + (S3 1 r k).size a ≤ (S3 8 r k).size a)
    (h : (S3 1 r k).ShapeCasts (S2 r k)) (e : Fin 8 → (S2 r k).Idx → EReal) (he : ∀ n, e n = shapeCast (S2 r k) (slab x b n) h) (i : (S2 r k).Idx) :
    e 0 i + e 1 i + e 2 i + e 3 i + e 4 i + e 5 i + e 6 i + e 7 i = total x (i 0) (i 1) :=
  sum8 x b h i (fun n => e n i) fun n => congrFun (he n) i

/-- A sum and what is computed of it, laid as one-layer blocks, are the four blocks of a grid point. -/
theorem payloads {r k : ℕ} (g w u v : (S3 1 r k).Idx → EReal) (h : (S3 1 r k).ShapeCasts (S2 r k)) (h' : (S2 r k).ShapeCasts (S3 1 r k))
    (s : (S2 r k).Idx → EReal) (t : ∀ y, s (tail y) = g y) :
    (shapeCast (S3 1 r k) s h',
      shapeCast (S3 1 r k) (fun j => change (shapeCast (S2 r k) w h j) (s j) (shapeCast (S2 r k) u h j) (shapeCast (S2 r k) v h j)) h',
      shapeCast (S3 1 r k) (fun j => mean (s j) (shapeCast (S2 r k) u h j)) h',
      shapeCast (S3 1 r k) (fun j => square (s j) (shapeCast (S2 r k) v h j)) h') = step g w u v := by
  refine Prod.ext (funext fun y => ?_) (Prod.ext (funext fun y => ?_) (Prod.ext (funext fun y => ?_) (funext fun y => ?_)))
  · exact (shapeCast_addUnit_apply ![r, k] _ _ y).trans (t y)
  · exact (lift change s w u v h h' y).trans (congrArg (fun g => change _ g _ _) (t y))
  · exact (lift (fun _ g u _ => mean g u) s u u u h h' y).trans (congrArg (fun g => mean g _) (t y))
  · exact (lift (fun _ g _ v => square g v) s v v v h h' y).trans (congrArg (fun g => square g _) (t y))

/-- A grid point's blocks as entries of whole arrays, the block's entry `y` lying at `p y`. -/
theorem step_at {r k : ℕ} {J : Type} (g w u v : (S3 1 r k).Idx → EReal) (p : (S3 1 r k).Idx → J) (g' w' u' v' : J → EReal)
    (hg : ∀ y, g y = g' (p y)) (hw : ∀ y, w y = w' (p y)) (hu : ∀ y, u y = u' (p y)) (hv : ∀ y, v y = v' (p y)) :
    step g w u v = (fun y => g' (p y), fun y => change (w' (p y)) (g' (p y)) (u' (p y)) (v' (p y)), fun y => mean (g' (p y)) (u' (p y)),
      fun y => square (g' (p y)) (v' (p y))) := by
  obtain rfl : g = fun y => g' (p y) := funext hg
  obtain rfl : w = fun y => w' (p y) := funext hw
  obtain rfl : u = fun y => u' (p y) := funext hu
  obtain rfl : v = fun y => v' (p y) := funext hv
  rfl

/-- Rows of the parts from row `f` on. -/
def rows {r k R : ℕ} (f : ℕ) (h : f + r ≤ R) (a : (S3 8 R k).Idx → EReal) : (S3 8 r k).Idx → EReal := fun j =>
  a (ix3 (j 0) (⟨f + (j 1).val, lt_of_lt_of_le (Nat.add_lt_add_left (show (j 1).val < r from (j 1).isLt) f) h⟩ : Fin R) (j 2))

/-- The devices' parts of a weight's gradient, layer by layer; the first layer's lie apart from the others'. -/
def layers {r k R R' : ℕ} (f f' : ℕ) (h : f + r ≤ R) (h' : f' + r ≤ R') (a : (S3 8 R k).Idx → EReal) (a1 a2 a3 : (S3 8 R' k).Idx → EReal) :
    Fin 4 → (S3 8 r k).Idx → EReal := ![rows f h a, rows f' h' a1, rows f' h' a2, rows f' h' a3]

theorem rows_slice {r k R : ℕ} (f : ℕ) (h : f + r ≤ R) (a : (S3 8 R k).Idx → EReal) (hs : (S3 8 R k).Slices ![0, f, 0] (S3 8 r k)) :
    extractStridedSlice (S3 8 r k) ![0, f, 0] a hs = rows f h a := by
  refine funext fun j => congrArg a (funext fun b => Fin.ext ?_)
  match b with
  | ⟨0, _⟩ => show 0 + (j 0).val = (j 0).val; omega
  | ⟨1, _⟩ => rfl
  | ⟨2, _⟩ => show 0 + (j 2).val = (j 2).val; omega

theorem rows_all {r k : ℕ} (h : 0 + r ≤ r) (a : (S3 8 r k).Idx → EReal) : a = rows 0 h a := by
  refine funext fun j => congrArg a (funext fun b => Fin.ext ?_)
  match b with
  | ⟨0, _⟩ => rfl
  | ⟨1, _⟩ => show (j 1).val = 0 + (j 1).val; omega
  | ⟨2, _⟩ => rfl

/-- The host's sum of one layer, laid as a one-layer array. -/
theorem host_layer {r k : ℕ} (x x' : (S3 8 r k).Idx → EReal) (e : x = x') (z : (⟨0, ![]⟩ : Shape).Idx → EReal) (hz : ∀ i, z i = 0)
    (h : (S3 8 r k).ReducesTo [0] (S2 r k)) (h' : (S3 8 r k).Reduces [0] (S2 r k)) (hs : 0 < (⟨0, ![]⟩ : Shape).numel)
    (hb : (S2 r k).BroadcastsInDim (S3 1 r k) (![1, 2] : Fin 2 → Fin 3)) (hr : r ≠ 1) (hk : k ≠ 1) (i : Fin r) (q : Fin k) :
    broadcastInDim (S3 1 r k) ![1, 2] hb (Host.reduceAdd (F := Ideal) (φ := .f32) x z h hs) (ix3 0 i q) = ∑ n : Fin 8, x' (ix3 n i q) := by
  subst e
  refine (broadcastInDim_apply _ hb _ _ (ix2 i q) fun a => ?_).trans (host_sum x z hz h h' hs (ix2 i q))
  match a with
  | ⟨0, _⟩ => show i.val = if r = 1 then 0 else i.val; rw [if_neg hr]
  | ⟨1, _⟩ => show q.val = if k = 1 then 0 else q.val; rw [if_neg hk]

/-- The host's sum of one layer, turned round and laid as a one-layer array. -/
theorem host_turned {r k : ℕ} (x x' : (S3 8 r k).Idx → EReal) (e : x = x') (z : (⟨0, ![]⟩ : Shape).Idx → EReal) (hz : ∀ i, z i = 0)
    (h : (S3 8 r k).ReducesTo [0] (S2 r k)) (h' : (S3 8 r k).Reduces [0] (S2 r k)) (hs : 0 < (⟨0, ![]⟩ : Shape).numel)
    (ht : (S2 r k).Transposes [1, 0] (S2 k r))
    (hb : (S2 k r).BroadcastsInDim (S3 1 k r) (![1, 2] : Fin 2 → Fin 3)) (hr : r ≠ 1) (hk : k ≠ 1) (i : Fin k) (q : Fin r) :
    broadcastInDim (S3 1 k r) ![1, 2] hb (transpose (S2 k r) [1, 0] (Host.reduceAdd (F := Ideal) (φ := .f32) x z h hs) ht) (ix3 0 i q)
      = ∑ n : Fin 8, x' (ix3 n q i) := by
  subst e
  have hd := host_sum x z hz h h' hs (ix2 q i)
  generalize Host.reduceAdd (F := Ideal) (φ := .f32) x z h hs = f at hd ⊢
  refine (broadcastInDim_apply _ hb _ _ (ix2 i q) fun a => ?_).trans ((transpose_apply [1, 0] f ht (ix2 i q) (ix2 q i) fun a => ?_).trans hd)
  · match a with
    | ⟨0, _⟩ => show i.val = if k = 1 then 0 else i.val; rw [if_neg hk]
    | ⟨1, _⟩ => show q.val = if r = 1 then 0 else q.val; rw [if_neg hr]
  · match a with
    | ⟨0, _⟩ => rfl
    | ⟨1, _⟩ => rfl

/-- Four layers stacked: an entry is taken from its layer. -/
theorem stack {r k : ℕ} (f : Fin 4 → (S3 1 r k).Idx → EReal)
    (h : Shape.Concatenates ([⟨S3 1 r k, f 0⟩, ⟨S3 1 r k, f 1⟩, ⟨S3 1 r k, f 2⟩, ⟨S3 1 r k, f 3⟩].map fun p : (s : Shape) × (s.Idx → EReal) => p.1) (S3 4 r k) 0) (y : (S3 4 r k).Idx) :
    concatenate (S3 4 r k) 0 [⟨S3 1 r k, f 0⟩, ⟨S3 1 r k, f 1⟩, ⟨S3 1 r k, f 2⟩, ⟨S3 1 r k, f 3⟩] h y = f (y 0) (ix3 0 (y 1) (y 2)) := by
  refine concatenate_ofFn_unit_apply (t := S3 4 r k) (s₁ := S3 1 r k) 0 f h rfl rfl y (y 0) rfl _ fun b hb => ?_
  match b with
  | ⟨0, _⟩ => exact absurd rfl hb
  | ⟨1, _⟩ => rfl
  | ⟨2, _⟩ => rfl

end ReduceMath
-- ==== Proof.SumLate.lean ====
/- The gradients of the small weights, of the first layer: the kernel's sum over the devices is the reference's. -/
module

public import proofs.«01_k».proof.Proof.ReduceMath
public import proofs.«01_k».proof.Proof.Gen.SumLateIdeal.Value
public import proofs.«01_k».proof.Proof.Gen.SumLateReferenceIdeal.Run
public import proofs.«01_k».proof.Proof.Gen.SumLateReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.SumLate

open Idealize.ShloMosaic Idealize.ShloMosaic.TcCoe Idealize.SL.Sem ReduceMath
open Cert.SumLateIdeal Cert.SumLateIdeal.Gen

variable (m : (ℓ : Loc nD τ sig) → Buf (Elt Idealize.ShloMosaic.Ideal) ℓ) (c : Dev nD)

/-- The devices' gradients, as the call finds them. -/
abbrev slots : S8x96x1024.Idx → EReal := m ((c : Thread nD τ).loc main_arg0)

theorem slot_index : ∀ t : Fin cfg0.N, win0_0.index t = ![0, t.val, 0] := (by decide +kernel : ∀ t : Fin grid0.N, win0_0.index t = ![0, t.val, 0])
theorem out_index : ∀ t : Fin cfg0.N, win0_1.index t = ![t.val, 0] := (by decide +kernel : ∀ t : Fin grid0.N, win0_1.index t = ![t.val, 0])

/-- What a grid point leaves: the totals of its block. -/
theorem out (t : Fin cfg0.N) (y : S96x1024.Idx) : (dats m 0 c).after 1 t y = total (iblk m c 0 t) (y 0) (y 1) := by
  rw [after0_1]
  frame_out
  exact sum8 (r := 96) (k := 1024) (iblk m c 0 t) (by decide) shapeCasts_S1x96x1024_S96x1024 y
    (fun n => shapeCast S96x1024 (fun z => iblk m c 0 t ((Rect.unit (s := S8x96x1024) ![n.val, 0, 0] S1x96x1024.size _).idx z)) shapeCasts_S1x96x1024_S96x1024 y) fun n => rfl

/-- The kernel's array: entry by entry the total over the devices. -/
theorem final : (dats m 0 c).arrAt 1 cfg0.N = fun y : S96x1024.Idx => total (slots m c) (y 0) (y 1) := by
  refine (dats m 0 c).arrAt_eq_of_covers 1 _ (by decide +kernel) fun t _ (y : S96x1024.Idx) => ?_
  show (dats m 0 c).after 1 t y = _
  rw [out]
  refine total_congr (r := 96) (k := 1024) (r' := 96) (k' := 1024) _ (slots m c) _ _ _ _ fun n => ?_
  show V m c main_arg0 (((cfg0.win 0).blk t).view.emb (ix3 n (y 0) (y 1) : S8x96x1024.Idx)) = _
  rw [V_main_arg0]
  refine congrArg (slots m c) (funext fun a => Fin.ext ?_)
  match a with
  | ⟨0, _⟩ => show win0_0.index t 0 * 8 + 1 * n.val = n.val; rw [slot_index t]; simp
  | ⟨1, _⟩ => show win0_0.index t 1 * 96 + 1 * (y 0).val = win0_1.index t 0 * 96 + 1 * (y 0).val; rw [slot_index t, out_index t]; rfl
  | ⟨2, _⟩ => show win0_0.index t 2 * 1024 + 1 * (y 1).val = win0_1.index t 1 * 1024 + 1 * (y 1).val; rw [slot_index t, out_index t]; rfl

/-- The reference's program declares no semaphore, so its run is its frame. -/
theorem frame_ref : Cert.quiescent_SumLateReferenceIdeal := fun m ρ _ =>
  (θ_run Cert.SumLateReferenceIdeal.defs _ _).mono (fun r h => ⟨fun c => (h c).2, sem_eq_zero_of_no_sems (by decide) r.2⟩)
    (Cert.SumLateReferenceIdeal.Value.run m ρ)

/-- Both programs end with the sums over the devices. -/
theorem algebraic : Cert.algebraic_SumLateIdeal_SumLateReferenceIdeal := by
  intro m g m' g' _ hargs
  refine ⟨_, Value.run_blocks m g, ?_⟩
  refine (θ_run Cert.SumLateReferenceIdeal.defs _ _).mono (fun r h c => ?_) (Cert.SumLateReferenceIdeal.Value.run m' g')
  obtain ⟨q, qa⟩ := h c
  refine ⟨q.trans (Eq.trans ?_ (final m c).symm), qa⟩
  rw [hargs c]
  refine funext fun y => host_sum (r := 96) (k := 1024) _ _ (fun _ => ?_) _ (by decide) _ y
  exact Ideal.ofBits_zero_f32

end Cert.Proof.SumLate
-- ==== Proof.SumEarly.lean ====
/- The gradients of the small weights, of the later layers and the last norm: the kernel's sum over the devices is the reference's. -/
module

public import proofs.«01_k».proof.Proof.ReduceMath
public import proofs.«01_k».proof.Proof.Gen.SumEarlyIdeal.Value
public import proofs.«01_k».proof.Proof.Gen.SumEarlyReferenceIdeal.Run
public import proofs.«01_k».proof.Proof.Gen.SumEarlyReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.SumEarly

open Idealize.ShloMosaic Idealize.ShloMosaic.TcCoe Idealize.SL.Sem ReduceMath
open Cert.SumEarlyIdeal Cert.SumEarlyIdeal.Gen

variable (m : (ℓ : Loc nD τ sig) → Buf (Elt Idealize.ShloMosaic.Ideal) ℓ) (c : Dev nD)

/-- The devices' gradients, as the call finds them. -/
abbrev slots : S8x304x1024.Idx → EReal := m ((c : Thread nD τ).loc main_arg0)

theorem slot_index : ∀ t : Fin cfg0.N, win0_0.index t = ![0, t.val, 0] := (by decide +kernel : ∀ t : Fin grid0.N, win0_0.index t = ![0, t.val, 0])
theorem out_index : ∀ t : Fin cfg0.N, win0_1.index t = ![t.val, 0] := (by decide +kernel : ∀ t : Fin grid0.N, win0_1.index t = ![t.val, 0])

/-- What a grid point leaves: the totals of its block. -/
theorem out (t : Fin cfg0.N) (y : S16x1024.Idx) : (dats m 0 c).after 1 t y = total (iblk m c 0 t) (y 0) (y 1) := by
  rw [after0_1]
  frame_out
  exact sum8 (r := 16) (k := 1024) (iblk m c 0 t) (by decide) shapeCasts_S1x16x1024_S16x1024 y
    (fun n => shapeCast S16x1024 (fun z => iblk m c 0 t ((Rect.unit (s := S8x16x1024) ![n.val, 0, 0] S1x16x1024.size _).idx z)) shapeCasts_S1x16x1024_S16x1024 y) fun n => rfl

/-- The kernel's array: entry by entry the total over the devices. -/
theorem final : (dats m 0 c).arrAt 1 cfg0.N = fun y : S304x1024.Idx => total (slots m c) (y 0) (y 1) := by
  refine (dats m 0 c).arrAt_eq_of_covers 1 _ (by decide +kernel) fun t _ (y : S16x1024.Idx) => ?_
  show (dats m 0 c).after 1 t y = _
  rw [out]
  refine total_congr (r := 16) (k := 1024) (r' := 304) (k' := 1024) _ (slots m c) _ _ _ _ fun n => ?_
  show V m c main_arg0 (((cfg0.win 0).blk t).view.emb (ix3 n (y 0) (y 1) : S8x16x1024.Idx)) = _
  rw [V_main_arg0]
  refine congrArg (slots m c) (funext fun a => Fin.ext ?_)
  match a with
  | ⟨0, _⟩ => show win0_0.index t 0 * 8 + 1 * n.val = n.val; rw [slot_index t]; simp
  | ⟨1, _⟩ => show win0_0.index t 1 * 16 + 1 * (y 0).val = win0_1.index t 0 * 16 + 1 * (y 0).val; rw [slot_index t, out_index t]; rfl
  | ⟨2, _⟩ => show win0_0.index t 2 * 1024 + 1 * (y 1).val = win0_1.index t 1 * 1024 + 1 * (y 1).val; rw [slot_index t, out_index t]; rfl

/-- The reference's program declares no semaphore, so its run is its frame. -/
theorem frame_ref : Cert.quiescent_SumEarlyReferenceIdeal := fun m ρ _ =>
  (θ_run Cert.SumEarlyReferenceIdeal.defs _ _).mono (fun r h => ⟨fun c => (h c).2, sem_eq_zero_of_no_sems (by decide) r.2⟩)
    (Cert.SumEarlyReferenceIdeal.Value.run m ρ)

/-- Both programs end with the sums over the devices. -/
theorem algebraic : Cert.algebraic_SumEarlyIdeal_SumEarlyReferenceIdeal := by
  intro m g m' g' _ hargs
  refine ⟨_, Value.run_blocks m g, ?_⟩
  refine (θ_run Cert.SumEarlyReferenceIdeal.defs _ _).mono (fun r h c => ?_) (Cert.SumEarlyReferenceIdeal.Value.run m' g')
  obtain ⟨q, qa⟩ := h c
  refine ⟨q.trans (Eq.trans ?_ (final m c).symm), qa⟩
  rw [hargs c]
  refine funext fun y => host_sum (r := 304) (k := 1024) _ _ (fun _ => ?_) _ (by decide) _ y
  exact Ideal.ofBits_zero_f32

end Cert.Proof.SumEarly
-- ==== Proof.ReduceF1W1.lean ====
/- The optimiser's step on the first weight of the blocks' first feed-forward part:
   the gradient summed over the devices, the change and the two running means of the kernel are the reference's. -/
module

public import proofs.«01_k».proof.Proof.ReduceMath
public import proofs.«01_k».proof.Proof.Gen.ReduceF1W1Ideal.Value
public import proofs.«01_k».proof.Proof.Gen.ReduceF1W1ReferenceIdeal.Run
public import proofs.«01_k».proof.Proof.Gen.ReduceF1W1ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF1W1

open Idealize.ShloMosaic Idealize.ShloMosaic.TcCoe Idealize.SL.Sem AdamMath ReduceMath
open Cert.ReduceF1W1Ideal Cert.ReduceF1W1Ideal.Gen

/-- The weight's gradient from the devices' parts for the four layers. -/
def sums (a0 : S8x352x1024.Idx → EReal) (a1 a2 a3 : S8x1056x1024.Idx → EReal) : S4x352x1024.Idx → EReal := fun y =>
  total (r := 352) (k := 1024) (layers (r := 352) (k := 1024) 0 0 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := transpose S4x352x1024 [0, 2, 1] (m ((c : Thread nD τ).loc main_arg4)) transposes_S4x1024x352_S4x352x1024_0_2_1
abbrev mt : S4x352x1024.Idx → EReal := transpose S4x352x1024 [0, 2, 1] (m ((c : Thread nD τ).loc main_arg5)) transposes_S4x1024x352_S4x352x1024_0_2_1
abbrev vt : S4x352x1024.Idx → EReal := transpose S4x352x1024 [0, 2, 1] (m ((c : Thread nD τ).loc main_arg6)) transposes_S4x1024x352_S4x352x1024_0_2_1

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem host_wt : V m c main_v0 = wt m c := by
  show StableHlo.after hostOps0 _ (Proc.devRef .tc main_v0) = _
  after_results
theorem host_mt : V m c main_v1 = mt m c := by
  show StableHlo.after hostOps0 _ (Proc.devRef .tc main_v1) = _
  after_results
theorem host_vt : V m c main_v2 = vt m c := by
  show StableHlo.after hostOps0 _ (Proc.devRef .tc main_v2) = _
  after_results

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, t.val % 2, 0] :=
  (by decide +kernel : ∀ t : Fin grid0.N, t.val / 2 = 0 → win0_0.index t = ![0, t.val % 2, 0])
theorem slot_index1 : ∀ t : Fin cfg0.N, t.val / 2 = 1 → win0_1.index t = ![0, t.val % 2, 0] :=
  (by decide +kernel : ∀ t : Fin grid0.N, t.val / 2 = 1 → win0_1.index t = ![0, t.val % 2, 0])
theorem slot_index2 : ∀ t : Fin cfg0.N, t.val / 2 = 2 → win0_2.index t = ![0, t.val % 2, 0] :=
  (by decide +kernel : ∀ t : Fin grid0.N, t.val / 2 = 2 → win0_2.index t = ![0, t.val % 2, 0])
theorem slot_index3 : ∀ t : Fin cfg0.N, t.val / 2 = 3 → win0_3.index t = ![0, t.val % 2, 0] :=
  (by decide +kernel : ∀ t : Fin grid0.N, t.val / 2 = 3 → win0_3.index t = ![0, t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x352x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 0 + (win0_7.index t 1 * 176 + 1 * (y 1).val); rw [slot_index0 t h, out_index t]
    show t.val % 2 * 176 + 1 * (y 1).val = 0 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 0 + (win0_7.index t 1 * 176 + 1 * (y 1).val); rw [slot_index1 t h, out_index t]
    show t.val % 2 * 176 + 1 * (y 1).val = 0 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 0 + (win0_7.index t 1 * 176 + 1 * (y 1).val); rw [slot_index2 t h, out_index t]
    show t.val % 2 * 176 + 1 * (y 1).val = 0 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 0 + (win0_7.index t 1 * 176 + 1 * (y 1).val); rw [slot_index3 t h, out_index t]
    show t.val % 2 * 176 + 1 * (y 1).val = 0 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (host_wt m c) _
theorem blk_mt (t : Fin cfg0.N) (y : S1x176x1024.Idx) : iblk m c 5 t y = mt m c (at_ t y) := congrFun (host_mt m c) _
theorem blk_vt (t : Fin cfg0.N) (y : S1x176x1024.Idx) : iblk m c 6 t y = vt m c (at_ t y) := congrFun (host_vt m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF1W1ReferenceIdeal.Read in
/-- The reference's gradient: its four stacked sums. -/
theorem stage_sums (a0 : S8x352x1024.Idx → EReal) (a1 a2 a3 : S8x1056x1024.Idx → EReal) : val_main_v18 (F := Ideal) a0 a1 a2 a3 = sums a0 a1 a2 a3 := by
  refine funext fun y => (stack (r := 352) (k := 1024) ![val_main_v14 (F := Ideal) a0, val_main_v15 (F := Ideal) a1, val_main_v16 (F := Ideal) a2, val_main_v17 (F := Ideal) a3] _ y).trans ?_
  show _ = ∑ n : Fin 8, layers (r := 352) (k := 1024) 0 0 (by decide) (by decide) a0 a1 a2 a3 (y 0) (ix3 n (y 1) (y 2))
  generalize y 0 = l
  fin_cases l
  · exact host_layer (r := 352) (k := 1024) _ _ (rows_all (r := 352) (k := 1024) (by decide) a0) _ (fun _ => Ideal.ofBits_zero_f32) _ (by decide) (by decide) (by decide) (by decide) (by decide) (y 1) (y 2)
  · exact host_layer (r := 352) (k := 1024) _ _ (rows_slice (r := 352) (k := 1024) 0 (by decide) a1 Cert.ReduceF1W1ReferenceIdeal.Gen.slices_S8x1056x1024_S8x352x1024_0_0_0) _ (fun _ => Ideal.ofBits_zero_f32) _ (by decide) (by decide) (by decide) (by decide) (by decide) (y 1) (y 2)
  · exact host_layer (r := 352) (k := 1024) _ _ (rows_slice (r := 352) (k := 1024) 0 (by decide) a2 Cert.ReduceF1W1ReferenceIdeal.Gen.slices_S8x1056x1024_S8x352x1024_0_0_0) _ (fun _ => Ideal.ofBits_zero_f32) _ (by decide) (by decide) (by decide) (by decide) (by decide) (y 1) (y 2)
  · exact host_layer (r := 352) (k := 1024) _ _ (rows_slice (r := 352) (k := 1024) 0 (by decide) a3 Cert.ReduceF1W1ReferenceIdeal.Gen.slices_S8x1056x1024_S8x352x1024_0_0_0) _ (fun _ => Ideal.ofBits_zero_f32) _ (by decide) (by decide) (by decide) (by decide) (by decide) (y 1) (y 2)

/-- The reference's program declares no semaphore, so its run is its frame. -/
theorem frame_ref : Cert.quiescent_ReduceF1W1ReferenceIdeal := fun m ρ _ =>
  (θ_run Cert.ReduceF1W1ReferenceIdeal.defs _ _).mono (fun r h => ⟨fun c => (h c).2.2.2.2, sem_eq_zero_of_no_sems (by decide) r.2⟩)
    (Cert.ReduceF1W1ReferenceIdeal.Value.run m ρ)

/-- Both programs end with the gradient, the change of the weight and the two running means. -/
theorem algebraic : Cert.algebraic_ReduceF1W1Ideal_ReduceF1W1ReferenceIdeal := by
  intro m g m' g' _ hargs
  refine ⟨_, _, _, _, Value.run_blocks m g, ?_⟩
  refine (θ_run Cert.ReduceF1W1ReferenceIdeal.defs _ _).mono (fun r h c => ?_) (Cert.ReduceF1W1ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF1W1ReferenceIdeal.Read.val_main_v42_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF1W1
-- ==== Proof.ReduceF1W3.lean ====
/- The optimiser's step on the third weight of the blocks' first feed-forward part:
   the gradient summed over the devices, the change and the two running means of the kernel are the reference's. -/
module

public import proofs.«01_k».proof.Proof.ReduceMath
public import proofs.«01_k».proof.Proof.Gen.ReduceF1W3Ideal.Value
public import proofs.«01_k».proof.Proof.Gen.ReduceF1W3ReferenceIdeal.Run
public import proofs.«01_k».proof.Proof.Gen.ReduceF1W3ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF1W3

open Idealize.ShloMosaic Idealize.ShloMosaic.TcCoe Idealize.SL.Sem AdamMath ReduceMath
open Cert.ReduceF1W3Ideal Cert.ReduceF1W3Ideal.Gen

/-- The weight's gradient from the devices' parts for the four layers. -/
def sums (a0 : S8x352x1024.Idx → EReal) (a1 a2 a3 : S8x1056x1024.Idx → EReal) : S4x352x1024.Idx → EReal := fun y =>
  total (r := 352) (k := 1024) (layers (r := 352) (k := 1024) 0 352 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := transpose S4x352x1024 [0, 2, 1] (m ((c : Thread nD τ).loc main_arg4)) transposes_S4x1024x352_S4x352x1024_0_2_1
abbrev mt : S4x352x1024.Idx → EReal := transpose S4x352x1024 [0, 2, 1] (m ((c : Thread nD τ).loc main_arg5)) transposes_S4x1024x352_S4x352x1024_0_2_1
abbrev vt : S4x352x1024.Idx → EReal := transpose S4x352x1024 [0, 2, 1] (m ((c : Thread nD τ).loc main_arg6)) transposes_S4x1024x352_S4x352x1024_0_2_1

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem host_wt : V m c main_v0 = wt m c := by
  show StableHlo.after hostOps0 _ (Proc.devRef .tc main_v0) = _
  after_results
theorem host_mt : V m c main_v1 = mt m c := by
  show StableHlo.after hostOps0 _ (Proc.devRef .tc main_v1) = _
  after_results
theorem host_vt : V m c main_v2 = vt m c := by
  show StableHlo.after hostOps0 _ (Proc.devRef .tc main_v2) = _
  after_results

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, t.val % 2, 0] :=
  (by decide +kernel : ∀ t : Fin grid0.N, t.val / 2 = 0 → win0_0.index t = ![0, t.val % 2, 0])
theorem slot_index1 : ∀ t : Fin cfg0.N, t.val / 2 = 1 → win0_1.index t = ![0, 2 + t.val % 2, 0] :=
  (by decide +kernel : ∀ t : Fin grid0.N, t.val / 2 = 1 → win0_1.index t = ![0, 2 + t.val % 2, 0])
theorem slot_index2 : ∀ t : Fin cfg0.N, t.val / 2 = 2 → win0_2.index t = ![0, 2 + t.val % 2, 0] :=
  (by decide +kernel : ∀ t : Fin grid0.N, t.val / 2 = 2 → win0_2.index t = ![0, 2 + t.val % 2, 0])
theorem slot_index3 : ∀ t : Fin cfg0.N, t.val / 2 = 3 → win0_3.index t = ![0, 2 + t.val % 2, 0] :=
  (by decide +kernel : ∀ t : Fin grid0.N, t.val / 2 = 3 → win0_3.index t = ![0, 2 + t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x352x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 0 + (win0_7.index t 1 * 176 + 1 * (y 1).val); rw [slot_index0 t h, out_index t]
    show t.val % 2 * 176 + 1 * (y 1).val = 0 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 352 + (win0_7.index t 1 * 176 + 1 * (y 1).val); rw [slot_index1 t h, out_index t]
    show (2 + t.val % 2) * 176 + 1 * (y 1).val = 352 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 352 + (win0_7.index t 1 * 176 + 1 * (y 1).val); rw [slot_index2 t h, out_index t]
    show (2 + t.val % 2) * 176 + 1 * (y 1).val = 352 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 352 + (win0_7.index t 1 * 176 + 1 * (y 1).val); rw [slot_index3 t h, out_index t]
    show (2 + t.val % 2) * 176 + 1 * (y 1).val = 352 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (host_wt m c) _
theorem blk_mt (t : Fin cfg0.N) (y : S1x176x1024.Idx) : iblk m c 5 t y = mt m c (at_ t y) := congrFun (host_mt m c) _
theorem blk_vt (t : Fin cfg0.N) (y : S1x176x1024.Idx) : iblk m c 6 t y = vt m c (at_ t y) := congrFun (host_vt m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF1W3ReferenceIdeal.Read in
/-- The reference's gradient: its four stacked sums. -/
theorem stage_sums (a0 : S8x352x1024.Idx → EReal) (a1 a2 a3 : S8x1056x1024.Idx → EReal) : val_main_v18 (F := Ideal) a0 a1 a2 a3 = sums a0 a1 a2 a3 := by
  refine funext fun y => (stack (r := 352) (k := 1024) ![val_main_v14 (F := Ideal) a0, val_main_v15 (F := Ideal) a1, val_main_v16 (F := Ideal) a2, val_main_v17 (F := Ideal) a3] _ y).trans ?_
  show _ = ∑ n : Fin 8, layers (r := 352) (k := 1024) 0 352 (by decide) (by decide) a0 a1 a2 a3 (y 0) (ix3 n (y 1) (y 2))
  generalize y 0 = l
  fin_cases l
  · exact host_layer (r := 352) (k := 1024) _ _ (rows_all (r := 352) (k := 1024) (by decide) a0) _ (fun _ => Ideal.ofBits_zero_f32) _ (by decide) (by decide) (by decide) (by decide) (by decide) (y 1) (y 2)
  · exact host_layer (r := 352) (k := 1024) _ _ (rows_slice (r := 352) (k := 1024) 352 (by decide) a1 Cert.ReduceF1W3ReferenceIdeal.Gen.slices_S8x1056x1024_S8x352x1024_0_352_0) _ (fun _ => Ideal.ofBits_zero_f32) _ (by decide) (by decide) (by decide) (by decide) (by decide) (y 1) (y 2)
  · exact host_layer (r := 352) (k := 1024) _ _ (rows_slice (r := 352) (k := 1024) 352 (by decide) a2 Cert.ReduceF1W3ReferenceIdeal.Gen.slices_S8x1056x1024_S8x352x1024_0_352_0) _ (fun _ => Ideal.ofBits_zero_f32) _ (by decide) (by decide) (by decide) (by decide) (by decide) (y 1) (y 2)
  · exact host_layer (r := 352) (k := 1024) _ _ (rows_slice (r := 352) (k := 1024) 352 (by decide) a3 Cert.ReduceF1W3ReferenceIdeal.Gen.slices_S8x1056x1024_S8x352x1024_0_352_0) _ (fun _ => Ideal.ofBits_zero_f32) _ (by decide) (by decide) (by decide) (by decide) (by decide) (y 1) (y 2)

/-- The reference's program declares no semaphore, so its run is its frame. -/
theorem frame_ref : Cert.quiescent_ReduceF1W3ReferenceIdeal := fun m ρ _ =>
  (θ_run Cert.ReduceF1W3ReferenceIdeal.defs _ _).mono (fun r h => ⟨fun c => (h c).2.2.2.2, sem_eq_zero_of_no_sems (by decide) r.2⟩)
    (Cert.ReduceF1W3ReferenceIdeal.Value.run m ρ)

/-- Both programs end with the gradient, the change of the weight and the two running means. -/
theorem algebraic : Cert.algebraic_ReduceF1W3Ideal_ReduceF1W3ReferenceIdeal := by
  intro m g m' g' _ hargs
  refine ⟨_, _, _, _, Value.run_blocks m g, ?_⟩
  refine (θ_run Cert.ReduceF1W3ReferenceIdeal.defs _ _).mono (fun r h c => ?_) (Cert.ReduceF1W3ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF1W3ReferenceIdeal.Read.val_main_v42_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF1W3
-- ==== Proof.ReduceF1W2.lean ====
/- The optimiser's step on the second weight of the blocks' first feed-forward part:
   the gradient summed over the devices, the change and the two running means of the kernel are the reference's. -/
module

public import proofs.«01_k».proof.Proof.ReduceMath
public import proofs.«01_k».proof.Proof.Gen.ReduceF1W2Ideal.Value
public import proofs.«01_k».proof.Proof.Gen.ReduceF1W2ReferenceIdeal.Run
public import proofs.«01_k».proof.Proof.Gen.ReduceF1W2ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF1W2

open Idealize.ShloMosaic Idealize.ShloMosaic.TcCoe Idealize.SL.Sem AdamMath ReduceMath
open Cert.ReduceF1W2Ideal Cert.ReduceF1W2Ideal.Gen

/-- The weight's gradient from the devices' parts for the four layers. -/
def sums (a0 : S8x352x1024.Idx → EReal) (a1 a2 a3 : S8x1056x1024.Idx → EReal) : S4x352x1024.Idx → EReal := fun y =>
  total (r := 352) (k := 1024) (layers (r := 352) (k := 1024) 0 704 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := m ((c : Thread nD τ).loc main_arg4)
abbrev mt : S4x352x1024.Idx → EReal := m ((c : Thread nD τ).loc main_arg5)
abbrev vt : S4x352x1024.Idx → EReal := m ((c : Thread nD τ).loc main_arg6)

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, t.val % 2, 0] :=
  (by decide +kernel : ∀ t : Fin grid0.N, t.val / 2 = 0 → win0_0.index t = ![0, t.val % 2, 0])
theorem slot_index1 : ∀ t : Fin cfg0.N, t.val / 2 = 1 → win0_1.index t = ![0, 4 + t.val % 2, 0] :=
  (by decide +kernel : ∀ t : Fin grid0.N, t.val / 2 = 1 → win0_1.index t = ![0, 4 + t.val % 2, 0])
theorem slot_index2 : ∀ t : Fin cfg0.N, t.val / 2 = 2 → win0_2.index t = ![0, 4 + t.val % 2, 0] :=
  (by decide +kernel : ∀ t : Fin grid0.N, t.val / 2 = 2 → win0_2.index t = ![0, 4 + t.val % 2, 0])
theorem slot_index3 : ∀ t : Fin cfg0.N, t.val / 2 = 3 → win0_3.index t = ![0, 4 + t.val % 2, 0] :=
  (by decide +kernel : ∀ t : Fin grid0.N, t.val / 2 = 3 → win0_3.index t = ![0, 4 + t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x352x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 0 + (win0_7.index t 1 * 176 + 1 * (y 1).val); rw [slot_index0 t h, out_index t]
    show t.val % 2 * 176 + 1 * (y 1).val = 0 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 704 + (win0_7.index t 1 * 176 + 1 * (y 1).val); rw [slot_index1 t h, out_index t]
    show (4 + t.val % 2) * 176 + 1 * (y 1).val = 704 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 704 + (win0_7.index t 1 * 176 + 1 * (y 1).val); rw [slot_index2 t h, out_index t]
    show (4 + t.val % 2) * 176 + 1 * (y 1).val = 704 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 704 + (win0_7.index t 1 * 176 + 1 * (y 1).val); rw [slot_index3 t h, out_index t]
    show (4 + t.val % 2) * 176 + 1 * (y 1).val = 704 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (V_main_arg4 m c) _
theorem blk_mt (t : Fin cfg0.N) (y : S1x176x1024.Idx) : iblk m c 5 t y = mt m c (at_ t y) := congrFun (V_main_arg5 m c) _
theorem blk_vt (t : Fin cfg0.N) (y : S1x176x1024.Idx) : iblk m c 6 t y = vt m c (at_ t y) := congrFun (V_main_arg6 m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF1W2ReferenceIdeal.Read in
/-- The reference's gradient: its four stacked sums. -/
theorem stage_sums (a0 : S8x352x1024.Idx → EReal) (a1 a2 a3 : S8x1056x1024.Idx → EReal) : val_main_v15 (F := Ideal) a0 a1 a2 a3 = sums a0 a1 a2 a3 := by
  refine funext fun y => (stack (r := 352) (k := 1024) ![val_main_v11 (F := Ideal) a0, val_main_v12 (F := Ideal) a1, val_main_v13 (F := Ideal) a2, val_main_v14 (F := Ideal) a3] _ y).trans ?_
  show _ = ∑ n : Fin 8, layers (r := 352) (k := 1024) 0 704 (by decide) (by decide) a0 a1 a2 a3 (y 0) (ix3 n (y 1) (y 2))
  generalize y 0 = l
  fin_cases l
  · exact host_layer (r := 352) (k := 1024) _ _ (rows_all (r := 352) (k := 1024) (by decide) a0) _ (fun _ => Ideal.ofBits_zero_f32) _ (by decide) (by decide) (by decide) (by decide) (by decide) (y 1) (y 2)
  · exact host_layer (r := 352) (k := 1024) _ _ (rows_slice (r := 352) (k := 1024) 704 (by decide) a1 Cert.ReduceF1W2ReferenceIdeal.Gen.slices_S8x1056x1024_S8x352x1024_0_704_0) _ (fun _ => Ideal.ofBits_zero_f32) _ (by decide) (by decide) (by decide) (by decide) (by decide) (y 1) (y 2)
  · exact host_layer (r := 352) (k := 1024) _ _ (rows_slice (r := 352) (k := 1024) 704 (by decide) a2 Cert.ReduceF1W2ReferenceIdeal.Gen.slices_S8x1056x1024_S8x352x1024_0_704_0) _ (fun _ => Ideal.ofBits_zero_f32) _ (by decide) (by decide) (by decide) (by decide) (by decide) (y 1) (y 2)
  · exact host_layer (r := 352) (k := 1024) _ _ (rows_slice (r := 352) (k := 1024) 704 (by decide) a3 Cert.ReduceF1W2ReferenceIdeal.Gen.slices_S8x1056x1024_S8x352x1024_0_704_0) _ (fun _ => Ideal.ofBits_zero_f32) _ (by decide) (by decide) (by decide) (by decide) (by decide) (y 1) (y 2)

/-- The reference's program declares no semaphore, so its run is its frame. -/
theorem frame_ref : Cert.quiescent_ReduceF1W2ReferenceIdeal := fun m ρ _ =>
  (θ_run Cert.ReduceF1W2ReferenceIdeal.defs _ _).mono (fun r h => ⟨fun c => (h c).2.2.2.2, sem_eq_zero_of_no_sems (by decide) r.2⟩)
    (Cert.ReduceF1W2ReferenceIdeal.Value.run m ρ)

/-- Both programs end with the gradient, the change of the weight and the two running means. -/
theorem algebraic : Cert.algebraic_ReduceF1W2Ideal_ReduceF1W2ReferenceIdeal := by
  intro m g m' g' _ hargs
  refine ⟨_, _, _, _, Value.run_blocks m g, ?_⟩
  refine (θ_run Cert.ReduceF1W2ReferenceIdeal.defs _ _).mono (fun r h c => ?_) (Cert.ReduceF1W2ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF1W2ReferenceIdeal.Read.val_main_v39_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF1W2
-- ==== Proof.ReduceF2W1.lean ====
/- The optimiser's step on the first weight of the blocks' second feed-forward part:
   the gradient summed over the devices, the change and the two running means of the kernel are the reference's. -/
module

public import proofs.«01_k».proof.Proof.ReduceMath
public import proofs.«01_k».proof.Proof.Gen.ReduceF2W1Ideal.Value
public import proofs.«01_k».proof.Proof.Gen.ReduceF2W1ReferenceIdeal.Run
public import proofs.«01_k».proof.Proof.Gen.ReduceF2W1ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF2W1

open Idealize.ShloMosaic Idealize.ShloMosaic.TcCoe Idealize.SL.Sem AdamMath ReduceMath
open Cert.ReduceF2W1Ideal Cert.ReduceF2W1Ideal.Gen

/-- The weight's gradient from the devices' parts for the four layers. -/
def sums (a0 : S8x1056x1024.Idx → EReal) (a1 a2 a3 : S8x1056x1024.Idx → EReal) : S4x352x1024.Idx → EReal := fun y =>
  total (r := 352) (k := 1024) (layers (r := 352) (k := 1024) 0 0 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := transpose S4x352x1024 [0, 2, 1] (m ((c : Thread nD τ).loc main_arg4)) transposes_S4x1024x352_S4x352x1024_0_2_1
abbrev mt : S4x352x1024.Idx → EReal := transpose S4x352x1024 [0, 2, 1] (m ((c : Thread nD τ).loc main_arg5)) transposes_S4x1024x352_S4x352x1024_0_2_1
abbrev vt : S4x352x1024.Idx → EReal := transpose S4x352x1024 [0, 2, 1] (m ((c : Thread nD τ).loc main_arg6)) transposes_S4x1024x352_S4x352x1024_0_2_1

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem host_wt : V m c main_v0 = wt m c := by
  show StableHlo.after hostOps0 _ (Proc.devRef .tc main_v0) = _
  after_results
theorem host_mt : V m c main_v1 = mt m c := by
  show StableHlo.after hostOps0 _ (Proc.devRef .tc main_v1) = _
  after_results
theorem host_vt : V m c main_v2 = vt m c := by
  show StableHlo.after hostOps0 _ (Proc.devRef .tc main_v2) = _
  after_results

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, t.val % 2, 0] :=
  (by decide +kernel : ∀ t : Fin grid0.N, t.val / 2 = 0 → win0_0.index t = ![0, t.val % 2, 0])
theorem slot_index1 : ∀ t : Fin cfg0.N, t.val / 2 = 1 → win0_1.index t = ![0, t.val % 2, 0] :=
  (by decide +kernel : ∀ t : Fin grid0.N, t.val / 2 = 1 → win0_1.index t = ![0, t.val % 2, 0])
theorem slot_index2 : ∀ t : Fin cfg0.N, t.val / 2 = 2 → win0_2.index t = ![0, t.val % 2, 0] :=
  (by decide +kernel : ∀ t : Fin grid0.N, t.val / 2 = 2 → win0_2.index t = ![0, t.val % 2, 0])
theorem slot_index3 : ∀ t : Fin cfg0.N, t.val / 2 = 3 → win0_3.index t = ![0, t.val % 2, 0] :=
  (by decide +kernel : ∀ t : Fin grid0.N, t.val / 2 = 3 → win0_3.index t = ![0, t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x1056x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 0 + (win0_7.index t 1 * 176 + 1 * (y 1).val); rw [slot_index0 t h, out_index t]
    show t.val % 2 * 176 + 1 * (y 1).val = 0 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 0 + (win0_7.index t 1 * 176 + 1 * (y 1).val); rw [slot_index1 t h, out_index t]
    show t.val % 2 * 176 + 1 * (y 1).val = 0 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 0 + (win0_7.index t 1 * 176 + 1 * (y 1).val); rw [slot_index2 t h, out_index t]
    show t.val % 2 * 176 + 1 * (y 1).val = 0 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 0 + (win0_7.index t 1 * 176 + 1 * (y 1).val); rw [slot_index3 t h, out_index t]
    show t.val % 2 * 176 + 1 * (y 1).val = 0 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (host_wt m c) _
theorem blk_mt (t : Fin cfg0.N) (y : S1x176x1024.Idx) : iblk m c 5 t y = mt m c (at_ t y) := congrFun (host_mt m c) _
theorem blk_vt (t : Fin cfg0.N) (y : S1x176x1024.Idx) : iblk m c 6 t y = vt m c (at_ t y) := congrFun (host_vt m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF2W1ReferenceIdeal.Read in
/-- The reference's gradient: its four stacked sums. -/
theorem stage_sums (a0 : S8x1056x1024.Idx → EReal) (a1 a2 a3 : S8x1056x1024.Idx → EReal) : val_main_v19 (F := Ideal) a0 a1 a2 a3 = sums a0 a1 a2 a3 := by
  refine funext fun y => (stack (r := 352) (k := 1024) ![val_main_v15 (F := Ideal) a0, val_main_v16 (F := Ideal) a1, val_main_v17 (F := Ideal) a2, val_main_v18 (F := Ideal) a3] _ y).trans ?_
  show _ = ∑ n : Fin 8, layers (r := 352) (k := 1024) 0 0 (by decide) (by decide) a0 a1 a2 a3 (y 0) (ix3 n (y 1) (y 2))
  generalize y 0 = l
  fin_cases l
  · exact host_layer (r := 352) (k := 1024) _ _ (rows_slice (r := 352) (k := 1024) 0 (by decide) a0 Cert.ReduceF2W1ReferenceIdeal.Gen.slices_S8x1056x1024_S8x352x1024_0_0_0) _ (fun _ => Ideal.ofBits_zero_f32) _ (by decide) (by decide) (by decide) (by decide) (by decide) (y 1) (y 2)
  · exact host_layer (r := 352) (k := 1024) _ _ (rows_slice (r := 352) (k := 1024) 0 (by decide) a1 Cert.ReduceF2W1ReferenceIdeal.Gen.slices_S8x1056x1024_S8x352x1024_0_0_0) _ (fun _ => Ideal.ofBits_zero_f32) _ (by decide) (by decide) (by decide) (by decide) (by decide) (y 1) (y 2)
  · exact host_layer (r := 352) (k := 1024) _ _ (rows_slice (r := 352) (k := 1024) 0 (by decide) a2 Cert.ReduceF2W1ReferenceIdeal.Gen.slices_S8x1056x1024_S8x352x1024_0_0_0) _ (fun _ => Ideal.ofBits_zero_f32) _ (by decide) (by decide) (by decide) (by decide) (by decide) (y 1) (y 2)
  · exact host_layer (r := 352) (k := 1024) _ _ (rows_slice (r := 352) (k := 1024) 0 (by decide) a3 Cert.ReduceF2W1ReferenceIdeal.Gen.slices_S8x1056x1024_S8x352x1024_0_0_0) _ (fun _ => Ideal.ofBits_zero_f32) _ (by decide) (by decide) (by decide) (by decide) (by decide) (y 1) (y 2)

/-- The reference's program declares no semaphore, so its run is its frame. -/
theorem frame_ref : Cert.quiescent_ReduceF2W1ReferenceIdeal := fun m ρ _ =>
  (θ_run Cert.ReduceF2W1ReferenceIdeal.defs _ _).mono (fun r h => ⟨fun c => (h c).2.2.2.2, sem_eq_zero_of_no_sems (by decide) r.2⟩)
    (Cert.ReduceF2W1ReferenceIdeal.Value.run m ρ)

/-- Both programs end with the gradient, the change of the weight and the two running means. -/
theorem algebraic : Cert.algebraic_ReduceF2W1Ideal_ReduceF2W1ReferenceIdeal := by
  intro m g m' g' _ hargs
  refine ⟨_, _, _, _, Value.run_blocks m g, ?_⟩
  refine (θ_run Cert.ReduceF2W1ReferenceIdeal.defs _ _).mono (fun r h c => ?_) (Cert.ReduceF2W1ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF2W1ReferenceIdeal.Read.val_main_v43_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF2W1
-- ==== Proof.ReduceF2W3.lean ====
/- The optimiser's step on the third weight of the blocks' second feed-forward part:
   the gradient summed over the devices, the change and the two running means of the kernel are the reference's. -/
module

public import proofs.«01_k».proof.Proof.ReduceMath
public import proofs.«01_k».proof.Proof.Gen.ReduceF2W3Ideal.Value
public import proofs.«01_k».proof.Proof.Gen.ReduceF2W3ReferenceIdeal.Run
public import proofs.«01_k».proof.Proof.Gen.ReduceF2W3ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF2W3

open Idealize.ShloMosaic Idealize.ShloMosaic.TcCoe Idealize.SL.Sem AdamMath ReduceMath
open Cert.ReduceF2W3Ideal Cert.ReduceF2W3Ideal.Gen

/-- The weight's gradient from the devices' parts for the four layers. -/
def sums (a0 : S8x1056x1024.Idx → EReal) (a1 a2 a3 : S8x1056x1024.Idx → EReal) : S4x352x1024.Idx → EReal := fun y =>
  total (r := 352) (k := 1024) (layers (r := 352) (k := 1024) 352 352 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := transpose S4x352x1024 [0, 2, 1] (m ((c : Thread nD τ).loc main_arg4)) transposes_S4x1024x352_S4x352x1024_0_2_1
abbrev mt : S4x352x1024.Idx → EReal := transpose S4x352x1024 [0, 2, 1] (m ((c : Thread nD τ).loc main_arg5)) transposes_S4x1024x352_S4x352x1024_0_2_1
abbrev vt : S4x352x1024.Idx → EReal := transpose S4x352x1024 [0, 2, 1] (m ((c : Thread nD τ).loc main_arg6)) transposes_S4x1024x352_S4x352x1024_0_2_1

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem host_wt : V m c main_v0 = wt m c := by
  show StableHlo.after hostOps0 _ (Proc.devRef .tc main_v0) = _
  after_results
theorem host_mt : V m c main_v1 = mt m c := by
  show StableHlo.after hostOps0 _ (Proc.devRef .tc main_v1) = _
  after_results
theorem host_vt : V m c main_v2 = vt m c := by
  show StableHlo.after hostOps0 _ (Proc.devRef .tc main_v2) = _
  after_results

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, 2 + t.val % 2, 0] :=
  (by decide +kernel : ∀ t : Fin grid0.N, t.val / 2 = 0 → win0_0.index t = ![0, 2 + t.val % 2, 0])
theorem slot_index1 : ∀ t : Fin cfg0.N, t.val / 2 = 1 → win0_1.index t = ![0, 2 + t.val % 2, 0] :=
  (by decide +kernel : ∀ t : Fin grid0.N, t.val / 2 = 1 → win0_1.index t = ![0, 2 + t.val % 2, 0])
theorem slot_index2 : ∀ t : Fin cfg0.N, t.val / 2 = 2 → win0_2.index t = ![0, 2 + t.val % 2, 0] :=
  (by decide +kernel : ∀ t : Fin grid0.N, t.val / 2 = 2 → win0_2.index t = ![0, 2 + t.val % 2, 0])
theorem slot_index3 : ∀ t : Fin cfg0.N, t.val / 2 = 3 → win0_3.index t = ![0, 2 + t.val % 2, 0] :=
  (by decide +kernel : ∀ t : Fin grid0.N, t.val / 2 = 3 → win0_3.index t = ![0, 2 + t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x1056x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 352 + (win0_7.index t 1 * 176 + 1 * (y 1).val); rw [slot_index0 t h, out_index t]
    show (2 + t.val % 2) * 176 + 1 * (y 1).val = 352 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 352 + (win0_7.index t 1 * 176 + 1 * (y 1).val); rw [slot_index1 t h, out_index t]
    show (2 + t.val % 2) * 176 + 1 * (y 1).val = 352 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 352 + (win0_7.index t 1 * 176 + 1 * (y 1).val); rw [slot_index2 t h, out_index t]
    show (2 + t.val % 2) * 176 + 1 * (y 1).val = 352 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 352 + (win0_7.index t 1 * 176 + 1 * (y 1).val); rw [slot_index3 t h, out_index t]
    show (2 + t.val % 2) * 176 + 1 * (y 1).val = 352 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (host_wt m c) _
theorem blk_mt (t : Fin cfg0.N) (y : S1x176x1024.Idx) : iblk m c 5 t y = mt m c (at_ t y) := congrFun (host_mt m c) _
theorem blk_vt (t : Fin cfg0.N) (y : S1x176x1024.Idx) : iblk m c 6 t y = vt m c (at_ t y) := congrFun (host_vt m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF2W3ReferenceIdeal.Read in
/-- The reference's gradient: its four stacked sums. -/
theorem stage_sums (a0 : S8x1056x1024.Idx → EReal) (a1 a2 a3 : S8x1056x1024.Idx → EReal) : val_main_v19 (F := Ideal) a0 a1 a2 a3 = sums a0 a1 a2 a3 := by
  refine funext fun y => (stack (r := 352) (k := 1024) ![val_main_v15 (F := Ideal) a0, val_main_v16 (F := Ideal) a1, val_main_v17 (F := Ideal) a2, val_main_v18 (F := Ideal) a3] _ y).trans ?_
  show _ = ∑ n : Fin 8, layers (r := 352) (k := 1024) 352 352 (by decide) (by decide) a0 a1 a2 a3 (y 0) (ix3 n (y 1) (y 2))
  generalize y 0 = l
  fin_cases l
  · exact host_layer (r := 352) (k := 1024) _ _ (rows_slice (r := 352) (k := 1024) 352 (by decide) a0 Cert.ReduceF2W3ReferenceIdeal.Gen.slices_S8x1056x1024_S8x352x1024_0_352_0) _ (fun _ => Ideal.ofBits_zero_f32) _ (by decide) (by decide) (by decide) (by decide) (by decide) (y 1) (y 2)
  · exact host_layer (r := 352) (k := 1024) _ _ (rows_slice (r := 352) (k := 1024) 352 (by decide) a1 Cert.ReduceF2W3ReferenceIdeal.Gen.slices_S8x1056x1024_S8x352x1024_0_352_0) _ (fun _ => Ideal.ofBits_zero_f32) _ (by decide) (by decide) (by decide) (by decide) (by decide) (y 1) (y 2)
  · exact host_layer (r := 352) (k := 1024) _ _ (rows_slice (r := 352) (k := 1024) 352 (by decide) a2 Cert.ReduceF2W3ReferenceIdeal.Gen.slices_S8x1056x1024_S8x352x1024_0_352_0) _ (fun _ => Ideal.ofBits_zero_f32) _ (by decide) (by decide) (by decide) (by decide) (by decide) (y 1) (y 2)
  · exact host_layer (r := 352) (k := 1024) _ _ (rows_slice (r := 352) (k := 1024) 352 (by decide) a3 Cert.ReduceF2W3ReferenceIdeal.Gen.slices_S8x1056x1024_S8x352x1024_0_352_0) _ (fun _ => Ideal.ofBits_zero_f32) _ (by decide) (by decide) (by decide) (by decide) (by decide) (y 1) (y 2)

/-- The reference's program declares no semaphore, so its run is its frame. -/
theorem frame_ref : Cert.quiescent_ReduceF2W3ReferenceIdeal := fun m ρ _ =>
  (θ_run Cert.ReduceF2W3ReferenceIdeal.defs _ _).mono (fun r h => ⟨fun c => (h c).2.2.2.2, sem_eq_zero_of_no_sems (by decide) r.2⟩)
    (Cert.ReduceF2W3ReferenceIdeal.Value.run m ρ)

/-- Both programs end with the gradient, the change of the weight and the two running means. -/
theorem algebraic : Cert.algebraic_ReduceF2W3Ideal_ReduceF2W3ReferenceIdeal := by
  intro m g m' g' _ hargs
  refine ⟨_, _, _, _, Value.run_blocks m g, ?_⟩
  refine (θ_run Cert.ReduceF2W3ReferenceIdeal.defs _ _).mono (fun r h c => ?_) (Cert.ReduceF2W3ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF2W3ReferenceIdeal.Read.val_main_v43_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF2W3
-- ==== Proof.ReduceF2W2.lean ====
/- The optimiser's step on the second weight of the blocks' second feed-forward part:
   the gradient summed over the devices, the change and the two running means of the kernel are the reference's. -/
module

public import proofs.«01_k».proof.Proof.ReduceMath
public import proofs.«01_k».proof.Proof.Gen.ReduceF2W2Ideal.Value
public import proofs.«01_k».proof.Proof.Gen.ReduceF2W2ReferenceIdeal.Run
public import proofs.«01_k».proof.Proof.Gen.ReduceF2W2ReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceF2W2

open Idealize.ShloMosaic Idealize.ShloMosaic.TcCoe Idealize.SL.Sem AdamMath ReduceMath
open Cert.ReduceF2W2Ideal Cert.ReduceF2W2Ideal.Gen

/-- The weight's gradient from the devices' parts for the four layers. -/
def sums (a0 : S8x1056x1024.Idx → EReal) (a1 a2 a3 : S8x1056x1024.Idx → EReal) : S4x352x1024.Idx → EReal := fun y =>
  total (r := 352) (k := 1024) (layers (r := 352) (k := 1024) 704 704 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x352x1024.Idx → EReal := m ((c : Thread nD τ).loc main_arg4)
abbrev mt : S4x352x1024.Idx → EReal := m ((c : Thread nD τ).loc main_arg5)
abbrev vt : S4x352x1024.Idx → EReal := m ((c : Thread nD τ).loc main_arg6)

/-- The gradient, as a function of what the call finds. -/
abbrev gt : S4x352x1024.Idx → EReal :=
  sums (m ((c : Thread nD τ).loc main_arg0)) (m ((c : Thread nD τ).loc main_arg1)) (m ((c : Thread nD τ).loc main_arg2)) (m ((c : Thread nD τ).loc main_arg3))

theorem slab_fits : ∀ n : Fin 8, ∀ a, (![n.val, 0, 0] : Fin 3 → ℕ) a + S1x176x1024.size a ≤ S8x176x1024.size a := by decide

/-- The sum of a block's eight slabs, as the kernel forms it. -/
abbrev summed (x : S8x176x1024.Idx → EReal) : S176x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x176x1024.Idx → EReal) (w u v : S1x176x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 176) (k := 1024) (fun y => total (r := 176) (k := 1024) x (y 1) (y 2)) w u v :=
  payloads (r := 176) (k := 1024) _ w u v shapeCasts_S1x176x1024_S176x1024 shapeCasts_S176x1024_S1x176x1024 (summed x)
    fun y => slabs (r := 176) (k := 1024) x slab_fits shapeCasts_S1x176x1024_S176x1024 (fun n => shapeCast S176x1024 (slab x slab_fits n) shapeCasts_S1x176x1024_S176x1024) (fun _ => rfl) (tail y)

theorem outs_A (t : Fin cfg0.N) (h : t.val / 2 = 0) : outsAt0 m c t.val t.isLt =
    step (r := 176) (k := 1024) (fun y => total (r := 176) (k := 1024) (iblk m c 0 t) (y 1) (y 2)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 176) (k := 1024) (fun y => total (r := 176) (k := 1024) (iblk m c 1 t) (y 1) (y 2)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 176) (k := 1024) (fun y => total (r := 176) (k := 1024) (iblk m c 2 t) (y 1) (y 2)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 176) (k := 1024) (fun y => total (r := 176) (k := 1024) (iblk m c 3 t) (y 1) (y 2)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x176x1024.Idx) : S4x352x1024.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, 4 + t.val % 2, 0] :=
  (by decide +kernel : ∀ t : Fin grid0.N, t.val / 2 = 0 → win0_0.index t = ![0, 4 + t.val % 2, 0])
theorem slot_index1 : ∀ t : Fin cfg0.N, t.val / 2 = 1 → win0_1.index t = ![0, 4 + t.val % 2, 0] :=
  (by decide +kernel : ∀ t : Fin grid0.N, t.val / 2 = 1 → win0_1.index t = ![0, 4 + t.val % 2, 0])
theorem slot_index2 : ∀ t : Fin cfg0.N, t.val / 2 = 2 → win0_2.index t = ![0, 4 + t.val % 2, 0] :=
  (by decide +kernel : ∀ t : Fin grid0.N, t.val / 2 = 2 → win0_2.index t = ![0, 4 + t.val % 2, 0])
theorem slot_index3 : ∀ t : Fin cfg0.N, t.val / 2 = 3 → win0_3.index t = ![0, 4 + t.val % 2, 0] :=
  (by decide +kernel : ∀ t : Fin grid0.N, t.val / 2 = 3 → win0_3.index t = ![0, 4 + t.val % 2, 0])

theorem at_layer (t : Fin cfg0.N) (y : S1x176x1024.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x176x1024.Idx) : total (r := 176) (k := 1024) (iblk m c 0 t) (y 1) (y 2) = gt m c (at_ t y) := by
  refine total_congr (r := 176) (k := 1024) (r' := 352) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x176x1024.Idx)) = _
  rw [V_main_arg0]
  refine congrArg (m ((c : Thread nD τ).loc main_arg0) : S8x1056x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 176 + 1 * (y 1).val = 704 + (win0_7.index t 1 * 176 + 1 * (y 1).val); rw [slot_index0 t h, out_index t]
    show (4 + t.val % 2) * 176 + 1 * (y 1).val = 704 + (t.val % 2 * 176 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 2 = 1) (y : S1x176x1024.Idx) : total (r := 176) (k := 1024) (iblk m c 1 t) (y 1) (y 2) = gt m c (at_ t y) := by
  refine total_congr (r := 176) (k := 1024) (r' := 352) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x176x1024.Idx)) = _
  rw [V_main_arg1]
  refine congrArg (m ((c : Thread nD τ).loc main_arg1) : S8x1056x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 176 + 1 * (y 1).val = 704 + (win0_7.index t 1 * 176 + 1 * (y 1).val); rw [slot_index1 t h, out_index t]
    show (4 + t.val % 2) * 176 + 1 * (y 1).val = 704 + (t.val % 2 * 176 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 2 = 2) (y : S1x176x1024.Idx) : total (r := 176) (k := 1024) (iblk m c 2 t) (y 1) (y 2) = gt m c (at_ t y) := by
  refine total_congr (r := 176) (k := 1024) (r' := 352) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x176x1024.Idx)) = _
  rw [V_main_arg2]
  refine congrArg (m ((c : Thread nD τ).loc main_arg2) : S8x1056x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 176 + 1 * (y 1).val = 704 + (win0_7.index t 1 * 176 + 1 * (y 1).val); rw [slot_index2 t h, out_index t]
    show (4 + t.val % 2) * 176 + 1 * (y 1).val = 704 + (t.val % 2 * 176 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 2 = 3) (y : S1x176x1024.Idx) : total (r := 176) (k := 1024) (iblk m c 3 t) (y 1) (y 2) = gt m c (at_ t y) := by
  refine total_congr (r := 176) (k := 1024) (r' := 352) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x176x1024.Idx)) = _
  rw [V_main_arg3]
  refine congrArg (m ((c : Thread nD τ).loc main_arg3) : S8x1056x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 176 + 1 * (y 1).val = 704 + (win0_7.index t 1 * 176 + 1 * (y 1).val); rw [slot_index3 t h, out_index t]
    show (4 + t.val % 2) * 176 + 1 * (y 1).val = 704 + (t.val % 2 * 176 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x176x1024.Idx) : iblk m c 4 t y = wt m c (at_ t y) := congrFun (V_main_arg4 m c) _
theorem blk_mt (t : Fin cfg0.N) (y : S1x176x1024.Idx) : iblk m c 5 t y = mt m c (at_ t y) := congrFun (V_main_arg5 m c) _
theorem blk_vt (t : Fin cfg0.N) (y : S1x176x1024.Idx) : iblk m c 6 t y = vt m c (at_ t y) := congrFun (V_main_arg6 m c) _

/-- What a grid point leaves, in terms of the whole arrays. -/
theorem block (t : Fin cfg0.N) : outsAt0 m c t.val t.isLt = (fun y : S1x176x1024.Idx => gt m c (at_ t y),
    fun y : S1x176x1024.Idx => change (wt m c (at_ t y)) (gt m c (at_ t y)) (mt m c (at_ t y)) (vt m c (at_ t y)),
    fun y : S1x176x1024.Idx => mean (gt m c (at_ t y)) (mt m c (at_ t y)), fun y : S1x176x1024.Idx => square (gt m c (at_ t y)) (vt m c (at_ t y))) := by
  have ht : t.val < 8 := t.isLt
  have key : ∃ g : S1x176x1024.Idx → EReal, outsAt0 m c t.val t.isLt = step (r := 176) (k := 1024) g (iblk m c 4 t) (iblk m c 5 t) (iblk m c 6 t) ∧
      ∀ y : S1x176x1024.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 176) (k := 1024) g _ _ _ (at_ t) (gt m c) (wt m c) (mt m c) (vt m c) hg (blk_wt m c t) (blk_mt m c t) (blk_vt m c t))

theorem final7 : (dats m 0 c).arrAt 7 cfg0.N = fun y : S4x352x1024.Idx => gt m c y := by
  refine (dats m 0 c).arrAt_eq_of_covers 7 _ (by decide +kernel) fun t _ (y : S1x176x1024.Idx) => ?_
  show (dats m 0 c).after 7 t y = _
  rw [after0_7, block]

theorem final8 : (dats m 0 c).arrAt 8 cfg0.N = fun y : S4x352x1024.Idx => change (wt m c y) (gt m c y) (mt m c y) (vt m c y) := by
  refine (dats m 0 c).arrAt_eq_of_covers 8 _ (by decide +kernel) fun t _ (y : S1x176x1024.Idx) => ?_
  show (dats m 0 c).after 8 t y = _
  rw [after0_8, block]
  rfl

theorem final9 : (dats m 0 c).arrAt 9 cfg0.N = fun y : S4x352x1024.Idx => mean (gt m c y) (mt m c y) := by
  refine (dats m 0 c).arrAt_eq_of_covers 9 _ (by decide +kernel) fun t _ (y : S1x176x1024.Idx) => ?_
  show (dats m 0 c).after 9 t y = _
  rw [after0_9, block]
  rfl

theorem final10 : (dats m 0 c).arrAt 10 cfg0.N = fun y : S4x352x1024.Idx => square (gt m c y) (vt m c y) := by
  refine (dats m 0 c).arrAt_eq_of_covers 10 _ (by decide +kernel) fun t _ (y : S1x176x1024.Idx) => ?_
  show (dats m 0 c).after 10 t y = _
  rw [after0_10, block]
  rfl

open Cert.ReduceF2W2ReferenceIdeal.Read in
/-- The reference's gradient: its four stacked sums. -/
theorem stage_sums (a0 : S8x1056x1024.Idx → EReal) (a1 a2 a3 : S8x1056x1024.Idx → EReal) : val_main_v16 (F := Ideal) a0 a1 a2 a3 = sums a0 a1 a2 a3 := by
  refine funext fun y => (stack (r := 352) (k := 1024) ![val_main_v12 (F := Ideal) a0, val_main_v13 (F := Ideal) a1, val_main_v14 (F := Ideal) a2, val_main_v15 (F := Ideal) a3] _ y).trans ?_
  show _ = ∑ n : Fin 8, layers (r := 352) (k := 1024) 704 704 (by decide) (by decide) a0 a1 a2 a3 (y 0) (ix3 n (y 1) (y 2))
  generalize y 0 = l
  fin_cases l
  · exact host_layer (r := 352) (k := 1024) _ _ (rows_slice (r := 352) (k := 1024) 704 (by decide) a0 Cert.ReduceF2W2ReferenceIdeal.Gen.slices_S8x1056x1024_S8x352x1024_0_704_0) _ (fun _ => Ideal.ofBits_zero_f32) _ (by decide) (by decide) (by decide) (by decide) (by decide) (y 1) (y 2)
  · exact host_layer (r := 352) (k := 1024) _ _ (rows_slice (r := 352) (k := 1024) 704 (by decide) a1 Cert.ReduceF2W2ReferenceIdeal.Gen.slices_S8x1056x1024_S8x352x1024_0_704_0) _ (fun _ => Ideal.ofBits_zero_f32) _ (by decide) (by decide) (by decide) (by decide) (by decide) (y 1) (y 2)
  · exact host_layer (r := 352) (k := 1024) _ _ (rows_slice (r := 352) (k := 1024) 704 (by decide) a2 Cert.ReduceF2W2ReferenceIdeal.Gen.slices_S8x1056x1024_S8x352x1024_0_704_0) _ (fun _ => Ideal.ofBits_zero_f32) _ (by decide) (by decide) (by decide) (by decide) (by decide) (y 1) (y 2)
  · exact host_layer (r := 352) (k := 1024) _ _ (rows_slice (r := 352) (k := 1024) 704 (by decide) a3 Cert.ReduceF2W2ReferenceIdeal.Gen.slices_S8x1056x1024_S8x352x1024_0_704_0) _ (fun _ => Ideal.ofBits_zero_f32) _ (by decide) (by decide) (by decide) (by decide) (by decide) (y 1) (y 2)

/-- The reference's program declares no semaphore, so its run is its frame. -/
theorem frame_ref : Cert.quiescent_ReduceF2W2ReferenceIdeal := fun m ρ _ =>
  (θ_run Cert.ReduceF2W2ReferenceIdeal.defs _ _).mono (fun r h => ⟨fun c => (h c).2.2.2.2, sem_eq_zero_of_no_sems (by decide) r.2⟩)
    (Cert.ReduceF2W2ReferenceIdeal.Value.run m ρ)

/-- Both programs end with the gradient, the change of the weight and the two running means. -/
theorem algebraic : Cert.algebraic_ReduceF2W2Ideal_ReduceF2W2ReferenceIdeal := by
  intro m g m' g' _ hargs
  refine ⟨_, _, _, _, Value.run_blocks m g, ?_⟩
  refine (θ_run Cert.ReduceF2W2ReferenceIdeal.defs _ _).mono (fun r h c => ?_) (Cert.ReduceF2W2ReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceF2W2ReferenceIdeal.Read.val_main_v40_eq m' c)).trans (Eq.trans ?_ (final8 m c).symm)
    rw [a0, a1, a2, a3, a4, a5, a6]
    exact funext fun y => congrArg (fun s : S4x352x1024.Idx → EReal => change (wt m c y) (s y) (mt m c y) (vt m c y)) sg
  · refine q2.trans (Eq.trans ?_ (final9 m c).symm)
    rw [a0, a1, a2, a3, a5]
    exact funext fun y => congrArg (fun s : S4x352x1024.Idx → EReal => mean (s y) (mt m c y)) sg
  · refine q3.trans (Eq.trans ?_ (final10 m c).symm)
    rw [a0, a1, a2, a3, a6]
    exact funext fun y => congrArg (fun s : S4x352x1024.Idx → EReal => square (s y) (vt m c y)) sg

end Cert.Proof.ReduceF2W2
-- ==== Proof.ReduceOut.lean ====
/- The optimiser's step on the weight that leads out of the blocks' mixing part:
   the gradient summed over the devices, the change and the two running means of the kernel are the reference's. -/
module

public import proofs.«01_k».proof.Proof.ReduceMath
public import proofs.«01_k».proof.Proof.Gen.ReduceOutIdeal.Value
public import proofs.«01_k».proof.Proof.Gen.ReduceOutReferenceIdeal.Run
public import proofs.«01_k».proof.Proof.Gen.ReduceOutReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceOut

open Idealize.ShloMosaic Idealize.ShloMosaic.TcCoe Idealize.SL.Sem AdamMath ReduceMath
open Cert.ReduceOutIdeal Cert.ReduceOutIdeal.Gen

/-- The weight's gradient from the devices' parts for the four layers. -/
def sums (a0 : S8x128x1024.Idx → EReal) (a1 a2 a3 : S8x384x1024.Idx → EReal) : S4x128x1024.Idx → EReal := fun y =>
  total (r := 128) (k := 1024) (layers (r := 128) (k := 1024) 0 256 (by decide) (by decide) a0 a1 a2 a3 (y 0)) (y 1) (y 2)

variable (m : (ℓ : Loc nD τ sig) → Buf (Elt Idealize.ShloMosaic.Ideal) ℓ) (c : Dev nD)

/-- The weight and its two running means, laid as the kernel finds them. -/
abbrev wt : S4x128x1024.Idx → EReal := m ((c : Thread nD τ).loc main_arg4)
abbrev mt : S4x128x1024.Idx → EReal := m ((c : Thread nD τ).loc main_arg5)
abbrev vt : S4x128x1024.Idx → EReal := m ((c : Thread nD τ).loc main_arg6)

/-- The gradient, as a function of what the call finds. -/
abbrev gt : S4x128x1024.Idx → EReal :=
  sums (m ((c : Thread nD τ).loc main_arg0)) (m ((c : Thread nD τ).loc main_arg1)) (m ((c : Thread nD τ).loc main_arg2)) (m ((c : Thread nD τ).loc main_arg3))

theorem slab_fits : ∀ n : Fin 8, ∀ a, (![n.val, 0, 0] : Fin 3 → ℕ) a + S1x128x1024.size a ≤ S8x128x1024.size a := by decide

/-- The sum of a block's eight slabs, as the kernel forms it. -/
abbrev summed (x : S8x128x1024.Idx → EReal) : S128x1024.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x128x1024.Idx → EReal) (w u v : S1x128x1024.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 128) (k := 1024) (fun y => total (r := 128) (k := 1024) x (y 1) (y 2)) w u v :=
  payloads (r := 128) (k := 1024) _ w u v shapeCasts_S1x128x1024_S128x1024 shapeCasts_S128x1024_S1x128x1024 (summed x)
    fun y => slabs (r := 128) (k := 1024) x slab_fits shapeCasts_S1x128x1024_S128x1024 (fun n => shapeCast S128x1024 (slab x slab_fits n) shapeCasts_S1x128x1024_S128x1024) (fun _ => rfl) (tail y)

theorem outs_A (t : Fin cfg0.N) (h : t.val / 1 = 0) : outsAt0 m c t.val t.isLt =
    step (r := 128) (k := 1024) (fun y => total (r := 128) (k := 1024) (iblk m c 0 t) (y 1) (y 2)) (iblk m c 4 t) (iblk m c 5 t) (iblk m c 6 t) := by
  have ht : t.val < 4 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 1 = 1) : outsAt0 m c t.val t.isLt =
    step (r := 128) (k := 1024) (fun y => total (r := 128) (k := 1024) (iblk m c 1 t) (y 1) (y 2)) (iblk m c 4 t) (iblk m c 5 t) (iblk m c 6 t) := by
  have ht : t.val < 4 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 1 = 2) : outsAt0 m c t.val t.isLt =
    step (r := 128) (k := 1024) (fun y => total (r := 128) (k := 1024) (iblk m c 2 t) (y 1) (y 2)) (iblk m c 4 t) (iblk m c 5 t) (iblk m c 6 t) := by
  have ht : t.val < 4 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 1 = 3) : outsAt0 m c t.val t.isLt =
    step (r := 128) (k := 1024) (fun y => total (r := 128) (k := 1024) (iblk m c 3 t) (y 1) (y 2)) (iblk m c 4 t) (iblk m c 5 t) (iblk m c 6 t) := by
  have ht : t.val < 4 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x128x1024.Idx) : S4x128x1024.Idx := ((cfg0.win 7).blk t).view.emb y

theorem out_index : ∀ t : Fin cfg0.N, win0_7.index t = ![t.val / 1, t.val % 1, 0] :=
  (by decide +kernel : ∀ t : Fin grid0.N, win0_7.index t = ![t.val / 1, t.val % 1, 0])
theorem slot_index0 : ∀ t : Fin cfg0.N, t.val / 1 = 0 → win0_0.index t = ![0, t.val % 1, 0] :=
  (by decide +kernel : ∀ t : Fin grid0.N, t.val / 1 = 0 → win0_0.index t = ![0, t.val % 1, 0])
theorem slot_index1 : ∀ t : Fin cfg0.N, t.val / 1 = 1 → win0_1.index t = ![0, 2 + t.val % 1, 0] :=
  (by decide +kernel : ∀ t : Fin grid0.N, t.val / 1 = 1 → win0_1.index t = ![0, 2 + t.val % 1, 0])
theorem slot_index2 : ∀ t : Fin cfg0.N, t.val / 1 = 2 → win0_2.index t = ![0, 2 + t.val % 1, 0] :=
  (by decide +kernel : ∀ t : Fin grid0.N, t.val / 1 = 2 → win0_2.index t = ![0, 2 + t.val % 1, 0])
theorem slot_index3 : ∀ t : Fin cfg0.N, t.val / 1 = 3 → win0_3.index t = ![0, 2 + t.val % 1, 0] :=
  (by decide +kernel : ∀ t : Fin grid0.N, t.val / 1 = 3 → win0_3.index t = ![0, 2 + t.val % 1, 0])

theorem at_layer (t : Fin cfg0.N) (y : S1x128x1024.Idx) : (at_ t y 0).val = t.val / 1 := by
  show win0_7.index t 0 * 1 + 1 * (y 0).val = t.val / 1
  rw [out_index t]
  show t.val / 1 * 1 + 1 * (y 0).val = t.val / 1
  have h0 : (y 0).val < 1 := (y 0).2
  omega

theorem sum_0 (t : Fin cfg0.N) (h : t.val / 1 = 0) (y : S1x128x1024.Idx) : total (r := 128) (k := 1024) (iblk m c 0 t) (y 1) (y 2) = gt m c (at_ t y) := by
  refine total_congr (r := 128) (k := 1024) (r' := 128) (k' := 1024) _ _ _ _ _ _ fun n => ?_
  rw [show at_ t y 0 = (0 : Fin 4) from Fin.ext ((at_layer t y).trans h)]
  show V m c main_arg0 (((cfg0.win 0).blk t).view.emb (ix3 n (y 1) (y 2) : S8x128x1024.Idx)) = _
  rw [V_main_arg0]
  refine congrArg (m ((c : Thread nD τ).loc main_arg0) : S8x128x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 128 + 1 * (y 1).val = 0 + (win0_7.index t 1 * 128 + 1 * (y 1).val); rw [slot_index0 t h, out_index t]
    show t.val % 1 * 128 + 1 * (y 1).val = 0 + (t.val % 1 * 128 + 1 * (y 1).val); omega
  | ⟨2, _⟩ => show win0_0.index t 2 * 1024 + 1 * (y 2).val = win0_7.index t 2 * 1024 + 1 * (y 2).val; rw [slot_index0 t h, out_index t]; rfl

theorem sum_1 (t : Fin cfg0.N) (h : t.val / 1 = 1) (y : S1x128x1024.Idx) : total (r := 128) (k := 1024) (iblk m c 1 t) (y 1) (y 2) = gt m c (at_ t y) := by
  refine total_congr (r := 128) (k := 1024) (r' := 128) (k' := 1024) _ _ _ _ _ _ fun n => ?_
  rw [show at_ t y 0 = (1 : Fin 4) from Fin.ext ((at_layer t y).trans h)]
  show V m c main_arg1 (((cfg0.win 1).blk t).view.emb (ix3 n (y 1) (y 2) : S8x128x1024.Idx)) = _
  rw [V_main_arg1]
  refine congrArg (m ((c : Thread nD τ).loc main_arg1) : S8x384x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 128 + 1 * (y 1).val = 256 + (win0_7.index t 1 * 128 + 1 * (y 1).val); rw [slot_index1 t h, out_index t]
    show (2 + t.val % 1) * 128 + 1 * (y 1).val = 256 + (t.val % 1 * 128 + 1 * (y 1).val); omega
  | ⟨2, _⟩ => show win0_1.index t 2 * 1024 + 1 * (y 2).val = win0_7.index t 2 * 1024 + 1 * (y 2).val; rw [slot_index1 t h, out_index t]; rfl

theorem sum_2 (t : Fin cfg0.N) (h : t.val / 1 = 2) (y : S1x128x1024.Idx) : total (r := 128) (k := 1024) (iblk m c 2 t) (y 1) (y 2) = gt m c (at_ t y) := by
  refine total_congr (r := 128) (k := 1024) (r' := 128) (k' := 1024) _ _ _ _ _ _ fun n => ?_
  rw [show at_ t y 0 = (2 : Fin 4) from Fin.ext ((at_layer t y).trans h)]
  show V m c main_arg2 (((cfg0.win 2).blk t).view.emb (ix3 n (y 1) (y 2) : S8x128x1024.Idx)) = _
  rw [V_main_arg2]
  refine congrArg (m ((c : Thread nD τ).loc main_arg2) : S8x384x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 128 + 1 * (y 1).val = 256 + (win0_7.index t 1 * 128 + 1 * (y 1).val); rw [slot_index2 t h, out_index t]
    show (2 + t.val % 1) * 128 + 1 * (y 1).val = 256 + (t.val % 1 * 128 + 1 * (y 1).val); omega
  | ⟨2, _⟩ => show win0_2.index t 2 * 1024 + 1 * (y 2).val = win0_7.index t 2 * 1024 + 1 * (y 2).val; rw [slot_index2 t h, out_index t]; rfl

theorem sum_3 (t : Fin cfg0.N) (h : t.val / 1 = 3) (y : S1x128x1024.Idx) : total (r := 128) (k := 1024) (iblk m c 3 t) (y 1) (y 2) = gt m c (at_ t y) := by
  refine total_congr (r := 128) (k := 1024) (r' := 128) (k' := 1024) _ _ _ _ _ _ fun n => ?_
  rw [show at_ t y 0 = (3 : Fin 4) from Fin.ext ((at_layer t y).trans h)]
  show V m c main_arg3 (((cfg0.win 3).blk t).view.emb (ix3 n (y 1) (y 2) : S8x128x1024.Idx)) = _
  rw [V_main_arg3]
  refine congrArg (m ((c : Thread nD τ).loc main_arg3) : S8x384x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 128 + 1 * (y 1).val = 256 + (win0_7.index t 1 * 128 + 1 * (y 1).val); rw [slot_index3 t h, out_index t]
    show (2 + t.val % 1) * 128 + 1 * (y 1).val = 256 + (t.val % 1 * 128 + 1 * (y 1).val); omega
  | ⟨2, _⟩ => show win0_3.index t 2 * 1024 + 1 * (y 2).val = win0_7.index t 2 * 1024 + 1 * (y 2).val; rw [slot_index3 t h, out_index t]; rfl

theorem blk_wt (t : Fin cfg0.N) (y : S1x128x1024.Idx) : iblk m c 4 t y = wt m c (at_ t y) := congrFun (V_main_arg4 m c) _
theorem blk_mt (t : Fin cfg0.N) (y : S1x128x1024.Idx) : iblk m c 5 t y = mt m c (at_ t y) := congrFun (V_main_arg5 m c) _
theorem blk_vt (t : Fin cfg0.N) (y : S1x128x1024.Idx) : iblk m c 6 t y = vt m c (at_ t y) := congrFun (V_main_arg6 m c) _

/-- What a grid point leaves, in terms of the whole arrays. -/
theorem block (t : Fin cfg0.N) : outsAt0 m c t.val t.isLt = (fun y : S1x128x1024.Idx => gt m c (at_ t y),
    fun y : S1x128x1024.Idx => change (wt m c (at_ t y)) (gt m c (at_ t y)) (mt m c (at_ t y)) (vt m c (at_ t y)),
    fun y : S1x128x1024.Idx => mean (gt m c (at_ t y)) (mt m c (at_ t y)), fun y : S1x128x1024.Idx => square (gt m c (at_ t y)) (vt m c (at_ t y))) := by
  have ht : t.val < 4 := t.isLt
  have key : ∃ g : S1x128x1024.Idx → EReal, outsAt0 m c t.val t.isLt = step (r := 128) (k := 1024) g (iblk m c 4 t) (iblk m c 5 t) (iblk m c 6 t) ∧
      ∀ y : S1x128x1024.Idx, g y = gt m c (at_ t y) := by
    rcases (by omega : t.val / 1 = 0 ∨ t.val / 1 = 1 ∨ t.val / 1 = 2 ∨ t.val / 1 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 128) (k := 1024) g _ _ _ (at_ t) (gt m c) (wt m c) (mt m c) (vt m c) hg (blk_wt m c t) (blk_mt m c t) (blk_vt m c t))

theorem final7 : (dats m 0 c).arrAt 7 cfg0.N = fun y : S4x128x1024.Idx => gt m c y := by
  refine (dats m 0 c).arrAt_eq_of_covers 7 _ (by decide +kernel) fun t _ (y : S1x128x1024.Idx) => ?_
  show (dats m 0 c).after 7 t y = _
  rw [after0_7, block]

theorem final8 : (dats m 0 c).arrAt 8 cfg0.N = fun y : S4x128x1024.Idx => change (wt m c y) (gt m c y) (mt m c y) (vt m c y) := by
  refine (dats m 0 c).arrAt_eq_of_covers 8 _ (by decide +kernel) fun t _ (y : S1x128x1024.Idx) => ?_
  show (dats m 0 c).after 8 t y = _
  rw [after0_8, block]
  rfl

theorem final9 : (dats m 0 c).arrAt 9 cfg0.N = fun y : S4x128x1024.Idx => mean (gt m c y) (mt m c y) := by
  refine (dats m 0 c).arrAt_eq_of_covers 9 _ (by decide +kernel) fun t _ (y : S1x128x1024.Idx) => ?_
  show (dats m 0 c).after 9 t y = _
  rw [after0_9, block]
  rfl

theorem final10 : (dats m 0 c).arrAt 10 cfg0.N = fun y : S4x128x1024.Idx => square (gt m c y) (vt m c y) := by
  refine (dats m 0 c).arrAt_eq_of_covers 10 _ (by decide +kernel) fun t _ (y : S1x128x1024.Idx) => ?_
  show (dats m 0 c).after 10 t y = _
  rw [after0_10, block]
  rfl

open Cert.ReduceOutReferenceIdeal.Read in
/-- The reference's gradient: its four stacked sums. -/
theorem stage_sums (a0 : S8x128x1024.Idx → EReal) (a1 a2 a3 : S8x384x1024.Idx → EReal) : val_main_v15 (F := Ideal) a0 a1 a2 a3 = sums a0 a1 a2 a3 := by
  refine funext fun y => (stack (r := 128) (k := 1024) ![val_main_v11 (F := Ideal) a0, val_main_v12 (F := Ideal) a1, val_main_v13 (F := Ideal) a2, val_main_v14 (F := Ideal) a3] _ y).trans ?_
  show _ = ∑ n : Fin 8, layers (r := 128) (k := 1024) 0 256 (by decide) (by decide) a0 a1 a2 a3 (y 0) (ix3 n (y 1) (y 2))
  generalize y 0 = l
  fin_cases l
  · exact host_layer (r := 128) (k := 1024) _ _ (rows_all (r := 128) (k := 1024) (by decide) a0) _ (fun _ => Ideal.ofBits_zero_f32) _ (by decide) (by decide) (by decide) (by decide) (by decide) (y 1) (y 2)
  · exact host_layer (r := 128) (k := 1024) _ _ (rows_slice (r := 128) (k := 1024) 256 (by decide) a1 Cert.ReduceOutReferenceIdeal.Gen.slices_S8x384x1024_S8x128x1024_0_256_0) _ (fun _ => Ideal.ofBits_zero_f32) _ (by decide) (by decide) (by decide) (by decide) (by decide) (y 1) (y 2)
  · exact host_layer (r := 128) (k := 1024) _ _ (rows_slice (r := 128) (k := 1024) 256 (by decide) a2 Cert.ReduceOutReferenceIdeal.Gen.slices_S8x384x1024_S8x128x1024_0_256_0) _ (fun _ => Ideal.ofBits_zero_f32) _ (by decide) (by decide) (by decide) (by decide) (by decide) (y 1) (y 2)
  · exact host_layer (r := 128) (k := 1024) _ _ (rows_slice (r := 128) (k := 1024) 256 (by decide) a3 Cert.ReduceOutReferenceIdeal.Gen.slices_S8x384x1024_S8x128x1024_0_256_0) _ (fun _ => Ideal.ofBits_zero_f32) _ (by decide) (by decide) (by decide) (by decide) (by decide) (y 1) (y 2)

/-- The reference's program declares no semaphore, so its run is its frame. -/
theorem frame_ref : Cert.quiescent_ReduceOutReferenceIdeal := fun m ρ _ =>
  (θ_run Cert.ReduceOutReferenceIdeal.defs _ _).mono (fun r h => ⟨fun c => (h c).2.2.2.2, sem_eq_zero_of_no_sems (by decide) r.2⟩)
    (Cert.ReduceOutReferenceIdeal.Value.run m ρ)

/-- Both programs end with the gradient, the change of the weight and the two running means. -/
theorem algebraic : Cert.algebraic_ReduceOutIdeal_ReduceOutReferenceIdeal := by
  intro m g m' g' _ hargs
  refine ⟨_, _, _, _, Value.run_blocks m g, ?_⟩
  refine (θ_run Cert.ReduceOutReferenceIdeal.defs _ _).mono (fun r h c => ?_) (Cert.ReduceOutReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceOutReferenceIdeal.Read.val_main_v39_eq m' c)).trans (Eq.trans ?_ (final8 m c).symm)
    rw [a0, a1, a2, a3, a4, a5, a6]
    exact funext fun y => congrArg (fun s : S4x128x1024.Idx → EReal => change (wt m c y) (s y) (mt m c y) (vt m c y)) sg
  · refine q2.trans (Eq.trans ?_ (final9 m c).symm)
    rw [a0, a1, a2, a3, a5]
    exact funext fun y => congrArg (fun s : S4x128x1024.Idx → EReal => mean (s y) (mt m c y)) sg
  · refine q3.trans (Eq.trans ?_ (final10 m c).symm)
    rw [a0, a1, a2, a3, a6]
    exact funext fun y => congrArg (fun s : S4x128x1024.Idx → EReal => square (s y) (vt m c y)) sg

end Cert.Proof.ReduceOut
-- ==== Proof.ReduceIn.lean ====
/- The optimiser's step on the weight that leads into the blocks' mixing part:
   the gradient summed over the devices, the change and the two running means of the kernel are the reference's. -/
module

public import proofs.«01_k».proof.Proof.ReduceMath
public import proofs.«01_k».proof.Proof.Gen.ReduceInIdeal.Value
public import proofs.«01_k».proof.Proof.Gen.ReduceInReferenceIdeal.Run
public import proofs.«01_k».proof.Proof.Gen.ReduceInReferenceIdeal.Read
public import proofs.«01_k».proof.Defs
public import Idealize.ShloMosaic.Lib.Pipeline.ValueKit.Acc
public import Idealize.ShloMosaic.Lib.Pipeline.ValueKit.Geometry

@[expose] public section

set_option maxRecDepth 16384

noncomputable section

namespace Cert.Proof.ReduceIn

open Idealize.ShloMosaic Idealize.ShloMosaic.TcCoe Idealize.SL.Sem AdamMath ReduceMath
open Cert.ReduceInIdeal Cert.ReduceInIdeal.Gen

/-- The weight's gradient from the devices' parts for the four layers. -/
def sums (a0 : S8x256x1024.Idx → EReal) (a1 a2 a3 : S8x384x1024.Idx → EReal) : S4x1024x256.Idx → EReal := fun y =>
  total (r := 256) (k := 1024) (layers (r := 256) (k := 1024) 0 0 (by decide) (by decide) a0 a1 a2 a3 (y 0)) (y 2) (y 1)

variable (m : (ℓ : Loc nD τ sig) → Buf (Elt Idealize.ShloMosaic.Ideal) ℓ) (c : Dev nD)

/-- The weight and its two running means, laid as the kernel finds them. -/
abbrev wt : S4x1024x256.Idx → EReal := m ((c : Thread nD τ).loc main_arg4)
abbrev mt : S4x1024x256.Idx → EReal := m ((c : Thread nD τ).loc main_arg5)
abbrev vt : S4x1024x256.Idx → EReal := m ((c : Thread nD τ).loc main_arg6)

/-- The gradient, as a function of what the call finds. -/
abbrev gt : S4x1024x256.Idx → EReal :=
  sums (m ((c : Thread nD τ).loc main_arg0)) (m ((c : Thread nD τ).loc main_arg1)) (m ((c : Thread nD τ).loc main_arg2)) (m ((c : Thread nD τ).loc main_arg3))

theorem slab_fits : ∀ n : Fin 8, ∀ a, (![n.val, 0, 0] : Fin 3 → ℕ) a + S1x256x512.size a ≤ S8x256x512.size a := by decide

/-- The sum of a block's eight slabs, as the kernel forms it. -/
abbrev summed (x : S8x256x512.Idx → EReal) : S512x256.Idx → EReal :=
  k0_pay9 (F := Ideal) (slab x slab_fits 0) (slab x slab_fits 1) (slab x slab_fits 2) (slab x slab_fits 3)
    (slab x slab_fits 4) (slab x slab_fits 5) (slab x slab_fits 6) (slab x slab_fits 7)

/-- The four payloads of a grid point. -/
theorem step_eq (x : S8x256x512.Idx → EReal) (w u v : S1x512x256.Idx → EReal) :
    (k0_pay10 (F := Ideal) (summed x), k0_pay13 (F := Ideal) (summed x) w u v, k0_pay1 (F := Ideal) (k0_pay11 (F := Ideal) (summed x) u),
      k0_pay2 (F := Ideal) (k0_pay12 (F := Ideal) (summed x) v)) = step (r := 512) (k := 256) (fun y => total (r := 256) (k := 512) x (y 2) (y 1)) w u v :=
  payloads (r := 512) (k := 256) _ w u v shapeCasts_S1x512x256_S512x256 shapeCasts_S512x256_S1x512x256 (summed x)
    fun y => slabs (r := 256) (k := 512) x slab_fits shapeCasts_S1x256x512_S256x512 (fun n => shapeCast S256x512 (slab x slab_fits n) shapeCasts_S1x256x512_S256x512)
      (fun _ => rfl) (ix2 (y 2) (y 1))

theorem outs_A (t : Fin cfg0.N) (h : t.val / 2 = 0) : outsAt0 m c t.val t.isLt =
    step (r := 512) (k := 256) (fun y => total (r := 256) (k := 512) (iblk m c 0 t) (y 2) (y 1)) (iblk m c 4 t) (iblk m c 5 t) (iblk m c 6 t) := by
  have ht : t.val < 8 := t.isLt
  rw [outsAt0_A m c t (by omega) (by omega) (by omega) (by omega), ← step_eq]
  refine Prod.ext ?_ (Prod.ext ?_ (Prod.ext ?_ ?_)) <;> frame_out <;> rfl

theorem outs_B (t : Fin cfg0.N) (h : t.val / 2 = 1) : outsAt0 m c t.val t.isLt =
    step (r := 512) (k := 256) (fun y => total (r := 256) (k := 512) (X0_1 m c t) (y 2) (y 1)) (iblk m c 4 t) (iblk m c 5 t) (iblk m c 6 t) := by
  have ht : t.val < 8 := t.isLt
  rw [outsAt0_B m c t (by omega) (by omega) (by omega) (by omega), ← step_eq]
  refine Prod.ext ?_ (Prod.ext ?_ (Prod.ext ?_ ?_)) <;> frame_out <;> rfl

theorem outs_C (t : Fin cfg0.N) (h : t.val / 2 = 2) : outsAt0 m c t.val t.isLt =
    step (r := 512) (k := 256) (fun y => total (r := 256) (k := 512) (X0_2 m c t) (y 2) (y 1)) (iblk m c 4 t) (iblk m c 5 t) (iblk m c 6 t) := by
  have ht : t.val < 8 := t.isLt
  rw [outsAt0_C m c t (by omega) (by omega) (by omega) (by omega), ← step_eq]
  refine Prod.ext ?_ (Prod.ext ?_ (Prod.ext ?_ ?_)) <;> frame_out <;> rfl

theorem outs_D (t : Fin cfg0.N) (h : t.val / 2 = 3) : outsAt0 m c t.val t.isLt =
    step (r := 512) (k := 256) (fun y => total (r := 256) (k := 512) (X0_3 m c t) (y 2) (y 1)) (iblk m c 4 t) (iblk m c 5 t) (iblk m c 6 t) := by
  have ht : t.val < 8 := t.isLt
  rw [outsAt0_D m c t (by omega) (by omega) (by omega) (by omega), ← step_eq]
  refine Prod.ext ?_ (Prod.ext ?_ (Prod.ext ?_ ?_)) <;> frame_out <;> rfl

/-- Where entry `y` of the block at a grid point lies in its array: the same place in the weight's and in the results'. -/
abbrev at_ (t : Fin cfg0.N) (y : S1x512x256.Idx) : S4x1024x256.Idx := ((cfg0.win 7).blk t).view.emb y

theorem out_index : ∀ t : Fin cfg0.N, win0_7.index t = ![t.val / 2, t.val % 2, 0] :=
  (by decide +kernel : ∀ t : Fin grid0.N, win0_7.index t = ![t.val / 2, t.val % 2, 0])
theorem slot_index0 : ∀ t : Fin cfg0.N, t.val / 2 = 0 → win0_0.index t = ![0, 0, t.val % 2] :=
  (by decide +kernel : ∀ t : Fin grid0.N, t.val / 2 = 0 → win0_0.index t = ![0, 0, t.val % 2])
theorem slot_index1 : ∀ t : Fin cfg0.N, t.val / 2 = 1 → win0_1.index t = ![0, 0, t.val % 2] :=
  (by decide +kernel : ∀ t : Fin grid0.N, t.val / 2 = 1 → win0_1.index t = ![0, 0, t.val % 2])
theorem slot_index2 : ∀ t : Fin cfg0.N, t.val / 2 = 2 → win0_2.index t = ![0, 0, t.val % 2] :=
  (by decide +kernel : ∀ t : Fin grid0.N, t.val / 2 = 2 → win0_2.index t = ![0, 0, t.val % 2])
theorem slot_index3 : ∀ t : Fin cfg0.N, t.val / 2 = 3 → win0_3.index t = ![0, 0, t.val % 2] :=
  (by decide +kernel : ∀ t : Fin grid0.N, t.val / 2 = 3 → win0_3.index t = ![0, 0, t.val % 2])

theorem at_layer (t : Fin cfg0.N) (y : S1x512x256.Idx) : (at_ t y 0).val = t.val / 2 := by
  show win0_7.index t 0 * 1 + 1 * (y 0).val = t.val / 2
  rw [out_index t]
  show t.val / 2 * 1 + 1 * (y 0).val = t.val / 2
  have h0 : (y 0).val < 1 := (y 0).2
  omega

theorem sum_0 (t : Fin cfg0.N) (h : t.val / 2 = 0) (y : S1x512x256.Idx) : total (r := 256) (k := 512) (iblk m c 0 t) (y 2) (y 1) = gt m c (at_ t y) := by
  refine total_congr (r := 256) (k := 512) (r' := 256) (k' := 1024) _ _ _ _ _ _ fun n => ?_
  rw [show at_ t y 0 = (0 : Fin 4) from Fin.ext ((at_layer t y).trans h)]
  show V m c main_arg0 (((cfg0.win 0).blk t).view.emb (ix3 n (y 2) (y 1) : S8x256x512.Idx)) = _
  rw [V_main_arg0]
  refine congrArg (m ((c : Thread nD τ).loc main_arg0) : S8x256x1024.Idx → EReal) (funext fun a => Fin.ext ?_)
  match a with
  | ⟨0, _⟩ => show win0_0.index t 0 * 8 + 1 * n.val = n.val; rw [slot_index0 t h]; show 0 * 8 + 1 * n.val = n.val; omega
  | ⟨1, _⟩ =>
    show win0_0.index t 1 * 256 + 1 * (y 2).val = 0 + (win0_7.index t 2 * 256 + 1 * (y 2).val); rw [slot_index0 t h, out_index t]
    show 0 * 256 + 1 * (y 2).val = 0 + (0 * 256 + 1 * (y 2).val); omega
  | ⟨2, _⟩ => show win0_0.index t 2 * 512 + 1 * (y 1).val = win0_7.index t 1 * 512 + 1 * (y 1).val; rw [slot_index0 t h, out_index t]; rfl

theorem sum_1 (t : Fin cfg0.N) (h : t.val / 2 = 1) (y : S1x512x256.Idx) : total (r := 256) (k := 512) (X0_1 m c t) (y 2) (y 1) = gt m c (at_ t y) := by
  refine total_congr (r := 256) (k := 512) (r' := 256) (k' := 1024) _ _ _ _ _ _ fun n => ?_
  rw [show at_ t y 0 = (1 : Fin 4) from Fin.ext ((at_layer t y).trans h)]
  show X0_1 m c t (ix3 n (y 2) (y 1) : S8x256x512.Idx) = _
  unfold X0_1 Pipeline.Window.fill
  rw [dif_pos (moved0_1 t _)]
  show V m c main_arg1 (((cfg0.win 1).blk t).view.emb _) = _
  rw [V_main_arg1]
  refine congrArg (m ((c : Thread nD τ).loc main_arg1) : S8x384x1024.Idx → EReal) (funext fun a => Fin.ext ?_)
  match a with
  | ⟨0, _⟩ => show win0_1.index t 0 * 8 + 1 * n.val = n.val; rw [slot_index1 t h]; show 0 * 8 + 1 * n.val = n.val; omega
  | ⟨1, _⟩ =>
    show win0_1.index t 1 * 256 + 1 * (y 2).val = 0 + (win0_7.index t 2 * 256 + 1 * (y 2).val); rw [slot_index1 t h, out_index t]
    show 0 * 256 + 1 * (y 2).val = 0 + (0 * 256 + 1 * (y 2).val); omega
  | ⟨2, _⟩ => show win0_1.index t 2 * 512 + 1 * (y 1).val = win0_7.index t 1 * 512 + 1 * (y 1).val; rw [slot_index1 t h, out_index t]; rfl

theorem sum_2 (t : Fin cfg0.N) (h : t.val / 2 = 2) (y : S1x512x256.Idx) : total (r := 256) (k := 512) (X0_2 m c t) (y 2) (y 1) = gt m c (at_ t y) := by
  refine total_congr (r := 256) (k := 512) (r' := 256) (k' := 1024) _ _ _ _ _ _ fun n => ?_
  rw [show at_ t y 0 = (2 : Fin 4) from Fin.ext ((at_layer t y).trans h)]
  show X0_2 m c t (ix3 n (y 2) (y 1) : S8x256x512.Idx) = _
  unfold X0_2 Pipeline.Window.fill
  rw [dif_pos (moved0_2 t _)]
  show V m c main_arg2 (((cfg0.win 2).blk t).view.emb _) = _
  rw [V_main_arg2]
  refine congrArg (m ((c : Thread nD τ).loc main_arg2) : S8x384x1024.Idx → EReal) (funext fun a => Fin.ext ?_)
  match a with
  | ⟨0, _⟩ => show win0_2.index t 0 * 8 + 1 * n.val = n.val; rw [slot_index2 t h]; show 0 * 8 + 1 * n.val = n.val; omega
  | ⟨1, _⟩ =>
    show win0_2.index t 1 * 256 + 1 * (y 2).val = 0 + (win0_7.index t 2 * 256 + 1 * (y 2).val); rw [slot_index2 t h, out_index t]
    show 0 * 256 + 1 * (y 2).val = 0 + (0 * 256 + 1 * (y 2).val); omega
  | ⟨2, _⟩ => show win0_2.index t 2 * 512 + 1 * (y 1).val = win0_7.index t 1 * 512 + 1 * (y 1).val; rw [slot_index2 t h, out_index t]; rfl

theorem sum_3 (t : Fin cfg0.N) (h : t.val / 2 = 3) (y : S1x512x256.Idx) : total (r := 256) (k := 512) (X0_3 m c t) (y 2) (y 1) = gt m c (at_ t y) := by
  refine total_congr (r := 256) (k := 512) (r' := 256) (k' := 1024) _ _ _ _ _ _ fun n => ?_
  rw [show at_ t y 0 = (3 : Fin 4) from Fin.ext ((at_layer t y).trans h)]
  show X0_3 m c t (ix3 n (y 2) (y 1) : S8x256x512.Idx) = _
  unfold X0_3 Pipeline.Window.fill
  rw [dif_pos (moved0_3 t _)]
  show V m c main_arg3 (((cfg0.win 3).blk t).view.emb _) = _
  rw [V_main_arg3]
  refine congrArg (m ((c : Thread nD τ).loc main_arg3) : S8x384x1024.Idx → EReal) (funext fun a => Fin.ext ?_)
  match a with
  | ⟨0, _⟩ => show win0_3.index t 0 * 8 + 1 * n.val = n.val; rw [slot_index3 t h]; show 0 * 8 + 1 * n.val = n.val; omega
  | ⟨1, _⟩ =>
    show win0_3.index t 1 * 256 + 1 * (y 2).val = 0 + (win0_7.index t 2 * 256 + 1 * (y 2).val); rw [slot_index3 t h, out_index t]
    show 0 * 256 + 1 * (y 2).val = 0 + (0 * 256 + 1 * (y 2).val); omega
  | ⟨2, _⟩ => show win0_3.index t 2 * 512 + 1 * (y 1).val = win0_7.index t 1 * 512 + 1 * (y 1).val; rw [slot_index3 t h, out_index t]; rfl

theorem blk_wt (t : Fin cfg0.N) (y : S1x512x256.Idx) : iblk m c 4 t y = wt m c (at_ t y) := congrFun (V_main_arg4 m c) _
theorem blk_mt (t : Fin cfg0.N) (y : S1x512x256.Idx) : iblk m c 5 t y = mt m c (at_ t y) := congrFun (V_main_arg5 m c) _
theorem blk_vt (t : Fin cfg0.N) (y : S1x512x256.Idx) : iblk m c 6 t y = vt m c (at_ t y) := congrFun (V_main_arg6 m c) _

/-- What a grid point leaves, in terms of the whole arrays. -/
theorem block (t : Fin cfg0.N) : outsAt0 m c t.val t.isLt = (fun y : S1x512x256.Idx => gt m c (at_ t y),
    fun y : S1x512x256.Idx => change (wt m c (at_ t y)) (gt m c (at_ t y)) (mt m c (at_ t y)) (vt m c (at_ t y)),
    fun y : S1x512x256.Idx => mean (gt m c (at_ t y)) (mt m c (at_ t y)), fun y : S1x512x256.Idx => square (gt m c (at_ t y)) (vt m c (at_ t y))) := by
  have ht : t.val < 8 := t.isLt
  have key : ∃ g : S1x512x256.Idx → EReal, outsAt0 m c t.val t.isLt = step (r := 512) (k := 256) g (iblk m c 4 t) (iblk m c 5 t) (iblk m c 6 t) ∧
      ∀ y : S1x512x256.Idx, g y = gt m c (at_ t y) := by
    rcases (by omega : t.val / 2 = 0 ∨ t.val / 2 = 1 ∨ t.val / 2 = 2 ∨ t.val / 2 = 3) with h | h | h | h
    · exact ⟨_, outs_A m c t h, sum_0 m c t h⟩
    · exact ⟨_, outs_B m c t h, sum_1 m c t h⟩
    · exact ⟨_, outs_C m c t h, sum_2 m c t h⟩
    · exact ⟨_, outs_D m c t h, sum_3 m c t h⟩
  obtain ⟨g, e, hg⟩ := key
  exact e.trans (step_at (r := 512) (k := 256) g _ _ _ (at_ t) (gt m c) (wt m c) (mt m c) (vt m c) hg (blk_wt m c t) (blk_mt m c t) (blk_vt m c t))

theorem final7 : (dats m 0 c).arrAt 7 cfg0.N = fun y : S4x1024x256.Idx => gt m c y := by
  refine (dats m 0 c).arrAt_eq_of_covers 7 _ (by decide +kernel) fun t _ (y : S1x512x256.Idx) => ?_
  show (dats m 0 c).after 7 t y = _
  rw [after0_7, block]

theorem final8 : (dats m 0 c).arrAt 8 cfg0.N = fun y : S4x1024x256.Idx => change (wt m c y) (gt m c y) (mt m c y) (vt m c y) := by
  refine (dats m 0 c).arrAt_eq_of_covers 8 _ (by decide +kernel) fun t _ (y : S1x512x256.Idx) => ?_
  show (dats m 0 c).after 8 t y = _
  rw [after0_8, block]
  rfl

theorem final9 : (dats m 0 c).arrAt 9 cfg0.N = fun y : S4x1024x256.Idx => mean (gt m c y) (mt m c y) := by
  refine (dats m 0 c).arrAt_eq_of_covers 9 _ (by decide +kernel) fun t _ (y : S1x512x256.Idx) => ?_
  show (dats m 0 c).after 9 t y = _
  rw [after0_9, block]
  rfl

theorem final10 : (dats m 0 c).arrAt 10 cfg0.N = fun y : S4x1024x256.Idx => square (gt m c y) (vt m c y) := by
  refine (dats m 0 c).arrAt_eq_of_covers 10 _ (by decide +kernel) fun t _ (y : S1x512x256.Idx) => ?_
  show (dats m 0 c).after 10 t y = _
  rw [after0_10, block]
  rfl

open Cert.ReduceInReferenceIdeal.Read in
/-- The reference's gradient: its four stacked sums. -/
theorem stage_sums (a0 : S8x256x1024.Idx → EReal) (a1 a2 a3 : S8x384x1024.Idx → EReal) : val_main_v19 (F := Ideal) a0 a1 a2 a3 = sums a0 a1 a2 a3 := by
  refine funext fun y => (stack (r := 1024) (k := 256) ![val_main_v15 (F := Ideal) a0, val_main_v16 (F := Ideal) a1, val_main_v17 (F := Ideal) a2, val_main_v18 (F := Ideal) a3] _ y).trans ?_
  show _ = ∑ n : Fin 8, layers (r := 256) (k := 1024) 0 0 (by decide) (by decide) a0 a1 a2 a3 (y 0) (ix3 n (y 2) (y 1))
  generalize y 0 = l
  fin_cases l
  · exact host_turned (r := 256) (k := 1024) _ _ (rows_all (r := 256) (k := 1024) (by decide) a0) _ (fun _ => Ideal.ofBits_zero_f32) _ (by decide) (by decide) (by decide) (by decide) (by decide) (by decide) (y 1) (y 2)
  · exact host_turned (r := 256) (k := 1024) _ _ (rows_slice (r := 256) (k := 1024) 0 (by decide) a1 Cert.ReduceInReferenceIdeal.Gen.slices_S8x384x1024_S8x256x1024_0_0_0) _ (fun _ => Ideal.ofBits_zero_f32) _ (by decide) (by decide) (by decide) (by decide) (by decide) (by decide) (y 1) (y 2)
  · exact host_turned (r := 256) (k := 1024) _ _ (rows_slice (r := 256) (k := 1024) 0 (by decide) a2 Cert.ReduceInReferenceIdeal.Gen.slices_S8x384x1024_S8x256x1024_0_0_0) _ (fun _ => Ideal.ofBits_zero_f32) _ (by decide) (by decide) (by decide) (by decide) (by decide) (by decide) (y 1) (y 2)
  · exact host_turned (r := 256) (k := 1024) _ _ (rows_slice (r := 256) (k := 1024) 0 (by decide) a3 Cert.ReduceInReferenceIdeal.Gen.slices_S8x384x1024_S8x256x1024_0_0_0) _ (fun _ => Ideal.ofBits_zero_f32) _ (by decide) (by decide) (by decide) (by decide) (by decide) (by decide) (y 1) (y 2)

/-- The reference's program declares no semaphore, so its run is its frame. -/
theorem frame_ref : Cert.quiescent_ReduceInReferenceIdeal := fun m ρ _ =>
  (θ_run Cert.ReduceInReferenceIdeal.defs _ _).mono (fun r h => ⟨fun c => (h c).2.2.2.2, sem_eq_zero_of_no_sems (by decide) r.2⟩)
    (Cert.ReduceInReferenceIdeal.Value.run m ρ)

/-- Both programs end with the gradient, the change of the weight and the two running means. -/
theorem algebraic : Cert.algebraic_ReduceInIdeal_ReduceInReferenceIdeal := by
  intro m g m' g' _ hargs
  refine ⟨_, _, _, _, Value.run_blocks m g, ?_⟩
  refine (θ_run Cert.ReduceInReferenceIdeal.defs _ _).mono (fun r h c => ?_) (Cert.ReduceInReferenceIdeal.Value.run m' g')
  obtain ⟨q0, q1, q2, q3, qa⟩ := h c
  obtain ⟨a0, a1, a2, a3, a4, a5, a6⟩ := hargs c
  have sg := stage_sums (m ((c : Thread nD τ).loc main_arg0)) (m ((c : Thread nD τ).loc main_arg1)) (m ((c : Thread nD τ).loc main_arg2)) (m ((c : Thread nD τ).loc main_arg3))
  refine ⟨?_, ?_, ?_, ?_, qa⟩
  · refine q0.trans (Eq.trans ?_ (final7 m c).symm); rw [a0, a1, a2, a3]; exact sg
  · refine (q1.trans (Cert.ReduceInReferenceIdeal.Read.val_main_v43_eq m' c)).trans (Eq.trans ?_ (final8 m c).symm)
    rw [a0, a1, a2, a3, a4, a5, a6]
    exact funext fun y => congrArg (fun s : S4x1024x256.Idx → EReal => change (wt m c y) (s y) (mt m c y) (vt m c y)) sg
  · refine q2.trans (Eq.trans ?_ (final9 m c).symm)
    rw [a0, a1, a2, a3, a5]
    exact funext fun y => congrArg (fun s : S4x1024x256.Idx → EReal => mean (s y) (mt m c y)) sg
  · refine q3.trans (Eq.trans ?_ (final10 m c).symm)
    rw [a0, a1, a2, a3, a6]
    exact funext fun y => congrArg (fun s : S4x1024x256.Idx → EReal => square (s y) (vt m c y)) sg

end Cert.Proof.ReduceIn
-- ==== Proof.GradMath.lean ====
/- A weight's gradient of any width as one sum over all rows, and the gradient set with that weight's rows replaced. -/
module

public import proofs.«01_k».proof.Proof.WgradMath

@[expose] public section

noncomputable section

namespace GradMath

open Idealize.ShloMosaic

/-- The gradient of a weight with `M` rows: entry (`f`, `k`) sums, over all rows of the arrays, the left's column `f` times the right's column `k`. -/
def gram {M : ℕ} (a : (⟨2, ![8192, M]⟩ : Shape).Idx → EReal) (h : (⟨2, ![8192, 1024]⟩ : Shape).Idx → EReal)
    (f : Fin M) (k : Fin 1024) : EReal := ∑ r : Fin 8192, a (ix2 r f) * h (ix2 r k)

/-- The gradient set, `S` rows in each of its eight slots, with the `b`-th run of `R` rows of every slot replaced by `w`:
row `j` of that run in slot `n` is row `R n + j` of `w`. -/
def placed {S : ℕ} (R b : ℕ) (hR : 0 < R) (w : Fin (8 * R) → Fin 1024 → EReal) (s : (⟨3, ![8, S, 1024]⟩ : Shape).Idx → EReal) :
    (⟨3, ![8, S, 1024]⟩ : Shape).Idx → EReal :=
  fun i => if (i 1).val / R = b then
      w ⟨(i 0).val * R + (i 1).val % R, by
        have h0 : (i 0).val + 1 ≤ 8 := (i 0).2
        have h1 := Nat.mod_lt (i 1).val hR
        have h2 := Nat.mul_le_mul_right R h0
        rw [Nat.succ_mul] at h2
        omega⟩ (i 2)
    else s i

end GradMath

end
-- ==== Proof.GradFirst13Kernel.lean ====
/- A feed-forward weight's gradient in an array of its own: the blocks' partial products added over the grid. -/
module

public import proofs.«01_k».proof.Proof.GradMath
public import proofs.«01_k».proof.Proof.Gen.GradFirst13Ideal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradFirst13Ideal.Rows

open Cert.GradFirst13Ideal Cert.GradFirst13Ideal.Gen Idealize.ShloMosaic Idealize.ShloMosaic.TcCoe Idealize.SL.Sem GradMath

theorem zero_apply (j : S2816x1024.Idx) : k0_pay1 (F := Ideal) j = 0 := by
  idx_vars j
  pointwise [k0_pay1]

theorem step_apply (v : S2816x1024.Idx → EReal) (a : S1024x2816.Idx → EReal) (h : S1024x1024.Idx → EReal) (j : S2816x1024.Idx) :
    k0_pay2 (F := Ideal) v a h j = v j + ∑ k : Fin 1024, a (ix2 k (j 0)) * h (ix2 k (j 1)) := by
  idx_vars j
  pointwise [k0_pay2]

theorem last_apply (v : S2816x1024.Idx → EReal) (j : S8x352x1024.Idx) :
    k0_pay3 (F := Ideal) v j = v (ix2 ⟨(j 0).val * 352 + (j 1).val, by have h0 : (j 0).val < 8 := (j 0).2; have h1 : (j 1).val < 352 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2816.Idx → EReal := m ((c : Thread nD τ).loc main_arg0)
abbrev right : S8192x1024.Idx → EReal := m ((c : Thread nD τ).loc main_arg1)

theorem blk0 (t : Fin cfg0.N) (k : Fin 1024) (f : Fin 2816) : iblk m c 0 t (ix2 k f : S1024x2816.Idx) = left m c (ix2 (rowAt t k) f) := by
  have e : ((cfg0.win 0).blk t).view.emb (ix2 k f : S1024x2816.Idx) = (ix2 (rowAt t k) f : S8192x2816.Idx) := by
    funext a
    apply Fin.ext
    match a with
    | ⟨0, _⟩ => show win0_0.index t 0 * 1024 + 1 * k.val = t.val * 1024 + k.val; rw [at0 t]; simp
    | ⟨1, _⟩ => show win0_0.index t 1 * 2816 + 1 * f.val = f.val; rw [at0 t]; simp
  show V m c main_arg0 (((cfg0.win 0).blk t).view.emb (ix2 k f : S1024x2816.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2816x1024.Idx) : EReal :=
  ∑ k : Fin 1024, left m c (ix2 (rowAt t k) (j 0)) * right m c (ix2 (rowAt t k) (j 1))

theorem step_term (v : S2816x1024.Idx → EReal) (t : Fin cfg0.N) (j : S2816x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2816x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x352x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the whole array is the gradient. -/
theorem final : (dats m 0 c).arrAt 2 cfg0.N = placed 352 0 (by norm_num) (gram (left m c) (right m c))
    (m ((c : Thread nD τ).loc main_arg2)) := by
  refine (dats m 0 c).arrAt_eq_of_coversWhere_of_agree 2 _ (fun β => β (1 : Fin 3) = 0) (by decide +kernel) (fun t hf (y : S8x352x1024.Idx) => ?_) (fun (j : S8x352x1024.Idx) hj => ?_)
  · have h7 : t.val % 8 = 7 := (Cert.GradFirst13Ideal.Gen.flush0_2 t).mp hf
    have hN : t.val < 8 := lt_of_lt_of_eq t.isLt N_0
    have hy : (y 1).val < 352 := (y 1).2
    have e0 : (((cfg0.win 2).blk t).view.emb y : S8x352x1024.Idx) = (ix3 (y 0) ⟨0 + (y 1).val, by omega⟩ (y 2) : S8x352x1024.Idx) := by
      funext a
      apply Fin.ext
      match a with
      | ⟨0, _⟩ => show win0_2.index t 0 * 8 + 1 * (y 0).val = (y 0).val; rw [at2 t]; simp
      | ⟨1, _⟩ => show win0_2.index t 1 * 352 + 1 * (y 1).val = 0 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (0 + (y 1).val) / 352 = 0 := by omega
    show _ = if (0 + (y 1).val) / 352 = 0 then _ else _
    rw [if_pos hc]
    refine congrArg (fun f => gram (left m c) (right m c) f (y 2)) (Fin.ext ?_)
    show (y 0).val * 352 + (y 1).val = (y 0).val * 352 + (0 + (y 1).val) % 352
    omega
  · have hc : ¬(j 1).val / 352 = 0 := hj
    show V m c main_v0 j = if (j 1).val / 352 = 0 then _ else _
    rw [if_neg hc]
    show StableHlo.after hostOps0 _ (Proc.devRef .tc main_v0) j = _
    after_results
    rfl

end Cert.GradFirst13Ideal.Rows

end
-- ==== Proof.GradFirst13Ref.lean ====
/- The reference of a feed-forward weight's gradient in an array of its own, and the claims about the call. -/
module

public import proofs.«01_k».proof.Defs
public import proofs.«01_k».proof.Proof.GradFirst13Kernel
public import proofs.«01_k».proof.Proof.Gen.GradFirst13ReferenceIdeal.Read
public import Idealize.ShloMosaic.Lib.Quiescent

@[expose] public section

set_option maxRecDepth 16384

noncomputable section

namespace Cert.Proof.GradFirst13

open Cert.GradFirst13ReferenceIdeal.Read Idealize.ShloMosaic Idealize.ShloMosaic.TcCoe Idealize.SL.Sem GradMath

/-- One entry of the reference's gradient, before it is laid into the set. -/
theorem entry (a : (⟨2, ![8192, 2816]⟩ : Shape).Idx → EReal) (h : (⟨2, ![8192, 1024]⟩ : Shape).Idx → EReal) (f : Fin 2816) (k : Fin 1024) :
    val_main_v6 (F := Ideal) a h (ix2 f k) = gram a h f k := by
  pointwise [val_main_v6, val_main_v5, val_main_v4, val_main_v3, val_main_v1]
  rfl

theorem whole (a : (⟨2, ![8192, 2816]⟩ : Shape).Idx → EReal) (h : (⟨2, ![8192, 1024]⟩ : Shape).Idx → EReal)
    (s : (⟨3, ![8, 352, 1024]⟩ : Shape).Idx → EReal) :
    val_main_v8 (F := Ideal) a h = placed 352 0 (by norm_num) (gram a h) s := by
  funext j
  have h0 : (j 0).val < 8 := (j 0).2
  have h1 : (j 1).val < 352 := (j 1).2
  idx_vars j
  pointwise [val_main_v8, val_main_v7]
  show _ = if j1.val / 352 = 0 then gram a h ⟨j0.val * 352 + j1.val % 352, _⟩ j2 else s (ix3 j0 j1 j2)
  refine Eq.trans ?_ (if_pos (by omega)).symm
  exact (entry a h _ j2).trans (congrArg (fun f => gram a h f j2)
    (Fin.ext (by show j0.val * 352 + j1.val = j0.val * 352 + j1.val % 352; omega)))

/-- The reference's program declares no semaphore, so its run is its frame. -/
theorem frame_ref : Cert.quiescent_GradFirst13ReferenceIdeal := fun m ρ _ =>
  (θ_run Cert.GradFirst13ReferenceIdeal.defs _ _).mono (fun r h => ⟨fun c => (h c).2, sem_eq_zero_of_no_sems (by decide) r.2⟩)
    (Cert.GradFirst13ReferenceIdeal.Value.run m ρ)

/-- Both programs end with the same array: the whole array is the gradient. -/
theorem algebraic : Cert.algebraic_GradFirst13Ideal_GradFirst13ReferenceIdeal := by
  intro m g m' g' _ hargs
  refine ⟨fun c => (Cert.GradFirst13Ideal.Gen.dats m 0 c).arrAt 2 Cert.GradFirst13Ideal.cfg0.N, Cert.GradFirst13Ideal.Value.run_blocks m g, ?_⟩
  refine (θ_run Cert.GradFirst13ReferenceIdeal.defs _ _).mono (fun r h c => ?_) (Cert.GradFirst13ReferenceIdeal.Value.run m' g')
  obtain ⟨q, qa⟩ := h c
  obtain ⟨a0, a1, _⟩ := hargs c
  refine ⟨?_, qa⟩
  refine (q.trans (val_main_v8_eq (F := Ideal) _ _)).trans (Eq.trans ?_ (Cert.GradFirst13Ideal.Rows.final m c).symm)
  rw [a0, a1]
  exact whole _ _ _

end Cert.Proof.GradFirst13

end
-- ==== Proof.GradFirst2Kernel.lean ====
/- The second feed-forward weight's gradient in an array of its own: the blocks' partial products added over the grid. -/
module

public import proofs.«01_k».proof.Proof.GradMath
public import proofs.«01_k».proof.Proof.Gen.GradFirst2Ideal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradFirst2Ideal.Rows

open Cert.GradFirst2Ideal Cert.GradFirst2Ideal.Gen Idealize.ShloMosaic Idealize.ShloMosaic.TcCoe Idealize.SL.Sem GradMath

theorem zero_apply (j : S2816x1024.Idx) : k0_pay1 (F := Ideal) j = 0 := by
  idx_vars j
  pointwise [k0_pay1]

theorem step_apply (v : S2816x1024.Idx → EReal) (a : S1024x2816.Idx → EReal) (h : S1024x1024.Idx → EReal) (j : S2816x1024.Idx) :
    k0_pay2 (F := Ideal) v a h j = v j + ∑ k : Fin 1024, a (ix2 k (j 0)) * h (ix2 k (j 1)) := by
  idx_vars j
  pointwise [k0_pay2]

theorem last_apply (v : S2816x1024.Idx → EReal) (j : S8x352x1024.Idx) :
    k0_pay3 (F := Ideal) v j = Ideal.ofBits .f32 0x3F000000#32
      * v (ix2 ⟨(j 0).val * 352 + (j 1).val, by have h0 : (j 0).val < 8 := (j 0).2; have h1 : (j 1).val < 352 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2816.Idx → EReal := m ((c : Thread nD τ).loc main_arg0)
abbrev right : S8192x1024.Idx → EReal := m ((c : Thread nD τ).loc main_arg1)

theorem blk0 (t : Fin cfg0.N) (k : Fin 1024) (f : Fin 2816) : iblk m c 0 t (ix2 k f : S1024x2816.Idx) = left m c (ix2 (rowAt t k) f) := by
  have e : ((cfg0.win 0).blk t).view.emb (ix2 k f : S1024x2816.Idx) = (ix2 (rowAt t k) f : S8192x2816.Idx) := by
    funext a
    apply Fin.ext
    match a with
    | ⟨0, _⟩ => show win0_0.index t 0 * 1024 + 1 * k.val = t.val * 1024 + k.val; rw [at0 t]; simp
    | ⟨1, _⟩ => show win0_0.index t 1 * 2816 + 1 * f.val = f.val; rw [at0 t]; simp
  show V m c main_arg0 (((cfg0.win 0).blk t).view.emb (ix2 k f : S1024x2816.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2816x1024.Idx) : EReal :=
  ∑ k : Fin 1024, left m c (ix2 (rowAt t k) (j 0)) * right m c (ix2 (rowAt t k) (j 1))

theorem step_term (v : S2816x1024.Idx → EReal) (t : Fin cfg0.N) (j : S2816x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2816x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x352x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the whole array is half the gradient. -/
theorem final : (dats m 0 c).arrAt 2 cfg0.N = placed 352 0 (by norm_num) (fun f k => Ideal.ofBits .f32 0x3F000000#32 * gram (left m c) (right m c) f k)
    (m ((c : Thread nD τ).loc main_arg2)) := by
  refine (dats m 0 c).arrAt_eq_of_coversWhere_of_agree 2 _ (fun β => β (1 : Fin 3) = 0) (by decide +kernel) (fun t hf (y : S8x352x1024.Idx) => ?_) (fun (j : S8x352x1024.Idx) hj => ?_)
  · have h7 : t.val % 8 = 7 := (Cert.GradFirst2Ideal.Gen.flush0_2 t).mp hf
    have hN : t.val < 8 := lt_of_lt_of_eq t.isLt N_0
    have hy : (y 1).val < 352 := (y 1).2
    have e0 : (((cfg0.win 2).blk t).view.emb y : S8x352x1024.Idx) = (ix3 (y 0) ⟨0 + (y 1).val, by omega⟩ (y 2) : S8x352x1024.Idx) := by
      funext a
      apply Fin.ext
      match a with
      | ⟨0, _⟩ => show win0_2.index t 0 * 8 + 1 * (y 0).val = (y 0).val; rw [at2 t]; simp
      | ⟨1, _⟩ => show win0_2.index t 1 * 352 + 1 * (y 1).val = 0 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (0 + (y 1).val) / 352 = 0 := by omega
    show _ = if (0 + (y 1).val) / 352 = 0 then _ else _
    rw [if_pos hc]
    congr 2
    apply Fin.ext
    show (y 0).val * 352 + (y 1).val = (y 0).val * 352 + (0 + (y 1).val) % 352
    omega
  · have hc : ¬(j 1).val / 352 = 0 := hj
    show V m c main_v0 j = if (j 1).val / 352 = 0 then _ else _
    rw [if_neg hc]
    show StableHlo.after hostOps0 _ (Proc.devRef .tc main_v0) j = _
    after_results
    rfl

end Cert.GradFirst2Ideal.Rows

end
-- ==== Proof.GradFirst2Ref.lean ====
/- The reference of the second feed-forward weight's gradient in an array of its own, and the claims about the call. -/
module

public import proofs.«01_k».proof.Defs
public import proofs.«01_k».proof.Proof.GradFirst2Kernel
public import proofs.«01_k».proof.Proof.Gen.GradFirst2ReferenceIdeal.Read
public import Idealize.ShloMosaic.Lib.Quiescent

@[expose] public section

set_option maxRecDepth 16384

noncomputable section

namespace Cert.Proof.GradFirst2

open Cert.GradFirst2ReferenceIdeal.Read Idealize.ShloMosaic Idealize.ShloMosaic.TcCoe Idealize.SL.Sem GradMath
open WgradMath (half_sum)

/-- One entry of the reference's gradient, before it is laid into the set. -/
theorem entry (a : (⟨2, ![8192, 2816]⟩ : Shape).Idx → EReal) (h : (⟨2, ![8192, 1024]⟩ : Shape).Idx → EReal) (f : Fin 2816) (k : Fin 1024) :
    val_main_v8 (F := Ideal) a h (ix2 f k) = Ideal.ofBits .f32 0x3F000000#32 * gram a h f k := by
  pointwise [val_main_v8, val_main_v7, val_main_v6, val_main_v5, val_main_cst_1, val_main_v1]
  unfold gram
  rw [half_sum]
  exact Finset.sum_congr rfl fun r _ => by rw [mul_assoc, mul_comm (h _)]

theorem whole (a : (⟨2, ![8192, 2816]⟩ : Shape).Idx → EReal) (h : (⟨2, ![8192, 1024]⟩ : Shape).Idx → EReal)
    (s : (⟨3, ![8, 352, 1024]⟩ : Shape).Idx → EReal) :
    val_main_v10 (F := Ideal) a h = placed 352 0 (by norm_num) (fun f k => Ideal.ofBits .f32 0x3F000000#32 * gram a h f k) s := by
  funext j
  have h0 : (j 0).val < 8 := (j 0).2
  have h1 : (j 1).val < 352 := (j 1).2
  idx_vars j
  pointwise [val_main_v10, val_main_v9]
  show _ = if j1.val / 352 = 0 then Ideal.ofBits .f32 0x3F000000#32 * gram a h ⟨j0.val * 352 + j1.val % 352, _⟩ j2 else s (ix3 j0 j1 j2)
  refine Eq.trans ?_ (if_pos (by omega)).symm
  exact (entry a h _ j2).trans (congrArg (fun f => Ideal.ofBits .f32 0x3F000000#32 * gram a h f j2)
    (Fin.ext (by show j0.val * 352 + j1.val = j0.val * 352 + j1.val % 352; omega)))

/-- The reference's program declares no semaphore, so its run is its frame. -/
theorem frame_ref : Cert.quiescent_GradFirst2ReferenceIdeal := fun m ρ _ =>
  (θ_run Cert.GradFirst2ReferenceIdeal.defs _ _).mono (fun r h => ⟨fun c => (h c).2, sem_eq_zero_of_no_sems (by decide) r.2⟩)
    (Cert.GradFirst2ReferenceIdeal.Value.run m ρ)

/-- Both programs end with the same array: the whole array is half the gradient. -/
theorem algebraic : Cert.algebraic_GradFirst2Ideal_GradFirst2ReferenceIdeal := by
  intro m g m' g' _ hargs
  refine ⟨fun c => (Cert.GradFirst2Ideal.Gen.dats m 0 c).arrAt 2 Cert.GradFirst2Ideal.cfg0.N, Cert.GradFirst2Ideal.Value.run_blocks m g, ?_⟩
  refine (θ_run Cert.GradFirst2ReferenceIdeal.defs _ _).mono (fun r h c => ?_) (Cert.GradFirst2ReferenceIdeal.Value.run m' g')
  obtain ⟨q, qa⟩ := h c
  obtain ⟨a0, a1, _⟩ := hargs c
  refine ⟨?_, qa⟩
  refine (q.trans (val_main_v10_eq (F := Ideal) _ _)).trans (Eq.trans ?_ (Cert.GradFirst2Ideal.Rows.final m c).symm)
  rw [a0, a1]
  exact whole _ _ _

end Cert.Proof.GradFirst2

end
-- ==== Proof.GradMixInKernel.lean ====
/- The mixing block's input weight's gradient: the blocks' partial products added over the grid. -/
module

public import proofs.«01_k».proof.Proof.GradMath
public import proofs.«01_k».proof.Proof.Gen.GradMixInIdeal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradMixInIdeal.Rows

open Cert.GradMixInIdeal Cert.GradMixInIdeal.Gen Idealize.ShloMosaic Idealize.ShloMosaic.TcCoe Idealize.SL.Sem GradMath

theorem zero_apply (j : S2048x1024.Idx) : k0_pay1 (F := Ideal) j = 0 := by
  idx_vars j
  pointwise [k0_pay1]

theorem step_apply (v : S2048x1024.Idx → EReal) (a : S1024x2048.Idx → EReal) (h : S1024x1024.Idx → EReal) (j : S2048x1024.Idx) :
    k0_pay2 (F := Ideal) v a h j = v j + ∑ k : Fin 1024, a (ix2 k (j 0)) * h (ix2 k (j 1)) := by
  idx_vars j
  pointwise [k0_pay2]

theorem last_apply (v : S2048x1024.Idx → EReal) (j : S8x256x1024.Idx) :
    k0_pay3 (F := Ideal) v j = v (ix2 ⟨(j 0).val * 256 + (j 1).val, by have h0 : (j 0).val < 8 := (j 0).2; have h1 : (j 1).val < 256 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2048.Idx → EReal := m ((c : Thread nD τ).loc main_arg0)
abbrev right : S8192x1024.Idx → EReal := m ((c : Thread nD τ).loc main_arg1)

theorem blk0 (t : Fin cfg0.N) (k : Fin 1024) (f : Fin 2048) : iblk m c 0 t (ix2 k f : S1024x2048.Idx) = left m c (ix2 (rowAt t k) f) := by
  have e : ((cfg0.win 0).blk t).view.emb (ix2 k f : S1024x2048.Idx) = (ix2 (rowAt t k) f : S8192x2048.Idx) := by
    funext a
    apply Fin.ext
    match a with
    | ⟨0, _⟩ => show win0_0.index t 0 * 1024 + 1 * k.val = t.val * 1024 + k.val; rw [at0 t]; simp
    | ⟨1, _⟩ => show win0_0.index t 1 * 2048 + 1 * f.val = f.val; rw [at0 t]; simp
  show V m c main_arg0 (((cfg0.win 0).blk t).view.emb (ix2 k f : S1024x2048.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2048x1024.Idx) : EReal :=
  ∑ k : Fin 1024, left m c (ix2 (rowAt t k) (j 0)) * right m c (ix2 (rowAt t k) (j 1))

theorem step_term (v : S2048x1024.Idx → EReal) (t : Fin cfg0.N) (j : S2048x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2048x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x256x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: every slot's first two thirds are the gradient, the rest is as it was. -/
theorem final : (dats m 0 c).arrAt 2 cfg0.N = placed 256 0 (by norm_num) (gram (left m c) (right m c))
    (m ((c : Thread nD τ).loc main_arg2)) := by
  refine (dats m 0 c).arrAt_eq_of_coversWhere_of_agree 2 _ (fun β => β (1 : Fin 3) = 0) (by decide +kernel) (fun t hf y => ?_) (fun (j : S8x384x1024.Idx) hj => ?_)
  · let z : S8x256x1024.Idx := (cfg0.win 2).xinj (cfg0.grid.coords t) y
    have h7 : t.val % 8 = 7 := (Cert.GradMixInIdeal.Gen.flush0_2 t).mp hf
    have hN : t.val < 8 := lt_of_lt_of_eq t.isLt N_0
    have hy : (z 1).val < 256 := (z 1).2
    have e0 : (((cfg0.win 2).blk t).view.emb y : S8x384x1024.Idx) = (ix3 (z 0) ⟨0 + (z 1).val, by omega⟩ (z 2) : S8x384x1024.Idx) := by
      funext a
      apply Fin.ext
      match a with
      | ⟨0, _⟩ => show win0_2.index t 0 * 8 + 1 * (z 0).val = (z 0).val; rw [at2 t]; simp
      | ⟨1, _⟩ => show win0_2.index t 1 * 256 + 1 * (z 1).val = 0 + (z 1).val; rw [at2 t]; simp
      | ⟨2, _⟩ => show win0_2.index t 2 * 1024 + 1 * (z 2).val = (z 2).val; rw [at2 t]; simp
    rw [e0]
    show (dats m 0 c).after 2 t z = _
    rw [after0_2, out m c t h7, last_apply, acc m c t ((show t.val + 1 = 8 by omega).trans N_0.symm)]
    have hc : (0 + (z 1).val) / 256 = 0 := by omega
    show _ = if (0 + (z 1).val) / 256 = 0 then _ else _
    rw [if_pos hc]
    refine congrArg (fun f => gram (left m c) (right m c) f (z 2)) (Fin.ext ?_)
    show (z 0).val * 256 + (z 1).val = (z 0).val * 256 + (0 + (z 1).val) % 256
    omega
  · have hc : ¬(j 1).val / 256 = 0 := hj
    show V m c main_v0 j = if (j 1).val / 256 = 0 then _ else _
    rw [if_neg hc]
    show StableHlo.after hostOps0 _ (Proc.devRef .tc main_v0) j = _
    after_results
    rfl

end Cert.GradMixInIdeal.Rows

end
-- ==== Proof.GradMixInRef.lean ====
/- The reference of the mixing block's input weight's gradient, and the claims about the call. -/
module

public import proofs.«01_k».proof.Defs
public import proofs.«01_k».proof.Proof.GradMixInKernel
public import proofs.«01_k».proof.Proof.Gen.GradMixInReferenceIdeal.Read
public import Idealize.ShloMosaic.Lib.Quiescent

@[expose] public section

set_option maxRecDepth 16384

noncomputable section

namespace Cert.Proof.GradMixIn

open Cert.GradMixInReferenceIdeal.Read Idealize.ShloMosaic Idealize.ShloMosaic.TcCoe Idealize.SL.Sem GradMath

/-- One entry of the reference's gradient, before it is laid into the set. -/
theorem entry (a : (⟨2, ![8192, 2048]⟩ : Shape).Idx → EReal) (h : (⟨2, ![8192, 1024]⟩ : Shape).Idx → EReal) (f : Fin 2048) (k : Fin 1024) :
    val_main_v6 (F := Ideal) a h (ix2 f k) = gram a h f k := by
  pointwise [val_main_v6, val_main_v5, val_main_v4, val_main_v3, val_main_v1]
  rfl

theorem whole (a : (⟨2, ![8192, 2048]⟩ : Shape).Idx → EReal) (h : (⟨2, ![8192, 1024]⟩ : Shape).Idx → EReal)
    (s : (⟨3, ![8, 384, 1024]⟩ : Shape).Idx → EReal) :
    val_main_v10 (F := Ideal) a h s = placed 256 0 (by norm_num) (gram a h) s := by
  funext j
  have h0 : (j 0).val < 8 := (j 0).2
  have h1 : (j 1).val < 384 := (j 1).2
  idx_vars j
  pointwise [val_main_v10, val_main_v9, val_main_v8, val_main_v7]
  show _ = if j1.val / 256 = 0 then gram a h ⟨j0.val * 256 + j1.val % 256, _⟩ j2 else s (ix3 j0 j1 j2)
  by_cases hc : j1.val < 256
  · refine (dif_pos hc).trans (Eq.trans ?_ (if_pos (by omega)).symm)
    exact (entry a h _ j2).trans (congrArg (fun f => gram a h f j2)
      (Fin.ext (by show j0.val * 256 + j1.val = j0.val * 256 + j1.val % 256; omega)))
  · refine (dif_neg hc).trans (Eq.trans ?_ (if_neg (by omega)).symm)
    exact congrArg (fun q => s (ix3 j0 q j2)) (Fin.ext (by show 256 + (j1.val - 256) = j1.val; omega))

/-- The reference's program declares no semaphore, so its run is its frame. -/
theorem frame_ref : Cert.quiescent_GradMixInReferenceIdeal := fun m ρ _ =>
  (θ_run Cert.GradMixInReferenceIdeal.defs _ _).mono (fun r h => ⟨fun c => (h c).2, sem_eq_zero_of_no_sems (by decide) r.2⟩)
    (Cert.GradMixInReferenceIdeal.Value.run m ρ)

/-- Both programs end with the same array: every slot's first two thirds are the gradient, the rest is as it was. -/
theorem algebraic : Cert.algebraic_GradMixInIdeal_GradMixInReferenceIdeal := by
  intro m g m' g' _ hargs
  refine ⟨fun c => (Cert.GradMixInIdeal.Gen.dats m 0 c).arrAt 2 Cert.GradMixInIdeal.cfg0.N, Cert.GradMixInIdeal.Value.run_blocks m g, ?_⟩
  refine (θ_run Cert.GradMixInReferenceIdeal.defs _ _).mono (fun r h c => ?_) (Cert.GradMixInReferenceIdeal.Value.run m' g')
  obtain ⟨q, qa⟩ := h c
  obtain ⟨a0, a1, a2⟩ := hargs c
  refine ⟨?_, qa⟩
  refine (q.trans (val_main_v10_eq (F := Ideal) _ _ _)).trans (Eq.trans ?_ (Cert.GradMixInIdeal.Rows.final m c).symm)
  rw [a0, a1, a2]
  exact whole _ _ _

end Cert.Proof.GradMixIn

end
-- ==== Proof.GradMixOutKernel.lean ====
/- The mixing block's output weight's gradient: the blocks' partial products added over the grid. -/
module

public import proofs.«01_k».proof.Proof.GradMath
public import proofs.«01_k».proof.Proof.Gen.GradMixOutIdeal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradMixOutIdeal.Rows

open Cert.GradMixOutIdeal Cert.GradMixOutIdeal.Gen Idealize.ShloMosaic Idealize.ShloMosaic.TcCoe Idealize.SL.Sem GradMath

theorem zero_apply (j : S1024x1024.Idx) : k0_pay1 (F := Ideal) j = 0 := by
  idx_vars j
  pointwise [k0_pay1]

theorem step_apply (v : S1024x1024.Idx → EReal) (a : S1024x1024.Idx → EReal) (h : S1024x1024.Idx → EReal) (j : S1024x1024.Idx) :
    k0_pay2 (F := Ideal) v a h j = v j + ∑ k : Fin 1024, a (ix2 k (j 0)) * h (ix2 k (j 1)) := by
  idx_vars j
  pointwise [k0_pay2]

theorem last_apply (v : S1024x1024.Idx → EReal) (j : S8x128x1024.Idx) :
    k0_pay3 (F := Ideal) v j = v (ix2 ⟨(j 0).val * 128 + (j 1).val, by have h0 : (j 0).val < 8 := (j 0).2; have h1 : (j 1).val < 128 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 2, 0] := (by decide +kernel : ∀ t : Fin grid0.N, win0_2.index t = ![0, 2, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x1024.Idx → EReal := m ((c : Thread nD τ).loc main_arg0)
abbrev right : S8192x1024.Idx → EReal := m ((c : Thread nD τ).loc main_arg1)

theorem blk0 (t : Fin cfg0.N) (k : Fin 1024) (f : Fin 1024) : iblk m c 0 t (ix2 k f : S1024x1024.Idx) = left m c (ix2 (rowAt t k) f) := by
  have e : ((cfg0.win 0).blk t).view.emb (ix2 k f : S1024x1024.Idx) = (ix2 (rowAt t k) f : S8192x1024.Idx) := by
    funext a
    apply Fin.ext
    match a with
    | ⟨0, _⟩ => show win0_0.index t 0 * 1024 + 1 * k.val = t.val * 1024 + k.val; rw [at0 t]; simp
    | ⟨1, _⟩ => show win0_0.index t 1 * 1024 + 1 * f.val = f.val; rw [at0 t]; simp
  show V m c main_arg0 (((cfg0.win 0).blk t).view.emb (ix2 k f : S1024x1024.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S1024x1024.Idx) : EReal :=
  ∑ k : Fin 1024, left m c (ix2 (rowAt t k) (j 0)) * right m c (ix2 (rowAt t k) (j 1))

theorem step_term (v : S1024x1024.Idx → EReal) (t : Fin cfg0.N) (j : S1024x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S1024x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x128x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: every slot's last third is the gradient, the rest is as it was. -/
theorem final : (dats m 0 c).arrAt 2 cfg0.N = placed 128 2 (by norm_num) (gram (left m c) (right m c))
    (m ((c : Thread nD τ).loc main_arg2)) := by
  refine (dats m 0 c).arrAt_eq_of_coversWhere_of_agree 2 _ (fun β => β (1 : Fin 3) = 2) (by decide +kernel) (fun t hf (y : S8x128x1024.Idx) => ?_) (fun (j : S8x384x1024.Idx) hj => ?_)
  · have h7 : t.val % 8 = 7 := (Cert.GradMixOutIdeal.Gen.flush0_2 t).mp hf
    have hN : t.val < 8 := lt_of_lt_of_eq t.isLt N_0
    have hy : (y 1).val < 128 := (y 1).2
    have e0 : (((cfg0.win 2).blk t).view.emb y : S8x384x1024.Idx) = (ix3 (y 0) ⟨256 + (y 1).val, by omega⟩ (y 2) : S8x384x1024.Idx) := by
      funext a
      apply Fin.ext
      match a with
      | ⟨0, _⟩ => show win0_2.index t 0 * 8 + 1 * (y 0).val = (y 0).val; rw [at2 t]; simp
      | ⟨1, _⟩ => show win0_2.index t 1 * 128 + 1 * (y 1).val = 256 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (256 + (y 1).val) / 128 = 2 := by omega
    show _ = if (256 + (y 1).val) / 128 = 2 then _ else _
    rw [if_pos hc]
    refine congrArg (fun f => gram (left m c) (right m c) f (y 2)) (Fin.ext ?_)
    show (y 0).val * 128 + (y 1).val = (y 0).val * 128 + (256 + (y 1).val) % 128
    omega
  · have hc : ¬(j 1).val / 128 = 2 := hj
    show V m c main_v0 j = if (j 1).val / 128 = 2 then _ else _
    rw [if_neg hc]
    show StableHlo.after hostOps0 _ (Proc.devRef .tc main_v0) j = _
    after_results
    rfl

end Cert.GradMixOutIdeal.Rows

end
-- ==== Proof.GradMixOutRef.lean ====
/- The reference of the mixing block's output weight's gradient, and the claims about the call. -/
module

public import proofs.«01_k».proof.Defs
public import proofs.«01_k».proof.Proof.GradMixOutKernel
public import proofs.«01_k».proof.Proof.Gen.GradMixOutReferenceIdeal.Read
public import Idealize.ShloMosaic.Lib.Quiescent

@[expose] public section

set_option maxRecDepth 16384

noncomputable section

namespace Cert.Proof.GradMixOut

open Cert.GradMixOutReferenceIdeal.Read Idealize.ShloMosaic Idealize.ShloMosaic.TcCoe Idealize.SL.Sem GradMath

/-- One entry of the reference's gradient, before it is laid into the set. -/
theorem entry (a : (⟨2, ![8192, 1024]⟩ : Shape).Idx → EReal) (h : (⟨2, ![8192, 1024]⟩ : Shape).Idx → EReal) (f : Fin 1024) (k : Fin 1024) :
    val_main_v4 (F := Ideal) a h (ix2 f k) = gram a h f k := by
  pointwise [val_main_v4, val_main_v3, val_main_v1]
  exact Finset.sum_congr rfl fun r _ => mul_comm _ _

theorem whole (a : (⟨2, ![8192, 1024]⟩ : Shape).Idx → EReal) (h : (⟨2, ![8192, 1024]⟩ : Shape).Idx → EReal)
    (s : (⟨3, ![8, 384, 1024]⟩ : Shape).Idx → EReal) :
    val_main_v8 (F := Ideal) a h s = placed 128 2 (by norm_num) (gram a h) s := by
  funext j
  have h0 : (j 0).val < 8 := (j 0).2
  have h1 : (j 1).val < 384 := (j 1).2
  idx_vars j
  pointwise [val_main_v8, val_main_v7, val_main_v6, val_main_v5]
  show _ = if j1.val / 128 = 2 then gram a h ⟨j0.val * 128 + j1.val % 128, _⟩ j2 else s (ix3 j0 j1 j2)
  by_cases hc : j1.val < 256
  · exact (dif_pos hc).trans (if_neg (by omega)).symm
  · refine (dif_neg hc).trans (Eq.trans ?_ (if_pos (by omega)).symm)
    exact (entry a h _ j2).trans (congrArg (fun f => gram a h f j2)
      (Fin.ext (by show j0.val * 128 + (j1.val - 256) = j0.val * 128 + j1.val % 128; omega)))

/-- The reference's program declares no semaphore, so its run is its frame. -/
theorem frame_ref : Cert.quiescent_GradMixOutReferenceIdeal := fun m ρ _ =>
  (θ_run Cert.GradMixOutReferenceIdeal.defs _ _).mono (fun r h => ⟨fun c => (h c).2, sem_eq_zero_of_no_sems (by decide) r.2⟩)
    (Cert.GradMixOutReferenceIdeal.Value.run m ρ)

/-- Both programs end with the same array: every slot's last third is the gradient, the rest is as it was. -/
theorem algebraic : Cert.algebraic_GradMixOutIdeal_GradMixOutReferenceIdeal := by
  intro m g m' g' _ hargs
  refine ⟨fun c => (Cert.GradMixOutIdeal.Gen.dats m 0 c).arrAt 2 Cert.GradMixOutIdeal.cfg0.N, Cert.GradMixOutIdeal.Value.run_blocks m g, ?_⟩
  refine (θ_run Cert.GradMixOutReferenceIdeal.defs _ _).mono (fun r h c => ?_) (Cert.GradMixOutReferenceIdeal.Value.run m' g')
  obtain ⟨q, qa⟩ := h c
  obtain ⟨a0, a1, a2⟩ := hargs c
  refine ⟨?_, qa⟩
  refine (q.trans (val_main_v8_eq (F := Ideal) _ _ _)).trans (Eq.trans ?_ (Cert.GradMixOutIdeal.Rows.final m c).symm)
  rw [a0, a1, a2]
  exact whole _ _ _

end Cert.Proof.GradMixOut

end
-- ==== Proof.GradFirstInKernel.lean ====
/- The mixing block's input weight's gradient, in an array of its own: the blocks' partial products added over the grid. -/
module

public import proofs.«01_k».proof.Proof.GradMath
public import proofs.«01_k».proof.Proof.Gen.GradFirstInIdeal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradFirstInIdeal.Rows

open Cert.GradFirstInIdeal Cert.GradFirstInIdeal.Gen Idealize.ShloMosaic Idealize.ShloMosaic.TcCoe Idealize.SL.Sem GradMath

theorem zero_apply (j : S2048x1024.Idx) : k0_pay1 (F := Ideal) j = 0 := by
  idx_vars j
  pointwise [k0_pay1]

theorem step_apply (v : S2048x1024.Idx → EReal) (a : S1024x2048.Idx → EReal) (h : S1024x1024.Idx → EReal) (j : S2048x1024.Idx) :
    k0_pay2 (F := Ideal) v a h j = v j + ∑ k : Fin 1024, a (ix2 k (j 0)) * h (ix2 k (j 1)) := by
  idx_vars j
  pointwise [k0_pay2]

theorem last_apply (v : S2048x1024.Idx → EReal) (j : S8x256x1024.Idx) :
    k0_pay3 (F := Ideal) v j = v (ix2 ⟨(j 0).val * 256 + (j 1).val, by have h0 : (j 0).val < 8 := (j 0).2; have h1 : (j 1).val < 256 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x2048.Idx → EReal := m ((c : Thread nD τ).loc main_arg0)
abbrev right : S8192x1024.Idx → EReal := m ((c : Thread nD τ).loc main_arg1)

theorem blk0 (t : Fin cfg0.N) (k : Fin 1024) (f : Fin 2048) : iblk m c 0 t (ix2 k f : S1024x2048.Idx) = left m c (ix2 (rowAt t k) f) := by
  have e : ((cfg0.win 0).blk t).view.emb (ix2 k f : S1024x2048.Idx) = (ix2 (rowAt t k) f : S8192x2048.Idx) := by
    funext a
    apply Fin.ext
    match a with
    | ⟨0, _⟩ => show win0_0.index t 0 * 1024 + 1 * k.val = t.val * 1024 + k.val; rw [at0 t]; simp
    | ⟨1, _⟩ => show win0_0.index t 1 * 2048 + 1 * f.val = f.val; rw [at0 t]; simp
  show V m c main_arg0 (((cfg0.win 0).blk t).view.emb (ix2 k f : S1024x2048.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S2048x1024.Idx) : EReal :=
  ∑ k : Fin 1024, left m c (ix2 (rowAt t k) (j 0)) * right m c (ix2 (rowAt t k) (j 1))

theorem step_term (v : S2048x1024.Idx → EReal) (t : Fin cfg0.N) (j : S2048x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S2048x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x256x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the whole array is the gradient. -/
theorem final : (dats m 0 c).arrAt 2 cfg0.N = placed 256 0 (by norm_num) (gram (left m c) (right m c))
    (m ((c : Thread nD τ).loc main_arg2)) := by
  refine (dats m 0 c).arrAt_eq_of_coversWhere_of_agree 2 _ (fun β => β (1 : Fin 3) = 0) (by decide +kernel) (fun t hf (y : S8x256x1024.Idx) => ?_) (fun (j : S8x256x1024.Idx) hj => ?_)
  · have h7 : t.val % 8 = 7 := (Cert.GradFirstInIdeal.Gen.flush0_2 t).mp hf
    have hN : t.val < 8 := lt_of_lt_of_eq t.isLt N_0
    have hy : (y 1).val < 256 := (y 1).2
    have e0 : (((cfg0.win 2).blk t).view.emb y : S8x256x1024.Idx) = (ix3 (y 0) ⟨0 + (y 1).val, by omega⟩ (y 2) : S8x256x1024.Idx) := by
      funext a
      apply Fin.ext
      match a with
      | ⟨0, _⟩ => show win0_2.index t 0 * 8 + 1 * (y 0).val = (y 0).val; rw [at2 t]; simp
      | ⟨1, _⟩ => show win0_2.index t 1 * 256 + 1 * (y 1).val = 0 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (0 + (y 1).val) / 256 = 0 := by omega
    show _ = if (0 + (y 1).val) / 256 = 0 then _ else _
    rw [if_pos hc]
    refine congrArg (fun f => gram (left m c) (right m c) f (y 2)) (Fin.ext ?_)
    show (y 0).val * 256 + (y 1).val = (y 0).val * 256 + (0 + (y 1).val) % 256
    omega
  · have hc : ¬(j 1).val / 256 = 0 := hj
    show V m c main_v0 j = if (j 1).val / 256 = 0 then _ else _
    rw [if_neg hc]
    show StableHlo.after hostOps0 _ (Proc.devRef .tc main_v0) j = _
    after_results
    rfl

end Cert.GradFirstInIdeal.Rows

end
-- ==== Proof.GradFirstInRef.lean ====
/- The reference of the mixing block's input weight's gradient, in an array of its own, and the claims about the call. -/
module

public import proofs.«01_k».proof.Defs
public import proofs.«01_k».proof.Proof.GradFirstInKernel
public import proofs.«01_k».proof.Proof.Gen.GradFirstInReferenceIdeal.Read
public import Idealize.ShloMosaic.Lib.Quiescent

@[expose] public section

set_option maxRecDepth 16384

noncomputable section

namespace Cert.Proof.GradFirstIn

open Cert.GradFirstInReferenceIdeal.Read Idealize.ShloMosaic Idealize.ShloMosaic.TcCoe Idealize.SL.Sem GradMath

/-- One entry of the reference's gradient, before it is laid into the set. -/
theorem entry (a : (⟨2, ![8192, 2048]⟩ : Shape).Idx → EReal) (h : (⟨2, ![8192, 1024]⟩ : Shape).Idx → EReal) (f : Fin 2048) (k : Fin 1024) :
    val_main_v6 (F := Ideal) a h (ix2 f k) = gram a h f k := by
  pointwise [val_main_v6, val_main_v5, val_main_v4, val_main_v3, val_main_v1]
  rfl

theorem whole (a : (⟨2, ![8192, 2048]⟩ : Shape).Idx → EReal) (h : (⟨2, ![8192, 1024]⟩ : Shape).Idx → EReal)
    (s : (⟨3, ![8, 256, 1024]⟩ : Shape).Idx → EReal) :
    val_main_v8 (F := Ideal) a h = placed 256 0 (by norm_num) (gram a h) s := by
  funext j
  have h0 : (j 0).val < 8 := (j 0).2
  have h1 : (j 1).val < 256 := (j 1).2
  idx_vars j
  pointwise [val_main_v8, val_main_v7]
  show _ = if j1.val / 256 = 0 then gram a h ⟨j0.val * 256 + j1.val % 256, _⟩ j2 else s (ix3 j0 j1 j2)
  refine Eq.trans ?_ (if_pos (by omega)).symm
  exact (entry a h _ j2).trans (congrArg (fun f => gram a h f j2)
    (Fin.ext (by show j0.val * 256 + j1.val = j0.val * 256 + j1.val % 256; omega)))

/-- The reference's program declares no semaphore, so its run is its frame. -/
theorem frame_ref : Cert.quiescent_GradFirstInReferenceIdeal := fun m ρ _ =>
  (θ_run Cert.GradFirstInReferenceIdeal.defs _ _).mono (fun r h => ⟨fun c => (h c).2, sem_eq_zero_of_no_sems (by decide) r.2⟩)
    (Cert.GradFirstInReferenceIdeal.Value.run m ρ)

/-- Both programs end with the same array: the whole array is the gradient. -/
theorem algebraic : Cert.algebraic_GradFirstInIdeal_GradFirstInReferenceIdeal := by
  intro m g m' g' _ hargs
  refine ⟨fun c => (Cert.GradFirstInIdeal.Gen.dats m 0 c).arrAt 2 Cert.GradFirstInIdeal.cfg0.N, Cert.GradFirstInIdeal.Value.run_blocks m g, ?_⟩
  refine (θ_run Cert.GradFirstInReferenceIdeal.defs _ _).mono (fun r h c => ?_) (Cert.GradFirstInReferenceIdeal.Value.run m' g')
  obtain ⟨q, qa⟩ := h c
  obtain ⟨a0, a1, _⟩ := hargs c
  refine ⟨?_, qa⟩
  refine (q.trans (val_main_v8_eq (F := Ideal) _ _)).trans (Eq.trans ?_ (Cert.GradFirstInIdeal.Rows.final m c).symm)
  rw [a0, a1]
  exact whole _ _ _

end Cert.Proof.GradFirstIn

end
-- ==== Proof.GradFirstOutKernel.lean ====
/- The mixing block's output weight's gradient, in an array of its own: the blocks' partial products added over the grid. -/
module

public import proofs.«01_k».proof.Proof.GradMath
public import proofs.«01_k».proof.Proof.Gen.GradFirstOutIdeal.Value
public import Idealize.ShloMosaic.Lib.Pipeline.ValueKit.Partial
public import Idealize.ShloMosaic.Lib.Pipeline.ValueKit.Acc

@[expose] public section

set_option maxRecDepth 16384
set_option maxHeartbeats 1000000

noncomputable section

namespace Cert.GradFirstOutIdeal.Rows

open Cert.GradFirstOutIdeal Cert.GradFirstOutIdeal.Gen Idealize.ShloMosaic Idealize.ShloMosaic.TcCoe Idealize.SL.Sem GradMath

theorem zero_apply (j : S1024x1024.Idx) : k0_pay1 (F := Ideal) j = 0 := by
  idx_vars j
  pointwise [k0_pay1]

theorem step_apply (v : S1024x1024.Idx → EReal) (a : S1024x1024.Idx → EReal) (h : S1024x1024.Idx → EReal) (j : S1024x1024.Idx) :
    k0_pay2 (F := Ideal) v a h j = v j + ∑ k : Fin 1024, a (ix2 k (j 0)) * h (ix2 k (j 1)) := by
  idx_vars j
  pointwise [k0_pay2]

theorem last_apply (v : S1024x1024.Idx → EReal) (j : S8x128x1024.Idx) :
    k0_pay3 (F := Ideal) v j = v (ix2 ⟨(j 0).val * 128 + (j 1).val, by have h0 : (j 0).val < 8 := (j 0).2; have h1 : (j 1).val < 128 := (j 1).2; omega⟩ (j 2)) := by
  idx_vars j
  pointwise [k0_pay3]

variable (m : (ℓ : Loc nD τ sig) → Buf (Elt Ideal) ℓ) (c : Dev nD)

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![0, 0, 0] := (by decide +kernel : ∀ t : Fin grid0.N, win0_2.index t = ![0, 0, 0])

/-- The array row that lane `k` of grid point `t` holds. -/
def rowAt (t : Fin cfg0.N) (k : Fin 1024) : Fin 8192 :=
  ⟨t.val * 1024 + k.val, by have h : t.val < 8 := lt_of_lt_of_eq t.isLt N_0; omega⟩

/-- The left and the right array, as the call finds them. -/
abbrev left : S8192x1024.Idx → EReal := m ((c : Thread nD τ).loc main_arg0)
abbrev right : S8192x1024.Idx → EReal := m ((c : Thread nD τ).loc main_arg1)

theorem blk0 (t : Fin cfg0.N) (k : Fin 1024) (f : Fin 1024) : iblk m c 0 t (ix2 k f : S1024x1024.Idx) = left m c (ix2 (rowAt t k) f) := by
  have e : ((cfg0.win 0).blk t).view.emb (ix2 k f : S1024x1024.Idx) = (ix2 (rowAt t k) f : S8192x1024.Idx) := by
    funext a
    apply Fin.ext
    match a with
    | ⟨0, _⟩ => show win0_0.index t 0 * 1024 + 1 * k.val = t.val * 1024 + k.val; rw [at0 t]; simp
    | ⟨1, _⟩ => show win0_0.index t 1 * 1024 + 1 * f.val = f.val; rw [at0 t]; simp
  show V m c main_arg0 (((cfg0.win 0).blk t).view.emb (ix2 k f : S1024x1024.Idx)) = _
  rw [e, V_main_arg0]

theorem blk1 (t : Fin cfg0.N) (k q : Fin 1024) : iblk m c 1 t (ix2 k q : S1024x1024.Idx) = right m c (ix2 (rowAt t k) q) := by
  have e : ((cfg0.win 1).blk t).view.emb (ix2 k q : S1024x1024.Idx) = (ix2 (rowAt t k) q : S8192x1024.Idx) := by
    funext a
    apply Fin.ext
    match a with
    | ⟨0, _⟩ => show win0_1.index t 0 * 1024 + 1 * k.val = t.val * 1024 + k.val; rw [at1 t]; simp
    | ⟨1, _⟩ => show win0_1.index t 1 * 1024 + 1 * q.val = q.val; rw [at1 t]; simp
  show V m c main_arg1 (((cfg0.win 1).blk t).view.emb (ix2 k q : S1024x1024.Idx)) = _
  rw [e, V_main_arg1]

/-- What grid point `t` adds at entry `j`. -/
def term (t : Fin cfg0.N) (j : S1024x1024.Idx) : EReal :=
  ∑ k : Fin 1024, left m c (ix2 (rowAt t k) (j 0)) * right m c (ix2 (rowAt t k) (j 1))

theorem step_term (v : S1024x1024.Idx → EReal) (t : Fin cfg0.N) (j : S1024x1024.Idx) :
    k0_pay2 (F := Ideal) v (iblk m c 0 t) (iblk m c 1 t) j = v j + term m c t j := by
  refine (step_apply v (iblk m c 0 t) (iblk m c 1 t) j).trans (congrArg (v j + ·) (Finset.sum_congr rfl fun k _ => ?_))
  exact congrArg₂ (· * ·) (blk0 m c t k (j 0)) (blk1 m c t k (j 1))

/-- At the last grid point the carried array is the whole gradient. -/
theorem acc (t : Fin cfg0.N) (ht : t.val + 1 = cfg0.N) (j : S1024x1024.Idx) :
    (outsAt0 m c t.val t.isLt).2 j = gram (left m c) (right m c) (j 0) (j 1) := by
  rw [Pipeline.eq_sum_fin_of_reset_step_apply_last (fun n h => (outsAt0 m c n h).2) 8 (fun _ => (0 : EReal)) (term m c)
    (fun t h j => by
      have h1 : ¬t.val % 8 = 7 := by omega
      rw [outsAt0_A m c t h h1]
      frame_out
      rw [step_term, zero_apply])
    (fun t h j => by
      by_cases h1 : t.val % 8 = 7
      · rw [outsAt0_C m c t h h1]
        frame_out
        rw [step_term]
        exact congrArg (· + term m c t j) (congrFun ((Memref.isWhole_whole cc0_scratch0).read_unread _) j)
      · rw [outsAt0_B m c t h h1]
        frame_out
        rw [step_term]
        exact congrArg (· + term m c t j) (congrFun ((Memref.isWhole_whole cc0_scratch0).read_unread _) j))
    (le_of_eq N_0) t ht j, zero_add]
  exact Fin.sum_mul_add_fin (L := 8192) 8 1024 fun r => left m c (ix2 r (j 0)) * right m c (ix2 r (j 1))

theorem out (t : Fin cfg0.N) (ht : t.val % 8 = 7) (j : S8x128x1024.Idx) :
    (outsAt0 m c t.val t.isLt).1 j = k0_pay3 (F := Ideal) (outsAt0 m c t.val t.isLt).2 j := by
  have h0 : ¬t.val % 8 = 0 := by omega
  rw [outsAt0_C m c t h0 ht]
  frame_out

/-- The result array: the whole array is the gradient. -/
theorem final : (dats m 0 c).arrAt 2 cfg0.N = placed 128 0 (by norm_num) (gram (left m c) (right m c))
    (m ((c : Thread nD τ).loc main_arg2)) := by
  refine (dats m 0 c).arrAt_eq_of_coversWhere_of_agree 2 _ (fun β => β (1 : Fin 3) = 0) (by decide +kernel) (fun t hf (y : S8x128x1024.Idx) => ?_) (fun (j : S8x128x1024.Idx) hj => ?_)
  · have h7 : t.val % 8 = 7 := (Cert.GradFirstOutIdeal.Gen.flush0_2 t).mp hf
    have hN : t.val < 8 := lt_of_lt_of_eq t.isLt N_0
    have hy : (y 1).val < 128 := (y 1).2
    have e0 : (((cfg0.win 2).blk t).view.emb y : S8x128x1024.Idx) = (ix3 (y 0) ⟨0 + (y 1).val, by omega⟩ (y 2) : S8x128x1024.Idx) := by
      funext a
      apply Fin.ext
      match a with
      | ⟨0, _⟩ => show win0_2.index t 0 * 8 + 1 * (y 0).val = (y 0).val; rw [at2 t]; simp
      | ⟨1, _⟩ => show win0_2.index t 1 * 128 + 1 * (y 1).val = 0 + (y 1).val; rw [at2 t]; simp
      | ⟨2, _⟩ => show win0_2.index t 2 * 1024 + 1 * (y 2).val = (y 2).val; rw [at2 t]; simp
    rw [e0]
    show (dats m 0 c).after 2 t y = _
    rw [after0_2, out m c t h7, last_apply, acc m c t ((show t.val + 1 = 8 by omega).trans N_0.symm)]
    have hc : (0 + (y 1).val) / 128 = 0 := by omega
    show _ = if (0 + (y 1).val) / 128 = 0 then _ else _
    rw [if_pos hc]
    refine congrArg (fun f => gram (left m c) (right m c) f (y 2)) (Fin.ext ?_)
    show (y 0).val * 128 + (y 1).val = (y 0).val * 128 + (0 + (y 1).val) % 128
    omega
  · have hc : ¬(j 1).val / 128 = 0 := hj
    show V m c main_v0 j = if (j 1).val / 128 = 0 then _ else _
    rw [if_neg hc]
    show StableHlo.after hostOps0 _ (Proc.devRef .tc main_v0) j = _
    after_results
    rfl

end Cert.GradFirstOutIdeal.Rows

end
-- ==== Proof.GradFirstOutRef.lean ====
/- The reference of the mixing block's output weight's gradient, in an array of its own, and the claims about the call. -/
module

public import proofs.«01_k».proof.Defs
public import proofs.«01_k».proof.Proof.GradFirstOutKernel
public import proofs.«01_k».proof.Proof.Gen.GradFirstOutReferenceIdeal.Read
public import Idealize.ShloMosaic.Lib.Quiescent

@[expose] public section

set_option maxRecDepth 16384

noncomputable section

namespace Cert.Proof.GradFirstOut

open Cert.GradFirstOutReferenceIdeal.Read Idealize.ShloMosaic Idealize.ShloMosaic.TcCoe Idealize.SL.Sem GradMath

/-- One entry of the reference's gradient, before it is laid into the set. -/
theorem entry (a : (⟨2, ![8192, 1024]⟩ : Shape).Idx → EReal) (h : (⟨2, ![8192, 1024]⟩ : Shape).Idx → EReal) (f : Fin 1024) (k : Fin 1024) :
    val_main_v4 (F := Ideal) a h (ix2 f k) = gram a h f k := by
  pointwise [val_main_v4, val_main_v3, val_main_v1]
  exact Finset.sum_congr rfl fun r _ => mul_comm _ _

theorem whole (a : (⟨2, ![8192, 1024]⟩ : Shape).Idx → EReal) (h : (⟨2, ![8192, 1024]⟩ : Shape).Idx → EReal)
    (s : (⟨3, ![8, 128, 1024]⟩ : Shape).Idx → EReal) :
    val_main_v6 (F := Ideal) a h = placed 128 0 (by norm_num) (gram a h) s := by
  funext j
  have h0 : (j 0).val < 8 := (j 0).2
  have h1 : (j 1).val < 128 := (j 1).2
  idx_vars j
  pointwise [val_main_v6, val_main_v5]
  show _ = if j1.val / 128 = 0 then gram a h ⟨j0.val * 128 + j1.val % 128, _⟩ j2 else s (ix3 j0 j1 j2)
  refine Eq.trans ?_ (if_pos (by omega)).symm
  exact (entry a h _ j2).trans (congrArg (fun f => gram a h f j2)
    (Fin.ext (by show j0.val * 128 + j1.val = j0.val * 128 + j1.val % 128; omega)))

/-- The reference's program declares no semaphore, so its run is its frame. -/
theorem frame_ref : Cert.quiescent_GradFirstOutReferenceIdeal := fun m ρ _ =>
  (θ_run Cert.GradFirstOutReferenceIdeal.defs _ _).mono (fun r h => ⟨fun c => (h c).2, sem_eq_zero_of_no_sems (by decide) r.2⟩)
    (Cert.GradFirstOutReferenceIdeal.Value.run m ρ)

/-- Both programs end with the same array: the whole array is the gradient. -/
theorem algebraic : Cert.algebraic_GradFirstOutIdeal_GradFirstOutReferenceIdeal := by
  intro m g m' g' _ hargs
  refine ⟨fun c => (Cert.GradFirstOutIdeal.Gen.dats m 0 c).arrAt 2 Cert.GradFirstOutIdeal.cfg0.N, Cert.GradFirstOutIdeal.Value.run_blocks m g, ?_⟩
  refine (θ_run Cert.GradFirstOutReferenceIdeal.defs _ _).mono (fun r h c => ?_) (Cert.GradFirstOutReferenceIdeal.Value.run m' g')
  obtain ⟨q, qa⟩ := h c
  obtain ⟨a0, a1, _⟩ := hargs c
  refine ⟨?_, qa⟩
  refine (q.trans (val_main_v6_eq (F := Ideal) _ _)).trans (Eq.trans ?_ (Cert.GradFirstOutIdeal.Rows.final m c).symm)
  rw [a0, a1]
  exact whole _ _ _

end Cert.Proof.GradFirstOut

end
-- ==== Proof.Pack.lean ====
/- The packing of the mixing block's input weight: the product with the identity matrix is the transpose. -/
module

public import proofs.«01_k».proof.Defs
public import proofs.«01_k».proof.Proof.RowMath
public import proofs.«01_k».proof.Proof.Gen.PackIdeal.Value
public import proofs.«01_k».proof.Proof.Gen.PackReferenceIdeal.Run
public import proofs.«01_k».proof.Proof.Gen.PackReferenceIdeal.Read
public import Idealize.ShloMosaic.Lib.Pipeline.ValueKit.Geometry
public import Idealize.ShloMosaic.Lib.Quiescent

@[expose] public section

set_option maxRecDepth 16384

noncomputable section

namespace Cert.Proof.Pack

open Idealize.ShloMosaic Idealize.ShloMosaic.TcCoe Idealize.SL.Sem
open Cert.PackIdeal Cert.PackIdeal.Gen

theorem hz : (![0, 0, 0] : Fin 3 → Nat) = fun _ => 0 := funext fun a => by fin_cases a <;> rfl

/-- One entry of a block's product with the identity matrix: the entry with the last two places exchanged. -/
theorem pay (x : S1x1024x256.Idx → EReal) (y : S1x256x1024.Idx) :
    k0_pay1 (F := Ideal) x y = x (ix3 (y 0) (y 2) (y 1)) := by
  idx_vars y
  pointwise [k0_pay1]
  have one : FloatOps.sitofp (F := Ideal) FTy.f32 (1#32) = (1 : EReal) := by
    show (((1#32).toInt : ℝ) : EReal) = 1
    norm_num
  have zero : FloatOps.sitofp (F := Ideal) FTy.f32 (0#32) = (0 : EReal) := by
    show (((0#32).toInt : ℝ) : EReal) = 0
    norm_num
  have hy : y0 = 0 := Fin.ext (by omega)
  subst hy
  refine (Finset.sum_eq_single y2 (fun k _ hk => ?_) (fun h => absurd (Finset.mem_univ _) h)).trans ?_
  · have hne : BitVec.ofNat 32 k.val ≠ BitVec.ofNat 32 y2.val := by
      intro h
      apply hk
      apply Fin.ext
      have h2 := congrArg BitVec.toNat h
      have hk' := k.isLt
      have hy' := y2.isLt
      simp only [BitVec.toNat_ofNat] at h2
      omega
    have e : BitVec.setWidth 32 (IntOp.cmpi CmpIPredicate.eq (BitVec.ofNat 32 k.val) (BitVec.ofNat 32 y2.val)) = 0#32 := by
      have hb : (BitVec.ofNat 32 k.val == BitVec.ofNat 32 y2.val) = false := beq_eq_false_iff_ne.2 hne
      simp only [IntOp.cmpi, hb]; rfl
    rw [e, zero, mul_zero]
  · have e : BitVec.setWidth 32 (IntOp.cmpi CmpIPredicate.eq (BitVec.ofNat 32 y2.val) (BitVec.ofNat 32 y2.val)) = 1#32 := by
      simp [IntOp.cmpi]
    rw [e, one, mul_one]

variable (m : (ℓ : Loc nD τ sig) → Buf (Elt Idealize.ShloMosaic.Ideal) ℓ) (c : Dev nD)

theorem in_index : ∀ t : Fin cfg0.N, win0_0.index t = ![t.val, 0, 0] := (by decide +kernel : ∀ t : Fin grid0.N, win0_0.index t = ![t.val, 0, 0])
theorem out_index : ∀ t : Fin cfg0.N, win0_1.index t = ![t.val, 0, 0] := (by decide +kernel : ∀ t : Fin grid0.N, win0_1.index t = ![t.val, 0, 0])

/-- The weight, as the call finds it. -/
abbrev weight : S4x1024x256.Idx → EReal := m ((c : Thread nD τ).loc main_arg0)

/-- The kernel's array: every layer's matrix transposed. -/
theorem final : (dats m 0 c).arrAt 1 cfg0.N = fun y : S4x256x1024.Idx => weight m c (ix3 (y 0) (y 2) (y 1)) := by
  refine (dats m 0 c).arrAt_eq_of_covers 1 _ (by decide +kernel) fun t _ (y : S1x256x1024.Idx) => ?_
  show (dats m 0 c).after 1 t y = _
  rw [after0_1]
  unfold out0_1
  rw [View.canon_unit_zero hz]
  simp only [View.ld_unit_zero (S := S1x1024x256) hz]
  rw [pay]
  show V m c main_arg0 (((cfg0.win 0).blk t).view.emb (ix3 (y 0) (y 2) (y 1) : S1x1024x256.Idx)) = _
  rw [V_main_arg0]
  refine congrArg (weight m c) (funext fun a => Fin.ext ?_)
  match a with
  | ⟨0, _⟩ => show win0_0.index t 0 * 1 + 1 * (y 0).val = win0_1.index t 0 * 1 + 1 * (y 0).val; rw [in_index t, out_index t]
  | ⟨1, _⟩ => show win0_0.index t 1 * 1024 + 1 * (y 2).val = win0_1.index t 2 * 1024 + 1 * (y 2).val; rw [in_index t, out_index t]; rfl
  | ⟨2, _⟩ => show win0_0.index t 2 * 256 + 1 * (y 1).val = win0_1.index t 1 * 256 + 1 * (y 1).val; rw [in_index t, out_index t]; rfl

/-- The reference's program declares no semaphore, so its run is its frame. -/
theorem frame_ref : Cert.quiescent_PackReferenceIdeal := fun m ρ _ =>
  (θ_run Cert.PackReferenceIdeal.defs _ _).mono (fun r h => ⟨fun c => (h c).2, sem_eq_zero_of_no_sems (by decide) r.2⟩)
    (Cert.PackReferenceIdeal.Value.run m ρ)

/-- Both programs end with the transposed matrices. -/
theorem algebraic : Cert.algebraic_PackIdeal_PackReferenceIdeal := by
  intro m g m' g' _ hargs
  refine ⟨_, Value.run_blocks m g, ?_⟩
  refine (θ_run Cert.PackReferenceIdeal.defs _ _).mono (fun r h c => ?_) (Cert.PackReferenceIdeal.Value.run m' g')
  obtain ⟨q, qa⟩ := h c
  refine ⟨(q.trans (Cert.PackReferenceIdeal.Read.val_main_v1_eq (F := Ideal) _)).trans (Eq.trans ?_ (final m c).symm), qa⟩
  rw [hargs c]
  funext y
  idx_vars y
  pointwise [Cert.PackReferenceIdeal.Read.val_main_v1, Cert.PackReferenceIdeal.Read.val_main_v0]

end Cert.Proof.Pack
-- ==== Proof.lean ====
/- The claims of this certificate, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Wgrad1
public import proofs.«01_k».proof.Proof.Gen.Wgrad1.Skeleton
public import proofs.«01_k».proof.Proof.Gen.Wgrad1.Launch
public import proofs.«01_k».proof.Proof.Gen.Wgrad1.Points
public import proofs.«01_k».proof.Proof.Gen.Wgrad1.Frame
public import proofs.«01_k».proof.Proof.Gen.Wgrad1Ideal
public import proofs.«01_k».proof.Proof.Gen.Wgrad1Ideal.Skeleton
public import proofs.«01_k».proof.Proof.Gen.Wgrad1Ideal.Launch
public import proofs.«01_k».proof.Proof.Gen.Wgrad1Ideal.Points
public import proofs.«01_k».proof.Proof.Gen.Wgrad1Ideal.Frame
public import proofs.«01_k».proof.Proof.Gen.Wgrad1Ideal.Value
public import proofs.«01_k».proof.Proof.Gen.Wgrad1ReferenceIdeal
public import proofs.«01_k».proof.Proof.Gen.Wgrad1ReferenceIdeal.Run
public import proofs.«01_k».proof.Proof.Gen.Wgrad1ReferenceIdeal.Read
public import proofs.«01_k».proof.Proof.Gen.Wgrad3
public import proofs.«01_k».proof.Proof.Gen.Wgrad3.Skeleton
public import proofs.«01_k».proof.Proof.Gen.Wgrad3.Launch
public import proofs.«01_k».proof.Proof.Gen.Wgrad3.Points
public import proofs.«01_k».proof.Proof.Gen.Wgrad3.Frame
public import proofs.«01_k».proof.Proof.Gen.Wgrad3Ideal
public import proofs.«01_k».proof.Proof.Gen.Wgrad3Ideal.Skeleton
public import proofs.«01_k».proof.Proof.Gen.Wgrad3Ideal.Launch
public import proofs.«01_k».proof.Proof.Gen.Wgrad3Ideal.Points
public import proofs.«01_k».proof.Proof.Gen.Wgrad3Ideal.Frame
public import proofs.«01_k».proof.Proof.Gen.Wgrad3Ideal.Value
public import proofs.«01_k».proof.Proof.Gen.Wgrad3ReferenceIdeal
public import proofs.«01_k».proof.Proof.Gen.Wgrad3ReferenceIdeal.Run
public import proofs.«01_k».proof.Proof.Gen.Wgrad3ReferenceIdeal.Read
public import proofs.«01_k».proof.Proof.Gen.Wgrad2
public import proofs.«01_k».proof.Proof.Gen.Wgrad2.Skeleton
public import proofs.«01_k».proof.Proof.Gen.Wgrad2.Launch
public import proofs.«01_k».proof.Proof.Gen.Wgrad2.Points
public import proofs.«01_k».proof.Proof.Gen.Wgrad2.Frame
public import proofs.«01_k».proof.Proof.Gen.Wgrad2Ideal
public import proofs.«01_k».proof.Proof.Gen.Wgrad2Ideal.Skeleton
public import proofs.«01_k».proof.Proof.Gen.Wgrad2Ideal.Launch
public import proofs.«01_k».proof.Proof.Gen.Wgrad2Ideal.Points
public import proofs.«01_k».proof.Proof.Gen.Wgrad2Ideal.Frame
public import proofs.«01_k».proof.Proof.Gen.Wgrad2Ideal.Value
public import proofs.«01_k».proof.Proof.Gen.Wgrad2ReferenceIdeal
public import proofs.«01_k».proof.Proof.Gen.Wgrad2ReferenceIdeal.Run
public import proofs.«01_k».proof.Proof.Gen.Wgrad2ReferenceIdeal.Read
public import proofs.«01_k».proof.Proof.Gen.Forward
public import proofs.«01_k».proof.Proof.Gen.Forward.Skeleton
public import proofs.«01_k».proof.Proof.Gen.Forward.Launch
public import proofs.«01_k».proof.Proof.Gen.Forward.Points
public import proofs.«01_k».proof.Proof.Gen.Forward.Frame
public import proofs.«01_k».proof.Proof.Gen.ForwardIdeal
public import proofs.«01_k».proof.Proof.Gen.ForwardIdeal.Skeleton
public import proofs.«01_k».proof.Proof.Gen.ForwardIdeal.Launch
public import proofs.«01_k».proof.Proof.Gen.ForwardIdeal.Points
public import proofs.«01_k».proof.Proof.Gen.ForwardIdeal.Frame
public import proofs.«01_k».proof.Proof.Gen.ForwardIdeal.Value
public import proofs.«01_k».proof.Proof.Gen.ForwardReferenceIdeal
public import proofs.«01_k».proof.Proof.Gen.ForwardReferenceIdeal.Run
public import proofs.«01_k».proof.Proof.Gen.ForwardReferenceIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormReferenceIdeal
public import proofs.«01_k».proof.Proof.Gen.AdamNormReferenceIdeal.Run
public import proofs.«01_k».proof.Proof.Gen.AdamNormReferenceIdeal.Read
public import proofs.«01_k».proof.Proof.Gen.AdamChan
public import proofs.«01_k».proof.Proof.Gen.AdamChan.Skeleton
public import proofs.«01_k».proof.Proof.Gen.AdamChan.Launch
public import proofs.«01_k».proof.Proof.Gen.AdamChan.Points
public import proofs.«01_k».proof.Proof.Gen.AdamChan.Frame
public import proofs.«01_k».proof.Proof.Gen.AdamChanIdeal
public import proofs.«01_k».proof.Proof.Gen.AdamChanIdeal.Skeleton
public import proofs.«01_k».proof.Proof.Gen.AdamChanIdeal.Launch
public import proofs.«01_k».proof.Proof.Gen.AdamChanIdeal.Points
public import proofs.«01_k».proof.Proof.Gen.AdamChanIdeal.Frame
public import proofs.«01_k».proof.Proof.Gen.AdamChanIdeal.Value
public import proofs.«01_k».proof.Proof.Gen.AdamChanReferenceIdeal
public import proofs.«01_k».proof.Proof.Gen.AdamChanReferenceIdeal.Run
public import proofs.«01_k».proof.Proof.Gen.AdamChanReferenceIdeal.Read
public import proofs.«01_k».proof.Proof.Gen.AdamLast
public import proofs.«01_k».proof.Proof.Gen.AdamLast.Skeleton
public import proofs.«01_k».proof.Proof.Gen.AdamLast.Launch
public import proofs.«01_k».proof.Proof.Gen.AdamLast.Points
public import proofs.«01_k».proof.Proof.Gen.AdamLast.Frame
public import proofs.«01_k».proof.Proof.Gen.AdamLastIdeal
public import proofs.«01_k».proof.Proof.Gen.AdamLastIdeal.Skeleton
public import proofs.«01_k».proof.Proof.Gen.AdamLastIdeal.Launch
public import proofs.«01_k».proof.Proof.Gen.AdamLastIdeal.Points
public import proofs.«01_k».proof.Proof.Gen.AdamLastIdeal.Frame
public import proofs.«01_k».proof.Proof.Gen.AdamLastIdeal.Value
public import proofs.«01_k».proof.Proof.Gen.AdamLastReferenceIdeal
public import proofs.«01_k».proof.Proof.Gen.AdamLastReferenceIdeal.Run
public import proofs.«01_k».proof.Proof.Gen.AdamLastReferenceIdeal.Read
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.AdamConvReferenceIdeal.Read
public import proofs.«01_k».proof.Proof.Gen.AdamShort
public import proofs.«01_k».proof.Proof.Gen.AdamShort.Skeleton
public import proofs.«01_k».proof.Proof.Gen.AdamShort.Launch
public import proofs.«01_k».proof.Proof.Gen.AdamShort.Points
public import proofs.«01_k».proof.Proof.Gen.AdamShort.Frame
public import proofs.«01_k».proof.Proof.Gen.AdamShortIdeal
public import proofs.«01_k».proof.Proof.Gen.AdamShortIdeal.Skeleton
public import proofs.«01_k».proof.Proof.Gen.AdamShortIdeal.Launch
public import proofs.«01_k».proof.Proof.Gen.AdamShortIdeal.Points
public import proofs.«01_k».proof.Proof.Gen.AdamShortIdeal.Frame
public import proofs.«01_k».proof.Proof.Gen.AdamShortIdeal.Value
public import proofs.«01_k».proof.Proof.Gen.AdamShortReferenceIdeal
public import proofs.«01_k».proof.Proof.Gen.AdamShortReferenceIdeal.Run
public import proofs.«01_k».proof.Proof.Gen.AdamShortReferenceIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolReferenceIdeal
public import proofs.«01_k».proof.Proof.Gen.AdamPoolReferenceIdeal.Run
public import proofs.«01_k».proof.Proof.Gen.AdamPoolReferenceIdeal.Read
public import proofs.«01_k».proof.Proof.Gen.AdamMix
public import proofs.«01_k».proof.Proof.Gen.AdamMix.Skeleton
public import proofs.«01_k».proof.Proof.Gen.AdamMix.Launch
public import proofs.«01_k».proof.Proof.Gen.AdamMix.Points
public import proofs.«01_k».proof.Proof.Gen.AdamMix.Frame
public import proofs.«01_k».proof.Proof.Gen.AdamMixIdeal
public import proofs.«01_k».proof.Proof.Gen.AdamMixIdeal.Skeleton
public import proofs.«01_k».proof.Proof.Gen.AdamMixIdeal.Launch
public import proofs.«01_k».proof.Proof.Gen.AdamMixIdeal.Points
public import proofs.«01_k».proof.Proof.Gen.AdamMixIdeal.Frame
public import proofs.«01_k».proof.Proof.Gen.AdamMixIdeal.Value
public import proofs.«01_k».proof.Proof.Gen.AdamMixReferenceIdeal
public import proofs.«01_k».proof.Proof.Gen.AdamMixReferenceIdeal.Run
public import proofs.«01_k».proof.Proof.Gen.AdamMixReferenceIdeal.Read
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasIdeal.Value
public import proofs.«01_k».proof.Proof.Gen.AdamBiasReferenceIdeal
public import proofs.«01_k».proof.Proof.Gen.AdamBiasReferenceIdeal.Run
public import proofs.«01_k».proof.Proof.Gen.AdamBiasReferenceIdeal.Read
public import proofs.«01_k».proof.Proof.Gen.SumLate
public import proofs.«01_k».proof.Proof.Gen.SumLate.Skeleton
public import proofs.«01_k».proof.Proof.Gen.SumLate.Launch
public import proofs.«01_k».proof.Proof.Gen.SumLate.Points
public import proofs.«01_k».proof.Proof.Gen.SumLate.Frame
public import proofs.«01_k».proof.Proof.Gen.SumLateIdeal
public import proofs.«01_k».proof.Proof.Gen.SumLateIdeal.Skeleton
public import proofs.«01_k».proof.Proof.Gen.SumLateIdeal.Launch
public import proofs.«01_k».proof.Proof.Gen.SumLateIdeal.Points
public import proofs.«01_k».proof.Proof.Gen.SumLateIdeal.Frame
public import proofs.«01_k».proof.Proof.Gen.SumLateIdeal.Value
public import proofs.«01_k».proof.Proof.Gen.SumLateReferenceIdeal
public import proofs.«01_k».proof.Proof.Gen.SumLateReferenceIdeal.Run
public import proofs.«01_k».proof.Proof.Gen.SumLateReferenceIdeal.Read
public import proofs.«01_k».proof.Proof.Gen.SumEarly
public import proofs.«01_k».proof.Proof.Gen.SumEarly.Skeleton
public import proofs.«01_k».proof.Proof.Gen.SumEarly.Launch
public import proofs.«01_k».proof.Proof.Gen.SumEarly.Points
public import proofs.«01_k».proof.Proof.Gen.SumEarly.Frame
public import proofs.«01_k».proof.Proof.Gen.SumEarlyIdeal
public import proofs.«01_k».proof.Proof.Gen.SumEarlyIdeal.Skeleton
public import proofs.«01_k».proof.Proof.Gen.SumEarlyIdeal.Launch
public import proofs.«01_k».proof.Proof.Gen.SumEarlyIdeal.Points
public import proofs.«01_k».proof.Proof.Gen.SumEarlyIdeal.Frame
public import proofs.«01_k».proof.Proof.Gen.SumEarlyIdeal.Value
public import proofs.«01_k».proof.Proof.Gen.SumEarlyReferenceIdeal
public import proofs.«01_k».proof.Proof.Gen.SumEarlyReferenceIdeal.Run
public import proofs.«01_k».proof.Proof.Gen.SumEarlyReferenceIdeal.Read
public import proofs.«01_k».proof.Proof.Gen.ReduceF1W1
public import proofs.«01_k».proof.Proof.Gen.ReduceF1W1.Skeleton
public import proofs.«01_k».proof.Proof.Gen.ReduceF1W1.Launch
public import proofs.«01_k».proof.Proof.Gen.ReduceF1W1.Points
public import proofs.«01_k».proof.Proof.Gen.ReduceF1W1.Frame
public import proofs.«01_k».proof.Proof.Gen.ReduceF1W1Ideal
public import proofs.«01_k».proof.Proof.Gen.ReduceF1W1Ideal.Skeleton
public import proofs.«01_k».proof.Proof.Gen.ReduceF1W1Ideal.Launch
public import proofs.«01_k».proof.Proof.Gen.ReduceF1W1Ideal.Points
public import proofs.«01_k».proof.Proof.Gen.ReduceF1W1Ideal.Frame
public import proofs.«01_k».proof.Proof.Gen.ReduceF1W1Ideal.Value
public import proofs.«01_k».proof.Proof.Gen.ReduceF1W1ReferenceIdeal
public import proofs.«01_k».proof.Proof.Gen.ReduceF1W1ReferenceIdeal.Run
public import proofs.«01_k».proof.Proof.Gen.ReduceF1W1ReferenceIdeal.Read
public import proofs.«01_k».proof.Proof.Gen.ReduceF1W3
public import proofs.«01_k».proof.Proof.Gen.ReduceF1W3.Skeleton
public import proofs.«01_k».proof.Proof.Gen.ReduceF1W3.Launch
public import proofs.«01_k».proof.Proof.Gen.ReduceF1W3.Points
public import proofs.«01_k».proof.Proof.Gen.ReduceF1W3.Frame
public import proofs.«01_k».proof.Proof.Gen.ReduceF1W3Ideal
public import proofs.«01_k».proof.Proof.Gen.ReduceF1W3Ideal.Skeleton
public import proofs.«01_k».proof.Proof.Gen.ReduceF1W3Ideal.Launch
public import proofs.«01_k».proof.Proof.Gen.ReduceF1W3Ideal.Points
public import proofs.«01_k».proof.Proof.Gen.ReduceF1W3Ideal.Frame
public import proofs.«01_k».proof.Proof.Gen.ReduceF1W3Ideal.Value
public import proofs.«01_k».proof.Proof.Gen.ReduceF1W3ReferenceIdeal
public import proofs.«01_k».proof.Proof.Gen.ReduceF1W3ReferenceIdeal.Run
public import proofs.«01_k».proof.Proof.Gen.ReduceF1W3ReferenceIdeal.Read
public import proofs.«01_k».proof.Proof.Gen.ReduceF1W2
public import proofs.«01_k».proof.Proof.Gen.ReduceF1W2.Skeleton
public import proofs.«01_k».proof.Proof.Gen.ReduceF1W2.Launch
public import proofs.«01_k».proof.Proof.Gen.ReduceF1W2.Points
public import proofs.«01_k».proof.Proof.Gen.ReduceF1W2.Frame
public import proofs.«01_k».proof.Proof.Gen.ReduceF1W2Ideal
public import proofs.«01_k».proof.Proof.Gen.ReduceF1W2Ideal.Skeleton
public import proofs.«01_k».proof.Proof.Gen.ReduceF1W2Ideal.Launch
public import proofs.«01_k».proof.Proof.Gen.ReduceF1W2Ideal.Points
public import proofs.«01_k».proof.Proof.Gen.ReduceF1W2Ideal.Frame
public import proofs.«01_k».proof.Proof.Gen.ReduceF1W2Ideal.Value
public import proofs.«01_k».proof.Proof.Gen.ReduceF1W2ReferenceIdeal
public import proofs.«01_k».proof.Proof.Gen.ReduceF1W2ReferenceIdeal.Run
public import proofs.«01_k».proof.Proof.Gen.ReduceF1W2ReferenceIdeal.Read
public import proofs.«01_k».proof.Proof.Gen.ReduceF2W1
public import proofs.«01_k».proof.Proof.Gen.ReduceF2W1.Skeleton
public import proofs.«01_k».proof.Proof.Gen.ReduceF2W1.Launch
public import proofs.«01_k».proof.Proof.Gen.ReduceF2W1.Points
public import proofs.«01_k».proof.Proof.Gen.ReduceF2W1.Frame
public import proofs.«01_k».proof.Proof.Gen.ReduceF2W1Ideal
public import proofs.«01_k».proof.Proof.Gen.ReduceF2W1Ideal.Skeleton
public import proofs.«01_k».proof.Proof.Gen.ReduceF2W1Ideal.Launch
public import proofs.«01_k».proof.Proof.Gen.ReduceF2W1Ideal.Points
public import proofs.«01_k».proof.Proof.Gen.ReduceF2W1Ideal.Frame
public import proofs.«01_k».proof.Proof.Gen.ReduceF2W1Ideal.Value
public import proofs.«01_k».proof.Proof.Gen.ReduceF2W1ReferenceIdeal
public import proofs.«01_k».proof.Proof.Gen.ReduceF2W1ReferenceIdeal.Run
public import proofs.«01_k».proof.Proof.Gen.ReduceF2W1ReferenceIdeal.Read
public import proofs.«01_k».proof.Proof.Gen.ReduceF2W3
public import proofs.«01_k».proof.Proof.Gen.ReduceF2W3.Skeleton
public import proofs.«01_k».proof.Proof.Gen.ReduceF2W3.Launch
public import proofs.«01_k».proof.Proof.Gen.ReduceF2W3.Points
public import proofs.«01_k».proof.Proof.Gen.ReduceF2W3.Frame
public import proofs.«01_k».proof.Proof.Gen.ReduceF2W3Ideal
public import proofs.«01_k».proof.Proof.Gen.ReduceF2W3Ideal.Skeleton
public import proofs.«01_k».proof.Proof.Gen.ReduceF2W3Ideal.Launch
public import proofs.«01_k».proof.Proof.Gen.ReduceF2W3Ideal.Points
public import proofs.«01_k».proof.Proof.Gen.ReduceF2W3Ideal.Frame
public import proofs.«01_k».proof.Proof.Gen.ReduceF2W3Ideal.Value
public import proofs.«01_k».proof.Proof.Gen.ReduceF2W3ReferenceIdeal
public import proofs.«01_k».proof.Proof.Gen.ReduceF2W3ReferenceIdeal.Run
public import proofs.«01_k».proof.Proof.Gen.ReduceF2W3ReferenceIdeal.Read
public import proofs.«01_k».proof.Proof.Gen.ReduceF2W2
public import proofs.«01_k».proof.Proof.Gen.ReduceF2W2.Skeleton
public import proofs.«01_k».proof.Proof.Gen.ReduceF2W2.Launch
public import proofs.«01_k».proof.Proof.Gen.ReduceF2W2.Points
public import proofs.«01_k».proof.Proof.Gen.ReduceF2W2.Frame
public import proofs.«01_k».proof.Proof.Gen.ReduceF2W2Ideal
public import proofs.«01_k».proof.Proof.Gen.ReduceF2W2Ideal.Skeleton
public import proofs.«01_k».proof.Proof.Gen.ReduceF2W2Ideal.Launch
public import proofs.«01_k».proof.Proof.Gen.ReduceF2W2Ideal.Points
public import proofs.«01_k».proof.Proof.Gen.ReduceF2W2Ideal.Frame
public import proofs.«01_k».proof.Proof.Gen.ReduceF2W2Ideal.Value
public import proofs.«01_k».proof.Proof.Gen.ReduceF2W2ReferenceIdeal
public import proofs.«01_k».proof.Proof.Gen.ReduceF2W2ReferenceIdeal.Run
public import proofs.«01_k».proof.Proof.Gen.ReduceF2W2ReferenceIdeal.Read
public import proofs.«01_k».proof.Proof.Gen.ReduceOut
public import proofs.«01_k».proof.Proof.Gen.ReduceOut.Skeleton
public import proofs.«01_k».proof.Proof.Gen.ReduceOut.Launch
public import proofs.«01_k».proof.Proof.Gen.ReduceOut.Points
public import proofs.«01_k».proof.Proof.Gen.ReduceOut.Frame
public import proofs.«01_k».proof.Proof.Gen.ReduceOutIdeal
public import proofs.«01_k».proof.Proof.Gen.ReduceOutIdeal.Skeleton
public import proofs.«01_k».proof.Proof.Gen.ReduceOutIdeal.Launch
public import proofs.«01_k».proof.Proof.Gen.ReduceOutIdeal.Points
public import proofs.«01_k».proof.Proof.Gen.ReduceOutIdeal.Frame
public import proofs.«01_k».proof.Proof.Gen.ReduceOutIdeal.Value
public import proofs.«01_k».proof.Proof.Gen.ReduceOutReferenceIdeal
public import proofs.«01_k».proof.Proof.Gen.ReduceOutReferenceIdeal.Run
public import proofs.«01_k».proof.Proof.Gen.ReduceOutReferenceIdeal.Read
public import proofs.«01_k».proof.Proof.Gen.ReduceIn
public import proofs.«01_k».proof.Proof.Gen.ReduceIn.Skeleton
public import proofs.«01_k».proof.Proof.Gen.ReduceIn.Launch
public import proofs.«01_k».proof.Proof.Gen.ReduceIn.Points
public import proofs.«01_k».proof.Proof.Gen.ReduceIn.Frame
public import proofs.«01_k».proof.Proof.Gen.ReduceInIdeal
public import proofs.«01_k».proof.Proof.Gen.ReduceInIdeal.Skeleton
public import proofs.«01_k».proof.Proof.Gen.ReduceInIdeal.Launch
public import proofs.«01_k».proof.Proof.Gen.ReduceInIdeal.Points
public import proofs.«01_k».proof.Proof.Gen.ReduceInIdeal.Frame
public import proofs.«01_k».proof.Proof.Gen.ReduceInIdeal.Value
public import proofs.«01_k».proof.Proof.Gen.ReduceInReferenceIdeal
public import proofs.«01_k».proof.Proof.Gen.ReduceInReferenceIdeal.Run
public import proofs.«01_k».proof.Proof.Gen.ReduceInReferenceIdeal.Read
public import proofs.«01_k».proof.Proof.Gen.GradFirst13
public import proofs.«01_k».proof.Proof.Gen.GradFirst13.Skeleton
public import proofs.«01_k».proof.Proof.Gen.GradFirst13.Launch
public import proofs.«01_k».proof.Proof.Gen.GradFirst13.Points
public import proofs.«01_k».proof.Proof.Gen.GradFirst13.Frame
public import proofs.«01_k».proof.Proof.Gen.GradFirst13Ideal
public import proofs.«01_k».proof.Proof.Gen.GradFirst13Ideal.Skeleton
public import proofs.«01_k».proof.Proof.Gen.GradFirst13Ideal.Launch
public import proofs.«01_k».proof.Proof.Gen.GradFirst13Ideal.Points
public import proofs.«01_k».proof.Proof.Gen.GradFirst13Ideal.Frame
public import proofs.«01_k».proof.Proof.Gen.GradFirst13Ideal.Value
public import proofs.«01_k».proof.Proof.Gen.GradFirst13ReferenceIdeal
public import proofs.«01_k».proof.Proof.Gen.GradFirst13ReferenceIdeal.Run
public import proofs.«01_k».proof.Proof.Gen.GradFirst13ReferenceIdeal.Read
public import proofs.«01_k».proof.Proof.Gen.GradFirst2
public import proofs.«01_k».proof.Proof.Gen.GradFirst2.Skeleton
public import proofs.«01_k».proof.Proof.Gen.GradFirst2.Launch
public import proofs.«01_k».proof.Proof.Gen.GradFirst2.Points
public import proofs.«01_k».proof.Proof.Gen.GradFirst2.Frame
public import proofs.«01_k».proof.Proof.Gen.GradFirst2Ideal
public import proofs.«01_k».proof.Proof.Gen.GradFirst2Ideal.Skeleton
public import proofs.«01_k».proof.Proof.Gen.GradFirst2Ideal.Launch
public import proofs.«01_k».proof.Proof.Gen.GradFirst2Ideal.Points
public import proofs.«01_k».proof.Proof.Gen.GradFirst2Ideal.Frame
public import proofs.«01_k».proof.Proof.Gen.GradFirst2Ideal.Value
public import proofs.«01_k».proof.Proof.Gen.GradFirst2ReferenceIdeal
public import proofs.«01_k».proof.Proof.Gen.GradFirst2ReferenceIdeal.Run
public import proofs.«01_k».proof.Proof.Gen.GradFirst2ReferenceIdeal.Read
public import proofs.«01_k».proof.Proof.Gen.GradMixIn
public import proofs.«01_k».proof.Proof.Gen.GradMixIn.Skeleton
public import proofs.«01_k».proof.Proof.Gen.GradMixIn.Launch
public import proofs.«01_k».proof.Proof.Gen.GradMixIn.Points
public import proofs.«01_k».proof.Proof.Gen.GradMixIn.Frame
public import proofs.«01_k».proof.Proof.Gen.GradMixInIdeal
public import proofs.«01_k».proof.Proof.Gen.GradMixInIdeal.Skeleton
public import proofs.«01_k».proof.Proof.Gen.GradMixInIdeal.Launch
public import proofs.«01_k».proof.Proof.Gen.GradMixInIdeal.Points
public import proofs.«01_k».proof.Proof.Gen.GradMixInIdeal.Frame
public import proofs.«01_k».proof.Proof.Gen.GradMixInIdeal.Value
public import proofs.«01_k».proof.Proof.Gen.GradMixInReferenceIdeal
public import proofs.«01_k».proof.Proof.Gen.GradMixInReferenceIdeal.Run
public import proofs.«01_k».proof.Proof.Gen.GradMixInReferenceIdeal.Read
public import proofs.«01_k».proof.Proof.Gen.GradMixOut
public import proofs.«01_k».proof.Proof.Gen.GradMixOut.Skeleton
public import proofs.«01_k».proof.Proof.Gen.GradMixOut.Launch
public import proofs.«01_k».proof.Proof.Gen.GradMixOut.Points
public import proofs.«01_k».proof.Proof.Gen.GradMixOut.Frame
public import proofs.«01_k».proof.Proof.Gen.GradMixOutIdeal
public import proofs.«01_k».proof.Proof.Gen.GradMixOutIdeal.Skeleton
public import proofs.«01_k».proof.Proof.Gen.GradMixOutIdeal.Launch
public import proofs.«01_k».proof.Proof.Gen.GradMixOutIdeal.Points
public import proofs.«01_k».proof.Proof.Gen.GradMixOutIdeal.Frame
public import proofs.«01_k».proof.Proof.Gen.GradMixOutIdeal.Value
public import proofs.«01_k».proof.Proof.Gen.GradMixOutReferenceIdeal
public import proofs.«01_k».proof.Proof.Gen.GradMixOutReferenceIdeal.Run
public import proofs.«01_k».proof.Proof.Gen.GradMixOutReferenceIdeal.Read
public import proofs.«01_k».proof.Proof.Gen.GradFirstIn
public import proofs.«01_k».proof.Proof.Gen.GradFirstIn.Skeleton
public import proofs.«01_k».proof.Proof.Gen.GradFirstIn.Launch
public import proofs.«01_k».proof.Proof.Gen.GradFirstIn.Points
public import proofs.«01_k».proof.Proof.Gen.GradFirstIn.Frame
public import proofs.«01_k».proof.Proof.Gen.GradFirstInIdeal
public import proofs.«01_k».proof.Proof.Gen.GradFirstInIdeal.Skeleton
public import proofs.«01_k».proof.Proof.Gen.GradFirstInIdeal.Launch
public import proofs.«01_k».proof.Proof.Gen.GradFirstInIdeal.Points
public import proofs.«01_k».proof.Proof.Gen.GradFirstInIdeal.Frame
public import proofs.«01_k».proof.Proof.Gen.GradFirstInIdeal.Value
public import proofs.«01_k».proof.Proof.Gen.GradFirstInReferenceIdeal
public import proofs.«01_k».proof.Proof.Gen.GradFirstInReferenceIdeal.Run
public import proofs.«01_k».proof.Proof.Gen.GradFirstInReferenceIdeal.Read
public import proofs.«01_k».proof.Proof.Gen.GradFirstOut
public import proofs.«01_k».proof.Proof.Gen.GradFirstOut.Skeleton
public import proofs.«01_k».proof.Proof.Gen.GradFirstOut.Launch
public import proofs.«01_k».proof.Proof.Gen.GradFirstOut.Points
public import proofs.«01_k».proof.Proof.Gen.GradFirstOut.Frame
public import proofs.«01_k».proof.Proof.Gen.GradFirstOutIdeal
public import proofs.«01_k».proof.Proof.Gen.GradFirstOutIdeal.Skeleton
public import proofs.«01_k».proof.Proof.Gen.GradFirstOutIdeal.Launch
public import proofs.«01_k».proof.Proof.Gen.GradFirstOutIdeal.Points
public import proofs.«01_k».proof.Proof.Gen.GradFirstOutIdeal.Frame
public import proofs.«01_k».proof.Proof.Gen.GradFirstOutIdeal.Value
public import proofs.«01_k».proof.Proof.Gen.GradFirstOutReferenceIdeal
public import proofs.«01_k».proof.Proof.Gen.GradFirstOutReferenceIdeal.Run
public import proofs.«01_k».proof.Proof.Gen.GradFirstOutReferenceIdeal.Read
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackIdeal.Value
public import proofs.«01_k».proof.Proof.Gen.PackReferenceIdeal
public import proofs.«01_k».proof.Proof.Gen.PackReferenceIdeal.Run
public import proofs.«01_k».proof.Proof.Gen.PackReferenceIdeal.Read
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadReferenceIdeal
public import proofs.«01_k».proof.Proof.Gen.HeadReferenceIdeal.Run
public import proofs.«01_k».proof.Proof.Gen.HeadReferenceIdeal.Read
public import proofs.«01_k».proof.Proof.Gen.Pre_finite_head
public import proofs.«01_k».proof.Proof.FfnClaim
public import proofs.«01_k».proof.Proof.HeadClaim
public import proofs.«01_k».proof.Proof.Wgrad1Ref
public import proofs.«01_k».proof.Proof.Wgrad3Ref
public import proofs.«01_k».proof.Proof.Wgrad2Ref
public import proofs.«01_k».proof.Proof.FwdRef
public import proofs.«01_k».proof.Proof.AdamNorm
public import proofs.«01_k».proof.Proof.AdamChan
public import proofs.«01_k».proof.Proof.AdamLast
public import proofs.«01_k».proof.Proof.AdamConv
public import proofs.«01_k».proof.Proof.AdamShort
public import proofs.«01_k».proof.Proof.AdamPool
public import proofs.«01_k».proof.Proof.AdamMix
public import proofs.«01_k».proof.Proof.AdamBias
public import proofs.«01_k».proof.Proof.SumLate
public import proofs.«01_k».proof.Proof.SumEarly
public import proofs.«01_k».proof.Proof.ReduceF1W1
public import proofs.«01_k».proof.Proof.ReduceF1W3
public import proofs.«01_k».proof.Proof.ReduceF1W2
public import proofs.«01_k».proof.Proof.ReduceF2W1
public import proofs.«01_k».proof.Proof.ReduceF2W3
public import proofs.«01_k».proof.Proof.ReduceF2W2
public import proofs.«01_k».proof.Proof.ReduceOut
public import proofs.«01_k».proof.Proof.ReduceIn
public import proofs.«01_k».proof.Proof.GradFirst13Ref
public import proofs.«01_k».proof.Proof.GradFirst2Ref
public import proofs.«01_k».proof.Proof.GradMixInRef
public import proofs.«01_k».proof.Proof.GradMixOutRef
public import proofs.«01_k».proof.Proof.GradFirstInRef
public import proofs.«01_k».proof.Proof.GradFirstOutRef
public import proofs.«01_k».proof.Proof.Pack

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Wgrad1.Gen.facts,
  Cert.Wgrad1Ideal.Gen.facts, Cert.Wgrad1ReferenceIdeal.Gen.facts, Cert.Wgrad3.Gen.facts, Cert.Wgrad3Ideal.Gen.facts,
  Cert.Wgrad3ReferenceIdeal.Gen.facts, Cert.Wgrad2.Gen.facts, Cert.Wgrad2Ideal.Gen.facts, Cert.Wgrad2ReferenceIdeal.Gen.facts,
  Cert.Forward.Gen.facts, Cert.ForwardIdeal.Gen.facts, Cert.ForwardReferenceIdeal.Gen.facts,
  Cert.AdamNorm.Gen.facts, Cert.AdamNormIdeal.Gen.facts, Cert.AdamNormReferenceIdeal.Gen.facts,
  Cert.AdamChan.Gen.facts, Cert.AdamChanIdeal.Gen.facts, Cert.AdamChanReferenceIdeal.Gen.facts,
  Cert.AdamLast.Gen.facts, Cert.AdamLastIdeal.Gen.facts, Cert.AdamLastReferenceIdeal.Gen.facts,
  Cert.AdamConv.Gen.facts, Cert.AdamConvIdeal.Gen.facts, Cert.AdamConvReferenceIdeal.Gen.facts,
  Cert.AdamShort.Gen.facts, Cert.AdamShortIdeal.Gen.facts, Cert.AdamShortReferenceIdeal.Gen.facts,
  Cert.AdamPool.Gen.facts, Cert.AdamPoolIdeal.Gen.facts, Cert.AdamPoolReferenceIdeal.Gen.facts,
  Cert.AdamMix.Gen.facts, Cert.AdamMixIdeal.Gen.facts, Cert.AdamMixReferenceIdeal.Gen.facts,
  Cert.AdamBias.Gen.facts, Cert.AdamBiasIdeal.Gen.facts, Cert.AdamBiasReferenceIdeal.Gen.facts,
  Cert.SumLate.Gen.facts, Cert.SumLateIdeal.Gen.facts, Cert.SumLateReferenceIdeal.Gen.facts,
  Cert.SumEarly.Gen.facts, Cert.SumEarlyIdeal.Gen.facts, Cert.SumEarlyReferenceIdeal.Gen.facts,
  Cert.ReduceF1W1.Gen.facts, Cert.ReduceF1W1Ideal.Gen.facts, Cert.ReduceF1W1ReferenceIdeal.Gen.facts,
  Cert.ReduceF1W3.Gen.facts, Cert.ReduceF1W3Ideal.Gen.facts, Cert.ReduceF1W3ReferenceIdeal.Gen.facts,
  Cert.ReduceF1W2.Gen.facts, Cert.ReduceF1W2Ideal.Gen.facts, Cert.ReduceF1W2ReferenceIdeal.Gen.facts,
  Cert.ReduceF2W1.Gen.facts, Cert.ReduceF2W1Ideal.Gen.facts, Cert.ReduceF2W1ReferenceIdeal.Gen.facts,
  Cert.ReduceF2W3.Gen.facts, Cert.ReduceF2W3Ideal.Gen.facts, Cert.ReduceF2W3ReferenceIdeal.Gen.facts,
  Cert.ReduceF2W2.Gen.facts, Cert.ReduceF2W2Ideal.Gen.facts, Cert.ReduceF2W2ReferenceIdeal.Gen.facts,
  Cert.ReduceOut.Gen.facts, Cert.ReduceOutIdeal.Gen.facts, Cert.ReduceOutReferenceIdeal.Gen.facts,
  Cert.ReduceIn.Gen.facts, Cert.ReduceInIdeal.Gen.facts, Cert.ReduceInReferenceIdeal.Gen.facts,
  Cert.GradFirst13.Gen.facts, Cert.GradFirst13Ideal.Gen.facts, Cert.GradFirst13ReferenceIdeal.Gen.facts,
  Cert.GradFirst2.Gen.facts, Cert.GradFirst2Ideal.Gen.facts, Cert.GradFirst2ReferenceIdeal.Gen.facts,
  Cert.GradMixIn.Gen.facts, Cert.GradMixInIdeal.Gen.facts, Cert.GradMixInReferenceIdeal.Gen.facts,
  Cert.GradMixOut.Gen.facts, Cert.GradMixOutIdeal.Gen.facts, Cert.GradMixOutReferenceIdeal.Gen.facts,
  Cert.GradFirstIn.Gen.facts, Cert.GradFirstInIdeal.Gen.facts, Cert.GradFirstInReferenceIdeal.Gen.facts,
  Cert.GradFirstOut.Gen.facts, Cert.GradFirstOutIdeal.Gen.facts, Cert.GradFirstOutReferenceIdeal.Gen.facts,
  Cert.Pack.Gen.facts, Cert.PackIdeal.Gen.facts, Cert.PackReferenceIdeal.Gen.facts,
  Cert.Head.Gen.facts, Cert.HeadIdeal.Gen.facts, Cert.HeadReferenceIdeal.Gen.facts, Cert.Pre_finite.Gen.facts, Cert.Pre_finite_head.Gen.facts,
  fun m ρ _ => Cert.Kernel.Gen.frame m ρ, fun m ρ _ => Cert.KernelIdeal.Gen.frame m ρ, fun m ρ _ => Cert.KernelIdeal.Gen.frame m ρ,
  Cert.Proof.Ffn.frame_ref, fun m ρ _ => Cert.Proof.Ffn.frame_ref m ρ trivial,
  fun m ρ _ => Cert.Wgrad1.Gen.frame m ρ, fun m ρ _ => Cert.Wgrad1Ideal.Gen.frame m ρ, Cert.Proof.Wgrad1.frame_ref,
  fun m ρ _ => Cert.Wgrad3.Gen.frame m ρ, fun m ρ _ => Cert.Wgrad3Ideal.Gen.frame m ρ, Cert.Proof.Wgrad3.frame_ref,
  fun m ρ _ => Cert.Wgrad2.Gen.frame m ρ, fun m ρ _ => Cert.Wgrad2Ideal.Gen.frame m ρ, Cert.Proof.Wgrad2.frame_ref,
  fun m ρ _ => Cert.Forward.Gen.frame m ρ, fun m ρ _ => Cert.ForwardIdeal.Gen.frame m ρ, Cert.Proof.Forward.frame_ref,
  fun m ρ _ => Cert.AdamNorm.Gen.frame m ρ, fun m ρ _ => Cert.AdamNormIdeal.Gen.frame m ρ, Cert.Proof.AdamNorm.frame_ref,
  fun m ρ _ => Cert.AdamChan.Gen.frame m ρ, fun m ρ _ => Cert.AdamChanIdeal.Gen.frame m ρ, Cert.Proof.AdamChan.frame_ref,
  fun m ρ _ => Cert.AdamLast.Gen.frame m ρ, fun m ρ _ => Cert.AdamLastIdeal.Gen.frame m ρ, Cert.Proof.AdamLast.frame_ref,
  fun m ρ _ => Cert.AdamConv.Gen.frame m ρ, fun m ρ _ => Cert.AdamConvIdeal.Gen.frame m ρ, Cert.Proof.AdamConv.frame_ref,
  fun m ρ _ => Cert.AdamShort.Gen.frame m ρ, fun m ρ _ => Cert.AdamShortIdeal.Gen.frame m ρ, Cert.Proof.AdamShort.frame_ref,
  fun m ρ _ => Cert.AdamPool.Gen.frame m ρ, fun m ρ _ => Cert.AdamPoolIdeal.Gen.frame m ρ, Cert.Proof.AdamPool.frame_ref,
  fun m ρ _ => Cert.AdamMix.Gen.frame m ρ, fun m ρ _ => Cert.AdamMixIdeal.Gen.frame m ρ, Cert.Proof.AdamMix.frame_ref,
  fun m ρ _ => Cert.AdamBias.Gen.frame m ρ, fun m ρ _ => Cert.AdamBiasIdeal.Gen.frame m ρ, Cert.Proof.AdamBias.frame_ref,
  fun m ρ _ => Cert.SumLate.Gen.frame m ρ, fun m ρ _ => Cert.SumLateIdeal.Gen.frame m ρ, Cert.Proof.SumLate.frame_ref,
  fun m ρ _ => Cert.SumEarly.Gen.frame m ρ, fun m ρ _ => Cert.SumEarlyIdeal.Gen.frame m ρ, Cert.Proof.SumEarly.frame_ref,
  fun m ρ _ => Cert.ReduceF1W1.Gen.frame m ρ, fun m ρ _ => Cert.ReduceF1W1Ideal.Gen.frame m ρ, Cert.Proof.ReduceF1W1.frame_ref,
  fun m ρ _ => Cert.ReduceF1W3.Gen.frame m ρ, fun m ρ _ => Cert.ReduceF1W3Ideal.Gen.frame m ρ, Cert.Proof.ReduceF1W3.frame_ref,
  fun m ρ _ => Cert.ReduceF1W2.Gen.frame m ρ, fun m ρ _ => Cert.ReduceF1W2Ideal.Gen.frame m ρ, Cert.Proof.ReduceF1W2.frame_ref,
  fun m ρ _ => Cert.ReduceF2W1.Gen.frame m ρ, fun m ρ _ => Cert.ReduceF2W1Ideal.Gen.frame m ρ, Cert.Proof.ReduceF2W1.frame_ref,
  fun m ρ _ => Cert.ReduceF2W3.Gen.frame m ρ, fun m ρ _ => Cert.ReduceF2W3Ideal.Gen.frame m ρ, Cert.Proof.ReduceF2W3.frame_ref,
  fun m ρ _ => Cert.ReduceF2W2.Gen.frame m ρ, fun m ρ _ => Cert.ReduceF2W2Ideal.Gen.frame m ρ, Cert.Proof.ReduceF2W2.frame_ref,
  fun m ρ _ => Cert.ReduceOut.Gen.frame m ρ, fun m ρ _ => Cert.ReduceOutIdeal.Gen.frame m ρ, Cert.Proof.ReduceOut.frame_ref,
  fun m ρ _ => Cert.ReduceIn.Gen.frame m ρ, fun m ρ _ => Cert.ReduceInIdeal.Gen.frame m ρ, Cert.Proof.ReduceIn.frame_ref,
  fun m ρ _ => Cert.GradFirst13.Gen.frame m ρ, fun m ρ _ => Cert.GradFirst13Ideal.Gen.frame m ρ, Cert.Proof.GradFirst13.frame_ref,
  fun m ρ _ => Cert.GradFirst2.Gen.frame m ρ, fun m ρ _ => Cert.GradFirst2Ideal.Gen.frame m ρ, Cert.Proof.GradFirst2.frame_ref,
  fun m ρ _ => Cert.GradMixIn.Gen.frame m ρ, fun m ρ _ => Cert.GradMixInIdeal.Gen.frame m ρ, Cert.Proof.GradMixIn.frame_ref,
  fun m ρ _ => Cert.GradMixOut.Gen.frame m ρ, fun m ρ _ => Cert.GradMixOutIdeal.Gen.frame m ρ, Cert.Proof.GradMixOut.frame_ref,
  fun m ρ _ => Cert.GradFirstIn.Gen.frame m ρ, fun m ρ _ => Cert.GradFirstInIdeal.Gen.frame m ρ, Cert.Proof.GradFirstIn.frame_ref,
  fun m ρ _ => Cert.GradFirstOut.Gen.frame m ρ, fun m ρ _ => Cert.GradFirstOutIdeal.Gen.frame m ρ, Cert.Proof.GradFirstOut.frame_ref,
  fun m ρ _ => Cert.Pack.Gen.frame m ρ, fun m ρ _ => Cert.PackIdeal.Gen.frame m ρ, Cert.Proof.Pack.frame_ref,
  fun m ρ _ => Cert.Head.Gen.frame m ρ, fun m ρ _ => Cert.HeadIdeal.Gen.frame m ρ, fun m ρ _ => Cert.HeadIdeal.Gen.frame m ρ,
  Cert.Proof.Head.frame_ref, fun m ρ _ => Cert.Proof.Head.frame_ref m ρ trivial,
  trivial, Cert.Proof.Ffn.algebraic, trivial, Cert.Proof.Wgrad1.algebraic, trivial, Cert.Proof.Wgrad3.algebraic,
  trivial, Cert.Proof.Wgrad2.algebraic, trivial, Cert.Proof.Forward.algebraic,
  trivial, Cert.Proof.AdamNorm.algebraic,
  trivial, Cert.Proof.AdamChan.algebraic,
  trivial, Cert.Proof.AdamLast.algebraic,
  trivial, Cert.Proof.AdamConv.algebraic,
  trivial, Cert.Proof.AdamShort.algebraic,
  trivial, Cert.Proof.AdamPool.algebraic,
  trivial, Cert.Proof.AdamMix.algebraic,
  trivial, Cert.Proof.AdamBias.algebraic,
  trivial, Cert.Proof.SumLate.algebraic,
  trivial, Cert.Proof.SumEarly.algebraic,
  trivial, Cert.Proof.ReduceF1W1.algebraic,
  trivial, Cert.Proof.ReduceF1W3.algebraic,
  trivial, Cert.Proof.ReduceF1W2.algebraic,
  trivial, Cert.Proof.ReduceF2W1.algebraic,
  trivial, Cert.Proof.ReduceF2W3.algebraic,
  trivial, Cert.Proof.ReduceF2W2.algebraic,
  trivial, Cert.Proof.ReduceOut.algebraic,
  trivial, Cert.Proof.ReduceIn.algebraic,
  trivial, Cert.Proof.GradFirst13.algebraic,
  trivial, Cert.Proof.GradFirst2.algebraic,
  trivial, Cert.Proof.GradMixIn.algebraic,
  trivial, Cert.Proof.GradMixOut.algebraic,
  trivial, Cert.Proof.GradFirstIn.algebraic,
  trivial, Cert.Proof.GradFirstOut.algebraic,
  trivial, Cert.Proof.Pack.algebraic,
  trivial, Cert.Proof.Head.algebraic⟩

end Cert.Proof

end
